-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v29)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_v31) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v42) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥
  ∧ IdealRules.named_const.Statement Cert.Kernel2Ideal.κ "ln2" .f32 0x3F317218#32 ((Real.log 2 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v110)) (v1 : (c : Dev Cert.Kernel2Ideal.nD) → Buf (Elt Ideal) ((c.tc : Thread Cert.Kernel2Ideal.nD Cert.Kernel2Ideal.τ).loc Cert.Kernel2Ideal.main_v111)) (v2 : (c : Dev Cert.Kernel2Ideal.nD) → Buf (Elt Ideal) ((c.tc : Thread Cert.Kernel2Ideal.nD Cert.Kernel2Ideal.τ).loc Cert.Kernel2Ideal.main_v112)) (v3 : (c : Dev Cert.Kernel2Ideal.nD) → Buf (Elt Ideal) ((c.tc : Thread Cert.Kernel2Ideal.nD Cert.Kernel2Ideal.τ).loc Cert.Kernel2Ideal.main_v113)) (v4 : (c : Dev Cert.Kernel2Ideal.nD) → Buf (Elt Ideal) ((c.tc : Thread Cert.Kernel2Ideal.nD Cert.Kernel2Ideal.τ).loc Cert.Kernel2Ideal.main_v115)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v110) = v0 c
          ∧ r.2.mem ((c.tc : Thread Cert.Kernel2Ideal.nD Cert.Kernel2Ideal.τ).loc Cert.Kernel2Ideal.main_v111) = v1 c
          ∧ r.2.mem ((c.tc : Thread Cert.Kernel2Ideal.nD Cert.Kernel2Ideal.τ).loc Cert.Kernel2Ideal.main_v112) = v2 c
          ∧ r.2.mem ((c.tc : Thread Cert.Kernel2Ideal.nD Cert.Kernel2Ideal.τ).loc Cert.Kernel2Ideal.main_v113) = v3 c
          ∧ r.2.mem ((c.tc : Thread Cert.Kernel2Ideal.nD Cert.Kernel2Ideal.τ).loc Cert.Kernel2Ideal.main_v115) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v119) = v0 c
          ∧ r.2.mem ((c.tc : Thread Cert.Reference2Ideal.nD Cert.Reference2Ideal.τ).loc Cert.Reference2Ideal.main_v120) = v1 c
          ∧ r.2.mem ((c.tc : Thread Cert.Reference2Ideal.nD Cert.Reference2Ideal.τ).loc Cert.Reference2Ideal.main_v121) = v2 c
          ∧ r.2.mem ((c.tc : Thread Cert.Reference2Ideal.nD Cert.Reference2Ideal.τ).loc Cert.Reference2Ideal.main_v122) = v3 c
          ∧ r.2.mem ((c.tc : Thread Cert.Reference2Ideal.nD Cert.Reference2Ideal.τ).loc Cert.Reference2Ideal.main_v123) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v64)) (v1 : (c : Dev Cert.Kernel3Ideal.nD) → Buf (Elt Ideal) ((c.tc : Thread Cert.Kernel3Ideal.nD Cert.Kernel3Ideal.τ).loc Cert.Kernel3Ideal.main_v65)) (v2 : (c : Dev Cert.Kernel3Ideal.nD) → Buf (Elt Ideal) ((c.tc : Thread Cert.Kernel3Ideal.nD Cert.Kernel3Ideal.τ).loc Cert.Kernel3Ideal.main_v66)) (v3 : (c : Dev Cert.Kernel3Ideal.nD) → Buf (Elt Ideal) ((c.tc : Thread Cert.Kernel3Ideal.nD Cert.Kernel3Ideal.τ).loc Cert.Kernel3Ideal.main_v67)) (v4 : (c : Dev Cert.Kernel3Ideal.nD) → Buf (Elt Ideal) ((c.tc : Thread Cert.Kernel3Ideal.nD Cert.Kernel3Ideal.τ).loc Cert.Kernel3Ideal.main_v68)) (v5 : (c : Dev Cert.Kernel3Ideal.nD) → Buf (Elt Ideal) ((c.tc : Thread Cert.Kernel3Ideal.nD Cert.Kernel3Ideal.τ).loc Cert.Kernel3Ideal.main_v69)) (v6 : (c : Dev Cert.Kernel3Ideal.nD) → Buf (Elt Ideal) ((c.tc : Thread Cert.Kernel3Ideal.nD Cert.Kernel3Ideal.τ).loc Cert.Kernel3Ideal.main_v70)) (v7 : (c : Dev Cert.Kernel3Ideal.nD) → Buf (Elt Ideal) ((c.tc : Thread Cert.Kernel3Ideal.nD Cert.Kernel3Ideal.τ).loc Cert.Kernel3Ideal.main_v71)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v64) = v0 c
          ∧ r.2.mem ((c.tc : Thread Cert.Kernel3Ideal.nD Cert.Kernel3Ideal.τ).loc Cert.Kernel3Ideal.main_v65) = v1 c
          ∧ r.2.mem ((c.tc : Thread Cert.Kernel3Ideal.nD Cert.Kernel3Ideal.τ).loc Cert.Kernel3Ideal.main_v66) = v2 c
          ∧ r.2.mem ((c.tc : Thread Cert.Kernel3Ideal.nD Cert.Kernel3Ideal.τ).loc Cert.Kernel3Ideal.main_v67) = v3 c
          ∧ r.2.mem ((c.tc : Thread Cert.Kernel3Ideal.nD Cert.Kernel3Ideal.τ).loc Cert.Kernel3Ideal.main_v68) = v4 c
          ∧ r.2.mem ((c.tc : Thread Cert.Kernel3Ideal.nD Cert.Kernel3Ideal.τ).loc Cert.Kernel3Ideal.main_v69) = v5 c
          ∧ r.2.mem ((c.tc : Thread Cert.Kernel3Ideal.nD Cert.Kernel3Ideal.τ).loc Cert.Kernel3Ideal.main_v70) = v6 c
          ∧ r.2.mem ((c.tc : Thread Cert.Kernel3Ideal.nD Cert.Kernel3Ideal.τ).loc Cert.Kernel3Ideal.main_v71) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v129) = v0 c
          ∧ r.2.mem ((c.tc : Thread Cert.Reference3Ideal.nD Cert.Reference3Ideal.τ).loc Cert.Reference3Ideal.main_v130) = v1 c
          ∧ r.2.mem ((c.tc : Thread Cert.Reference3Ideal.nD Cert.Reference3Ideal.τ).loc Cert.Reference3Ideal.main_v131) = v2 c
          ∧ r.2.mem ((c.tc : Thread Cert.Reference3Ideal.nD Cert.Reference3Ideal.τ).loc Cert.Reference3Ideal.main_v132) = v3 c
          ∧ r.2.mem ((c.tc : Thread Cert.Reference3Ideal.nD Cert.Reference3Ideal.τ).loc Cert.Reference3Ideal.main_v133) = v4 c
          ∧ r.2.mem ((c.tc : Thread Cert.Reference3Ideal.nD Cert.Reference3Ideal.τ).loc Cert.Reference3Ideal.main_v134) = v5 c
          ∧ r.2.mem ((c.tc : Thread Cert.Reference3Ideal.nD Cert.Reference3Ideal.τ).loc Cert.Reference3Ideal.main_v46) = v6 c
          ∧ r.2.mem ((c.tc : Thread Cert.Reference3Ideal.nD Cert.Reference3Ideal.τ).loc Cert.Reference3Ideal.main_v91) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v40)) (v1 : (c : Dev Cert.Kernel4Ideal.nD) → Buf (Elt Ideal) ((c.tc : Thread Cert.Kernel4Ideal.nD Cert.Kernel4Ideal.τ).loc Cert.Kernel4Ideal.main_v41)) (v2 : (c : Dev Cert.Kernel4Ideal.nD) → Buf (Elt Ideal) ((c.tc : Thread Cert.Kernel4Ideal.nD Cert.Kernel4Ideal.τ).loc Cert.Kernel4Ideal.main_v42)) (v3 : (c : Dev Cert.Kernel4Ideal.nD) → Buf (Elt Ideal) ((c.tc : Thread Cert.Kernel4Ideal.nD Cert.Kernel4Ideal.τ).loc Cert.Kernel4Ideal.main_v43)) (v4 : (c : Dev Cert.Kernel4Ideal.nD) → Buf (Elt Ideal) ((c.tc : Thread Cert.Kernel4Ideal.nD Cert.Kernel4Ideal.τ).loc Cert.Kernel4Ideal.main_v45)) (v5 : (c : Dev Cert.Kernel4Ideal.nD) → Buf (Elt Ideal) ((c.tc : Thread Cert.Kernel4Ideal.nD Cert.Kernel4Ideal.τ).loc Cert.Kernel4Ideal.main_v46)) (v6 : (c : Dev Cert.Kernel4Ideal.nD) → Buf (Elt Ideal) ((c.tc : Thread Cert.Kernel4Ideal.nD Cert.Kernel4Ideal.τ).loc Cert.Kernel4Ideal.main_v47)) (v7 : (c : Dev Cert.Kernel4Ideal.nD) → Buf (Elt Ideal) ((c.tc : Thread Cert.Kernel4Ideal.nD Cert.Kernel4Ideal.τ).loc Cert.Kernel4Ideal.main_v50)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40) = v0 c
          ∧ r.2.mem ((c.tc : Thread Cert.Kernel4Ideal.nD Cert.Kernel4Ideal.τ).loc Cert.Kernel4Ideal.main_v41) = v1 c
          ∧ r.2.mem ((c.tc : Thread Cert.Kernel4Ideal.nD Cert.Kernel4Ideal.τ).loc Cert.Kernel4Ideal.main_v42) = v2 c
          ∧ r.2.mem ((c.tc : Thread Cert.Kernel4Ideal.nD Cert.Kernel4Ideal.τ).loc Cert.Kernel4Ideal.main_v43) = v3 c
          ∧ r.2.mem ((c.tc : Thread Cert.Kernel4Ideal.nD Cert.Kernel4Ideal.τ).loc Cert.Kernel4Ideal.main_v45) = v4 c
          ∧ r.2.mem ((c.tc : Thread Cert.Kernel4Ideal.nD Cert.Kernel4Ideal.τ).loc Cert.Kernel4Ideal.main_v46) = v5 c
          ∧ r.2.mem ((c.tc : Thread Cert.Kernel4Ideal.nD Cert.Kernel4Ideal.τ).loc Cert.Kernel4Ideal.main_v47) = v6 c
          ∧ r.2.mem ((c.tc : Thread Cert.Kernel4Ideal.nD Cert.Kernel4Ideal.τ).loc Cert.Kernel4Ideal.main_v50) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v103) = v0 c
          ∧ r.2.mem ((c.tc : Thread Cert.Reference4Ideal.nD Cert.Reference4Ideal.τ).loc Cert.Reference4Ideal.main_v104) = v1 c
          ∧ r.2.mem ((c.tc : Thread Cert.Reference4Ideal.nD Cert.Reference4Ideal.τ).loc Cert.Reference4Ideal.main_v91) = v2 c
          ∧ r.2.mem ((c.tc : Thread Cert.Reference4Ideal.nD Cert.Reference4Ideal.τ).loc Cert.Reference4Ideal.main_v105) = v3 c
          ∧ r.2.mem ((c.tc : Thread Cert.Reference4Ideal.nD Cert.Reference4Ideal.τ).loc Cert.Reference4Ideal.main_v102) = v4 c
          ∧ r.2.mem ((c.tc : Thread Cert.Reference4Ideal.nD Cert.Reference4Ideal.τ).loc Cert.Reference4Ideal.main_v54) = v5 c
          ∧ r.2.mem ((c.tc : Thread Cert.Reference4Ideal.nD Cert.Reference4Ideal.τ).loc Cert.Reference4Ideal.main_v75) = v6 c
          ∧ r.2.mem ((c.tc : Thread Cert.Reference4Ideal.nD Cert.Reference4Ideal.τ).loc Cert.Reference4Ideal.main_v98) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v21)) (v2 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v21) = v1 c
          ∧ r.2.mem ((c.tc : Thread Cert.Kernel5Ideal.nD Cert.Kernel5Ideal.τ).loc Cert.Kernel5Ideal.main_v22) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
-- ==== Pre_finite.lean ====
abbrev S16400x1024 : Shape := ⟨2, ![16400, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S16400x1024 : S_.BroadcastsInDim S16400x1024 (![] : Fin 0 → Fin S16400x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S16400x1024 .f32) (main_arg1 : FVec F S1024 .f32) (main_arg2 : FVec F S1024x4096 .f32) (main_arg3 : FVec F S4096x1024 .f32) (main_arg4 : FVec F S1024 .f32) (main_arg5 : FVec F S16400x1024 .f32) : IVec S16400x1024 1 × IVec S1024 1 × IVec S1024x4096 1 × IVec S4096x1024 1 × IVec S1024 1 × IVec S16400x1024 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S16400x1024 .f32 := Host.absf main_arg5
  let main_cst_4 : FVec F S_ .f32 := constant S_ .f32 0x7F800000#32
  let main_v16 : FVec F S16400x1024 .f32 := broadcastInDim S16400x1024 ![] bcast_S_S16400x1024 main_cst_4
  let main_v17 : IVec S16400x1024 1 := cmpf .olt main_v15 main_v16
  (main_v2, main_v5, main_v8, main_v11, main_v14, main_v17)
-- ==== Pre_finite2.lean ====
abbrev S16400x8x128 : Shape := ⟨3, ![16400, 8, 128]⟩
abbrev S16400x8x64 : Shape := ⟨3, ![16400, 8, 64]⟩
abbrev S16400x64 : Shape := ⟨2, ![16400, 64]⟩
abbrev S_ : Shape := ⟨0, ![]⟩

class Facts : Prop where
  bcast_S_S16400x8x128 : S_.BroadcastsInDim S16400x8x128 (![] : Fin 0 → Fin S16400x8x128.rank)
  bcast_S_S16400x8x64 : S_.BroadcastsInDim S16400x8x64 (![] : Fin 0 → Fin S16400x8x64.rank)
  bcast_S_S16400x64 : S_.BroadcastsInDim S16400x64 (![] : Fin 0 → Fin S16400x64.rank)

variable [Facts]

def fn {F : FTy → Type} [FloatOps F] (main_arg0 : FVec F S16400x8x128 .f32) (main_arg1 : FVec F S16400x8x64 .f32) (main_arg2 : FVec F S16400x8x128 .f32) (main_arg3 : FVec F S16400x64 .f32) (main_arg4 : FVec F S16400x8x128 .f32) (main_arg5 : FVec F S16400x8x128 .f32) : IVec S16400x8x128 1 × IVec S16400x8x64 1 × IVec S16400x8x128 1 × IVec S16400x64 1 × IVec S16400x8x128 1 × IVec S16400x8x128 1 :=
  let main_v0 : FVec F S16400x8x128 .f32 := Host.absf main_arg0
  let main_cst : FVec F S_ .f32 := constant S_ .f32 0x7F800000#32
  let main_v1 : FVec F S16400x8x128 .f32 := broadcastInDim S16400x8x128 ![] bcast_S_S16400x8x128 main_cst
  let main_v2 : IVec S16400x8x128 1 := cmpf .olt main_v0 main_v1
  let main_v3 : FVec F S16400x8x64 .f32 := Host.absf main_arg1
  let main_cst_0 : FVec F S_ .f32 := constant S_ .f32 0x7F800000#32
  let main_v4 : FVec F S16400x8x64 .f32 := broadcastInDim S16400x8x64 ![] bcast_S_S16400x8x64 main_cst_0
  let main_v5 : IVec S16400x8x64 1 := cmpf .olt main_v3 main_v4
  let main_v6 : FVec F S16400x8x128 .f32 := Host.absf main_arg2
  let main_cst_1 : FVec F S_ .f32 := constant S_ .f32 0x7F800000#32
  let main_v7 : FVec F S16400x8x128 .f32 := broadcastInDim S16400x8x128 ![] bcast_S_S16400x8x128 main_cst_1
  let main_v8 : IVec S16400x8x128 1 := cmpf .olt main_v6 main_v7
  let main_v9 : FVec F S16400x64 .f32 := Host.absf main_arg3
  let main_cst_2 : FVec F S_ .f32 := constant S_ .f32 0x7F800000#32
  let main_v10 : FVec F S16400x64 .f32 := broadcastInDim S16400x64 ![] bcast_S_S16400x64 main_cst_2
  let main_v11 : IVec S16400x64 1 := cmpf .olt main_v9 main_v10
  let main_v12 : FVec F S16400x8x128 .f32 := Host.absf main_arg4
  let main_cst_3 : FVec F S_ .f32 := constant S_ .f32 0x7F800000#32
  let main_v13 : FVec F S16400x8x128 .f32 := broadcastInDim S16400x8x128 ![] bcast_S_S16400x8x128 main_cst_3
  let main_v14 : IVec S16400x8x128 1 := cmpf .olt main_v12 main_v13
  let main_v15 : FVec F S16400x8x128 .f32 := Host.absf main_arg5
  let main_cst_4 : FVec F S_ .f32 := constant S_ .f32 0x7F800000#32
  let main_v16 : FVec F S16400x8x128 .f32 := broadcastInDim S16400x8x128 ![] bcast_S_S16400x8x128 main_cst_4
  let main_v17 : IVec S16400x8x128 1 := cmpf .olt main_v15 main_v16
  (main_v2, main_v5, main_v8, main_v11, main_v14, main_v17)
-- ==== Pre_finite3.lean ====
abbrev S16400x384 : Shape := ⟨2, ![16400, 384]⟩
abbrev S16400x256 : Shape := ⟨2, ![16400, 256]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S16400x8x192 : Shape := ⟨3, ![16400, 8, 192]⟩
abbrev S16400x8x128 : Shape := ⟨3, ![16400, 8, 128]⟩
abbrev S16400x8x64 : Shape := ⟨3, ![16400, 8, 64]⟩
abbrev S16400x1024 : Shape := ⟨2, ![16400, 1024]⟩
abbrev S16400x1536 : Shape := ⟨2, ![16400, 1536]⟩
abbrev S16400x16 : Shape := ⟨2, ![16400, 16]⟩
abbrev S_ : Shape := ⟨0, ![]⟩

class Facts : Prop where
  bcast_S_S16400x384 : S_.BroadcastsInDim S16400x384 (![] : Fin 0 → Fin S16400x384.rank)
  bcast_S_S16400x256 : S_.BroadcastsInDim S16400x256 (![] : Fin 0 → Fin S16400x256.rank)
  bcast_S_S384 : S_.BroadcastsInDim S384 (![] : Fin 0 → Fin S384.rank)
  bcast_S_S256 : S_.BroadcastsInDim S256 (![] : Fin 0 → Fin S256.rank)
  bcast_S_S384x1536 : S_.BroadcastsInDim S384x1536 (![] : Fin 0 → Fin S384x1536.rank)
  bcast_S_S256x2048 : S_.BroadcastsInDim S256x2048 (![] : Fin 0 → Fin S256x2048.rank)
  bcast_S_S16400x8x192 : S_.BroadcastsInDim S16400x8x192 (![] : Fin 0 → Fin S16400x8x192.rank)
  bcast_S_S16400x8x128 : S_.BroadcastsInDim S16400x8x128 (![] : Fin 0 → Fin S16400x8x128.rank)

variable [Facts]

def fn_part1 {F : FTy → Type} [FloatOps F] (main_arg6 : FVec F S16400x8x192 .f32) (main_arg7 : FVec F S16400x8x128 .f32) (main_arg9 : FVec F S16400x8x128 .f32) (main_v2 : IVec S16400x384 1) (main_v5 : IVec S16400x256 1) (main_v8 : IVec S384 1) (main_v11 : IVec S256 1) (main_v14 : IVec S384x1536 1) (main_v17 : IVec S256x2048 1) : IVec S16400x384 1 × IVec S16400x256 1 × IVec S384 1 × IVec S256 1 × IVec S384x1536 1 × IVec S256x2048 1 × IVec S16400x8x192 1 × IVec S16400x8x128 1 × IVec S16400x8x128 1 :=
  let main_v18 : FVec F S16400x8x192 .f32 := Host.absf main_arg6
  let main_cst_5 : FVec F S_ .f32 := constant S_ .f32 0x7F800000#32
  let main_v19 : FVec F S16400x8x192 .f32 := broadcastInDim S16400x8x192 ![] bcast_S_S16400x8x192 main_cst_5
  let main_v20 : IVec S16400x8x192 1 := cmpf .olt main_v18 main_v19
  let main_v21 : FVec F S16400x8x128 .f32 := Host.absf main_arg7
  let main_cst_6 : FVec F S_ .f32 := constant S_ .f32 0x7F800000#32
  let main_v22 : FVec F S16400x8x128 .f32 := broadcastInDim S16400x8x128 ![] bcast_S_S16400x8x128 main_cst_6
  let main_v23 : IVec S16400x8x128 1 := cmpf .olt main_v21 main_v22
  let main_v24 : FVec F S16400x8x128 .f32 := Host.absf main_arg9
  let main_cst_7 : FVec F S_ .f32 := constant S_ .f32 0x7F800000#32
  let main_v25 : FVec F S16400x8x128 .f32 := broadcastInDim S16400x8x128 ![] bcast_S_S16400x8x128 main_cst_7
  let main_v26 : IVec S16400x8x128 1 := cmpf .olt main_v24 main_v25
  (main_v2, main_v5, main_v8, main_v11, main_v14, main_v17, main_v20, main_v23, main_v26)

def fn {F : FTy → Type} [FloatOps F] (main_arg0 : FVec F S16400x384 .f32) (main_arg1 : FVec F S16400x256 .f32) (main_arg2 : FVec F S384 .f32) (main_arg3 : FVec F S256 .f32) (main_arg4 : FVec F S384x1536 .f32) (main_arg5 : FVec F S256x2048 .f32) (main_arg6 : FVec F S16400x8x192 .f32) (main_arg7 : FVec F S16400x8x128 .f32) (main_arg8 : FVec F S16400x8x64 .f32) (main_arg9 : FVec F S16400x8x128 .f32) (main_arg10 : FVec F S16400x1024 .f32) (main_arg11 : FVec F S16400x1536 .f32) (main_arg12 : FVec F S16400x16 .f32) : IVec S16400x384 1 × IVec S16400x256 1 × IVec S384 1 × IVec S256 1 × IVec S384x1536 1 × IVec S256x2048 1 × IVec S16400x8x192 1 × IVec S16400x8x128 1 × IVec S16400x8x128 1 :=
  let main_v0 : FVec F S16400x384 .f32 := Host.absf main_arg0
  let main_cst : FVec F S_ .f32 := constant S_ .f32 0x7F800000#32
  let main_v1 : FVec F S16400x384 .f32 := broadcastInDim S16400x384 ![] bcast_S_S16400x384 main_cst
  let main_v2 : IVec S16400x384 1 := cmpf .olt main_v0 main_v1
  let main_v3 : FVec F S16400x256 .f32 := Host.absf main_arg1
  let main_cst_0 : FVec F S_ .f32 := constant S_ .f32 0x7F800000#32
  let main_v4 : FVec F S16400x256 .f32 := broadcastInDim S16400x256 ![] bcast_S_S16400x256 main_cst_0
  let main_v5 : IVec S16400x256 1 := cmpf .olt main_v3 main_v4
  let main_v6 : FVec F S384 .f32 := Host.absf main_arg2
  let main_cst_1 : FVec F S_ .f32 := constant S_ .f32 0x7F800000#32
  let main_v7 : FVec F S384 .f32 := broadcastInDim S384 ![] bcast_S_S384 main_cst_1
  let main_v8 : IVec S384 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S384x1536 .f32 := Host.absf main_arg4
  let main_cst_3 : FVec F S_ .f32 := constant S_ .f32 0x7F800000#32
  let main_v13 : FVec F S384x1536 .f32 := broadcastInDim S384x1536 ![] bcast_S_S384x1536 main_cst_3
  let main_v14 : IVec S384x1536 1 := cmpf .olt main_v12 main_v13
  let main_v15 : FVec F S256x2048 .f32 := Host.absf main_arg5
  let main_cst_4 : FVec F S_ .f32 := constant S_ .f32 0x7F800000#32
  let main_v16 : FVec F S256x2048 .f32 := broadcastInDim S256x2048 ![] bcast_S_S256x2048 main_cst_4
  let main_v17 : IVec S256x2048 1 := cmpf .olt main_v15 main_v16
  fn_part1 (F := F) main_arg6 main_arg7 main_arg9 main_v2 main_v5 main_v8 main_v11 main_v14 main_v17
-- ==== Pre_finite4.lean ====
abbrev S16400x1024 : Shape := ⟨2, ![16400, 1024]⟩
abbrev S16400x1536 : Shape := ⟨2, ![16400, 1536]⟩
abbrev S16 : Shape := ⟨1, ![16]⟩
abbrev S1024 : Shape := ⟨1, ![1024]⟩
abbrev S2048x1024 : Shape := ⟨2, ![2048, 1024]⟩
abbrev S_ : Shape := ⟨0, ![]⟩

class Facts : Prop where
  bcast_S_S16400x1024 : S_.BroadcastsInDim S16400x1024 (![] : Fin 0 → Fin S16400x1024.rank)
  bcast_S_S16400x1536 : S_.BroadcastsInDim S16400x1536 (![] : Fin 0 → Fin S16400x1536.rank)
  bcast_S_S16 : S_.BroadcastsInDim S16 (![] : Fin 0 → Fin S16.rank)
  bcast_S_S1024 : S_.BroadcastsInDim S1024 (![] : Fin 0 → Fin S1024.rank)
  bcast_S_S2048x1024 : S_.BroadcastsInDim S2048x1024 (![] : Fin 0 → Fin S2048x1024.rank)

variable [Facts]

def fn_part1 {F : FTy → Type} [FloatOps F] (main_arg6 : FVec F S2048x1024 .f32) (main_arg7 : FVec F S1024 .f32) (main_arg8 : FVec F S16400x1024 .f32) (main_v2 : IVec S16400x1024 1) (main_v5 : IVec S16400x1024 1) (main_v8 : IVec S16400x1536 1) (main_v11 : IVec S16400x1024 1) (main_v14 : IVec S16 1) (main_v17 : IVec S1024 1) : IVec S16400x1024 1 × IVec S16400x1024 1 × IVec S16400x1536 1 × IVec S16400x1024 1 × IVec S16 1 × IVec S1024 1 × IVec S2048x1024 1 × IVec S1024 1 × IVec S16400x1024 1 :=
  let main_v18 : FVec F S2048x1024 .f32 := Host.absf main_arg6
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S16400x1024 .f32 := Host.absf main_arg8
  let main_cst_7 : FVec F S_ .f32 := constant S_ .f32 0x7F800000#32
  let main_v25 : FVec F S16400x1024 .f32 := broadcastInDim S16400x1024 ![] bcast_S_S16400x1024 main_cst_7
  let main_v26 : IVec S16400x1024 1 := cmpf .olt main_v24 main_v25
  (main_v2, main_v5, main_v8, main_v11, main_v14, main_v17, main_v20, main_v23, main_v26)

def fn {F : FTy → Type} [FloatOps F] (main_arg0 : FVec F S16400x1024 .f32) (main_arg1 : FVec F S16400x1024 .f32) (main_arg2 : FVec F S16400x1536 .f32) (main_arg3 : FVec F S16400x1024 .f32) (main_arg4 : FVec F S16 .f32) (main_arg5 : FVec F S1024 .f32) (main_arg6 : FVec F S2048x1024 .f32) (main_arg7 : FVec F S1024 .f32) (main_arg8 : FVec F S16400x1024 .f32) : IVec S16400x1024 1 × IVec S16400x1024 1 × IVec S16400x1536 1 × IVec S16400x1024 1 × IVec S16 1 × IVec S1024 1 × IVec S2048x1024 1 × IVec S1024 1 × IVec S16400x1024 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_v3 : FVec F S16400x1024 .f32 := Host.absf main_arg1
  let main_cst_0 : FVec F S_ .f32 := constant S_ .f32 0x7F800000#32
  let main_v4 : FVec F S16400x1024 .f32 := broadcastInDim S16400x1024 ![] bcast_S_S16400x1024 main_cst_0
  let main_v5 : IVec S16400x1024 1 := cmpf .olt main_v3 main_v4
  let main_v6 : FVec F S16400x1536 .f32 := Host.absf main_arg2
  let main_cst_1 : FVec F S_ .f32 := constant S_ .f32 0x7F800000#32
  let main_v7 : FVec F S16400x1536 .f32 := broadcastInDim S16400x1536 ![] bcast_S_S16400x1536 main_cst_1
  let main_v8 : IVec S16400x1536 1 := cmpf .olt main_v6 main_v7
  let main_v9 : FVec F S16400x1024 .f32 := Host.absf main_arg3
  let main_cst_2 : FVec F S_ .f32 := constant S_ .f32 0x7F800000#32
  let main_v10 : FVec F S16400x1024 .f32 := broadcastInDim S16400x1024 ![] bcast_S_S16400x1024 main_cst_2
  let main_v11 : IVec S16400x1024 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_v2 main_v5 main_v8 main_v11 main_v14 main_v17
-- ==== Pre_finite5.lean ====
abbrev S16384x1024 : Shape := ⟨2, ![16384, 1024]⟩
abbrev S16x1024 : Shape := ⟨2, ![16, 1024]⟩
abbrev S1024 : Shape := ⟨1, ![1024]⟩
abbrev S1024x3280 : Shape := ⟨2, ![1024, 3280]⟩
abbrev S16400x3280 : Shape := ⟨2, ![16400, 3280]⟩
abbrev S16400x1024 : Shape := ⟨2, ![16400, 1024]⟩
abbrev S_ : Shape := ⟨0, ![]⟩

class Facts : Prop where
  bcast_S_S16384x1024 : S_.BroadcastsInDim S16384x1024 (![] : Fin 0 → Fin S16384x1024.rank)
  bcast_S_S16x1024 : S_.BroadcastsInDim S16x1024 (![] : Fin 0 → Fin S16x1024.rank)
  bcast_S_S1024 : S_.BroadcastsInDim S1024 (![] : Fin 0 → Fin S1024.rank)
  bcast_S_S1024x3280 : S_.BroadcastsInDim S1024x3280 (![] : Fin 0 → Fin S1024x3280.rank)
  bcast_S_S16400x3280 : S_.BroadcastsInDim S16400x3280 (![] : Fin 0 → Fin S16400x3280.rank)

variable [Facts]

def fn {F : FTy → Type} [FloatOps F] (main_arg0 : FVec F S16384x1024 .f32) (main_arg1 : FVec F S16x1024 .f32) (main_arg2 : FVec F S1024 .f32) (main_arg3 : FVec F S1024x3280 .f32) (main_arg4 : FVec F S16400x3280 .f32) (main_arg5 : FVec F S16400x1024 .f32) : IVec S16384x1024 1 × IVec S16x1024 1 × IVec S1024 1 × IVec S1024x3280 1 × IVec S16400x3280 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x3280 .f32 := Host.absf main_arg3
  let main_cst_2 : FVec F S_ .f32 := constant S_ .f32 0x7F800000#32
  let main_v10 : FVec F S1024x3280 .f32 := broadcastInDim S1024x3280 ![] bcast_S_S1024x3280 main_cst_2
  let main_v11 : IVec S1024x3280 1 := cmpf .olt main_v9 main_v10
  let main_v12 : FVec F S16400x3280 .f32 := Host.absf main_arg4
  let main_cst_3 : FVec F S_ .f32 := constant S_ .f32 0x7F800000#32
  let main_v13 : FVec F S16400x3280 .f32 := broadcastInDim S16400x3280 ![] bcast_S_S16400x3280 main_cst_3
  let main_v14 : IVec S16400x3280 1 := cmpf .olt main_v12 main_v13
  (main_v2, main_v5, main_v8, main_v11, main_v14)
-- ==== Kernel.lean ====
abbrev S16400x1024 : Shape := ⟨2, ![16400, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16896x1024 : Shape := ⟨2, ![16896, 1024]⟩
abbrev S1x1024 : Shape := ⟨2, ![1, 1024]⟩
abbrev S16896 : Shape := ⟨1, ![16896]⟩
abbrev S16896x1 : Shape := ⟨2, ![16896, 1]⟩
abbrev S16896x4096 : Shape := ⟨2, ![16896, 4096]⟩
abbrev S8x1024 : Shape := ⟨2, ![8, 1024]⟩
abbrev S256x1024 : Shape := ⟨2, ![256, 1024]⟩
abbrev S256x4096 : Shape := ⟨2, ![256, 4096]⟩
abbrev S2 : Shape := ⟨1, ![2]⟩
abbrev S1 : Shape := ⟨1, ![1]⟩
abbrev S256 : Shape := ⟨1, ![256]⟩
abbrev S256x1 : Shape := ⟨2, ![256, 1]⟩
abbrev S32x8x1024 : Shape := ⟨3, ![32, 8, 1024]⟩
abbrev S16400x4096 : Shape := ⟨2, ![16400, 4096]⟩

abbrev nBuf : Space → Nat
  | .hbm => 52
  | .vmem => 20
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16400x1024, .f32⟩
  | .hbm, ⟨6, _⟩ => ⟨S_, .i32⟩
  | .hbm, ⟨7, _⟩ => ⟨S_, .f32⟩
  | .hbm, ⟨8, _⟩ => ⟨S16896x1024, .f32⟩
  | .hbm, ⟨9, _⟩ => ⟨S1x1024, .f32⟩
  | .hbm, ⟨10, _⟩ => ⟨S1x1024, .f32⟩
  | .hbm, ⟨11, _⟩ => ⟨S1024x4096, .bf16⟩
  | .hbm, ⟨12, _⟩ => ⟨S4096x1024, .bf16⟩
  | .hbm, ⟨13, _⟩ => ⟨S16896x1024, .f32⟩
  | .hbm, ⟨14, _⟩ => ⟨S_, .f32⟩
  | .hbm, ⟨15, _⟩ => ⟨S16896, .f32⟩
  | .hbm, ⟨16, _⟩ => ⟨S16896x1, .f32⟩
  | .hbm, ⟨17, _⟩ => ⟨S_, .f32⟩
  | .hbm, ⟨18, _⟩ => ⟨S16896x1, .f32⟩
  | .hbm, ⟨19, _⟩ => ⟨S16896x1, .f32⟩
  | .hbm, ⟨20, _⟩ => ⟨S_, .f32⟩
  | .hbm, ⟨21, _⟩ => ⟨S16896x1, .f32⟩
  | .hbm, ⟨22, _⟩ => ⟨S16896x1, .f32⟩
  | .hbm, ⟨23, _⟩ => ⟨S16896x1, .f32⟩
  | .hbm, ⟨24, _⟩ => ⟨S16896x1024, .f32⟩
  | .hbm, ⟨25, _⟩ => ⟨S16896x1024, .f32⟩
  | .hbm, ⟨26, _⟩ => ⟨S16896x1024, .f32⟩
  | .hbm, ⟨27, _⟩ => ⟨S16896x1024, .f32⟩
  | .hbm, ⟨28, _⟩ => ⟨S16896x1024, .bf16⟩
  | .hbm, ⟨29, _⟩ => ⟨S16896x4096, .f32⟩
  | .hbm, ⟨30, _⟩ => ⟨S_, .f32⟩
  | .hbm, ⟨31, _⟩ => ⟨S16896x4096, .f32⟩
  | .hbm, ⟨32, _⟩ => ⟨S16896x4096, .f32⟩
  | .hbm, ⟨33, _⟩ => ⟨S16896x4096, .f32⟩
  | .hbm, ⟨34, _⟩ => ⟨S16896x4096, .bf16⟩
  | .hbm, ⟨35, _⟩ => ⟨S16896x1024, .f32⟩
  | .hbm, ⟨36, _⟩ => ⟨S_, .i32⟩
  | .hbm, ⟨37, _⟩ => ⟨S_, .f32⟩
  | .hbm, ⟨38, _⟩ => ⟨S16896x1024, .f32⟩
  | .hbm, ⟨39, _⟩ => ⟨S16896x4096, .bf16⟩
  | .hbm, ⟨40, _⟩ => ⟨S16896x1024, .f32⟩
  | .hbm, ⟨41, _⟩ => ⟨S16896x4096, .bf16⟩
  | .hbm, ⟨42, _⟩ => ⟨S16896x1024, .bf16⟩
  | .hbm, ⟨43, _⟩ => ⟨S8x1024, .f32⟩
  | .hbm, ⟨44, _⟩ => ⟨S8x1024, .f32⟩
  | .hbm, ⟨45, _⟩ => ⟨S16400x1024, .f32⟩
  | .hbm, ⟨46, _⟩ => ⟨S16400x4096, .bf16⟩
  | .hbm, ⟨47, _⟩ => ⟨S16400x1024, .bf16⟩
  | .hbm, ⟨48, _⟩ => ⟨S_, .f32⟩
  | .hbm, ⟨49, _⟩ => ⟨S1024, .f32⟩
  | .hbm, ⟨50, _⟩ => ⟨S_, .f32⟩
  | .hbm, ⟨51, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x4096, .bf16⟩
  | .local _ .vmem, ⟨7, _⟩ => ⟨S256x4096, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x4096, .bf16⟩
  | .local _ .vmem, ⟨13, _⟩ => ⟨S256x4096, .bf16⟩
  | .local _ .vmem, ⟨14, _⟩ => ⟨S256x1024, .bf16⟩
  | .local _ .vmem, ⟨15, _⟩ => ⟨S256x1024, .bf16⟩
  | .local _ .vmem, ⟨16, _⟩ => ⟨S8x1024, .f32⟩
  | .local _ .vmem, ⟨17, _⟩ => ⟨S8x1024, .f32⟩
  | .local _ .vmem, ⟨18, _⟩ => ⟨S1024x4096, .bf16⟩
  | .local _ .vmem, ⟨19, _⟩ => ⟨S4096x1024, .bf16⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_call1_v0 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v26_3 : Ref sig .tc := ⟨.hbm, 43, rfl⟩
abbrev main_v26_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16400x1024 : Shape := ⟨2, ![16400, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16400 : Shape := ⟨1, ![16400]⟩
abbrev S16400x1 : Shape := ⟨2, ![16400, 1]⟩
abbrev S1x1024 : Shape := ⟨2, ![1, 1024]⟩
abbrev S16400x4096 : Shape := ⟨2, ![16400, 4096]⟩

abbrev nBuf : Space → Nat
  | .hbm => 145
  | .vmem => 0
  | .smem => 0
  | _ => 0

abbrev hbmTy0_0 (i : Nat) : BufTy := match i % 128 with
  | 0 => ⟨S16400x1024, .f32⟩
  | 1 => ⟨S1024, .f32⟩
  | 2 => ⟨S1024x4096, .f32⟩
  | 3 => ⟨S4096x1024, .f32⟩
  | 4 => ⟨S1024, .f32⟩
  | 5 => ⟨S16400x1024, .f32⟩
  | 6 => ⟨S16400x1024, .f32⟩
  | 7 => ⟨S_, .f32⟩
  | 8 => ⟨S16400, .f32⟩
  | 9 => ⟨S16400x1, .f32⟩
  | 10 => ⟨S_, .f32⟩
  | 11 => ⟨S16400x1, .f32⟩
  | 12 => ⟨S16400x1, .f32⟩
  | 13 => ⟨S_, .f32⟩
  | 14 => ⟨S16400x1, .f32⟩
  | 15 => ⟨S16400x1, .f32⟩
  | 16 => ⟨S16400x1, .f32⟩
  | 17 => ⟨S16400x1024, .f32⟩
  | 18 => ⟨S16400x1024, .f32⟩
  | 19 => ⟨S1x1024, .f32⟩
  | 20 => ⟨S16400x1024, .f32⟩
  | 21 => ⟨S16400x1024, .f32⟩
  | 22 => ⟨S16400x4096, .f32⟩
  | 23 => ⟨S_, .f32⟩
  | 24 => ⟨S16400x4096, .f32⟩
  | 25 => ⟨S16400x4096, .f32⟩
  | 26 => ⟨S16400x4096, .f32⟩
  | 27 => ⟨S16400x1024, .f32⟩
  | 28 => ⟨S16400x1024, .f32⟩
  | 29 => ⟨S_, .f32⟩
  | 30 => ⟨S16400x1024, .f32⟩
  | 31 => ⟨S16400x1024, .f32⟩
  | 32 => ⟨S_, .f32⟩
  | 33 => ⟨S16400, .f32⟩
  | 34 => ⟨S16400x1, .f32⟩
  | 35 => ⟨S_, .f32⟩
  | 36 => ⟨S16400x1, .f32⟩
  | 37 => ⟨S16400x1, .f32⟩
  | 38 => ⟨S_, .f32⟩
  | 39 => ⟨S16400x1, .f32⟩
  | 40 => ⟨S16400x1, .f32⟩
  | 41 => ⟨S16400x1, .f32⟩
  | 42 => ⟨S16400x1, .f32⟩
  | 43 => ⟨S_, .f32⟩
  | 44 => ⟨S16400x1, .f32⟩
  | 45 => ⟨S16400x1, .f32⟩
  | 46 => ⟨S16400x1024, .f32⟩
  | 47 => ⟨S16400x1024, .f32⟩
  | 48 => ⟨S1x1024, .f32⟩
  | 49 => ⟨S16400x1024, .f32⟩
  | 50 => ⟨S16400x1024, .f32⟩
  | 51 => ⟨S16400x1024, .f32⟩
  | 52 => ⟨S16400x1024, .f32⟩
  | 53 => ⟨S16400x1024, .f32⟩
  | 54 => ⟨S_, .f32⟩
  | 55 => ⟨S1024, .f32⟩
  | 56 => ⟨S1x1024, .f32⟩
  | 57 => ⟨S16400x1024, .f32⟩
  | 58 => ⟨S16400x1024, .f32⟩
  | 59 => ⟨S_, .f32⟩
  | 60 => ⟨S1024, .f32⟩
  | 61 => ⟨S16400x1024, .f32⟩
  | 62 => ⟨S_, .f32⟩
  | 63 => ⟨S16400, .f32⟩
  | 64 => ⟨S16400x1, .f32⟩
  | 65 => ⟨S16400x1024, .f32⟩
  | 66 => ⟨S16400x1024, .f32⟩
  | 67 => ⟨S16400x1, .f32⟩
  | 68 => ⟨S_, .f32⟩
  | 69 => ⟨S16400x1, .f32⟩
  | 70 => ⟨S16400x1, .f32⟩
  | 71 => ⟨S_, .f32⟩
  | 72 => ⟨S16400, .f32⟩
  | 73 => ⟨S16400x1024, .f32⟩
  | 74 => ⟨S16400x1024, .f32⟩
  | 75 => ⟨S16400x1024, .f32⟩
  | 76 => ⟨S_, .f32⟩
  | 77 => ⟨S16400x4096, .f32⟩
  | 78 => ⟨S16400x4096, .f32⟩
  | 79 => ⟨S_, .f32⟩
  | 80 => ⟨S16400x4096, .f32⟩
  | 81 => ⟨S16400x4096, .i1⟩
  | 82 => ⟨S_, .f32⟩
  | 83 => ⟨S16400x4096, .f32⟩
  | 84 => ⟨S16400x4096, .f32⟩
  | 85 => ⟨S_, .f32⟩
  | 86 => ⟨S16400x4096, .f32⟩
  | 87 => ⟨S16400x4096, .f32⟩
  | 88 => ⟨S16400x1024, .f32⟩
  | 89 => ⟨S16400x4096, .f32⟩
  | 90 => ⟨S16400x4096, .f32⟩
  | 91 => ⟨S_, .f32⟩
  | 92 => ⟨S16400x4096, .f32⟩
  | 93 => ⟨S16400x4096, .f32⟩
  | 94 => ⟨S16400x1024, .f32⟩
  | 95 => ⟨S_, .f32⟩
  | 96 => ⟨S16400x1024, .f32⟩
  | 97 => ⟨S16400x1024, .f32⟩
  | 98 => ⟨S_, .f32⟩
  | 99 => ⟨S16400, .f32⟩
  | 100 => ⟨S16400x1, .f32⟩
  | 101 => ⟨S_, .f32⟩
  | 102 => ⟨S16400x1, .f32⟩
  | 103 => ⟨S16400x1, .f32⟩
  | 104 => ⟨S_, .f32⟩
  | 105 => ⟨S16400x1, .f32⟩
  | 106 => ⟨S16400x1, .f32⟩
  | 107 => ⟨S16400x1, .f32⟩
  | 108 => ⟨S16400x1, .f32⟩
  | 109 => ⟨S_, .f32⟩
  | 110 => ⟨S16400x1, .f32⟩
  | 111 => ⟨S16400x1, .f32⟩
  | 112 => ⟨S16400x1024, .f32⟩
  | 113 => ⟨S16400x1024, .f32⟩
  | 114 => ⟨S1x1024, .f32⟩
  | 115 => ⟨S16400x1024, .f32⟩
  | 116 => ⟨S16400x1024, .f32⟩
  | 117 => ⟨S16400x4096, .f32⟩
  | 118 => ⟨S16400x1024, .f32⟩
  | 119 => ⟨S16400x1024, .f32⟩
  | 120 => ⟨S_, .f32⟩
  | 121 => ⟨S1024, .f32⟩
  | 122 => ⟨S1x1024, .f32⟩
  | 123 => ⟨S16400x1024, .f32⟩
  | 124 => ⟨S16400x1024, .f32⟩
  | 125 => ⟨S_, .f32⟩
  | 126 => ⟨S1024, .f32⟩
  | 127 => ⟨S16400x1024, .f32⟩
  | _ => ⟨S16400x1024, .f32⟩

abbrev hbmTy0_1 (i : Nat) : BufTy := match i % 128 with
  | 0 => ⟨S_, .f32⟩
  | 1 => ⟨S16400, .f32⟩
  | 2 => ⟨S16400x1, .f32⟩
  | 3 => ⟨S16400x1024, .f32⟩
  | 4 => ⟨S16400x1024, .f32⟩
  | 5 => ⟨S16400x1, .f32⟩
  | 6 => ⟨S_, .f32⟩
  | 7 => ⟨S16400x1, .f32⟩
  | 8 => ⟨S16400x1, .f32⟩
  | 9 => ⟨S_, .f32⟩
  | 10 => ⟨S16400, .f32⟩
  | 11 => ⟨S16400x1024, .f32⟩
  | 12 => ⟨S16400x1024, .f32⟩
  | 13 => ⟨S16400x1024, .f32⟩
  | 14 => ⟨S16400x1024, .f32⟩
  | 15 => ⟨S16400x4096, .bf16⟩
  | 16 => ⟨S16400x1024, .bf16⟩
  | _ => ⟨S16400x1024, .f32⟩

abbrev hbmTy (i : Nat) : BufTy := match i / 128 with
  | 0 => hbmTy0_0 i
  | 1 => hbmTy0_1 i
  | _ => ⟨S16400x1024, .f32⟩

abbrev bufTy : (tb : Table) → Fin (tcTables nBuf tb) → BufTy
  | .hbm, ⟨i, _⟩ => hbmTy i
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_cst : Ref sig .tc := ⟨.hbm, 76, rfl⟩
abbrev main_call1_v0 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_cst_19 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_20 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_21 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_22 : Ref sig .tc := ⟨.hbm, 125, rfl⟩
abbrev main_v92 : Ref sig .tc := ⟨.hbm, 126, rfl⟩
abbrev main_v93 : Ref sig .tc := ⟨.hbm, 127, rfl⟩
abbrev main_cst_23 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_24 : Ref sig .tc := ⟨.hbm, 134, rfl⟩
abbrev main_v99 : Ref sig .tc := ⟨.hbm, 135, rfl⟩
abbrev main_v100 : Ref sig .tc := ⟨.hbm, 136, rfl⟩
abbrev main_cst_25 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩

abbrev nD : Nat := 1
abbrev τ : Topo := Topo.v7x

variable {F : FTy → Type} [FloatOps F]
-- ==== Kernel2.lean ====
abbrev S16400x8x128 : Shape := ⟨3, ![16400, 8, 128]⟩
abbrev S16400x8x64 : Shape := ⟨3, ![16400, 8, 64]⟩
abbrev S16400x64 : Shape := ⟨2, ![16400, 64]⟩
abbrev S16896 : Shape := ⟨1, ![16896]⟩
abbrev S_ : Shape := ⟨0, ![]⟩
abbrev S32 : Shape := ⟨1, ![32]⟩
abbrev S16896x1 : Shape := ⟨2, ![16896, 1]⟩
abbrev S1x32 : Shape := ⟨2, ![1, 32]⟩
abbrev S16896x32 : Shape := ⟨2, ![16896, 32]⟩
abbrev S16896x64 : Shape := ⟨2, ![16896, 64]⟩
abbrev S16896x128 : Shape := ⟨2, ![16896, 128]⟩
abbrev S16400x32 : Shape := ⟨2, ![16400, 32]⟩
abbrev S16400x1x32 : Shape := ⟨3, ![16400, 1, 32]⟩
abbrev S16400x8x32 : Shape := ⟨3, ![16400, 8, 32]⟩
abbrev S16400x1x64 : Shape := ⟨3, ![16400, 1, 64]⟩
abbrev S8x16400x16400 : Shape := ⟨3, ![8, 16400, 16400]⟩
abbrev S16400 : Shape := ⟨1, ![16400]⟩
abbrev S1x1x16400 : Shape := ⟨3, ![1, 1, 16400]⟩
abbrev S1x16400x1 : Shape := ⟨3, ![1, 16400, 1]⟩
abbrev S1x16400x16400 : Shape := ⟨3, ![1, 16400, 16400]⟩
abbrev S8x16400 : Shape := ⟨2, ![8, 16400]⟩
abbrev S8x16400x1 : Shape := ⟨3, ![8, 16400, 1]⟩
abbrev S8x128x16400 : Shape := ⟨3, ![8, 128, 16400]⟩
abbrev S16400x8 : Shape := ⟨2, ![16400, 8]⟩
abbrev S16400x8x256 : Shape := ⟨3, ![16400, 8, 256]⟩
abbrev S16896x8x256 : Shape := ⟨3, ![16896, 8, 256]⟩
abbrev S16896x2048 : Shape := ⟨2, ![16896, 2048]⟩
abbrev S16896x8x128 : Shape := ⟨3, ![16896, 8, 128]⟩
abbrev S16896x1024 : Shape := ⟨2, ![16896, 1024]⟩
abbrev S8x16896 : Shape := ⟨2, ![8, 16896]⟩
abbrev S8x1x16896 : Shape := ⟨3, ![8, 1, 16896]⟩
abbrev S512x256 : Shape := ⟨2, ![512, 256]⟩
abbrev S512x128 : Shape := ⟨2, ![512, 128]⟩
abbrev S16896x256 : Shape := ⟨2, ![16896, 256]⟩
abbrev S1x1x16896 : Shape := ⟨3, ![1, 1, 16896]⟩
abbrev S128x256 : Shape := ⟨2, ![128, 256]⟩
abbrev S128x128 : Shape := ⟨2, ![128, 128]⟩
abbrev S1x1x512 : Shape := ⟨3, ![1, 1, 512]⟩
abbrev S1x512 : Shape := ⟨2, ![1, 512]⟩
abbrev S128x512 : Shape := ⟨2, ![128, 512]⟩
abbrev S512x512 : Shape := ⟨2, ![512, 512]⟩

abbrev nBuf : Space → Nat
  | .hbm => 157
  | .vmem => 27
  | .smem => 0
  | _ => 0

abbrev hbmTy0_0 (i : Nat) : BufTy := match i % 128 with
  | 0 => ⟨S16400x8x128, .f32⟩
  | 1 => ⟨S16400x8x64, .f32⟩
  | 2 => ⟨S16400x8x128, .f32⟩
  | 3 => ⟨S16400x64, .f32⟩
  | 4 => ⟨S16400x8x128, .f32⟩
  | 5 => ⟨S16400x8x128, .f32⟩
  | 6 => ⟨S16896, .i32⟩
  | 7 => ⟨S_, .i32⟩
  | 8 => ⟨S16896, .i32⟩
  | 9 => ⟨S16896, .i32⟩
  | 10 => ⟨S_, .i32⟩
  | 11 => ⟨S16896, .i32⟩
  | 12 => ⟨S16896, .i32⟩
  | 13 => ⟨S16896, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S16896x1, .f32⟩
  | 29 => ⟨S1x32, .f32⟩
  | 30 => ⟨S16896x32, .f32⟩
  | 31 => ⟨S16896x32, .f32⟩
  | 32 => ⟨S16896x32, .f32⟩
  | 33 => ⟨S16896x32, .f32⟩
  | 34 => ⟨S16896x32, .f32⟩
  | 35 => ⟨S_, .f32⟩
  | 36 => ⟨S16896x32, .f32⟩
  | 37 => ⟨S_, .f32⟩
  | 38 => ⟨S16896x64, .f32⟩
  | 39 => ⟨S_, .f32⟩
  | 40 => ⟨S16896x64, .f32⟩
  | 41 => ⟨S16896x128, .f32⟩
  | 42 => ⟨S16896x32, .f32⟩
  | 43 => ⟨S16896x128, .f32⟩
  | 44 => ⟨S16896x128, .f32⟩
  | 45 => ⟨S16400x32, .f32⟩
  | 46 => ⟨S16400x1x32, .f32⟩
  | 47 => ⟨S16400x32, .f32⟩
  | 48 => ⟨S16400x1x32, .f32⟩
  | 49 => ⟨S16400x8x32, .f32⟩
  | 50 => ⟨S16400x8x32, .f32⟩
  | 51 => ⟨S16400x8x32, .f32⟩
  | 52 => ⟨S16400x8x32, .f32⟩
  | 53 => ⟨S16400x8x32, .f32⟩
  | 54 => ⟨S16400x8x32, .f32⟩
  | 55 => ⟨S16400x8x32, .f32⟩
  | 56 => ⟨S16400x8x32, .f32⟩
  | 57 => ⟨S16400x8x32, .f32⟩
  | 58 => ⟨S16400x8x32, .f32⟩
  | 59 => ⟨S16400x8x32, .f32⟩
  | 60 => ⟨S16400x8x32, .f32⟩
  | 61 => ⟨S16400x8x64, .f32⟩
  | 62 => ⟨S16400x1x64, .f32⟩
  | 63 => ⟨S16400x8x64, .f32⟩
  | 64 => ⟨S8x16400x16400, .f32⟩
  | 65 => ⟨S8x16400x16400, .f32⟩
  | 66 => ⟨S8x16400x16400, .f32⟩
  | 67 => ⟨S16400, .i32⟩
  | 68 => ⟨S1x1x16400, .i32⟩
  | 69 => ⟨S1x16400x1, .i32⟩
  | 70 => ⟨S1x16400x16400, .i32⟩
  | 71 => ⟨S1x16400x16400, .i32⟩
  | 72 => ⟨S1x16400x16400, .i1⟩
  | 73 => ⟨S_, .f32⟩
  | 74 => ⟨S8x16400x16400, .f32⟩
  | 75 => ⟨S8x16400x16400, .f32⟩
  | 76 => ⟨S_, .f32⟩
  | 77 => ⟨S_, .f32⟩
  | 78 => ⟨S8x16400x16400, .i1⟩
  | 79 => ⟨S8x16400x16400, .f32⟩
  | 80 => ⟨S8x16400x16400, .f32⟩
  | 81 => ⟨S_, .f32⟩
  | 82 => ⟨S8x16400, .f32⟩
  | 83 => ⟨S8x16400x1, .f32⟩
  | 84 => ⟨S8x16400x16400, .f32⟩
  | 85 => ⟨S8x16400x16400, .f32⟩
  | 86 => ⟨S8x16400x16400, .f32⟩
  | 87 => ⟨S_, .f32⟩
  | 88 => ⟨S8x16400, .f32⟩
  | 89 => ⟨S8x16400x1, .f32⟩
  | 90 => ⟨S8x16400x16400, .f32⟩
  | 91 => ⟨S8x16400x16400, .f32⟩
  | 92 => ⟨S8x128x16400, .f32⟩
  | 93 => ⟨S16400x8x128, .f32⟩
  | 94 => ⟨S_, .f32⟩
  | 95 => ⟨S_, .f32⟩
  | 96 => ⟨S8x16400, .f32⟩
  | 97 => ⟨S8x16400, .f32⟩
  | 98 => ⟨S8x16400, .f32⟩
  | 99 => ⟨S8x16400, .f32⟩
  | 100 => ⟨S16400x8x128, .f32⟩
  | 101 => ⟨S_, .f32⟩
  | 102 => ⟨S16400x8, .f32⟩
  | 103 => ⟨S8x16400, .f32⟩
  | 104 => ⟨S_, .f32⟩
  | 105 => ⟨S16400x8x64, .f32⟩
  | 106 => ⟨S16400x8x256, .f32⟩
  | 107 => ⟨S_, .f32⟩
  | 108 => ⟨S16400x8x256, .f32⟩
  | 109 => ⟨S16400x8x256, .f32⟩
  | 110 => ⟨S16400x8x256, .f32⟩
  | 111 => ⟨S16400x8x256, .f32⟩
  | 112 => ⟨S_, .i32⟩
  | 113 => ⟨S_, .f32⟩
  | 114 => ⟨S16896x8x256, .f32⟩
  | 115 => ⟨S16896x8x256, .bf16⟩
  | 116 => ⟨S16896x2048, .bf16⟩
  | 117 => ⟨S16400x8x256, .f32⟩
  | 118 => ⟨S_, .i32⟩
  | 119 => ⟨S_, .f32⟩
  | 120 => ⟨S16896x8x256, .f32⟩
  | 121 => ⟨S16896x8x256, .bf16⟩
  | 122 => ⟨S16896x2048, .bf16⟩
  | 123 => ⟨S_, .f32⟩
  | 124 => ⟨S16400x8x128, .f32⟩
  | 125 => ⟨S16400x8x256, .f32⟩
  | 126 => ⟨S_, .i32⟩
  | 127 => ⟨S_, .f32⟩
  | _ => ⟨S16400x8x128, .f32⟩

abbrev hbmTy0_1 (i : Nat) : BufTy := match i % 128 with
  | 0 => ⟨S16896x8x256, .f32⟩
  | 1 => ⟨S16896x8x256, .bf16⟩
  | 2 => ⟨S16896x2048, .bf16⟩
  | 3 => ⟨S_, .i32⟩
  | 4 => ⟨S_, .f32⟩
  | 5 => ⟨S16896x8x128, .f32⟩
  | 6 => ⟨S16896x8x128, .bf16⟩
  | 7 => ⟨S16896x1024, .bf16⟩
  | 8 => ⟨S_, .i32⟩
  | 9 => ⟨S_, .f32⟩
  | 10 => ⟨S8x16896, .f32⟩
  | 11 => ⟨S8x1x16896, .f32⟩
  | 12 => ⟨S_, .i32⟩
  | 13 => ⟨S_, .f32⟩
  | 14 => ⟨S8x16896, .f32⟩
  | 15 => ⟨S8x1x16896, .f32⟩
  | 16 => ⟨S16896x2048, .bf16⟩
  | 17 => ⟨S16896x2048, .bf16⟩
  | 18 => ⟨S16896x1024, .bf16⟩
  | 19 => ⟨S16896x8x256, .bf16⟩
  | 20 => ⟨S16400x8x256, .bf16⟩
  | 21 => ⟨S16896x8x256, .bf16⟩
  | 22 => ⟨S16400x8x256, .bf16⟩
  | 23 => ⟨S16400x8x128, .bf16⟩
  | 24 => ⟨S16400x8x64, .bf16⟩
  | 25 => ⟨S16400x8x128, .bf16⟩
  | 26 => ⟨S16400x8x64, .bf16⟩
  | 27 => ⟨S16896x8x128, .bf16⟩
  | 28 => ⟨S16400x8x128, .bf16⟩
  | _ => ⟨S16400x8x128, .f32⟩

abbrev hbmTy (i : Nat) : BufTy := match i / 128 with
  | 0 => hbmTy0_0 i
  | 1 => hbmTy0_1 i
  | _ => ⟨S16400x8x128, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S16896x256, .bf16⟩
  | .local _ .vmem, ⟨5, _⟩ => ⟨S16896x256, .bf16⟩
  | .local _ .vmem, ⟨6, _⟩ => ⟨S16896x128, .bf16⟩
  | .local _ .vmem, ⟨7, _⟩ => ⟨S16896x128, .bf16⟩
  | .local _ .vmem, ⟨8, _⟩ => ⟨S1x1x16896, .f32⟩
  | .local _ .vmem, ⟨9, _⟩ => ⟨S1x1x16896, .f32⟩
  | .local _ .vmem, ⟨10, _⟩ => ⟨S1x1x16896, .f32⟩
  | .local _ .vmem, ⟨11, _⟩ => ⟨S1x1x16896, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x128, .bf16⟩
  | .local _ .vmem, ⟨23, _⟩ => ⟨S512x128, .bf16⟩
  | .local _ .vmem, ⟨24, _⟩ => ⟨S16896x256, .f32⟩
  | .local _ .vmem, ⟨25, _⟩ => ⟨S512x256, .f32⟩
  | .local _ .vmem, ⟨26, _⟩ => ⟨S512x128, .f32⟩
  | _, _ => ⟨S16400x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_12 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_15 : Ref sig .tc := ⟨.hbm, 112, rfl⟩
abbrev main_call1_v0 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c_16 : Ref sig .tc := ⟨.hbm, 118, rfl⟩
abbrev main_call2_v0 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_17 : Ref sig .tc := ⟨.hbm, 123, rfl⟩
abbrev main_v93 : Ref sig .tc := ⟨.hbm, 124, rfl⟩
abbrev main_v94 : Ref sig .tc := ⟨.hbm, 125, rfl⟩
abbrev main_c_18 : Ref sig .tc := ⟨.hbm, 126, rfl⟩
abbrev main_call3_v0 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_19 : Ref sig .tc := ⟨.hbm, 131, rfl⟩
abbrev main_call4_v0 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_c_20 : Ref sig .tc := ⟨.hbm, 136, rfl⟩
abbrev main_call5_v0 : Ref sig .tc := ⟨.hbm, 137, rfl⟩
abbrev main_v101 : Ref sig .tc := ⟨.hbm, 138, rfl⟩
abbrev main_v102 : Ref sig .tc := ⟨.hbm, 139, rfl⟩
abbrev main_c_21 : Ref sig .tc := ⟨.hbm, 140, rfl⟩
abbrev main_call6_v0 : Ref sig .tc := ⟨.hbm, 141, rfl⟩
abbrev main_v103 : Ref sig .tc := ⟨.hbm, 142, rfl⟩
abbrev main_v104 : Ref sig .tc := ⟨.hbm, 143, rfl⟩
abbrev main_v105_0 : Ref sig .tc := ⟨.hbm, 144, rfl⟩
abbrev main_v105_1 : Ref sig .tc := ⟨.hbm, 145, rfl⟩
abbrev main_v105_2 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 33], ![false, false]⟩

def k0_cond2 (i : grid0.Coords) : BitVec 1 :=
  let arg1 : BitVec 32 := BitVec.ofNat 32 (i 1).val
  let c0_i32_5 : BitVec 32 := 0#32
  let v11 : BitVec 1 := Scalar.cmpi .eq arg1 c0_i32_5
  let v12 : BitVec 32 := Scalar.extui v11
  let c0_i32_6 : BitVec 32 := 0#32
  let v13 : BitVec 1 := Scalar.cmpi .ne v12 c0_i32_6
  v13

@[reducible] def k0_t1_loop : Scf.Loop 32 :=
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_50 : BitVec 32 := 1#32
  ⟨c0_i32_48, v94, c1_i32_50⟩
def k0_mult1 (k0_t1 : Fin k0_t1_loop.trips) : BitVec 32 :=
  let c0_i32_112 : BitVec 32 := 0#32
  let c16_i32_111 : BitVec 32 := 16#32
  let c0_i32_48 : BitVec 32 := 0#32
  let c1_i32_50 : BitVec 32 := 1#32
  let arg17 : BitVec 32 := Scf.iv c0_i32_48 c1_i32_50 k0_t1
  let v199 : BitVec 32 := Scalar.muli c16_i32_111 arg17
  let v200 : BitVec 32 := Scalar.addi c0_i32_112 v199
  let c0_i32_113 : BitVec 32 := 0#32
  let v201 : BitVec 32 := Scalar.addi v200 c0_i32_113
  let c512_i32_117 : BitVec 32 := 512#32
  let v206 : BitVec 32 := Scalar.muli v201 c512_i32_117
  v206
def k0_off1 (k0_t1 : Fin k0_t1_loop.trips) (c0_i32_113 : BitVec 32) : Fin 2 → Nat :=
  let c0_i32_112 : BitVec 32 := 0#32
  let c16_i32_111 : BitVec 32 := 16#32
  let c0_i32_48 : BitVec 32 := 0#32
  let c1_i32_50 : BitVec 32 := 1#32
  let arg17 : BitVec 32 := Scf.iv c0_i32_48 c1_i32_50 k0_t1
  let v199 : BitVec 32 := Scalar.muli c16_i32_111 arg17
  let v200 : BitVec 32 := Scalar.addi c0_i32_112 v199
  let v201 : BitVec 32 := Scalar.addi v200 c0_i32_113
  let c512_i32_117 : BitVec 32 := 512#32
  let v206 : BitVec 32 := Scalar.muli v201 c512_i32_117
  let v207 : BitVec 32 := v206
  let v208 : Index := Scalar.indexCast v207
  let c0_118 : Index := 0#32
  ![v208.toNat, 0]
def k0_off2 (k0_t1 : Fin k0_t1_loop.trips) (c0_i32_113 : BitVec 32) : Fin 2 → Nat :=
  let c0_i32_112 : BitVec 32 := 0#32
  let c16_i32_111 : BitVec 32 := 16#32
  let c0_i32_48 : BitVec 32 := 0#32
  let c1_i32_50 : BitVec 32 := 1#32
  let arg17 : BitVec 32 := Scf.iv c0_i32_48 c1_i32_50 k0_t1
  let v199 : BitVec 32 := Scalar.muli c16_i32_111 arg17
  let v200 : BitVec 32 := Scalar.addi c0_i32_112 v199
  let v201 : BitVec 32 := Scalar.addi v200 c0_i32_113
  let c512_i32_117 : BitVec 32 := 512#32
  let v206 : BitVec 32 := Scalar.muli v201 c512_i32_117
  let v207 : BitVec 32 := v206
  let v211 : Index := Scalar.indexCast v207
  let c0_119 : Index := 0#32
  ![v211.toNat, 0]
def k0_off3 (k0_t1 : Fin k0_t1_loop.trips) (c0_i32_113 : BitVec 32) : Fin 3 → Nat :=
  let c0_120 : Index := 0#32
  let c0_121 : Index := 0#32
  let c0_i32_112 : BitVec 32 := 0#32
  let c16_i32_111 : BitVec 32 := 16#32
  let c0_i32_48 : BitVec 32 := 0#32
  let c1_i32_50 : BitVec 32 := 1#32
  let arg17 : BitVec 32 := Scf.iv c0_i32_48 c1_i32_50 k0_t1
  let v199 : BitVec 32 := Scalar.muli c16_i32_111 arg17
  let v200 : BitVec 32 := Scalar.addi c0_i32_112 v199
  let v201 : BitVec 32 := Scalar.addi v200 c0_i32_113
  let c512_i32_117 : BitVec 32 := 512#32
  let v206 : BitVec 32 := Scalar.muli v201 c512_i32_117
  let v207 : BitVec 32 := v206
  let v214 : Index := Scalar.indexCast v207
  ![0, 0, v214.toNat]
def k0_mult2 (k0_t1 : Fin k0_t1_loop.trips) : BitVec 32 :=
  let c0_i32_144 : BitVec 32 := 0#32
  let c16_i32_143 : BitVec 32 := 16#32
  let c0_i32_48 : BitVec 32 := 0#32
  let c1_i32_50 : BitVec 32 := 1#32
  let arg17 : BitVec 32 := Scf.iv c0_i32_48 c1_i32_50 k0_t1
  let v268 : BitVec 32 := Scalar.muli c16_i32_143 arg17
  let v269 : BitVec 32 := Scalar.addi c0_i32_144 v268
  let c1_i32_145 : BitVec 32 := 1#32
  let v270 : BitVec 32 := Scalar.addi v269 c1_i32_145
  let c512_i32_150 : BitVec 32 := 512#32
  let v275 : BitVec 32 := Scalar.muli v270 c512_i32_150
  v275
def k0_mult3 (k0_t1 : Fin k0_t1_loop.trips) : BitVec 32 :=
  let c0_i32_179 : BitVec 32 := 0#32
  let c16_i32_178 : BitVec 32 := 16#32
  let c0_i32_48 : BitVec 32 := 0#32
  let c1_i32_50 : BitVec 32 := 1#32
  let arg17 : BitVec 32 := Scf.iv c0_i32_48 c1_i32_50 k0_t1
  let v337 : BitVec 32 := Scalar.muli c16_i32_178 arg17
  let v338 : BitVec 32 := Scalar.addi c0_i32_179 v337
  let c2_i32_180 : BitVec 32 := 2#32
  let v339 : BitVec 32 := Scalar.addi v338 c2_i32_180
  let c512_i32_185 : BitVec 32 := 512#32
  let v344 : BitVec 32 := Scalar.muli v339 c512_i32_185
  v344
def k0_mult4 (k0_t1 : Fin k0_t1_loop.trips) : BitVec 32 :=
  let c0_i32_214 : BitVec 32 := 0#32
  let c16_i32_213 : BitVec 32 := 16#32
  let c0_i32_48 : BitVec 32 := 0#32
  let c1_i32_50 : BitVec 32 := 1#32
  let arg17 : BitVec 32 := Scf.iv c0_i32_48 c1_i32_50 k0_t1
  let v406 : BitVec 32 := Scalar.muli c16_i32_213 arg17
  let v407 : BitVec 32 := Scalar.addi c0_i32_214 v406
  let c3_i32_215 : BitVec 32 := 3#32
  let v408 : BitVec 32 := Scalar.addi v407 c3_i32_215
  let c512_i32_220 : BitVec 32 := 512#32
  let v413 : BitVec 32 := Scalar.muli v408 c512_i32_220
  v413
def k0_mult5 (k0_t1 : Fin k0_t1_loop.trips) : BitVec 32 :=
  let c0_i32_249 : BitVec 32 := 0#32
  let c16_i32_248 : BitVec 32 := 16#32
  let c0_i32_48 : BitVec 32 := 0#32
  let c1_i32_50 : BitVec 32 := 1#32
  let arg17 : BitVec 32 := Scf.iv c0_i32_48 c1_i32_50 k0_t1
  let v475 : BitVec 32 := Scalar.muli c16_i32_248 arg17
  let v476 : BitVec 32 := Scalar.addi c0_i32_249 v475
  let c4_i32_250 : BitVec 32 := 4#32
  let v477 : BitVec 32 := Scalar.addi v476 c4_i32_250
  let c512_i32_255 : BitVec 32 := 512#32
  let v482 : BitVec 32 := Scalar.muli v477 c512_i32_255
  v482
def k0_mult6 (k0_t1 : Fin k0_t1_loop.trips) : BitVec 32 :=
  let c0_i32_284 : BitVec 32 := 0#32
  let c16_i32_283 : BitVec 32 := 16#32
  let c0_i32_48 : BitVec 32 := 0#32
  let c1_i32_50 : BitVec 32 := 1#32
  let arg17 : BitVec 32 := Scf.iv c0_i32_48 c1_i32_50 k0_t1
  let v544 : BitVec 32 := Scalar.muli c16_i32_283 arg17
  let v545 : BitVec 32 := Scalar.addi c0_i32_284 v544
  let c5_i32 : BitVec 32 := 5#32
  let v546 : BitVec 32 := Scalar.addi v545 c5_i32
  let c512_i32_289 : BitVec 32 := 512#32
  let v551 : BitVec 32 := Scalar.muli v546 c512_i32_289
  v551
def k0_mult7 (k0_t1 : Fin k0_t1_loop.trips) : BitVec 32 :=
  let c0_i32_318 : BitVec 32 := 0#32
  let c16_i32_317 : BitVec 32 := 16#32
  let c0_i32_48 : BitVec 32 := 0#32
  let c1_i32_50 : BitVec 32 := 1#32
  let arg17 : BitVec 32 := Scf.iv c0_i32_48 c1_i32_50 k0_t1
  let v613 : BitVec 32 := Scalar.muli c16_i32_317 arg17
  let v614 : BitVec 32 := Scalar.addi c0_i32_318 v613
  let c6_i32 : BitVec 32 := 6#32
  let v615 : BitVec 32 := Scalar.addi v614 c6_i32
  let c512_i32_323 : BitVec 32 := 512#32
  let v620 : BitVec 32 := Scalar.muli v615 c512_i32_323
  v620
def k0_mult8 (k0_t1 : Fin k0_t1_loop.trips) : BitVec 32 :=
  let c0_i32_352 : BitVec 32 := 0#32
  let c16_i32_351 : BitVec 32 := 16#32
  let c0_i32_48 : BitVec 32 := 0#32
  let c1_i32_50 : BitVec 32 := 1#32
  let arg17 : BitVec 32 := Scf.iv c0_i32_48 c1_i32_50 k0_t1
  let v682 : BitVec 32 := Scalar.muli c16_i32_351 arg17
  let v683 : BitVec 32 := Scalar.addi c0_i32_352 v682
  let c7_i32 : BitVec 32 := 7#32
  let v684 : BitVec 32 := Scalar.addi v683 c7_i32
  let c512_i32_357 : BitVec 32 := 512#32
  let v689 : BitVec 32 := Scalar.muli v684 c512_i32_357
  v689
def k0_mult9 (k0_t1 : Fin k0_t1_loop.trips) : BitVec 32 :=
  let c0_i32_386 : BitVec 32 := 0#32
  let c16_i32_385 : BitVec 32 := 16#32
  let c0_i32_48 : BitVec 32 := 0#32
  let c1_i32_50 : BitVec 32 := 1#32
  let arg17 : BitVec 32 := Scf.iv c0_i32_48 c1_i32_50 k0_t1
  let v751 : BitVec 32 := Scalar.muli c16_i32_385 arg17
  let v752 : BitVec 32 := Scalar.addi c0_i32_386 v751
  let c8_i32_387 : BitVec 32 := 8#32
  let v753 : BitVec 32 := Scalar.addi v752 c8_i32_387
  let c512_i32_392 : BitVec 32 := 512#32
  let v758 : BitVec 32 := Scalar.muli v753 c512_i32_392
  v758
def k0_mult10 (k0_t1 : Fin k0_t1_loop.trips) : BitVec 32 :=
  let c0_i32_421 : BitVec 32 := 0#32
  let c16_i32_420 : BitVec 32 := 16#32
  let c0_i32_48 : BitVec 32 := 0#32
  let c1_i32_50 : BitVec 32 := 1#32
  let arg17 : BitVec 32 := Scf.iv c0_i32_48 c1_i32_50 k0_t1
  let v820 : BitVec 32 := Scalar.muli c16_i32_420 arg17
  let v821 : BitVec 32 := Scalar.addi c0_i32_421 v820
  let c9_i32 : BitVec 32 := 9#32
  let v822 : BitVec 32 := Scalar.addi v821 c9_i32
  let c512_i32_426 : BitVec 32 := 512#32
  let v827 : BitVec 32 := Scalar.muli v822 c512_i32_426
  v827
def k0_mult11 (k0_t1 : Fin k0_t1_loop.trips) : BitVec 32 :=
  let c0_i32_455 : BitVec 32 := 0#32
  let c16_i32_454 : BitVec 32 := 16#32
  let c0_i32_48 : BitVec 32 := 0#32
  let c1_i32_50 : BitVec 32 := 1#32
  let arg17 : BitVec 32 := Scf.iv c0_i32_48 c1_i32_50 k0_t1
  let v889 : BitVec 32 := Scalar.muli c16_i32_454 arg17
  let v890 : BitVec 32 := Scalar.addi c0_i32_455 v889
  let c10_i32 : BitVec 32 := 10#32
  let v891 : BitVec 32 := Scalar.addi v890 c10_i32
  let c512_i32_460 : BitVec 32 := 512#32
  let v896 : BitVec 32 := Scalar.muli v891 c512_i32_460
  v896
def k0_mult12 (k0_t1 : Fin k0_t1_loop.trips) : BitVec 32 :=
  let c0_i32_489 : BitVec 32 := 0#32
  let c16_i32_488 : BitVec 32 := 16#32
  let c0_i32_48 : BitVec 32 := 0#32
  let c1_i32_50 : BitVec 32 := 1#32
  let arg17 : BitVec 32 := Scf.iv c0_i32_48 c1_i32_50 k0_t1
  let v958 : BitVec 32 := Scalar.muli c16_i32_488 arg17
  let v959 : BitVec 32 := Scalar.addi c0_i32_489 v958
  let c11_i32 : BitVec 32 := 11#32
  let v960 : BitVec 32 := Scalar.addi v959 c11_i32
  let c512_i32_494 : BitVec 32 := 512#32
  let v965 : BitVec 32 := Scalar.muli v960 c512_i32_494
  v965
def k0_mult13 (k0_t1 : Fin k0_t1_loop.trips) : BitVec 32 :=
  let c0_i32_523 : BitVec 32 := 0#32
  let c16_i32_522 : BitVec 32 := 16#32
  let c0_i32_48 : BitVec 32 := 0#32
  let c1_i32_50 : BitVec 32 := 1#32
  let arg17 : BitVec 32 := Scf.iv c0_i32_48 c1_i32_50 k0_t1
  let v1027 : BitVec 32 := Scalar.muli c16_i32_522 arg17
  let v1028 : BitVec 32 := Scalar.addi c0_i32_523 v1027
  let c12_i32 : BitVec 32 := 12#32
  let v1029 : BitVec 32 := Scalar.addi v1028 c12_i32
  let c512_i32_528 : BitVec 32 := 512#32
  let v1034 : BitVec 32 := Scalar.muli v1029 c512_i32_528
  v1034
def k0_mult14 (k0_t1 : Fin k0_t1_loop.trips) : BitVec 32 :=
  let c0_i32_557 : BitVec 32 := 0#32
  let c16_i32_556 : BitVec 32 := 16#32
  let c0_i32_48 : BitVec 32 := 0#32
  let c1_i32_50 : BitVec 32 := 1#32
  let arg17 : BitVec 32 := Scf.iv c0_i32_48 c1_i32_50 k0_t1
  let v1096 : BitVec 32 := Scalar.muli c16_i32_556 arg17
  let v1097 : BitVec 32 := Scalar.addi c0_i32_557 v1096
  let c13_i32 : BitVec 32 := 13#32
  let v1098 : BitVec 32 := Scalar.addi v1097 c13_i32
  let c512_i32_562 : BitVec 32 := 512#32
  let v1103 : BitVec 32 := Scalar.muli v1098 c512_i32_562
  v1103
def k0_mult15 (k0_t1 : Fin k0_t1_loop.trips) : BitVec 32 :=
  let c0_i32_591 : BitVec 32 := 0#32
  let c16_i32_590 : BitVec 32 := 16#32
  let c0_i32_48 : BitVec 32 := 0#32
  let c1_i32_50 : BitVec 32 := 1#32
  let arg17 : BitVec 32 := Scf.iv c0_i32_48 c1_i32_50 k0_t1
  let v1165 : BitVec 32 := Scalar.muli c16_i32_590 arg17
  let v1166 : BitVec 32 := Scalar.addi c0_i32_591 v1165
  let c14_i32 : BitVec 32 := 14#32
  let v1167 : BitVec 32 := Scalar.addi v1166 c14_i32
  let c512_i32_596 : BitVec 32 := 512#32
  let v1172 : BitVec 32 := Scalar.muli v1167 c512_i32_596
  v1172
def k0_mult16 (k0_t1 : Fin k0_t1_loop.trips) : BitVec 32 :=
  let c0_i32_625 : BitVec 32 := 0#32
  let c16_i32_624 : BitVec 32 := 16#32
  let c0_i32_48 : BitVec 32 := 0#32
  let c1_i32_50 : BitVec 32 := 1#32
  let arg17 : BitVec 32 := Scf.iv c0_i32_48 c1_i32_50 k0_t1
  let v1234 : BitVec 32 := Scalar.muli c16_i32_624 arg17
  let v1235 : BitVec 32 := Scalar.addi c0_i32_625 v1234
  let c15_i32 : BitVec 32 := 15#32
  let v1236 : BitVec 32 := Scalar.addi v1235 c15_i32
  let c512_i32_630 : BitVec 32 := 512#32
  let v1241 : BitVec 32 := Scalar.muli v1236 c512_i32_630
  v1241
@[reducible] def k0_t2_loop : Scf.Loop 32 :=
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let v91 : BitVec 32 := Scalar.addi c0_i32_48 v90
  let c1_i32_51 : BitVec 32 := 1#32
  ⟨v94, v91, c1_i32_51⟩
def k0_mult17 (k0_t2 : Fin k0_t2_loop.trips) : BitVec 32 :=
  let c0_i32_112 : BitVec 32 := 0#32
  let c16_i32_111 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v199 : BitVec 32 := Scalar.muli c16_i32_111 arg17
  let v200 : BitVec 32 := Scalar.addi c0_i32_112 v199
  let c0_i32_113 : BitVec 32 := 0#32
  let v201 : BitVec 32 := Scalar.addi v200 c0_i32_113
  let c512_i32_117 : BitVec 32 := 512#32
  let v206 : BitVec 32 := Scalar.muli v201 c512_i32_117
  v206
def k0_off4 (k0_t2 : Fin k0_t2_loop.trips) (c0_i32_113 : BitVec 32) : Fin 2 → Nat :=
  let c0_i32_112 : BitVec 32 := 0#32
  let c16_i32_111 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v199 : BitVec 32 := Scalar.muli c16_i32_111 arg17
  let v200 : BitVec 32 := Scalar.addi c0_i32_112 v199
  let v201 : BitVec 32 := Scalar.addi v200 c0_i32_113
  let c512_i32_117 : BitVec 32 := 512#32
  let v206 : BitVec 32 := Scalar.muli v201 c512_i32_117
  let v207 : BitVec 32 := v206
  let v208 : Index := Scalar.indexCast v207
  let c0_118 : Index := 0#32
  ![v208.toNat, 0]
def k0_off5 (k0_t2 : Fin k0_t2_loop.trips) (c0_i32_113 : BitVec 32) : Fin 2 → Nat :=
  let c0_i32_112 : BitVec 32 := 0#32
  let c16_i32_111 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v199 : BitVec 32 := Scalar.muli c16_i32_111 arg17
  let v200 : BitVec 32 := Scalar.addi c0_i32_112 v199
  let v201 : BitVec 32 := Scalar.addi v200 c0_i32_113
  let c512_i32_117 : BitVec 32 := 512#32
  let v206 : BitVec 32 := Scalar.muli v201 c512_i32_117
  let v207 : BitVec 32 := v206
  let v211 : Index := Scalar.indexCast v207
  let c0_119 : Index := 0#32
  ![v211.toNat, 0]
def k0_off6 (k0_t2 : Fin k0_t2_loop.trips) (c0_i32_113 : BitVec 32) : Fin 3 → Nat :=
  let c0_120 : Index := 0#32
  let c0_121 : Index := 0#32
  let c0_i32_112 : BitVec 32 := 0#32
  let c16_i32_111 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v199 : BitVec 32 := Scalar.muli c16_i32_111 arg17
  let v200 : BitVec 32 := Scalar.addi c0_i32_112 v199
  let v201 : BitVec 32 := Scalar.addi v200 c0_i32_113
  let c512_i32_117 : BitVec 32 := 512#32
  let v206 : BitVec 32 := Scalar.muli v201 c512_i32_117
  let v207 : BitVec 32 := v206
  let v214 : Index := Scalar.indexCast v207
  ![0, 0, v214.toNat]
def k0_mult18 (k0_t2 : Fin k0_t2_loop.trips) : BitVec 32 :=
  let c0_i32_144 : BitVec 32 := 0#32
  let c16_i32_143 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v268 : BitVec 32 := Scalar.muli c16_i32_143 arg17
  let v269 : BitVec 32 := Scalar.addi c0_i32_144 v268
  let c1_i32_145 : BitVec 32 := 1#32
  let v270 : BitVec 32 := Scalar.addi v269 c1_i32_145
  let c512_i32_150 : BitVec 32 := 512#32
  let v275 : BitVec 32 := Scalar.muli v270 c512_i32_150
  v275
def k0_mult19 (k0_t2 : Fin k0_t2_loop.trips) : BitVec 32 :=
  let c0_i32_179 : BitVec 32 := 0#32
  let c16_i32_178 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v337 : BitVec 32 := Scalar.muli c16_i32_178 arg17
  let v338 : BitVec 32 := Scalar.addi c0_i32_179 v337
  let c2_i32_180 : BitVec 32 := 2#32
  let v339 : BitVec 32 := Scalar.addi v338 c2_i32_180
  let c512_i32_185 : BitVec 32 := 512#32
  let v344 : BitVec 32 := Scalar.muli v339 c512_i32_185
  v344
def k0_mult20 (k0_t2 : Fin k0_t2_loop.trips) : BitVec 32 :=
  let c0_i32_214 : BitVec 32 := 0#32
  let c16_i32_213 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v406 : BitVec 32 := Scalar.muli c16_i32_213 arg17
  let v407 : BitVec 32 := Scalar.addi c0_i32_214 v406
  let c3_i32_215 : BitVec 32 := 3#32
  let v408 : BitVec 32 := Scalar.addi v407 c3_i32_215
  let c512_i32_220 : BitVec 32 := 512#32
  let v413 : BitVec 32 := Scalar.muli v408 c512_i32_220
  v413
def k0_mult21 (k0_t2 : Fin k0_t2_loop.trips) : BitVec 32 :=
  let c0_i32_249 : BitVec 32 := 0#32
  let c16_i32_248 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v475 : BitVec 32 := Scalar.muli c16_i32_248 arg17
  let v476 : BitVec 32 := Scalar.addi c0_i32_249 v475
  let c4_i32_250 : BitVec 32 := 4#32
  let v477 : BitVec 32 := Scalar.addi v476 c4_i32_250
  let c512_i32_255 : BitVec 32 := 512#32
  let v482 : BitVec 32 := Scalar.muli v477 c512_i32_255
  v482
def k0_mult22 (k0_t2 : Fin k0_t2_loop.trips) : BitVec 32 :=
  let c0_i32_284 : BitVec 32 := 0#32
  let c16_i32_283 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v544 : BitVec 32 := Scalar.muli c16_i32_283 arg17
  let v545 : BitVec 32 := Scalar.addi c0_i32_284 v544
  let c5_i32 : BitVec 32 := 5#32
  let v546 : BitVec 32 := Scalar.addi v545 c5_i32
  let c512_i32_289 : BitVec 32 := 512#32
  let v551 : BitVec 32 := Scalar.muli v546 c512_i32_289
  v551
def k0_mult23 (k0_t2 : Fin k0_t2_loop.trips) : BitVec 32 :=
  let c0_i32_318 : BitVec 32 := 0#32
  let c16_i32_317 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v613 : BitVec 32 := Scalar.muli c16_i32_317 arg17
  let v614 : BitVec 32 := Scalar.addi c0_i32_318 v613
  let c6_i32 : BitVec 32 := 6#32
  let v615 : BitVec 32 := Scalar.addi v614 c6_i32
  let c512_i32_323 : BitVec 32 := 512#32
  let v620 : BitVec 32 := Scalar.muli v615 c512_i32_323
  v620
def k0_mult24 (k0_t2 : Fin k0_t2_loop.trips) : BitVec 32 :=
  let c0_i32_352 : BitVec 32 := 0#32
  let c16_i32_351 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v682 : BitVec 32 := Scalar.muli c16_i32_351 arg17
  let v683 : BitVec 32 := Scalar.addi c0_i32_352 v682
  let c7_i32 : BitVec 32 := 7#32
  let v684 : BitVec 32 := Scalar.addi v683 c7_i32
  let c512_i32_357 : BitVec 32 := 512#32
  let v689 : BitVec 32 := Scalar.muli v684 c512_i32_357
  v689
def k0_mult25 (k0_t2 : Fin k0_t2_loop.trips) : BitVec 32 :=
  let c0_i32_386 : BitVec 32 := 0#32
  let c16_i32_385 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v751 : BitVec 32 := Scalar.muli c16_i32_385 arg17
  let v752 : BitVec 32 := Scalar.addi c0_i32_386 v751
  let c8_i32_387 : BitVec 32 := 8#32
  let v753 : BitVec 32 := Scalar.addi v752 c8_i32_387
  let c512_i32_392 : BitVec 32 := 512#32
  let v758 : BitVec 32 := Scalar.muli v753 c512_i32_392
  v758
def k0_mult26 (k0_t2 : Fin k0_t2_loop.trips) : BitVec 32 :=
  let c0_i32_421 : BitVec 32 := 0#32
  let c16_i32_420 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v820 : BitVec 32 := Scalar.muli c16_i32_420 arg17
  let v821 : BitVec 32 := Scalar.addi c0_i32_421 v820
  let c9_i32 : BitVec 32 := 9#32
  let v822 : BitVec 32 := Scalar.addi v821 c9_i32
  let c512_i32_426 : BitVec 32 := 512#32
  let v827 : BitVec 32 := Scalar.muli v822 c512_i32_426
  v827
def k0_mult27 (k0_t2 : Fin k0_t2_loop.trips) : BitVec 32 :=
  let c0_i32_455 : BitVec 32 := 0#32
  let c16_i32_454 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v889 : BitVec 32 := Scalar.muli c16_i32_454 arg17
  let v890 : BitVec 32 := Scalar.addi c0_i32_455 v889
  let c10_i32 : BitVec 32 := 10#32
  let v891 : BitVec 32 := Scalar.addi v890 c10_i32
  let c512_i32_460 : BitVec 32 := 512#32
  let v896 : BitVec 32 := Scalar.muli v891 c512_i32_460
  v896
def k0_mult28 (k0_t2 : Fin k0_t2_loop.trips) : BitVec 32 :=
  let c0_i32_489 : BitVec 32 := 0#32
  let c16_i32_488 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v958 : BitVec 32 := Scalar.muli c16_i32_488 arg17
  let v959 : BitVec 32 := Scalar.addi c0_i32_489 v958
  let c11_i32 : BitVec 32 := 11#32
  let v960 : BitVec 32 := Scalar.addi v959 c11_i32
  let c512_i32_494 : BitVec 32 := 512#32
  let v965 : BitVec 32 := Scalar.muli v960 c512_i32_494
  v965
def k0_mult29 (k0_t2 : Fin k0_t2_loop.trips) : BitVec 32 :=
  let c0_i32_523 : BitVec 32 := 0#32
  let c16_i32_522 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v1027 : BitVec 32 := Scalar.muli c16_i32_522 arg17
  let v1028 : BitVec 32 := Scalar.addi c0_i32_523 v1027
  let c12_i32 : BitVec 32 := 12#32
  let v1029 : BitVec 32 := Scalar.addi v1028 c12_i32
  let c512_i32_528 : BitVec 32 := 512#32
  let v1034 : BitVec 32 := Scalar.muli v1029 c512_i32_528
  v1034
def k0_mult30 (k0_t2 : Fin k0_t2_loop.trips) : BitVec 32 :=
  let c0_i32_557 : BitVec 32 := 0#32
  let c16_i32_556 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v1096 : BitVec 32 := Scalar.muli c16_i32_556 arg17
  let v1097 : BitVec 32 := Scalar.addi c0_i32_557 v1096
  let c13_i32 : BitVec 32 := 13#32
  let v1098 : BitVec 32 := Scalar.addi v1097 c13_i32
  let c512_i32_562 : BitVec 32 := 512#32
  let v1103 : BitVec 32 := Scalar.muli v1098 c512_i32_562
  v1103
def k0_mult31 (k0_t2 : Fin k0_t2_loop.trips) : BitVec 32 :=
  let c0_i32_591 : BitVec 32 := 0#32
  let c16_i32_590 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v1165 : BitVec 32 := Scalar.muli c16_i32_590 arg17
  let v1166 : BitVec 32 := Scalar.addi c0_i32_591 v1165
  let c14_i32 : BitVec 32 := 14#32
  let v1167 : BitVec 32 := Scalar.addi v1166 c14_i32
  let c512_i32_596 : BitVec 32 := 512#32
  let v1172 : BitVec 32 := Scalar.muli v1167 c512_i32_596
  v1172
def k0_mult32 (k0_t2 : Fin k0_t2_loop.trips) : BitVec 32 :=
  let c0_i32_625 : BitVec 32 := 0#32
  let c16_i32_624 : BitVec 32 := 16#32
  let c0_i32_48 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let v90 : BitVec 32 := Scalar.subi v89 c0_i32_48
  let c1_i32_49 : BitVec 32 := 1#32
  let v92 : BitVec 32 := Scalar.divsi v90 c1_i32_49
  let v93 : BitVec 32 := Scalar.muli v92 c1_i32_49
  let v94 : BitVec 32 := Scalar.addi c0_i32_48 v93
  let c1_i32_51 : BitVec 32 := 1#32
  let arg17 : BitVec 32 := Scf.iv v94 c1_i32_51 k0_t2
  let v1234 : BitVec 32 := Scalar.muli c16_i32_624 arg17
  let v1235 : BitVec 32 := Scalar.addi c0_i32_625 v1234
  let c15_i32 : BitVec 32 := 15#32
  let v1236 : BitVec 32 := Scalar.addi v1235 c15_i32
  let c512_i32_630 : BitVec 32 := 512#32
  let v1241 : BitVec 32 := Scalar.muli v1236 c512_i32_630
  v1241
@[reducible] def k0_t3_loop : Scf.Loop 32 :=
  let c0_i32_63 : BitVec 32 := 0#32
  let c33_i32_54 : BitVec 32 := 33#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let c1_i32_65 : BitVec 32 := 1#32
  ⟨c0_i32_63, v120, c1_i32_65⟩
def k0_mult33 (k0_t3 : Fin k0_t3_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_111 : BitVec 32 := 8#32
  let c0_i32_63 : BitVec 32 := 0#32
  let c1_i32_65 : BitVec 32 := 1#32
  let arg17 : BitVec 32 := Scf.iv c0_i32_63 c1_i32_65 k0_t3
  let v199 : BitVec 32 := Scalar.muli c8_i32_111 arg17
  let v200 : BitVec 32 := Scalar.addi v96 v199
  let c0_i32_112 : BitVec 32 := 0#32
  let v201 : BitVec 32 := Scalar.addi v200 c0_i32_112
  let c512_i32_116 : BitVec 32 := 512#32
  let v206 : BitVec 32 := Scalar.muli v201 c512_i32_116
  v206
def k0_off7 (k0_t3 : Fin k0_t3_loop.trips) (c0_i32_112 : BitVec 32) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_111 : BitVec 32 := 8#32
  let c0_i32_63 : BitVec 32 := 0#32
  let c1_i32_65 : BitVec 32 := 1#32
  let arg17 : BitVec 32 := Scf.iv c0_i32_63 c1_i32_65 k0_t3
  let v199 : BitVec 32 := Scalar.muli c8_i32_111 arg17
  let v200 : BitVec 32 := Scalar.addi v96 v199
  let v201 : BitVec 32 := Scalar.addi v200 c0_i32_112
  let c512_i32_116 : BitVec 32 := 512#32
  let v206 : BitVec 32 := Scalar.muli v201 c512_i32_116
  let v207 : BitVec 32 := v206
  let v208 : Index := Scalar.indexCast v207
  let c0_117 : Index := 0#32
  ![v208.toNat, 0]
def k0_off8 (k0_t3 : Fin k0_t3_loop.trips) (c0_i32_112 : BitVec 32) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_111 : BitVec 32 := 8#32
  let c0_i32_63 : BitVec 32 := 0#32
  let c1_i32_65 : BitVec 32 := 1#32
  let arg17 : BitVec 32 := Scf.iv c0_i32_63 c1_i32_65 k0_t3
  let v199 : BitVec 32 := Scalar.muli c8_i32_111 arg17
  let v200 : BitVec 32 := Scalar.addi v96 v199
  let v201 : BitVec 32 := Scalar.addi v200 c0_i32_112
  let c512_i32_116 : BitVec 32 := 512#32
  let v206 : BitVec 32 := Scalar.muli v201 c512_i32_116
  let v207 : BitVec 32 := v206
  let v211 : Index := Scalar.indexCast v207
  let c0_118 : Index := 0#32
  ![v211.toNat, 0]
def k0_off9 (k0_t3 : Fin k0_t3_loop.trips) (c0_i32_112 : BitVec 32) : Fin 3 → Nat :=
  let c0_119 : Index := 0#32
  let c0_120 : Index := 0#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_111 : BitVec 32 := 8#32
  let c0_i32_63 : BitVec 32 := 0#32
  let c1_i32_65 : BitVec 32 := 1#32
  let arg17 : BitVec 32 := Scf.iv c0_i32_63 c1_i32_65 k0_t3
  let v199 : BitVec 32 := Scalar.muli c8_i32_111 arg17
  let v200 : BitVec 32 := Scalar.addi v96 v199
  let v201 : BitVec 32 := Scalar.addi v200 c0_i32_112
  let c512_i32_116 : BitVec 32 := 512#32
  let v206 : BitVec 32 := Scalar.muli v201 c512_i32_116
  let v207 : BitVec 32 := v206
  let v214 : Index := Scalar.indexCast v207
  ![0, 0, v214.toNat]
def k0_mult34 (k0_t3 : Fin k0_t3_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_142 : BitVec 32 := 8#32
  let c0_i32_63 : BitVec 32 := 0#32
  let c1_i32_65 : BitVec 32 := 1#32
  let arg17 : BitVec 32 := Scf.iv c0_i32_63 c1_i32_65 k0_t3
  let v268 : BitVec 32 := Scalar.muli c8_i32_142 arg17
  let v269 : BitVec 32 := Scalar.addi v96 v268
  let c1_i32_143 : BitVec 32 := 1#32
  let v270 : BitVec 32 := Scalar.addi v269 c1_i32_143
  let c512_i32_148 : BitVec 32 := 512#32
  let v275 : BitVec 32 := Scalar.muli v270 c512_i32_148
  v275
def k0_mult35 (k0_t3 : Fin k0_t3_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_176 : BitVec 32 := 8#32
  let c0_i32_63 : BitVec 32 := 0#32
  let c1_i32_65 : BitVec 32 := 1#32
  let arg17 : BitVec 32 := Scf.iv c0_i32_63 c1_i32_65 k0_t3
  let v337 : BitVec 32 := Scalar.muli c8_i32_176 arg17
  let v338 : BitVec 32 := Scalar.addi v96 v337
  let c2_i32_177 : BitVec 32 := 2#32
  let v339 : BitVec 32 := Scalar.addi v338 c2_i32_177
  let c512_i32_182 : BitVec 32 := 512#32
  let v344 : BitVec 32 := Scalar.muli v339 c512_i32_182
  v344
def k0_mult36 (k0_t3 : Fin k0_t3_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_210 : BitVec 32 := 8#32
  let c0_i32_63 : BitVec 32 := 0#32
  let c1_i32_65 : BitVec 32 := 1#32
  let arg17 : BitVec 32 := Scf.iv c0_i32_63 c1_i32_65 k0_t3
  let v406 : BitVec 32 := Scalar.muli c8_i32_210 arg17
  let v407 : BitVec 32 := Scalar.addi v96 v406
  let c3_i32_211 : BitVec 32 := 3#32
  let v408 : BitVec 32 := Scalar.addi v407 c3_i32_211
  let c512_i32_216 : BitVec 32 := 512#32
  let v413 : BitVec 32 := Scalar.muli v408 c512_i32_216
  v413
def k0_mult37 (k0_t3 : Fin k0_t3_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_244 : BitVec 32 := 8#32
  let c0_i32_63 : BitVec 32 := 0#32
  let c1_i32_65 : BitVec 32 := 1#32
  let arg17 : BitVec 32 := Scf.iv c0_i32_63 c1_i32_65 k0_t3
  let v475 : BitVec 32 := Scalar.muli c8_i32_244 arg17
  let v476 : BitVec 32 := Scalar.addi v96 v475
  let c4_i32_245 : BitVec 32 := 4#32
  let v477 : BitVec 32 := Scalar.addi v476 c4_i32_245
  let c512_i32_250 : BitVec 32 := 512#32
  let v482 : BitVec 32 := Scalar.muli v477 c512_i32_250
  v482
def k0_mult38 (k0_t3 : Fin k0_t3_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_278 : BitVec 32 := 8#32
  let c0_i32_63 : BitVec 32 := 0#32
  let c1_i32_65 : BitVec 32 := 1#32
  let arg17 : BitVec 32 := Scf.iv c0_i32_63 c1_i32_65 k0_t3
  let v544 : BitVec 32 := Scalar.muli c8_i32_278 arg17
  let v545 : BitVec 32 := Scalar.addi v96 v544
  let c5_i32 : BitVec 32 := 5#32
  let v546 : BitVec 32 := Scalar.addi v545 c5_i32
  let c512_i32_283 : BitVec 32 := 512#32
  let v551 : BitVec 32 := Scalar.muli v546 c512_i32_283
  v551
def k0_mult39 (k0_t3 : Fin k0_t3_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_311 : BitVec 32 := 8#32
  let c0_i32_63 : BitVec 32 := 0#32
  let c1_i32_65 : BitVec 32 := 1#32
  let arg17 : BitVec 32 := Scf.iv c0_i32_63 c1_i32_65 k0_t3
  let v613 : BitVec 32 := Scalar.muli c8_i32_311 arg17
  let v614 : BitVec 32 := Scalar.addi v96 v613
  let c6_i32 : BitVec 32 := 6#32
  let v615 : BitVec 32 := Scalar.addi v614 c6_i32
  let c512_i32_316 : BitVec 32 := 512#32
  let v620 : BitVec 32 := Scalar.muli v615 c512_i32_316
  v620
def k0_mult40 (k0_t3 : Fin k0_t3_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_344 : BitVec 32 := 8#32
  let c0_i32_63 : BitVec 32 := 0#32
  let c1_i32_65 : BitVec 32 := 1#32
  let arg17 : BitVec 32 := Scf.iv c0_i32_63 c1_i32_65 k0_t3
  let v682 : BitVec 32 := Scalar.muli c8_i32_344 arg17
  let v683 : BitVec 32 := Scalar.addi v96 v682
  let c7_i32 : BitVec 32 := 7#32
  let v684 : BitVec 32 := Scalar.addi v683 c7_i32
  let c512_i32_349 : BitVec 32 := 512#32
  let v689 : BitVec 32 := Scalar.muli v684 c512_i32_349
  v689
@[reducible] def k0_t4_loop : Scf.Loop 32 :=
  let c0_i32_63 : BitVec 32 := 0#32
  let c33_i32_54 : BitVec 32 := 33#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let v117 : BitVec 32 := Scalar.addi c0_i32_63 v116
  let c1_i32_66 : BitVec 32 := 1#32
  ⟨v120, v117, c1_i32_66⟩
def k0_mult41 (k0_t4 : Fin k0_t4_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_111 : BitVec 32 := 8#32
  let c0_i32_63 : BitVec 32 := 0#32
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let c1_i32_66 : BitVec 32 := 1#32
  let arg17 : BitVec 32 := Scf.iv v120 c1_i32_66 k0_t4
  let v199 : BitVec 32 := Scalar.muli c8_i32_111 arg17
  let v200 : BitVec 32 := Scalar.addi v96 v199
  let c0_i32_112 : BitVec 32 := 0#32
  let v201 : BitVec 32 := Scalar.addi v200 c0_i32_112
  let c512_i32_116 : BitVec 32 := 512#32
  let v206 : BitVec 32 := Scalar.muli v201 c512_i32_116
  v206
def k0_off10 (k0_t4 : Fin k0_t4_loop.trips) (c0_i32_112 : BitVec 32) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_111 : BitVec 32 := 8#32
  let c0_i32_63 : BitVec 32 := 0#32
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let c1_i32_66 : BitVec 32 := 1#32
  let arg17 : BitVec 32 := Scf.iv v120 c1_i32_66 k0_t4
  let v199 : BitVec 32 := Scalar.muli c8_i32_111 arg17
  let v200 : BitVec 32 := Scalar.addi v96 v199
  let v201 : BitVec 32 := Scalar.addi v200 c0_i32_112
  let c512_i32_116 : BitVec 32 := 512#32
  let v206 : BitVec 32 := Scalar.muli v201 c512_i32_116
  let v207 : BitVec 32 := v206
  let v208 : Index := Scalar.indexCast v207
  let c0_117 : Index := 0#32
  ![v208.toNat, 0]
def k0_off11 (k0_t4 : Fin k0_t4_loop.trips) (c0_i32_112 : BitVec 32) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_111 : BitVec 32 := 8#32
  let c0_i32_63 : BitVec 32 := 0#32
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let c1_i32_66 : BitVec 32 := 1#32
  let arg17 : BitVec 32 := Scf.iv v120 c1_i32_66 k0_t4
  let v199 : BitVec 32 := Scalar.muli c8_i32_111 arg17
  let v200 : BitVec 32 := Scalar.addi v96 v199
  let v201 : BitVec 32 := Scalar.addi v200 c0_i32_112
  let c512_i32_116 : BitVec 32 := 512#32
  let v206 : BitVec 32 := Scalar.muli v201 c512_i32_116
  let v207 : BitVec 32 := v206
  let v211 : Index := Scalar.indexCast v207
  let c0_118 : Index := 0#32
  ![v211.toNat, 0]
def k0_off12 (k0_t4 : Fin k0_t4_loop.trips) (c0_i32_112 : BitVec 32) : Fin 3 → Nat :=
  let c0_119 : Index := 0#32
  let c0_120 : Index := 0#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_111 : BitVec 32 := 8#32
  let c0_i32_63 : BitVec 32 := 0#32
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let c1_i32_66 : BitVec 32 := 1#32
  let arg17 : BitVec 32 := Scf.iv v120 c1_i32_66 k0_t4
  let v199 : BitVec 32 := Scalar.muli c8_i32_111 arg17
  let v200 : BitVec 32 := Scalar.addi v96 v199
  let v201 : BitVec 32 := Scalar.addi v200 c0_i32_112
  let c512_i32_116 : BitVec 32 := 512#32
  let v206 : BitVec 32 := Scalar.muli v201 c512_i32_116
  let v207 : BitVec 32 := v206
  let v214 : Index := Scalar.indexCast v207
  ![0, 0, v214.toNat]
def k0_mult42 (k0_t4 : Fin k0_t4_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_142 : BitVec 32 := 8#32
  let c0_i32_63 : BitVec 32 := 0#32
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let c1_i32_66 : BitVec 32 := 1#32
  let arg17 : BitVec 32 := Scf.iv v120 c1_i32_66 k0_t4
  let v268 : BitVec 32 := Scalar.muli c8_i32_142 arg17
  let v269 : BitVec 32 := Scalar.addi v96 v268
  let c1_i32_143 : BitVec 32 := 1#32
  let v270 : BitVec 32 := Scalar.addi v269 c1_i32_143
  let c512_i32_148 : BitVec 32 := 512#32
  let v275 : BitVec 32 := Scalar.muli v270 c512_i32_148
  v275
def k0_mult43 (k0_t4 : Fin k0_t4_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_176 : BitVec 32 := 8#32
  let c0_i32_63 : BitVec 32 := 0#32
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let c1_i32_66 : BitVec 32 := 1#32
  let arg17 : BitVec 32 := Scf.iv v120 c1_i32_66 k0_t4
  let v337 : BitVec 32 := Scalar.muli c8_i32_176 arg17
  let v338 : BitVec 32 := Scalar.addi v96 v337
  let c2_i32_177 : BitVec 32 := 2#32
  let v339 : BitVec 32 := Scalar.addi v338 c2_i32_177
  let c512_i32_182 : BitVec 32 := 512#32
  let v344 : BitVec 32 := Scalar.muli v339 c512_i32_182
  v344
def k0_mult44 (k0_t4 : Fin k0_t4_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_210 : BitVec 32 := 8#32
  let c0_i32_63 : BitVec 32 := 0#32
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let c1_i32_66 : BitVec 32 := 1#32
  let arg17 : BitVec 32 := Scf.iv v120 c1_i32_66 k0_t4
  let v406 : BitVec 32 := Scalar.muli c8_i32_210 arg17
  let v407 : BitVec 32 := Scalar.addi v96 v406
  let c3_i32_211 : BitVec 32 := 3#32
  let v408 : BitVec 32 := Scalar.addi v407 c3_i32_211
  let c512_i32_216 : BitVec 32 := 512#32
  let v413 : BitVec 32 := Scalar.muli v408 c512_i32_216
  v413
def k0_mult45 (k0_t4 : Fin k0_t4_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_244 : BitVec 32 := 8#32
  let c0_i32_63 : BitVec 32 := 0#32
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let c1_i32_66 : BitVec 32 := 1#32
  let arg17 : BitVec 32 := Scf.iv v120 c1_i32_66 k0_t4
  let v475 : BitVec 32 := Scalar.muli c8_i32_244 arg17
  let v476 : BitVec 32 := Scalar.addi v96 v475
  let c4_i32_245 : BitVec 32 := 4#32
  let v477 : BitVec 32 := Scalar.addi v476 c4_i32_245
  let c512_i32_250 : BitVec 32 := 512#32
  let v482 : BitVec 32 := Scalar.muli v477 c512_i32_250
  v482
def k0_mult46 (k0_t4 : Fin k0_t4_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_278 : BitVec 32 := 8#32
  let c0_i32_63 : BitVec 32 := 0#32
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let c1_i32_66 : BitVec 32 := 1#32
  let arg17 : BitVec 32 := Scf.iv v120 c1_i32_66 k0_t4
  let v544 : BitVec 32 := Scalar.muli c8_i32_278 arg17
  let v545 : BitVec 32 := Scalar.addi v96 v544
  let c5_i32 : BitVec 32 := 5#32
  let v546 : BitVec 32 := Scalar.addi v545 c5_i32
  let c512_i32_283 : BitVec 32 := 512#32
  let v551 : BitVec 32 := Scalar.muli v546 c512_i32_283
  v551
def k0_mult47 (k0_t4 : Fin k0_t4_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_311 : BitVec 32 := 8#32
  let c0_i32_63 : BitVec 32 := 0#32
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let c1_i32_66 : BitVec 32 := 1#32
  let arg17 : BitVec 32 := Scf.iv v120 c1_i32_66 k0_t4
  let v613 : BitVec 32 := Scalar.muli c8_i32_311 arg17
  let v614 : BitVec 32 := Scalar.addi v96 v613
  let c6_i32 : BitVec 32 := 6#32
  let v615 : BitVec 32 := Scalar.addi v614 c6_i32
  let c512_i32_316 : BitVec 32 := 512#32
  let v620 : BitVec 32 := Scalar.muli v615 c512_i32_316
  v620
def k0_mult48 (k0_t4 : Fin k0_t4_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c8_i32_344 : BitVec 32 := 8#32
  let c0_i32_63 : BitVec 32 := 0#32
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let v116 : BitVec 32 := Scalar.subi v115 c0_i32_63
  let c1_i32_64 : BitVec 32 := 1#32
  let v118 : BitVec 32 := Scalar.divsi v116 c1_i32_64
  let v119 : BitVec 32 := Scalar.muli v118 c1_i32_64
  let v120 : BitVec 32 := Scalar.addi c0_i32_63 v119
  let c1_i32_66 : BitVec 32 := 1#32
  let arg17 : BitVec 32 := Scf.iv v120 c1_i32_66 k0_t4
  let v682 : BitVec 32 := Scalar.muli c8_i32_344 arg17
  let v683 : BitVec 32 := Scalar.addi v96 v682
  let c7_i32 : BitVec 32 := 7#32
  let v684 : BitVec 32 := Scalar.addi v683 c7_i32
  let c512_i32_349 : BitVec 32 := 512#32
  let v689 : BitVec 32 := Scalar.muli v684 c512_i32_349
  v689
@[reducible] def k0_t5_loop : Scf.Loop 32 :=
  let c0_i32_77 : BitVec 32 := 0#32
  let c33_i32_68 : BitVec 32 := 33#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let c1_i32_79 : BitVec 32 := 1#32
  ⟨c0_i32_77, v146, c1_i32_79⟩
def k0_mult49 (k0_t5 : Fin k0_t5_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_111 : BitVec 32 := 4#32
  let c0_i32_77 : BitVec 32 := 0#32
  let c1_i32_79 : BitVec 32 := 1#32
  let arg17 : BitVec 32 := Scf.iv c0_i32_77 c1_i32_79 k0_t5
  let v199 : BitVec 32 := Scalar.muli c4_i32_111 arg17
  let v200 : BitVec 32 := Scalar.addi v122 v199
  let c0_i32_112 : BitVec 32 := 0#32
  let v201 : BitVec 32 := Scalar.addi v200 c0_i32_112
  let c512_i32_116 : BitVec 32 := 512#32
  let v206 : BitVec 32 := Scalar.muli v201 c512_i32_116
  v206
def k0_off13 (k0_t5 : Fin k0_t5_loop.trips) (c0_i32_112 : BitVec 32) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_111 : BitVec 32 := 4#32
  let c0_i32_77 : BitVec 32 := 0#32
  let c1_i32_79 : BitVec 32 := 1#32
  let arg17 : BitVec 32 := Scf.iv c0_i32_77 c1_i32_79 k0_t5
  let v199 : BitVec 32 := Scalar.muli c4_i32_111 arg17
  let v200 : BitVec 32 := Scalar.addi v122 v199
  let v201 : BitVec 32 := Scalar.addi v200 c0_i32_112
  let c512_i32_116 : BitVec 32 := 512#32
  let v206 : BitVec 32 := Scalar.muli v201 c512_i32_116
  let v207 : BitVec 32 := v206
  let v208 : Index := Scalar.indexCast v207
  let c0_117 : Index := 0#32
  ![v208.toNat, 0]
def k0_off14 (k0_t5 : Fin k0_t5_loop.trips) (c0_i32_112 : BitVec 32) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_111 : BitVec 32 := 4#32
  let c0_i32_77 : BitVec 32 := 0#32
  let c1_i32_79 : BitVec 32 := 1#32
  let arg17 : BitVec 32 := Scf.iv c0_i32_77 c1_i32_79 k0_t5
  let v199 : BitVec 32 := Scalar.muli c4_i32_111 arg17
  let v200 : BitVec 32 := Scalar.addi v122 v199
  let v201 : BitVec 32 := Scalar.addi v200 c0_i32_112
  let c512_i32_116 : BitVec 32 := 512#32
  let v206 : BitVec 32 := Scalar.muli v201 c512_i32_116
  let v207 : BitVec 32 := v206
  let v211 : Index := Scalar.indexCast v207
  let c0_118 : Index := 0#32
  ![v211.toNat, 0]
def k0_off15 (k0_t5 : Fin k0_t5_loop.trips) (c0_i32_112 : BitVec 32) : Fin 3 → Nat :=
  let c0_119 : Index := 0#32
  let c0_120 : Index := 0#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_111 : BitVec 32 := 4#32
  let c0_i32_77 : BitVec 32 := 0#32
  let c1_i32_79 : BitVec 32 := 1#32
  let arg17 : BitVec 32 := Scf.iv c0_i32_77 c1_i32_79 k0_t5
  let v199 : BitVec 32 := Scalar.muli c4_i32_111 arg17
  let v200 : BitVec 32 := Scalar.addi v122 v199
  let v201 : BitVec 32 := Scalar.addi v200 c0_i32_112
  let c512_i32_116 : BitVec 32 := 512#32
  let v206 : BitVec 32 := Scalar.muli v201 c512_i32_116
  let v207 : BitVec 32 := v206
  let v214 : Index := Scalar.indexCast v207
  ![0, 0, v214.toNat]
def k0_mult50 (k0_t5 : Fin k0_t5_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_142 : BitVec 32 := 4#32
  let c0_i32_77 : BitVec 32 := 0#32
  let c1_i32_79 : BitVec 32 := 1#32
  let arg17 : BitVec 32 := Scf.iv c0_i32_77 c1_i32_79 k0_t5
  let v268 : BitVec 32 := Scalar.muli c4_i32_142 arg17
  let v269 : BitVec 32 := Scalar.addi v122 v268
  let c1_i32_143 : BitVec 32 := 1#32
  let v270 : BitVec 32 := Scalar.addi v269 c1_i32_143
  let c512_i32_148 : BitVec 32 := 512#32
  let v275 : BitVec 32 := Scalar.muli v270 c512_i32_148
  v275
def k0_mult51 (k0_t5 : Fin k0_t5_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_176 : BitVec 32 := 4#32
  let c0_i32_77 : BitVec 32 := 0#32
  let c1_i32_79 : BitVec 32 := 1#32
  let arg17 : BitVec 32 := Scf.iv c0_i32_77 c1_i32_79 k0_t5
  let v337 : BitVec 32 := Scalar.muli c4_i32_176 arg17
  let v338 : BitVec 32 := Scalar.addi v122 v337
  let c2_i32_177 : BitVec 32 := 2#32
  let v339 : BitVec 32 := Scalar.addi v338 c2_i32_177
  let c512_i32_182 : BitVec 32 := 512#32
  let v344 : BitVec 32 := Scalar.muli v339 c512_i32_182
  v344
def k0_mult52 (k0_t5 : Fin k0_t5_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_210 : BitVec 32 := 4#32
  let c0_i32_77 : BitVec 32 := 0#32
  let c1_i32_79 : BitVec 32 := 1#32
  let arg17 : BitVec 32 := Scf.iv c0_i32_77 c1_i32_79 k0_t5
  let v406 : BitVec 32 := Scalar.muli c4_i32_210 arg17
  let v407 : BitVec 32 := Scalar.addi v122 v406
  let c3_i32_211 : BitVec 32 := 3#32
  let v408 : BitVec 32 := Scalar.addi v407 c3_i32_211
  let c512_i32_216 : BitVec 32 := 512#32
  let v413 : BitVec 32 := Scalar.muli v408 c512_i32_216
  v413
@[reducible] def k0_t6_loop : Scf.Loop 32 :=
  let c0_i32_77 : BitVec 32 := 0#32
  let c33_i32_68 : BitVec 32 := 33#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let v143 : BitVec 32 := Scalar.addi c0_i32_77 v142
  let c1_i32_80 : BitVec 32 := 1#32
  ⟨v146, v143, c1_i32_80⟩
def k0_mult53 (k0_t6 : Fin k0_t6_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_111 : BitVec 32 := 4#32
  let c0_i32_77 : BitVec 32 := 0#32
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let c1_i32_80 : BitVec 32 := 1#32
  let arg17 : BitVec 32 := Scf.iv v146 c1_i32_80 k0_t6
  let v199 : BitVec 32 := Scalar.muli c4_i32_111 arg17
  let v200 : BitVec 32 := Scalar.addi v122 v199
  let c0_i32_112 : BitVec 32 := 0#32
  let v201 : BitVec 32 := Scalar.addi v200 c0_i32_112
  let c512_i32_116 : BitVec 32 := 512#32
  let v206 : BitVec 32 := Scalar.muli v201 c512_i32_116
  v206
def k0_off16 (k0_t6 : Fin k0_t6_loop.trips) (c0_i32_112 : BitVec 32) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_111 : BitVec 32 := 4#32
  let c0_i32_77 : BitVec 32 := 0#32
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let c1_i32_80 : BitVec 32 := 1#32
  let arg17 : BitVec 32 := Scf.iv v146 c1_i32_80 k0_t6
  let v199 : BitVec 32 := Scalar.muli c4_i32_111 arg17
  let v200 : BitVec 32 := Scalar.addi v122 v199
  let v201 : BitVec 32 := Scalar.addi v200 c0_i32_112
  let c512_i32_116 : BitVec 32 := 512#32
  let v206 : BitVec 32 := Scalar.muli v201 c512_i32_116
  let v207 : BitVec 32 := v206
  let v208 : Index := Scalar.indexCast v207
  let c0_117 : Index := 0#32
  ![v208.toNat, 0]
def k0_off17 (k0_t6 : Fin k0_t6_loop.trips) (c0_i32_112 : BitVec 32) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_111 : BitVec 32 := 4#32
  let c0_i32_77 : BitVec 32 := 0#32
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let c1_i32_80 : BitVec 32 := 1#32
  let arg17 : BitVec 32 := Scf.iv v146 c1_i32_80 k0_t6
  let v199 : BitVec 32 := Scalar.muli c4_i32_111 arg17
  let v200 : BitVec 32 := Scalar.addi v122 v199
  let v201 : BitVec 32 := Scalar.addi v200 c0_i32_112
  let c512_i32_116 : BitVec 32 := 512#32
  let v206 : BitVec 32 := Scalar.muli v201 c512_i32_116
  let v207 : BitVec 32 := v206
  let v211 : Index := Scalar.indexCast v207
  let c0_118 : Index := 0#32
  ![v211.toNat, 0]
def k0_off18 (k0_t6 : Fin k0_t6_loop.trips) (c0_i32_112 : BitVec 32) : Fin 3 → Nat :=
  let c0_119 : Index := 0#32
  let c0_120 : Index := 0#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_111 : BitVec 32 := 4#32
  let c0_i32_77 : BitVec 32 := 0#32
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let c1_i32_80 : BitVec 32 := 1#32
  let arg17 : BitVec 32 := Scf.iv v146 c1_i32_80 k0_t6
  let v199 : BitVec 32 := Scalar.muli c4_i32_111 arg17
  let v200 : BitVec 32 := Scalar.addi v122 v199
  let v201 : BitVec 32 := Scalar.addi v200 c0_i32_112
  let c512_i32_116 : BitVec 32 := 512#32
  let v206 : BitVec 32 := Scalar.muli v201 c512_i32_116
  let v207 : BitVec 32 := v206
  let v214 : Index := Scalar.indexCast v207
  ![0, 0, v214.toNat]
def k0_mult54 (k0_t6 : Fin k0_t6_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_142 : BitVec 32 := 4#32
  let c0_i32_77 : BitVec 32 := 0#32
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let c1_i32_80 : BitVec 32 := 1#32
  let arg17 : BitVec 32 := Scf.iv v146 c1_i32_80 k0_t6
  let v268 : BitVec 32 := Scalar.muli c4_i32_142 arg17
  let v269 : BitVec 32 := Scalar.addi v122 v268
  let c1_i32_143 : BitVec 32 := 1#32
  let v270 : BitVec 32 := Scalar.addi v269 c1_i32_143
  let c512_i32_148 : BitVec 32 := 512#32
  let v275 : BitVec 32 := Scalar.muli v270 c512_i32_148
  v275
def k0_mult55 (k0_t6 : Fin k0_t6_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_176 : BitVec 32 := 4#32
  let c0_i32_77 : BitVec 32 := 0#32
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let c1_i32_80 : BitVec 32 := 1#32
  let arg17 : BitVec 32 := Scf.iv v146 c1_i32_80 k0_t6
  let v337 : BitVec 32 := Scalar.muli c4_i32_176 arg17
  let v338 : BitVec 32 := Scalar.addi v122 v337
  let c2_i32_177 : BitVec 32 := 2#32
  let v339 : BitVec 32 := Scalar.addi v338 c2_i32_177
  let c512_i32_182 : BitVec 32 := 512#32
  let v344 : BitVec 32 := Scalar.muli v339 c512_i32_182
  v344
def k0_mult56 (k0_t6 : Fin k0_t6_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c4_i32_210 : BitVec 32 := 4#32
  let c0_i32_77 : BitVec 32 := 0#32
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let c1_i32_80 : BitVec 32 := 1#32
  let arg17 : BitVec 32 := Scf.iv v146 c1_i32_80 k0_t6
  let v406 : BitVec 32 := Scalar.muli c4_i32_210 arg17
  let v407 : BitVec 32 := Scalar.addi v122 v406
  let c3_i32_211 : BitVec 32 := 3#32
  let v408 : BitVec 32 := Scalar.addi v407 c3_i32_211
  let c512_i32_216 : BitVec 32 := 512#32
  let v413 : BitVec 32 := Scalar.muli v408 c512_i32_216
  v413
@[reducible] def k0_t7_loop : Scf.Loop 32 :=
  let c0_i32_92 : BitVec 32 := 0#32
  let c33_i32_82 : BitVec 32 := 33#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let v168 : BitVec 32 := Scalar.subi v167 c0_i32_92
  let c1_i32_93 : BitVec 32 := 1#32
  let v170 : BitVec 32 := Scalar.divsi v168 c1_i32_93
  let v171 : BitVec 32 := Scalar.muli v170 c1_i32_93
  let v172 : BitVec 32 := Scalar.addi c0_i32_92 v171
  let c1_i32_94 : BitVec 32 := 1#32
  ⟨c0_i32_92, v172, c1_i32_94⟩
def k0_mult57 (k0_t7 : Fin k0_t7_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c2_i32_111 : BitVec 32 := 2#32
  let c0_i32_92 : BitVec 32 := 0#32
  let c1_i32_94 : BitVec 32 := 1#32
  let arg17 : BitVec 32 := Scf.iv c0_i32_92 c1_i32_94 k0_t7
  let v199 : BitVec 32 := Scalar.muli c2_i32_111 arg17
  let v200 : BitVec 32 := Scalar.addi v148 v199
  let c0_i32_112 : BitVec 32 := 0#32
  let v201 : BitVec 32 := Scalar.addi v200 c0_i32_112
  let c512_i32_116 : BitVec 32 := 512#32
  let v206 : BitVec 32 := Scalar.muli v201 c512_i32_116
  v206
def k0_off19 (k0_t7 : Fin k0_t7_loop.trips) (c0_i32_112 : BitVec 32) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c2_i32_111 : BitVec 32 := 2#32
  let c0_i32_92 : BitVec 32 := 0#32
  let c1_i32_94 : BitVec 32 := 1#32
  let arg17 : BitVec 32 := Scf.iv c0_i32_92 c1_i32_94 k0_t7
  let v199 : BitVec 32 := Scalar.muli c2_i32_111 arg17
  let v200 : BitVec 32 := Scalar.addi v148 v199
  let v201 : BitVec 32 := Scalar.addi v200 c0_i32_112
  let c512_i32_116 : BitVec 32 := 512#32
  let v206 : BitVec 32 := Scalar.muli v201 c512_i32_116
  let v207 : BitVec 32 := v206
  let v208 : Index := Scalar.indexCast v207
  let c0_117 : Index := 0#32
  ![v208.toNat, 0]
def k0_off20 (k0_t7 : Fin k0_t7_loop.trips) (c0_i32_112 : BitVec 32) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c2_i32_111 : BitVec 32 := 2#32
  let c0_i32_92 : BitVec 32 := 0#32
  let c1_i32_94 : BitVec 32 := 1#32
  let arg17 : BitVec 32 := Scf.iv c0_i32_92 c1_i32_94 k0_t7
  let v199 : BitVec 32 := Scalar.muli c2_i32_111 arg17
  let v200 : BitVec 32 := Scalar.addi v148 v199
  let v201 : BitVec 32 := Scalar.addi v200 c0_i32_112
  let c512_i32_116 : BitVec 32 := 512#32
  let v206 : BitVec 32 := Scalar.muli v201 c512_i32_116
  let v207 : BitVec 32 := v206
  let v211 : Index := Scalar.indexCast v207
  let c0_118 : Index := 0#32
  ![v211.toNat, 0]
def k0_off21 (k0_t7 : Fin k0_t7_loop.trips) (c0_i32_112 : BitVec 32) : Fin 3 → Nat :=
  let c0_119 : Index := 0#32
  let c0_120 : Index := 0#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c2_i32_111 : BitVec 32 := 2#32
  let c0_i32_92 : BitVec 32 := 0#32
  let c1_i32_94 : BitVec 32 := 1#32
  let arg17 : BitVec 32 := Scf.iv c0_i32_92 c1_i32_94 k0_t7
  let v199 : BitVec 32 := Scalar.muli c2_i32_111 arg17
  let v200 : BitVec 32 := Scalar.addi v148 v199
  let v201 : BitVec 32 := Scalar.addi v200 c0_i32_112
  let c512_i32_116 : BitVec 32 := 512#32
  let v206 : BitVec 32 := Scalar.muli v201 c512_i32_116
  let v207 : BitVec 32 := v206
  let v214 : Index := Scalar.indexCast v207
  ![0, 0, v214.toNat]
def k0_mult58 (k0_t7 : Fin k0_t7_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c2_i32_142 : BitVec 32 := 2#32
  let c0_i32_92 : BitVec 32 := 0#32
  let c1_i32_94 : BitVec 32 := 1#32
  let arg17 : BitVec 32 := Scf.iv c0_i32_92 c1_i32_94 k0_t7
  let v268 : BitVec 32 := Scalar.muli c2_i32_142 arg17
  let v269 : BitVec 32 := Scalar.addi v148 v268
  let c1_i32_143 : BitVec 32 := 1#32
  let v270 : BitVec 32 := Scalar.addi v269 c1_i32_143
  let c512_i32_148 : BitVec 32 := 512#32
  let v275 : BitVec 32 := Scalar.muli v270 c512_i32_148
  v275
@[reducible] def k0_t8_loop : Scf.Loop 32 :=
  let c0_i32_92 : BitVec 32 := 0#32
  let c33_i32_82 : BitVec 32 := 33#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let v168 : BitVec 32 := Scalar.subi v167 c0_i32_92
  let c1_i32_93 : BitVec 32 := 1#32
  let v170 : BitVec 32 := Scalar.divsi v168 c1_i32_93
  let v171 : BitVec 32 := Scalar.muli v170 c1_i32_93
  let v172 : BitVec 32 := Scalar.addi c0_i32_92 v171
  let v169 : BitVec 32 := Scalar.addi c0_i32_92 v168
  let c1_i32_95 : BitVec 32 := 1#32
  ⟨v172, v169, c1_i32_95⟩
def k0_mult59 (k0_t8 : Fin k0_t8_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c2_i32_111 : BitVec 32 := 2#32
  let c0_i32_92 : BitVec 32 := 0#32
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let v168 : BitVec 32 := Scalar.subi v167 c0_i32_92
  let c1_i32_93 : BitVec 32 := 1#32
  let v170 : BitVec 32 := Scalar.divsi v168 c1_i32_93
  let v171 : BitVec 32 := Scalar.muli v170 c1_i32_93
  let v172 : BitVec 32 := Scalar.addi c0_i32_92 v171
  let c1_i32_95 : BitVec 32 := 1#32
  let arg17 : BitVec 32 := Scf.iv v172 c1_i32_95 k0_t8
  let v199 : BitVec 32 := Scalar.muli c2_i32_111 arg17
  let v200 : BitVec 32 := Scalar.addi v148 v199
  let c0_i32_112 : BitVec 32 := 0#32
  let v201 : BitVec 32 := Scalar.addi v200 c0_i32_112
  let c512_i32_116 : BitVec 32 := 512#32
  let v206 : BitVec 32 := Scalar.muli v201 c512_i32_116
  v206
def k0_off22 (k0_t8 : Fin k0_t8_loop.trips) (c0_i32_112 : BitVec 32) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c2_i32_111 : BitVec 32 := 2#32
  let c0_i32_92 : BitVec 32 := 0#32
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let v168 : BitVec 32 := Scalar.subi v167 c0_i32_92
  let c1_i32_93 : BitVec 32 := 1#32
  let v170 : BitVec 32 := Scalar.divsi v168 c1_i32_93
  let v171 : BitVec 32 := Scalar.muli v170 c1_i32_93
  let v172 : BitVec 32 := Scalar.addi c0_i32_92 v171
  let c1_i32_95 : BitVec 32 := 1#32
  let arg17 : BitVec 32 := Scf.iv v172 c1_i32_95 k0_t8
  let v199 : BitVec 32 := Scalar.muli c2_i32_111 arg17
  let v200 : BitVec 32 := Scalar.addi v148 v199
  let v201 : BitVec 32 := Scalar.addi v200 c0_i32_112
  let c512_i32_116 : BitVec 32 := 512#32
  let v206 : BitVec 32 := Scalar.muli v201 c512_i32_116
  let v207 : BitVec 32 := v206
  let v208 : Index := Scalar.indexCast v207
  let c0_117 : Index := 0#32
  ![v208.toNat, 0]
def k0_off23 (k0_t8 : Fin k0_t8_loop.trips) (c0_i32_112 : BitVec 32) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c2_i32_111 : BitVec 32 := 2#32
  let c0_i32_92 : BitVec 32 := 0#32
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let v168 : BitVec 32 := Scalar.subi v167 c0_i32_92
  let c1_i32_93 : BitVec 32 := 1#32
  let v170 : BitVec 32 := Scalar.divsi v168 c1_i32_93
  let v171 : BitVec 32 := Scalar.muli v170 c1_i32_93
  let v172 : BitVec 32 := Scalar.addi c0_i32_92 v171
  let c1_i32_95 : BitVec 32 := 1#32
  let arg17 : BitVec 32 := Scf.iv v172 c1_i32_95 k0_t8
  let v199 : BitVec 32 := Scalar.muli c2_i32_111 arg17
  let v200 : BitVec 32 := Scalar.addi v148 v199
  let v201 : BitVec 32 := Scalar.addi v200 c0_i32_112
  let c512_i32_116 : BitVec 32 := 512#32
  let v206 : BitVec 32 := Scalar.muli v201 c512_i32_116
  let v207 : BitVec 32 := v206
  let v211 : Index := Scalar.indexCast v207
  let c0_118 : Index := 0#32
  ![v211.toNat, 0]
def k0_off24 (k0_t8 : Fin k0_t8_loop.trips) (c0_i32_112 : BitVec 32) : Fin 3 → Nat :=
  let c0_119 : Index := 0#32
  let c0_120 : Index := 0#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c2_i32_111 : BitVec 32 := 2#32
  let c0_i32_92 : BitVec 32 := 0#32
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let v168 : BitVec 32 := Scalar.subi v167 c0_i32_92
  let c1_i32_93 : BitVec 32 := 1#32
  let v170 : BitVec 32 := Scalar.divsi v168 c1_i32_93
  let v171 : BitVec 32 := Scalar.muli v170 c1_i32_93
  let v172 : BitVec 32 := Scalar.addi c0_i32_92 v171
  let c1_i32_95 : BitVec 32 := 1#32
  let arg17 : BitVec 32 := Scf.iv v172 c1_i32_95 k0_t8
  let v199 : BitVec 32 := Scalar.muli c2_i32_111 arg17
  let v200 : BitVec 32 := Scalar.addi v148 v199
  let v201 : BitVec 32 := Scalar.addi v200 c0_i32_112
  let c512_i32_116 : BitVec 32 := 512#32
  let v206 : BitVec 32 := Scalar.muli v201 c512_i32_116
  let v207 : BitVec 32 := v206
  let v214 : Index := Scalar.indexCast v207
  ![0, 0, v214.toNat]
def k0_mult60 (k0_t8 : Fin k0_t8_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c2_i32_142 : BitVec 32 := 2#32
  let c0_i32_92 : BitVec 32 := 0#32
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let v168 : BitVec 32 := Scalar.subi v167 c0_i32_92
  let c1_i32_93 : BitVec 32 := 1#32
  let v170 : BitVec 32 := Scalar.divsi v168 c1_i32_93
  let v171 : BitVec 32 := Scalar.muli v170 c1_i32_93
  let v172 : BitVec 32 := Scalar.addi c0_i32_92 v171
  let c1_i32_95 : BitVec 32 := 1#32
  let arg17 : BitVec 32 := Scf.iv v172 c1_i32_95 k0_t8
  let v268 : BitVec 32 := Scalar.muli c2_i32_142 arg17
  let v269 : BitVec 32 := Scalar.addi v148 v268
  let c1_i32_143 : BitVec 32 := 1#32
  let v270 : BitVec 32 := Scalar.addi v269 c1_i32_143
  let c512_i32_148 : BitVec 32 := 512#32
  let v275 : BitVec 32 := Scalar.muli v270 c512_i32_148
  v275
@[reducible] def k0_t9_loop : Scf.Loop 32 :=
  let c0_i32_107 : BitVec 32 := 0#32
  let c33_i32_97 : BitVec 32 := 33#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let c2_i32_96 : BitVec 32 := 2#32
  let v173 : BitVec 32 := Scalar.muli v167 c2_i32_96
  let v174 : BitVec 32 := Scalar.addi v148 v173
  let v175 : BitVec 32 := Scalar.subi c33_i32_97 v174
  let c0_i32_98 : BitVec 32 := 0#32
  let v176 : BitVec 32 := Scalar.maxsi v175 c0_i32_98
  let c0_i32_100 : BitVec 32 := 0#32
  let v178 : BitVec 1 := Scalar.cmpi .sgt v176 c0_i32_100
  let v179 : BitVec 32 := Scalar.extui v178
  let c0_i32_101 : BitVec 32 := 0#32
  let v180 : BitVec 1 := Scalar.cmpi .slt v176 c0_i32_101
  let v181 : BitVec 32 := Scalar.extui v180
  let v182 : BitVec 32 := Scalar.subi v179 v181
  let c1_i32_99 : BitVec 32 := 1#32
  let c0_i32_102 : BitVec 32 := 0#32
  let v183 : BitVec 1 := Scalar.cmpi .sgt c1_i32_99 c0_i32_102
  let v184 : BitVec 32 := Scalar.extui v183
  let c0_i32_103 : BitVec 32 := 0#32
  let v185 : BitVec 1 := Scalar.cmpi .slt c1_i32_99 c0_i32_103
  let v186 : BitVec 32 := Scalar.extui v185
  let v187 : BitVec 32 := Scalar.subi v184 v186
  let v188 : BitVec 1 := Scalar.cmpi .ne v182 v187
  let v189 : BitVec 32 := Scalar.remsi v176 c1_i32_99
  let c0_i32_104 : BitVec 32 := 0#32
  let v190 : BitVec 1 := Scalar.cmpi .ne v189 c0_i32_104
  let v191 : BitVec 1 := Scalar.andi v188 v190
  let v177 : BitVec 32 := Scalar.divsi v176 c1_i32_99
  let c1_i32_105 : BitVec 32 := 1#32
  let v192 : BitVec 32 := Scalar.subi v177 c1_i32_105
  let v193 : BitVec 32 := Scalar.select v191 v192 v177
  let v194 : BitVec 32 := Scalar.subi v193 c0_i32_107
  let c1_i32_108 : BitVec 32 := 1#32
  let v196 : BitVec 32 := Scalar.divsi v194 c1_i32_108
  let v197 : BitVec 32 := Scalar.muli v196 c1_i32_108
  let v198 : BitVec 32 := Scalar.addi c0_i32_107 v197
  let c1_i32_109 : BitVec 32 := 1#32
  ⟨c0_i32_107, v198, c1_i32_109⟩
def k0_mult61 (k0_t9 : Fin k0_t9_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let c2_i32_96 : BitVec 32 := 2#32
  let v173 : BitVec 32 := Scalar.muli v167 c2_i32_96
  let v174 : BitVec 32 := Scalar.addi v148 v173
  let c1_i32_111 : BitVec 32 := 1#32
  let c0_i32_107 : BitVec 32 := 0#32
  let c1_i32_109 : BitVec 32 := 1#32
  let arg17 : BitVec 32 := Scf.iv c0_i32_107 c1_i32_109 k0_t9
  let v199 : BitVec 32 := Scalar.muli c1_i32_111 arg17
  let v200 : BitVec 32 := Scalar.addi v174 v199
  let c0_i32_112 : BitVec 32 := 0#32
  let v201 : BitVec 32 := Scalar.addi v200 c0_i32_112
  let c512_i32_116 : BitVec 32 := 512#32
  let v206 : BitVec 32 := Scalar.muli v201 c512_i32_116
  v206
def k0_off25 (k0_t9 : Fin k0_t9_loop.trips) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let c2_i32_96 : BitVec 32 := 2#32
  let v173 : BitVec 32 := Scalar.muli v167 c2_i32_96
  let v174 : BitVec 32 := Scalar.addi v148 v173
  let c1_i32_111 : BitVec 32 := 1#32
  let c0_i32_107 : BitVec 32 := 0#32
  let c1_i32_109 : BitVec 32 := 1#32
  let arg17 : BitVec 32 := Scf.iv c0_i32_107 c1_i32_109 k0_t9
  let v199 : BitVec 32 := Scalar.muli c1_i32_111 arg17
  let v200 : BitVec 32 := Scalar.addi v174 v199
  let c0_i32_112 : BitVec 32 := 0#32
  let v201 : BitVec 32 := Scalar.addi v200 c0_i32_112
  let c512_i32_116 : BitVec 32 := 512#32
  let v206 : BitVec 32 := Scalar.muli v201 c512_i32_116
  let v207 : BitVec 32 := v206
  let v208 : Index := Scalar.indexCast v207
  let c0_117 : Index := 0#32
  ![v208.toNat, 0]
def k0_off26 (k0_t9 : Fin k0_t9_loop.trips) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let c2_i32_96 : BitVec 32 := 2#32
  let v173 : BitVec 32 := Scalar.muli v167 c2_i32_96
  let v174 : BitVec 32 := Scalar.addi v148 v173
  let c1_i32_111 : BitVec 32 := 1#32
  let c0_i32_107 : BitVec 32 := 0#32
  let c1_i32_109 : BitVec 32 := 1#32
  let arg17 : BitVec 32 := Scf.iv c0_i32_107 c1_i32_109 k0_t9
  let v199 : BitVec 32 := Scalar.muli c1_i32_111 arg17
  let v200 : BitVec 32 := Scalar.addi v174 v199
  let c0_i32_112 : BitVec 32 := 0#32
  let v201 : BitVec 32 := Scalar.addi v200 c0_i32_112
  let c512_i32_116 : BitVec 32 := 512#32
  let v206 : BitVec 32 := Scalar.muli v201 c512_i32_116
  let v207 : BitVec 32 := v206
  let v211 : Index := Scalar.indexCast v207
  let c0_118 : Index := 0#32
  ![v211.toNat, 0]
def k0_off27 (k0_t9 : Fin k0_t9_loop.trips) : Fin 3 → Nat :=
  let c0_119 : Index := 0#32
  let c0_120 : Index := 0#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let c2_i32_96 : BitVec 32 := 2#32
  let v173 : BitVec 32 := Scalar.muli v167 c2_i32_96
  let v174 : BitVec 32 := Scalar.addi v148 v173
  let c1_i32_111 : BitVec 32 := 1#32
  let c0_i32_107 : BitVec 32 := 0#32
  let c1_i32_109 : BitVec 32 := 1#32
  let arg17 : BitVec 32 := Scf.iv c0_i32_107 c1_i32_109 k0_t9
  let v199 : BitVec 32 := Scalar.muli c1_i32_111 arg17
  let v200 : BitVec 32 := Scalar.addi v174 v199
  let c0_i32_112 : BitVec 32 := 0#32
  let v201 : BitVec 32 := Scalar.addi v200 c0_i32_112
  let c512_i32_116 : BitVec 32 := 512#32
  let v206 : BitVec 32 := Scalar.muli v201 c512_i32_116
  let v207 : BitVec 32 := v206
  let v214 : Index := Scalar.indexCast v207
  ![0, 0, v214.toNat]
@[reducible] def k0_t10_loop : Scf.Loop 32 :=
  let c0_i32_107 : BitVec 32 := 0#32
  let c33_i32_97 : BitVec 32 := 33#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let c2_i32_96 : BitVec 32 := 2#32
  let v173 : BitVec 32 := Scalar.muli v167 c2_i32_96
  let v174 : BitVec 32 := Scalar.addi v148 v173
  let v175 : BitVec 32 := Scalar.subi c33_i32_97 v174
  let c0_i32_98 : BitVec 32 := 0#32
  let v176 : BitVec 32 := Scalar.maxsi v175 c0_i32_98
  let c0_i32_100 : BitVec 32 := 0#32
  let v178 : BitVec 1 := Scalar.cmpi .sgt v176 c0_i32_100
  let v179 : BitVec 32 := Scalar.extui v178
  let c0_i32_101 : BitVec 32 := 0#32
  let v180 : BitVec 1 := Scalar.cmpi .slt v176 c0_i32_101
  let v181 : BitVec 32 := Scalar.extui v180
  let v182 : BitVec 32 := Scalar.subi v179 v181
  let c1_i32_99 : BitVec 32 := 1#32
  let c0_i32_102 : BitVec 32 := 0#32
  let v183 : BitVec 1 := Scalar.cmpi .sgt c1_i32_99 c0_i32_102
  let v184 : BitVec 32 := Scalar.extui v183
  let c0_i32_103 : BitVec 32 := 0#32
  let v185 : BitVec 1 := Scalar.cmpi .slt c1_i32_99 c0_i32_103
  let v186 : BitVec 32 := Scalar.extui v185
  let v187 : BitVec 32 := Scalar.subi v184 v186
  let v188 : BitVec 1 := Scalar.cmpi .ne v182 v187
  let v189 : BitVec 32 := Scalar.remsi v176 c1_i32_99
  let c0_i32_104 : BitVec 32 := 0#32
  let v190 : BitVec 1 := Scalar.cmpi .ne v189 c0_i32_104
  let v191 : BitVec 1 := Scalar.andi v188 v190
  let v177 : BitVec 32 := Scalar.divsi v176 c1_i32_99
  let c1_i32_105 : BitVec 32 := 1#32
  let v192 : BitVec 32 := Scalar.subi v177 c1_i32_105
  let v193 : BitVec 32 := Scalar.select v191 v192 v177
  let v194 : BitVec 32 := Scalar.subi v193 c0_i32_107
  let c1_i32_108 : BitVec 32 := 1#32
  let v196 : BitVec 32 := Scalar.divsi v194 c1_i32_108
  let v197 : BitVec 32 := Scalar.muli v196 c1_i32_108
  let v198 : BitVec 32 := Scalar.addi c0_i32_107 v197
  let v195 : BitVec 32 := Scalar.addi c0_i32_107 v194
  let c1_i32_110 : BitVec 32 := 1#32
  ⟨v198, v195, c1_i32_110⟩
def k0_mult62 (k0_t10 : Fin k0_t10_loop.trips) : BitVec 32 :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let c2_i32_96 : BitVec 32 := 2#32
  let v173 : BitVec 32 := Scalar.muli v167 c2_i32_96
  let v174 : BitVec 32 := Scalar.addi v148 v173
  let c1_i32_111 : BitVec 32 := 1#32
  let c0_i32_107 : BitVec 32 := 0#32
  let c33_i32_97 : BitVec 32 := 33#32
  let v175 : BitVec 32 := Scalar.subi c33_i32_97 v174
  let c0_i32_98 : BitVec 32 := 0#32
  let v176 : BitVec 32 := Scalar.maxsi v175 c0_i32_98
  let c0_i32_100 : BitVec 32 := 0#32
  let v178 : BitVec 1 := Scalar.cmpi .sgt v176 c0_i32_100
  let v179 : BitVec 32 := Scalar.extui v178
  let c0_i32_101 : BitVec 32 := 0#32
  let v180 : BitVec 1 := Scalar.cmpi .slt v176 c0_i32_101
  let v181 : BitVec 32 := Scalar.extui v180
  let v182 : BitVec 32 := Scalar.subi v179 v181
  let c1_i32_99 : BitVec 32 := 1#32
  let c0_i32_102 : BitVec 32 := 0#32
  let v183 : BitVec 1 := Scalar.cmpi .sgt c1_i32_99 c0_i32_102
  let v184 : BitVec 32 := Scalar.extui v183
  let c0_i32_103 : BitVec 32 := 0#32
  let v185 : BitVec 1 := Scalar.cmpi .slt c1_i32_99 c0_i32_103
  let v186 : BitVec 32 := Scalar.extui v185
  let v187 : BitVec 32 := Scalar.subi v184 v186
  let v188 : BitVec 1 := Scalar.cmpi .ne v182 v187
  let v189 : BitVec 32 := Scalar.remsi v176 c1_i32_99
  let c0_i32_104 : BitVec 32 := 0#32
  let v190 : BitVec 1 := Scalar.cmpi .ne v189 c0_i32_104
  let v191 : BitVec 1 := Scalar.andi v188 v190
  let v177 : BitVec 32 := Scalar.divsi v176 c1_i32_99
  let c1_i32_105 : BitVec 32 := 1#32
  let v192 : BitVec 32 := Scalar.subi v177 c1_i32_105
  let v193 : BitVec 32 := Scalar.select v191 v192 v177
  let v194 : BitVec 32 := Scalar.subi v193 c0_i32_107
  let c1_i32_108 : BitVec 32 := 1#32
  let v196 : BitVec 32 := Scalar.divsi v194 c1_i32_108
  let v197 : BitVec 32 := Scalar.muli v196 c1_i32_108
  let v198 : BitVec 32 := Scalar.addi c0_i32_107 v197
  let c1_i32_110 : BitVec 32 := 1#32
  let arg17 : BitVec 32 := Scf.iv v198 c1_i32_110 k0_t10
  let v199 : BitVec 32 := Scalar.muli c1_i32_111 arg17
  let v200 : BitVec 32 := Scalar.addi v174 v199
  let c0_i32_112 : BitVec 32 := 0#32
  let v201 : BitVec 32 := Scalar.addi v200 c0_i32_112
  let c512_i32_116 : BitVec 32 := 512#32
  let v206 : BitVec 32 := Scalar.muli v201 c512_i32_116
  v206
def k0_off28 (k0_t10 : Fin k0_t10_loop.trips) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let c2_i32_96 : BitVec 32 := 2#32
  let v173 : BitVec 32 := Scalar.muli v167 c2_i32_96
  let v174 : BitVec 32 := Scalar.addi v148 v173
  let c1_i32_111 : BitVec 32 := 1#32
  let c0_i32_107 : BitVec 32 := 0#32
  let c33_i32_97 : BitVec 32 := 33#32
  let v175 : BitVec 32 := Scalar.subi c33_i32_97 v174
  let c0_i32_98 : BitVec 32 := 0#32
  let v176 : BitVec 32 := Scalar.maxsi v175 c0_i32_98
  let c0_i32_100 : BitVec 32 := 0#32
  let v178 : BitVec 1 := Scalar.cmpi .sgt v176 c0_i32_100
  let v179 : BitVec 32 := Scalar.extui v178
  let c0_i32_101 : BitVec 32 := 0#32
  let v180 : BitVec 1 := Scalar.cmpi .slt v176 c0_i32_101
  let v181 : BitVec 32 := Scalar.extui v180
  let v182 : BitVec 32 := Scalar.subi v179 v181
  let c1_i32_99 : BitVec 32 := 1#32
  let c0_i32_102 : BitVec 32 := 0#32
  let v183 : BitVec 1 := Scalar.cmpi .sgt c1_i32_99 c0_i32_102
  let v184 : BitVec 32 := Scalar.extui v183
  let c0_i32_103 : BitVec 32 := 0#32
  let v185 : BitVec 1 := Scalar.cmpi .slt c1_i32_99 c0_i32_103
  let v186 : BitVec 32 := Scalar.extui v185
  let v187 : BitVec 32 := Scalar.subi v184 v186
  let v188 : BitVec 1 := Scalar.cmpi .ne v182 v187
  let v189 : BitVec 32 := Scalar.remsi v176 c1_i32_99
  let c0_i32_104 : BitVec 32 := 0#32
  let v190 : BitVec 1 := Scalar.cmpi .ne v189 c0_i32_104
  let v191 : BitVec 1 := Scalar.andi v188 v190
  let v177 : BitVec 32 := Scalar.divsi v176 c1_i32_99
  let c1_i32_105 : BitVec 32 := 1#32
  let v192 : BitVec 32 := Scalar.subi v177 c1_i32_105
  let v193 : BitVec 32 := Scalar.select v191 v192 v177
  let v194 : BitVec 32 := Scalar.subi v193 c0_i32_107
  let c1_i32_108 : BitVec 32 := 1#32
  let v196 : BitVec 32 := Scalar.divsi v194 c1_i32_108
  let v197 : BitVec 32 := Scalar.muli v196 c1_i32_108
  let v198 : BitVec 32 := Scalar.addi c0_i32_107 v197
  let c1_i32_110 : BitVec 32 := 1#32
  let arg17 : BitVec 32 := Scf.iv v198 c1_i32_110 k0_t10
  let v199 : BitVec 32 := Scalar.muli c1_i32_111 arg17
  let v200 : BitVec 32 := Scalar.addi v174 v199
  let c0_i32_112 : BitVec 32 := 0#32
  let v201 : BitVec 32 := Scalar.addi v200 c0_i32_112
  let c512_i32_116 : BitVec 32 := 512#32
  let v206 : BitVec 32 := Scalar.muli v201 c512_i32_116
  let v207 : BitVec 32 := v206
  let v208 : Index := Scalar.indexCast v207
  let c0_117 : Index := 0#32
  ![v208.toNat, 0]
def k0_off29 (k0_t10 : Fin k0_t10_loop.trips) : Fin 2 → Nat :=
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let c2_i32_96 : BitVec 32 := 2#32
  let v173 : BitVec 32 := Scalar.muli v167 c2_i32_96
  let v174 : BitVec 32 := Scalar.addi v148 v173
  let c1_i32_111 : BitVec 32 := 1#32
  let c0_i32_107 : BitVec 32 := 0#32
  let c33_i32_97 : BitVec 32 := 33#32
  let v175 : BitVec 32 := Scalar.subi c33_i32_97 v174
  let c0_i32_98 : BitVec 32 := 0#32
  let v176 : BitVec 32 := Scalar.maxsi v175 c0_i32_98
  let c0_i32_100 : BitVec 32 := 0#32
  let v178 : BitVec 1 := Scalar.cmpi .sgt v176 c0_i32_100
  let v179 : BitVec 32 := Scalar.extui v178
  let c0_i32_101 : BitVec 32 := 0#32
  let v180 : BitVec 1 := Scalar.cmpi .slt v176 c0_i32_101
  let v181 : BitVec 32 := Scalar.extui v180
  let v182 : BitVec 32 := Scalar.subi v179 v181
  let c1_i32_99 : BitVec 32 := 1#32
  let c0_i32_102 : BitVec 32 := 0#32
  let v183 : BitVec 1 := Scalar.cmpi .sgt c1_i32_99 c0_i32_102
  let v184 : BitVec 32 := Scalar.extui v183
  let c0_i32_103 : BitVec 32 := 0#32
  let v185 : BitVec 1 := Scalar.cmpi .slt c1_i32_99 c0_i32_103
  let v186 : BitVec 32 := Scalar.extui v185
  let v187 : BitVec 32 := Scalar.subi v184 v186
  let v188 : BitVec 1 := Scalar.cmpi .ne v182 v187
  let v189 : BitVec 32 := Scalar.remsi v176 c1_i32_99
  let c0_i32_104 : BitVec 32 := 0#32
  let v190 : BitVec 1 := Scalar.cmpi .ne v189 c0_i32_104
  let v191 : BitVec 1 := Scalar.andi v188 v190
  let v177 : BitVec 32 := Scalar.divsi v176 c1_i32_99
  let c1_i32_105 : BitVec 32 := 1#32
  let v192 : BitVec 32 := Scalar.subi v177 c1_i32_105
  let v193 : BitVec 32 := Scalar.select v191 v192 v177
  let v194 : BitVec 32 := Scalar.subi v193 c0_i32_107
  let c1_i32_108 : BitVec 32 := 1#32
  let v196 : BitVec 32 := Scalar.divsi v194 c1_i32_108
  let v197 : BitVec 32 := Scalar.muli v196 c1_i32_108
  let v198 : BitVec 32 := Scalar.addi c0_i32_107 v197
  let c1_i32_110 : BitVec 32 := 1#32
  let arg17 : BitVec 32 := Scf.iv v198 c1_i32_110 k0_t10
  let v199 : BitVec 32 := Scalar.muli c1_i32_111 arg17
  let v200 : BitVec 32 := Scalar.addi v174 v199
  let c0_i32_112 : BitVec 32 := 0#32
  let v201 : BitVec 32 := Scalar.addi v200 c0_i32_112
  let c512_i32_116 : BitVec 32 := 512#32
  let v206 : BitVec 32 := Scalar.muli v201 c512_i32_116
  let v207 : BitVec 32 := v206
  let v211 : Index := Scalar.indexCast v207
  let c0_118 : Index := 0#32
  ![v211.toNat, 0]
def k0_off30 (k0_t10 : Fin k0_t10_loop.trips) : Fin 3 → Nat :=
  let c0_119 : Index := 0#32
  let c0_120 : Index := 0#32
  let c0_i32_53 : BitVec 32 := 0#32
  let c33_i32 : BitVec 32 := 33#32
  let c0_i32_40 : BitVec 32 := 0#32
  let v72 : BitVec 32 := Scalar.maxsi c33_i32 c0_i32_40
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c16_i32 : BitVec 32 := 16#32
  let c0_i32_43 : BitVec 32 := 0#32
  let v79 : BitVec 1 := Scalar.cmpi .sgt c16_i32 c0_i32_43
  let v80 : BitVec 32 := Scalar.extui v79
  let c0_i32_44 : BitVec 32 := 0#32
  let v81 : BitVec 1 := Scalar.cmpi .slt c16_i32 c0_i32_44
  let v82 : BitVec 32 := Scalar.extui v81
  let v83 : BitVec 32 := Scalar.subi v80 v82
  let v84 : BitVec 1 := Scalar.cmpi .ne v78 v83
  let v85 : BitVec 32 := Scalar.remsi v72 c16_i32
  let c0_i32_45 : BitVec 32 := 0#32
  let v86 : BitVec 1 := Scalar.cmpi .ne v85 c0_i32_45
  let v87 : BitVec 1 := Scalar.andi v84 v86
  let v73 : BitVec 32 := Scalar.divsi v72 c16_i32
  let c1_i32_46 : BitVec 32 := 1#32
  let v88 : BitVec 32 := Scalar.subi v73 c1_i32_46
  let v89 : BitVec 32 := Scalar.select v87 v88 v73
  let c16_i32_52 : BitVec 32 := 16#32
  let v95 : BitVec 32 := Scalar.muli v89 c16_i32_52
  let v96 : BitVec 32 := Scalar.addi c0_i32_53 v95
  let c33_i32_54 : BitVec 32 := 33#32
  let v97 : BitVec 32 := Scalar.subi c33_i32_54 v96
  let c0_i32_55 : BitVec 32 := 0#32
  let v98 : BitVec 32 := Scalar.maxsi v97 c0_i32_55
  let c0_i32_56 : BitVec 32 := 0#32
  let v100 : BitVec 1 := Scalar.cmpi .sgt v98 c0_i32_56
  let v101 : BitVec 32 := Scalar.extui v100
  let c0_i32_57 : BitVec 32 := 0#32
  let v102 : BitVec 1 := Scalar.cmpi .slt v98 c0_i32_57
  let v103 : BitVec 32 := Scalar.extui v102
  let v104 : BitVec 32 := Scalar.subi v101 v103
  let c8_i32 : BitVec 32 := 8#32
  let c0_i32_58 : BitVec 32 := 0#32
  let v105 : BitVec 1 := Scalar.cmpi .sgt c8_i32 c0_i32_58
  let v106 : BitVec 32 := Scalar.extui v105
  let c0_i32_59 : BitVec 32 := 0#32
  let v107 : BitVec 1 := Scalar.cmpi .slt c8_i32 c0_i32_59
  let v108 : BitVec 32 := Scalar.extui v107
  let v109 : BitVec 32 := Scalar.subi v106 v108
  let v110 : BitVec 1 := Scalar.cmpi .ne v104 v109
  let v111 : BitVec 32 := Scalar.remsi v98 c8_i32
  let c0_i32_60 : BitVec 32 := 0#32
  let v112 : BitVec 1 := Scalar.cmpi .ne v111 c0_i32_60
  let v113 : BitVec 1 := Scalar.andi v110 v112
  let v99 : BitVec 32 := Scalar.divsi v98 c8_i32
  let c1_i32_61 : BitVec 32 := 1#32
  let v114 : BitVec 32 := Scalar.subi v99 c1_i32_61
  let v115 : BitVec 32 := Scalar.select v113 v114 v99
  let c8_i32_67 : BitVec 32 := 8#32
  let v121 : BitVec 32 := Scalar.muli v115 c8_i32_67
  let v122 : BitVec 32 := Scalar.addi v96 v121
  let c33_i32_68 : BitVec 32 := 33#32
  let v123 : BitVec 32 := Scalar.subi c33_i32_68 v122
  let c0_i32_69 : BitVec 32 := 0#32
  let v124 : BitVec 32 := Scalar.maxsi v123 c0_i32_69
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32 : BitVec 32 := 4#32
  let c0_i32_72 : BitVec 32 := 0#32
  let v131 : BitVec 1 := Scalar.cmpi .sgt c4_i32 c0_i32_72
  let v132 : BitVec 32 := Scalar.extui v131
  let c0_i32_73 : BitVec 32 := 0#32
  let v133 : BitVec 1 := Scalar.cmpi .slt c4_i32 c0_i32_73
  let v134 : BitVec 32 := Scalar.extui v133
  let v135 : BitVec 32 := Scalar.subi v132 v134
  let v136 : BitVec 1 := Scalar.cmpi .ne v130 v135
  let v137 : BitVec 32 := Scalar.remsi v124 c4_i32
  let c0_i32_74 : BitVec 32 := 0#32
  let v138 : BitVec 1 := Scalar.cmpi .ne v137 c0_i32_74
  let v139 : BitVec 1 := Scalar.andi v136 v138
  let v125 : BitVec 32 := Scalar.divsi v124 c4_i32
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi v122 v147
  let c33_i32_82 : BitVec 32 := 33#32
  let v149 : BitVec 32 := Scalar.subi c33_i32_82 v148
  let c0_i32_83 : BitVec 32 := 0#32
  let v150 : BitVec 32 := Scalar.maxsi v149 c0_i32_83
  let c0_i32_85 : BitVec 32 := 0#32
  let v152 : BitVec 1 := Scalar.cmpi .sgt v150 c0_i32_85
  let v153 : BitVec 32 := Scalar.extui v152
  let c0_i32_86 : BitVec 32 := 0#32
  let v154 : BitVec 1 := Scalar.cmpi .slt v150 c0_i32_86
  let v155 : BitVec 32 := Scalar.extui v154
  let v156 : BitVec 32 := Scalar.subi v153 v155
  let c2_i32_84 : BitVec 32 := 2#32
  let c0_i32_87 : BitVec 32 := 0#32
  let v157 : BitVec 1 := Scalar.cmpi .sgt c2_i32_84 c0_i32_87
  let v158 : BitVec 32 := Scalar.extui v157
  let c0_i32_88 : BitVec 32 := 0#32
  let v159 : BitVec 1 := Scalar.cmpi .slt c2_i32_84 c0_i32_88
  let v160 : BitVec 32 := Scalar.extui v159
  let v161 : BitVec 32 := Scalar.subi v158 v160
  let v162 : BitVec 1 := Scalar.cmpi .ne v156 v161
  let v163 : BitVec 32 := Scalar.remsi v150 c2_i32_84
  let c0_i32_89 : BitVec 32 := 0#32
  let v164 : BitVec 1 := Scalar.cmpi .ne v163 c0_i32_89
  let v165 : BitVec 1 := Scalar.andi v162 v164
  let v151 : BitVec 32 := Scalar.divsi v150 c2_i32_84
  let c1_i32_90 : BitVec 32 := 1#32
  let v166 : BitVec 32 := Scalar.subi v151 c1_i32_90
  let v167 : BitVec 32 := Scalar.select v165 v166 v151
  let c2_i32_96 : BitVec 32 := 2#32
  let v173 : BitVec 32 := Scalar.muli v167 c2_i32_96
  let v174 : BitVec 32 := Scalar.addi v148 v173
  let c1_i32_111 : BitVec 32 := 1#32
  let c0_i32_107 : BitVec 32 := 0#32
  let c33_i32_97 : BitVec 32 := 33#32
  let v175 : BitVec 32 := Scalar.subi c33_i32_97 v174
  let c0_i32_98 : BitVec 32 := 0#32
  let v176 : BitVec 32 := Scalar.maxsi v175 c0_i32_98
  let c0_i32_100 : BitVec 32 := 0#32
  let v178 : BitVec 1 := Scalar.cmpi .sgt v176 c0_i32_100
  let v179 : BitVec 32 := Scalar.extui v178
  let c0_i32_101 : BitVec 32 := 0#32
  let v180 : BitVec 1 := Scalar.cmpi .slt v176 c0_i32_101
  let v181 : BitVec 32 := Scalar.extui v180
  let v182 : BitVec 32 := Scalar.subi v179 v181
  let c1_i32_99 : BitVec 32 := 1#32
  let c0_i32_102 : BitVec 32 := 0#32
  let v183 : BitVec 1 := Scalar.cmpi .sgt c1_i32_99 c0_i32_102
  let v184 : BitVec 32 := Scalar.extui v183
  let c0_i32_103 : BitVec 32 := 0#32
  let v185 : BitVec 1 := Scalar.cmpi .slt c1_i32_99 c0_i32_103
  let v186 : BitVec 32 := Scalar.extui v185
  let v187 : BitVec 32 := Scalar.subi v184 v186
  let v188 : BitVec 1 := Scalar.cmpi .ne v182 v187
  let v189 : BitVec 32 := Scalar.remsi v176 c1_i32_99
  let c0_i32_104 : BitVec 32 := 0#32
  let v190 : BitVec 1 := Scalar.cmpi .ne v189 c0_i32_104
  let v191 : BitVec 1 := Scalar.andi v188 v190
  let v177 : BitVec 32 := Scalar.divsi v176 c1_i32_99
  let c1_i32_105 : BitVec 32 := 1#32
  let v192 : BitVec 32 := Scalar.subi v177 c1_i32_105
  let v193 : BitVec 32 := Scalar.select v191 v192 v177
  let v194 : BitVec 32 := Scalar.subi v193 c0_i32_107
  let c1_i32_108 : BitVec 32 := 1#32
  let v196 : BitVec 32 := Scalar.divsi v194 c1_i32_108
  let v197 : BitVec 32 := Scalar.muli v196 c1_i32_108
  let v198 : BitVec 32 := Scalar.addi c0_i32_107 v197
  let c1_i32_110 : BitVec 32 := 1#32
  let arg17 : BitVec 32 := Scf.iv v198 c1_i32_110 k0_t10
  let v199 : BitVec 32 := Scalar.muli c1_i32_111 arg17
  let v200 : BitVec 32 := Scalar.addi v174 v199
  let c0_i32_112 : BitVec 32 := 0#32
  let v201 : BitVec 32 := Scalar.addi v200 c0_i32_112
  let c512_i32_116 : BitVec 32 := 512#32
  let v206 : BitVec 32 := Scalar.muli v201 c512_i32_116
  let v207 : BitVec 32 := v206
  let v214 : Index := Scalar.indexCast v207
  ![0, 0, v214.toNat]
def k0_cond3 (i : grid0.Coords) : BitVec 1 :=
  let arg1 : BitVec 32 := BitVec.ofNat 32 (i 1).val
  let c0_i32_7 : BitVec 32 := 0#32
  let v16 : BitVec 1 := Scalar.cmpi .sgt arg1 c0_i32_7
  let c32_i32 : BitVec 32 := 32#32
  let v14 : BitVec 32 := Scalar.subi c32_i32 arg1
  let c3_i32 : BitVec 32 := 3#32
  let v15 : BitVec 32 := Scalar.andi v14 c3_i32
  let c0_i32_8 : BitVec 32 := 0#32
  let v17 : BitVec 1 := Scalar.cmpi .eq v15 c0_i32_8
  let v18 : BitVec 1 := Scalar.andi v16 v17
  let v19 : BitVec 32 := Scalar.extui v18
  let c0_i32_9 : BitVec 32 := 0#32
  let v20 : BitVec 1 := Scalar.cmpi .ne v19 c0_i32_9
  v20

def k0_mult63 (i : grid0.Coords) : BitVec 32 :=
  let arg1 : BitVec 32 := BitVec.ofNat 32 (i 1).val
  let c512_i32_44 : BitVec 32 := 512#32
  let v76 : BitVec 32 := Scalar.muli arg1 c512_i32_44
  v76
def k0_off31 (i : grid0.Coords) : Fin 2 → Nat :=
  let arg1 : BitVec 32 := BitVec.ofNat 32 (i 1).val
  let c512_i32_44 : BitVec 32 := 512#32
  let v76 : BitVec 32 := Scalar.muli arg1 c512_i32_44
  let v77 : BitVec 32 := v76
  let v78 : Index := Scalar.indexCast v77
  let c0_45 : Index := 0#32
  ![v78.toNat, 0]
def k0_off32 (i : grid0.Coords) : Fin 2 → Nat :=
  let arg1 : BitVec 32 := BitVec.ofNat 32 (i 1).val
  let c512_i32_44 : BitVec 32 := 512#32
  let v76 : BitVec 32 := Scalar.muli arg1 c512_i32_44
  let v77 : BitVec 32 := v76
  let v81 : Index := Scalar.indexCast v77
  let c0_46 : Index := 0#32
  ![v81.toNat, 0]
def k0_off33 (i : grid0.Coords) : Fin 3 → Nat :=
  let c0_47 : Index := 0#32
  let c0_48 : Index := 0#32
  let arg1 : BitVec 32 := BitVec.ofNat 32 (i 1).val
  let c512_i32_44 : BitVec 32 := 512#32
  let v76 : BitVec 32 := Scalar.muli arg1 c512_i32_44
  let v77 : BitVec 32 := v76
  let v84 : Index := Scalar.indexCast v77
  ![0, 0, v84.toNat]
def k0_cond4 (i : grid0.Coords) : BitVec 1 :=
  let arg1 : BitVec 32 := BitVec.ofNat 32 (i 1).val
  let c0_i32_10 : BitVec 32 := 0#32
  let v21 : BitVec 1 := Scalar.cmpi .sgt arg1 c0_i32_10
  let c32_i32 : BitVec 32 := 32#32
  let v14 : BitVec 32 := Scalar.subi c32_i32 arg1
  let c3_i32 : BitVec 32 := 3#32
  let v15 : BitVec 32 := Scalar.andi v14 c3_i32
  let c1_i32 : BitVec 32 := 1#32
  let v22 : BitVec 1 := Scalar.cmpi .eq v15 c1_i32
  let v23 : BitVec 1 := Scalar.andi v21 v22
  let v24 : BitVec 32 := Scalar.extui v23
  let c0_i32_11 : BitVec 32 := 0#32
  let v25 : BitVec 1 := Scalar.cmpi .ne v24 c0_i32_11
  v25

def k0_mult64 (i : grid0.Coords) : BitVec 32 :=
  let arg1 : BitVec 32 := BitVec.ofNat 32 (i 1).val
  let c512_i32_44 : BitVec 32 := 512#32
  let v76 : BitVec 32 := Scalar.muli arg1 c512_i32_44
  v76
def k0_off34 (i : grid0.Coords) : Fin 2 → Nat :=
  let arg1 : BitVec 32 := BitVec.ofNat 32 (i 1).val
  let c512_i32_44 : BitVec 32 := 512#32
  let v76 : BitVec 32 := Scalar.muli arg1 c512_i32_44
  let v77 : BitVec 32 := v76
  let v78 : Index := Scalar.indexCast v77
  let c0_45 : Index := 0#32
  ![v78.toNat, 0]
def k0_off35 (i : grid0.Coords) : Fin 2 → Nat :=
  let arg1 : BitVec 32 := BitVec.ofNat 32 (i 1).val
  let c512_i32_44 : BitVec 32 := 512#32
  let v76 : BitVec 32 := Scalar.muli arg1 c512_i32_44
  let v77 : BitVec 32 := v76
  let v81 : Index := Scalar.indexCast v77
  let c0_46 : Index := 0#32
  ![v81.toNat, 0]
def k0_off36 (i : grid0.Coords) : Fin 3 → Nat :=
  let c0_47 : Index := 0#32
  let c0_48 : Index := 0#32
  let arg1 : BitVec 32 := BitVec.ofNat 32 (i 1).val
  let c512_i32_44 : BitVec 32 := 512#32
  let v76 : BitVec 32 := Scalar.muli arg1 c512_i32_44
  let v77 : BitVec 32 := v76
  let v84 : Index := Scalar.indexCast v77
  ![0, 0, v84.toNat]
def k0_mult65 (i : grid0.Coords) : BitVec 32 :=
  let arg1 : BitVec 32 := BitVec.ofNat 32 (i 1).val
  let c1_i32_71 : BitVec 32 := 1#32
  let v138 : BitVec 32 := Scalar.addi arg1 c1_i32_71
  let c0_i32_72 : BitVec 32 := 0#32
  let v139 : BitVec 32 := Scalar.addi v138 c0_i32_72
  let c512_i32_77 : BitVec 32 := 512#32
  let v144 : BitVec 32 := Scalar.muli v139 c512_i32_77
  v144
def k0_off37 (i : grid0.Coords) : Fin 2 → Nat :=
  let arg1 : BitVec 32 := BitVec.ofNat 32 (i 1).val
  let c1_i32_71 : BitVec 32 := 1#32
  let v138 : BitVec 32 := Scalar.addi arg1 c1_i32_71
  let c0_i32_72 : BitVec 32 := 0#32
  let v139 : BitVec 32 := Scalar.addi v138 c0_i32_72
  let c512_i32_77 : BitVec 32 := 512#32
  let v144 : BitVec 32 := Scalar.muli v139 c512_i32_77
  let v145 : BitVec 32 := v144
  let v146 : Index := Scalar.indexCast v145
  let c0_78 : Index := 0#32
  ![v146.toNat, 0]
def k0_off38 (i : grid0.Coords) : Fin 2 → Nat :=
  let arg1 : BitVec 32 := BitVec.ofNat 32 (i 1).val
  let c1_i32_71 : BitVec 32 := 1#32
  let v138 : BitVec 32 := Scalar.addi arg1 c1_i32_71
  let c0_i32_72 : BitVec 32 := 0#32
  let v139 : BitVec 32 := Scalar.addi v138 c0_i32_72
  let c512_i32_77 : BitVec 32 := 512#32
  let v144 : BitVec 32 := Scalar.muli v139 c512_i32_77
  let v145 : BitVec 32 := v144
  let v149 : Index := Scalar.indexCast v145
  let c0_79 : Index := 0#32
  ![v149.toNat, 0]
def k0_off39 (i : grid0.Coords) : Fin 3 → Nat :=
  let c0_80 : Index := 0#32
  let c0_81 : Index := 0#32
  let arg1 : BitVec 32 := BitVec.ofNat 32 (i 1).val
  let c1_i32_71 : BitVec 32 := 1#32
  let v138 : BitVec 32 := Scalar.addi arg1 c1_i32_71
  let c0_i32_72 : BitVec 32 := 0#32
  let v139 : BitVec 32 := Scalar.addi v138 c0_i32_72
  let c512_i32_77 : BitVec 32 := 512#32
  let v144 : BitVec 32 := Scalar.muli v139 c512_i32_77
  let v145 : BitVec 32 := v144
  let v152 : Index := Scalar.indexCast v145
  ![0, 0, v152.toNat]
def k0_cond5 (i : grid0.Coords) : BitVec 1 :=
  let arg1 : BitVec 32 := BitVec.ofNat 32 (i 1).val
  let c0_i32_12 : BitVec 32 := 0#32
  let v26 : BitVec 1 := Scalar.cmpi .sgt arg1 c0_i32_12
  let c32_i32 : BitVec 32 := 32#32
  let v14 : BitVec 32 := Scalar.subi c32_i32 arg1
  let c3_i32 : BitVec 32 := 3#32
  let v15 : BitVec 32 := Scalar.andi v14 c3_i32
  let c2_i32 : BitVec 32 := 2#32
  let v27 : BitVec 1 := Scalar.cmpi .eq v15 c2_i32
  let v28 : BitVec 1 := Scalar.andi v26 v27
  let v29 : BitVec 32 := Scalar.extui v28
  let c0_i32_13 : BitVec 32 := 0#32
  let v30 : BitVec 1 := Scalar.cmpi .ne v29 c0_i32_13
  v30

def k0_mult66 (i : grid0.Coords) : BitVec 32 :=
  let arg1 : BitVec 32 := BitVec.ofNat 32 (i 1).val
  let c512_i32_44 : BitVec 32 := 512#32
  let v76 : BitVec 32 := Scalar.muli arg1 c512_i32_44
  v76
def k0_off40 (i : grid0.Coords) : Fin 2 → Nat :=
  let arg1 : BitVec 32 := BitVec.ofNat 32 (i 1).val
  let c512_i32_44 : BitVec 32 := 512#32
  let v76 : BitVec 32 := Scalar.muli arg1 c512_i32_44
  let v77 : BitVec 32 := v76
  let v78 : Index := Scalar.indexCast v77
  let c0_45 : Index := 0#32
  ![v78.toNat, 0]
def k0_off41 (i : grid0.Coords) : Fin 2 → Nat :=
  let arg1 : BitVec 32 := BitVec.ofNat 32 (i 1).val
  let c512_i32_44 : BitVec 32 := 512#32
  let v76 : BitVec 32 := Scalar.muli arg1 c512_i32_44
  let v77 : BitVec 32 := v76
  let v81 : Index := Scalar.indexCast v77
  let c0_46 : Index := 0#32
  ![v81.toNat, 0]
def k0_off42 (i : grid0.Coords) : Fin 3 → Nat :=
  let c0_47 : Index := 0#32
  let c0_48 : Index := 0#32
  let arg1 : BitVec 32 := BitVec.ofNat 32 (i 1).val
  let c512_i32_44 : BitVec 32 := 512#32
  let v76 : BitVec 32 := Scalar.muli arg1 c512_i32_44
  let v77 : BitVec 32 := v76
  let v84 : Index := Scalar.indexCast v77
  ![0, 0, v84.toNat]
def k0_mult67 (i : grid0.Coords) : BitVec 32 :=
  let arg1 : BitVec 32 := BitVec.ofNat 32 (i 1).val
  let c1_i32_71 : BitVec 32 := 1#32
  let v138 : BitVec 32 := Scalar.addi arg1 c1_i32_71
  let c0_i32_72 : BitVec 32 := 0#32
  let v139 : BitVec 32 := Scalar.addi v138 c0_i32_72
  let c512_i32_77 : BitVec 32 := 512#32
  let v144 : BitVec 32 := Scalar.muli v139 c512_i32_77
  v144
def k0_off43 (i : grid0.Coords) (c0_i32_72 : BitVec 32) : Fin 2 → Nat :=
  let arg1 : BitVec 32 := BitVec.ofNat 32 (i 1).val
  let c1_i32_71 : BitVec 32 := 1#32
  let v138 : BitVec 32 := Scalar.addi arg1 c1_i32_71
  let v139 : BitVec 32 := Scalar.addi v138 c0_i32_72
  let c512_i32_77 : BitVec 32 := 512#32
  let v144 : BitVec 32 := Scalar.muli v139 c512_i32_77
  let v145 : BitVec 32 := v144
  let v146 : Index := Scalar.indexCast v145
  let c0_78 : Index := 0#32
  ![v146.toNat, 0]
def k0_off44 (i : grid0.Coords) (c0_i32_72 : BitVec 32) : Fin 2 → Nat :=
  let arg1 : BitVec 32 := BitVec.ofNat 32 (i 1).val
  let c1_i32_71 : BitVec 32 := 1#32
  let v138 : BitVec 32 := Scalar.addi arg1 c1_i32_71
  let v139 : BitVec 32 := Scalar.addi v138 c0_i32_72
  let c512_i32_77 : BitVec 32 := 512#32
  let v144 : BitVec 32 := Scalar.muli v139 c512_i32_77
  let v145 : BitVec 32 := v144
  let v149 : Index := Scalar.indexCast v145
  let c0_79 : Index := 0#32
  ![v149.toNat, 0]
def k0_off45 (i : grid0.Coords) (c0_i32_72 : BitVec 32) : Fin 3 → Nat :=
  let c0_80 : Index := 0#32
  let c0_81 : Index := 0#32
  let arg1 : BitVec 32 := BitVec.ofNat 32 (i 1).val
  let c1_i32_71 : BitVec 32 := 1#32
  let v138 : BitVec 32 := Scalar.addi arg1 c1_i32_71
  let v139 : BitVec 32 := Scalar.addi v138 c0_i32_72
  let c512_i32_77 : BitVec 32 := 512#32
  let v144 : BitVec 32 := Scalar.muli v139 c512_i32_77
  let v145 : BitVec 32 := v144
  let v152 : Index := Scalar.indexCast v145
  ![0, 0, v152.toNat]
def k0_mult68 (i : grid0.Coords) : BitVec 32 :=
  let arg1 : BitVec 32 := BitVec.ofNat 32 (i 1).val
  let c1_i32_99 : BitVec 32 := 1#32
  let v188 : BitVec 32 := Scalar.addi arg1 c1_i32_99
  let c1_i32_100 : BitVec 32 := 1#32
  let v189 : BitVec 32 := Scalar.addi v188 c1_i32_100
  let c512_i32_105 : BitVec 32 := 512#32
  let v194 : BitVec 32 := Scalar.muli v189 c512_i32_105
  v194
def k0_cond6 (i : grid0.Coords) : BitVec 1 :=
  let arg1 : BitVec 32 := BitVec.ofNat 32 (i 1).val
  let c0_i32_14 : BitVec 32 := 0#32
  let v31 : BitVec 1 := Scalar.cmpi .sgt arg1 c0_i32_14
  let c32_i32 : BitVec 32 := 32#32
  let v14 : BitVec 32 := Scalar.subi c32_i32 arg1
  let c3_i32 : BitVec 32 := 3#32
  let v15 : BitVec 32 := Scalar.andi v14 c3_i32
  let c3_i32_15 : BitVec 32 := 3#32
  let v32 : BitVec 1 := Scalar.cmpi .eq v15 c3_i32_15
  let v33 : BitVec 1 := Scalar.andi v31 v32
  let v34 : BitVec 32 := Scalar.extui v33
  let c0_i32_16 : BitVec 32 := 0#32
  let v35 : BitVec 1 := Scalar.cmpi .ne v34 c0_i32_16
  v35

def k0_mult69 (i : grid0.Coords) : BitVec 32 :=
  let arg1 : BitVec 32 := BitVec.ofNat 32 (i 1).val
  let c512_i32_44 : BitVec 32 := 512#32
  let v76 : BitVec 32 := Scalar.muli arg1 c512_i32_44
  v76
def k0_off46 (i : grid0.Coords) : Fin 2 → Nat :=
  let arg1 : BitVec 32 := BitVec.ofNat 32 (i 1).val
  let c512_i32_44 : BitVec 32 := 512#32
  let v76 : BitVec 32 := Scalar.muli arg1 c512_i32_44
  let v77 : BitVec 32 := v76
  let v78 : Index := Scalar.indexCast v77
  let c0_45 : Index := 0#32
  ![v78.toNat, 0]
def k0_off47 (i : grid0.Coords) : Fin 2 → Nat :=
  let arg1 : BitVec 32 := BitVec.ofNat 32 (i 1).val
  let c512_i32_44 : BitVec 32 := 512#32
  let v76 : BitVec 32 := Scalar.muli arg1 c512_i32_44
  let v77 : BitVec 32 := v76
  let v81 : Index := Scalar.indexCast v77
  let c0_46 : Index := 0#32
  ![v81.toNat, 0]
def k0_off48 (i : grid0.Coords) : Fin 3 → Nat :=
  let c0_47 : Index := 0#32
  let c0_48 : Index := 0#32
  let arg1 : BitVec 32 := BitVec.ofNat 32 (i 1).val
  let c512_i32_44 : BitVec 32 := 512#32
  let v76 : BitVec 32 := Scalar.muli arg1 c512_i32_44
  let v77 : BitVec 32 := v76
  let v84 : Index := Scalar.indexCast v77
  ![0, 0, v84.toNat]
def k0_mult70 (i : grid0.Coords) : BitVec 32 :=
  let arg1 : BitVec 32 := BitVec.ofNat 32 (i 1).val
  let c1_i32_71 : BitVec 32 := 1#32
  let v138 : BitVec 32 := Scalar.addi arg1 c1_i32_71
  let c0_i32_72 : BitVec 32 := 0#32
  let v139 : BitVec 32 := Scalar.addi v138 c0_i32_72
  let c512_i32_77 : BitVec 32 := 512#32
  let v144 : BitVec 32 := Scalar.muli v139 c512_i32_77
  v144
def k0_off49 (i : grid0.Coords) (c0_i32_72 : BitVec 32) : Fin 2 → Nat :=
  let arg1 : BitVec 32 := BitVec.ofNat 32 (i 1).val
  let c1_i32_71 : BitVec 32 := 1#32
  let v138 : BitVec 32 := Scalar.addi arg1 c1_i32_71
  let v139 : BitVec 32 := Scalar.addi v138 c0_i32_72
  let c512_i32_77 : BitVec 32 := 512#32
  let v144 : BitVec 32 := Scalar.muli v139 c512_i32_77
  let v145 : BitVec 32 := v144
  let v146 : Index := Scalar.indexCast v145
  let c0_78 : Index := 0#32
  ![v146.toNat, 0]
def k0_off50 (i : grid0.Coords) (c0_i32_72 : BitVec 32) : Fin 2 → Nat :=
  let arg1 : BitVec 32 := BitVec.ofNat 32 (i 1).val
  let c1_i32_71 : BitVec 32 := 1#32
  let v138 : BitVec 32 := Scalar.addi arg1 c1_i32_71
  let v139 : BitVec 32 := Scalar.addi v138 c0_i32_72
  let c512_i32_77 : BitVec 32 := 512#32
  let v144 : BitVec 32 := Scalar.muli v139 c512_i32_77
  let v145 : BitVec 32 := v144
  let v149 : Index := Scalar.indexCast v145
  let c0_79 : Index := 0#32
  ![v149.toNat, 0]
def k0_off51 (i : grid0.Coords) (c0_i32_72 : BitVec 32) : Fin 3 → Nat :=
  let c0_80 : Index := 0#32
  let c0_81 : Index := 0#32
  let arg1 : BitVec 32 := BitVec.ofNat 32 (i 1).val
  let c1_i32_71 : BitVec 32 := 1#32
  let v138 : BitVec 32 := Scalar.addi arg1 c1_i32_71
  let v139 : BitVec 32 := Scalar.addi v138 c0_i32_72
  let c512_i32_77 : BitVec 32 := 512#32
  let v144 : BitVec 32 := Scalar.muli v139 c512_i32_77
  let v145 : BitVec 32 := v144
  let v152 : Index := Scalar.indexCast v145
  ![0, 0, v152.toNat]
def k0_mult71 (i : grid0.Coords) : BitVec 32 :=
  let arg1 : BitVec 32 := BitVec.ofNat 32 (i 1).val
  let c1_i32_99 : BitVec 32 := 1#32
  let v188 : BitVec 32 := Scalar.addi arg1 c1_i32_99
  let c1_i32_100 : BitVec 32 := 1#32
  let v189 : BitVec 32 := Scalar.addi v188 c1_i32_100
  let c512_i32_105 : BitVec 32 := 512#32
  let v194 : BitVec 32 := Scalar.muli v189 c512_i32_105
  v194
def k0_mult72 (i : grid0.Coords) : BitVec 32 :=
  let arg1 : BitVec 32 := BitVec.ofNat 32 (i 1).val
  let c1_i32_127 : BitVec 32 := 1#32
  let v238 : BitVec 32 := Scalar.addi arg1 c1_i32_127
  let c2_i32_128 : BitVec 32 := 2#32
  let v239 : BitVec 32 := Scalar.addi v238 c2_i32_128
  let c512_i32_133 : BitVec 32 := 512#32
  let v244 : BitVec 32 := Scalar.muli v239 c512_i32_133
  v244
def k0_cond7 (i : grid0.Coords) : BitVec 1 :=
  let arg1 : BitVec 32 := BitVec.ofNat 32 (i 1).val
  let c0_i32_17 : BitVec 32 := 0#32
  let v36 : BitVec 1 := Scalar.cmpi .sgt arg1 c0_i32_17
  let v37 : BitVec 32 := Scalar.extui v36
  let c0_i32_18 : BitVec 32 := 0#32
  let v38 : BitVec 1 := Scalar.cmpi .ne v37 c0_i32_18
  v38

@[reducible] def k0_t11_loop (i : grid0.Coords) : Scf.Loop 32 :=
  let c0_i32_49 : BitVec 32 := 0#32
  let c33_i32 : BitVec 32 := 33#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_51 : BitVec 32 := 1#32
  ⟨c0_i32_49, v97, c1_i32_51⟩
def k0_mult73 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_96 : BitVec 32 := 16#32
  let c0_i32_49 : BitVec 32 := 0#32
  let c1_i32_51 : BitVec 32 := 1#32
  let arg17 : BitVec 32 := Scf.iv c0_i32_49 c1_i32_51 k0_t11
  let v176 : BitVec 32 := Scalar.muli c16_i32_96 arg17
  let v177 : BitVec 32 := Scalar.addi v73 v176
  let c0_i32_97 : BitVec 32 := 0#32
  let v178 : BitVec 32 := Scalar.addi v177 c0_i32_97
  let c512_i32_102 : BitVec 32 := 512#32
  let v183 : BitVec 32 := Scalar.muli v178 c512_i32_102
  v183
def k0_off52 (i : grid0.Coords) (k0_t11 : Fin (k0_t11_loop i).trips) (c0_i32_97 : BitVec 32) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_96 : BitVec 32 := 16#32
  let c0_i32_49 : BitVec 32 := 0#32
  let c1_i32_51 : BitVec 32 := 1#32
  let arg17 : BitVec 32 := Scf.iv c0_i32_49 c1_i32_51 k0_t11
  let v176 : BitVec 32 := Scalar.muli c16_i32_96 arg17
  let v177 : BitVec 32 := Scalar.addi v73 v176
  let v178 : BitVec 32 := Scalar.addi v177 c0_i32_97
  let c512_i32_102 : BitVec 32 := 512#32
  let v183 : BitVec 32 := Scalar.muli v178 c512_i32_102
  let v184 : BitVec 32 := v183
  let v185 : Index := Scalar.indexCast v184
  let c0_103 : Index := 0#32
  ![v185.toNat, 0]
def k0_off53 (i : grid0.Coords) (k0_t11 : Fin (k0_t11_loop i).trips) (c0_i32_97 : BitVec 32) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_96 : BitVec 32 := 16#32
  let c0_i32_49 : BitVec 32 := 0#32
  let c1_i32_51 : BitVec 32 := 1#32
  let arg17 : BitVec 32 := Scf.iv c0_i32_49 c1_i32_51 k0_t11
  let v176 : BitVec 32 := Scalar.muli c16_i32_96 arg17
  let v177 : BitVec 32 := Scalar.addi v73 v176
  let v178 : BitVec 32 := Scalar.addi v177 c0_i32_97
  let c512_i32_102 : BitVec 32 := 512#32
  let v183 : BitVec 32 := Scalar.muli v178 c512_i32_102
  let v184 : BitVec 32 := v183
  let v188 : Index := Scalar.indexCast v184
  let c0_104 : Index := 0#32
  ![v188.toNat, 0]
def k0_off54 (i : grid0.Coords) (k0_t11 : Fin (k0_t11_loop i).trips) (c0_i32_97 : BitVec 32) : Fin 3 → Nat :=
  let c0_105 : Index := 0#32
  let c0_106 : Index := 0#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_96 : BitVec 32 := 16#32
  let c0_i32_49 : BitVec 32 := 0#32
  let c1_i32_51 : BitVec 32 := 1#32
  let arg17 : BitVec 32 := Scf.iv c0_i32_49 c1_i32_51 k0_t11
  let v176 : BitVec 32 := Scalar.muli c16_i32_96 arg17
  let v177 : BitVec 32 := Scalar.addi v73 v176
  let v178 : BitVec 32 := Scalar.addi v177 c0_i32_97
  let c512_i32_102 : BitVec 32 := 512#32
  let v183 : BitVec 32 := Scalar.muli v178 c512_i32_102
  let v184 : BitVec 32 := v183
  let v191 : Index := Scalar.indexCast v184
  ![0, 0, v191.toNat]
def k0_mult74 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_124 : BitVec 32 := 16#32
  let c0_i32_49 : BitVec 32 := 0#32
  let c1_i32_51 : BitVec 32 := 1#32
  let arg17 : BitVec 32 := Scf.iv c0_i32_49 c1_i32_51 k0_t11
  let v227 : BitVec 32 := Scalar.muli c16_i32_124 arg17
  let v228 : BitVec 32 := Scalar.addi v73 v227
  let c1_i32_125 : BitVec 32 := 1#32
  let v229 : BitVec 32 := Scalar.addi v228 c1_i32_125
  let c512_i32_130 : BitVec 32 := 512#32
  let v234 : BitVec 32 := Scalar.muli v229 c512_i32_130
  v234
def k0_mult75 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_152 : BitVec 32 := 16#32
  let c0_i32_49 : BitVec 32 := 0#32
  let c1_i32_51 : BitVec 32 := 1#32
  let arg17 : BitVec 32 := Scf.iv c0_i32_49 c1_i32_51 k0_t11
  let v278 : BitVec 32 := Scalar.muli c16_i32_152 arg17
  let v279 : BitVec 32 := Scalar.addi v73 v278
  let c2_i32_153 : BitVec 32 := 2#32
  let v280 : BitVec 32 := Scalar.addi v279 c2_i32_153
  let c512_i32_158 : BitVec 32 := 512#32
  let v285 : BitVec 32 := Scalar.muli v280 c512_i32_158
  v285
def k0_mult76 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_180 : BitVec 32 := 16#32
  let c0_i32_49 : BitVec 32 := 0#32
  let c1_i32_51 : BitVec 32 := 1#32
  let arg17 : BitVec 32 := Scf.iv c0_i32_49 c1_i32_51 k0_t11
  let v329 : BitVec 32 := Scalar.muli c16_i32_180 arg17
  let v330 : BitVec 32 := Scalar.addi v73 v329
  let c3_i32_181 : BitVec 32 := 3#32
  let v331 : BitVec 32 := Scalar.addi v330 c3_i32_181
  let c512_i32_186 : BitVec 32 := 512#32
  let v336 : BitVec 32 := Scalar.muli v331 c512_i32_186
  v336
def k0_mult77 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_208 : BitVec 32 := 16#32
  let c0_i32_49 : BitVec 32 := 0#32
  let c1_i32_51 : BitVec 32 := 1#32
  let arg17 : BitVec 32 := Scf.iv c0_i32_49 c1_i32_51 k0_t11
  let v380 : BitVec 32 := Scalar.muli c16_i32_208 arg17
  let v381 : BitVec 32 := Scalar.addi v73 v380
  let c4_i32_209 : BitVec 32 := 4#32
  let v382 : BitVec 32 := Scalar.addi v381 c4_i32_209
  let c512_i32_214 : BitVec 32 := 512#32
  let v387 : BitVec 32 := Scalar.muli v382 c512_i32_214
  v387
def k0_mult78 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_236 : BitVec 32 := 16#32
  let c0_i32_49 : BitVec 32 := 0#32
  let c1_i32_51 : BitVec 32 := 1#32
  let arg17 : BitVec 32 := Scf.iv c0_i32_49 c1_i32_51 k0_t11
  let v431 : BitVec 32 := Scalar.muli c16_i32_236 arg17
  let v432 : BitVec 32 := Scalar.addi v73 v431
  let c5_i32 : BitVec 32 := 5#32
  let v433 : BitVec 32 := Scalar.addi v432 c5_i32
  let c512_i32_241 : BitVec 32 := 512#32
  let v438 : BitVec 32 := Scalar.muli v433 c512_i32_241
  v438
def k0_mult79 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_263 : BitVec 32 := 16#32
  let c0_i32_49 : BitVec 32 := 0#32
  let c1_i32_51 : BitVec 32 := 1#32
  let arg17 : BitVec 32 := Scf.iv c0_i32_49 c1_i32_51 k0_t11
  let v482 : BitVec 32 := Scalar.muli c16_i32_263 arg17
  let v483 : BitVec 32 := Scalar.addi v73 v482
  let c6_i32 : BitVec 32 := 6#32
  let v484 : BitVec 32 := Scalar.addi v483 c6_i32
  let c512_i32_268 : BitVec 32 := 512#32
  let v489 : BitVec 32 := Scalar.muli v484 c512_i32_268
  v489
def k0_mult80 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_290 : BitVec 32 := 16#32
  let c0_i32_49 : BitVec 32 := 0#32
  let c1_i32_51 : BitVec 32 := 1#32
  let arg17 : BitVec 32 := Scf.iv c0_i32_49 c1_i32_51 k0_t11
  let v533 : BitVec 32 := Scalar.muli c16_i32_290 arg17
  let v534 : BitVec 32 := Scalar.addi v73 v533
  let c7_i32 : BitVec 32 := 7#32
  let v535 : BitVec 32 := Scalar.addi v534 c7_i32
  let c512_i32_295 : BitVec 32 := 512#32
  let v540 : BitVec 32 := Scalar.muli v535 c512_i32_295
  v540
def k0_mult81 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_317 : BitVec 32 := 16#32
  let c0_i32_49 : BitVec 32 := 0#32
  let c1_i32_51 : BitVec 32 := 1#32
  let arg17 : BitVec 32 := Scf.iv c0_i32_49 c1_i32_51 k0_t11
  let v584 : BitVec 32 := Scalar.muli c16_i32_317 arg17
  let v585 : BitVec 32 := Scalar.addi v73 v584
  let c8_i32_318 : BitVec 32 := 8#32
  let v586 : BitVec 32 := Scalar.addi v585 c8_i32_318
  let c512_i32_323 : BitVec 32 := 512#32
  let v591 : BitVec 32 := Scalar.muli v586 c512_i32_323
  v591
def k0_mult82 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_345 : BitVec 32 := 16#32
  let c0_i32_49 : BitVec 32 := 0#32
  let c1_i32_51 : BitVec 32 := 1#32
  let arg17 : BitVec 32 := Scf.iv c0_i32_49 c1_i32_51 k0_t11
  let v635 : BitVec 32 := Scalar.muli c16_i32_345 arg17
  let v636 : BitVec 32 := Scalar.addi v73 v635
  let c9_i32 : BitVec 32 := 9#32
  let v637 : BitVec 32 := Scalar.addi v636 c9_i32
  let c512_i32_350 : BitVec 32 := 512#32
  let v642 : BitVec 32 := Scalar.muli v637 c512_i32_350
  v642
def k0_mult83 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_372 : BitVec 32 := 16#32
  let c0_i32_49 : BitVec 32 := 0#32
  let c1_i32_51 : BitVec 32 := 1#32
  let arg17 : BitVec 32 := Scf.iv c0_i32_49 c1_i32_51 k0_t11
  let v686 : BitVec 32 := Scalar.muli c16_i32_372 arg17
  let v687 : BitVec 32 := Scalar.addi v73 v686
  let c10_i32 : BitVec 32 := 10#32
  let v688 : BitVec 32 := Scalar.addi v687 c10_i32
  let c512_i32_377 : BitVec 32 := 512#32
  let v693 : BitVec 32 := Scalar.muli v688 c512_i32_377
  v693
def k0_mult84 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_399 : BitVec 32 := 16#32
  let c0_i32_49 : BitVec 32 := 0#32
  let c1_i32_51 : BitVec 32 := 1#32
  let arg17 : BitVec 32 := Scf.iv c0_i32_49 c1_i32_51 k0_t11
  let v737 : BitVec 32 := Scalar.muli c16_i32_399 arg17
  let v738 : BitVec 32 := Scalar.addi v73 v737
  let c11_i32 : BitVec 32 := 11#32
  let v739 : BitVec 32 := Scalar.addi v738 c11_i32
  let c512_i32_404 : BitVec 32 := 512#32
  let v744 : BitVec 32 := Scalar.muli v739 c512_i32_404
  v744
def k0_mult85 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_426 : BitVec 32 := 16#32
  let c0_i32_49 : BitVec 32 := 0#32
  let c1_i32_51 : BitVec 32 := 1#32
  let arg17 : BitVec 32 := Scf.iv c0_i32_49 c1_i32_51 k0_t11
  let v788 : BitVec 32 := Scalar.muli c16_i32_426 arg17
  let v789 : BitVec 32 := Scalar.addi v73 v788
  let c12_i32 : BitVec 32 := 12#32
  let v790 : BitVec 32 := Scalar.addi v789 c12_i32
  let c512_i32_431 : BitVec 32 := 512#32
  let v795 : BitVec 32 := Scalar.muli v790 c512_i32_431
  v795
def k0_mult86 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_453 : BitVec 32 := 16#32
  let c0_i32_49 : BitVec 32 := 0#32
  let c1_i32_51 : BitVec 32 := 1#32
  let arg17 : BitVec 32 := Scf.iv c0_i32_49 c1_i32_51 k0_t11
  let v839 : BitVec 32 := Scalar.muli c16_i32_453 arg17
  let v840 : BitVec 32 := Scalar.addi v73 v839
  let c13_i32 : BitVec 32 := 13#32
  let v841 : BitVec 32 := Scalar.addi v840 c13_i32
  let c512_i32_458 : BitVec 32 := 512#32
  let v846 : BitVec 32 := Scalar.muli v841 c512_i32_458
  v846
def k0_mult87 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_480 : BitVec 32 := 16#32
  let c0_i32_49 : BitVec 32 := 0#32
  let c1_i32_51 : BitVec 32 := 1#32
  let arg17 : BitVec 32 := Scf.iv c0_i32_49 c1_i32_51 k0_t11
  let v890 : BitVec 32 := Scalar.muli c16_i32_480 arg17
  let v891 : BitVec 32 := Scalar.addi v73 v890
  let c14_i32 : BitVec 32 := 14#32
  let v892 : BitVec 32 := Scalar.addi v891 c14_i32
  let c512_i32_485 : BitVec 32 := 512#32
  let v897 : BitVec 32 := Scalar.muli v892 c512_i32_485
  v897
def k0_mult88 (i : grid0.Coords) (k0_t11 : Fin (k0_t11_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_507 : BitVec 32 := 16#32
  let c0_i32_49 : BitVec 32 := 0#32
  let c1_i32_51 : BitVec 32 := 1#32
  let arg17 : BitVec 32 := Scf.iv c0_i32_49 c1_i32_51 k0_t11
  let v941 : BitVec 32 := Scalar.muli c16_i32_507 arg17
  let v942 : BitVec 32 := Scalar.addi v73 v941
  let c15_i32 : BitVec 32 := 15#32
  let v943 : BitVec 32 := Scalar.addi v942 c15_i32
  let c512_i32_512 : BitVec 32 := 512#32
  let v948 : BitVec 32 := Scalar.muli v943 c512_i32_512
  v948
@[reducible] def k0_t12_loop (i : grid0.Coords) : Scf.Loop 32 :=
  let c0_i32_49 : BitVec 32 := 0#32
  let c33_i32 : BitVec 32 := 33#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let v94 : BitVec 32 := Scalar.addi c0_i32_49 v93
  let c1_i32_52 : BitVec 32 := 1#32
  ⟨v97, v94, c1_i32_52⟩
def k0_mult89 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_96 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v176 : BitVec 32 := Scalar.muli c16_i32_96 arg17
  let v177 : BitVec 32 := Scalar.addi v73 v176
  let c0_i32_97 : BitVec 32 := 0#32
  let v178 : BitVec 32 := Scalar.addi v177 c0_i32_97
  let c512_i32_102 : BitVec 32 := 512#32
  let v183 : BitVec 32 := Scalar.muli v178 c512_i32_102
  v183
def k0_off55 (i : grid0.Coords) (k0_t12 : Fin (k0_t12_loop i).trips) (c0_i32_97 : BitVec 32) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_96 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v176 : BitVec 32 := Scalar.muli c16_i32_96 arg17
  let v177 : BitVec 32 := Scalar.addi v73 v176
  let v178 : BitVec 32 := Scalar.addi v177 c0_i32_97
  let c512_i32_102 : BitVec 32 := 512#32
  let v183 : BitVec 32 := Scalar.muli v178 c512_i32_102
  let v184 : BitVec 32 := v183
  let v185 : Index := Scalar.indexCast v184
  let c0_103 : Index := 0#32
  ![v185.toNat, 0]
def k0_off56 (i : grid0.Coords) (k0_t12 : Fin (k0_t12_loop i).trips) (c0_i32_97 : BitVec 32) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_96 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v176 : BitVec 32 := Scalar.muli c16_i32_96 arg17
  let v177 : BitVec 32 := Scalar.addi v73 v176
  let v178 : BitVec 32 := Scalar.addi v177 c0_i32_97
  let c512_i32_102 : BitVec 32 := 512#32
  let v183 : BitVec 32 := Scalar.muli v178 c512_i32_102
  let v184 : BitVec 32 := v183
  let v188 : Index := Scalar.indexCast v184
  let c0_104 : Index := 0#32
  ![v188.toNat, 0]
def k0_off57 (i : grid0.Coords) (k0_t12 : Fin (k0_t12_loop i).trips) (c0_i32_97 : BitVec 32) : Fin 3 → Nat :=
  let c0_105 : Index := 0#32
  let c0_106 : Index := 0#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_96 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v176 : BitVec 32 := Scalar.muli c16_i32_96 arg17
  let v177 : BitVec 32 := Scalar.addi v73 v176
  let v178 : BitVec 32 := Scalar.addi v177 c0_i32_97
  let c512_i32_102 : BitVec 32 := 512#32
  let v183 : BitVec 32 := Scalar.muli v178 c512_i32_102
  let v184 : BitVec 32 := v183
  let v191 : Index := Scalar.indexCast v184
  ![0, 0, v191.toNat]
def k0_mult90 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_124 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v227 : BitVec 32 := Scalar.muli c16_i32_124 arg17
  let v228 : BitVec 32 := Scalar.addi v73 v227
  let c1_i32_125 : BitVec 32 := 1#32
  let v229 : BitVec 32 := Scalar.addi v228 c1_i32_125
  let c512_i32_130 : BitVec 32 := 512#32
  let v234 : BitVec 32 := Scalar.muli v229 c512_i32_130
  v234
def k0_mult91 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_152 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v278 : BitVec 32 := Scalar.muli c16_i32_152 arg17
  let v279 : BitVec 32 := Scalar.addi v73 v278
  let c2_i32_153 : BitVec 32 := 2#32
  let v280 : BitVec 32 := Scalar.addi v279 c2_i32_153
  let c512_i32_158 : BitVec 32 := 512#32
  let v285 : BitVec 32 := Scalar.muli v280 c512_i32_158
  v285
def k0_mult92 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_180 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v329 : BitVec 32 := Scalar.muli c16_i32_180 arg17
  let v330 : BitVec 32 := Scalar.addi v73 v329
  let c3_i32_181 : BitVec 32 := 3#32
  let v331 : BitVec 32 := Scalar.addi v330 c3_i32_181
  let c512_i32_186 : BitVec 32 := 512#32
  let v336 : BitVec 32 := Scalar.muli v331 c512_i32_186
  v336
def k0_mult93 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_208 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v380 : BitVec 32 := Scalar.muli c16_i32_208 arg17
  let v381 : BitVec 32 := Scalar.addi v73 v380
  let c4_i32_209 : BitVec 32 := 4#32
  let v382 : BitVec 32 := Scalar.addi v381 c4_i32_209
  let c512_i32_214 : BitVec 32 := 512#32
  let v387 : BitVec 32 := Scalar.muli v382 c512_i32_214
  v387
def k0_mult94 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_236 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v431 : BitVec 32 := Scalar.muli c16_i32_236 arg17
  let v432 : BitVec 32 := Scalar.addi v73 v431
  let c5_i32 : BitVec 32 := 5#32
  let v433 : BitVec 32 := Scalar.addi v432 c5_i32
  let c512_i32_241 : BitVec 32 := 512#32
  let v438 : BitVec 32 := Scalar.muli v433 c512_i32_241
  v438
def k0_mult95 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_263 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v482 : BitVec 32 := Scalar.muli c16_i32_263 arg17
  let v483 : BitVec 32 := Scalar.addi v73 v482
  let c6_i32 : BitVec 32 := 6#32
  let v484 : BitVec 32 := Scalar.addi v483 c6_i32
  let c512_i32_268 : BitVec 32 := 512#32
  let v489 : BitVec 32 := Scalar.muli v484 c512_i32_268
  v489
def k0_mult96 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_290 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v533 : BitVec 32 := Scalar.muli c16_i32_290 arg17
  let v534 : BitVec 32 := Scalar.addi v73 v533
  let c7_i32 : BitVec 32 := 7#32
  let v535 : BitVec 32 := Scalar.addi v534 c7_i32
  let c512_i32_295 : BitVec 32 := 512#32
  let v540 : BitVec 32 := Scalar.muli v535 c512_i32_295
  v540
def k0_mult97 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_317 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v584 : BitVec 32 := Scalar.muli c16_i32_317 arg17
  let v585 : BitVec 32 := Scalar.addi v73 v584
  let c8_i32_318 : BitVec 32 := 8#32
  let v586 : BitVec 32 := Scalar.addi v585 c8_i32_318
  let c512_i32_323 : BitVec 32 := 512#32
  let v591 : BitVec 32 := Scalar.muli v586 c512_i32_323
  v591
def k0_mult98 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_345 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v635 : BitVec 32 := Scalar.muli c16_i32_345 arg17
  let v636 : BitVec 32 := Scalar.addi v73 v635
  let c9_i32 : BitVec 32 := 9#32
  let v637 : BitVec 32 := Scalar.addi v636 c9_i32
  let c512_i32_350 : BitVec 32 := 512#32
  let v642 : BitVec 32 := Scalar.muli v637 c512_i32_350
  v642
def k0_mult99 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_372 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v686 : BitVec 32 := Scalar.muli c16_i32_372 arg17
  let v687 : BitVec 32 := Scalar.addi v73 v686
  let c10_i32 : BitVec 32 := 10#32
  let v688 : BitVec 32 := Scalar.addi v687 c10_i32
  let c512_i32_377 : BitVec 32 := 512#32
  let v693 : BitVec 32 := Scalar.muli v688 c512_i32_377
  v693
def k0_mult100 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_399 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v737 : BitVec 32 := Scalar.muli c16_i32_399 arg17
  let v738 : BitVec 32 := Scalar.addi v73 v737
  let c11_i32 : BitVec 32 := 11#32
  let v739 : BitVec 32 := Scalar.addi v738 c11_i32
  let c512_i32_404 : BitVec 32 := 512#32
  let v744 : BitVec 32 := Scalar.muli v739 c512_i32_404
  v744
def k0_mult101 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_426 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v788 : BitVec 32 := Scalar.muli c16_i32_426 arg17
  let v789 : BitVec 32 := Scalar.addi v73 v788
  let c12_i32 : BitVec 32 := 12#32
  let v790 : BitVec 32 := Scalar.addi v789 c12_i32
  let c512_i32_431 : BitVec 32 := 512#32
  let v795 : BitVec 32 := Scalar.muli v790 c512_i32_431
  v795
def k0_mult102 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_453 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v839 : BitVec 32 := Scalar.muli c16_i32_453 arg17
  let v840 : BitVec 32 := Scalar.addi v73 v839
  let c13_i32 : BitVec 32 := 13#32
  let v841 : BitVec 32 := Scalar.addi v840 c13_i32
  let c512_i32_458 : BitVec 32 := 512#32
  let v846 : BitVec 32 := Scalar.muli v841 c512_i32_458
  v846
def k0_mult103 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_480 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v890 : BitVec 32 := Scalar.muli c16_i32_480 arg17
  let v891 : BitVec 32 := Scalar.addi v73 v890
  let c14_i32 : BitVec 32 := 14#32
  let v892 : BitVec 32 := Scalar.addi v891 c14_i32
  let c512_i32_485 : BitVec 32 := 512#32
  let v897 : BitVec 32 := Scalar.muli v892 c512_i32_485
  v897
def k0_mult104 (i : grid0.Coords) (k0_t12 : Fin (k0_t12_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c16_i32_507 : BitVec 32 := 16#32
  let c0_i32_49 : BitVec 32 := 0#32
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let v93 : BitVec 32 := Scalar.subi v92 c0_i32_49
  let c1_i32_50 : BitVec 32 := 1#32
  let v95 : BitVec 32 := Scalar.divsi v93 c1_i32_50
  let v96 : BitVec 32 := Scalar.muli v95 c1_i32_50
  let v97 : BitVec 32 := Scalar.addi c0_i32_49 v96
  let c1_i32_52 : BitVec 32 := 1#32
  let arg17 : BitVec 32 := Scf.iv v97 c1_i32_52 k0_t12
  let v941 : BitVec 32 := Scalar.muli c16_i32_507 arg17
  let v942 : BitVec 32 := Scalar.addi v73 v941
  let c15_i32 : BitVec 32 := 15#32
  let v943 : BitVec 32 := Scalar.addi v942 c15_i32
  let c512_i32_512 : BitVec 32 := 512#32
  let v948 : BitVec 32 := Scalar.muli v943 c512_i32_512
  v948
@[reducible] def k0_t13_loop (i : grid0.Coords) : Scf.Loop 32 :=
  let c0_i32_63 : BitVec 32 := 0#32
  let c33_i32_54 : BitVec 32 := 33#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let c1_i32_65 : BitVec 32 := 1#32
  ⟨c0_i32_63, v123, c1_i32_65⟩
def k0_mult105 (i : grid0.Coords) (k0_t13 : Fin (k0_t13_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_96 : BitVec 32 := 8#32
  let c0_i32_63 : BitVec 32 := 0#32
  let c1_i32_65 : BitVec 32 := 1#32
  let arg17 : BitVec 32 := Scf.iv c0_i32_63 c1_i32_65 k0_t13
  let v176 : BitVec 32 := Scalar.muli c8_i32_96 arg17
  let v177 : BitVec 32 := Scalar.addi v99 v176
  let c0_i32_97 : BitVec 32 := 0#32
  let v178 : BitVec 32 := Scalar.addi v177 c0_i32_97
  let c512_i32_102 : BitVec 32 := 512#32
  let v183 : BitVec 32 := Scalar.muli v178 c512_i32_102
  v183
def k0_off58 (i : grid0.Coords) (k0_t13 : Fin (k0_t13_loop i).trips) (c0_i32_97 : BitVec 32) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_96 : BitVec 32 := 8#32
  let c0_i32_63 : BitVec 32 := 0#32
  let c1_i32_65 : BitVec 32 := 1#32
  let arg17 : BitVec 32 := Scf.iv c0_i32_63 c1_i32_65 k0_t13
  let v176 : BitVec 32 := Scalar.muli c8_i32_96 arg17
  let v177 : BitVec 32 := Scalar.addi v99 v176
  let v178 : BitVec 32 := Scalar.addi v177 c0_i32_97
  let c512_i32_102 : BitVec 32 := 512#32
  let v183 : BitVec 32 := Scalar.muli v178 c512_i32_102
  let v184 : BitVec 32 := v183
  let v185 : Index := Scalar.indexCast v184
  let c0_103 : Index := 0#32
  ![v185.toNat, 0]
def k0_off59 (i : grid0.Coords) (k0_t13 : Fin (k0_t13_loop i).trips) (c0_i32_97 : BitVec 32) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_96 : BitVec 32 := 8#32
  let c0_i32_63 : BitVec 32 := 0#32
  let c1_i32_65 : BitVec 32 := 1#32
  let arg17 : BitVec 32 := Scf.iv c0_i32_63 c1_i32_65 k0_t13
  let v176 : BitVec 32 := Scalar.muli c8_i32_96 arg17
  let v177 : BitVec 32 := Scalar.addi v99 v176
  let v178 : BitVec 32 := Scalar.addi v177 c0_i32_97
  let c512_i32_102 : BitVec 32 := 512#32
  let v183 : BitVec 32 := Scalar.muli v178 c512_i32_102
  let v184 : BitVec 32 := v183
  let v188 : Index := Scalar.indexCast v184
  let c0_104 : Index := 0#32
  ![v188.toNat, 0]
def k0_off60 (i : grid0.Coords) (k0_t13 : Fin (k0_t13_loop i).trips) (c0_i32_97 : BitVec 32) : Fin 3 → Nat :=
  let c0_105 : Index := 0#32
  let c0_106 : Index := 0#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_96 : BitVec 32 := 8#32
  let c0_i32_63 : BitVec 32 := 0#32
  let c1_i32_65 : BitVec 32 := 1#32
  let arg17 : BitVec 32 := Scf.iv c0_i32_63 c1_i32_65 k0_t13
  let v176 : BitVec 32 := Scalar.muli c8_i32_96 arg17
  let v177 : BitVec 32 := Scalar.addi v99 v176
  let v178 : BitVec 32 := Scalar.addi v177 c0_i32_97
  let c512_i32_102 : BitVec 32 := 512#32
  let v183 : BitVec 32 := Scalar.muli v178 c512_i32_102
  let v184 : BitVec 32 := v183
  let v191 : Index := Scalar.indexCast v184
  ![0, 0, v191.toNat]
def k0_mult106 (i : grid0.Coords) (k0_t13 : Fin (k0_t13_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_124 : BitVec 32 := 8#32
  let c0_i32_63 : BitVec 32 := 0#32
  let c1_i32_65 : BitVec 32 := 1#32
  let arg17 : BitVec 32 := Scf.iv c0_i32_63 c1_i32_65 k0_t13
  let v227 : BitVec 32 := Scalar.muli c8_i32_124 arg17
  let v228 : BitVec 32 := Scalar.addi v99 v227
  let c1_i32_125 : BitVec 32 := 1#32
  let v229 : BitVec 32 := Scalar.addi v228 c1_i32_125
  let c512_i32_130 : BitVec 32 := 512#32
  let v234 : BitVec 32 := Scalar.muli v229 c512_i32_130
  v234
def k0_mult107 (i : grid0.Coords) (k0_t13 : Fin (k0_t13_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_152 : BitVec 32 := 8#32
  let c0_i32_63 : BitVec 32 := 0#32
  let c1_i32_65 : BitVec 32 := 1#32
  let arg17 : BitVec 32 := Scf.iv c0_i32_63 c1_i32_65 k0_t13
  let v278 : BitVec 32 := Scalar.muli c8_i32_152 arg17
  let v279 : BitVec 32 := Scalar.addi v99 v278
  let c2_i32_153 : BitVec 32 := 2#32
  let v280 : BitVec 32 := Scalar.addi v279 c2_i32_153
  let c512_i32_158 : BitVec 32 := 512#32
  let v285 : BitVec 32 := Scalar.muli v280 c512_i32_158
  v285
def k0_mult108 (i : grid0.Coords) (k0_t13 : Fin (k0_t13_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_180 : BitVec 32 := 8#32
  let c0_i32_63 : BitVec 32 := 0#32
  let c1_i32_65 : BitVec 32 := 1#32
  let arg17 : BitVec 32 := Scf.iv c0_i32_63 c1_i32_65 k0_t13
  let v329 : BitVec 32 := Scalar.muli c8_i32_180 arg17
  let v330 : BitVec 32 := Scalar.addi v99 v329
  let c3_i32_181 : BitVec 32 := 3#32
  let v331 : BitVec 32 := Scalar.addi v330 c3_i32_181
  let c512_i32_186 : BitVec 32 := 512#32
  let v336 : BitVec 32 := Scalar.muli v331 c512_i32_186
  v336
def k0_mult109 (i : grid0.Coords) (k0_t13 : Fin (k0_t13_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_208 : BitVec 32 := 8#32
  let c0_i32_63 : BitVec 32 := 0#32
  let c1_i32_65 : BitVec 32 := 1#32
  let arg17 : BitVec 32 := Scf.iv c0_i32_63 c1_i32_65 k0_t13
  let v380 : BitVec 32 := Scalar.muli c8_i32_208 arg17
  let v381 : BitVec 32 := Scalar.addi v99 v380
  let c4_i32_209 : BitVec 32 := 4#32
  let v382 : BitVec 32 := Scalar.addi v381 c4_i32_209
  let c512_i32_214 : BitVec 32 := 512#32
  let v387 : BitVec 32 := Scalar.muli v382 c512_i32_214
  v387
def k0_mult110 (i : grid0.Coords) (k0_t13 : Fin (k0_t13_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_236 : BitVec 32 := 8#32
  let c0_i32_63 : BitVec 32 := 0#32
  let c1_i32_65 : BitVec 32 := 1#32
  let arg17 : BitVec 32 := Scf.iv c0_i32_63 c1_i32_65 k0_t13
  let v431 : BitVec 32 := Scalar.muli c8_i32_236 arg17
  let v432 : BitVec 32 := Scalar.addi v99 v431
  let c5_i32 : BitVec 32 := 5#32
  let v433 : BitVec 32 := Scalar.addi v432 c5_i32
  let c512_i32_241 : BitVec 32 := 512#32
  let v438 : BitVec 32 := Scalar.muli v433 c512_i32_241
  v438
def k0_mult111 (i : grid0.Coords) (k0_t13 : Fin (k0_t13_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_263 : BitVec 32 := 8#32
  let c0_i32_63 : BitVec 32 := 0#32
  let c1_i32_65 : BitVec 32 := 1#32
  let arg17 : BitVec 32 := Scf.iv c0_i32_63 c1_i32_65 k0_t13
  let v482 : BitVec 32 := Scalar.muli c8_i32_263 arg17
  let v483 : BitVec 32 := Scalar.addi v99 v482
  let c6_i32 : BitVec 32 := 6#32
  let v484 : BitVec 32 := Scalar.addi v483 c6_i32
  let c512_i32_268 : BitVec 32 := 512#32
  let v489 : BitVec 32 := Scalar.muli v484 c512_i32_268
  v489
def k0_mult112 (i : grid0.Coords) (k0_t13 : Fin (k0_t13_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_290 : BitVec 32 := 8#32
  let c0_i32_63 : BitVec 32 := 0#32
  let c1_i32_65 : BitVec 32 := 1#32
  let arg17 : BitVec 32 := Scf.iv c0_i32_63 c1_i32_65 k0_t13
  let v533 : BitVec 32 := Scalar.muli c8_i32_290 arg17
  let v534 : BitVec 32 := Scalar.addi v99 v533
  let c7_i32 : BitVec 32 := 7#32
  let v535 : BitVec 32 := Scalar.addi v534 c7_i32
  let c512_i32_295 : BitVec 32 := 512#32
  let v540 : BitVec 32 := Scalar.muli v535 c512_i32_295
  v540
@[reducible] def k0_t14_loop (i : grid0.Coords) : Scf.Loop 32 :=
  let c0_i32_63 : BitVec 32 := 0#32
  let c33_i32_54 : BitVec 32 := 33#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let v120 : BitVec 32 := Scalar.addi c0_i32_63 v119
  let c1_i32_66 : BitVec 32 := 1#32
  ⟨v123, v120, c1_i32_66⟩
def k0_mult113 (i : grid0.Coords) (k0_t14 : Fin (k0_t14_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_96 : BitVec 32 := 8#32
  let c0_i32_63 : BitVec 32 := 0#32
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let c1_i32_66 : BitVec 32 := 1#32
  let arg17 : BitVec 32 := Scf.iv v123 c1_i32_66 k0_t14
  let v176 : BitVec 32 := Scalar.muli c8_i32_96 arg17
  let v177 : BitVec 32 := Scalar.addi v99 v176
  let c0_i32_97 : BitVec 32 := 0#32
  let v178 : BitVec 32 := Scalar.addi v177 c0_i32_97
  let c512_i32_102 : BitVec 32 := 512#32
  let v183 : BitVec 32 := Scalar.muli v178 c512_i32_102
  v183
def k0_off61 (i : grid0.Coords) (k0_t14 : Fin (k0_t14_loop i).trips) (c0_i32_97 : BitVec 32) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_96 : BitVec 32 := 8#32
  let c0_i32_63 : BitVec 32 := 0#32
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let c1_i32_66 : BitVec 32 := 1#32
  let arg17 : BitVec 32 := Scf.iv v123 c1_i32_66 k0_t14
  let v176 : BitVec 32 := Scalar.muli c8_i32_96 arg17
  let v177 : BitVec 32 := Scalar.addi v99 v176
  let v178 : BitVec 32 := Scalar.addi v177 c0_i32_97
  let c512_i32_102 : BitVec 32 := 512#32
  let v183 : BitVec 32 := Scalar.muli v178 c512_i32_102
  let v184 : BitVec 32 := v183
  let v185 : Index := Scalar.indexCast v184
  let c0_103 : Index := 0#32
  ![v185.toNat, 0]
def k0_off62 (i : grid0.Coords) (k0_t14 : Fin (k0_t14_loop i).trips) (c0_i32_97 : BitVec 32) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_96 : BitVec 32 := 8#32
  let c0_i32_63 : BitVec 32 := 0#32
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let c1_i32_66 : BitVec 32 := 1#32
  let arg17 : BitVec 32 := Scf.iv v123 c1_i32_66 k0_t14
  let v176 : BitVec 32 := Scalar.muli c8_i32_96 arg17
  let v177 : BitVec 32 := Scalar.addi v99 v176
  let v178 : BitVec 32 := Scalar.addi v177 c0_i32_97
  let c512_i32_102 : BitVec 32 := 512#32
  let v183 : BitVec 32 := Scalar.muli v178 c512_i32_102
  let v184 : BitVec 32 := v183
  let v188 : Index := Scalar.indexCast v184
  let c0_104 : Index := 0#32
  ![v188.toNat, 0]
def k0_off63 (i : grid0.Coords) (k0_t14 : Fin (k0_t14_loop i).trips) (c0_i32_97 : BitVec 32) : Fin 3 → Nat :=
  let c0_105 : Index := 0#32
  let c0_106 : Index := 0#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_96 : BitVec 32 := 8#32
  let c0_i32_63 : BitVec 32 := 0#32
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let c1_i32_66 : BitVec 32 := 1#32
  let arg17 : BitVec 32 := Scf.iv v123 c1_i32_66 k0_t14
  let v176 : BitVec 32 := Scalar.muli c8_i32_96 arg17
  let v177 : BitVec 32 := Scalar.addi v99 v176
  let v178 : BitVec 32 := Scalar.addi v177 c0_i32_97
  let c512_i32_102 : BitVec 32 := 512#32
  let v183 : BitVec 32 := Scalar.muli v178 c512_i32_102
  let v184 : BitVec 32 := v183
  let v191 : Index := Scalar.indexCast v184
  ![0, 0, v191.toNat]
def k0_mult114 (i : grid0.Coords) (k0_t14 : Fin (k0_t14_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_124 : BitVec 32 := 8#32
  let c0_i32_63 : BitVec 32 := 0#32
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let c1_i32_66 : BitVec 32 := 1#32
  let arg17 : BitVec 32 := Scf.iv v123 c1_i32_66 k0_t14
  let v227 : BitVec 32 := Scalar.muli c8_i32_124 arg17
  let v228 : BitVec 32 := Scalar.addi v99 v227
  let c1_i32_125 : BitVec 32 := 1#32
  let v229 : BitVec 32 := Scalar.addi v228 c1_i32_125
  let c512_i32_130 : BitVec 32 := 512#32
  let v234 : BitVec 32 := Scalar.muli v229 c512_i32_130
  v234
def k0_mult115 (i : grid0.Coords) (k0_t14 : Fin (k0_t14_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_152 : BitVec 32 := 8#32
  let c0_i32_63 : BitVec 32 := 0#32
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let c1_i32_66 : BitVec 32 := 1#32
  let arg17 : BitVec 32 := Scf.iv v123 c1_i32_66 k0_t14
  let v278 : BitVec 32 := Scalar.muli c8_i32_152 arg17
  let v279 : BitVec 32 := Scalar.addi v99 v278
  let c2_i32_153 : BitVec 32 := 2#32
  let v280 : BitVec 32 := Scalar.addi v279 c2_i32_153
  let c512_i32_158 : BitVec 32 := 512#32
  let v285 : BitVec 32 := Scalar.muli v280 c512_i32_158
  v285
def k0_mult116 (i : grid0.Coords) (k0_t14 : Fin (k0_t14_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_180 : BitVec 32 := 8#32
  let c0_i32_63 : BitVec 32 := 0#32
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let c1_i32_66 : BitVec 32 := 1#32
  let arg17 : BitVec 32 := Scf.iv v123 c1_i32_66 k0_t14
  let v329 : BitVec 32 := Scalar.muli c8_i32_180 arg17
  let v330 : BitVec 32 := Scalar.addi v99 v329
  let c3_i32_181 : BitVec 32 := 3#32
  let v331 : BitVec 32 := Scalar.addi v330 c3_i32_181
  let c512_i32_186 : BitVec 32 := 512#32
  let v336 : BitVec 32 := Scalar.muli v331 c512_i32_186
  v336
def k0_mult117 (i : grid0.Coords) (k0_t14 : Fin (k0_t14_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_208 : BitVec 32 := 8#32
  let c0_i32_63 : BitVec 32 := 0#32
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let c1_i32_66 : BitVec 32 := 1#32
  let arg17 : BitVec 32 := Scf.iv v123 c1_i32_66 k0_t14
  let v380 : BitVec 32 := Scalar.muli c8_i32_208 arg17
  let v381 : BitVec 32 := Scalar.addi v99 v380
  let c4_i32_209 : BitVec 32 := 4#32
  let v382 : BitVec 32 := Scalar.addi v381 c4_i32_209
  let c512_i32_214 : BitVec 32 := 512#32
  let v387 : BitVec 32 := Scalar.muli v382 c512_i32_214
  v387
def k0_mult118 (i : grid0.Coords) (k0_t14 : Fin (k0_t14_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_236 : BitVec 32 := 8#32
  let c0_i32_63 : BitVec 32 := 0#32
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let c1_i32_66 : BitVec 32 := 1#32
  let arg17 : BitVec 32 := Scf.iv v123 c1_i32_66 k0_t14
  let v431 : BitVec 32 := Scalar.muli c8_i32_236 arg17
  let v432 : BitVec 32 := Scalar.addi v99 v431
  let c5_i32 : BitVec 32 := 5#32
  let v433 : BitVec 32 := Scalar.addi v432 c5_i32
  let c512_i32_241 : BitVec 32 := 512#32
  let v438 : BitVec 32 := Scalar.muli v433 c512_i32_241
  v438
def k0_mult119 (i : grid0.Coords) (k0_t14 : Fin (k0_t14_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_263 : BitVec 32 := 8#32
  let c0_i32_63 : BitVec 32 := 0#32
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let c1_i32_66 : BitVec 32 := 1#32
  let arg17 : BitVec 32 := Scf.iv v123 c1_i32_66 k0_t14
  let v482 : BitVec 32 := Scalar.muli c8_i32_263 arg17
  let v483 : BitVec 32 := Scalar.addi v99 v482
  let c6_i32 : BitVec 32 := 6#32
  let v484 : BitVec 32 := Scalar.addi v483 c6_i32
  let c512_i32_268 : BitVec 32 := 512#32
  let v489 : BitVec 32 := Scalar.muli v484 c512_i32_268
  v489
def k0_mult120 (i : grid0.Coords) (k0_t14 : Fin (k0_t14_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c8_i32_290 : BitVec 32 := 8#32
  let c0_i32_63 : BitVec 32 := 0#32
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let v119 : BitVec 32 := Scalar.subi v118 c0_i32_63
  let c1_i32_64 : BitVec 32 := 1#32
  let v121 : BitVec 32 := Scalar.divsi v119 c1_i32_64
  let v122 : BitVec 32 := Scalar.muli v121 c1_i32_64
  let v123 : BitVec 32 := Scalar.addi c0_i32_63 v122
  let c1_i32_66 : BitVec 32 := 1#32
  let arg17 : BitVec 32 := Scf.iv v123 c1_i32_66 k0_t14
  let v533 : BitVec 32 := Scalar.muli c8_i32_290 arg17
  let v534 : BitVec 32 := Scalar.addi v99 v533
  let c7_i32 : BitVec 32 := 7#32
  let v535 : BitVec 32 := Scalar.addi v534 c7_i32
  let c512_i32_295 : BitVec 32 := 512#32
  let v540 : BitVec 32 := Scalar.muli v535 c512_i32_295
  v540
@[reducible] def k0_t15_loop (i : grid0.Coords) : Scf.Loop 32 :=
  let c0_i32_77 : BitVec 32 := 0#32
  let c33_i32_68 : BitVec 32 := 33#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let v145 : BitVec 32 := Scalar.subi v144 c0_i32_77
  let c1_i32_78 : BitVec 32 := 1#32
  let v147 : BitVec 32 := Scalar.divsi v145 c1_i32_78
  let v148 : BitVec 32 := Scalar.muli v147 c1_i32_78
  let v149 : BitVec 32 := Scalar.addi c0_i32_77 v148
  let c1_i32_79 : BitVec 32 := 1#32
  ⟨c0_i32_77, v149, c1_i32_79⟩
def k0_mult121 (i : grid0.Coords) (k0_t15 : Fin (k0_t15_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_96 : BitVec 32 := 4#32
  let c0_i32_77 : BitVec 32 := 0#32
  let c1_i32_79 : BitVec 32 := 1#32
  let arg17 : BitVec 32 := Scf.iv c0_i32_77 c1_i32_79 k0_t15
  let v176 : BitVec 32 := Scalar.muli c4_i32_96 arg17
  let v177 : BitVec 32 := Scalar.addi v125 v176
  let c0_i32_97 : BitVec 32 := 0#32
  let v178 : BitVec 32 := Scalar.addi v177 c0_i32_97
  let c512_i32_102 : BitVec 32 := 512#32
  let v183 : BitVec 32 := Scalar.muli v178 c512_i32_102
  v183
def k0_off64 (i : grid0.Coords) (k0_t15 : Fin (k0_t15_loop i).trips) (c0_i32_97 : BitVec 32) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_96 : BitVec 32 := 4#32
  let c0_i32_77 : BitVec 32 := 0#32
  let c1_i32_79 : BitVec 32 := 1#32
  let arg17 : BitVec 32 := Scf.iv c0_i32_77 c1_i32_79 k0_t15
  let v176 : BitVec 32 := Scalar.muli c4_i32_96 arg17
  let v177 : BitVec 32 := Scalar.addi v125 v176
  let v178 : BitVec 32 := Scalar.addi v177 c0_i32_97
  let c512_i32_102 : BitVec 32 := 512#32
  let v183 : BitVec 32 := Scalar.muli v178 c512_i32_102
  let v184 : BitVec 32 := v183
  let v185 : Index := Scalar.indexCast v184
  let c0_103 : Index := 0#32
  ![v185.toNat, 0]
def k0_off65 (i : grid0.Coords) (k0_t15 : Fin (k0_t15_loop i).trips) (c0_i32_97 : BitVec 32) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_96 : BitVec 32 := 4#32
  let c0_i32_77 : BitVec 32 := 0#32
  let c1_i32_79 : BitVec 32 := 1#32
  let arg17 : BitVec 32 := Scf.iv c0_i32_77 c1_i32_79 k0_t15
  let v176 : BitVec 32 := Scalar.muli c4_i32_96 arg17
  let v177 : BitVec 32 := Scalar.addi v125 v176
  let v178 : BitVec 32 := Scalar.addi v177 c0_i32_97
  let c512_i32_102 : BitVec 32 := 512#32
  let v183 : BitVec 32 := Scalar.muli v178 c512_i32_102
  let v184 : BitVec 32 := v183
  let v188 : Index := Scalar.indexCast v184
  let c0_104 : Index := 0#32
  ![v188.toNat, 0]
def k0_off66 (i : grid0.Coords) (k0_t15 : Fin (k0_t15_loop i).trips) (c0_i32_97 : BitVec 32) : Fin 3 → Nat :=
  let c0_105 : Index := 0#32
  let c0_106 : Index := 0#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_96 : BitVec 32 := 4#32
  let c0_i32_77 : BitVec 32 := 0#32
  let c1_i32_79 : BitVec 32 := 1#32
  let arg17 : BitVec 32 := Scf.iv c0_i32_77 c1_i32_79 k0_t15
  let v176 : BitVec 32 := Scalar.muli c4_i32_96 arg17
  let v177 : BitVec 32 := Scalar.addi v125 v176
  let v178 : BitVec 32 := Scalar.addi v177 c0_i32_97
  let c512_i32_102 : BitVec 32 := 512#32
  let v183 : BitVec 32 := Scalar.muli v178 c512_i32_102
  let v184 : BitVec 32 := v183
  let v191 : Index := Scalar.indexCast v184
  ![0, 0, v191.toNat]
def k0_mult122 (i : grid0.Coords) (k0_t15 : Fin (k0_t15_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_124 : BitVec 32 := 4#32
  let c0_i32_77 : BitVec 32 := 0#32
  let c1_i32_79 : BitVec 32 := 1#32
  let arg17 : BitVec 32 := Scf.iv c0_i32_77 c1_i32_79 k0_t15
  let v227 : BitVec 32 := Scalar.muli c4_i32_124 arg17
  let v228 : BitVec 32 := Scalar.addi v125 v227
  let c1_i32_125 : BitVec 32 := 1#32
  let v229 : BitVec 32 := Scalar.addi v228 c1_i32_125
  let c512_i32_130 : BitVec 32 := 512#32
  let v234 : BitVec 32 := Scalar.muli v229 c512_i32_130
  v234
def k0_mult123 (i : grid0.Coords) (k0_t15 : Fin (k0_t15_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_152 : BitVec 32 := 4#32
  let c0_i32_77 : BitVec 32 := 0#32
  let c1_i32_79 : BitVec 32 := 1#32
  let arg17 : BitVec 32 := Scf.iv c0_i32_77 c1_i32_79 k0_t15
  let v278 : BitVec 32 := Scalar.muli c4_i32_152 arg17
  let v279 : BitVec 32 := Scalar.addi v125 v278
  let c2_i32_153 : BitVec 32 := 2#32
  let v280 : BitVec 32 := Scalar.addi v279 c2_i32_153
  let c512_i32_158 : BitVec 32 := 512#32
  let v285 : BitVec 32 := Scalar.muli v280 c512_i32_158
  v285
def k0_mult124 (i : grid0.Coords) (k0_t15 : Fin (k0_t15_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_180 : BitVec 32 := 4#32
  let c0_i32_77 : BitVec 32 := 0#32
  let c1_i32_79 : BitVec 32 := 1#32
  let arg17 : BitVec 32 := Scf.iv c0_i32_77 c1_i32_79 k0_t15
  let v329 : BitVec 32 := Scalar.muli c4_i32_180 arg17
  let v330 : BitVec 32 := Scalar.addi v125 v329
  let c3_i32_181 : BitVec 32 := 3#32
  let v331 : BitVec 32 := Scalar.addi v330 c3_i32_181
  let c512_i32_186 : BitVec 32 := 512#32
  let v336 : BitVec 32 := Scalar.muli v331 c512_i32_186
  v336
@[reducible] def k0_t16_loop (i : grid0.Coords) : Scf.Loop 32 :=
  let c0_i32_77 : BitVec 32 := 0#32
  let c33_i32_68 : BitVec 32 := 33#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let v145 : BitVec 32 := Scalar.subi v144 c0_i32_77
  let c1_i32_78 : BitVec 32 := 1#32
  let v147 : BitVec 32 := Scalar.divsi v145 c1_i32_78
  let v148 : BitVec 32 := Scalar.muli v147 c1_i32_78
  let v149 : BitVec 32 := Scalar.addi c0_i32_77 v148
  let v146 : BitVec 32 := Scalar.addi c0_i32_77 v145
  let c1_i32_80 : BitVec 32 := 1#32
  ⟨v149, v146, c1_i32_80⟩
def k0_mult125 (i : grid0.Coords) (k0_t16 : Fin (k0_t16_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_96 : BitVec 32 := 4#32
  let c0_i32_77 : BitVec 32 := 0#32
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let v145 : BitVec 32 := Scalar.subi v144 c0_i32_77
  let c1_i32_78 : BitVec 32 := 1#32
  let v147 : BitVec 32 := Scalar.divsi v145 c1_i32_78
  let v148 : BitVec 32 := Scalar.muli v147 c1_i32_78
  let v149 : BitVec 32 := Scalar.addi c0_i32_77 v148
  let c1_i32_80 : BitVec 32 := 1#32
  let arg17 : BitVec 32 := Scf.iv v149 c1_i32_80 k0_t16
  let v176 : BitVec 32 := Scalar.muli c4_i32_96 arg17
  let v177 : BitVec 32 := Scalar.addi v125 v176
  let c0_i32_97 : BitVec 32 := 0#32
  let v178 : BitVec 32 := Scalar.addi v177 c0_i32_97
  let c512_i32_102 : BitVec 32 := 512#32
  let v183 : BitVec 32 := Scalar.muli v178 c512_i32_102
  v183
def k0_off67 (i : grid0.Coords) (k0_t16 : Fin (k0_t16_loop i).trips) (c0_i32_97 : BitVec 32) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_96 : BitVec 32 := 4#32
  let c0_i32_77 : BitVec 32 := 0#32
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let v145 : BitVec 32 := Scalar.subi v144 c0_i32_77
  let c1_i32_78 : BitVec 32 := 1#32
  let v147 : BitVec 32 := Scalar.divsi v145 c1_i32_78
  let v148 : BitVec 32 := Scalar.muli v147 c1_i32_78
  let v149 : BitVec 32 := Scalar.addi c0_i32_77 v148
  let c1_i32_80 : BitVec 32 := 1#32
  let arg17 : BitVec 32 := Scf.iv v149 c1_i32_80 k0_t16
  let v176 : BitVec 32 := Scalar.muli c4_i32_96 arg17
  let v177 : BitVec 32 := Scalar.addi v125 v176
  let v178 : BitVec 32 := Scalar.addi v177 c0_i32_97
  let c512_i32_102 : BitVec 32 := 512#32
  let v183 : BitVec 32 := Scalar.muli v178 c512_i32_102
  let v184 : BitVec 32 := v183
  let v185 : Index := Scalar.indexCast v184
  let c0_103 : Index := 0#32
  ![v185.toNat, 0]
def k0_off68 (i : grid0.Coords) (k0_t16 : Fin (k0_t16_loop i).trips) (c0_i32_97 : BitVec 32) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_96 : BitVec 32 := 4#32
  let c0_i32_77 : BitVec 32 := 0#32
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let v145 : BitVec 32 := Scalar.subi v144 c0_i32_77
  let c1_i32_78 : BitVec 32 := 1#32
  let v147 : BitVec 32 := Scalar.divsi v145 c1_i32_78
  let v148 : BitVec 32 := Scalar.muli v147 c1_i32_78
  let v149 : BitVec 32 := Scalar.addi c0_i32_77 v148
  let c1_i32_80 : BitVec 32 := 1#32
  let arg17 : BitVec 32 := Scf.iv v149 c1_i32_80 k0_t16
  let v176 : BitVec 32 := Scalar.muli c4_i32_96 arg17
  let v177 : BitVec 32 := Scalar.addi v125 v176
  let v178 : BitVec 32 := Scalar.addi v177 c0_i32_97
  let c512_i32_102 : BitVec 32 := 512#32
  let v183 : BitVec 32 := Scalar.muli v178 c512_i32_102
  let v184 : BitVec 32 := v183
  let v188 : Index := Scalar.indexCast v184
  let c0_104 : Index := 0#32
  ![v188.toNat, 0]
def k0_off69 (i : grid0.Coords) (k0_t16 : Fin (k0_t16_loop i).trips) (c0_i32_97 : BitVec 32) : Fin 3 → Nat :=
  let c0_105 : Index := 0#32
  let c0_106 : Index := 0#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_96 : BitVec 32 := 4#32
  let c0_i32_77 : BitVec 32 := 0#32
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let v145 : BitVec 32 := Scalar.subi v144 c0_i32_77
  let c1_i32_78 : BitVec 32 := 1#32
  let v147 : BitVec 32 := Scalar.divsi v145 c1_i32_78
  let v148 : BitVec 32 := Scalar.muli v147 c1_i32_78
  let v149 : BitVec 32 := Scalar.addi c0_i32_77 v148
  let c1_i32_80 : BitVec 32 := 1#32
  let arg17 : BitVec 32 := Scf.iv v149 c1_i32_80 k0_t16
  let v176 : BitVec 32 := Scalar.muli c4_i32_96 arg17
  let v177 : BitVec 32 := Scalar.addi v125 v176
  let v178 : BitVec 32 := Scalar.addi v177 c0_i32_97
  let c512_i32_102 : BitVec 32 := 512#32
  let v183 : BitVec 32 := Scalar.muli v178 c512_i32_102
  let v184 : BitVec 32 := v183
  let v191 : Index := Scalar.indexCast v184
  ![0, 0, v191.toNat]
def k0_mult126 (i : grid0.Coords) (k0_t16 : Fin (k0_t16_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_124 : BitVec 32 := 4#32
  let c0_i32_77 : BitVec 32 := 0#32
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let v145 : BitVec 32 := Scalar.subi v144 c0_i32_77
  let c1_i32_78 : BitVec 32 := 1#32
  let v147 : BitVec 32 := Scalar.divsi v145 c1_i32_78
  let v148 : BitVec 32 := Scalar.muli v147 c1_i32_78
  let v149 : BitVec 32 := Scalar.addi c0_i32_77 v148
  let c1_i32_80 : BitVec 32 := 1#32
  let arg17 : BitVec 32 := Scf.iv v149 c1_i32_80 k0_t16
  let v227 : BitVec 32 := Scalar.muli c4_i32_124 arg17
  let v228 : BitVec 32 := Scalar.addi v125 v227
  let c1_i32_125 : BitVec 32 := 1#32
  let v229 : BitVec 32 := Scalar.addi v228 c1_i32_125
  let c512_i32_130 : BitVec 32 := 512#32
  let v234 : BitVec 32 := Scalar.muli v229 c512_i32_130
  v234
def k0_mult127 (i : grid0.Coords) (k0_t16 : Fin (k0_t16_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_152 : BitVec 32 := 4#32
  let c0_i32_77 : BitVec 32 := 0#32
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let v145 : BitVec 32 := Scalar.subi v144 c0_i32_77
  let c1_i32_78 : BitVec 32 := 1#32
  let v147 : BitVec 32 := Scalar.divsi v145 c1_i32_78
  let v148 : BitVec 32 := Scalar.muli v147 c1_i32_78
  let v149 : BitVec 32 := Scalar.addi c0_i32_77 v148
  let c1_i32_80 : BitVec 32 := 1#32
  let arg17 : BitVec 32 := Scf.iv v149 c1_i32_80 k0_t16
  let v278 : BitVec 32 := Scalar.muli c4_i32_152 arg17
  let v279 : BitVec 32 := Scalar.addi v125 v278
  let c2_i32_153 : BitVec 32 := 2#32
  let v280 : BitVec 32 := Scalar.addi v279 c2_i32_153
  let c512_i32_158 : BitVec 32 := 512#32
  let v285 : BitVec 32 := Scalar.muli v280 c512_i32_158
  v285
def k0_mult128 (i : grid0.Coords) (k0_t16 : Fin (k0_t16_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c4_i32_180 : BitVec 32 := 4#32
  let c0_i32_77 : BitVec 32 := 0#32
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let v145 : BitVec 32 := Scalar.subi v144 c0_i32_77
  let c1_i32_78 : BitVec 32 := 1#32
  let v147 : BitVec 32 := Scalar.divsi v145 c1_i32_78
  let v148 : BitVec 32 := Scalar.muli v147 c1_i32_78
  let v149 : BitVec 32 := Scalar.addi c0_i32_77 v148
  let c1_i32_80 : BitVec 32 := 1#32
  let arg17 : BitVec 32 := Scf.iv v149 c1_i32_80 k0_t16
  let v329 : BitVec 32 := Scalar.muli c4_i32_180 arg17
  let v330 : BitVec 32 := Scalar.addi v125 v329
  let c3_i32_181 : BitVec 32 := 3#32
  let v331 : BitVec 32 := Scalar.addi v330 c3_i32_181
  let c512_i32_186 : BitVec 32 := 512#32
  let v336 : BitVec 32 := Scalar.muli v331 c512_i32_186
  v336
@[reducible] def k0_t17_loop (i : grid0.Coords) : Scf.Loop 32 :=
  let c0_i32_92 : BitVec 32 := 0#32
  let c33_i32_82 : BitVec 32 := 33#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let c4_i32_81 : BitVec 32 := 4#32
  let v150 : BitVec 32 := Scalar.muli v144 c4_i32_81
  let v151 : BitVec 32 := Scalar.addi v125 v150
  let v152 : BitVec 32 := Scalar.subi c33_i32_82 v151
  let c0_i32_83 : BitVec 32 := 0#32
  let v153 : BitVec 32 := Scalar.maxsi v152 c0_i32_83
  let c0_i32_85 : BitVec 32 := 0#32
  let v155 : BitVec 1 := Scalar.cmpi .sgt v153 c0_i32_85
  let v156 : BitVec 32 := Scalar.extui v155
  let c0_i32_86 : BitVec 32 := 0#32
  let v157 : BitVec 1 := Scalar.cmpi .slt v153 c0_i32_86
  let v158 : BitVec 32 := Scalar.extui v157
  let v159 : BitVec 32 := Scalar.subi v156 v158
  let c1_i32_84 : BitVec 32 := 1#32
  let c0_i32_87 : BitVec 32 := 0#32
  let v160 : BitVec 1 := Scalar.cmpi .sgt c1_i32_84 c0_i32_87
  let v161 : BitVec 32 := Scalar.extui v160
  let c0_i32_88 : BitVec 32 := 0#32
  let v162 : BitVec 1 := Scalar.cmpi .slt c1_i32_84 c0_i32_88
  let v163 : BitVec 32 := Scalar.extui v162
  let v164 : BitVec 32 := Scalar.subi v161 v163
  let v165 : BitVec 1 := Scalar.cmpi .ne v159 v164
  let v166 : BitVec 32 := Scalar.remsi v153 c1_i32_84
  let c0_i32_89 : BitVec 32 := 0#32
  let v167 : BitVec 1 := Scalar.cmpi .ne v166 c0_i32_89
  let v168 : BitVec 1 := Scalar.andi v165 v167
  let v154 : BitVec 32 := Scalar.divsi v153 c1_i32_84
  let c1_i32_90 : BitVec 32 := 1#32
  let v169 : BitVec 32 := Scalar.subi v154 c1_i32_90
  let v170 : BitVec 32 := Scalar.select v168 v169 v154
  let v171 : BitVec 32 := Scalar.subi v170 c0_i32_92
  let c1_i32_93 : BitVec 32 := 1#32
  let v173 : BitVec 32 := Scalar.divsi v171 c1_i32_93
  let v174 : BitVec 32 := Scalar.muli v173 c1_i32_93
  let v175 : BitVec 32 := Scalar.addi c0_i32_92 v174
  let c1_i32_94 : BitVec 32 := 1#32
  ⟨c0_i32_92, v175, c1_i32_94⟩
def k0_mult129 (i : grid0.Coords) (k0_t17 : Fin (k0_t17_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let c4_i32_81 : BitVec 32 := 4#32
  let v150 : BitVec 32 := Scalar.muli v144 c4_i32_81
  let v151 : BitVec 32 := Scalar.addi v125 v150
  let c1_i32_96 : BitVec 32 := 1#32
  let c0_i32_92 : BitVec 32 := 0#32
  let c1_i32_94 : BitVec 32 := 1#32
  let arg17 : BitVec 32 := Scf.iv c0_i32_92 c1_i32_94 k0_t17
  let v176 : BitVec 32 := Scalar.muli c1_i32_96 arg17
  let v177 : BitVec 32 := Scalar.addi v151 v176
  let c0_i32_97 : BitVec 32 := 0#32
  let v178 : BitVec 32 := Scalar.addi v177 c0_i32_97
  let c512_i32_102 : BitVec 32 := 512#32
  let v183 : BitVec 32 := Scalar.muli v178 c512_i32_102
  v183
def k0_off70 (i : grid0.Coords) (k0_t17 : Fin (k0_t17_loop i).trips) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let c4_i32_81 : BitVec 32 := 4#32
  let v150 : BitVec 32 := Scalar.muli v144 c4_i32_81
  let v151 : BitVec 32 := Scalar.addi v125 v150
  let c1_i32_96 : BitVec 32 := 1#32
  let c0_i32_92 : BitVec 32 := 0#32
  let c1_i32_94 : BitVec 32 := 1#32
  let arg17 : BitVec 32 := Scf.iv c0_i32_92 c1_i32_94 k0_t17
  let v176 : BitVec 32 := Scalar.muli c1_i32_96 arg17
  let v177 : BitVec 32 := Scalar.addi v151 v176
  let c0_i32_97 : BitVec 32 := 0#32
  let v178 : BitVec 32 := Scalar.addi v177 c0_i32_97
  let c512_i32_102 : BitVec 32 := 512#32
  let v183 : BitVec 32 := Scalar.muli v178 c512_i32_102
  let v184 : BitVec 32 := v183
  let v185 : Index := Scalar.indexCast v184
  let c0_103 : Index := 0#32
  ![v185.toNat, 0]
def k0_off71 (i : grid0.Coords) (k0_t17 : Fin (k0_t17_loop i).trips) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let c4_i32_81 : BitVec 32 := 4#32
  let v150 : BitVec 32 := Scalar.muli v144 c4_i32_81
  let v151 : BitVec 32 := Scalar.addi v125 v150
  let c1_i32_96 : BitVec 32 := 1#32
  let c0_i32_92 : BitVec 32 := 0#32
  let c1_i32_94 : BitVec 32 := 1#32
  let arg17 : BitVec 32 := Scf.iv c0_i32_92 c1_i32_94 k0_t17
  let v176 : BitVec 32 := Scalar.muli c1_i32_96 arg17
  let v177 : BitVec 32 := Scalar.addi v151 v176
  let c0_i32_97 : BitVec 32 := 0#32
  let v178 : BitVec 32 := Scalar.addi v177 c0_i32_97
  let c512_i32_102 : BitVec 32 := 512#32
  let v183 : BitVec 32 := Scalar.muli v178 c512_i32_102
  let v184 : BitVec 32 := v183
  let v188 : Index := Scalar.indexCast v184
  let c0_104 : Index := 0#32
  ![v188.toNat, 0]
def k0_off72 (i : grid0.Coords) (k0_t17 : Fin (k0_t17_loop i).trips) : Fin 3 → Nat :=
  let c0_105 : Index := 0#32
  let c0_106 : Index := 0#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let c4_i32_81 : BitVec 32 := 4#32
  let v150 : BitVec 32 := Scalar.muli v144 c4_i32_81
  let v151 : BitVec 32 := Scalar.addi v125 v150
  let c1_i32_96 : BitVec 32 := 1#32
  let c0_i32_92 : BitVec 32 := 0#32
  let c1_i32_94 : BitVec 32 := 1#32
  let arg17 : BitVec 32 := Scf.iv c0_i32_92 c1_i32_94 k0_t17
  let v176 : BitVec 32 := Scalar.muli c1_i32_96 arg17
  let v177 : BitVec 32 := Scalar.addi v151 v176
  let c0_i32_97 : BitVec 32 := 0#32
  let v178 : BitVec 32 := Scalar.addi v177 c0_i32_97
  let c512_i32_102 : BitVec 32 := 512#32
  let v183 : BitVec 32 := Scalar.muli v178 c512_i32_102
  let v184 : BitVec 32 := v183
  let v191 : Index := Scalar.indexCast v184
  ![0, 0, v191.toNat]
@[reducible] def k0_t18_loop (i : grid0.Coords) : Scf.Loop 32 :=
  let c0_i32_92 : BitVec 32 := 0#32
  let c33_i32_82 : BitVec 32 := 33#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let c4_i32_81 : BitVec 32 := 4#32
  let v150 : BitVec 32 := Scalar.muli v144 c4_i32_81
  let v151 : BitVec 32 := Scalar.addi v125 v150
  let v152 : BitVec 32 := Scalar.subi c33_i32_82 v151
  let c0_i32_83 : BitVec 32 := 0#32
  let v153 : BitVec 32 := Scalar.maxsi v152 c0_i32_83
  let c0_i32_85 : BitVec 32 := 0#32
  let v155 : BitVec 1 := Scalar.cmpi .sgt v153 c0_i32_85
  let v156 : BitVec 32 := Scalar.extui v155
  let c0_i32_86 : BitVec 32 := 0#32
  let v157 : BitVec 1 := Scalar.cmpi .slt v153 c0_i32_86
  let v158 : BitVec 32 := Scalar.extui v157
  let v159 : BitVec 32 := Scalar.subi v156 v158
  let c1_i32_84 : BitVec 32 := 1#32
  let c0_i32_87 : BitVec 32 := 0#32
  let v160 : BitVec 1 := Scalar.cmpi .sgt c1_i32_84 c0_i32_87
  let v161 : BitVec 32 := Scalar.extui v160
  let c0_i32_88 : BitVec 32 := 0#32
  let v162 : BitVec 1 := Scalar.cmpi .slt c1_i32_84 c0_i32_88
  let v163 : BitVec 32 := Scalar.extui v162
  let v164 : BitVec 32 := Scalar.subi v161 v163
  let v165 : BitVec 1 := Scalar.cmpi .ne v159 v164
  let v166 : BitVec 32 := Scalar.remsi v153 c1_i32_84
  let c0_i32_89 : BitVec 32 := 0#32
  let v167 : BitVec 1 := Scalar.cmpi .ne v166 c0_i32_89
  let v168 : BitVec 1 := Scalar.andi v165 v167
  let v154 : BitVec 32 := Scalar.divsi v153 c1_i32_84
  let c1_i32_90 : BitVec 32 := 1#32
  let v169 : BitVec 32 := Scalar.subi v154 c1_i32_90
  let v170 : BitVec 32 := Scalar.select v168 v169 v154
  let v171 : BitVec 32 := Scalar.subi v170 c0_i32_92
  let c1_i32_93 : BitVec 32 := 1#32
  let v173 : BitVec 32 := Scalar.divsi v171 c1_i32_93
  let v174 : BitVec 32 := Scalar.muli v173 c1_i32_93
  let v175 : BitVec 32 := Scalar.addi c0_i32_92 v174
  let v172 : BitVec 32 := Scalar.addi c0_i32_92 v171
  let c1_i32_95 : BitVec 32 := 1#32
  ⟨v175, v172, c1_i32_95⟩
def k0_mult130 (i : grid0.Coords) (k0_t18 : Fin (k0_t18_loop i).trips) : BitVec 32 :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let c4_i32_81 : BitVec 32 := 4#32
  let v150 : BitVec 32 := Scalar.muli v144 c4_i32_81
  let v151 : BitVec 32 := Scalar.addi v125 v150
  let c1_i32_96 : BitVec 32 := 1#32
  let c0_i32_92 : BitVec 32 := 0#32
  let c33_i32_82 : BitVec 32 := 33#32
  let v152 : BitVec 32 := Scalar.subi c33_i32_82 v151
  let c0_i32_83 : BitVec 32 := 0#32
  let v153 : BitVec 32 := Scalar.maxsi v152 c0_i32_83
  let c0_i32_85 : BitVec 32 := 0#32
  let v155 : BitVec 1 := Scalar.cmpi .sgt v153 c0_i32_85
  let v156 : BitVec 32 := Scalar.extui v155
  let c0_i32_86 : BitVec 32 := 0#32
  let v157 : BitVec 1 := Scalar.cmpi .slt v153 c0_i32_86
  let v158 : BitVec 32 := Scalar.extui v157
  let v159 : BitVec 32 := Scalar.subi v156 v158
  let c1_i32_84 : BitVec 32 := 1#32
  let c0_i32_87 : BitVec 32 := 0#32
  let v160 : BitVec 1 := Scalar.cmpi .sgt c1_i32_84 c0_i32_87
  let v161 : BitVec 32 := Scalar.extui v160
  let c0_i32_88 : BitVec 32 := 0#32
  let v162 : BitVec 1 := Scalar.cmpi .slt c1_i32_84 c0_i32_88
  let v163 : BitVec 32 := Scalar.extui v162
  let v164 : BitVec 32 := Scalar.subi v161 v163
  let v165 : BitVec 1 := Scalar.cmpi .ne v159 v164
  let v166 : BitVec 32 := Scalar.remsi v153 c1_i32_84
  let c0_i32_89 : BitVec 32 := 0#32
  let v167 : BitVec 1 := Scalar.cmpi .ne v166 c0_i32_89
  let v168 : BitVec 1 := Scalar.andi v165 v167
  let v154 : BitVec 32 := Scalar.divsi v153 c1_i32_84
  let c1_i32_90 : BitVec 32 := 1#32
  let v169 : BitVec 32 := Scalar.subi v154 c1_i32_90
  let v170 : BitVec 32 := Scalar.select v168 v169 v154
  let v171 : BitVec 32 := Scalar.subi v170 c0_i32_92
  let c1_i32_93 : BitVec 32 := 1#32
  let v173 : BitVec 32 := Scalar.divsi v171 c1_i32_93
  let v174 : BitVec 32 := Scalar.muli v173 c1_i32_93
  let v175 : BitVec 32 := Scalar.addi c0_i32_92 v174
  let c1_i32_95 : BitVec 32 := 1#32
  let arg17 : BitVec 32 := Scf.iv v175 c1_i32_95 k0_t18
  let v176 : BitVec 32 := Scalar.muli c1_i32_96 arg17
  let v177 : BitVec 32 := Scalar.addi v151 v176
  let c0_i32_97 : BitVec 32 := 0#32
  let v178 : BitVec 32 := Scalar.addi v177 c0_i32_97
  let c512_i32_102 : BitVec 32 := 512#32
  let v183 : BitVec 32 := Scalar.muli v178 c512_i32_102
  v183
def k0_off73 (i : grid0.Coords) (k0_t18 : Fin (k0_t18_loop i).trips) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let c4_i32_81 : BitVec 32 := 4#32
  let v150 : BitVec 32 := Scalar.muli v144 c4_i32_81
  let v151 : BitVec 32 := Scalar.addi v125 v150
  let c1_i32_96 : BitVec 32 := 1#32
  let c0_i32_92 : BitVec 32 := 0#32
  let c33_i32_82 : BitVec 32 := 33#32
  let v152 : BitVec 32 := Scalar.subi c33_i32_82 v151
  let c0_i32_83 : BitVec 32 := 0#32
  let v153 : BitVec 32 := Scalar.maxsi v152 c0_i32_83
  let c0_i32_85 : BitVec 32 := 0#32
  let v155 : BitVec 1 := Scalar.cmpi .sgt v153 c0_i32_85
  let v156 : BitVec 32 := Scalar.extui v155
  let c0_i32_86 : BitVec 32 := 0#32
  let v157 : BitVec 1 := Scalar.cmpi .slt v153 c0_i32_86
  let v158 : BitVec 32 := Scalar.extui v157
  let v159 : BitVec 32 := Scalar.subi v156 v158
  let c1_i32_84 : BitVec 32 := 1#32
  let c0_i32_87 : BitVec 32 := 0#32
  let v160 : BitVec 1 := Scalar.cmpi .sgt c1_i32_84 c0_i32_87
  let v161 : BitVec 32 := Scalar.extui v160
  let c0_i32_88 : BitVec 32 := 0#32
  let v162 : BitVec 1 := Scalar.cmpi .slt c1_i32_84 c0_i32_88
  let v163 : BitVec 32 := Scalar.extui v162
  let v164 : BitVec 32 := Scalar.subi v161 v163
  let v165 : BitVec 1 := Scalar.cmpi .ne v159 v164
  let v166 : BitVec 32 := Scalar.remsi v153 c1_i32_84
  let c0_i32_89 : BitVec 32 := 0#32
  let v167 : BitVec 1 := Scalar.cmpi .ne v166 c0_i32_89
  let v168 : BitVec 1 := Scalar.andi v165 v167
  let v154 : BitVec 32 := Scalar.divsi v153 c1_i32_84
  let c1_i32_90 : BitVec 32 := 1#32
  let v169 : BitVec 32 := Scalar.subi v154 c1_i32_90
  let v170 : BitVec 32 := Scalar.select v168 v169 v154
  let v171 : BitVec 32 := Scalar.subi v170 c0_i32_92
  let c1_i32_93 : BitVec 32 := 1#32
  let v173 : BitVec 32 := Scalar.divsi v171 c1_i32_93
  let v174 : BitVec 32 := Scalar.muli v173 c1_i32_93
  let v175 : BitVec 32 := Scalar.addi c0_i32_92 v174
  let c1_i32_95 : BitVec 32 := 1#32
  let arg17 : BitVec 32 := Scf.iv v175 c1_i32_95 k0_t18
  let v176 : BitVec 32 := Scalar.muli c1_i32_96 arg17
  let v177 : BitVec 32 := Scalar.addi v151 v176
  let c0_i32_97 : BitVec 32 := 0#32
  let v178 : BitVec 32 := Scalar.addi v177 c0_i32_97
  let c512_i32_102 : BitVec 32 := 512#32
  let v183 : BitVec 32 := Scalar.muli v178 c512_i32_102
  let v184 : BitVec 32 := v183
  let v185 : Index := Scalar.indexCast v184
  let c0_103 : Index := 0#32
  ![v185.toNat, 0]
def k0_off74 (i : grid0.Coords) (k0_t18 : Fin (k0_t18_loop i).trips) : Fin 2 → Nat :=
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let c4_i32_81 : BitVec 32 := 4#32
  let v150 : BitVec 32 := Scalar.muli v144 c4_i32_81
  let v151 : BitVec 32 := Scalar.addi v125 v150
  let c1_i32_96 : BitVec 32 := 1#32
  let c0_i32_92 : BitVec 32 := 0#32
  let c33_i32_82 : BitVec 32 := 33#32
  let v152 : BitVec 32 := Scalar.subi c33_i32_82 v151
  let c0_i32_83 : BitVec 32 := 0#32
  let v153 : BitVec 32 := Scalar.maxsi v152 c0_i32_83
  let c0_i32_85 : BitVec 32 := 0#32
  let v155 : BitVec 1 := Scalar.cmpi .sgt v153 c0_i32_85
  let v156 : BitVec 32 := Scalar.extui v155
  let c0_i32_86 : BitVec 32 := 0#32
  let v157 : BitVec 1 := Scalar.cmpi .slt v153 c0_i32_86
  let v158 : BitVec 32 := Scalar.extui v157
  let v159 : BitVec 32 := Scalar.subi v156 v158
  let c1_i32_84 : BitVec 32 := 1#32
  let c0_i32_87 : BitVec 32 := 0#32
  let v160 : BitVec 1 := Scalar.cmpi .sgt c1_i32_84 c0_i32_87
  let v161 : BitVec 32 := Scalar.extui v160
  let c0_i32_88 : BitVec 32 := 0#32
  let v162 : BitVec 1 := Scalar.cmpi .slt c1_i32_84 c0_i32_88
  let v163 : BitVec 32 := Scalar.extui v162
  let v164 : BitVec 32 := Scalar.subi v161 v163
  let v165 : BitVec 1 := Scalar.cmpi .ne v159 v164
  let v166 : BitVec 32 := Scalar.remsi v153 c1_i32_84
  let c0_i32_89 : BitVec 32 := 0#32
  let v167 : BitVec 1 := Scalar.cmpi .ne v166 c0_i32_89
  let v168 : BitVec 1 := Scalar.andi v165 v167
  let v154 : BitVec 32 := Scalar.divsi v153 c1_i32_84
  let c1_i32_90 : BitVec 32 := 1#32
  let v169 : BitVec 32 := Scalar.subi v154 c1_i32_90
  let v170 : BitVec 32 := Scalar.select v168 v169 v154
  let v171 : BitVec 32 := Scalar.subi v170 c0_i32_92
  let c1_i32_93 : BitVec 32 := 1#32
  let v173 : BitVec 32 := Scalar.divsi v171 c1_i32_93
  let v174 : BitVec 32 := Scalar.muli v173 c1_i32_93
  let v175 : BitVec 32 := Scalar.addi c0_i32_92 v174
  let c1_i32_95 : BitVec 32 := 1#32
  let arg17 : BitVec 32 := Scf.iv v175 c1_i32_95 k0_t18
  let v176 : BitVec 32 := Scalar.muli c1_i32_96 arg17
  let v177 : BitVec 32 := Scalar.addi v151 v176
  let c0_i32_97 : BitVec 32 := 0#32
  let v178 : BitVec 32 := Scalar.addi v177 c0_i32_97
  let c512_i32_102 : BitVec 32 := 512#32
  let v183 : BitVec 32 := Scalar.muli v178 c512_i32_102
  let v184 : BitVec 32 := v183
  let v188 : Index := Scalar.indexCast v184
  let c0_104 : Index := 0#32
  ![v188.toNat, 0]
def k0_off75 (i : grid0.Coords) (k0_t18 : Fin (k0_t18_loop i).trips) : Fin 3 → Nat :=
  let c0_105 : Index := 0#32
  let c0_106 : Index := 0#32
  let arg1 : BitVec 32 := BitVec.ofNat 32 (i 1).val
  let c1_i32_40 : BitVec 32 := 1#32
  let v72 : BitVec 32 := Scalar.addi arg1 c1_i32_40
  let c32_i32 : BitVec 32 := 32#32
  let v14 : BitVec 32 := Scalar.subi c32_i32 arg1
  let c3_i32 : BitVec 32 := 3#32
  let v15 : BitVec 32 := Scalar.andi v14 c3_i32
  let v73 : BitVec 32 := Scalar.addi v72 v15
  let c33_i32 : BitVec 32 := 33#32
  let v74 : BitVec 32 := Scalar.subi c33_i32 v73
  let c0_i32_41 : BitVec 32 := 0#32
  let v75 : BitVec 32 := Scalar.maxsi v74 c0_i32_41
  let c0_i32_42 : BitVec 32 := 0#32
  let v77 : BitVec 1 := Scalar.cmpi .sgt v75 c0_i32_42
  let v78 : BitVec 32 := Scalar.extui v77
  let c0_i32_43 : BitVec 32 := 0#32
  let v79 : BitVec 1 := Scalar.cmpi .slt v75 c0_i32_43
  let v80 : BitVec 32 := Scalar.extui v79
  let v81 : BitVec 32 := Scalar.subi v78 v80
  let c16_i32 : BitVec 32 := 16#32
  let c0_i32_44 : BitVec 32 := 0#32
  let v82 : BitVec 1 := Scalar.cmpi .sgt c16_i32 c0_i32_44
  let v83 : BitVec 32 := Scalar.extui v82
  let c0_i32_45 : BitVec 32 := 0#32
  let v84 : BitVec 1 := Scalar.cmpi .slt c16_i32 c0_i32_45
  let v85 : BitVec 32 := Scalar.extui v84
  let v86 : BitVec 32 := Scalar.subi v83 v85
  let v87 : BitVec 1 := Scalar.cmpi .ne v81 v86
  let v88 : BitVec 32 := Scalar.remsi v75 c16_i32
  let c0_i32_46 : BitVec 32 := 0#32
  let v89 : BitVec 1 := Scalar.cmpi .ne v88 c0_i32_46
  let v90 : BitVec 1 := Scalar.andi v87 v89
  let v76 : BitVec 32 := Scalar.divsi v75 c16_i32
  let c1_i32_47 : BitVec 32 := 1#32
  let v91 : BitVec 32 := Scalar.subi v76 c1_i32_47
  let v92 : BitVec 32 := Scalar.select v90 v91 v76
  let c16_i32_53 : BitVec 32 := 16#32
  let v98 : BitVec 32 := Scalar.muli v92 c16_i32_53
  let v99 : BitVec 32 := Scalar.addi v73 v98
  let c33_i32_54 : BitVec 32 := 33#32
  let v100 : BitVec 32 := Scalar.subi c33_i32_54 v99
  let c0_i32_55 : BitVec 32 := 0#32
  let v101 : BitVec 32 := Scalar.maxsi v100 c0_i32_55
  let c0_i32_56 : BitVec 32 := 0#32
  let v103 : BitVec 1 := Scalar.cmpi .sgt v101 c0_i32_56
  let v104 : BitVec 32 := Scalar.extui v103
  let c0_i32_57 : BitVec 32 := 0#32
  let v105 : BitVec 1 := Scalar.cmpi .slt v101 c0_i32_57
  let v106 : BitVec 32 := Scalar.extui v105
  let v107 : BitVec 32 := Scalar.subi v104 v106
  let c8_i32 : BitVec 32 := 8#32
  let c0_i32_58 : BitVec 32 := 0#32
  let v108 : BitVec 1 := Scalar.cmpi .sgt c8_i32 c0_i32_58
  let v109 : BitVec 32 := Scalar.extui v108
  let c0_i32_59 : BitVec 32 := 0#32
  let v110 : BitVec 1 := Scalar.cmpi .slt c8_i32 c0_i32_59
  let v111 : BitVec 32 := Scalar.extui v110
  let v112 : BitVec 32 := Scalar.subi v109 v111
  let v113 : BitVec 1 := Scalar.cmpi .ne v107 v112
  let v114 : BitVec 32 := Scalar.remsi v101 c8_i32
  let c0_i32_60 : BitVec 32 := 0#32
  let v115 : BitVec 1 := Scalar.cmpi .ne v114 c0_i32_60
  let v116 : BitVec 1 := Scalar.andi v113 v115
  let v102 : BitVec 32 := Scalar.divsi v101 c8_i32
  let c1_i32_61 : BitVec 32 := 1#32
  let v117 : BitVec 32 := Scalar.subi v102 c1_i32_61
  let v118 : BitVec 32 := Scalar.select v116 v117 v102
  let c8_i32_67 : BitVec 32 := 8#32
  let v124 : BitVec 32 := Scalar.muli v118 c8_i32_67
  let v125 : BitVec 32 := Scalar.addi v99 v124
  let c33_i32_68 : BitVec 32 := 33#32
  let v126 : BitVec 32 := Scalar.subi c33_i32_68 v125
  let c0_i32_69 : BitVec 32 := 0#32
  let v127 : BitVec 32 := Scalar.maxsi v126 c0_i32_69
  let c0_i32_70 : BitVec 32 := 0#32
  let v129 : BitVec 1 := Scalar.cmpi .sgt v127 c0_i32_70
  let v130 : BitVec 32 := Scalar.extui v129
  let c0_i32_71 : BitVec 32 := 0#32
  let v131 : BitVec 1 := Scalar.cmpi .slt v127 c0_i32_71
  let v132 : BitVec 32 := Scalar.extui v131
  let v133 : BitVec 32 := Scalar.subi v130 v132
  let c4_i32 : BitVec 32 := 4#32
  let c0_i32_72 : BitVec 32 := 0#32
  let v134 : BitVec 1 := Scalar.cmpi .sgt c4_i32 c0_i32_72
  let v135 : BitVec 32 := Scalar.extui v134
  let c0_i32_73 : BitVec 32 := 0#32
  let v136 : BitVec 1 := Scalar.cmpi .slt c4_i32 c0_i32_73
  let v137 : BitVec 32 := Scalar.extui v136
  let v138 : BitVec 32 := Scalar.subi v135 v137
  let v139 : BitVec 1 := Scalar.cmpi .ne v133 v138
  let v140 : BitVec 32 := Scalar.remsi v127 c4_i32
  let c0_i32_74 : BitVec 32 := 0#32
  let v141 : BitVec 1 := Scalar.cmpi .ne v140 c0_i32_74
  let v142 : BitVec 1 := Scalar.andi v139 v141
  let v128 : BitVec 32 := Scalar.divsi v127 c4_i32
  let c1_i32_75 : BitVec 32 := 1#32
  let v143 : BitVec 32 := Scalar.subi v128 c1_i32_75
  let v144 : BitVec 32 := Scalar.select v142 v143 v128
  let c4_i32_81 : BitVec 32 := 4#32
  let v150 : BitVec 32 := Scalar.muli v144 c4_i32_81
  let v151 : BitVec 32 := Scalar.addi v125 v150
  let c1_i32_96 : BitVec 32 := 1#32
  let c0_i32_92 : BitVec 32 := 0#32
  let c33_i32_82 : BitVec 32 := 33#32
  let v152 : BitVec 32 := Scalar.subi c33_i32_82 v151
  let c0_i32_83 : BitVec 32 := 0#32
  let v153 : BitVec 32 := Scalar.maxsi v152 c0_i32_83
  let c0_i32_85 : BitVec 32 := 0#32
  let v155 : BitVec 1 := Scalar.cmpi .sgt v153 c0_i32_85
  let v156 : BitVec 32 := Scalar.extui v155
  let c0_i32_86 : BitVec 32 := 0#32
  let v157 : BitVec 1 := Scalar.cmpi .slt v153 c0_i32_86
  let v158 : BitVec 32 := Scalar.extui v157
  let v159 : BitVec 32 := Scalar.subi v156 v158
  let c1_i32_84 : BitVec 32 := 1#32
  let c0_i32_87 : BitVec 32 := 0#32
  let v160 : BitVec 1 := Scalar.cmpi .sgt c1_i32_84 c0_i32_87
  let v161 : BitVec 32 := Scalar.extui v160
  let c0_i32_88 : BitVec 32 := 0#32
  let v162 : BitVec 1 := Scalar.cmpi .slt c1_i32_84 c0_i32_88
  let v163 : BitVec 32 := Scalar.extui v162
  let v164 : BitVec 32 := Scalar.subi v161 v163
  let v165 : BitVec 1 := Scalar.cmpi .ne v159 v164
  let v166 : BitVec 32 := Scalar.remsi v153 c1_i32_84
  let c0_i32_89 : BitVec 32 := 0#32
  let v167 : BitVec 1 := Scalar.cmpi .ne v166 c0_i32_89
  let v168 : BitVec 1 := Scalar.andi v165 v167
  let v154 : BitVec 32 := Scalar.divsi v153 c1_i32_84
  let c1_i32_90 : BitVec 32 := 1#32
  let v169 : BitVec 32 := Scalar.subi v154 c1_i32_90
  let v170 : BitVec 32 := Scalar.select v168 v169 v154
  let v171 : BitVec 32 := Scalar.subi v170 c0_i32_92
  let c1_i32_93 : BitVec 32 := 1#32
  let v173 : BitVec 32 := Scalar.divsi v171 c1_i32_93
  let v174 : BitVec 32 := Scalar.muli v173 c1_i32_93
  let v175 : BitVec 32 := Scalar.addi c0_i32_92 v174
  let c1_i32_95 : BitVec 32 := 1#32
  let arg17 : BitVec 32 := Scf.iv v175 c1_i32_95 k0_t18
  let v176 : BitVec 32 := Scalar.muli c1_i32_96 arg17
  let v177 : BitVec 32 := Scalar.addi v151 v176
  let c0_i32_97 : BitVec 32 := 0#32
  let v178 : BitVec 32 := Scalar.addi v177 c0_i32_97
  let c512_i32_102 : BitVec 32 := 512#32
  let v183 : BitVec 32 := Scalar.muli v178 c512_i32_102
  let v184 : BitVec 32 := v183
  let v191 : Index := Scalar.indexCast v184
  ![0, 0, v191.toNat]
def k0_mult131 (i : grid0.Coords) : BitVec 32 :=
  let arg1 : BitVec 32 := BitVec.ofNat 32 (i 1).val
  let c512_i32 : BitVec 32 := 512#32
  let v47 : BitVec 32 := Scalar.muli arg1 c512_i32
  v47
def k0_off76 (i : grid0.Coords) : Fin 2 → Nat :=
  let arg1 : BitVec 32 := BitVec.ofNat 32 (i 1).val
  let c512_i32 : BitVec 32 := 512#32
  let v47 : BitVec 32 := Scalar.muli arg1 c512_i32
  let v48 : BitVec 32 := v47
  let v49 : Index := Scalar.indexCast v48
  let c0_28 : Index := 0#32
  ![v49.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16896x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16896x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x16896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x16896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel2Ideal.lean ====
variable {F : FTy → Type} [FloatOps F] [Named F]
def κ : String → Option EReal := fun
  | "ln2" => some ((Real.log 2 : ℝ) : EReal)
  | "mask" => some ⊥
  | _ => none
-- ==== Reference2Ideal.lean ====
abbrev S16400x8x128 : Shape := ⟨3, ![16400, 8, 128]⟩
abbrev S16400x8x64 : Shape := ⟨3, ![16400, 8, 64]⟩
abbrev S16400x64 : Shape := ⟨2, ![16400, 64]⟩
abbrev S32 : Shape := ⟨1, ![32]⟩
abbrev S_ : Shape := ⟨0, ![]⟩
abbrev S16400 : Shape := ⟨1, ![16400]⟩
abbrev S16400x1 : Shape := ⟨2, ![16400, 1]⟩
abbrev S1x32 : Shape := ⟨2, ![1, 32]⟩
abbrev S16400x32 : Shape := ⟨2, ![16400, 32]⟩
abbrev S16400x1x64 : Shape := ⟨3, ![16400, 1, 64]⟩
abbrev S16400x1x32 : Shape := ⟨3, ![16400, 1, 32]⟩
abbrev S16400x8x32 : Shape := ⟨3, ![16400, 8, 32]⟩
abbrev S8x16400x16400 : Shape := ⟨3, ![8, 16400, 16400]⟩
abbrev S1x1x16400 : Shape := ⟨3, ![1, 1, 16400]⟩
abbrev S1x16400x1 : Shape := ⟨3, ![1, 16400, 1]⟩
abbrev S1x16400x16400 : Shape := ⟨3, ![1, 16400, 16400]⟩
abbrev S8x16400 : Shape := ⟨2, ![8, 16400]⟩
abbrev S8x16400x1 : Shape := ⟨3, ![8, 16400, 1]⟩
abbrev S8x128x16400 : Shape := ⟨3, ![8, 128, 16400]⟩
abbrev S8x16400x64 : Shape := ⟨3, ![8, 16400, 64]⟩
abbrev S8x16400x128 : Shape := ⟨3, ![8, 16400, 128]⟩

abbrev nBuf : Space → Nat
  | .hbm => 156
  | .vmem => 0
  | .smem => 0
  | _ => 0

abbrev hbmTy0_0 (i : Nat) : BufTy := match i % 128 with
  | 0 => ⟨S16400x8x128, .f32⟩
  | 1 => ⟨S16400x8x64, .f32⟩
  | 2 => ⟨S16400x8x128, .f32⟩
  | 3 => ⟨S16400x64, .f32⟩
  | 4 => ⟨S16400x8x128, .f32⟩
  | 5 => ⟨S16400x8x128, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S16400, .i32⟩
  | 21 => ⟨S16400, .f32⟩
  | 22 => ⟨S16400x1, .f32⟩
  | 23 => ⟨S1x32, .f32⟩
  | 24 => ⟨S16400x32, .f32⟩
  | 25 => ⟨S16400x32, .f32⟩
  | 26 => ⟨S16400x32, .f32⟩
  | 27 => ⟨S16400x32, .f32⟩
  | 28 => ⟨S16400x32, .f32⟩
  | 29 => ⟨S16400, .i32⟩
  | 30 => ⟨S16400x1x64, .f32⟩
  | 31 => ⟨S16400x8x64, .f32⟩
  | 32 => ⟨S16400x1x32, .f32⟩
  | 33 => ⟨S16400x1x32, .f32⟩
  | 34 => ⟨S16400x8x32, .f32⟩
  | 35 => ⟨S16400x8x32, .f32⟩
  | 36 => ⟨S16400x8x32, .f32⟩
  | 37 => ⟨S16400x8x32, .f32⟩
  | 38 => ⟨S16400x8x32, .f32⟩
  | 39 => ⟨S16400x8x32, .f32⟩
  | 40 => ⟨S16400x8x32, .f32⟩
  | 41 => ⟨S16400x8x32, .f32⟩
  | 42 => ⟨S16400x8x32, .f32⟩
  | 43 => ⟨S16400x8x32, .f32⟩
  | 44 => ⟨S16400x8x32, .f32⟩
  | 45 => ⟨S16400x8x32, .f32⟩
  | 46 => ⟨S16400x8x64, .f32⟩
  | 47 => ⟨S8x16400x16400, .f32⟩
  | 48 => ⟨S8x16400x16400, .f32⟩
  | 49 => ⟨S8x16400x16400, .f32⟩
  | 50 => ⟨S_, .f32⟩
  | 51 => ⟨S8x16400x16400, .f32⟩
  | 52 => ⟨S8x16400x16400, .f32⟩
  | 53 => ⟨S1x1x16400, .i32⟩
  | 54 => ⟨S1x16400x1, .i32⟩
  | 55 => ⟨S1x16400x16400, .i32⟩
  | 56 => ⟨S1x16400x16400, .i32⟩
  | 57 => ⟨S1x16400x16400, .i1⟩
  | 58 => ⟨S_, .f32⟩
  | 59 => ⟨S_, .f32⟩
  | 60 => ⟨S8x16400x16400, .i1⟩
  | 61 => ⟨S8x16400x16400, .f32⟩
  | 62 => ⟨S8x16400x16400, .f32⟩
  | 63 => ⟨S_, .f32⟩
  | 64 => ⟨S8x16400x16400, .f32⟩
  | 65 => ⟨S_, .f32⟩
  | 66 => ⟨S8x16400, .f32⟩
  | 67 => ⟨S8x16400x1, .f32⟩
  | 68 => ⟨S8x16400x16400, .f32⟩
  | 69 => ⟨S8x16400x16400, .i1⟩
  | 70 => ⟨S8x16400x16400, .f32⟩
  | 71 => ⟨S_, .f32⟩
  | 72 => ⟨S8x16400, .f32⟩
  | 73 => ⟨S_, .f32⟩
  | 74 => ⟨S8x16400, .f32⟩
  | 75 => ⟨S8x16400, .f32⟩
  | 76 => ⟨S_, .f32⟩
  | 77 => ⟨S8x16400, .f32⟩
  | 78 => ⟨S8x16400, .i1⟩
  | 79 => ⟨S_, .f32⟩
  | 80 => ⟨S8x16400, .f32⟩
  | 81 => ⟨S8x16400, .i1⟩
  | 82 => ⟨S_, .f32⟩
  | 83 => ⟨S8x16400, .f32⟩
  | 84 => ⟨S_, .f32⟩
  | 85 => ⟨S8x16400, .f32⟩
  | 86 => ⟨S_, .f32⟩
  | 87 => ⟨S8x16400, .f32⟩
  | 88 => ⟨S8x16400, .f32⟩
  | 89 => ⟨S8x16400, .f32⟩
  | 90 => ⟨S8x16400x1, .f32⟩
  | 91 => ⟨S8x16400x16400, .f32⟩
  | 92 => ⟨S8x16400x16400, .f32⟩
  | 93 => ⟨S8x16400x16400, .f32⟩
  | 94 => ⟨S_, .f32⟩
  | 95 => ⟨S8x16400, .f32⟩
  | 96 => ⟨S8x16400x1, .f32⟩
  | 97 => ⟨S8x16400x16400, .f32⟩
  | 98 => ⟨S8x16400x16400, .f32⟩
  | 99 => ⟨S8x16400x1, .f32⟩
  | 100 => ⟨S_, .f32⟩
  | 101 => ⟨S8x16400x1, .f32⟩
  | 102 => ⟨S8x16400x1, .f32⟩
  | 103 => ⟨S8x128x16400, .f32⟩
  | 104 => ⟨S16400x8x128, .f32⟩
  | 105 => ⟨S8x128x16400, .f32⟩
  | 106 => ⟨S8x16400x16400, .f32⟩
  | 107 => ⟨S8x128x16400, .f32⟩
  | 108 => ⟨S16400x8x128, .f32⟩
  | 109 => ⟨S8x16400x16400, .f32⟩
  | 110 => ⟨S8x16400x16400, .f32⟩
  | 111 => ⟨S8x16400x16400, .f32⟩
  | 112 => ⟨S_, .f32⟩
  | 113 => ⟨S8x16400, .f32⟩
  | 114 => ⟨S8x16400x1, .f32⟩
  | 115 => ⟨S8x16400x1, .f32⟩
  | 116 => ⟨S8x16400x16400, .f32⟩
  | 117 => ⟨S8x16400x16400, .f32⟩
  | 118 => ⟨S_, .f32⟩
  | 119 => ⟨S8x16400, .f32⟩
  | 120 => ⟨S8x16400x16400, .f32⟩
  | 121 => ⟨S8x16400x16400, .f32⟩
  | 122 => ⟨S8x16400x16400, .f32⟩
  | 123 => ⟨S_, .f32⟩
  | 124 => ⟨S8x16400x16400, .f32⟩
  | 125 => ⟨S8x16400x16400, .f32⟩
  | 126 => ⟨S_, .f32⟩
  | 127 => ⟨S8x16400x16400, .f32⟩
  | _ => ⟨S16400x8x128, .f32⟩

abbrev hbmTy0_1 (i : Nat) : BufTy := match i % 128 with
  | 0 => ⟨S8x16400x16400, .f32⟩
  | 1 => ⟨S8x16400x64, .f32⟩
  | 2 => ⟨S16400x8x64, .f32⟩
  | 3 => ⟨S8x16400x64, .f32⟩
  | 4 => ⟨S16400x8x64, .f32⟩
  | 5 => ⟨S8x16400x128, .f32⟩
  | 6 => ⟨S16400x8x128, .f32⟩
  | 7 => ⟨S8x16400x128, .f32⟩
  | 8 => ⟨S16400x8x128, .f32⟩
  | 9 => ⟨S16400x8x32, .f32⟩
  | 10 => ⟨S16400x8x32, .f32⟩
  | 11 => ⟨S16400x8x32, .f32⟩
  | 12 => ⟨S16400x8x32, .f32⟩
  | 13 => ⟨S16400x8x32, .f32⟩
  | 14 => ⟨S16400x8x32, .f32⟩
  | 15 => ⟨S16400x8x32, .f32⟩
  | 16 => ⟨S16400x8x32, .f32⟩
  | 17 => ⟨S16400x8x32, .f32⟩
  | 18 => ⟨S16400x8x32, .f32⟩
  | 19 => ⟨S16400x8x32, .f32⟩
  | 20 => ⟨S16400x8x32, .f32⟩
  | 21 => ⟨S16400x8x32, .f32⟩
  | 22 => ⟨S16400x8x64, .f32⟩
  | 23 => ⟨S16400x8x128, .bf16⟩
  | 24 => ⟨S16400x8x64, .bf16⟩
  | 25 => ⟨S16400x8x128, .bf16⟩
  | 26 => ⟨S16400x8x64, .bf16⟩
  | 27 => ⟨S16400x8x128, .bf16⟩
  | _ => ⟨S16400x8x128, .f32⟩

abbrev hbmTy (i : Nat) : BufTy := match i / 128 with
  | 0 => hbmTy0_0 i
  | 1 => hbmTy0_1 i
  | _ => ⟨S16400x8x128, .f32⟩

abbrev bufTy : (tb : Table) → Fin (tcTables nBuf tb) → BufTy
  | .hbm, ⟨i, _⟩ => hbmTy i
  | _, _ => ⟨S16400x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_call0_v0 : Ref sig .tc := ⟨.hbm, 59, rfl⟩
abbrev main_v47_1 : Ref sig .tc := ⟨.hbm, 60, rfl⟩
abbrev main_call0_v2 : Ref sig .tc := ⟨.hbm, 61, rfl⟩
abbrev main_v47_0 : Ref sig .tc := ⟨.hbm, 62, rfl⟩
abbrev main_call0_cst : Ref sig .tc := ⟨.hbm, 63, rfl⟩
abbrev main_v47_2 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_15 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_16 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_call1_cst : Ref sig .tc := ⟨.hbm, 123, rfl⟩
abbrev main_call1_v0 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩

abbrev nD : Nat := 1
abbrev τ : Topo := Topo.v7x

variable {F : FTy → Type} [FloatOps F]
-- ==== Kernel3.lean ====
abbrev S16400x384 : Shape := ⟨2, ![16400, 384]⟩
abbrev S16400x256 : Shape := ⟨2, ![16400, 256]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S16400x8x192 : Shape := ⟨3, ![16400, 8, 192]⟩
abbrev S16400x8x128 : Shape := ⟨3, ![16400, 8, 128]⟩
abbrev S16400x8x64 : Shape := ⟨3, ![16400, 8, 64]⟩
abbrev S16400x1024 : Shape := ⟨2, ![16400, 1024]⟩
abbrev S16400x1536 : Shape := ⟨2, ![16400, 1536]⟩
abbrev S16400x16 : Shape := ⟨2, ![16400, 16]⟩
abbrev S384x8x192 : Shape := ⟨3, ![384, 8, 192]⟩
abbrev S_ : Shape := ⟨0, ![]⟩
abbrev S384x8x256 : Shape := ⟨3, ![384, 8, 256]⟩
abbrev S256x8x256 : Shape := ⟨3, ![256, 8, 256]⟩
abbrev S256x8x128 : Shape := ⟨3, ![256, 8, 128]⟩
abbrev S16896x8x256 : Shape := ⟨3, ![16896, 8, 256]⟩
abbrev S16896x2048 : Shape := ⟨2, ![16896, 2048]⟩
abbrev S16896x1024 : Shape := ⟨2, ![16896, 1024]⟩
abbrev S16896x384 : Shape := ⟨2, ![16896, 384]⟩
abbrev S16896x256 : Shape := ⟨2, ![16896, 256]⟩
abbrev S16896 : Shape := ⟨1, ![16896]⟩
abbrev S32 : Shape := ⟨1, ![32]⟩
abbrev S16896x1 : Shape := ⟨2, ![16896, 1]⟩
abbrev S1x32 : Shape := ⟨2, ![1, 32]⟩
abbrev S16896x32 : Shape := ⟨2, ![16896, 32]⟩
abbrev S16896x64 : Shape := ⟨2, ![16896, 64]⟩
abbrev S16896x128 : Shape := ⟨2, ![16896, 128]⟩
abbrev S1x384 : Shape := ⟨2, ![1, 384]⟩
abbrev S1x256 : Shape := ⟨2, ![1, 256]⟩
abbrev S384x2048 : Shape := ⟨2, ![384, 2048]⟩
abbrev S256x1024 : Shape := ⟨2, ![256, 1024]⟩
abbrev S16896x1536 : Shape := ⟨2, ![16896, 1536]⟩
abbrev S16896x16 : Shape := ⟨2, ![16896, 16]⟩
abbrev S16896x3584 : Shape := ⟨2, ![16896, 3584]⟩
abbrev S8x384 : Shape := ⟨2, ![8, 384]⟩
abbrev S8x256 : Shape := ⟨2, ![8, 256]⟩
abbrev S512x2048 : Shape := ⟨2, ![512, 2048]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512x1536 : Shape := ⟨2, ![512, 1536]⟩
abbrev S512x3584 : Shape := ⟨2, ![512, 3584]⟩
abbrev S512 : Shape := ⟨1, ![512]⟩
abbrev S512x1 : Shape := ⟨2, ![512, 1]⟩
abbrev S64x8x384 : Shape := ⟨3, ![64, 8, 384]⟩
abbrev S64x8x256 : Shape := ⟨3, ![64, 8, 256]⟩
abbrev S16400x3584 : Shape := ⟨2, ![16400, 3584]⟩
abbrev S16400x64 : Shape := ⟨2, ![16400, 64]⟩

abbrev nBuf : Space → Nat
  | .hbm => 120
  | .vmem => 31
  | .smem => 0
  | _ => 0

abbrev bufTy : (tb : Table) → Fin (tcTables nBuf tb) → BufTy
  | .hbm, ⟨0, _⟩ => ⟨S16400x384, .f32⟩
  | .hbm, ⟨1, _⟩ => ⟨S16400x256, .f32⟩
  | .hbm, ⟨2, _⟩ => ⟨S384, .f32⟩
  | .hbm, ⟨3, _⟩ => ⟨S256, .f32⟩
  | .hbm, ⟨4, _⟩ => ⟨S384x1536, .f32⟩
  | .hbm, ⟨5, _⟩ => ⟨S256x2048, .f32⟩
  | .hbm, ⟨6, _⟩ => ⟨S16400x8x192, .f32⟩
  | .hbm, ⟨7, _⟩ => ⟨S16400x8x128, .f32⟩
  | .hbm, ⟨8, _⟩ => ⟨S16400x8x64, .f32⟩
  | .hbm, ⟨9, _⟩ => ⟨S16400x8x128, .f32⟩
  | .hbm, ⟨10, _⟩ => ⟨S16400x1024, .f32⟩
  | .hbm, ⟨11, _⟩ => ⟨S16400x1536, .f32⟩
  | .hbm, ⟨12, _⟩ => ⟨S16400x16, .f32⟩
  | .hbm, ⟨13, _⟩ => ⟨S384x8x192, .f32⟩
  | .hbm, ⟨14, _⟩ => ⟨S_, .i32⟩
  | .hbm, ⟨15, _⟩ => ⟨S_, .f32⟩
  | .hbm, ⟨16, _⟩ => ⟨S384x8x256, .f32⟩
  | .hbm, ⟨17, _⟩ => ⟨S256x8x256, .f32⟩
  | .hbm, ⟨18, _⟩ => ⟨S256x8x128, .f32⟩
  | .hbm, ⟨19, _⟩ => ⟨S_, .i32⟩
  | .hbm, ⟨20, _⟩ => ⟨S_, .f32⟩
  | .hbm, ⟨21, _⟩ => ⟨S256x8x256, .f32⟩
  | .hbm, ⟨22, _⟩ => ⟨S256x8x128, .f32⟩
  | .hbm, ⟨23, _⟩ => ⟨S_, .i32⟩
  | .hbm, ⟨24, _⟩ => ⟨S_, .f32⟩
  | .hbm, ⟨25, _⟩ => ⟨S16896x8x256, .f32⟩
  | .hbm, ⟨26, _⟩ => ⟨S16896x8x256, .bf16⟩
  | .hbm, ⟨27, _⟩ => ⟨S16896x2048, .bf16⟩
  | .hbm, ⟨28, _⟩ => ⟨S16400x8x192, .f32⟩
  | .hbm, ⟨29, _⟩ => ⟨S_, .i32⟩
  | .hbm, ⟨30, _⟩ => ⟨S_, .f32⟩
  | .hbm, ⟨31, _⟩ => ⟨S16896x8x256, .f32⟩
  | .hbm, ⟨32, _⟩ => ⟨S16896x8x256, .bf16⟩
  | .hbm, ⟨33, _⟩ => ⟨S16896x2048, .bf16⟩
  | .hbm, ⟨34, _⟩ => ⟨S16400x1024, .f32⟩
  | .hbm, ⟨35, _⟩ => ⟨S_, .i32⟩
  | .hbm, ⟨36, _⟩ => ⟨S_, .f32⟩
  | .hbm, ⟨37, _⟩ => ⟨S16896x1024, .f32⟩
  | .hbm, ⟨38, _⟩ => ⟨S16896x1024, .bf16⟩
  | .hbm, ⟨39, _⟩ => ⟨S_, .i32⟩
  | .hbm, ⟨40, _⟩ => ⟨S_, .f32⟩
  | .hbm, ⟨41, _⟩ => ⟨S16896x384, .f32⟩
  | .hbm, ⟨42, _⟩ => ⟨S_, .i32⟩
  | .hbm, ⟨43, _⟩ => ⟨S_, .f32⟩
  | .hbm, ⟨44, _⟩ => ⟨S16896x256, .f32⟩
  | .hbm, ⟨45, _⟩ => ⟨S16896, .i32⟩
  | .hbm, ⟨46, _⟩ => ⟨S_, .i32⟩
  | .hbm, ⟨47, _⟩ => ⟨S16896, .i32⟩
  | .hbm, ⟨48, _⟩ => ⟨S16896, .i32⟩
  | .hbm, ⟨49, _⟩ => ⟨S_, .i32⟩
  | .hbm, ⟨50, _⟩ => ⟨S16896, .i32⟩
  | .hbm, ⟨51, _⟩ => ⟨S16896, .i32⟩
  | .hbm, ⟨52, _⟩ => ⟨S16896, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S16896x1, .f32⟩
  | .hbm, ⟨68, _⟩ => ⟨S1x32, .f32⟩
  | .hbm, ⟨69, _⟩ => ⟨S16896x32, .f32⟩
  | .hbm, ⟨70, _⟩ => ⟨S16896x32, .f32⟩
  | .hbm, ⟨71, _⟩ => ⟨S16896x32, .f32⟩
  | .hbm, ⟨72, _⟩ => ⟨S16896x32, .f32⟩
  | .hbm, ⟨73, _⟩ => ⟨S16896x32, .f32⟩
  | .hbm, ⟨74, _⟩ => ⟨S_, .f32⟩
  | .hbm, ⟨75, _⟩ => ⟨S16896x32, .f32⟩
  | .hbm, ⟨76, _⟩ => ⟨S_, .f32⟩
  | .hbm, ⟨77, _⟩ => ⟨S16896x64, .f32⟩
  | .hbm, ⟨78, _⟩ => ⟨S_, .f32⟩
  | .hbm, ⟨79, _⟩ => ⟨S16896x64, .f32⟩
  | .hbm, ⟨80, _⟩ => ⟨S16896x128, .f32⟩
  | .hbm, ⟨81, _⟩ => ⟨S16896x32, .f32⟩
  | .hbm, ⟨82, _⟩ => ⟨S16896x128, .f32⟩
  | .hbm, ⟨83, _⟩ => ⟨S16896x128, .f32⟩
  | .hbm, ⟨84, _⟩ => ⟨S1x384, .f32⟩
  | .hbm, ⟨85, _⟩ => ⟨S1x256, .f32⟩
  | .hbm, ⟨86, _⟩ => ⟨S384x2048, .f32⟩
  | .hbm, ⟨87, _⟩ => ⟨S384x2048, .bf16⟩
  | .hbm, ⟨88, _⟩ => ⟨S256x2048, .f32⟩
  | .hbm, ⟨89, _⟩ => ⟨S256x2048, .bf16⟩
  | .hbm, ⟨90, _⟩ => ⟨S256x1024, .f32⟩
  | .hbm, ⟨91, _⟩ => ⟨S256x1024, .bf16⟩
  | .hbm, ⟨92, _⟩ => ⟨S_, .i32⟩
  | .hbm, ⟨93, _⟩ => ⟨S_, .f32⟩
  | .hbm, ⟨94, _⟩ => ⟨S16896x1024, .f32⟩
  | .hbm, ⟨95, _⟩ => ⟨S16896x1024, .bf16⟩
  | .hbm, ⟨96, _⟩ => ⟨S_, .i32⟩
  | .hbm, ⟨97, _⟩ => ⟨S_, .f32⟩
  | .hbm, ⟨98, _⟩ => ⟨S16896x1536, .f32⟩
  | .hbm, ⟨99, _⟩ => ⟨S16896x1536, .bf16⟩
  | .hbm, ⟨100, _⟩ => ⟨S_, .i32⟩
  | .hbm, ⟨101, _⟩ => ⟨S_, .f32⟩
  | .hbm, ⟨102, _⟩ => ⟨S16896x16, .f32⟩
  | .hbm, ⟨103, _⟩ => ⟨S_, .i32⟩
  | .hbm, ⟨104, _⟩ => ⟨S_, .f32⟩
  | .hbm, ⟨105, _⟩ => ⟨S16896x128, .f32⟩
  | .hbm, ⟨106, _⟩ => ⟨S16896x3584, .bf16⟩
  | .hbm, ⟨107, _⟩ => ⟨S8x384, .f32⟩
  | .hbm, ⟨108, _⟩ => ⟨S8x256, .f32⟩
  | .hbm, ⟨109, _⟩ => ⟨S16400x3584, .bf16⟩
  | .hbm, ⟨110, _⟩ => ⟨S16400x384, .bf16⟩
  | .hbm, ⟨111, _⟩ => ⟨S16400x256, .bf16⟩
  | .hbm, ⟨112, _⟩ => ⟨S16400x64, .bf16⟩
  | .hbm, ⟨113, _⟩ => ⟨S16400x1024, .bf16⟩
  | .hbm, ⟨114, _⟩ => ⟨S16400x1536, .bf16⟩
  | .hbm, ⟨115, _⟩ => ⟨S16400x16, .bf16⟩
  | .hbm, ⟨116, _⟩ => ⟨S_, .f32⟩
  | .hbm, ⟨117, _⟩ => ⟨S384, .f32⟩
  | .hbm, ⟨118, _⟩ => ⟨S_, .f32⟩
  | .hbm, ⟨119, _⟩ => ⟨S256, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x384, .f32⟩
  | .local _ .vmem, ⟨7, _⟩ => ⟨S512x384, .f32⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x384, .f32⟩
  | .local _ .vmem, ⟨17, _⟩ => ⟨S1x256, .f32⟩
  | .local _ .vmem, ⟨18, _⟩ => ⟨S384x2048, .bf16⟩
  | .local _ .vmem, ⟨19, _⟩ => ⟨S256x2048, .bf16⟩
  | .local _ .vmem, ⟨20, _⟩ => ⟨S256x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1536, .bf16⟩
  | .local _ .vmem, ⟨24, _⟩ => ⟨S512x1536, .bf16⟩
  | .local _ .vmem, ⟨25, _⟩ => ⟨S512x128, .f32⟩
  | .local _ .vmem, ⟨26, _⟩ => ⟨S512x128, .f32⟩
  | .local _ .vmem, ⟨27, _⟩ => ⟨S512x3584, .bf16⟩
  | .local _ .vmem, ⟨28, _⟩ => ⟨S512x3584, .bf16⟩
  | .local _ .vmem, ⟨29, _⟩ => ⟨S8x384, .f32⟩
  | .local _ .vmem, ⟨30, _⟩ => ⟨S8x256, .f32⟩
  | _, _ => ⟨S16400x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_call1_v0 : Ref sig .tc := ⟨.hbm, 20, rfl⟩
abbrev main_v4 : Ref sig .tc := ⟨.hbm, 21, rfl⟩
abbrev main_v5 : Ref sig .tc := ⟨.hbm, 22, rfl⟩
abbrev main_c_1 : Ref sig .tc := ⟨.hbm, 23, rfl⟩
abbrev main_call2_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_call3_v0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_call4_v0 : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_call5_v0 : Ref sig .tc := ⟨.hbm, 40, rfl⟩
abbrev main_v16 : Ref sig .tc := ⟨.hbm, 41, rfl⟩
abbrev main_c_5 : Ref sig .tc := ⟨.hbm, 42, rfl⟩
abbrev main_call6_v0 : Ref sig .tc := ⟨.hbm, 43, rfl⟩
abbrev main_v17 : Ref sig .tc := ⟨.hbm, 44, rfl⟩
abbrev main_v18 : Ref sig .tc := ⟨.hbm, 45, rfl⟩
abbrev main_c_6 : Ref sig .tc := ⟨.hbm, 46, rfl⟩
abbrev main_v19 : Ref sig .tc := ⟨.hbm, 47, rfl⟩
abbrev main_v20 : Ref sig .tc := ⟨.hbm, 48, rfl⟩
abbrev main_c_7 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst : Ref sig .tc := ⟨.hbm, 54, rfl⟩
abbrev main_v25 : Ref sig .tc := ⟨.hbm, 55, rfl⟩
abbrev main_v26 : Ref sig .tc := ⟨.hbm, 56, rfl⟩
abbrev main_cst_8 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_9 : Ref sig .tc := ⟨.hbm, 61, rfl⟩
abbrev main_v30 : Ref sig .tc := ⟨.hbm, 62, rfl⟩
abbrev main_v31 : Ref sig .tc := ⟨.hbm, 63, rfl⟩
abbrev main_cst_10 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_11 : Ref sig .tc := ⟨.hbm, 74, rfl⟩
abbrev main_v41 : Ref sig .tc := ⟨.hbm, 75, rfl⟩
abbrev main_cst_12 : Ref sig .tc := ⟨.hbm, 76, rfl⟩
abbrev main_v42 : Ref sig .tc := ⟨.hbm, 77, rfl⟩
abbrev main_cst_13 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_14 : Ref sig .tc := ⟨.hbm, 92, rfl⟩
abbrev main_call7_v0 : Ref sig .tc := ⟨.hbm, 93, rfl⟩
abbrev main_v56 : Ref sig .tc := ⟨.hbm, 94, rfl⟩
abbrev main_v57 : Ref sig .tc := ⟨.hbm, 95, rfl⟩
abbrev main_c_15 : Ref sig .tc := ⟨.hbm, 96, rfl⟩
abbrev main_call8_v0 : Ref sig .tc := ⟨.hbm, 97, rfl⟩
abbrev main_v58 : Ref sig .tc := ⟨.hbm, 98, rfl⟩
abbrev main_v59 : Ref sig .tc := ⟨.hbm, 99, rfl⟩
abbrev main_c_16 : Ref sig .tc := ⟨.hbm, 100, rfl⟩
abbrev main_call9_v0 : Ref sig .tc := ⟨.hbm, 101, rfl⟩
abbrev main_v60 : Ref sig .tc := ⟨.hbm, 102, rfl⟩
abbrev main_c_17 : Ref sig .tc := ⟨.hbm, 103, rfl⟩
abbrev main_call10_v0 : Ref sig .tc := ⟨.hbm, 104, rfl⟩
abbrev main_v61 : Ref sig .tc := ⟨.hbm, 105, rfl⟩
abbrev main_v62_0 : Ref sig .tc := ⟨.hbm, 106, rfl⟩
abbrev main_v62_1 : Ref sig .tc := ⟨.hbm, 107, rfl⟩
abbrev main_v62_2 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_18 : Ref sig .tc := ⟨.hbm, 116, rfl⟩
abbrev main_v70 : Ref sig .tc := ⟨.hbm, 117, rfl⟩
abbrev main_cst_19 : Ref sig .tc := ⟨.hbm, 118, rfl⟩
abbrev main_v71 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x3584 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference3Ideal.lean ====
abbrev S16400x384 : Shape := ⟨2, ![16400, 384]⟩
abbrev S16400x256 : Shape := ⟨2, ![16400, 256]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S16400x8x192 : Shape := ⟨3, ![16400, 8, 192]⟩
abbrev S16400x8x128 : Shape := ⟨3, ![16400, 8, 128]⟩
abbrev S16400x8x64 : Shape := ⟨3, ![16400, 8, 64]⟩
abbrev S16400x1024 : Shape := ⟨2, ![16400, 1024]⟩
abbrev S16400x1536 : Shape := ⟨2, ![16400, 1536]⟩
abbrev S16400x16 : Shape := ⟨2, ![16400, 16]⟩
abbrev S32 : Shape := ⟨1, ![32]⟩
abbrev S_ : Shape := ⟨0, ![]⟩
abbrev S16400 : Shape := ⟨1, ![16400]⟩
abbrev S16400x1 : Shape := ⟨2, ![16400, 1]⟩
abbrev S1x32 : Shape := ⟨2, ![1, 32]⟩
abbrev S16400x32 : Shape := ⟨2, ![16400, 32]⟩
abbrev S1x384 : Shape := ⟨2, ![1, 384]⟩
abbrev S1x256 : Shape := ⟨2, ![1, 256]⟩
abbrev S16400x2048 : Shape := ⟨2, ![16400, 2048]⟩
abbrev S16400x8x256 : Shape := ⟨3, ![16400, 8, 256]⟩
abbrev S16400x64 : Shape := ⟨2, ![16400, 64]⟩
abbrev S16400x1x64 : Shape := ⟨3, ![16400, 1, 64]⟩

abbrev nBuf : Space → Nat
  | .hbm => 177
  | .vmem => 0
  | .smem => 0
  | _ => 0

abbrev hbmTy0_0 (i : Nat) : BufTy := match i % 128 with
  | 0 => ⟨S16400x384, .f32⟩
  | 1 => ⟨S16400x256, .f32⟩
  | 2 => ⟨S384, .f32⟩
  | 3 => ⟨S256, .f32⟩
  | 4 => ⟨S384x1536, .f32⟩
  | 5 => ⟨S256x2048, .f32⟩
  | 6 => ⟨S16400x8x192, .f32⟩
  | 7 => ⟨S16400x8x128, .f32⟩
  | 8 => ⟨S16400x8x64, .f32⟩
  | 9 => ⟨S16400x8x128, .f32⟩
  | 10 => ⟨S16400x1024, .f32⟩
  | 11 => ⟨S16400x1536, .f32⟩
  | 12 => ⟨S16400x16, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S16400, .i32⟩
  | 28 => ⟨S16400, .f32⟩
  | 29 => ⟨S16400x1, .f32⟩
  | 30 => ⟨S1x32, .f32⟩
  | 31 => ⟨S16400x32, .f32⟩
  | 32 => ⟨S16400x32, .f32⟩
  | 33 => ⟨S16400x32, .f32⟩
  | 34 => ⟨S16400x32, .f32⟩
  | 35 => ⟨S16400x32, .f32⟩
  | 36 => ⟨S16400x384, .f32⟩
  | 37 => ⟨S_, .f32⟩
  | 38 => ⟨S16400x384, .f32⟩
  | 39 => ⟨S16400x384, .f32⟩
  | 40 => ⟨S_, .f32⟩
  | 41 => ⟨S16400, .f32⟩
  | 42 => ⟨S16400x1, .f32⟩
  | 43 => ⟨S_, .f32⟩
  | 44 => ⟨S16400x1, .f32⟩
  | 45 => ⟨S16400x1, .f32⟩
  | 46 => ⟨S_, .f32⟩
  | 47 => ⟨S16400x1, .f32⟩
  | 48 => ⟨S16400x1, .f32⟩
  | 49 => ⟨S16400x1, .f32⟩
  | 50 => ⟨S16400x1, .f32⟩
  | 51 => ⟨S_, .f32⟩
  | 52 => ⟨S16400x1, .f32⟩
  | 53 => ⟨S16400x1, .f32⟩
  | 54 => ⟨S16400x384, .f32⟩
  | 55 => ⟨S16400x384, .f32⟩
  | 56 => ⟨S1x384, .f32⟩
  | 57 => ⟨S16400x384, .f32⟩
  | 58 => ⟨S16400x384, .f32⟩
  | 59 => ⟨S16400x1536, .f32⟩
  | 60 => ⟨S16400x8x192, .f32⟩
  | 61 => ⟨S16400x1536, .f32⟩
  | 62 => ⟨S16400x384, .f32⟩
  | 63 => ⟨S16400x384, .f32⟩
  | 64 => ⟨S_, .f32⟩
  | 65 => ⟨S384, .f32⟩
  | 66 => ⟨S1x384, .f32⟩
  | 67 => ⟨S16400x384, .f32⟩
  | 68 => ⟨S16400x384, .f32⟩
  | 69 => ⟨S_, .f32⟩
  | 70 => ⟨S384, .f32⟩
  | 71 => ⟨S16400x384, .f32⟩
  | 72 => ⟨S_, .f32⟩
  | 73 => ⟨S16400, .f32⟩
  | 74 => ⟨S16400x1, .f32⟩
  | 75 => ⟨S16400x384, .f32⟩
  | 76 => ⟨S16400x384, .f32⟩
  | 77 => ⟨S16400x1, .f32⟩
  | 78 => ⟨S_, .f32⟩
  | 79 => ⟨S16400x1, .f32⟩
  | 80 => ⟨S16400x1, .f32⟩
  | 81 => ⟨S_, .f32⟩
  | 82 => ⟨S16400, .f32⟩
  | 83 => ⟨S16400x384, .f32⟩
  | 84 => ⟨S16400x384, .f32⟩
  | 85 => ⟨S16400x384, .f32⟩
  | 86 => ⟨S16400x256, .f32⟩
  | 87 => ⟨S_, .f32⟩
  | 88 => ⟨S16400x256, .f32⟩
  | 89 => ⟨S16400x256, .f32⟩
  | 90 => ⟨S_, .f32⟩
  | 91 => ⟨S16400, .f32⟩
  | 92 => ⟨S16400x1, .f32⟩
  | 93 => ⟨S_, .f32⟩
  | 94 => ⟨S16400x1, .f32⟩
  | 95 => ⟨S16400x1, .f32⟩
  | 96 => ⟨S_, .f32⟩
  | 97 => ⟨S16400x1, .f32⟩
  | 98 => ⟨S16400x1, .f32⟩
  | 99 => ⟨S16400x1, .f32⟩
  | 100 => ⟨S16400x1, .f32⟩
  | 101 => ⟨S_, .f32⟩
  | 102 => ⟨S16400x1, .f32⟩
  | 103 => ⟨S16400x1, .f32⟩
  | 104 => ⟨S16400x256, .f32⟩
  | 105 => ⟨S16400x256, .f32⟩
  | 106 => ⟨S1x256, .f32⟩
  | 107 => ⟨S16400x256, .f32⟩
  | 108 => ⟨S16400x256, .f32⟩
  | 109 => ⟨S16400x2048, .f32⟩
  | 110 => ⟨S16400x8x256, .f32⟩
  | 111 => ⟨S16400x8x128, .f32⟩
  | 112 => ⟨S16400x8x128, .f32⟩
  | 113 => ⟨S_, .f32⟩
  | 114 => ⟨S16400x8x256, .f32⟩
  | 115 => ⟨S_, .f32⟩
  | 116 => ⟨S16400x8x256, .f32⟩
  | 117 => ⟨S16400x8x256, .f32⟩
  | 118 => ⟨S16400x2048, .f32⟩
  | 119 => ⟨S16400x256, .f32⟩
  | 120 => ⟨S16400x256, .f32⟩
  | 121 => ⟨S_, .f32⟩
  | 122 => ⟨S256, .f32⟩
  | 123 => ⟨S1x256, .f32⟩
  | 124 => ⟨S16400x256, .f32⟩
  | 125 => ⟨S16400x256, .f32⟩
  | 126 => ⟨S_, .f32⟩
  | 127 => ⟨S256, .f32⟩
  | _ => ⟨S16400x384, .f32⟩

abbrev hbmTy0_1 (i : Nat) : BufTy := match i % 128 with
  | 0 => ⟨S16400x256, .f32⟩
  | 1 => ⟨S_, .f32⟩
  | 2 => ⟨S16400, .f32⟩
  | 3 => ⟨S16400x1, .f32⟩
  | 4 => ⟨S16400x256, .f32⟩
  | 5 => ⟨S16400x256, .f32⟩
  | 6 => ⟨S16400x1, .f32⟩
  | 7 => ⟨S_, .f32⟩
  | 8 => ⟨S16400x1, .f32⟩
  | 9 => ⟨S16400x1, .f32⟩
  | 10 => ⟨S_, .f32⟩
  | 11 => ⟨S16400, .f32⟩
  | 12 => ⟨S16400x256, .f32⟩
  | 13 => ⟨S16400x256, .f32⟩
  | 14 => ⟨S16400x256, .f32⟩
  | 15 => ⟨S_, .f32⟩
  | 16 => ⟨S16400x64, .f32⟩
  | 17 => ⟨S16400x32, .f32⟩
  | 18 => ⟨S16400x32, .f32⟩
  | 19 => ⟨S16400x32, .f32⟩
  | 20 => ⟨S16400x32, .f32⟩
  | 21 => ⟨S16400x32, .f32⟩
  | 22 => ⟨S16400x32, .f32⟩
  | 23 => ⟨S16400x32, .f32⟩
  | 24 => ⟨S16400x32, .f32⟩
  | 25 => ⟨S16400x64, .f32⟩
  | 26 => ⟨S16400x1x64, .f32⟩
  | 27 => ⟨S16400x8x64, .f32⟩
  | 28 => ⟨S_, .f32⟩
  | 29 => ⟨S16400x64, .f32⟩
  | 30 => ⟨S16400x1x64, .f32⟩
  | 31 => ⟨S_, .f32⟩
  | 32 => ⟨S16400x64, .f32⟩
  | 33 => ⟨S16400x32, .f32⟩
  | 34 => ⟨S16400x32, .f32⟩
  | 35 => ⟨S16400x32, .f32⟩
  | 36 => ⟨S16400x32, .f32⟩
  | 37 => ⟨S16400x32, .f32⟩
  | 38 => ⟨S16400x32, .f32⟩
  | 39 => ⟨S16400x32, .f32⟩
  | 40 => ⟨S16400x32, .f32⟩
  | 41 => ⟨S16400x32, .f32⟩
  | 42 => ⟨S16400x64, .f32⟩
  | 43 => ⟨S16400x384, .bf16⟩
  | 44 => ⟨S16400x256, .bf16⟩
  | 45 => ⟨S16400x64, .bf16⟩
  | 46 => ⟨S16400x1024, .bf16⟩
  | 47 => ⟨S16400x1536, .bf16⟩
  | 48 => ⟨S16400x16, .bf16⟩
  | _ => ⟨S16400x384, .f32⟩

abbrev hbmTy (i : Nat) : BufTy := match i / 128 with
  | 0 => hbmTy0_0 i
  | 1 => hbmTy0_1 i
  | _ => ⟨S16400x384, .f32⟩

abbrev bufTy : (tb : Table) → Fin (tcTables nBuf tb) → BufTy
  | .hbm, ⟨i, _⟩ => hbmTy i
  | _, _ => ⟨S16400x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_v65 : Ref sig .tc := ⟨.hbm, 95, rfl⟩
abbrev main_cst_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_18 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_20 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_cst_22 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_23 : Ref sig .tc := ⟨.hbm, 135, rfl⟩
abbrev main_v98 : Ref sig .tc := ⟨.hbm, 136, rfl⟩
abbrev main_v99 : Ref sig .tc := ⟨.hbm, 137, rfl⟩
abbrev main_cst_24 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_25 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_26 : Ref sig .tc := ⟨.hbm, 156, rfl⟩
abbrev main_v116 : Ref sig .tc := ⟨.hbm, 157, rfl⟩
abbrev main_v117 : Ref sig .tc := ⟨.hbm, 158, rfl⟩
abbrev main_cst_27 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩

abbrev nD : Nat := 1
abbrev τ : Topo := Topo.v7x

variable {F : FTy → Type} [FloatOps F]
-- ==== Kernel4.lean ====
abbrev S16400x1024 : Shape := ⟨2, ![16400, 1024]⟩
abbrev S16400x1536 : Shape := ⟨2, ![16400, 1536]⟩
abbrev S16 : Shape := ⟨1, ![16]⟩
abbrev S1024 : Shape := ⟨1, ![1024]⟩
abbrev S2048x1024 : Shape := ⟨2, ![2048, 1024]⟩
abbrev S16x64 : Shape := ⟨2, ![16, 64]⟩
abbrev S1x1024 : Shape := ⟨2, ![1, 1024]⟩
abbrev S_ : Shape := ⟨0, ![]⟩
abbrev S16400x2x512 : Shape := ⟨3, ![16400, 2, 512]⟩
abbrev S16400x2 : Shape := ⟨2, ![16400, 2]⟩
abbrev S16400x2x1 : Shape := ⟨3, ![16400, 2, 1]⟩
abbrev S16400x2048 : Shape := ⟨2, ![16400, 2048]⟩
abbrev S16896x1024 : Shape := ⟨2, ![16896, 1024]⟩
abbrev S16896x1536 : Shape := ⟨2, ![16896, 1536]⟩
abbrev S8x1024 : Shape := ⟨2, ![8, 1024]⟩
abbrev S8x1x16896 : Shape := ⟨3, ![8, 1, 16896]⟩
abbrev S512x1024 : Shape := ⟨2, ![512, 1024]⟩
abbrev S8x1x512 : Shape := ⟨3, ![8, 1, 512]⟩
abbrev S512 : Shape := ⟨1, ![512]⟩
abbrev S512x1 : Shape := ⟨2, ![512, 1]⟩
abbrev S1024x1024 : Shape := ⟨2, ![1024, 1024]⟩
abbrev S64x8x1024 : Shape := ⟨3, ![64, 8, 1024]⟩
abbrev S512x128 : Shape := ⟨2, ![512, 128]⟩
abbrev S128x512 : Shape := ⟨2, ![128, 512]⟩
abbrev S1x512 : Shape := ⟨2, ![1, 512]⟩
abbrev S1x1x512 : Shape := ⟨3, ![1, 1, 512]⟩
abbrev S512x512 : Shape := ⟨2, ![512, 512]⟩
abbrev S8x1x16400 : Shape := ⟨3, ![8, 1, 16400]⟩
abbrev S8x16400 : Shape := ⟨2, ![8, 16400]⟩

abbrev nBuf : Space → Nat
  | .hbm => 94
  | .vmem => 29
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S16400x1536, .f32⟩
  | .hbm, ⟨3, _⟩ => ⟨S16400x1024, .f32⟩
  | .hbm, ⟨4, _⟩ => ⟨S16, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S16400x1024, .f32⟩
  | .hbm, ⟨9, _⟩ => ⟨S16x64, .f32⟩
  | .hbm, ⟨10, _⟩ => ⟨S1024, .f32⟩
  | .hbm, ⟨11, _⟩ => ⟨S1x1024, .f32⟩
  | .hbm, ⟨12, _⟩ => ⟨S16400x1024, .f32⟩
  | .hbm, ⟨13, _⟩ => ⟨S16400x1024, .f32⟩
  | .hbm, ⟨14, _⟩ => ⟨S16400x1024, .f32⟩
  | .hbm, ⟨15, _⟩ => ⟨S16400x1024, .f32⟩
  | .hbm, ⟨16, _⟩ => ⟨S16400x1024, .f32⟩
  | .hbm, ⟨17, _⟩ => ⟨S16400x1024, .f32⟩
  | .hbm, ⟨18, _⟩ => ⟨S_, .f32⟩
  | .hbm, ⟨19, _⟩ => ⟨S16400x1024, .f32⟩
  | .hbm, ⟨20, _⟩ => ⟨S16400x1024, .f32⟩
  | .hbm, ⟨21, _⟩ => ⟨S_, .f32⟩
  | .hbm, ⟨22, _⟩ => ⟨S16400x1024, .f32⟩
  | .hbm, ⟨23, _⟩ => ⟨S16400x1024, .f32⟩
  | .hbm, ⟨24, _⟩ => ⟨S16400x1024, .f32⟩
  | .hbm, ⟨25, _⟩ => ⟨S16400x1024, .f32⟩
  | .hbm, ⟨26, _⟩ => ⟨S16400x2x512, .f32⟩
  | .hbm, ⟨27, _⟩ => ⟨S16400x2x512, .f32⟩
  | .hbm, ⟨28, _⟩ => ⟨S_, .f32⟩
  | .hbm, ⟨29, _⟩ => ⟨S16400x2, .f32⟩
  | .hbm, ⟨30, _⟩ => ⟨S16400x2x1, .f32⟩
  | .hbm, ⟨31, _⟩ => ⟨S_, .f32⟩
  | .hbm, ⟨32, _⟩ => ⟨S16400x2x1, .f32⟩
  | .hbm, ⟨33, _⟩ => ⟨S16400x2x1, .f32⟩
  | .hbm, ⟨34, _⟩ => ⟨S_, .f32⟩
  | .hbm, ⟨35, _⟩ => ⟨S16400x2x1, .f32⟩
  | .hbm, ⟨36, _⟩ => ⟨S16400x2x1, .f32⟩
  | .hbm, ⟨37, _⟩ => ⟨S16400x2x1, .f32⟩
  | .hbm, ⟨38, _⟩ => ⟨S16400x2x512, .f32⟩
  | .hbm, ⟨39, _⟩ => ⟨S16400x2x512, .f32⟩
  | .hbm, ⟨40, _⟩ => ⟨S16400x1024, .f32⟩
  | .hbm, ⟨41, _⟩ => ⟨S1x1024, .f32⟩
  | .hbm, ⟨42, _⟩ => ⟨S16400x1024, .f32⟩
  | .hbm, ⟨43, _⟩ => ⟨S16400x1024, .f32⟩
  | .hbm, ⟨44, _⟩ => ⟨S16400x2048, .f32⟩
  | .hbm, ⟨45, _⟩ => ⟨S16400x1024, .f32⟩
  | .hbm, ⟨46, _⟩ => ⟨S16x64, .f32⟩
  | .hbm, ⟨47, _⟩ => ⟨S1024, .f32⟩
  | .hbm, ⟨48, _⟩ => ⟨S1x1024, .f32⟩
  | .hbm, ⟨49, _⟩ => ⟨S_, .i32⟩
  | .hbm, ⟨50, _⟩ => ⟨S_, .f32⟩
  | .hbm, ⟨51, _⟩ => ⟨S16896x1024, .f32⟩
  | .hbm, ⟨52, _⟩ => ⟨S_, .i32⟩
  | .hbm, ⟨53, _⟩ => ⟨S_, .f32⟩
  | .hbm, ⟨54, _⟩ => ⟨S16896x1024, .f32⟩
  | .hbm, ⟨55, _⟩ => ⟨S_, .i32⟩
  | .hbm, ⟨56, _⟩ => ⟨S_, .f32⟩
  | .hbm, ⟨57, _⟩ => ⟨S16896x1024, .f32⟩
  | .hbm, ⟨58, _⟩ => ⟨S16896x1024, .bf16⟩
  | .hbm, ⟨59, _⟩ => ⟨S_, .i32⟩
  | .hbm, ⟨60, _⟩ => ⟨S_, .f32⟩
  | .hbm, ⟨61, _⟩ => ⟨S16896x1024, .f32⟩
  | .hbm, ⟨62, _⟩ => ⟨S_, .i32⟩
  | .hbm, ⟨63, _⟩ => ⟨S_, .f32⟩
  | .hbm, ⟨64, _⟩ => ⟨S16896x1536, .f32⟩
  | .hbm, ⟨65, _⟩ => ⟨S_, .i32⟩
  | .hbm, ⟨66, _⟩ => ⟨S_, .f32⟩
  | .hbm, ⟨67, _⟩ => ⟨S16896x1024, .f32⟩
  | .hbm, ⟨68, _⟩ => ⟨S1x1024, .f32⟩
  | .hbm, ⟨69, _⟩ => ⟨S2048x1024, .bf16⟩
  | .hbm, ⟨70, _⟩ => ⟨S1x1024, .f32⟩
  | .hbm, ⟨71, _⟩ => ⟨S16896x1024, .bf16⟩
  | .hbm, ⟨72, _⟩ => ⟨S16896x1024, .bf16⟩
  | .hbm, ⟨73, _⟩ => ⟨S16896x1024, .f32⟩
  | .hbm, ⟨74, _⟩ => ⟨S16896x1024, .bf16⟩
  | .hbm, ⟨75, _⟩ => ⟨S8x1024, .f32⟩
  | .hbm, ⟨76, _⟩ => ⟨S8x1x16896, .f32⟩
  | .hbm, ⟨77, _⟩ => ⟨S8x1024, .f32⟩
  | .hbm, ⟨78, _⟩ => ⟨S8x1024, .f32⟩
  | .hbm, ⟨79, _⟩ => ⟨S16400x1024, .bf16⟩
  | .hbm, ⟨80, _⟩ => ⟨S16400x1024, .bf16⟩
  | .hbm, ⟨81, _⟩ => ⟨S16400x1024, .f32⟩
  | .hbm, ⟨82, _⟩ => ⟨S16400x1024, .bf16⟩
  | .hbm, ⟨83, _⟩ => ⟨S8x1x16400, .f32⟩
  | .hbm, ⟨84, _⟩ => ⟨S8x16400, .f32⟩
  | .hbm, ⟨85, _⟩ => ⟨S_, .f32⟩
  | .hbm, ⟨86, _⟩ => ⟨S1024, .f32⟩
  | .hbm, ⟨87, _⟩ => ⟨S_, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S16x64, .f32⟩
  | .hbm, ⟨92, _⟩ => ⟨S_, .f32⟩
  | .hbm, ⟨93, _⟩ => ⟨S16, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S2048x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S8x1024, .f32⟩
  | .local _ .vmem, ⟨25, _⟩ => ⟨S8x1x512, .f32⟩
  | .local _ .vmem, ⟨26, _⟩ => ⟨S8x1x512, .f32⟩
  | .local _ .vmem, ⟨27, _⟩ => ⟨S8x1024, .f32⟩
  | .local _ .vmem, ⟨28, _⟩ => ⟨S8x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c : Ref sig .tc := ⟨.hbm, 49, rfl⟩
abbrev main_call1_v0 : Ref sig .tc := ⟨.hbm, 50, rfl⟩
abbrev main_v29 : Ref sig .tc := ⟨.hbm, 51, rfl⟩
abbrev main_c_2 : Ref sig .tc := ⟨.hbm, 52, rfl⟩
abbrev main_call2_v0 : Ref sig .tc := ⟨.hbm, 53, rfl⟩
abbrev main_v30 : Ref sig .tc := ⟨.hbm, 54, rfl⟩
abbrev main_c_3 : Ref sig .tc := ⟨.hbm, 55, rfl⟩
abbrev main_call3_v0 : Ref sig .tc := ⟨.hbm, 56, rfl⟩
abbrev main_v31 : Ref sig .tc := ⟨.hbm, 57, rfl⟩
abbrev main_v32 : Ref sig .tc := ⟨.hbm, 58, rfl⟩
abbrev main_c_4 : Ref sig .tc := ⟨.hbm, 59, rfl⟩
abbrev main_call4_v0 : Ref sig .tc := ⟨.hbm, 60, rfl⟩
abbrev main_v33 : Ref sig .tc := ⟨.hbm, 61, rfl⟩
abbrev main_c_5 : Ref sig .tc := ⟨.hbm, 62, rfl⟩
abbrev main_call5_v0 : Ref sig .tc := ⟨.hbm, 63, rfl⟩
abbrev main_v34 : Ref sig .tc := ⟨.hbm, 64, rfl⟩
abbrev main_c_6 : Ref sig .tc := ⟨.hbm, 65, rfl⟩
abbrev main_call6_v0 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39_0 : Ref sig .tc := ⟨.hbm, 71, rfl⟩
abbrev main_v39_1 : Ref sig .tc := ⟨.hbm, 72, rfl⟩
abbrev main_v39_2 : Ref sig .tc := ⟨.hbm, 73, rfl⟩
abbrev main_v39_3 : Ref sig .tc := ⟨.hbm, 74, rfl⟩
abbrev main_v39_4 : Ref sig .tc := ⟨.hbm, 75, rfl⟩
abbrev main_v39_5 : Ref sig .tc := ⟨.hbm, 76, rfl⟩
abbrev main_v39_6 : Ref sig .tc := ⟨.hbm, 77, rfl⟩
abbrev main_v39_7 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_7 : Ref sig .tc := ⟨.hbm, 85, rfl⟩
abbrev main_v46 : Ref sig .tc := ⟨.hbm, 86, rfl⟩
abbrev main_cst_8 : Ref sig .tc := ⟨.hbm, 87, rfl⟩
abbrev main_v47 : Ref sig .tc := ⟨.hbm, 88, rfl⟩
abbrev main_cst_9 : Ref sig .tc := ⟨.hbm, 89, rfl⟩
abbrev main_v48 : Ref sig .tc := ⟨.hbm, 90, rfl⟩
abbrev main_v49 : Ref sig .tc := ⟨.hbm, 91, rfl⟩
abbrev main_cst_10 : Ref sig .tc := ⟨.hbm, 92, rfl⟩
abbrev main_v50 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference4Ideal.lean ====
abbrev S16400x1024 : Shape := ⟨2, ![16400, 1024]⟩
abbrev S16400x1536 : Shape := ⟨2, ![16400, 1536]⟩
abbrev S16 : Shape := ⟨1, ![16]⟩
abbrev S1024 : Shape := ⟨1, ![1024]⟩
abbrev S2048x1024 : Shape := ⟨2, ![2048, 1024]⟩
abbrev S16x64 : Shape := ⟨2, ![16, 64]⟩
abbrev S1x1024 : Shape := ⟨2, ![1, 1024]⟩
abbrev S_ : Shape := ⟨0, ![]⟩
abbrev S16400x2x512 : Shape := ⟨3, ![16400, 2, 512]⟩
abbrev S16400x2 : Shape := ⟨2, ![16400, 2]⟩
abbrev S16400x2x1 : Shape := ⟨3, ![16400, 2, 1]⟩
abbrev S16400x2048 : Shape := ⟨2, ![16400, 2048]⟩
abbrev S16400 : Shape := ⟨1, ![16400]⟩
abbrev S16400x1 : Shape := ⟨2, ![16400, 1]⟩
abbrev S16400x8x128 : Shape := ⟨3, ![16400, 8, 128]⟩
abbrev S16400x8 : Shape := ⟨2, ![16400, 8]⟩
abbrev S8x16400 : Shape := ⟨2, ![8, 16400]⟩

abbrev nBuf : Space → Nat
  | .hbm => 154
  | .vmem => 0
  | .smem => 0
  | _ => 0

abbrev hbmTy0_0 (i : Nat) : BufTy := match i % 128 with
  | 0 => ⟨S16400x1024, .f32⟩
  | 1 => ⟨S16400x1024, .f32⟩
  | 2 => ⟨S16400x1536, .f32⟩
  | 3 => ⟨S16400x1024, .f32⟩
  | 4 => ⟨S16, .f32⟩
  | 5 => ⟨S1024, .f32⟩
  | 6 => ⟨S2048x1024, .f32⟩
  | 7 => ⟨S1024, .f32⟩
  | 8 => ⟨S16400x1024, .f32⟩
  | 9 => ⟨S16x64, .f32⟩
  | 10 => ⟨S1024, .f32⟩
  | 11 => ⟨S1x1024, .f32⟩
  | 12 => ⟨S16400x1024, .f32⟩
  | 13 => ⟨S16400x1024, .f32⟩
  | 14 => ⟨S16400x1024, .f32⟩
  | 15 => ⟨S16400x1024, .f32⟩
  | 16 => ⟨S16400x1024, .f32⟩
  | 17 => ⟨S16400x1024, .f32⟩
  | 18 => ⟨S_, .f32⟩
  | 19 => ⟨S16400x1024, .f32⟩
  | 20 => ⟨S16400x1024, .f32⟩
  | 21 => ⟨S_, .f32⟩
  | 22 => ⟨S16400x1024, .f32⟩
  | 23 => ⟨S16400x1024, .f32⟩
  | 24 => ⟨S_, .f32⟩
  | 25 => ⟨S16400x1024, .f32⟩
  | 26 => ⟨S16400x1024, .f32⟩
  | 27 => ⟨S16400x1024, .f32⟩
  | 28 => ⟨S16400x1024, .f32⟩
  | 29 => ⟨S16400x1024, .f32⟩
  | 30 => ⟨S16400x2x512, .f32⟩
  | 31 => ⟨S16400x2x512, .f32⟩
  | 32 => ⟨S_, .f32⟩
  | 33 => ⟨S16400x2x512, .f32⟩
  | 34 => ⟨S16400x2x512, .f32⟩
  | 35 => ⟨S_, .f32⟩
  | 36 => ⟨S16400x2, .f32⟩
  | 37 => ⟨S16400x2x1, .f32⟩
  | 38 => ⟨S_, .f32⟩
  | 39 => ⟨S16400x2x1, .f32⟩
  | 40 => ⟨S16400x2x1, .f32⟩
  | 41 => ⟨S_, .f32⟩
  | 42 => ⟨S16400x2x1, .f32⟩
  | 43 => ⟨S16400x2x1, .f32⟩
  | 44 => ⟨S16400x2x1, .f32⟩
  | 45 => ⟨S16400x2x1, .f32⟩
  | 46 => ⟨S_, .f32⟩
  | 47 => ⟨S16400x2x1, .f32⟩
  | 48 => ⟨S16400x2x1, .f32⟩
  | 49 => ⟨S16400x2x512, .f32⟩
  | 50 => ⟨S16400x2x512, .f32⟩
  | 51 => ⟨S16400x1024, .f32⟩
  | 52 => ⟨S1x1024, .f32⟩
  | 53 => ⟨S16400x1024, .f32⟩
  | 54 => ⟨S16400x1024, .f32⟩
  | 55 => ⟨S16400x2048, .f32⟩
  | 56 => ⟨S16400x1024, .f32⟩
  | 57 => ⟨S16400x1024, .f32⟩
  | 58 => ⟨S_, .f32⟩
  | 59 => ⟨S16400x1024, .f32⟩
  | 60 => ⟨S16400x1024, .f32⟩
  | 61 => ⟨S_, .f32⟩
  | 62 => ⟨S16400, .f32⟩
  | 63 => ⟨S16400x1, .f32⟩
  | 64 => ⟨S_, .f32⟩
  | 65 => ⟨S16400x1, .f32⟩
  | 66 => ⟨S16400x1, .f32⟩
  | 67 => ⟨S_, .f32⟩
  | 68 => ⟨S16400x1, .f32⟩
  | 69 => ⟨S16400x1, .f32⟩
  | 70 => ⟨S16400x1, .f32⟩
  | 71 => ⟨S16400x1, .f32⟩
  | 72 => ⟨S_, .f32⟩
  | 73 => ⟨S16400x1, .f32⟩
  | 74 => ⟨S16400x1, .f32⟩
  | 75 => ⟨S16400x1024, .f32⟩
  | 76 => ⟨S16400x1024, .f32⟩
  | 77 => ⟨S1x1024, .f32⟩
  | 78 => ⟨S16400x1024, .f32⟩
  | 79 => ⟨S16400x1024, .f32⟩
  | 80 => ⟨S16400x1024, .f32⟩
  | 81 => ⟨S_, .f32⟩
  | 82 => ⟨S1024, .f32⟩
  | 83 => ⟨S1x1024, .f32⟩
  | 84 => ⟨S16400x1024, .f32⟩
  | 85 => ⟨S16400x1024, .f32⟩
  | 86 => ⟨S_, .f32⟩
  | 87 => ⟨S1024, .f32⟩
  | 88 => ⟨S16400x1024, .f32⟩
  | 89 => ⟨S_, .f32⟩
  | 90 => ⟨S16400, .f32⟩
  | 91 => ⟨S16400x1, .f32⟩
  | 92 => ⟨S16400x1024, .f32⟩
  | 93 => ⟨S16400x1024, .f32⟩
  | 94 => ⟨S16400x1, .f32⟩
  | 95 => ⟨S_, .f32⟩
  | 96 => ⟨S16400x1, .f32⟩
  | 97 => ⟨S16400x1, .f32⟩
  | 98 => ⟨S_, .f32⟩
  | 99 => ⟨S16400, .f32⟩
  | 100 => ⟨S16400x1024, .f32⟩
  | 101 => ⟨S16400x1024, .f32⟩
  | 102 => ⟨S16400x1024, .f32⟩
  | 103 => ⟨S16400x2048, .f32⟩
  | 104 => ⟨S16400x1024, .f32⟩
  | 105 => ⟨S16400x1024, .f32⟩
  | 106 => ⟨S16400x1024, .f32⟩
  | 107 => ⟨S_, .f32⟩
  | 108 => ⟨S1024, .f32⟩
  | 109 => ⟨S1x1024, .f32⟩
  | 110 => ⟨S16400x1024, .f32⟩
  | 111 => ⟨S16400x1024, .f32⟩
  | 112 => ⟨S_, .f32⟩
  | 113 => ⟨S1024, .f32⟩
  | 114 => ⟨S16400x2x512, .f32⟩
  | 115 => ⟨S16400x2x512, .f32⟩
  | 116 => ⟨S_, .f32⟩
  | 117 => ⟨S16400x2, .f32⟩
  | 118 => ⟨S16400x2x1, .f32⟩
  | 119 => ⟨S16400x2x512, .f32⟩
  | 120 => ⟨S16400x2x512, .f32⟩
  | 121 => ⟨S16400x2x1, .f32⟩
  | 122 => ⟨S_, .f32⟩
  | 123 => ⟨S16400x2x1, .f32⟩
  | 124 => ⟨S16400x2x1, .f32⟩
  | 125 => ⟨S_, .f32⟩
  | 126 => ⟨S16400x2, .f32⟩
  | 127 => ⟨S16400x2x512, .f32⟩
  | _ => ⟨S16400x1024, .f32⟩

abbrev hbmTy0_1 (i : Nat) : BufTy := match i % 128 with
  | 0 => ⟨S16400x2x512, .f32⟩
  | 1 => ⟨S16400x2x512, .f32⟩
  | 2 => ⟨S16400x1024, .f32⟩
  | 3 => ⟨S16400x1024, .f32⟩
  | 4 => ⟨S16400x1024, .f32⟩
  | 5 => ⟨S16400x1024, .f32⟩
  | 6 => ⟨S16400x1024, .f32⟩
  | 7 => ⟨S16400x1024, .f32⟩
  | 8 => ⟨S16400x1024, .f32⟩
  | 9 => ⟨S16400x1024, .f32⟩
  | 10 => ⟨S_, .f32⟩
  | 11 => ⟨S1024, .f32⟩
  | 12 => ⟨S1x1024, .f32⟩
  | 13 => ⟨S_, .f32⟩
  | 14 => ⟨S1024, .f32⟩
  | 15 => ⟨S16x64, .f32⟩
  | 16 => ⟨S_, .f32⟩
  | 17 => ⟨S16, .f32⟩
  | 18 => ⟨S16400x1024, .f32⟩
  | 19 => ⟨S16400x8x128, .f32⟩
  | 20 => ⟨S_, .f32⟩
  | 21 => ⟨S16400x8, .f32⟩
  | 22 => ⟨S8x16400, .f32⟩
  | 23 => ⟨S16400x1024, .bf16⟩
  | 24 => ⟨S16400x1024, .bf16⟩
  | 25 => ⟨S16400x1024, .bf16⟩
  | _ => ⟨S16400x1024, .f32⟩

abbrev hbmTy (i : Nat) : BufTy := match i / 128 with
  | 0 => hbmTy0_0 i
  | 1 => hbmTy0_1 i
  | _ => ⟨S16400x1024, .f32⟩

abbrev bufTy : (tb : Table) → Fin (tcTables nBuf tb) → BufTy
  | .hbm, ⟨i, _⟩ => hbmTy i
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v7_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v7_1 : Ref sig .tc := ⟨.hbm, 27, rfl⟩
abbrev main_v7_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_cst_1 : Ref sig .tc := ⟨.hbm, 38, rfl⟩
abbrev main_v15 : Ref sig .tc := ⟨.hbm, 39, rfl⟩
abbrev main_v16 : Ref sig .tc := ⟨.hbm, 40, rfl⟩
abbrev main_cst_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_cst_18 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_v92 : Ref sig .tc := ⟨.hbm, 136, rfl⟩
abbrev main_v93 : Ref sig .tc := ⟨.hbm, 137, rfl⟩
abbrev main_cst_19 : Ref sig .tc := ⟨.hbm, 138, rfl⟩
abbrev main_v94 : Ref sig .tc := ⟨.hbm, 139, rfl⟩
abbrev main_v95 : Ref sig .tc := ⟨.hbm, 140, rfl⟩
abbrev main_cst_20 : Ref sig .tc := ⟨.hbm, 141, rfl⟩
abbrev main_v96 : Ref sig .tc := ⟨.hbm, 142, rfl⟩
abbrev main_v97 : Ref sig .tc := ⟨.hbm, 143, rfl⟩
abbrev main_cst_21 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_22 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩

abbrev nD : Nat := 1
abbrev τ : Topo := Topo.v7x

variable {F : FTy → Type} [FloatOps F]
-- ==== Kernel5.lean ====
abbrev S16384x1024 : Shape := ⟨2, ![16384, 1024]⟩
abbrev S16x1024 : Shape := ⟨2, ![16, 1024]⟩
abbrev S1024 : Shape := ⟨1, ![1024]⟩
abbrev S1024x3280 : Shape := ⟨2, ![1024, 3280]⟩
abbrev S16400x3280 : Shape := ⟨2, ![16400, 3280]⟩
abbrev S16400x1024 : Shape := ⟨2, ![16400, 1024]⟩
abbrev S_ : Shape := ⟨0, ![]⟩
abbrev S512x1024 : Shape := ⟨2, ![512, 1024]⟩
abbrev S16400x64 : Shape := ⟨2, ![16400, 64]⟩
abbrev S16400x256 : Shape := ⟨2, ![16400, 256]⟩
abbrev S16400x640 : Shape := ⟨2, ![16400, 640]⟩
abbrev S16400x2560 : Shape := ⟨2, ![16400, 2560]⟩
abbrev S16400x16 : Shape := ⟨2, ![16400, 16]⟩
abbrev S16400x128 : Shape := ⟨2, ![16400, 128]⟩
abbrev S16400x3584 : Shape := ⟨2, ![16400, 3584]⟩
abbrev S16896x3584 : Shape := ⟨2, ![16896, 3584]⟩
abbrev S16896x1024 : Shape := ⟨2, ![16896, 1024]⟩
abbrev S1x1024 : Shape := ⟨2, ![1, 1024]⟩
abbrev S1024x64 : Shape := ⟨2, ![1024, 64]⟩
abbrev S1024x256 : Shape := ⟨2, ![1024, 256]⟩
abbrev S1024x640 : Shape := ⟨2, ![1024, 640]⟩
abbrev S1024x2560 : Shape := ⟨2, ![1024, 2560]⟩
abbrev S1024x16 : Shape := ⟨2, ![1024, 16]⟩
abbrev S1024x128 : Shape := ⟨2, ![1024, 128]⟩
abbrev S1024x3584 : Shape := ⟨2, ![1024, 3584]⟩
abbrev S8x1024 : Shape := ⟨2, ![8, 1024]⟩
abbrev S512x3584 : Shape := ⟨2, ![512, 3584]⟩
abbrev S512 : Shape := ⟨1, ![512]⟩
abbrev S512x1 : Shape := ⟨2, ![512, 1]⟩
abbrev S64x8x1024 : Shape := ⟨3, ![64, 8, 1024]⟩

abbrev nBuf : Space → Nat
  | .hbm => 46
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S1024, .f32⟩
  | .hbm, ⟨3, _⟩ => ⟨S1024x3280, .f32⟩
  | .hbm, ⟨4, _⟩ => ⟨S16400x3280, .f32⟩
  | .hbm, ⟨5, _⟩ => ⟨S16400x1024, .f32⟩
  | .hbm, ⟨6, _⟩ => ⟨S_, .i32⟩
  | .hbm, ⟨7, _⟩ => ⟨S_, .f32⟩
  | .hbm, ⟨8, _⟩ => ⟨S512x1024, .f32⟩
  | .hbm, ⟨9, _⟩ => ⟨S16400x64, .f32⟩
  | .hbm, ⟨10, _⟩ => ⟨S_, .i32⟩
  | .hbm, ⟨11, _⟩ => ⟨S_, .f32⟩
  | .hbm, ⟨12, _⟩ => ⟨S16400x256, .f32⟩
  | .hbm, ⟨13, _⟩ => ⟨S16400x640, .f32⟩
  | .hbm, ⟨14, _⟩ => ⟨S16400x2560, .f32⟩
  | .hbm, ⟨15, _⟩ => ⟨S16400x16, .f32⟩
  | .hbm, ⟨16, _⟩ => ⟨S_, .i32⟩
  | .hbm, ⟨17, _⟩ => ⟨S_, .f32⟩
  | .hbm, ⟨18, _⟩ => ⟨S16400x128, .f32⟩
  | .hbm, ⟨19, _⟩ => ⟨S16400x3584, .f32⟩
  | .hbm, ⟨20, _⟩ => ⟨S_, .i32⟩
  | .hbm, ⟨21, _⟩ => ⟨S_, .f32⟩
  | .hbm, ⟨22, _⟩ => ⟨S16896x3584, .f32⟩
  | .hbm, ⟨23, _⟩ => ⟨S16896x3584, .bf16⟩
  | .hbm, ⟨24, _⟩ => ⟨S_, .i32⟩
  | .hbm, ⟨25, _⟩ => ⟨S_, .f32⟩
  | .hbm, ⟨26, _⟩ => ⟨S16896x1024, .f32⟩
  | .hbm, ⟨27, _⟩ => ⟨S1x1024, .f32⟩
  | .hbm, ⟨28, _⟩ => ⟨S1024x3280, .bf16⟩
  | .hbm, ⟨29, _⟩ => ⟨S1024x64, .bf16⟩
  | .hbm, ⟨30, _⟩ => ⟨S_, .i32⟩
  | .hbm, ⟨31, _⟩ => ⟨S_, .bf16⟩
  | .hbm, ⟨32, _⟩ => ⟨S1024x256, .bf16⟩
  | .hbm, ⟨33, _⟩ => ⟨S1024x640, .bf16⟩
  | .hbm, ⟨34, _⟩ => ⟨S1024x2560, .bf16⟩
  | .hbm, ⟨35, _⟩ => ⟨S1024x16, .bf16⟩
  | .hbm, ⟨36, _⟩ => ⟨S_, .i32⟩
  | .hbm, ⟨37, _⟩ => ⟨S_, .bf16⟩
  | .hbm, ⟨38, _⟩ => ⟨S1024x128, .bf16⟩
  | .hbm, ⟨39, _⟩ => ⟨S1024x3584, .bf16⟩
  | .hbm, ⟨40, _⟩ => ⟨S16384x1024, .f32⟩
  | .hbm, ⟨41, _⟩ => ⟨S512x1024, .f32⟩
  | .hbm, ⟨42, _⟩ => ⟨S8x1024, .f32⟩
  | .hbm, ⟨43, _⟩ => ⟨S16x1024, .f32⟩
  | .hbm, ⟨44, _⟩ => ⟨S_, .f32⟩
  | .hbm, ⟨45, _⟩ => ⟨S1024, .f32⟩
  | .local _ .vmem, ⟨0, _⟩ => ⟨S512x3584, .bf16⟩
  | .local _ .vmem, ⟨1, _⟩ => ⟨S512x3584, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1024x3584, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_call3_v0 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_call4_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_call5_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_call6_v0 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev main_v21 : Ref sig .tc := ⟨.hbm, 43, rfl⟩
abbrev main_cst : Ref sig .tc := ⟨.hbm, 44, rfl⟩
abbrev main_v22 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_18 : BitVec 32 := 0#32
  let v41 : BitVec 1 := Scalar.cmpi .sgt arg0 c0_i32_18
  let v42 : BitVec 32 := Scalar.extui v41
  let c0_i32_19 : BitVec 32 := 0#32
  let v43 : BitVec 1 := Scalar.cmpi .ne v42 c0_i32_19
  v43

def k0_cond1 (i : grid0.Coords) : BitVec 1 :=
  let arg0 : BitVec 32 := BitVec.ofNat 32 (i 0).val
  let c0_i32_16 : BitVec 32 := 0#32
  let v38 : BitVec 1 := Scalar.cmpi .eq arg0 c0_i32_16
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S16384x1024 : Shape := ⟨2, ![16384, 1024]⟩
abbrev S16x1024 : Shape := ⟨2, ![16, 1024]⟩
abbrev S1024 : Shape := ⟨1, ![1024]⟩
abbrev S1024x3280 : Shape := ⟨2, ![1024, 3280]⟩
abbrev S16400x3280 : Shape := ⟨2, ![16400, 3280]⟩
abbrev S16400x1024 : Shape := ⟨2, ![16400, 1024]⟩
abbrev S_ : Shape := ⟨0, ![]⟩
abbrev S16400 : Shape := ⟨1, ![16400]⟩
abbrev S16400x1 : Shape := ⟨2, ![16400, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S1024, .f32⟩
  | .hbm, ⟨3, _⟩ => ⟨S1024x3280, .f32⟩
  | .hbm, ⟨4, _⟩ => ⟨S16400x3280, .f32⟩
  | .hbm, ⟨5, _⟩ => ⟨S16400x1024, .f32⟩
  | .hbm, ⟨6, _⟩ => ⟨S16400x1024, .f32⟩
  | .hbm, ⟨7, _⟩ => ⟨S16400x1024, .f32⟩
  | .hbm, ⟨8, _⟩ => ⟨S_, .f32⟩
  | .hbm, ⟨9, _⟩ => ⟨S16400x1024, .f32⟩
  | .hbm, ⟨10, _⟩ => ⟨S16400x1024, .f32⟩
  | .hbm, ⟨11, _⟩ => ⟨S_, .f32⟩
  | .hbm, ⟨12, _⟩ => ⟨S16400, .f32⟩
  | .hbm, ⟨13, _⟩ => ⟨S16400x1, .f32⟩
  | .hbm, ⟨14, _⟩ => ⟨S_, .f32⟩
  | .hbm, ⟨15, _⟩ => ⟨S16400x1, .f32⟩
  | .hbm, ⟨16, _⟩ => ⟨S16400x1, .f32⟩
  | .hbm, ⟨17, _⟩ => ⟨S_, .f32⟩
  | .hbm, ⟨18, _⟩ => ⟨S16400x1, .f32⟩
  | .hbm, ⟨19, _⟩ => ⟨S16400x1, .f32⟩
  | .hbm, ⟨20, _⟩ => ⟨S16400x1, .f32⟩
  | .hbm, ⟨21, _⟩ => ⟨S16400x1, .f32⟩
  | .hbm, ⟨22, _⟩ => ⟨S_, .f32⟩
  | .hbm, ⟨23, _⟩ => ⟨S16400x1, .f32⟩
  | .hbm, ⟨24, _⟩ => ⟨S16400x1, .f32⟩
  | .hbm, ⟨25, _⟩ => ⟨S16400x1024, .f32⟩
  | .hbm, ⟨26, _⟩ => ⟨S16400x1024, .f32⟩
  | .hbm, ⟨27, _⟩ => ⟨S1x1024, .f32⟩
  | .hbm, ⟨28, _⟩ => ⟨S16400x1024, .f32⟩
  | .hbm, ⟨29, _⟩ => ⟨S16400x1024, .f32⟩
  | .hbm, ⟨30, _⟩ => ⟨S16400x3280, .f32⟩
  | .hbm, ⟨31, _⟩ => ⟨S16400x1024, .f32⟩
  | .hbm, ⟨32, _⟩ => ⟨S16400x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16400x1024, .f32⟩
  | .hbm, ⟨37, _⟩ => ⟨S16400x1024, .f32⟩
  | .hbm, ⟨38, _⟩ => ⟨S_, .f32⟩
  | .hbm, ⟨39, _⟩ => ⟨S1024, .f32⟩
  | .hbm, ⟨40, _⟩ => ⟨S16400x1024, .f32⟩
  | .hbm, ⟨41, _⟩ => ⟨S_, .f32⟩
  | .hbm, ⟨42, _⟩ => ⟨S16400, .f32⟩
  | .hbm, ⟨43, _⟩ => ⟨S16400x1, .f32⟩
  | .hbm, ⟨44, _⟩ => ⟨S16400x1024, .f32⟩
  | .hbm, ⟨45, _⟩ => ⟨S16400x1024, .f32⟩
  | .hbm, ⟨46, _⟩ => ⟨S16400x1024, .f32⟩
  | .hbm, ⟨47, _⟩ => ⟨S16400x1, .f32⟩
  | .hbm, ⟨48, _⟩ => ⟨S_, .f32⟩
  | .hbm, ⟨49, _⟩ => ⟨S16400x1, .f32⟩
  | .hbm, ⟨50, _⟩ => ⟨S16400x1, .f32⟩
  | .hbm, ⟨51, _⟩ => ⟨S_, .f32⟩
  | .hbm, ⟨52, _⟩ => ⟨S16400, .f32⟩
  | .hbm, ⟨53, _⟩ => ⟨S16400x1024, .f32⟩
  | .hbm, ⟨54, _⟩ => ⟨S16400x1024, .f32⟩
  | .hbm, ⟨55, _⟩ => ⟨S16400x1024, .f32⟩
  | .hbm, ⟨56, _⟩ => ⟨S16x1024, .f32⟩
  | .hbm, ⟨57, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel6.lean ====
abbrev S16400x1536 : Shape := ⟨2, ![16400, 1536]⟩
abbrev S4x1536 : Shape := ⟨2, ![4, 1536]⟩
abbrev S1536 : Shape := ⟨1, ![1536]⟩
abbrev S_ : Shape := ⟨0, ![]⟩
abbrev S16896x1536 : Shape := ⟨2, ![16896, 1536]⟩
abbrev S8x1536 : Shape := ⟨2, ![8, 1536]⟩
abbrev S1x1536 : Shape := ⟨2, ![1, 1536]⟩
abbrev S512x1536 : Shape := ⟨2, ![512, 1536]⟩
abbrev S520x1536 : Shape := ⟨2, ![520, 1536]⟩
abbrev S8x1 : Shape := ⟨2, ![8, 1]⟩
abbrev S8x128 : Shape := ⟨2, ![8, 128]⟩
abbrev S1x128 : Shape := ⟨2, ![1, 128]⟩
abbrev S64x128 : Shape := ⟨2, ![64, 128]⟩
abbrev S72x128 : Shape := ⟨2, ![72, 128]⟩
abbrev S8x8x128 : Shape := ⟨3, ![8, 8, 128]⟩
abbrev S16x128 : Shape := ⟨2, ![16, 128]⟩
abbrev S128 : Shape := ⟨1, ![128]⟩

abbrev nBuf : Space → Nat
  | .hbm => 21
  | .vmem => 17
  | .smem => 0
  | _ => 0

abbrev bufTy : (tb : Table) → Fin (tcTables nBuf tb) → BufTy
  | .hbm, ⟨0, _⟩ => ⟨S16400x1536, .f32⟩
  | .hbm, ⟨1, _⟩ => ⟨S4x1536, .f32⟩
  | .hbm, ⟨2, _⟩ => ⟨S1536, .f32⟩
  | .hbm, ⟨3, _⟩ => ⟨S16400x1536, .f32⟩
  | .hbm, ⟨4, _⟩ => ⟨S_, .i32⟩
  | .hbm, ⟨5, _⟩ => ⟨S_, .f32⟩
  | .hbm, ⟨6, _⟩ => ⟨S16896x1536, .f32⟩
  | .hbm, ⟨7, _⟩ => ⟨S_, .i32⟩
  | .hbm, ⟨8, _⟩ => ⟨S_, .f32⟩
  | .hbm, ⟨9, _⟩ => ⟨S16896x1536, .f32⟩
  | .hbm, ⟨10, _⟩ => ⟨S_, .i32⟩
  | .hbm, ⟨11, _⟩ => ⟨S_, .f32⟩
  | .hbm, ⟨12, _⟩ => ⟨S8x1536, .f32⟩
  | .hbm, ⟨13, _⟩ => ⟨S1x1536, .f32⟩
  | .hbm, ⟨14, _⟩ => ⟨S16896x1536, .bf16⟩
  | .hbm, ⟨15, _⟩ => ⟨S8x1536, .f32⟩
  | .hbm, ⟨16, _⟩ => ⟨S8x1536, .f32⟩
  | .hbm, ⟨17, _⟩ => ⟨S16400x1536, .bf16⟩
  | .hbm, ⟨18, _⟩ => ⟨S4x1536, .f32⟩
  | .hbm, ⟨19, _⟩ => ⟨S_, .f32⟩
  | .hbm, ⟨20, _⟩ => ⟨S1536, .f32⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S512x1536, .f32⟩
  | .local _ .vmem, ⟨5, _⟩ => ⟨S512x1536, .f32⟩
  | .local _ .vmem, ⟨6, _⟩ => ⟨S8x1536, .f32⟩
  | .local _ .vmem, ⟨7, _⟩ => ⟨S8x1536, .f32⟩
  | .local _ .vmem, ⟨8, _⟩ => ⟨S8x1536, .f32⟩
  | .local _ .vmem, ⟨9, _⟩ => ⟨S8x1536, .f32⟩
  | .local _ .vmem, ⟨10, _⟩ => ⟨S8x1536, .f32⟩
  | .local _ .vmem, ⟨11, _⟩ => ⟨S1x1536, .f32⟩
  | .local _ .vmem, ⟨12, _⟩ => ⟨S512x1536, .bf16⟩
  | .local _ .vmem, ⟨13, _⟩ => ⟨S512x1536, .bf16⟩
  | .local _ .vmem, ⟨14, _⟩ => ⟨S8x1536, .f32⟩
  | .local _ .vmem, ⟨15, _⟩ => ⟨S8x1536, .f32⟩
  | .local _ .vmem, ⟨16, _⟩ => ⟨S520x1536, .f32⟩
  | _, _ => ⟨S16400x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32_1 : BitVec 32 := 0#32
  let c12_i32 : BitVec 32 := 12#32
  let v5 : BitVec 32 := Scalar.addi c0_i32_1 c12_i32
  let c1_i32 : BitVec 32 := 1#32
  ⟨c0_i32_1, v5, c1_i32⟩
def k0_mult1 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  v6
def k0_off1 (k0_t1 : Fin k0_t1_loop.trips) : Fin 2 → Nat :=
  let c0 : Index := 0#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v8 : Index := Scalar.indexCast v7
  ![0, v8.toNat]
def k0_off2 (k0_t1 : Fin k0_t1_loop.trips) : Fin 2 → Nat :=
  let c0_3 : Index := 0#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v11 : Index := Scalar.indexCast v7
  ![0, v11.toNat]
def k0_off3 (k0_t1 : Fin k0_t1_loop.trips) : Fin 2 → Nat :=
  let c0_13 : Index := 0#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v30 : Index := Scalar.indexCast v7
  ![0, v30.toNat]
def k0_off4 (k0_t1 : Fin k0_t1_loop.trips) : Fin 2 → Nat :=
  let c0_21 : Index := 0#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v77 : Index := Scalar.indexCast v7
  ![0, v77.toNat]
def k0_off5 (k0_t1 : Fin k0_t1_loop.trips) : Fin 2 → Nat :=
  let c64 : Index := 64#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v100 : Index := Scalar.indexCast v7
  ![64, v100.toNat]
def k0_off6 (k0_t1 : Fin k0_t1_loop.trips) : Fin 2 → Nat :=
  let c56 : Index := 56#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v103 : Index := Scalar.indexCast v7
  ![56, v103.toNat]
def k0_off7 (k0_t1 : Fin k0_t1_loop.trips) : Fin 2 → Nat :=
  let c64_36 : Index := 64#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v146 : Index := Scalar.indexCast v7
  ![64, v146.toNat]
def k0_off8 (k0_t1 : Fin k0_t1_loop.trips) : Fin 2 → Nat :=
  let c128 : Index := 128#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v169 : Index := Scalar.indexCast v7
  ![128, v169.toNat]
def k0_off9 (k0_t1 : Fin k0_t1_loop.trips) : Fin 2 → Nat :=
  let c120 : Index := 120#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v172 : Index := Scalar.indexCast v7
  ![120, v172.toNat]
def k0_off10 (k0_t1 : Fin k0_t1_loop.trips) : Fin 2 → Nat :=
  let c128_51 : Index := 128#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v215 : Index := Scalar.indexCast v7
  ![128, v215.toNat]
def k0_off11 (k0_t1 : Fin k0_t1_loop.trips) : Fin 2 → Nat :=
  let c192 : Index := 192#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v238 : Index := Scalar.indexCast v7
  ![192, v238.toNat]
def k0_off12 (k0_t1 : Fin k0_t1_loop.trips) : Fin 2 → Nat :=
  let c184 : Index := 184#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v241 : Index := Scalar.indexCast v7
  ![184, v241.toNat]
def k0_off13 (k0_t1 : Fin k0_t1_loop.trips) : Fin 2 → Nat :=
  let c192_66 : Index := 192#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v284 : Index := Scalar.indexCast v7
  ![192, v284.toNat]
def k0_off14 (k0_t1 : Fin k0_t1_loop.trips) : Fin 2 → Nat :=
  let c256 : Index := 256#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v307 : Index := Scalar.indexCast v7
  ![256, v307.toNat]
def k0_off15 (k0_t1 : Fin k0_t1_loop.trips) : Fin 2 → Nat :=
  let c248 : Index := 248#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v310 : Index := Scalar.indexCast v7
  ![248, v310.toNat]
def k0_off16 (k0_t1 : Fin k0_t1_loop.trips) : Fin 2 → Nat :=
  let c256_81 : Index := 256#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v353 : Index := Scalar.indexCast v7
  ![256, v353.toNat]
def k0_off17 (k0_t1 : Fin k0_t1_loop.trips) : Fin 2 → Nat :=
  let c320 : Index := 320#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v376 : Index := Scalar.indexCast v7
  ![320, v376.toNat]
def k0_off18 (k0_t1 : Fin k0_t1_loop.trips) : Fin 2 → Nat :=
  let c312 : Index := 312#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v379 : Index := Scalar.indexCast v7
  ![312, v379.toNat]
def k0_off19 (k0_t1 : Fin k0_t1_loop.trips) : Fin 2 → Nat :=
  let c320_96 : Index := 320#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v422 : Index := Scalar.indexCast v7
  ![320, v422.toNat]
def k0_off20 (k0_t1 : Fin k0_t1_loop.trips) : Fin 2 → Nat :=
  let c384 : Index := 384#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v445 : Index := Scalar.indexCast v7
  ![384, v445.toNat]
def k0_off21 (k0_t1 : Fin k0_t1_loop.trips) : Fin 2 → Nat :=
  let c376 : Index := 376#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v448 : Index := Scalar.indexCast v7
  ![376, v448.toNat]
def k0_off22 (k0_t1 : Fin k0_t1_loop.trips) : Fin 2 → Nat :=
  let c384_111 : Index := 384#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v491 : Index := Scalar.indexCast v7
  ![384, v491.toNat]
def k0_off23 (k0_t1 : Fin k0_t1_loop.trips) : Fin 2 → Nat :=
  let c448 : Index := 448#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v514 : Index := Scalar.indexCast v7
  ![448, v514.toNat]
def k0_off24 (k0_t1 : Fin k0_t1_loop.trips) : Fin 2 → Nat :=
  let c440 : Index := 440#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v517 : Index := Scalar.indexCast v7
  ![440, v517.toNat]
def k0_off25 (k0_t1 : Fin k0_t1_loop.trips) : Fin 2 → Nat :=
  let c448_126 : Index := 448#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v560 : Index := Scalar.indexCast v7
  ![448, v560.toNat]
def k0_off26 (k0_t1 : Fin k0_t1_loop.trips) : Fin 2 → Nat :=
  let c504 : Index := 504#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v588 : Index := Scalar.indexCast v7
  ![504, v588.toNat]
def k0_off27 (k0_t1 : Fin k0_t1_loop.trips) : Fin 2 → Nat :=
  let c512 : Index := 512#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v632 : Index := Scalar.indexCast v7
  ![512, v632.toNat]
def k0_off28 (k0_t1 : Fin k0_t1_loop.trips) : Fin 2 → Nat :=
  let c0_155 : Index := 0#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v693 : Index := Scalar.indexCast v7
  ![0, v693.toNat]
def k0_off29 (k0_t1 : Fin k0_t1_loop.trips) : Fin 2 → Nat :=
  let c64_158 : Index := 64#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v722 : Index := Scalar.indexCast v7
  ![64, v722.toNat]
def k0_off30 (k0_t1 : Fin k0_t1_loop.trips) : Fin 2 → Nat :=
  let c128_164 : Index := 128#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v751 : Index := Scalar.indexCast v7
  ![128, v751.toNat]
def k0_off31 (k0_t1 : Fin k0_t1_loop.trips) : Fin 2 → Nat :=
  let c192_170 : Index := 192#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v780 : Index := Scalar.indexCast v7
  ![192, v780.toNat]
def k0_off32 (k0_t1 : Fin k0_t1_loop.trips) : Fin 2 → Nat :=
  let c256_176 : Index := 256#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v809 : Index := Scalar.indexCast v7
  ![256, v809.toNat]
def k0_off33 (k0_t1 : Fin k0_t1_loop.trips) : Fin 2 → Nat :=
  let c320_182 : Index := 320#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v838 : Index := Scalar.indexCast v7
  ![320, v838.toNat]
def k0_off34 (k0_t1 : Fin k0_t1_loop.trips) : Fin 2 → Nat :=
  let c384_188 : Index := 384#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v867 : Index := Scalar.indexCast v7
  ![384, v867.toNat]
def k0_off35 (k0_t1 : Fin k0_t1_loop.trips) : Fin 2 → Nat :=
  let c448_194 : Index := 448#32
  let c0_i32_1 : BitVec 32 := 0#32
  let c1_i32 : BitVec 32 := 1#32
  let arg12 : BitVec 32 := Scf.iv c0_i32_1 c1_i32 k0_t1
  let c128_i32 : BitVec 32 := 128#32
  let v6 : BitVec 32 := Scalar.muli arg12 c128_i32
  let v7 : BitVec 32 := v6
  let v896 : Index := Scalar.indexCast v7
  ![448, v896.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2111_i32 : BitVec 32 := 2111#32
  let v2 : BitVec 32 := Scalar.minsi v1 c2111_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2111_i32 : BitVec 32 := 2111#32
  let v2 : BitVec 32 := Scalar.minsi v1 c2111_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S16400x1536 : Shape := ⟨2, ![16400, 1536]⟩
abbrev S4x1536 : Shape := ⟨2, ![4, 1536]⟩
abbrev S1536 : Shape := ⟨1, ![1536]⟩
abbrev S_ : Shape := ⟨0, ![]⟩
abbrev S3x1536 : Shape := ⟨2, ![3, 1536]⟩
abbrev S16403x1536 : Shape := ⟨2, ![16403, 1536]⟩
abbrev S1x1536 : Shape := ⟨2, ![1, 1536]⟩

abbrev nBuf : Space → Nat
  | .hbm => 125
  | .vmem => 0
  | .smem => 0
  | _ => 0

abbrev bufTy : (tb : Table) → Fin (tcTables nBuf tb) → BufTy
  | .hbm, ⟨0, _⟩ => ⟨S16400x1536, .f32⟩
  | .hbm, ⟨1, _⟩ => ⟨S4x1536, .f32⟩
  | .hbm, ⟨2, _⟩ => ⟨S1536, .f32⟩
  | .hbm, ⟨3, _⟩ => ⟨S16400x1536, .f32⟩
  | .hbm, ⟨4, _⟩ => ⟨S_, .f32⟩
  | .hbm, ⟨5, _⟩ => ⟨S3x1536, .f32⟩
  | .hbm, ⟨6, _⟩ => ⟨S16403x1536, .f32⟩
  | .hbm, ⟨7, _⟩ => ⟨S_, .f32⟩
  | .hbm, ⟨8, _⟩ => ⟨S3x1536, .f32⟩
  | .hbm, ⟨9, _⟩ => ⟨S1x1536, .f32⟩
  | .hbm, ⟨10, _⟩ => ⟨S1536, .f32⟩
  | .hbm, ⟨11, _⟩ => ⟨S16400x1536, .f32⟩
  | .hbm, ⟨12, _⟩ => ⟨S1x1536, .f32⟩
  | .hbm, ⟨13, _⟩ => ⟨S16400x1536, .f32⟩
  | .hbm, ⟨14, _⟩ => ⟨S16400x1536, .f32⟩
  | .hbm, ⟨15, _⟩ => ⟨S_, .f32⟩
  | .hbm, ⟨16, _⟩ => ⟨S16400x1536, .f32⟩
  | .hbm, ⟨17, _⟩ => ⟨S16400x1536, .f32⟩
  | .hbm, ⟨18, _⟩ => ⟨S1x1536, .f32⟩
  | .hbm, ⟨19, _⟩ => ⟨S1536, .f32⟩
  | .hbm, ⟨20, _⟩ => ⟨S16400x1536, .f32⟩
  | .hbm, ⟨21, _⟩ => ⟨S1x1536, .f32⟩
  | .hbm, ⟨22, _⟩ => ⟨S16400x1536, .f32⟩
  | .hbm, ⟨23, _⟩ => ⟨S16400x1536, .f32⟩
  | .hbm, ⟨24, _⟩ => ⟨S16400x1536, .f32⟩
  | .hbm, ⟨25, _⟩ => ⟨S1x1536, .f32⟩
  | .hbm, ⟨26, _⟩ => ⟨S1536, .f32⟩
  | .hbm, ⟨27, _⟩ => ⟨S16400x1536, .f32⟩
  | .hbm, ⟨28, _⟩ => ⟨S1x1536, .f32⟩
  | .hbm, ⟨29, _⟩ => ⟨S16400x1536, .f32⟩
  | .hbm, ⟨30, _⟩ => ⟨S16400x1536, .f32⟩
  | .hbm, ⟨31, _⟩ => ⟨S16400x1536, .f32⟩
  | .hbm, ⟨32, _⟩ => ⟨S1x1536, .f32⟩
  | .hbm, ⟨33, _⟩ => ⟨S1536, .f32⟩
  | .hbm, ⟨34, _⟩ => ⟨S16400x1536, .f32⟩
  | .hbm, ⟨35, _⟩ => ⟨S1x1536, .f32⟩
  | .hbm, ⟨36, _⟩ => ⟨S16400x1536, .f32⟩
  | .hbm, ⟨37, _⟩ => ⟨S16400x1536, .f32⟩
  | .hbm, ⟨38, _⟩ => ⟨S16400x1536, .f32⟩
  | .hbm, ⟨39, _⟩ => ⟨S1x1536, .f32⟩
  | .hbm, ⟨40, _⟩ => ⟨S16400x1536, .f32⟩
  | .hbm, ⟨41, _⟩ => ⟨S16400x1536, .f32⟩
  | .hbm, ⟨42, _⟩ => ⟨S16400x1536, .f32⟩
  | .hbm, ⟨43, _⟩ => ⟨S16400x1536, .f32⟩
  | .hbm, ⟨44, _⟩ => ⟨S_, .f32⟩
  | .hbm, ⟨45, _⟩ => ⟨S16400x1536, .f32⟩
  | .hbm, ⟨46, _⟩ => ⟨S16400x1536, .f32⟩
  | .hbm, ⟨47, _⟩ => ⟨S_, .f32⟩
  | .hbm, ⟨48, _⟩ => ⟨S16400x1536, .f32⟩
  | .hbm, ⟨49, _⟩ => ⟨S16400x1536, .f32⟩
  | .hbm, ⟨50, _⟩ => ⟨S_, .f32⟩
  | .hbm, ⟨51, _⟩ => ⟨S16400x1536, .f32⟩
  | .hbm, ⟨52, _⟩ => ⟨S16400x1536, .f32⟩
  | .hbm, ⟨53, _⟩ => ⟨S16400x1536, .f32⟩
  | .hbm, ⟨54, _⟩ => ⟨S16400x1536, .f32⟩
  | .hbm, ⟨55, _⟩ => ⟨S16400x1536, .f32⟩
  | .hbm, ⟨56, _⟩ => ⟨S16400x1536, .f32⟩
  | .hbm, ⟨57, _⟩ => ⟨S16400x1536, .f32⟩
  | .hbm, ⟨58, _⟩ => ⟨S16400x1536, .f32⟩
  | .hbm, ⟨59, _⟩ => ⟨S_, .f32⟩
  | .hbm, ⟨60, _⟩ => ⟨S1536, .f32⟩
  | .hbm, ⟨61, _⟩ => ⟨S1x1536, .f32⟩
  | .hbm, ⟨62, _⟩ => ⟨S_, .f32⟩
  | .hbm, ⟨63, _⟩ => ⟨S1536, .f32⟩
  | .hbm, ⟨64, _⟩ => ⟨S16400x1536, .f32⟩
  | .hbm, ⟨65, _⟩ => ⟨S16400x1536, .f32⟩
  | .hbm, ⟨66, _⟩ => ⟨S16400x1536, .f32⟩
  | .hbm, ⟨67, _⟩ => ⟨S_, .f32⟩
  | .hbm, ⟨68, _⟩ => ⟨S1536, .f32⟩
  | .hbm, ⟨69, _⟩ => ⟨S1x1536, .f32⟩
  | .hbm, ⟨70, _⟩ => ⟨S_, .f32⟩
  | .hbm, ⟨71, _⟩ => ⟨S1536, .f32⟩
  | .hbm, ⟨72, _⟩ => ⟨S_, .f32⟩
  | .hbm, ⟨73, _⟩ => ⟨S16403x1536, .f32⟩
  | .hbm, ⟨74, _⟩ => ⟨S1x1536, .f32⟩
  | .hbm, ⟨75, _⟩ => ⟨S_, .f32⟩
  | .hbm, ⟨76, _⟩ => ⟨S4x1536, .f32⟩
  | .hbm, ⟨77, _⟩ => ⟨S16400x1536, .f32⟩
  | .hbm, ⟨78, _⟩ => ⟨S16400x1536, .f32⟩
  | .hbm, ⟨79, _⟩ => ⟨S16400x1536, .f32⟩
  | .hbm, ⟨80, _⟩ => ⟨S_, .f32⟩
  | .hbm, ⟨81, _⟩ => ⟨S1536, .f32⟩
  | .hbm, ⟨82, _⟩ => ⟨S1x1536, .f32⟩
  | .hbm, ⟨83, _⟩ => ⟨S_, .f32⟩
  | .hbm, ⟨84, _⟩ => ⟨S1536, .f32⟩
  | .hbm, ⟨85, _⟩ => ⟨S_, .f32⟩
  | .hbm, ⟨86, _⟩ => ⟨S16403x1536, .f32⟩
  | .hbm, ⟨87, _⟩ => ⟨S16403x1536, .f32⟩
  | .hbm, ⟨88, _⟩ => ⟨S1x1536, .f32⟩
  | .hbm, ⟨89, _⟩ => ⟨S_, .f32⟩
  | .hbm, ⟨90, _⟩ => ⟨S4x1536, .f32⟩
  | .hbm, ⟨91, _⟩ => ⟨S4x1536, .f32⟩
  | .hbm, ⟨92, _⟩ => ⟨S16400x1536, .f32⟩
  | .hbm, ⟨93, _⟩ => ⟨S16400x1536, .f32⟩
  | .hbm, ⟨94, _⟩ => ⟨S16400x1536, .f32⟩
  | .hbm, ⟨95, _⟩ => ⟨S_, .f32⟩
  | .hbm, ⟨96, _⟩ => ⟨S1536, .f32⟩
  | .hbm, ⟨97, _⟩ => ⟨S1x1536, .f32⟩
  | .hbm, ⟨98, _⟩ => ⟨S_, .f32⟩
  | .hbm, ⟨99, _⟩ => ⟨S1536, .f32⟩
  | .hbm, ⟨100, _⟩ => ⟨S_, .f32⟩
  | .hbm, ⟨101, _⟩ => ⟨S16403x1536, .f32⟩
  | .hbm, ⟨102, _⟩ => ⟨S16403x1536, .f32⟩
  | .hbm, ⟨103, _⟩ => ⟨S1x1536, .f32⟩
  | .hbm, ⟨104, _⟩ => ⟨S_, .f32⟩
  | .hbm, ⟨105, _⟩ => ⟨S4x1536, .f32⟩
  | .hbm, ⟨106, _⟩ => ⟨S4x1536, .f32⟩
  | .hbm, ⟨107, _⟩ => ⟨S16400x1536, .f32⟩
  | .hbm, ⟨108, _⟩ => ⟨S16400x1536, .f32⟩
  | .hbm, ⟨109, _⟩ => ⟨S16400x1536, .f32⟩
  | .hbm, ⟨110, _⟩ => ⟨S_, .f32⟩
  | .hbm, ⟨111, _⟩ => ⟨S1536, .f32⟩
  | .hbm, ⟨112, _⟩ => ⟨S1x1536, .f32⟩
  | .hbm, ⟨113, _⟩ => ⟨S_, .f32⟩
  | .hbm, ⟨114, _⟩ => ⟨S1536, .f32⟩
  | .hbm, ⟨115, _⟩ => ⟨S_, .f32⟩
  | .hbm, ⟨116, _⟩ => ⟨S16403x1536, .f32⟩
  | .hbm, ⟨117, _⟩ => ⟨S16403x1536, .f32⟩
  | .hbm, ⟨118, _⟩ => ⟨S1x1536, .f32⟩
  | .hbm, ⟨119, _⟩ => ⟨S_, .f32⟩
  | .hbm, ⟨120, _⟩ => ⟨S4x1536, .f32⟩
  | .hbm, ⟨121, _⟩ => ⟨S4x1536, .f32⟩
  | .hbm, ⟨122, _⟩ => ⟨S3x1536, .f32⟩
  | .hbm, ⟨123, _⟩ => ⟨S16400x1536, .f32⟩
  | .hbm, ⟨124, _⟩ => ⟨S16400x1536, .bf16⟩
  | _, _ => ⟨S16400x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v35_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v35_1 : Ref sig .tc := ⟨.hbm, 53, rfl⟩
abbrev main_v35_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_16 : Ref sig .tc := ⟨.hbm, 110, rfl⟩
abbrev main_v74 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_cst_18 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_19 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩

abbrev nD : Nat := 1
abbrev τ : Topo := Topo.v7x

variable {F : FTy → Type} [FloatOps F]
-- ==== Proof.Rms.lean ====
/- The gradient of a root-mean-square norm over one row of real numbers: the form the kernel computes and the form
   reverse differentiation gives are the same. -/
module

public import Idealize.ShloMosaic.Lib.Pipeline.ValueKit
public import Idealize.ShloMosaic.Lib.Pointwise

@[expose] public section
noncomputable section
open Idealize.ShloMosaic
namespace Cert.Proof.Rms

/-- The value is a real number: neither of the two infinities. -/
def IsReal (a : EReal) : Prop := ∃ r : ℝ, a = (r : EReal)

theorem IsReal.add {a b : EReal} : IsReal a → IsReal b → IsReal (a + b) := by
  rintro ⟨x, rfl⟩ ⟨y, rfl⟩; exact ⟨x + y, by push_cast; rfl⟩
theorem IsReal.sub {a b : EReal} : IsReal a → IsReal b → IsReal (a - b) := by
  rintro ⟨x, rfl⟩ ⟨y, rfl⟩; exact ⟨x - y, by push_cast; rfl⟩
theorem IsReal.mul {a b : EReal} : IsReal a → IsReal b → IsReal (a * b) := by
  rintro ⟨x, rfl⟩ ⟨y, rfl⟩; exact ⟨x * y, by push_cast; rfl⟩
theorem IsReal.max {a b : EReal} : IsReal a → IsReal b → IsReal (max a b) := by
  rintro ⟨x, rfl⟩ ⟨y, rfl⟩; exact ⟨Max.max x y, (EReal.coe_strictMono.monotone.map_max).symm⟩
theorem IsReal.zero : IsReal 0 := ⟨0, by simp⟩
theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]
theorem IsReal.sum {n : ℕ} {f : Fin n → EReal} (h : ∀ k, IsReal (f k)) : IsReal (∑ k, f k) := by
  choose g hg using h
  exact ⟨∑ k, g k, by rw [coe_sum]; exact Finset.sum_congr rfl fun k _ => hg k⟩

/-- The stored bits of 1024, of the norm's 1e-6, of 2 and of -1/2. -/
theorem bits_1024 : Ideal.ofBits FTy.f32 1149239296#32 = ((1024 : ℝ) : EReal) := by
  simp [Ideal.ofBits, Ideal.ieee, -EReal.coe_mul]; norm_num
theorem bits_eps : ∃ e : ℝ, 0 < e ∧ Ideal.ofBits FTy.f32 897988541#32 = (e : EReal) := by
  refine ⟨((8796093 : ℝ) / 8388608) * (2 : ℝ) ^ (-20 : ℤ), by positivity, ?_⟩
  simp [Ideal.ofBits, Ideal.ieee, -EReal.coe_mul]; norm_num
theorem bits_two : Ideal.ofBits FTy.f32 1073741824#32 = ((2 : ℝ) : EReal) := by
  simp [Ideal.ofBits, Ideal.ieee, -EReal.coe_mul]; norm_num
theorem bits_neg_half : Ideal.ofBits FTy.f32 3204448256#32 = ((-(1 / 2) : ℝ) : EReal) := by
  simp [Ideal.ofBits, Ideal.ieee, -EReal.coe_mul]; norm_num

/-- The mean of the squares of a row plus the norm's constant. -/
def var {n : ℕ} (d : EReal) (x : Fin n → EReal) : EReal :=
  Ideal.div (∑ k, x k * x k) d + Ideal.ofBits FTy.f32 897988541#32

/-- The inverse of a row's root mean square. -/
def rinv {n : ℕ} (d : EReal) (x : Fin n → EReal) : EReal := Ideal.rsqrt (var d x)

/-- The gradient by the row as the kernel writes it: `w` the gains, `dy` the cotangent. -/
def kdx {n : ℕ} (d : EReal) (x w dy : Fin n → EReal) (j : Fin n) : EReal :=
  rinv d x * (dy j * w j - x j * rinv d x * Ideal.div (∑ k, dy k * w k * (x k * rinv d x)) d)

/-- The gradient by the row as reverse differentiation writes it. -/
def vdx {n : ℕ} (d : EReal) (x w dy : Fin n → EReal) (j : Fin n) : EReal :=
  dy j * w j * rinv d x + Ideal.div ((∑ k, x k * (dy k * w k)) *
      (Ideal.ofBits FTy.f32 3204448256#32 * Ideal.div (rinv d x) (var d x))) d *
    (Ideal.ofBits FTy.f32 1073741824#32 * x j)

/-- The mean of squares of a real row is a positive real. -/
theorem var_real {n : ℕ} {D : ℝ} (hD : 0 < D) {x : Fin n → EReal} (hx : ∀ k, IsReal (x k)) :
    ∃ v : ℝ, 0 < v ∧ var (D : EReal) x = (v : EReal) ∧ rinv (D : EReal) x = (((√v)⁻¹ : ℝ) : EReal) := by
  choose X hX using hx
  obtain ⟨e, he, hb⟩ := bits_eps
  have h0 : 0 ≤ ∑ k, X k * X k := Finset.sum_nonneg fun k _ => mul_self_nonneg (X k)
  have hv : 0 < (∑ k, X k * X k) * (1 / D) + e := by positivity
  have hvar : var (D : EReal) x = (((∑ k, X k * X k) * (1 / D) + e : ℝ) : EReal) := by
    unfold var
    rw [Ideal.div_coe hD.ne', hb, EReal.coe_add, EReal.coe_mul, coe_sum]
    simp only [hX, EReal.coe_mul]
  refine ⟨_, hv, hvar, ?_⟩
  rw [rinv, hvar, Ideal.rsqrt_coe, if_neg hv.le.not_gt, if_neg hv.ne']

theorem rinv_real {n : ℕ} {D : ℝ} (hD : 0 < D) {x : Fin n → EReal} (hx : ∀ k, IsReal (x k)) : IsReal (rinv (D : EReal) x) := by
  obtain ⟨v, _, _, h⟩ := var_real hD hx
  exact ⟨_, h⟩

theorem div_real {D : ℝ} (hD : 0 < D) {a : EReal} (ha : IsReal a) : IsReal (Ideal.div a (D : EReal)) := by
  rw [Ideal.div_coe hD.ne']; exact ha.mul ⟨_, rfl⟩

theorem kdx_real {n : ℕ} {D : ℝ} (hD : 0 < D) {x w dy : Fin n → EReal} (hx : ∀ k, IsReal (x k)) (hw : ∀ k, IsReal (w k))
    (hy : ∀ k, IsReal (dy k)) (j : Fin n) : IsReal (kdx (D : EReal) x w dy j) := by
  have hr := rinv_real hD hx
  exact hr.mul (((hy j).mul (hw j)).sub (((hx j).mul hr).mul (div_real hD (IsReal.sum fun k => ((hy k).mul (hw k)).mul ((hx k).mul hr)))))

/-- The two forms of the gradient agree on a real row. -/
theorem kdx_eq_vdx {n : ℕ} {D : ℝ} (hD : 0 < D) {x w dy : Fin n → EReal} (hx : ∀ k, IsReal (x k)) (hw : ∀ k, IsReal (w k))
    (hy : ∀ k, IsReal (dy k)) (j : Fin n) : kdx (D : EReal) x w dy j = vdx (D : EReal) x w dy j := by
  obtain ⟨v, hv, hvar, hr⟩ := var_real hD hx
  choose X hX using hx
  choose W hW using hw
  choose Y hY using hy
  unfold kdx vdx
  rw [hr, hvar, bits_two, bits_neg_half, Ideal.div_coe hv.ne', Ideal.div_coe hD.ne', Ideal.div_coe hD.ne']
  simp only [hX, hW, hY, ← EReal.coe_mul, ← coe_sum, ← EReal.coe_add, ← EReal.coe_sub]
  congr 1
  have hs : (√v)⁻¹ * (√v)⁻¹ = 1 / v := by
    rw [← mul_inv, Real.mul_self_sqrt hv.le, one_div]
  generalize (√v)⁻¹ = s at hs ⊢
  have h1 : ∑ k, Y k * W k * (X k * s) = s * ∑ k, X k * (Y k * W k) := by
    rw [Finset.mul_sum]; exact Finset.sum_congr rfl fun k _ => by ring
  rw [h1, ← hs]
  ring

end Cert.Proof.Rms
end
-- ==== Proof.Model.lean ====
/- One row of the feed-forward block's gradient, as the kernel computes it and as reverse differentiation states it. -/
module

public import proofs.«01_k».proof.Proof.Rms

@[expose] public section
noncomputable section
open Idealize.ShloMosaic
namespace Cert.Proof.Mlp
open Cert.Proof.Rms

/-- The row length the norms divide by. -/
abbrev D : EReal := Ideal.ofBits FTy.f32 1149239296#32

variable (h g1 : Fin 1024 → EReal) (wu : Fin 1024 → Fin 4096 → EReal) (wd : Fin 4096 → Fin 1024 → EReal) (g2 dy : Fin 1024 → EReal)

/-- The up projection of the normalised row, its positive part, and the down projection of the square. -/
def z (j : Fin 4096) : EReal := ∑ x, h x * rinv D h * g1 x * wu x j
def u (j : Fin 4096) : EReal := max (z h g1 wu j) 0
def f (j : Fin 1024) : EReal := ∑ x, u h g1 wu x * u h g1 wu x * wd x j

/-- The kernel's row: gradient by `f`, by the up projection, by the normalised row, and by the row itself. -/
def kdf (j : Fin 1024) : EReal := kdx D (f h g1 wu wd) g2 dy j
def kdu (j : Fin 4096) : EReal :=
  (∑ x, kdf h g1 wu wd g2 dy x * wd j x) * (Ideal.ofBits FTy.f32 1073741824#32 * u h g1 wu j)
def kt (j : Fin 1024) : EReal := ∑ x, kdu h g1 wu wd g2 dy x * wu j x
def kdh (j : Fin 1024) : EReal := dy j + kdx D h g1 (kt h g1 wu wd g2 dy) j
/-- The row's contribution to the gradient of either gain vector. -/
def kgpre (j : Fin 1024) : EReal := kt h g1 wu wd g2 dy j * (h j * rinv D h)
def kgpost (j : Fin 1024) : EReal := dy j * (f h g1 wu wd j * rinv D (f h g1 wu wd))

/-- The same, as reverse differentiation has them. -/
def vdf (j : Fin 1024) : EReal := vdx D (f h g1 wu wd) g2 dy j
def vdu (j : Fin 4096) : EReal :=
  if 0 < z h g1 wu j then
    (∑ x, vdf h g1 wu wd g2 dy x * wd j x) * (Ideal.ofBits FTy.f32 1073741824#32 * u h g1 wu j)
  else 0
def vt (j : Fin 1024) : EReal := ∑ x, vdu h g1 wu wd g2 dy x * wu j x
def vdh (j : Fin 1024) : EReal := dy j + vdx D h g1 (vt h g1 wu wd g2 dy) j
def vgpre (j : Fin 1024) : EReal := h j * rinv D h * vt h g1 wu wd g2 dy j
def vgpost (j : Fin 1024) : EReal := f h g1 wu wd j * rinv D (f h g1 wu wd) * dy j

section Real
variable {h g1 wu wd g2 dy} (hh : ∀ k, IsReal (h k)) (hg1 : ∀ k, IsReal (g1 k)) (hwu : ∀ i k, IsReal (wu i k))
  (hwd : ∀ i k, IsReal (wd i k)) (hg2 : ∀ k, IsReal (g2 k)) (hdy : ∀ k, IsReal (dy k))
include hh hg1 hwu hwd

theorem z_real (j : Fin 4096) : IsReal (z h g1 wu j) := by
  have hr : IsReal (rinv D h) := by rw [D, bits_1024]; exact rinv_real (by norm_num) hh
  exact IsReal.sum fun k => (((hh k).mul hr).mul (hg1 k)).mul (hwu k j)
theorem u_real (j : Fin 4096) : IsReal (u h g1 wu j) := (z_real hh hg1 hwu hwd j).max IsReal.zero
theorem f_real (j : Fin 1024) : IsReal (f h g1 wu wd j) :=
  IsReal.sum fun k => ((u_real hh hg1 hwu hwd k).mul (u_real hh hg1 hwu hwd k)).mul (hwd k j)
include hg2 hdy
theorem kdf_real (j : Fin 1024) : IsReal (kdf h g1 wu wd g2 dy j) := by
  rw [kdf, D, bits_1024]; exact kdx_real (by norm_num) (f_real hh hg1 hwu hwd) hg2 hdy j
theorem kdu_real (j : Fin 4096) : IsReal (kdu h g1 wu wd g2 dy j) :=
  (IsReal.sum fun k => (kdf_real hh hg1 hwu hwd hg2 hdy k).mul (hwd j k)).mul
    ((show IsReal _ from ⟨2, bits_two⟩).mul (u_real hh hg1 hwu hwd j))
theorem kt_real (j : Fin 1024) : IsReal (kt h g1 wu wd g2 dy j) :=
  IsReal.sum fun k => (kdu_real hh hg1 hwu hwd hg2 hdy k).mul (hwu j k)

theorem kdf_eq : kdf h g1 wu wd g2 dy = vdf h g1 wu wd g2 dy := by
  funext j; rw [kdf, vdf, D, bits_1024]; exact kdx_eq_vdx (by norm_num) (f_real hh hg1 hwu hwd) hg2 hdy j
theorem kdu_eq : kdu h g1 wu wd g2 dy = vdu h g1 wu wd g2 dy := by
  funext j
  rw [kdu, vdu, kdf_eq hh hg1 hwu hwd hg2 hdy]
  split_ifs with hz
  · rfl
  · rw [u, max_eq_right (not_lt.mp hz), mul_zero, mul_zero]
theorem kt_eq : kt h g1 wu wd g2 dy = vt h g1 wu wd g2 dy := by
  funext j; rw [kt, vt, kdu_eq hh hg1 hwu hwd hg2 hdy]
theorem kdh_eq : kdh h g1 wu wd g2 dy = vdh h g1 wu wd g2 dy := by
  funext j
  have ht := kt_real hh hg1 hwu hwd hg2 hdy
  rw [kdh, vdh, ← kt_eq hh hg1 hwu hwd hg2 hdy, D, bits_1024, kdx_eq_vdx (by norm_num) hh hg1 ht j]
theorem kgpre_eq : kgpre h g1 wu wd g2 dy = vgpre h g1 wu wd g2 dy := by
  funext j; rw [kgpre, vgpre, kt_eq hh hg1 hwu hwd hg2 hdy, mul_comm]
end Real

theorem kgpost_eq : kgpost h g1 wu wd dy = vgpost h g1 wu wd dy := by
  funext j; rw [kgpost, vgpost, mul_comm]

/-- A row of zeros with a zero cotangent contributes nothing to either gain vector. -/
theorem kgpost_zero (j : Fin 1024) : kgpost h g1 wu wd (fun _ => 0) j = 0 := by rw [kgpost, zero_mul]
theorem kgpre_zero (j : Fin 1024) : kgpre (fun _ => 0) g1 wu wd g2 dy j = 0 := by rw [kgpre, zero_mul, mul_zero]

end Cert.Proof.Mlp
end
-- ==== Proof.RefRead.lean ====
module

public import proofs.«01_k».proof.Proof.Gen.ReferenceIdeal.Read
public import proofs.«01_k».proof.Proof.Model

@[expose] public section
set_option maxRecDepth 16384
noncomputable section
open Idealize.ShloMosaic Idealize.ShloMosaic.TcCoe Idealize.SL.Sem
namespace Cert.ReferenceIdeal.Stages
open Cert.ReferenceIdeal Cert.ReferenceIdeal.Read Cert.Proof.Rms

variable (x0 : FVec Ideal S16400x1024 .f32) (x1 : FVec Ideal S1024 .f32) (x2 : FVec Ideal S1024x4096 .f32)
  (x3 : FVec Ideal S4096x1024 .f32) (x4 : FVec Ideal S1024 .f32) (x5 : FVec Ideal S16400x1024 .f32)

/-- The rows the model speaks of. -/
abbrev row {n : ℕ} (x : (⟨2, ![16400, n]⟩ : Shape).Idx → EReal) (i : Fin 16400) (k : Fin n) : EReal := x (ix2 i k)
abbrev vec {n : ℕ} (x : (⟨1, ![n]⟩ : Shape).Idx → EReal) (k : Fin n) : EReal := x (ix1 k)
abbrev mat {n k : ℕ} (x : (⟨2, ![n, k]⟩ : Shape).Idx → EReal) (a : Fin n) (b : Fin k) : EReal := x (ix2 a b)

open Cert.Proof.Mlp

theorem z_at (i : Fin 16400) (j : Fin 4096) :
    val_main_v13 (F := Ideal) x0 x1 x2 (ix2 i j) = z (row x0 i) (vec x1) (mat x2) j := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl
theorem f_at (i : Fin 16400) (j : Fin 1024) :
    val_main_v16 (F := Ideal) x0 x1 x2 x3 (ix2 i j) = f (row x0 i) (vec x1) (mat x2) (mat x3) j := by
  pointwise [val_main_v16, val_main_v15, val_main_v14, val_main_call0_v0, val_main_call0_cst]
  simp only [z_at]
  rfl
theorem df_at (i : Fin 16400) (j : Fin 1024) :
    val_main_v54 (F := Ideal) x0 x1 x2 x3 x4 x5 (ix2 i j) = vdf (row x0 i) (vec x1) (mat x2) (mat x3) (vec x4) (row x5 i) j := by
  pointwise [val_main_v54, val_main_v53, val_main_v52, val_main_v51, val_main_v50, val_main_v49, val_main_v48, val_main_v47, val_main_v46, val_main_v45, val_main_v44, val_main_v43, val_main_v41, val_main_v40, val_main_v36, val_main_v32, val_main_v29, val_main_v28, val_main_v27, val_main_v26, val_main_v25, val_main_v24, val_main_v23, val_main_v22, val_main_v21, val_main_v20, val_main_v19, val_main_v18, val_main_v17, val_main_cst_2, val_main_cst_3, val_main_cst_4, val_main_cst_5, val_main_cst_6, val_main_cst_9, val_main_cst_10, val_main_cst_11]
  simp only [f_at, Finset.univ_unique, Finset.sum_const, Finset.card_singleton, one_smul]
  rfl
theorem dgpost_at (j : Fin 1024) :
    val_main_v42 (F := Ideal) x0 x1 x2 x3 x5 (ix1 j) = ∑ i, vgpost (row x0 i) (vec x1) (mat x2) (mat x3) (row x5 i) j := by
  pointwise [val_main_v42, val_main_v39, val_main_v38, val_main_v37, val_main_v31, val_main_v30, val_main_v36, val_main_cst_7, val_main_cst_8, val_main_v26, val_main_v25, val_main_v24, val_main_v23, val_main_v22, val_main_v21, val_main_v20, val_main_v17, val_main_cst_3, val_main_cst_4, val_main_cst_5]
  simp only [f_at, Finset.univ_unique, Finset.sum_const, Finset.card_singleton, one_smul]
  rfl
theorem du_at (i : Fin 16400) (j : Fin 4096) :
    val_main_v66 (F := Ideal) x0 x1 x2 x3 x4 x5 (ix2 i j) = vdu (row x0 i) (vec x1) (mat x2) (mat x3) (vec x4) (row x5 i) j := by
  pointwise [val_main_v66, val_main_v65, val_main_v64, val_main_v63, val_main_v61, val_main_v60, val_main_v58, val_main_v57, val_main_v56, val_main_v55, val_main_call1_v0, val_main_call1_cst, val_main_cst_12, val_main_cst_13, val_main_cst_14, val_main_cst_15]
  simp only [df_at, z_at]
  rfl
theorem t_at (i : Fin 16400) (j : Fin 1024) :
    val_main_v86 (F := Ideal) x0 x1 x2 x3 x4 x5 (ix2 i j) = vt (row x0 i) (vec x1) (mat x2) (mat x3) (vec x4) (row x5 i) j := by
  pointwise [val_main_v86]
  simp only [du_at]
  rfl
theorem dh_at (i : Fin 16400) (j : Fin 1024) :
    val_main_v105 (F := Ideal) x0 x1 x2 x3 x4 x5 (ix2 i j) = vdh (row x0 i) (vec x1) (mat x2) (mat x3) (vec x4) (row x5 i) j := by
  pointwise [val_main_v105, val_main_v104, val_main_v103, val_main_v102, val_main_v101, val_main_v100, val_main_v99, val_main_v98, val_main_v97, val_main_v96, val_main_v95, val_main_v94, val_main_v93, val_main_v91, val_main_v90, val_main_v82, val_main_v79, val_main_v78, val_main_v77, val_main_v76, val_main_v75, val_main_v74, val_main_v73, val_main_v72, val_main_v71, val_main_v70, val_main_v69, val_main_v68, val_main_v67, val_main_cst_16, val_main_cst_17, val_main_cst_18, val_main_cst_19, val_main_cst_20, val_main_cst_23, val_main_cst_24, val_main_cst_25]
  simp only [t_at, Finset.univ_unique, Finset.sum_const, Finset.card_singleton, one_smul]
  rfl
theorem dgpre_at (j : Fin 1024) :
    val_main_v92 (F := Ideal) x0 x1 x2 x3 x4 x5 (ix1 j) =
      ∑ i, vgpre (row x0 i) (vec x1) (mat x2) (mat x3) (vec x4) (row x5 i) j := by
  pointwise [val_main_v92, val_main_v89, val_main_v88, val_main_v87, val_main_v81, val_main_v80, val_main_cst_21, val_main_cst_22, val_main_v76, val_main_v75, val_main_v74, val_main_v73, val_main_v72, val_main_v71, val_main_v70, val_main_v67, val_main_cst_17, val_main_cst_18, val_main_cst_19]
  simp only [t_at, Finset.univ_unique, Finset.sum_const, Finset.card_singleton, one_smul]
  rfl
end Cert.ReferenceIdeal.Stages
end
-- ==== Proof.KEntry.lean ====
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.Model

@[expose] public section
set_option maxRecDepth 16384
noncomputable section
open Idealize.ShloMosaic Idealize.ShloMosaic.TcCoe Idealize.SL.Sem
open Idealize.ShloMosaic.Pipeline (Dat)
namespace Cert.KernelIdeal.Entry
open Cert.KernelIdeal Cert.KernelIdeal.Gen

variable (m : (ℓ : Loc nD τ sig) → Buf (Elt Ideal) ℓ) (c : Dev nD)

open Cert.Proof.Rms Cert.Proof.Mlp

/-- The program's arguments. -/
def a0 : FVec Ideal S16400x1024 .f32 := m (c, Proc.tc.devRef main_arg0)
def a1 : FVec Ideal S1024 .f32 := m (c, Proc.tc.devRef main_arg1)
def a2 : FVec Ideal S1024x4096 .f32 := m (c, Proc.tc.devRef main_arg2)
def a3 : FVec Ideal S4096x1024 .f32 := m (c, Proc.tc.devRef main_arg3)
def a4 : FVec Ideal S1024 .f32 := m (c, Proc.tc.devRef main_arg4)
def a5 : FVec Ideal S16400x1024 .f32 := m (c, Proc.tc.devRef main_arg5)

/-- An array of rows under 496 rows of zeros. -/
def padded (x : FVec Ideal S16400x1024 .f32) : FVec Ideal S16896x1024 .f32 :=
  pad S16896x1024 ![496, 0] ![0, 0] ![0, 0] x (sitofp FTy.f32 (constantI S_ 32 0#32)) pads_S16400x1024_S16896x1024_49600_000 h_S_

/-- The arrays the kernel's windows and copies read. -/
def eDy : FVec Ideal S16896x1024 .f32 := V m c main_v24
def eF : FVec Ideal S16896x1024 .f32 := V m c main_v23
def eH : FVec Ideal S16896x1024 .f32 := V m c main_v0
def eU : FVec Ideal S16896x4096 .bf16 := V m c main_v25
def eG1 : FVec Ideal S1x1024 .f32 := V m c main_v1
def eG2 : FVec Ideal S1x1024 .f32 := V m c main_v2
def eWu : FVec Ideal S1024x4096 .bf16 := V m c main_v3
def eWd : FVec Ideal S4096x1024 .bf16 := V m c main_v4

/-- The host's forward lines, over any rows: the positive part of the up projection of the normalised rows, and the down
    projection of its square. -/
def hostU (q : FVec Ideal S16896x1024 .f32) (x1 : FVec Ideal S1024 .f32) (x2 : FVec Ideal S1024x4096 .f32) : FVec Ideal S16896x4096 .f32 :=
  maximumf (Host.dotGeneral dot_S16896x1024_S1024x4096_S16896x4096_1_0_0_1_n_n none
      (truncf FTy.bf16
        (mulf
          (mulf q
            (broadcastInDim S16896x1024 ![0, 1] bcast_S16896x1_S16896x1024_0_1
              (Host.rsqrt
                (addf
                  (Host.divf
                    (broadcastInDim S16896x1 ![0] bcast_S16896_S16896x1_0
                      (Host.reduceAdd (mulf q q) (constant S_ FTy.f32 0#32) reducesTo_S16896x1024_S16896_d1 h_S_))
                    (broadcastInDim S16896x1 ![] bcast_S_S16896x1 (constant S_ FTy.f32 1149239296#32)))
                  (broadcastInDim S16896x1 ![] bcast_S_S16896x1 (constant S_ FTy.f32 897988541#32))))))
          (broadcastInDim S16896x1024 ![0, 1] bcast_S1x1024_S16896x1024_0_1 fun i =>
            shapeCast S1x1024 x1 shapeCasts_S1024_S1x1024 i))
        bitsLt_bf16_f32)
      (truncf FTy.bf16 x2 bitsLt_bf16_f32))
    (broadcastInDim S16896x4096 ![] bcast_S_S16896x4096 (constant S_ FTy.f32 0#32))
def hostF (q : FVec Ideal S16896x1024 .f32) (x1 : FVec Ideal S1024 .f32) (x2 : FVec Ideal S1024x4096 .f32)
    (x3 : FVec Ideal S4096x1024 .f32) : FVec Ideal S16896x1024 .f32 :=
  Host.dotGeneral dot_S16896x4096_S4096x1024_S16896x1024_1_0_0_1_n_n none
    (truncf FTy.bf16 (mulf (hostU q x1 x2) (hostU q x1 x2)) bitsLt_bf16_f32) (truncf FTy.bf16 x3 bitsLt_bf16_f32)

theorem hostU_at (q : FVec Ideal S16896x1024 .f32) (x1 : FVec Ideal S1024 .f32) (x2 : FVec Ideal S1024x4096 .f32) (p : Fin 16896) (j : Fin 4096) :
    hostU q x1 x2 (ix2 p j) = u (fun k => q (ix2 p k)) (fun k => x1 (ix1 k)) (fun a b => x2 (ix2 a b)) j := by
  pointwise [hostU]
  rfl
theorem hostF_at (q : FVec Ideal S16896x1024 .f32) (x1 : FVec Ideal S1024 .f32) (x2 : FVec Ideal S1024x4096 .f32)
    (x3 : FVec Ideal S4096x1024 .f32) (p : Fin 16896) (j : Fin 1024) :
    hostF q x1 x2 x3 (ix2 p j) = f (fun k => q (ix2 p k)) (fun k => x1 (ix1 k)) (fun a b => x2 (ix2 a b)) (fun a b => x3 (ix2 a b)) j := by
  pointwise [hostF]
  simp only [hostU_at]
  rfl

theorem eDy_eq : eDy m c = padded (a5 m c) := by
  unfold eDy V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  rfl
theorem eH_eq : eH m c = padded (a0 m c) := by
  unfold eH V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  rfl
theorem eG1_at (j : Fin 1024) : eG1 m c (ix2 0 j) = a1 m c (ix1 j) := by
  unfold eG1 V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  pointwise [a1]
theorem eG2_at (j : Fin 1024) : eG2 m c (ix2 0 j) = a4 m c (ix1 j) := by
  unfold eG2 V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  pointwise [a4]
theorem eWu_at (i : Fin 1024) (j : Fin 4096) : eWu m c (ix2 i j) = a2 m c (ix2 i j) := by
  unfold eWu V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  pointwise [a2]
theorem eWd_at (i : Fin 4096) (j : Fin 1024) : eWd m c (ix2 i j) = a3 m c (ix2 i j) := by
  unfold eWd V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  pointwise [a3]
theorem eU_at (p : Fin 16896) (j : Fin 4096) :
    eU m c (ix2 p j) = u (fun k => eH m c (ix2 p k)) (fun k => a1 m c (ix1 k)) (fun a b => a2 m c (ix2 a b)) j := by
  rw [eH_eq, ← hostU_at]
  unfold eU V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  rfl
theorem eF_at (p : Fin 16896) (j : Fin 1024) :
    eF m c (ix2 p j) = f (fun k => eH m c (ix2 p k)) (fun k => a1 m c (ix1 k)) (fun a b => a2 m c (ix2 a b)) (fun a b => a3 m c (ix2 a b)) j := by
  rw [eH_eq, ← hostF_at]
  unfold eF V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_results_simp
  rfl

theorem padded_low (x : FVec Ideal S16400x1024 .f32) (p : Fin 16896) (hp : p.val < 496) (j : Fin 1024) : padded x (ix2 p j) = 0 := by
  pointwise [padded]
  rw [dif_neg (by omega)]
  show (((0#32).toInt : ℝ) : EReal) = 0
  simp
theorem padded_high (x : FVec Ideal S16400x1024 .f32) (i : Fin 16400) (j : Fin 1024) :
    padded x (ix2 ⟨496 + i.val, by omega⟩ j) = x (ix2 i j) := by
  pointwise [padded]
end Cert.KernelIdeal.Entry
end
-- ==== Proof.KBlocks.lean ====
module

public import proofs.«01_k».proof.Proof.Gen.KernelIdeal.Frame
public import Idealize.ShloMosaic.Lib.Pipeline.ValueKit
public import Idealize.ShloMosaic.Lib.Pointwise
public import Idealize.ShloMosaic.Lib.VecWindow
public import Idealize.ShloMosaic.Lib.Pipeline.ReadBack
public import proofs.«01_k».proof.Proof.Rms

@[expose] public section
set_option maxRecDepth 16384
noncomputable section
open Idealize.ShloMosaic Idealize.ShloMosaic.TcCoe Idealize.SL.Sem
open Idealize.ShloMosaic.Pipeline (Dat)
namespace Cert.KernelIdeal.Blocks
open Cert.KernelIdeal Cert.KernelIdeal.Gen

variable (m : (ℓ : Loc nD τ sig) → Buf (Elt Ideal) ℓ) (c : Dev nD)

/-- A piece that covers its whole shape: the contents it leaves, and what a load of the whole shape reads of it. -/
theorem canon_whole {Val : EltTy → Type} [∀ e, Nonempty (Val e)] {S : Shape} {e : EltTy} (w : S.Idx → Val e) :
    View.canon [(⟨Rect.whole S, w⟩ : View.Piece Val S e)] = w := by
  funext x
  have h := View.canon_cons_emb (Rect.whole S) w [] x
  rwa [Rect.emb_whole_apply] at h
theorem readCov_whole {Val : EltTy → Type} [∀ e, Nonempty (Val e)] {sig : RefSig} {κ : Kind} {sp : Space} {S : Shape} {e : EltTy}
    (v : View sig κ sp S e) {off : Fin S.rank → ℕ} (inb : ∀ a, off a + S.size a ≤ S.size a) (w : S.Idx → Val e) :
    v.readCov [(⟨Rect.whole S, w⟩ : View.Piece Val S e)] (Rect.unit off S.size inb).toLoadRect = w :=
  View.readCov_full v inb (off' := fun _ => 0) (fun a => (Nat.zero_add _).le) w []

theorem scratch0_A (t : Fin cfg0.N) (h : t.val % 66 = 0) :
    (outsAt0 m c t.val t.isLt).2.2.2.2.2.1 = V m c main_v3 := by
  rw [outsAt0_A m c t h h h h]
  dsimp only
  frame_out
  exact canon_whole _
theorem scratch1_A (t : Fin cfg0.N) (h : t.val % 66 = 0) :
    (outsAt0 m c t.val t.isLt).2.2.2.2.2.2 = V m c main_v4 := by
  rw [outsAt0_A m c t h h h h]
  dsimp only
  frame_out
  exact canon_whole _

/-- Both resident weights stay what the first point copied. -/
theorem scratch (n : ℕ) (hn : n < cfg0.N) :
    (outsAt0 m c n hn).2.2.2.2.2.1 = V m c main_v3 ∧ (outsAt0 m c n hn).2.2.2.2.2.2 = V m c main_v4 := by
  induction n with
  | zero => exact ⟨scratch0_A m c ⟨0, hn⟩ rfl, scratch1_A m c ⟨0, hn⟩ rfl⟩
  | succ n ih =>
    have hN : n + 1 < 66 := hn
    have h : ¬(n + 1) % 66 = 0 := by omega
    have e := outsAt0_B m c ⟨n + 1, hn⟩ h h h h
    have ih' := ih (Nat.lt_of_succ_lt hn)
    refine ⟨?_, ?_⟩
    · rw [show outsAt0 m c (n + 1) hn = _ from e]
      exact ih'.1
    · rw [show outsAt0 m c (n + 1) hn = _ from e]
      exact ih'.2

/-- What a block of rows makes: the skip-free gradients at every point, whichever case the point is. -/
abbrev bDf (t : Fin cfg0.N) := k0_pay11 (F := Ideal) (iblk m c 0 t) (iblk m c 1 t) (iblk m c 5 t)
abbrev bRow3 (t : Fin cfg0.N) := k0_pay18 (F := Ideal) (bDf m c t) (V m c main_v4) (iblk m c 3 t) (V m c main_v3) (iblk m c 2 t)

theorem out6 (t : Fin cfg0.N) : (outsAt0 m c t.val t.isLt).1 =
    k0_pay1 (k0_pay6 (iblk m c 0 t)) (k0_pay17 (bDf m c t) (V m c main_v4) (iblk m c 3 t) (V m c main_v3) (iblk m c 2 t) (iblk m c 4 t)) := by
  by_cases h : t.val % 66 = 0
  · rw [outsAt0_A m c t h h h h]
    dsimp only
    frame_out
    rw [readCov_whole, readCov_whole]
    rfl
  · rw [outsAt0_B m c t h h h h]
    dsimp only
    frame_out
    rw [read_unread_whole, read_unread_whole, (scratch m c _ _).1, (scratch m c _ _).2]
theorem out7 (t : Fin cfg0.N) : (outsAt0 m c t.val t.isLt).2.1 = k0_pay12 (bDf m c t) (V m c main_v4) (iblk m c 3 t) := by
  by_cases h : t.val % 66 = 0
  · rw [outsAt0_A m c t h h h h]
    dsimp only
    frame_out
    rw [readCov_whole]
    rfl
  · rw [outsAt0_B m c t h h h h]
    dsimp only
    frame_out
    rw [read_unread_whole, (scratch m c _ _).2]
theorem out8 (t : Fin cfg0.N) : (outsAt0 m c t.val t.isLt).2.2.1 = bDf m c t := by
  by_cases h : t.val % 66 = 0
  · rw [outsAt0_A m c t h h h h]
    dsimp only
    frame_out
  · rw [outsAt0_B m c t h h h h]
    dsimp only
    frame_out
theorem out9_A (t : Fin cfg0.N) (h : t.val % 66 = 0) : (outsAt0 m c t.val t.isLt).2.2.2.1 = k0_pay3 (bRow3 m c t) (k0_pay2 (F := Ideal)) := by
  rw [outsAt0_A m c t h h h h]
  dsimp only
  frame_out
  rw [readCov_whole, readCov_whole]
  rfl
theorem out9_B (t : Fin cfg0.N) (h : ¬t.val % 66 = 0) : (outsAt0 m c t.val t.isLt).2.2.2.1 =
    k0_pay3 (bRow3 m c t) (outsAt0 m c (t.val - 1) (Nat.lt_of_le_of_lt (Nat.sub_le _ _) t.isLt)).2.2.2.1 := by
  rw [outsAt0_B m c t h h h h]
  dsimp only
  frame_out
  rw [read_unread_whole, read_unread_whole, (scratch m c _ _).1, (scratch m c _ _).2]
theorem out10_A (t : Fin cfg0.N) (h : t.val % 66 = 0) : (outsAt0 m c t.val t.isLt).2.2.2.2.1 =
    k0_pay5 (k0_pay10 (iblk m c 0 t) (iblk m c 1 t)) (k0_pay4 (F := Ideal)) := by
  rw [outsAt0_A m c t h h h h]
  dsimp only
  frame_out
theorem out10_B (t : Fin cfg0.N) (h : ¬t.val % 66 = 0) : (outsAt0 m c t.val t.isLt).2.2.2.2.1 =
    k0_pay5 (k0_pay10 (iblk m c 0 t) (iblk m c 1 t)) (outsAt0 m c (t.val - 1) (Nat.lt_of_le_of_lt (Nat.sub_le _ _) t.isLt)).2.2.2.2.1 := by
  rw [outsAt0_B m c t h h h h]
  dsimp only
  frame_out
end Cert.KernelIdeal.Blocks
end
-- ==== Proof.KArr.lean ====
module

public import proofs.«01_k».proof.Proof.KEntry
public import proofs.«01_k».proof.Proof.KBlocks

@[expose] public section
set_option maxRecDepth 16384
noncomputable section
open Idealize.ShloMosaic Idealize.ShloMosaic.TcCoe Idealize.SL.Sem
open Idealize.ShloMosaic.Pipeline (Dat)
namespace Cert.KernelIdeal.Arrays
open Cert.KernelIdeal Cert.KernelIdeal.Gen Cert.KernelIdeal.Blocks Cert.KernelIdeal.Entry Cert.Proof.Rms Cert.Proof.Mlp

theorem pay11_at (v6 v8 : FVec Ideal S256x1024 .f32) (v10 : FVec Ideal S1x1024 .f32) (r : Fin 256) (j : Fin 1024) :
    k0_pay11 (F := Ideal) v6 v8 v10 (ix2 r j) = kdx D (fun k => v8 (ix2 r k)) (fun k => v10 (ix2 0 k)) (fun k => v6 (ix2 r k)) j := by
  pointwise [k0_pay11, k0_pay6, k0_pay9, k0_pay8, k0_pay7]
  rfl
theorem pay10_at (v6 v8 : FVec Ideal S256x1024 .f32) (r : Fin 256) (j : Fin 1024) :
    k0_pay10 (F := Ideal) v6 v8 (ix2 r j) = v6 (ix2 r j) * (v8 (ix2 r j) * rinv D (fun k => v8 (ix2 r k))) := by
  pointwise [k0_pay10, k0_pay6, k0_pay9, k0_pay8, k0_pay7]
  rfl
theorem pay12_at (v35 : FVec Ideal S256x1024 .bf16) (v37 : FVec Ideal S4096x1024 .bf16) (v39 : FVec Ideal S256x4096 .bf16) (r : Fin 256) (j : Fin 4096) :
    k0_pay12 (F := Ideal) v35 v37 v39 (ix2 r j) = (∑ x, v35 (ix2 r x) * v37 (ix2 j x)) * (Ideal.ofBits FTy.f32 1073741824#32 * v39 (ix2 r j)) := by
  pointwise [k0_pay12]
theorem pay13_at (v35 : FVec Ideal S256x1024 .bf16) (v37 : FVec Ideal S4096x1024 .bf16) (v39 : FVec Ideal S256x4096 .bf16) (v47 : FVec Ideal S1024x4096 .bf16)
    (r : Fin 256) (j : Fin 1024) :
    k0_pay13 (F := Ideal) v35 v37 v39 v47 (ix2 r j) = ∑ x, k0_pay12 (F := Ideal) v35 v37 v39 (ix2 r x) * v47 (ix2 j x) := by
  pointwise [k0_pay13]
theorem pay17_at (v35 : FVec Ideal S256x1024 .bf16) (v37 : FVec Ideal S4096x1024 .bf16) (v39 : FVec Ideal S256x4096 .bf16) (v47 : FVec Ideal S1024x4096 .bf16)
    (v49 : FVec Ideal S256x1024 .f32) (v51 : FVec Ideal S1x1024 .f32) (r : Fin 256) (j : Fin 1024) :
    k0_pay17 (F := Ideal) v35 v37 v39 v47 v49 v51 (ix2 r j) =
      kdx D (fun k => v49 (ix2 r k)) (fun k => v51 (ix2 0 k)) (fun k => k0_pay13 (F := Ideal) v35 v37 v39 v47 (ix2 r k)) j := by
  pointwise [k0_pay17, k0_pay16, k0_pay15, k0_pay14]
  rfl
theorem pay18_at (v35 : FVec Ideal S256x1024 .bf16) (v37 : FVec Ideal S4096x1024 .bf16) (v39 : FVec Ideal S256x4096 .bf16) (v47 : FVec Ideal S1024x4096 .bf16)
    (v49 : FVec Ideal S256x1024 .f32) (r : Fin 256) (j : Fin 1024) :
    k0_pay18 (F := Ideal) v35 v37 v39 v47 v49 (ix2 r j) =
      k0_pay13 (F := Ideal) v35 v37 v39 v47 (ix2 r j) * (v49 (ix2 r j) * rinv D (fun k => v49 (ix2 r k))) := by
  pointwise [k0_pay18, k0_pay16, k0_pay15, k0_pay14]
  rfl
theorem pay1_at (v76 v77 : FVec Ideal S256x1024 .f32) (r : Fin 256) (j : Fin 1024) :
    k0_pay1 (F := Ideal) (k0_pay6 (F := Ideal) v76) v77 (ix2 r j) = v76 (ix2 r j) + v77 (ix2 r j) := by
  pointwise [k0_pay1, k0_pay6]
theorem pay3_at (v75 : FVec Ideal S256x1024 .f32) (v83 : FVec Ideal S8x1024 .f32) (r : Fin 8) (j : Fin 1024) :
    k0_pay3 (F := Ideal) v75 v83 (ix2 r j) = v83 (ix2 r j) + ∑ x : Fin 32, v75 (ix2 ⟨x.val * 8 + r.val, by omega⟩ j) := by
  pointwise [k0_pay3]
theorem pay5_at (v75 : FVec Ideal S256x1024 .f32) (v83 : FVec Ideal S8x1024 .f32) (r : Fin 8) (j : Fin 1024) :
    k0_pay5 (F := Ideal) v75 v83 (ix2 r j) = v83 (ix2 r j) + ∑ x : Fin 32, v75 (ix2 ⟨x.val * 8 + r.val, by omega⟩ j) := by
  pointwise [k0_pay5]
theorem pay2_at (i : S8x1024.Idx) : k0_pay2 (F := Ideal) i = 0 := by
  pointwise [k0_pay2]
theorem pay4_at (i : S8x1024.Idx) : k0_pay4 (F := Ideal) i = 0 := by
  pointwise [k0_pay4]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![0, 0] ∧ win0_6.index t = ![t.val, 0] ∧
    win0_7.index t = ![t.val, 0] ∧ win0_8.index t = ![t.val, 0] ∧ win0_9.index t = ![0, 0] ∧ win0_10.index t = ![0, 0] :=
  (by decide +kernel : ∀ t : Fin grid0.N, _)

/-- The padded array's row a block's row is. -/
abbrev prow (t : Fin cfg0.N) (r : Fin 256) : Fin 16896 := ⟨t.val * 256 + r.val, by have : t.val < 66 := t.isLt; omega⟩

theorem blk0_at (t : Fin cfg0.N) (r : Fin 256) (j : Fin 1024) : (iblk m c 0 t : FVec Ideal S256x1024 .f32) (ix2 r j) = eDy m c (ix2 (prow t r) j) := by
  blk_point [iblk, eDy, idx t]
theorem blk1_at (t : Fin cfg0.N) (r : Fin 256) (j : Fin 1024) : (iblk m c 1 t : FVec Ideal S256x1024 .f32) (ix2 r j) = eF m c (ix2 (prow t r) j) := by
  blk_point [iblk, eF, idx t]
theorem blk2_at (t : Fin cfg0.N) (r : Fin 256) (j : Fin 1024) : (iblk m c 2 t : FVec Ideal S256x1024 .f32) (ix2 r j) = eH m c (ix2 (prow t r) j) := by
  blk_point [iblk, eH, idx t]
theorem blk3_at (t : Fin cfg0.N) (r : Fin 256) (j : Fin 4096) : (iblk m c 3 t : FVec Ideal S256x4096 .bf16) (ix2 r j) = eU m c (ix2 (prow t r) j) := by
  blk_point [iblk, eU, idx t]
theorem blk4_at (t : Fin cfg0.N) (j : Fin 1024) : (iblk m c 4 t : FVec Ideal S1x1024 .f32) (ix2 0 j) = eG1 m c (ix2 0 j) := by
  blk_point [iblk, eG1, idx t]
theorem blk5_at (t : Fin cfg0.N) (j : Fin 1024) : (iblk m c 5 t : FVec Ideal S1x1024 .f32) (ix2 0 j) = eG2 m c (ix2 0 j) := by
  blk_point [iblk, eG2, idx t]

/-- The rows and weights the model speaks of. -/
abbrev rH (p : Fin 16896) (k : Fin 1024) : EReal := eH m c (ix2 p k)
abbrev rDy (p : Fin 16896) (k : Fin 1024) : EReal := eDy m c (ix2 p k)
abbrev g1 (k : Fin 1024) : EReal := a1 m c (ix1 k)
abbrev wu (a : Fin 1024) (b : Fin 4096) : EReal := a2 m c (ix2 a b)
abbrev wd (a : Fin 4096) (b : Fin 1024) : EReal := a3 m c (ix2 a b)
abbrev g2 (k : Fin 1024) : EReal := a4 m c (ix1 k)

theorem bDf_at (t : Fin cfg0.N) (r : Fin 256) (j : Fin 1024) :
    bDf m c t (ix2 r j) = kdf (rH m c (prow t r)) (g1 m c) (wu m c) (wd m c) (g2 m c) (rDy m c (prow t r)) j := by
  refine (pay11_at _ _ _ r j).trans ?_
  simp only [blk0_at, blk1_at, blk5_at, eF_at, eG2_at]
  rfl
theorem bDu_at (t : Fin cfg0.N) (r : Fin 256) (j : Fin 4096) :
    k0_pay12 (F := Ideal) (bDf m c t) (V m c main_v4) (iblk m c 3 t) (ix2 r j) =
      kdu (rH m c (prow t r)) (g1 m c) (wu m c) (wd m c) (g2 m c) (rDy m c (prow t r)) j := by
  refine (pay12_at _ _ _ r j).trans ?_
  simp only [bDf_at, blk3_at, eU_at]
  simp only [show ∀ (a : Fin 4096) (b : Fin 1024), (V m c main_v4 : FVec Ideal S4096x1024 .bf16) (ix2 a b) = wd m c a b from eWd_at m c]
  rfl
theorem bT_at (t : Fin cfg0.N) (r : Fin 256) (j : Fin 1024) :
    k0_pay13 (F := Ideal) (bDf m c t) (V m c main_v4) (iblk m c 3 t) (V m c main_v3) (ix2 r j) =
      kt (rH m c (prow t r)) (g1 m c) (wu m c) (wd m c) (g2 m c) (rDy m c (prow t r)) j := by
  exact (pay13_at _ _ _ _ r j).trans (Finset.sum_congr rfl fun x _ => congrArg₂ (· * ·) (bDu_at m c t r x) (eWu_at m c j x))
theorem bDh_at (t : Fin cfg0.N) (r : Fin 256) (j : Fin 1024) :
    k0_pay1 (F := Ideal) (k0_pay6 (iblk m c 0 t))
        (k0_pay17 (bDf m c t) (V m c main_v4) (iblk m c 3 t) (V m c main_v3) (iblk m c 2 t) (iblk m c 4 t)) (ix2 r j) =
      kdh (rH m c (prow t r)) (g1 m c) (wu m c) (wd m c) (g2 m c) (rDy m c (prow t r)) j := by
  refine (pay1_at _ _ r j).trans (congrArg₂ (· + ·) (blk0_at m c t r j) ((pay17_at _ _ _ _ _ _ r j).trans ?_))
  have e1 : (fun k => (iblk m c 2 t : FVec Ideal S256x1024 .f32) (ix2 r k)) = rH m c (prow t r) := funext fun k => blk2_at m c t r k
  have e2 : (fun k => (iblk m c 4 t : FVec Ideal S1x1024 .f32) (ix2 0 k)) = g1 m c := funext fun k => (blk4_at m c t k).trans (eG1_at m c k)
  rw [e1, e2, funext fun k => bT_at m c t r k]
theorem bRow3_at (t : Fin cfg0.N) (r : Fin 256) (j : Fin 1024) :
    bRow3 m c t (ix2 r j) = kgpre (rH m c (prow t r)) (g1 m c) (wu m c) (wd m c) (g2 m c) (rDy m c (prow t r)) j := by
  refine (pay18_at _ _ _ _ _ r j).trans ?_
  have e1 : (fun k => (iblk m c 2 t : FVec Ideal S256x1024 .f32) (ix2 r k)) = rH m c (prow t r) := funext fun k => blk2_at m c t r k
  rw [e1, bT_at m c t r j, show (iblk m c 2 t : FVec Ideal S256x1024 .f32) (ix2 r j) = _ from blk2_at m c t r j]
  rfl
theorem bPost_at (t : Fin cfg0.N) (r : Fin 256) (j : Fin 1024) :
    k0_pay10 (F := Ideal) (iblk m c 0 t) (iblk m c 1 t) (ix2 r j) =
      kgpost (rH m c (prow t r)) (g1 m c) (wu m c) (wd m c) (rDy m c (prow t r)) j := by
  refine (pay10_at _ _ r j).trans ?_
  simp only [blk0_at, blk1_at, eF_at]
  rfl

/-- The arrays the rows make. -/
def DH : FVec Ideal S16896x1024 .f32 := fun i => kdh (rH m c (i 0)) (g1 m c) (wu m c) (wd m c) (g2 m c) (rDy m c (i 0)) (i 1)
def DU : FVec Ideal S16896x4096 .bf16 := fun i => kdu (rH m c (i 0)) (g1 m c) (wu m c) (wd m c) (g2 m c) (rDy m c (i 0)) (i 1)
def DF : FVec Ideal S16896x1024 .bf16 := fun i => kdf (rH m c (i 0)) (g1 m c) (wu m c) (wd m c) (g2 m c) (rDy m c (i 0)) (i 1)
/-- The eight partial sums of a gain's gradient: row `r` of the block holds the rows congruent to `r`. -/
def part (g : Fin 16896 → Fin 1024 → EReal) : FVec Ideal S8x1024 .f32 := fun i => ∑ t : Fin 66, ∑ x : Fin 32, g ⟨t.val * 256 + (x.val * 8 + (i 0).val), by have : (i 0).val < 8 := (i 0).isLt; omega⟩ (i 1)
def rowPre (p : Fin 16896) : Fin 1024 → EReal := kgpre (rH m c p) (g1 m c) (wu m c) (wd m c) (g2 m c) (rDy m c p)
def rowPost (p : Fin 16896) : Fin 1024 → EReal := kgpost (rH m c p) (g1 m c) (wu m c) (wd m c) (rDy m c p)

theorem at6 (F : FVec Ideal S16896x1024 .f32) (t : Fin cfg0.N) (y0 : Fin 256) (y1 : Fin 1024) :
    F (((View.whole main_v26_0).slice (win0_6.rect t)).emb (ix2 y0 y1)) = F (ix2 (prow t y0) y1) := by blk_point [idx t]
theorem at7 (F : FVec Ideal S16896x4096 .bf16) (t : Fin cfg0.N) (y0 : Fin 256) (y1 : Fin 4096) :
    F (((View.whole main_v26_1).slice (win0_7.rect t)).emb (ix2 y0 y1)) = F (ix2 (prow t y0) y1) := by blk_point [idx t]
theorem at8 (F : FVec Ideal S16896x1024 .bf16) (t : Fin cfg0.N) (y0 : Fin 256) (y1 : Fin 1024) :
    F (((View.whole main_v26_2).slice (win0_8.rect t)).emb (ix2 y0 y1)) = F (ix2 (prow t y0) y1) := by blk_point [idx t]
theorem at9 (F : FVec Ideal S8x1024 .f32) (t : Fin cfg0.N) (y0 : Fin 8) (y1 : Fin 1024) :
    F (((View.whole main_v26_3).slice (win0_9.rect t)).emb (ix2 y0 y1)) = F (ix2 y0 y1) := by blk_point [idx t]
theorem at10 (F : FVec Ideal S8x1024 .f32) (t : Fin cfg0.N) (y0 : Fin 8) (y1 : Fin 1024) :
    F (((View.whole main_v26_4).slice (win0_10.rect t)).emb (ix2 y0 y1)) = F (ix2 y0 y1) := by blk_point [idx t]

theorem arr6 : (dats m 0 c).arrAt 6 (cfgs 0).N = DH m c := by
  refine (dats m 0 c).arrAt_eq_of_covers 6 _ (by decide +kernel) fun t _ y => ?_
  blk_simp
  rw [after0_6, out6]
  idx_vars y
  exact (bDh_at m c t y0 y1).trans (at6 (DH m c) t y0 y1).symm
theorem arr7 : (dats m 0 c).arrAt 7 (cfgs 0).N = DU m c := by
  refine (dats m 0 c).arrAt_eq_of_covers 7 _ (by decide +kernel) fun t _ y => ?_
  blk_simp
  rw [after0_7, out7]
  idx_vars y
  exact (bDu_at m c t y0 y1).trans (at7 (DU m c) t y0 y1).symm
theorem arr8 : (dats m 0 c).arrAt 8 (cfgs 0).N = DF m c := by
  refine (dats m 0 c).arrAt_eq_of_covers 8 _ (by decide +kernel) fun t _ y => ?_
  blk_simp
  rw [after0_8, out8]
  idx_vars y
  exact (bDf_at m c t y0 y1).trans (at8 (DF m c) t y0 y1).symm
theorem acc9 (t : Fin cfg0.N) (hf : t.val % 66 = 65) (r : Fin 8) (j : Fin 1024) :
    (outsAt0 m c t.val t.isLt).2.2.2.1 (ix2 r j) = part (rowPre m c) (ix2 r j) := by
  rw [Pipeline.eq_sum_fin_of_reset_step_apply_of_flush (fun n h => (outsAt0 m c n h).2.2.2.1) 66 (fun _ => 0)
    (fun t y => ∑ x : Fin 32, bRow3 m c t (ix2 ⟨x.val * 8 + (y 0).val, by have : (y 0).val < 8 := (y 0).isLt; omega⟩ (y 1)))
    (fun t h y => ?_) (fun t h y => ?_) t hf (ix2 r j), zero_add]
  · have e : t.val / 66 = 0 := by have : t.val < 66 := t.isLt; omega
    refine Finset.sum_congr rfl fun s _ => Finset.sum_congr rfl fun x _ => (bRow3_at m c _ _ _).trans ?_
    refine congrFun (congrArg (rowPre m c) (Fin.ext ?_)) j
    show (66 * (t.val / 66) + s.val) * 256 + _ = s.val * 256 + _
    rw [e]; simp
  · idx_vars y
    rw [out9_A m c t h]
    exact (pay3_at _ _ y0 y1).trans (by rw [pay2_at])
  · idx_vars y
    rw [out9_B m c t h]
    exact pay3_at _ _ y0 y1
theorem arr9 : (dats m 0 c).arrAt 9 (cfgs 0).N = part (rowPre m c) := by
  refine (dats m 0 c).arrAt_eq_of_covers 9 _ (by decide +kernel) fun t hf y => ?_
  blk_simp
  rw [after0_9]
  idx_vars y
  exact (acc9 m c t ((flush0_9 t).mp hf) y0 y1).trans (at9 (part (rowPre m c)) t y0 y1).symm
theorem acc10 (t : Fin cfg0.N) (hf : t.val % 66 = 65) (r : Fin 8) (j : Fin 1024) :
    (outsAt0 m c t.val t.isLt).2.2.2.2.1 (ix2 r j) = part (rowPost m c) (ix2 r j) := by
  rw [Pipeline.eq_sum_fin_of_reset_step_apply_of_flush (fun n h => (outsAt0 m c n h).2.2.2.2.1) 66 (fun _ => 0)
    (fun t y => ∑ x : Fin 32, k0_pay10 (F := Ideal) (iblk m c 0 t) (iblk m c 1 t) (ix2 ⟨x.val * 8 + (y 0).val, by have : (y 0).val < 8 := (y 0).isLt; omega⟩ (y 1)))
    (fun t h y => ?_) (fun t h y => ?_) t hf (ix2 r j), zero_add]
  · have e : t.val / 66 = 0 := by have : t.val < 66 := t.isLt; omega
    refine Finset.sum_congr rfl fun s _ => Finset.sum_congr rfl fun x _ => (bPost_at m c _ _ _).trans ?_
    refine congrFun (congrArg (rowPost m c) (Fin.ext ?_)) j
    show (66 * (t.val / 66) + s.val) * 256 + _ = s.val * 256 + _
    rw [e]; simp
  · idx_vars y
    rw [out10_A m c t h]
    exact (pay5_at _ _ y0 y1).trans (by rw [pay4_at])
  · idx_vars y
    rw [out10_B m c t h]
    exact pay5_at _ _ y0 y1
theorem arr10 : (dats m 0 c).arrAt 10 (cfgs 0).N = part (rowPost m c) := by
  refine (dats m 0 c).arrAt_eq_of_covers 10 _ (by decide +kernel) fun t hf y => ?_
  blk_simp
  rw [after0_10]
  idx_vars y
  exact (acc10 m c t ((flush0_10 t).mp hf) y0 y1).trans (at10 (part (rowPost m c)) t y0 y1).symm

/-- The eight partial sums together are the sum over all rows. -/
theorem part_sum (g : Fin 16896 → Fin 1024 → EReal) (j : Fin 1024) : ∑ r : Fin 8, part g (ix2 r j) = ∑ p, g p j := by
  show ∑ r : Fin 8, ∑ t : Fin 66, ∑ x : Fin 32, g ⟨t.val * 256 + (x.val * 8 + r.val), _⟩ j = _
  rw [Finset.sum_comm]
  refine (Finset.sum_congr rfl fun t _ => (Finset.sum_comm.trans ?_)).trans (Fin.sum_mul_add_fin 66 256 fun p => g p j)
  exact Fin.sum_mul_add_fin 32 8 fun q : Fin 256 => g ⟨t.val * 256 + q.val, by omega⟩ j
/-- Rows of padding that contribute nothing leave the sum over the rows themselves. -/
theorem sum_padded (g : Fin 16896 → EReal) (h0 : ∀ p, p.val < 496 → g p = 0) : ∑ p, g p = ∑ i : Fin 16400, g ⟨496 + i.val, by omega⟩ := by
  rw [Fin.sum_univ_add (a := 496) (b := 16400) g, Finset.sum_eq_zero fun i _ => h0 (Fin.castAdd 16400 i) i.isLt, zero_add]
  rfl
end Cert.KernelIdeal.Arrays
end
-- ==== Proof.KTail.lean ====
/- What the kernel program's results hold: the lines after the call cut the padding off and add the partial sums. -/
module

public import proofs.«01_k».proof.Proof.KArr
public import Idealize.ShloMosaic.Lib.Claim

@[expose] public section
set_option maxRecDepth 16384
noncomputable section
namespace Cert.KernelIdeal.Tail
open Idealize.ShloMosaic Idealize.ShloMosaic.TcCoe Idealize.SL.Sem
open Cert.KernelIdeal Cert.KernelIdeal.Gen Cert.KernelIdeal.Entry Cert.KernelIdeal.Arrays Cert.Proof.Mlp

variable (m : (ℓ : Loc nD τ sig) → Buf (Elt Ideal) ℓ) (c : Dev nD)

def t27 : FVec Ideal S16400x1024 .f32 := Pipeline.afterTail₀ cfgs (dats m) 0 (V0 m) [hostOps1] c main_v27
def t28 : FVec Ideal S16400x4096 .bf16 := Pipeline.afterTail₀ cfgs (dats m) 0 (V0 m) [hostOps1] c main_v28
def t29 : FVec Ideal S16400x1024 .bf16 := Pipeline.afterTail₀ cfgs (dats m) 0 (V0 m) [hostOps1] c main_v29
def t30 : FVec Ideal S1024 .f32 := Pipeline.afterTail₀ cfgs (dats m) 0 (V0 m) [hostOps1] c main_v30
def t31 : FVec Ideal S1024 .f32 := Pipeline.afterTail₀ cfgs (dats m) 0 (V0 m) [hostOps1] c main_v31

theorem w6 : Pipeline.withArrays (cfgs 0).spec c (V0 m c) (fun w => (dats m 0 c).arrAt w (cfgs 0).N) (Proc.tc.devRef main_v26_0) = DH m c :=
  (Pipeline.withArrays_arr (cfgs 0).spec (by decide) c _ _ 6).trans (arr6 m c)
theorem w7 : Pipeline.withArrays (cfgs 0).spec c (V0 m c) (fun w => (dats m 0 c).arrAt w (cfgs 0).N) (Proc.tc.devRef main_v26_1) = DU m c :=
  (Pipeline.withArrays_arr (cfgs 0).spec (by decide) c _ _ 7).trans (arr7 m c)
theorem w8 : Pipeline.withArrays (cfgs 0).spec c (V0 m c) (fun w => (dats m 0 c).arrAt w (cfgs 0).N) (Proc.tc.devRef main_v26_2) = DF m c :=
  (Pipeline.withArrays_arr (cfgs 0).spec (by decide) c _ _ 8).trans (arr8 m c)
theorem w9 : Pipeline.withArrays (cfgs 0).spec c (V0 m c) (fun w => (dats m 0 c).arrAt w (cfgs 0).N) (Proc.tc.devRef main_v26_3) = part (rowPre m c) :=
  (Pipeline.withArrays_arr (cfgs 0).spec (by decide) c _ _ 9).trans (arr9 m c)
theorem w10 : Pipeline.withArrays (cfgs 0).spec c (V0 m c) (fun w => (dats m 0 c).arrAt w (cfgs 0).N) (Proc.tc.devRef main_v26_4) = part (rowPost m c) :=
  (Pipeline.withArrays_arr (cfgs 0).spec (by decide) c _ _ 10).trans (arr10 m c)
theorem t27_at (i : Fin 16400) (j : Fin 1024) : t27 m c (ix2 i j) = DH m c (ix2 ⟨496 + i.val, by omega⟩ j) := by
  unfold t27 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w6]
  pointwise
theorem t28_at (i : Fin 16400) (j : Fin 4096) : t28 m c (ix2 i j) = DU m c (ix2 ⟨496 + i.val, by omega⟩ j) := by
  unfold t28 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w7]
  pointwise
theorem t29_at (i : Fin 16400) (j : Fin 1024) : t29 m c (ix2 i j) = DF m c (ix2 ⟨496 + i.val, by omega⟩ j) := by
  unfold t29 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w8]
  pointwise
theorem t30_at (j : Fin 1024) : t30 m c (ix1 j) = ∑ p, rowPre m c p j := by
  rw [← part_sum]
  unfold t30 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w9]
  pointwise
theorem t31_at (j : Fin 1024) : t31 m c (ix1 j) = ∑ p, rowPost m c p j := by
  rw [← part_sum]
  unfold t31 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w10]
  pointwise
end Cert.KernelIdeal.Tail
end
-- ==== Proof.RealOf.lean ====
/- A comparison of magnitudes that holds everywhere says every element is a real number. -/
module

public import proofs.«01_k».proof.Proof.Rms
public import Idealize.ShloMosaic.Lib.Pointwise

@[expose] public section
noncomputable section
namespace Cert.Proof.Pre
open Idealize.ShloMosaic Cert.Proof.Rms

/-- A value whose magnitude is below the top of the line is a real number. -/
theorem real_of {S : Shape} (hb : (⟨0, ![]⟩ : Shape).BroadcastsInDim S ![]) (x : FVec Ideal S .f32)
    (h : cmpf .olt (Host.absf x) (broadcastInDim S ![] hb (constant (F := Ideal) ⟨0, ![]⟩ .f32 0x7F800000#32)) = fun _ => 1#1) (i : S.Idx) : IsReal (x i) := by
  have h1 := congrFun h i
  revert h1
  pointwise
  intro h1
  have h2 : max (x i) (-(x i)) < Ideal.ofBits FTy.f32 2139095040#32 := by
    by_contra hn
    rw [show decide (FloatOps.absf (x i) < Ideal.ofBits FTy.f32 2139095040#32) = false from decide_eq_false hn] at h1
    exact absurd h1 (by decide)
  rw [show Ideal.ofBits FTy.f32 2139095040#32 = ⊤ by simp [Ideal.ofBits, Ideal.ieee]] at h2
  have h3 : x i < ⊤ := lt_of_le_of_lt (le_max_left _ _) h2
  have h4 : -(x i) < ⊤ := lt_of_le_of_lt (le_max_right _ _) h2
  refine ⟨(x i).toReal, (EReal.coe_toReal h3.ne fun hb => ?_).symm⟩
  rw [hb] at h4; exact absurd h4 (by simp)

end Cert.Proof.Pre
end
-- ==== Proof.Pre.lean ====
/- What the precondition says: every argument element is a real number. -/
module

public import proofs.«01_k».proof.Defs
public import proofs.«01_k».proof.Proof.RealOf

@[expose] public section
noncomputable section
namespace Cert.Proof.Pre
open Idealize.ShloMosaic Cert.Proof.Rms

theorem facts : Cert.Pre_finite.Facts := by
  constructor <;> decide

variable [Cert.Pre_finite.Facts] (m : (ℓ : Loc Cert.KernelIdeal.nD Cert.KernelIdeal.τ Cert.KernelIdeal.sig) → Buf (Elt Ideal) ℓ)
  (h : Cert.Pre_KernelIdeal_finite m) (c : Dev Cert.KernelIdeal.nD)
include h
open Cert.KernelIdeal Idealize.ShloMosaic.TcCoe Idealize.SL.Sem
theorem real0 (i : S16400x1024.Idx) : IsReal ((m ((c.tc : Thread nD τ).loc main_arg0) : FVec Ideal S16400x1024 .f32) i) := real_of _ _ (h c).1 i
theorem real1 (i : S1024.Idx) : IsReal ((m ((c.tc : Thread nD τ).loc main_arg1) : FVec Ideal S1024 .f32) i) := real_of _ _ (h c).2.1 i
theorem real2 (i : S1024x4096.Idx) : IsReal ((m ((c.tc : Thread nD τ).loc main_arg2) : FVec Ideal S1024x4096 .f32) i) := real_of _ _ (h c).2.2.1 i
theorem real3 (i : S4096x1024.Idx) : IsReal ((m ((c.tc : Thread nD τ).loc main_arg3) : FVec Ideal S4096x1024 .f32) i) := real_of _ _ (h c).2.2.2.1 i
theorem real4 (i : S1024.Idx) : IsReal ((m ((c.tc : Thread nD τ).loc main_arg4) : FVec Ideal S1024 .f32) i) := real_of _ _ (h c).2.2.2.2.1 i
theorem real5 (i : S16400x1024.Idx) : IsReal ((m ((c.tc : Thread nD τ).loc main_arg5) : FVec Ideal S16400x1024 .f32) i) := real_of _ _ (h c).2.2.2.2.2 i
end Cert.Proof.Pre
end
-- ==== Proof.VHost.lean ====
module

public import proofs.«01_k».proof.Proof.Gen.Kernel2Ideal.Frame
public import Idealize.ShloMosaic.Lib.Pipeline.ValueKit

/-! The host's lines ahead of the call, as functions of the six arguments, a definition for each line. -/

@[expose] public section

set_option maxRecDepth 16384
noncomputable section

open Idealize.ShloMosaic Idealize.ShloMosaic.TcCoe Idealize.SL.Sem

namespace Cert.Kernel2Ideal.Tile
open Cert.Kernel2Ideal Cert.Kernel2Ideal.Gen

def h_v0 : (⟨S16896, .i32⟩ : BufTy).Contents (Elt Ideal) :=
  (iotaInDim S16896 32 0)
def h_c : (⟨S_, .i32⟩ : BufTy).Contents (Elt Ideal) :=
  (constantI S_ 32 496#32)
def h_v1 : (⟨S16896, .i32⟩ : BufTy).Contents (Elt Ideal) :=
  broadcastInDim S16896 ![] bcast_S_S16896 h_c
def h_v2 : (⟨S16896, .i32⟩ : BufTy).Contents (Elt Ideal) :=
  subi h_v0 h_v1
def h_c_0 : (⟨S_, .i32⟩ : BufTy).Contents (Elt Ideal) :=
  (constantI S_ 32 0#32)
def h_v3 : (⟨S16896, .i32⟩ : BufTy).Contents (Elt Ideal) :=
  broadcastInDim S16896 ![] bcast_S_S16896 h_c_0
def h_v4 : (⟨S16896, .i32⟩ : BufTy).Contents (Elt Ideal) :=
  maxsi h_v2 h_v3
def h_v5 : FVec Ideal S16896 .f32 :=
  sitofp .f32 h_v4
def h_v6 : FVec Ideal S32 .f32 :=
  (sitofp .f32 (iotaInDim S32 32 0))
def h_cst : FVec Ideal S_ .f32 :=
  (constant S_ .f32 0x40000000#32)
def h_v7 : FVec Ideal S32 .f32 :=
  broadcastInDim S32 ![] bcast_S_S32 h_cst
def h_v8 : FVec Ideal S32 .f32 :=
  mulf h_v7 h_v6
def h_cst_1 : FVec Ideal S_ .f32 :=
  (constant S_ .f32 0x00000000#32)
def h_v9 : FVec Ideal S32 .f32 :=
  broadcastInDim S32 ![] bcast_S_S32 h_cst_1
def h_v10 : FVec Ideal S32 .f32 :=
  addf h_v9 h_v8
def h_v11 : FVec Ideal S32 .f32 :=
  Host.negf h_v10
def h_cst_2 : FVec Ideal S_ .f32 :=
  (constant S_ .f32 0x42800000#32)
def h_v12 : FVec Ideal S32 .f32 :=
  broadcastInDim S32 ![] bcast_S_S32 h_cst_2
def h_v13 : FVec Ideal S32 .f32 :=
  Host.divf h_v11 h_v12
def h_cst_3 : FVec Ideal S_ .f32 :=
  (constant S_ .f32 0x461C4000#32)
def h_v14 : FVec Ideal S32 .f32 :=
  broadcastInDim S32 ![] bcast_S_S32 h_cst_3
def h_v15 : FVec Ideal S32 .f32 :=
  Host.powf h_v14 h_v13
def h_v16 : FVec Ideal S16896x1 .f32 :=
  broadcastInDim S16896x1 ![0] bcast_S16896_S16896x1_0 h_v5
def h_v17 : FVec Ideal S1x32 .f32 :=
  broadcastInDim S1x32 ![1] bcast_S32_S1x32_1 h_v15
def h_v18 : FVec Ideal S16896x32 .f32 :=
  broadcastInDim S16896x32 ![0, 1] bcast_S16896x1_S16896x32_0_1 h_v16
def h_v19 : FVec Ideal S16896x32 .f32 :=
  broadcastInDim S16896x32 ![0, 1] bcast_S1x32_S16896x32_0_1 h_v17
def h_v20 : FVec Ideal S16896x32 .f32 :=
  mulf h_v18 h_v19
def h_v21 : FVec Ideal S16896x32 .f32 :=
  Host.cos h_v20
def h_v22 : FVec Ideal S16896x32 .f32 :=
  Host.sin h_v20
def h_cst_4 : FVec Ideal S_ .f32 :=
  (constant S_ .f32 0x00000000#32)
def h_v23 : FVec Ideal S16896x32 .f32 :=
  broadcastInDim S16896x32 ![] bcast_S_S16896x32 h_cst_4
def h_cst_5 : FVec Ideal S_ .f32 :=
  (constant S_ .f32 0x00000000#32)
def h_v24 : FVec Ideal S16896x64 .f32 :=
  broadcastInDim S16896x64 ![] bcast_S_S16896x64 h_cst_5
def h_cst_6 : FVec Ideal S_ .f32 :=
  (constant S_ .f32 0x3F800000#32)
def h_v25 : FVec Ideal S16896x64 .f32 :=
  broadcastInDim S16896x64 ![] bcast_S_S16896x64 h_cst_6
def h_v26 : FVec Ideal S16896x128 .f32 :=
  concatenate S16896x128 1 [⟨S16896x32, h_v21⟩, ⟨S16896x32, h_v21⟩, ⟨S16896x64, h_v25⟩] concatenates_S16896x32_S16896x32_S16896x64_S16896x128_d1
def h_v27 : FVec Ideal S16896x32 .f32 :=
  Host.negf h_v22
def h_v28 : FVec Ideal S16896x128 .f32 :=
  concatenate S16896x128 1 [⟨S16896x32, h_v27⟩, ⟨S16896x32, h_v23⟩, ⟨S16896x64, h_v24⟩] concatenates_S16896x32_S16896x32_S16896x64_S16896x128_d1
def h_v29 : FVec Ideal S16896x128 .f32 :=
  concatenate S16896x128 1 [⟨S16896x32, h_v23⟩, ⟨S16896x32, h_v22⟩, ⟨S16896x64, h_v24⟩] concatenates_S16896x32_S16896x32_S16896x64_S16896x128_d1
def h_v30 : FVec Ideal S16400x32 .f32 :=
  extractStridedSlice S16400x32 ![496, 0] h_v26 slices_S16896x128_S16400x32_496_0
def h_v31 : FVec Ideal S16400x1x32 .f32 :=
  broadcastInDim S16400x1x32 ![0, 2] bcast_S16400x32_S16400x1x32_0_2 h_v30
def h_v32 : FVec Ideal S16400x32 .f32 :=
  extractStridedSlice S16400x32 ![496, 32] h_v29 slices_S16896x128_S16400x32_496_32
def h_v33 : FVec Ideal S16400x1x32 .f32 :=
  broadcastInDim S16400x1x32 ![0, 2] bcast_S16400x32_S16400x1x32_0_2 h_v32
def h_v34 (x1 : FVec Ideal S16400x8x64 .f32) : FVec Ideal S16400x8x32 .f32 :=
  extractStridedSlice S16400x8x32 ![0, 0, 0] x1 slices_S16400x8x64_S16400x8x32_0_0_0
def h_v35 (x1 : FVec Ideal S16400x8x64 .f32) : FVec Ideal S16400x8x32 .f32 :=
  extractStridedSlice S16400x8x32 ![0, 0, 32] x1 slices_S16400x8x64_S16400x8x32_0_0_32
def h_v36 : FVec Ideal S16400x8x32 .f32 :=
  broadcastInDim S16400x8x32 ![0, 1, 2] bcast_S16400x1x32_S16400x8x32_0_1_2 h_v31
def h_v37 (x1 : FVec Ideal S16400x8x64 .f32) : FVec Ideal S16400x8x32 .f32 :=
  mulf (h_v34 x1) h_v36
def h_v38 : FVec Ideal S16400x8x32 .f32 :=
  broadcastInDim S16400x8x32 ![0, 1, 2] bcast_S16400x1x32_S16400x8x32_0_1_2 h_v33
def h_v39 (x1 : FVec Ideal S16400x8x64 .f32) : FVec Ideal S16400x8x32 .f32 :=
  mulf (h_v35 x1) h_v38
def h_v40 (x1 : FVec Ideal S16400x8x64 .f32) : FVec Ideal S16400x8x32 .f32 :=
  subf (h_v37 x1) (h_v39 x1)
def h_v41 : FVec Ideal S16400x8x32 .f32 :=
  broadcastInDim S16400x8x32 ![0, 1, 2] bcast_S16400x1x32_S16400x8x32_0_1_2 h_v31
def h_v42 (x1 : FVec Ideal S16400x8x64 .f32) : FVec Ideal S16400x8x32 .f32 :=
  mulf (h_v35 x1) h_v41
def h_v43 : FVec Ideal S16400x8x32 .f32 :=
  broadcastInDim S16400x8x32 ![0, 1, 2] bcast_S16400x1x32_S16400x8x32_0_1_2 h_v33
def h_v44 (x1 : FVec Ideal S16400x8x64 .f32) : FVec Ideal S16400x8x32 .f32 :=
  mulf (h_v34 x1) h_v43
def h_v45 (x1 : FVec Ideal S16400x8x64 .f32) : FVec Ideal S16400x8x32 .f32 :=
  addf (h_v42 x1) (h_v44 x1)
def h_v46 (x1 : FVec Ideal S16400x8x64 .f32) : FVec Ideal S16400x8x64 .f32 :=
  (fun a b => concatenate S16400x8x64 2 [⟨S16400x8x32, a⟩, ⟨S16400x8x32, b⟩] concatenates_S16400x8x32_S16400x8x32_S16400x8x64_d2) (h_v40 x1) (h_v45 x1)
def h_v47 (x3 : FVec Ideal S16400x64 .f32) : FVec Ideal S16400x1x64 .f32 :=
  broadcastInDim S16400x1x64 ![0, 2] bcast_S16400x64_S16400x1x64_0_2 x3
def h_v48 (x3 : FVec Ideal S16400x64 .f32) : FVec Ideal S16400x8x64 .f32 :=
  broadcastInDim S16400x8x64 ![0, 1, 2] bcast_S16400x1x64_S16400x8x64_0_1_2 (h_v47 x3)
def h_v49 (x0 : FVec Ideal S16400x8x128 .f32) (x2 : FVec Ideal S16400x8x128 .f32) : FVec Ideal S8x16400x16400 .f32 :=
  Host.dotGeneral dot_S16400x8x128_S16400x8x128_S8x16400x16400_2_2_0_0_1_1 none x0 x2
def h_v50 (x1 : FVec Ideal S16400x8x64 .f32) (x3 : FVec Ideal S16400x64 .f32) : FVec Ideal S8x16400x16400 .f32 :=
  Host.dotGeneral dot_S16400x8x64_S16400x8x64_S8x16400x16400_2_2_0_0_1_1 none (h_v46 x1) (h_v48 x3)
def h_v51 (x0 : FVec Ideal S16400x8x128 .f32) (x1 : FVec Ideal S16400x8x64 .f32) (x2 : FVec Ideal S16400x8x128 .f32) (x3 : FVec Ideal S16400x64 .f32) : FVec Ideal S8x16400x16400 .f32 :=
  addf (h_v49 x0 x2) (h_v50 x1 x3)
def h_v52 : (⟨S16400, .i32⟩ : BufTy).Contents (Elt Ideal) :=
  (iotaInDim S16400 32 0)
def h_v53 : (⟨S1x1x16400, .i32⟩ : BufTy).Contents (Elt Ideal) :=
  broadcastInDim S1x1x16400 ![2] bcast_S16400_S1x1x16400_2 h_v52
def h_v54 : (⟨S1x16400x1, .i32⟩ : BufTy).Contents (Elt Ideal) :=
  broadcastInDim S1x16400x1 ![1] bcast_S16400_S1x16400x1_1 h_v52
def h_v55 : (⟨S1x16400x16400, .i32⟩ : BufTy).Contents (Elt Ideal) :=
  broadcastInDim S1x16400x16400 ![0, 1, 2] bcast_S1x1x16400_S1x16400x16400_0_1_2 h_v53
def h_v56 : (⟨S1x16400x16400, .i32⟩ : BufTy).Contents (Elt Ideal) :=
  broadcastInDim S1x16400x16400 ![0, 1, 2] bcast_S1x16400x1_S1x16400x16400_0_1_2 h_v54
def h_v57 : (⟨S1x16400x16400, .i1⟩ : BufTy).Contents (Elt Ideal) :=
  cmpi .sle h_v55 h_v56
def h_cst_7 : FVec Ideal S_ .f32 :=
  (constant S_ .f32 0x3D93CD3A#32)
def h_v58 : FVec Ideal S8x16400x16400 .f32 :=
  broadcastInDim S8x16400x16400 ![] bcast_S_S8x16400x16400 h_cst_7
def h_v59 (x0 : FVec Ideal S16400x8x128 .f32) (x1 : FVec Ideal S16400x8x64 .f32) (x2 : FVec Ideal S16400x8x128 .f32) (x3 : FVec Ideal S16400x64 .f32) : FVec Ideal S8x16400x16400 .f32 :=
  mulf (h_v51 x0 x1 x2 x3) h_v58
def h_cst_8 : FVec Ideal S_ .f32 :=
  (constant S_ .f32 0xFF800000#32)
def h_call0_v0 : FVec Ideal S_ .f32 :=
  (id) h_cst_8
def h_call0_v1 : (⟨S8x16400x16400, .i1⟩ : BufTy).Contents (Elt Ideal) :=
  ((broadcastInDim S8x16400x16400 ![0, 1, 2] bcast_S1x16400x16400_S8x16400x16400_0_1_2)) h_v57
def h_call0_v2 : FVec Ideal S8x16400x16400 .f32 :=
  ((broadcastInDim S8x16400x16400 ![] bcast_S_S8x16400x16400)) h_call0_v0
def h_v60 (x0 : FVec Ideal S16400x8x128 .f32) (x1 : FVec Ideal S16400x8x64 .f32) (x2 : FVec Ideal S16400x8x128 .f32) (x3 : FVec Ideal S16400x64 .f32) : FVec Ideal S8x16400x16400 .f32 :=
  (select) h_call0_v1 (h_v59 x0 x1 x2 x3) h_call0_v2
def h_cst_9 : FVec Ideal S_ .f32 :=
  (constant S_ .f32 0xFF800000#32)
def h_v61 (x0 : FVec Ideal S16400x8x128 .f32) (x1 : FVec Ideal S16400x8x64 .f32) (x2 : FVec Ideal S16400x8x128 .f32) (x3 : FVec Ideal S16400x64 .f32) : FVec Ideal S8x16400 .f32 :=
  (fun x v => Host.reduce FloatOps.maximumf x v reducesTo_S8x16400x16400_S8x16400_d2 h_S_) (h_v60 x0 x1 x2 x3) h_cst_9
def h_v62 (x0 : FVec Ideal S16400x8x128 .f32) (x1 : FVec Ideal S16400x8x64 .f32) (x2 : FVec Ideal S16400x8x128 .f32) (x3 : FVec Ideal S16400x64 .f32) : FVec Ideal S8x16400x1 .f32 :=
  broadcastInDim S8x16400x1 ![0, 1] bcast_S8x16400_S8x16400x1_0_1 (h_v61 x0 x1 x2 x3)
def h_v63 (x0 : FVec Ideal S16400x8x128 .f32) (x1 : FVec Ideal S16400x8x64 .f32) (x2 : FVec Ideal S16400x8x128 .f32) (x3 : FVec Ideal S16400x64 .f32) : FVec Ideal S8x16400x16400 .f32 :=
  broadcastInDim S8x16400x16400 ![0, 1, 2] bcast_S8x16400x1_S8x16400x16400_0_1_2 (h_v62 x0 x1 x2 x3)
def h_v64 (x0 : FVec Ideal S16400x8x128 .f32) (x1 : FVec Ideal S16400x8x64 .f32) (x2 : FVec Ideal S16400x8x128 .f32) (x3 : FVec Ideal S16400x64 .f32) : FVec Ideal S8x16400x16400 .f32 :=
  subf (h_v60 x0 x1 x2 x3) (h_v63 x0 x1 x2 x3)
def h_v65 (x0 : FVec Ideal S16400x8x128 .f32) (x1 : FVec Ideal S16400x8x64 .f32) (x2 : FVec Ideal S16400x8x128 .f32) (x3 : FVec Ideal S16400x64 .f32) : FVec Ideal S8x16400x16400 .f32 :=
  Host.exp (h_v64 x0 x1 x2 x3)
def h_cst_10 : FVec Ideal S_ .f32 :=
  (constant S_ .f32 0x00000000#32)
def h_v66 (x0 : FVec Ideal S16400x8x128 .f32) (x1 : FVec Ideal S16400x8x64 .f32) (x2 : FVec Ideal S16400x8x128 .f32) (x3 : FVec Ideal S16400x64 .f32) : FVec Ideal S8x16400 .f32 :=
  (fun x v => Host.reduceAdd x v reducesTo_S8x16400x16400_S8x16400_d2 h_S_) (h_v65 x0 x1 x2 x3) h_cst_10
def h_v67 (x0 : FVec Ideal S16400x8x128 .f32) (x1 : FVec Ideal S16400x8x64 .f32) (x2 : FVec Ideal S16400x8x128 .f32) (x3 : FVec Ideal S16400x64 .f32) : FVec Ideal S8x16400x1 .f32 :=
  broadcastInDim S8x16400x1 ![0, 1] bcast_S8x16400_S8x16400x1_0_1 (h_v66 x0 x1 x2 x3)
def h_v68 (x0 : FVec Ideal S16400x8x128 .f32) (x1 : FVec Ideal S16400x8x64 .f32) (x2 : FVec Ideal S16400x8x128 .f32) (x3 : FVec Ideal S16400x64 .f32) : FVec Ideal S8x16400x16400 .f32 :=
  broadcastInDim S8x16400x16400 ![0, 1, 2] bcast_S8x16400x1_S8x16400x16400_0_1_2 (h_v67 x0 x1 x2 x3)
def h_v69 (x0 : FVec Ideal S16400x8x128 .f32) (x1 : FVec Ideal S16400x8x64 .f32) (x2 : FVec Ideal S16400x8x128 .f32) (x3 : FVec Ideal S16400x64 .f32) : FVec Ideal S8x16400x16400 .f32 :=
  Host.divf (h_v65 x0 x1 x2 x3) (h_v68 x0 x1 x2 x3)
def h_v70 (x0 : FVec Ideal S16400x8x128 .f32) (x1 : FVec Ideal S16400x8x64 .f32) (x2 : FVec Ideal S16400x8x128 .f32) (x3 : FVec Ideal S16400x64 .f32) (x4 : FVec Ideal S16400x8x128 .f32) : FVec Ideal S8x128x16400 .f32 :=
  Host.dotGeneral dot_S16400x8x128_S8x16400x16400_S8x128x16400_0_2_2_1_1_0 none x4 (h_v69 x0 x1 x2 x3)
def h_v71 (x0 : FVec Ideal S16400x8x128 .f32) (x1 : FVec Ideal S16400x8x64 .f32) (x2 : FVec Ideal S16400x8x128 .f32) (x3 : FVec Ideal S16400x64 .f32) (x4 : FVec Ideal S16400x8x128 .f32) : FVec Ideal S16400x8x128 .f32 :=
  transpose S16400x8x128 [2, 0, 1] (h_v70 x0 x1 x2 x3 x4) transposes_S8x128x16400_S16400x8x128_2_0_1
def h_cst_11 : FVec Ideal S_ .f32 :=
  (constant S_ .f32 0x40000000#32)
def h_v72 : FVec Ideal S_ .f32 :=
  Host.log h_cst_11
def h_v73 (x0 : FVec Ideal S16400x8x128 .f32) (x1 : FVec Ideal S16400x8x64 .f32) (x2 : FVec Ideal S16400x8x128 .f32) (x3 : FVec Ideal S16400x64 .f32) : FVec Ideal S8x16400 .f32 :=
  Host.log (h_v66 x0 x1 x2 x3)
def h_v74 (x0 : FVec Ideal S16400x8x128 .f32) (x1 : FVec Ideal S16400x8x64 .f32) (x2 : FVec Ideal S16400x8x128 .f32) (x3 : FVec Ideal S16400x64 .f32) : FVec Ideal S8x16400 .f32 :=
  addf (h_v61 x0 x1 x2 x3) (h_v73 x0 x1 x2 x3)
def h_v75 : FVec Ideal S8x16400 .f32 :=
  broadcastInDim S8x16400 ![] bcast_S_S8x16400 h_v72
def h_v76 (x0 : FVec Ideal S16400x8x128 .f32) (x1 : FVec Ideal S16400x8x64 .f32) (x2 : FVec Ideal S16400x8x128 .f32) (x3 : FVec Ideal S16400x64 .f32) : FVec Ideal S8x16400 .f32 :=
  Host.divf (h_v74 x0 x1 x2 x3) h_v75
def h_v77 (x0 : FVec Ideal S16400x8x128 .f32) (x1 : FVec Ideal S16400x8x64 .f32) (x2 : FVec Ideal S16400x8x128 .f32) (x3 : FVec Ideal S16400x64 .f32) (x4 : FVec Ideal S16400x8x128 .f32) (x5 : FVec Ideal S16400x8x128 .f32) : FVec Ideal S16400x8x128 .f32 :=
  mulf x5 (h_v71 x0 x1 x2 x3 x4)
def h_cst_12 : FVec Ideal S_ .f32 :=
  (constant S_ .f32 0x00000000#32)
def h_v78 (x0 : FVec Ideal S16400x8x128 .f32) (x1 : FVec Ideal S16400x8x64 .f32) (x2 : FVec Ideal S16400x8x128 .f32) (x3 : FVec Ideal S16400x64 .f32) (x4 : FVec Ideal S16400x8x128 .f32) (x5 : FVec Ideal S16400x8x128 .f32) : FVec Ideal S16400x8 .f32 :=
  (fun x v => Host.reduceAdd x v reducesTo_S16400x8x128_S16400x8_d2 h_S_) (h_v77 x0 x1 x2 x3 x4 x5) h_cst_12
def h_v79 (x0 : FVec Ideal S16400x8x128 .f32) (x1 : FVec Ideal S16400x8x64 .f32) (x2 : FVec Ideal S16400x8x128 .f32) (x3 : FVec Ideal S16400x64 .f32) (x4 : FVec Ideal S16400x8x128 .f32) (x5 : FVec Ideal S16400x8x128 .f32) : FVec Ideal S8x16400 .f32 :=
  transpose S8x16400 [1, 0] (h_v78 x0 x1 x2 x3 x4 x5) transposes_S16400x8_S8x16400_1_0
def h_cst_13 : FVec Ideal S_ .f32 :=
  (constant S_ .f32 0x00000000#32)
def h_v80 : FVec Ideal S16400x8x64 .f32 :=
  broadcastInDim S16400x8x64 ![] bcast_S_S16400x8x64 h_cst_13
def h_v81 (x0 : FVec Ideal S16400x8x128 .f32) (x1 : FVec Ideal S16400x8x64 .f32) : FVec Ideal S16400x8x256 .f32 :=
  concatenate S16400x8x256 2 [⟨S16400x8x128, x0⟩, ⟨S16400x8x64, (h_v46 x1)⟩, ⟨S16400x8x64, h_v80⟩] concatenates_S16400x8x128_S16400x8x64_S16400x8x64_S16400x8x256_d2
def h_cst_14 : FVec Ideal S_ .f32 :=
  (constant S_ .f32 0x3D93CD3A#32)
def h_v82 : FVec Ideal S16400x8x256 .f32 :=
  broadcastInDim S16400x8x256 ![] bcast_S_S16400x8x256 h_cst_14
def h_v83 (x0 : FVec Ideal S16400x8x128 .f32) (x1 : FVec Ideal S16400x8x64 .f32) : FVec Ideal S16400x8x256 .f32 :=
  mulf (h_v81 x0 x1) h_v82
def h_v84 : FVec Ideal S16400x8x256 .f32 :=
  broadcastInDim S16400x8x256 ![] bcast_S_S16400x8x256 h_v72
def h_v85 (x0 : FVec Ideal S16400x8x128 .f32) (x1 : FVec Ideal S16400x8x64 .f32) : FVec Ideal S16400x8x256 .f32 :=
  Host.divf (h_v83 x0 x1) h_v84
def h_c_15 : (⟨S_, .i32⟩ : BufTy).Contents (Elt Ideal) :=
  (constantI S_ 32 0#32)
def h_call1_v0 : FVec Ideal S_ .f32 :=
  ((sitofp .f32)) h_c_15
def h_v86 (x0 : FVec Ideal S16400x8x128 .f32) (x1 : FVec Ideal S16400x8x64 .f32) : FVec Ideal S16896x8x256 .f32 :=
  ((fun x v => pad S16896x8x256 ![496, 0, 0] ![0, 0, 0] ![0, 0, 0] x v pads_S16400x8x256_S16896x8x256_49600_000_000 h_S_)) (h_v85 x0 x1) h_call1_v0
def h_v87 (x0 : FVec Ideal S16400x8x128 .f32) (x1 : FVec Ideal S16400x8x64 .f32) : FVec Ideal S16896x8x256 .bf16 :=
  truncf .bf16 (h_v86 x0 x1) bitsLt_bf16_f32
def h_v88 (x0 : FVec Ideal S16400x8x128 .f32) (x1 : FVec Ideal S16400x8x64 .f32) : FVec Ideal S16896x2048 .bf16 :=
  shapeCast _ (h_v87 x0 x1) shapeCasts_S16896x8x256_S16896x2048
def h_v89 (x2 : FVec Ideal S16400x8x128 .f32) (x3 : FVec Ideal S16400x64 .f32) : FVec Ideal S16400x8x256 .f32 :=
  concatenate S16400x8x256 2 [⟨S16400x8x128, x2⟩, ⟨S16400x8x64, (h_v48 x3)⟩, ⟨S16400x8x64, h_v80⟩] concatenates_S16400x8x128_S16400x8x64_S16400x8x64_S16400x8x256_d2
def h_c_16 : (⟨S_, .i32⟩ : BufTy).Contents (Elt Ideal) :=
  (constantI S_ 32 0#32)
def h_call2_v0 : FVec Ideal S_ .f32 :=
  ((sitofp .f32)) h_c_16
def h_v90 (x2 : FVec Ideal S16400x8x128 .f32) (x3 : FVec Ideal S16400x64 .f32) : FVec Ideal S16896x8x256 .f32 :=
  ((fun x v => pad S16896x8x256 ![496, 0, 0] ![0, 0, 0] ![0, 0, 0] x v pads_S16400x8x256_S16896x8x256_49600_000_000 h_S_)) (h_v89 x2 x3) h_call2_v0
def h_v91 (x2 : FVec Ideal S16400x8x128 .f32) (x3 : FVec Ideal S16400x64 .f32) : FVec Ideal S16896x8x256 .bf16 :=
  truncf .bf16 (h_v90 x2 x3) bitsLt_bf16_f32
def h_v92 (x2 : FVec Ideal S16400x8x128 .f32) (x3 : FVec Ideal S16400x64 .f32) : FVec Ideal S16896x2048 .bf16 :=
  shapeCast _ (h_v91 x2 x3) shapeCasts_S16896x8x256_S16896x2048
def h_cst_17 : FVec Ideal S_ .f32 :=
  (constant S_ .f32 0x3F800000#32)
def h_v93 : FVec Ideal S16400x8x128 .f32 :=
  broadcastInDim S16400x8x128 ![] bcast_S_S16400x8x128 h_cst_17
def h_v94 (x4 : FVec Ideal S16400x8x128 .f32) : FVec Ideal S16400x8x256 .f32 :=
  (fun a b => concatenate S16400x8x256 2 [⟨S16400x8x128, a⟩, ⟨S16400x8x128, b⟩] concatenates_S16400x8x128_S16400x8x128_S16400x8x256_d2) x4 h_v93
def h_c_18 : (⟨S_, .i32⟩ : BufTy).Contents (Elt Ideal) :=
  (constantI S_ 32 0#32)
def h_call3_v0 : FVec Ideal S_ .f32 :=
  ((sitofp .f32)) h_c_18
def h_v95 (x4 : FVec Ideal S16400x8x128 .f32) : FVec Ideal S16896x8x256 .f32 :=
  ((fun x v => pad S16896x8x256 ![496, 0, 0] ![0, 0, 0] ![0, 0, 0] x v pads_S16400x8x256_S16896x8x256_49600_000_000 h_S_)) (h_v94 x4) h_call3_v0
def h_v96 (x4 : FVec Ideal S16400x8x128 .f32) : FVec Ideal S16896x8x256 .bf16 :=
  truncf .bf16 (h_v95 x4) bitsLt_bf16_f32
def h_v97 (x4 : FVec Ideal S16400x8x128 .f32) : FVec Ideal S16896x2048 .bf16 :=
  shapeCast _ (h_v96 x4) shapeCasts_S16896x8x256_S16896x2048
def h_c_19 : (⟨S_, .i32⟩ : BufTy).Contents (Elt Ideal) :=
  (constantI S_ 32 0#32)
def h_call4_v0 : FVec Ideal S_ .f32 :=
  ((sitofp .f32)) h_c_19
def h_v98 (x5 : FVec Ideal S16400x8x128 .f32) : FVec Ideal S16896x8x128 .f32 :=
  ((fun x v => pad S16896x8x128 ![496, 0, 0] ![0, 0, 0] ![0, 0, 0] x v pads_S16400x8x128_S16896x8x128_49600_000_000 h_S_)) x5 h_call4_v0
def h_v99 (x5 : FVec Ideal S16400x8x128 .f32) : FVec Ideal S16896x8x128 .bf16 :=
  truncf .bf16 (h_v98 x5) bitsLt_bf16_f32
def h_v100 (x5 : FVec Ideal S16400x8x128 .f32) : FVec Ideal S16896x1024 .bf16 :=
  shapeCast _ (h_v99 x5) shapeCasts_S16896x8x128_S16896x1024
def h_c_20 : (⟨S_, .i32⟩ : BufTy).Contents (Elt Ideal) :=
  (constantI S_ 32 0#32)
def h_call5_v0 : FVec Ideal S_ .f32 :=
  ((sitofp .f32)) h_c_20
def h_v101 (x0 : FVec Ideal S16400x8x128 .f32) (x1 : FVec Ideal S16400x8x64 .f32) (x2 : FVec Ideal S16400x8x128 .f32) (x3 : FVec Ideal S16400x64 .f32) : FVec Ideal S8x16896 .f32 :=
  ((fun x v => pad S8x16896 ![0, 496] ![0, 0] ![0, 0] x v pads_S8x16400_S8x16896_000_49600 h_S_)) (h_v76 x0 x1 x2 x3) h_call5_v0
def h_v102 (x0 : FVec Ideal S16400x8x128 .f32) (x1 : FVec Ideal S16400x8x64 .f32) (x2 : FVec Ideal S16400x8x128 .f32) (x3 : FVec Ideal S16400x64 .f32) : FVec Ideal S8x1x16896 .f32 :=
  broadcastInDim S8x1x16896 ![0, 2] bcast_S8x16896_S8x1x16896_0_2 (h_v101 x0 x1 x2 x3)
def h_c_21 : (⟨S_, .i32⟩ : BufTy).Contents (Elt Ideal) :=
  (constantI S_ 32 0#32)
def h_call6_v0 : FVec Ideal S_ .f32 :=
  ((sitofp .f32)) h_c_21
def h_v103 (x0 : FVec Ideal S16400x8x128 .f32) (x1 : FVec Ideal S16400x8x64 .f32) (x2 : FVec Ideal S16400x8x128 .f32) (x3 : FVec Ideal S16400x64 .f32) (x4 : FVec Ideal S16400x8x128 .f32) (x5 : FVec Ideal S16400x8x128 .f32) : FVec Ideal S8x16896 .f32 :=
  ((fun x v => pad S8x16896 ![0, 496] ![0, 0] ![0, 0] x v pads_S8x16400_S8x16896_000_49600 h_S_)) (h_v79 x0 x1 x2 x3 x4 x5) h_call6_v0
def h_v104 (x0 : FVec Ideal S16400x8x128 .f32) (x1 : FVec Ideal S16400x8x64 .f32) (x2 : FVec Ideal S16400x8x128 .f32) (x3 : FVec Ideal S16400x64 .f32) (x4 : FVec Ideal S16400x8x128 .f32) (x5 : FVec Ideal S16400x8x128 .f32) : FVec Ideal S8x1x16896 .f32 :=
  broadcastInDim S8x1x16896 ![0, 2] bcast_S8x16896_S8x1x16896_0_2 (h_v103 x0 x1 x2 x3 x4 x5)

end Cert.Kernel2Ideal.Tile

end
-- ==== Proof.Attn.lean ====
module

public import Idealize.ShloMosaic.PureOps.Ideal
public import Mathlib.Analysis.SpecialFunctions.Pow.Real

/-! The gradient of one head's attention over the reals: on the rows themselves, and on the rows with 496 rows of zeros
    in front, where the weights are powers of two and two statistics of each row come from the forward pass. -/

@[expose] public section

noncomputable section

namespace Cert.Proof.Attn

/-- A row after the 496 in front. -/
abbrev up (q : Fin 16400) : Fin 16896 := ⟨496 + q.val, by omega⟩

theorem sum_rows (f : Fin 16896 → ℝ) (h : ∀ r : Fin 16896, r.val < 496 → f r = 0) : ∑ r, f r = ∑ q : Fin 16400, f (up q) := by
  have e : ∑ r : Fin (496 + 16400), f r = _ := Fin.sum_univ_add (a := 496) (b := 16400) f
  refine e.trans ?_
  rw [Finset.sum_eq_zero (fun i _ => h _ i.isLt), zero_add]
  rfl

/-- The rows of one head. -/
structure Head where
  q : Fin 16400 → Fin 256 → ℝ
  k : Fin 16400 → Fin 256 → ℝ
  v : Fin 16400 → Fin 128 → ℝ
  o : Fin 16400 → Fin 128 → ℝ
  s : ℝ
  m : Fin 16400 → ℝ

variable (H : Head)

namespace Head
def z (q k : Fin 16400) : ℝ := (∑ c, H.q q c * H.k k c) * H.s
def e (q k : Fin 16400) : ℝ := if k.val ≤ q.val then Real.exp (H.z q k - H.m q) else 0
def l (q : Fin 16400) : ℝ := ∑ k, H.e q k
def p (q k : Fin 16400) : ℝ := H.e q k / H.l q
def dp (q k : Fin 16400) : ℝ := ∑ d, H.o q d * H.v k d
def d (q : Fin 16400) : ℝ := ∑ k, H.p q k * H.dp q k
def ds (q k : Fin 16400) : ℝ := H.p q k * (H.dp q k - H.d q)
def dv (k : Fin 16400) (c : Fin 128) : ℝ := ∑ q, H.p q k * H.o q c
def dq (q : Fin 16400) (c : Fin 256) : ℝ := ∑ k, H.ds q k * H.s * H.k k c
def dk (k : Fin 16400) (c : Fin 256) : ℝ := ∑ q, H.ds q k * H.s * H.q q c

theorem e_nonneg (q k : Fin 16400) : 0 ≤ H.e q k := by unfold e; split; exacts [(Real.exp_pos _).le, le_rfl]
theorem l_pos (q : Fin 16400) : 0 < H.l q :=
  Finset.sum_pos' (fun k _ => H.e_nonneg q k) ⟨q, Finset.mem_univ _, by unfold e; rw [if_pos le_rfl]; exact Real.exp_pos _⟩

/-- The second statistic, as the forward pass has it: the cotangent's rows against the attention's result. -/
theorem d_out (q : Fin 16400) : ∑ c, H.o q c * (∑ k, H.p q k * H.v k c) = H.d q := by
  unfold d dp
  simp only [Finset.mul_sum]
  rw [Finset.sum_comm]
  exact Finset.sum_congr rfl fun k _ => Finset.sum_congr rfl fun c _ => by ring
end Head

/-- The padded arrays of one head. -/
structure Pad where
  q : Fin 16896 → Fin 256 → ℝ
  k : Fin 16896 → Fin 256 → ℝ
  v : Fin 16896 → Fin 128 → ℝ
  o : Fin 16896 → Fin 128 → ℝ
  l : Fin 16896 → ℝ
  d : Fin 16896 → ℝ

namespace Pad
variable (X : Pad)
/-- The weight of key row `R` for query row `r`. -/
def p (R r : Fin 16896) : ℝ :=
  if R.val ≤ r.val ∧ (496 ≤ R.val ∨ r.val < 496) ∧ 384 ≤ R.val then Real.rpow 2 ((∑ c, X.k R c * X.q r c) - X.l r) else 0
def ds (R r : Fin 16896) : ℝ := X.p R r * ((∑ c, X.v R c * X.o r c) - X.d r)

theorem p_zero (R r : Fin 16896) (h : r.val < R.val) : X.p R r = 0 := by unfold p; rw [if_neg (by omega)]
theorem ds_zero (R r : Fin 16896) (h : r.val < R.val) : X.ds R r = 0 := by unfold ds; rw [X.p_zero R r h, zero_mul]
end Pad

/-- The padded arrays the rows give. -/
structure Pad.Of (X : Pad) : Prop where
  q : ∀ r c, X.q (up r) c = H.q r c * H.s / Real.log 2
  k : ∀ r c, X.k (up r) c = H.k r c
  v : ∀ r c, X.v (up r) c = H.v r c
  o : ∀ r c, X.o (up r) c = H.o r c
  l : ∀ r, X.l (up r) = (H.m r + Real.log (H.l r)) / Real.log 2
  d : ∀ r, X.d (up r) = H.d r
  o0 : ∀ r : Fin 16896, r.val < 496 → ∀ c, X.o r c = 0
  d0 : ∀ r : Fin 16896, r.val < 496 → X.d r = 0

variable {H} {X : Pad} (h : Pad.Of H X)
include h

theorem Pad.Of.p_up (q k : Fin 16400) : X.p (up k) (up q) = H.p q k := by
  unfold Pad.p Head.p Head.e
  have hc : ((up k).val ≤ (up q).val ∧ (496 ≤ (up k).val ∨ (up q).val < 496) ∧ 384 ≤ (up k).val) ↔ k.val ≤ q.val := by
    show (496 + k.val ≤ 496 + q.val ∧ (496 ≤ 496 + k.val ∨ 496 + q.val < 496) ∧ 384 ≤ 496 + k.val) ↔ _
    omega
  by_cases hk : k.val ≤ q.val
  · rw [if_pos (hc.mpr hk), if_pos hk]
    have h2 : Real.log 2 ≠ 0 := (Real.log_pos (by norm_num)).ne'
    have hl := H.l_pos q
    have e : (∑ c, X.k (up k) c * X.q (up q) c) - X.l (up q) = (H.z q k - H.m q - Real.log (H.l q)) / Real.log 2 := by
      simp only [h.q, h.k, h.l]
      unfold Head.z
      rw [Finset.sum_mul, sub_sub, sub_div, Finset.sum_div]
      congr 1
      exact Finset.sum_congr rfl fun c _ => by ring
    rw [e]
    show (2 : ℝ) ^ (_ : ℝ) = _
    rw [Real.rpow_def_of_pos (by norm_num), mul_div_cancel₀ _ h2, Real.exp_sub, Real.exp_log hl]
  · rw [if_neg (fun w => hk (hc.mp w)), if_neg hk, zero_div]
theorem Pad.Of.p_low (k : Fin 16400) (r : Fin 16896) (hr : r.val < 496) : X.p (up k) r = 0 := X.p_zero _ _ (by show _ < 496 + k.val; omega)
theorem Pad.Of.ds_up (q k : Fin 16400) : X.ds (up k) (up q) = H.ds q k := by
  unfold Pad.ds Head.ds Head.dp
  rw [h.p_up, h.d]
  simp only [h.v, h.o]
  congr 2
  exact Finset.sum_congr rfl fun c _ => mul_comm _ _
theorem Pad.Of.ds_low (R r : Fin 16896) (hR : R.val < 496) : X.ds R r = 0 := by
  unfold Pad.ds
  by_cases hr : r.val < 496
  · simp only [h.o0 r hr, h.d0 r hr, mul_zero, Finset.sum_const_zero, sub_zero]
  · unfold Pad.p
    rw [if_neg (by omega), zero_mul]

theorem Pad.Of.dv (k : Fin 16400) (c : Fin 128) : ∑ r, X.p (up k) r * X.o r c = H.dv k c := by
  rw [sum_rows _ fun r hr => by rw [h.p_low k r hr, zero_mul]]
  exact Finset.sum_congr rfl fun q _ => by rw [h.p_up, h.o]
theorem Pad.Of.dk (k : Fin 16400) (c : Fin 256) : (∑ r, X.ds (up k) r * X.q r c) * Real.log 2 = H.dk k c := by
  have h2 : Real.log 2 ≠ 0 := (Real.log_pos (by norm_num)).ne'
  rw [sum_rows _ fun r hr => by rw [X.ds_zero _ _ (show _ < 496 + k.val by omega), zero_mul], Finset.sum_mul]
  exact Finset.sum_congr rfl fun q _ => by rw [h.ds_up, h.q]; field_simp
theorem Pad.Of.dq (q : Fin 16400) (c : Fin 256) : (∑ R, X.ds R (up q) * X.k R c) * H.s = H.dq q c := by
  rw [sum_rows _ fun R hR => by rw [h.ds_low R _ hR, zero_mul], Finset.sum_mul]
  exact Finset.sum_congr rfl fun k _ => by rw [h.ds_up, h.k]; ring

end Cert.Proof.Attn

end
-- ==== Proof.Heads.lean ====
module

public import proofs.«01_k».proof.Proof.Attn
public import proofs.«01_k».proof.Proof.Rms

/-! The heads of a sequence, from the real arrays both programs are given. -/

@[expose] public section

noncomputable section

namespace Cert.Proof.Attn
open Idealize.ShloMosaic
open Cert.Proof.Rms (coe_sum IsReal)

/-- The six arrays. -/
structure Seq where
  qn : Fin 16400 → Fin 8 → Fin 128 → ℝ
  qr : Fin 16400 → Fin 8 → Fin 64 → ℝ
  kn : Fin 16400 → Fin 8 → Fin 128 → ℝ
  kr : Fin 16400 → Fin 64 → ℝ
  v : Fin 16400 → Fin 8 → Fin 128 → ℝ
  o : Fin 16400 → Fin 8 → Fin 128 → ℝ

/-- The angle of a position, its cosine and its sine. -/
def freq (x : Fin 32) : ℝ := Real.rpow 10000 (-(0 + 2 * (x.val : ℝ)) / 64)
def cs (q : Fin 16400) (x : Fin 32) : ℝ := Real.cos ((q.val : ℝ) * freq x)
def sn (q : Fin 16400) (x : Fin 32) : ℝ := Real.sin ((q.val : ℝ) * freq x)

/-- The two halves of a row's rotary part. -/
abbrev fst (x : Fin 32) : Fin 64 := ⟨x.val, by omega⟩
abbrev snd (x : Fin 32) : Fin 64 := ⟨32 + x.val, by omega⟩

theorem half_cases (x : Fin 64) : (∃ y : Fin 32, x = fst y) ∨ (∃ y : Fin 32, x = snd y) := by
  by_cases h : x.val < 32
  · exact Or.inl ⟨⟨x.val, h⟩, rfl⟩
  · exact Or.inr ⟨⟨x.val - 32, by omega⟩, Fin.ext (by show x.val = 32 + (x.val - 32); omega)⟩

/-- The literal scale, a rational. -/
def scale : ℝ := (Ideal.ofBits FTy.f32 0x3D93CD3A#32).toReal
theorem scale_eq : Ideal.ofBits FTy.f32 0x3D93CD3A#32 = ((scale : ℝ) : EReal) := by
  unfold scale
  simp [Ideal.ofBits, Ideal.ieee, -EReal.coe_mul]

namespace Seq
variable (S : Seq)

def rot (q : Fin 16400) (h : Fin 8) (x : Fin 64) : ℝ :=
  if hx : x.val < 32 then S.qr q h (fst ⟨x.val, hx⟩) * cs q ⟨x.val, hx⟩ - S.qr q h (snd ⟨x.val, hx⟩) * sn q ⟨x.val, hx⟩
  else S.qr q h (snd ⟨x.val - 32, by omega⟩) * cs q ⟨x.val - 32, by omega⟩ + S.qr q h (fst ⟨x.val - 32, by omega⟩) * sn q ⟨x.val - 32, by omega⟩
theorem rot_fst (q : Fin 16400) (h : Fin 8) (x : Fin 32) : S.rot q h (fst x) = S.qr q h (fst x) * cs q x - S.qr q h (snd x) * sn q x := by
  unfold rot; exact dif_pos x.isLt
theorem rot_snd (q : Fin 16400) (h : Fin 8) (x : Fin 32) : S.rot q h (snd x) = S.qr q h (snd x) * cs q x + S.qr q h (fst x) * sn q x := by
  unfold rot
  rw [dif_neg (by show ¬ 32 + x.val < 32; omega)]
  have e : (⟨32 + x.val - 32, by omega⟩ : Fin 32) = x := Fin.ext (by show 32 + x.val - 32 = x.val; omega)
  show S.qr q h (snd ⟨32 + x.val - 32, _⟩) * cs q ⟨32 + x.val - 32, _⟩ + _ = _
  rw [e]

/-- A row of 256 lanes: 128, 64 and zeros. -/
def wide (n : Fin 128 → ℝ) (r : Fin 64 → ℝ) (c : Fin 256) : ℝ :=
  if h : c.val < 128 then n ⟨c.val, h⟩ else if h' : c.val < 192 then r ⟨c.val - 128, by omega⟩ else 0

/-- The largest score a query row sees. -/
def score (q : Fin 16400) (h : Fin 8) (k : Fin 16400) : ℝ := ((∑ d, S.qn q h d * S.kn k h d) + ∑ d, S.rot q h d * S.kr k d) * scale
def seen (q : Fin 16400) (h : Fin 8) (k : Fin 16400) : EReal := if k.val ≤ q.val then ((S.score q h k : ℝ) : EReal) else ⊥
def top (q : Fin 16400) (h : Fin 8) : ℝ := (Finset.univ.sup (S.seen q h)).toReal

theorem top_eq (q : Fin 16400) (h : Fin 8) : Finset.univ.sup (S.seen q h) = ((S.top q h : ℝ) : EReal) := by
  unfold top
  refine (EReal.coe_toReal (ne_of_lt ?_) (ne_of_gt ?_)).symm
  · refine (Finset.sup_lt_iff bot_lt_top).mpr fun k _ => ?_
    unfold seen
    split
    · exact EReal.coe_lt_top _
    · exact bot_lt_top
  · refine lt_of_lt_of_le ?_ (Finset.le_sup (f := S.seen q h) (Finset.mem_univ q))
    unfold seen
    rw [if_pos le_rfl]
    exact EReal.bot_lt_coe _

/-- A head. -/
def head (h : Fin 8) : Head where
  q r := wide (S.qn r h) (S.rot r h)
  k r := wide (S.kn r h) (S.kr r)
  v r := S.v r h
  o r := S.o r h
  s := scale
  m r := S.top r h

theorem sum_wide (n n' : Fin 128 → ℝ) (r r' : Fin 64 → ℝ) : ∑ c, wide n r c * wide n' r' c = (∑ d, n d * n' d) + ∑ d, r d * r' d := by
  have e1 : ∑ c : Fin (128 + (64 + 64)), wide n r c * wide n' r' c = _ := Fin.sum_univ_add (a := 128) (b := 64 + 64) _
  refine e1.trans (congrArg₂ (· + ·) (Finset.sum_congr rfl fun d _ => ?_) ?_)
  · unfold wide
    have hd : (Fin.castAdd (64 + 64) d).val < 128 := d.isLt
    rw [dif_pos hd, dif_pos hd]
    rfl
  · rw [Fin.sum_univ_add]
    refine (congrArg₂ (· + ·) (Finset.sum_congr rfl fun d _ => ?_) (Finset.sum_eq_zero fun d _ => ?_)).trans (add_zero _)
    · unfold wide
      have e : (Fin.natAdd 128 (Fin.castAdd 64 d)).val = 128 + d.val := rfl
      rw [dif_neg (by omega), dif_pos (by omega), dif_neg (by omega), dif_pos (by omega)]
      have e2 : (⟨(Fin.natAdd 128 (Fin.castAdd 64 d)).val - 128, by omega⟩ : Fin 64) = d := Fin.ext (by show 128 + d.val - 128 = d.val; omega)
      rw [e2]
    · unfold wide
      have e : (Fin.natAdd 128 (Fin.natAdd 64 d)).val = 128 + (64 + d.val) := rfl
      rw [dif_neg (by omega), dif_neg (by omega), zero_mul]

theorem z_eq (q : Fin 16400) (h : Fin 8) (k : Fin 16400) : (S.head h).z q k = S.score q h k := by
  unfold Head.z score
  exact congrArg (· * scale) (sum_wide _ _ _ _)

abbrev wn (d : Fin 128) : Fin 256 := ⟨d.val, by omega⟩
abbrev wr (d : Fin 64) : Fin 256 := ⟨128 + d.val, by omega⟩
theorem wide_n (n : Fin 128 → ℝ) (r : Fin 64 → ℝ) (d : Fin 128) : wide n r (wn d) = n d := by unfold wide; exact dif_pos d.isLt
theorem wide_r (n : Fin 128 → ℝ) (r : Fin 64 → ℝ) (d : Fin 64) : wide n r (wr d) = r d := by
  unfold wide
  rw [dif_neg (by show ¬ 128 + d.val < 128; omega), dif_pos (by show 128 + d.val < 192; omega)]
  exact congrArg r (Fin.ext (by show 128 + d.val - 128 = d.val; omega))

/-- The rotary part of the query gradient, turned back. -/
def back (h : Fin 8) (q : Fin 16400) (x : Fin 64) : ℝ :=
  if hx : x.val < 32 then (S.head h).dq q (wr (snd ⟨x.val, hx⟩)) * sn q ⟨x.val, hx⟩ + (S.head h).dq q (wr (fst ⟨x.val, hx⟩)) * cs q ⟨x.val, hx⟩
  else (S.head h).dq q (wr (snd ⟨x.val - 32, by omega⟩)) * cs q ⟨x.val - 32, by omega⟩ + -(S.head h).dq q (wr (fst ⟨x.val - 32, by omega⟩)) * sn q ⟨x.val - 32, by omega⟩
theorem back_fst (h : Fin 8) (q : Fin 16400) (x : Fin 32) : S.back h q (fst x) = (S.head h).dq q (wr (snd x)) * sn q x + (S.head h).dq q (wr (fst x)) * cs q x := by
  unfold back; exact dif_pos x.isLt
theorem back_snd (h : Fin 8) (q : Fin 16400) (x : Fin 32) : S.back h q (snd x) = (S.head h).dq q (wr (snd x)) * cs q x + -(S.head h).dq q (wr (fst x)) * sn q x := by
  unfold back
  rw [dif_neg (by show ¬ 32 + x.val < 32; omega)]
  have e : (⟨32 + x.val - 32, by omega⟩ : Fin 32) = x := Fin.ext (by show 32 + x.val - 32 = x.val; omega)
  show (S.head h).dq q (wr (snd ⟨32 + x.val - 32, _⟩)) * cs q ⟨32 + x.val - 32, _⟩ + -(S.head h).dq q (wr (fst ⟨32 + x.val - 32, _⟩)) * sn q ⟨32 + x.val - 32, _⟩ = _
  rw [e]
end Seq

end Cert.Proof.Attn

end
-- ==== Proof.Steps.lean ====
module

public import proofs.«01_k».proof.Proof.Heads
public import Idealize.ShloMosaic.Lib.WordCmp

/-! One step each of the attention, over the extended reals, as quantities of the heads. -/

@[expose] public section

noncomputable section

namespace Cert.Proof.Attn
open Idealize.ShloMosaic
open Cert.Proof.Rms (coe_sum)

theorem lit0 : Ideal.ofBits FTy.f32 0#32 = 0 := by simp [Ideal.ofBits, Ideal.ieee]
theorem lit1 : Ideal.ofBits FTy.f32 1065353216#32 = ((1 : ℝ) : EReal) := by simp [Ideal.ofBits, Ideal.ieee, -EReal.coe_mul]; norm_num
theorem lit2 : Ideal.ofBits FTy.f32 1073741824#32 = ((2 : ℝ) : EReal) := by simp [Ideal.ofBits, Ideal.ieee, -EReal.coe_mul]; norm_num
theorem lit64 : Ideal.ofBits FTy.f32 1115684864#32 = ((64 : ℝ) : EReal) := by simp [Ideal.ofBits, Ideal.ieee, -EReal.coe_mul]; norm_num
theorem lit4 : Ideal.ofBits FTy.f32 1176256512#32 = ((10000 : ℝ) : EReal) := by simp [Ideal.ofBits, Ideal.ieee, -EReal.coe_mul]; norm_num
theorem litb : Ideal.ofBits FTy.f32 4286578688#32 = ⊥ := by simp [Ideal.ofBits, Ideal.ieee]

theorem word_nat (n : Nat) (h : n < 2147483648) : FloatOps.sitofp (F := Ideal) FTy.f32 (BitVec.ofNat 32 n) = (((n : ℝ)) : EReal) := by
  have e : (BitVec.ofNat 32 n).toInt = (n : Int) := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e]
  norm_cast

theorem freq_pow (x : Fin 32) : Ideal.pow (Ideal.ofBits FTy.f32 1176256512#32)
    (Ideal.div (-(Ideal.ofBits FTy.f32 1073741824#32 * FloatOps.sitofp (F := Ideal) FTy.f32 (BitVec.ofNat 32 x.val))) (Ideal.ofBits FTy.f32 1115684864#32))
      = ((freq x : ℝ) : EReal) := by
  rw [lit4, lit2, lit64, word_nat _ (by omega), Ideal.div_coe (by norm_num), ← EReal.coe_mul, ← EReal.coe_neg, ← EReal.coe_mul]
  show ((Real.rpow _ _ : ℝ) : EReal) = _
  exact congrArg (fun t : ℝ => ((Real.rpow 10000 t : ℝ) : EReal)) (by ring)

namespace Seq
variable (S : Seq)

theorem score_coe (q : Fin 16400) (h : Fin 8) (k : Fin 16400) :
    ((∑ x, ((S.qn q h x : ℝ) : EReal) * ((S.kn k h x : ℝ) : EReal)) + ∑ x, ((S.rot q h x : ℝ) : EReal) * ((S.kr k x : ℝ) : EReal)) * ((scale : ℝ) : EReal)
      = ((S.score q h k : ℝ) : EReal) := by
  unfold score
  simp only [← EReal.coe_mul, ← coe_sum, ← EReal.coe_add]

theorem seen_sel (q : Fin 16400) (h : Fin 8) (k : Fin 16400) :
    Scalar.select (IntOp.cmpi .sle (BitVec.ofNat 32 k.val) (BitVec.ofNat 32 q.val)) ((S.score q h k : ℝ) : EReal) ⊥ = S.seen q h k := by
  rw [WordCmp.cmpi_sle_ofNat (by omega) (by omega)]
  unfold seen
  by_cases hk : k.val ≤ q.val
  · rw [if_pos hk]; simp [hk, Scalar.select]
  · rw [if_neg hk]; simp [hk, Scalar.select]

theorem top_fold (q : Fin 16400) (h : Fin 8) : Finset.fold max ⊥ (fun k => S.seen q h k) Finset.univ = ((S.top q h : ℝ) : EReal) :=
  (show _ = Finset.univ.sup (S.seen q h) from rfl).trans (S.top_eq q h)

theorem exp_seen (q : Fin 16400) (h : Fin 8) (k : Fin 16400) :
    Ideal.exp (S.seen q h k - ((S.top q h : ℝ) : EReal)) = (((S.head h).e q k : ℝ) : EReal) := by
  have hz : (S.head h).z q k = S.score q h k := S.z_eq q h k
  by_cases hk : k.val ≤ q.val
  · have e1 : S.seen q h k = ((S.score q h k : ℝ) : EReal) := if_pos hk
    have e2 : (S.head h).e q k = Real.exp ((S.head h).z q k - (S.head h).m q) := by unfold Head.e; exact if_pos hk
    have e3 : (S.head h).m q = S.top q h := by simp only [head]
    rw [e1, e2, e3, hz, ← EReal.coe_sub, Ideal.exp_coe]
  · have e1 : S.seen q h k = ⊥ := if_neg hk
    have e2 : (S.head h).e q k = 0 := by unfold Head.e; exact if_neg hk
    rw [e1, e2, EReal.bot_sub, Ideal.exp_bot, EReal.coe_zero]

theorem p_div (q : Fin 16400) (h : Fin 8) (k : Fin 16400) :
    Ideal.div (((S.head h).e q k : ℝ) : EReal) (((S.head h).l q : ℝ) : EReal) = (((S.head h).p q k : ℝ) : EReal) := by
  rw [Ideal.div_coe ((S.head h).l_pos q).ne', ← EReal.coe_mul]
  exact congrArg _ (by unfold Head.p; ring)

theorem e_zero (q : Fin 16400) (h : Fin 8) (k : Fin 16400) (hk : ¬ k.val ≤ q.val) : (S.head h).e q k = 0 := by unfold Head.e; exact if_neg hk

theorem sel (q k : Fin 16400) (a b : EReal) :
    Scalar.select (IntOp.cmpi .sle (BitVec.ofNat 32 k.val) (BitVec.ofNat 32 q.val)) a b = if k.val ≤ q.val then a else b := by
  rw [WordCmp.cmpi_sle_ofNat (by omega) (by omega)]
  by_cases hk : k.val ≤ q.val <;> simp [hk, Scalar.select]

/-- The softmax's gradient as autodiff writes it: quotient and sum of products apart. -/
theorem ds_sel (q : Fin 16400) (h : Fin 8) (k : Fin 16400) :
    Scalar.select (IntOp.cmpi .sle (BitVec.ofNat 32 k.val) (BitVec.ofNat 32 q.val))
      ((Ideal.div (((S.head h).dp q k : ℝ) : EReal) (((S.head h).l q : ℝ) : EReal) + ((-((S.head h).d q / (S.head h).l q) : ℝ) : EReal))
        * (((S.head h).e q k : ℝ) : EReal) * ((scale : ℝ) : EReal)) 0 = (((S.head h).ds q k * scale : ℝ) : EReal) := by
  have hl := ((S.head h).l_pos q).ne'
  rw [sel]
  by_cases hk : k.val ≤ q.val
  · rw [if_pos hk, Ideal.div_coe hl, ← EReal.coe_mul, ← EReal.coe_add, ← EReal.coe_mul, ← EReal.coe_mul]
    refine congrArg _ ?_
    unfold Head.ds Head.p
    field_simp
    ring
  · rw [if_neg hk]
    unfold Head.ds Head.p
    rw [S.e_zero q h k hk, zero_div, zero_mul, zero_mul, EReal.coe_zero]

end Seq
end Cert.Proof.Attn

end
-- ==== Proof.VRowA.lean ====
module

public import proofs.«01_k».proof.Proof.VHost
public import proofs.«01_k».proof.Proof.Steps
public import Idealize.ShloMosaic.Lib.Pointwise
public import Idealize.ShloMosaic.Lib.VecWindow
public import Idealize.ShloMosaic.Lib.Pipeline.ReadBack

/-! The host's lines, element by element: the tables of angles, and the two statistics of a row of scores. -/

@[expose] public section

set_option maxRecDepth 16384
noncomputable section

namespace Cert.Kernel2Ideal.Tile

open Idealize.ShloMosaic Idealize.ShloMosaic.TcCoe Idealize.SL.Sem
open Cert.Kernel2Ideal Cert.Kernel2Ideal.Gen Cert.Proof.Attn Cert.Proof.Attn.Seq
open Cert.Proof.Rms (coe_sum)

theorem row_word (q : Fin 16400) : IntOp.maxsi (BitVec.ofNat 32 (496 + q.val) - 496#32) 0#32 = BitVec.ofNat 32 q.val := by
  have e : BitVec.ofNat 32 (496 + q.val) - 496#32 = BitVec.ofNat 32 q.val := by
    apply BitVec.eq_of_toNat_eq
    simp only [BitVec.toNat_sub, BitVec.toNat_ofNat]
    omega
  rw [e]
  have hq : (BitVec.ofNat 32 q.val).toInt = (q.val : Int) := by
    rw [BitVec.toInt_eq_toNat_of_lt (by rw [BitVec.toNat_ofNat]; omega), BitVec.toNat_ofNat, Nat.mod_eq_of_lt (by omega)]
  unfold IntOp.maxsi
  simp [BitVec.sle, BitVec.slt, hq]
  intro h0
  rw [h0]
  rfl

theorem hang_at (q : Fin 16400) (x : Fin 32) : h_v20 (ix2 (up q) x) = (((q.val : ℝ) * freq x : ℝ) : EReal) := by
  pointwise [h_v20, h_v19, h_v18, h_v17, h_v16, h_v15, h_v14, h_v13, h_v12, h_v11, h_v10, h_v9, h_v8, h_v7, h_v6, h_v5, h_v4, h_v3, h_v2, h_v1, h_v0, h_c, h_c_0, h_cst, h_cst_1, h_cst_2, h_cst_3]
  rw [show IntOp.subi (BitVec.ofNat 32 (496 + q.val)) 496#32 = BitVec.ofNat 32 (496 + q.val) - 496#32 from rfl, row_word, freq_pow,
    word_nat _ (by omega), EReal.coe_mul]

theorem hcos_at (q : Fin 16400) (x : Fin 32) : h_v21 (ix2 (up q) x) = ((cs q x : ℝ) : EReal) := by
  pointwise [h_v21]
  rw [hang_at]
  rfl
theorem hsin_at (q : Fin 16400) (x : Fin 32) : h_v22 (ix2 (up q) x) = ((sn q x : ℝ) : EReal) := by
  pointwise [h_v22]
  rw [hang_at]
  rfl

theorem log_pos_coe (r : ℝ) (h : 0 < r) : Ideal.log ((r : ℝ) : EReal) = ((Real.log r : ℝ) : EReal) := by
  show (if r ≤ 0 then ⊥ else ((Real.log r : ℝ) : EReal)) = _
  exact if_neg (not_le.mpr h)
theorem lse_el (a b d : FVec Ideal S8x16400 .f32) (i : S8x16400.Idx) :
    Host.divf (addf a (Host.log b)) d i = Ideal.div (a i + Ideal.log (b i)) (d i) := rfl

/-- The cosines, twice over; the sines, negated below and as they are above. -/
theorem tab_cos (q : Fin 16400) (x : Fin 32) : h_v26 (ix2 (up q) ⟨x.val, by omega⟩) = ((cs q x : ℝ) : EReal) ∧
    h_v26 (ix2 (up q) ⟨32 + x.val, by omega⟩) = ((cs q x : ℝ) : EReal) := by
  constructor
  · pointwise [h_v26]
    exact hcos_at q x
  · pointwise [h_v26]
    exact hcos_at q x
theorem tab_low (q : Fin 16400) (x : Fin 32) : h_v28 (ix2 (up q) ⟨x.val, by omega⟩) = ((-sn q x : ℝ) : EReal) := by
  pointwise [h_v28, h_v27]
  rw [EReal.coe_neg]
  exact congrArg (- ·) (hsin_at q x)
theorem tab_low0 (q : Fin 16400) (x : Fin 96) : h_v28 (ix2 (up q) ⟨32 + x.val, by omega⟩) = 0 := by
  pointwise [h_v28, h_v23, h_v24, h_cst_4, h_cst_5]
  split <;> rfl
theorem tab_high (q : Fin 16400) (x : Fin 32) : h_v29 (ix2 (up q) ⟨32 + x.val, by omega⟩) = ((sn q x : ℝ) : EReal) := by
  pointwise [h_v29]
  exact hsin_at q x
theorem tab_high0 (q : Fin 16400) (x : Fin 128) (hx : x.val < 32 ∨ 64 ≤ x.val) : h_v29 (ix2 (up q) x) = 0 := by
  pointwise [h_v29, h_v23, h_v24, h_cst_4, h_cst_5]
  rcases hx with hx | hx
  · rw [dif_pos hx]
  · rw [dif_neg (by omega), dif_neg (by omega)]

/-- The arrays hold the reals of a sequence. -/
structure Is (S : Seq) (x0 : FVec Ideal S16400x8x128 .f32) (x1 : FVec Ideal S16400x8x64 .f32) (x2 : FVec Ideal S16400x8x128 .f32)
    (x3 : FVec Ideal S16400x64 .f32) (x4 x5 : FVec Ideal S16400x8x128 .f32) : Prop where
  qn : ∀ q h d, x0 (ix3 q h d) = ((S.qn q h d : ℝ) : EReal)
  qr : ∀ q h d, x1 (ix3 q h d) = ((S.qr q h d : ℝ) : EReal)
  kn : ∀ q h d, x2 (ix3 q h d) = ((S.kn q h d : ℝ) : EReal)
  kr : ∀ q d, x3 (ix2 q d) = ((S.kr q d : ℝ) : EReal)
  v : ∀ q h d, x4 (ix3 q h d) = ((S.v q h d : ℝ) : EReal)
  o : ∀ q h d, x5 (ix3 q h d) = ((S.o q h d : ℝ) : EReal)

variable {S : Seq} {x0 : FVec Ideal S16400x8x128 .f32} {x1 : FVec Ideal S16400x8x64 .f32} {x2 : FVec Ideal S16400x8x128 .f32}
  {x3 : FVec Ideal S16400x64 .f32} {x4 x5 : FVec Ideal S16400x8x128 .f32} (hS : Is S x0 x1 x2 x3 x4 x5)
include hS

theorem hrot_at (q : Fin 16400) (h : Fin 8) (x : Fin 64) : h_v46 x1 (ix3 q h x) = ((S.rot q h x : ℝ) : EReal) := by
  rcases half_cases x with ⟨y, rfl⟩ | ⟨y, rfl⟩
  · rw [rot_fst]
    pointwise [h_v46, h_v45, h_v44, h_v43, h_v42, h_v41, h_v40, h_v39, h_v38, h_v37, h_v36, h_v35, h_v34, h_v33, h_v32, h_v31, h_v30, h_v26, h_v29]
    rw [show (⟨496 + q.val, by omega⟩ : Fin 16896) = up q from rfl, hcos_at, hsin_at, hS.qr, hS.qr]
    norm_cast
  · rw [rot_snd]
    pointwise [h_v46, h_v45, h_v44, h_v43, h_v42, h_v41, h_v40, h_v39, h_v38, h_v37, h_v36, h_v35, h_v34, h_v33, h_v32, h_v31, h_v30, h_v26, h_v29]
    rw [show (⟨496 + q.val, by omega⟩ : Fin 16896) = up q from rfl, hcos_at, hsin_at, hS.qr, hS.qr]
    norm_cast

theorem hscore_at (h : Fin 8) (q k : Fin 16400) : h_v59 x0 x1 x2 x3 (ix3 h q k) = ((S.score q h k : ℝ) : EReal) := by
  pointwise [h_v59, h_v58, h_cst_7, h_v51, h_v50, h_v49, h_v48, h_v47]
  rw [scale_eq, ← S.score_coe]
  refine congrArg (· * ((scale : ℝ) : EReal)) (congrArg₂ (· + ·) (Finset.sum_congr rfl fun d _ => ?_) (Finset.sum_congr rfl fun d _ => ?_))
  · rw [hS.qn, hS.kn]
  · rw [hrot_at hS, hS.kr]

theorem hseen_at (h : Fin 8) (q k : Fin 16400) : h_v60 x0 x1 x2 x3 (ix3 h q k) = S.seen q h k := by
  pointwise [h_v60, h_call0_v1, h_call0_v2, h_call0_v0, h_cst_8, h_v57, h_v56, h_v55, h_v54, h_v53, h_v52]
  rw [hscore_at hS]
  show Scalar.select _ _ (Ideal.ofBits FTy.f32 4286578688#32) = _
  rw [litb]
  exact S.seen_sel q h k

theorem htop_at (h : Fin 8) (q : Fin 16400) : h_v61 x0 x1 x2 x3 (ix2 h q) = ((S.top q h : ℝ) : EReal) := by
  pointwise [h_v61, h_cst_9]
  rw [litb, ← S.top_fold q h]
  exact congrArg (fun f : Fin 16400 → EReal => Finset.fold max ⊥ f Finset.univ) (funext fun k => hseen_at hS h q k)

theorem he_at (h : Fin 8) (q k : Fin 16400) : h_v65 x0 x1 x2 x3 (ix3 h q k) = (((S.head h).e q k : ℝ) : EReal) := by
  pointwise [h_v65, h_v64, h_v63, h_v62]
  rw [hseen_at hS, htop_at hS]
  exact S.exp_seen q h k

theorem hl_at (h : Fin 8) (q : Fin 16400) : h_v66 x0 x1 x2 x3 (ix2 h q) = (((S.head h).l q : ℝ) : EReal) := by
  pointwise [h_v66, h_cst_10]
  unfold Head.l
  rw [coe_sum]
  exact Finset.sum_congr rfl fun k _ => he_at hS h q k

theorem hp_at (h : Fin 8) (q k : Fin 16400) : h_v69 x0 x1 x2 x3 (ix3 h q k) = (((S.head h).p q k : ℝ) : EReal) := by
  pointwise [h_v69, h_v68, h_v67]
  rw [he_at hS, hl_at hS]
  exact S.p_div q h k

/-- The two statistics. -/
theorem hlse_at (h : Fin 8) (q : Fin 16400) :
    h_v76 x0 x1 x2 x3 (ix2 h q) = ((((S.head h).m q + Real.log ((S.head h).l q)) / Real.log 2 : ℝ) : EReal) := by
  have hl := (S.head h).l_pos q
  have h2 : Real.log 2 ≠ 0 := (Real.log_pos (by norm_num)).ne'
  have e2 : h_v75 (ix2 h q) = ((Real.log 2 : ℝ) : EReal) := by
    pointwise [h_v75, h_v72, h_cst_11]
    rw [lit2]
    exact log_pos_coe 2 (by norm_num)
  have e3 : (S.head h).m q = S.top q h := by simp only [head]
  unfold h_v76 h_v74 h_v73
  rw [lse_el, htop_at hS, hl_at hS, e2, log_pos_coe _ hl, ← EReal.coe_add, Ideal.div_coe h2, ← EReal.coe_mul, e3, mul_one_div]

theorem hd_at (h : Fin 8) (q : Fin 16400) : h_v79 x0 x1 x2 x3 x4 x5 (ix2 h q) = (((S.head h).d q : ℝ) : EReal) := by
  pointwise [h_v79, h_v78, h_v77, h_v71, h_v70, h_cst_12]
  rw [← (S.head h).d_out q, coe_sum]
  refine Finset.sum_congr rfl fun c _ => ?_
  rw [hS.o, EReal.coe_mul, coe_sum]
  refine congrArg₂ (· * ·) (by simp only [head]) (Finset.sum_congr rfl fun k _ => ?_)
  rw [hp_at hS, hS.v, ← EReal.coe_mul, mul_comm]
  simp only [head]

end Cert.Kernel2Ideal.Tile

end
-- ==== Proof.Tile.lean ====
module

public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Ring
public import Idealize.ShloMosaic.Lib.Tactic
public import Idealize.ShloMosaic.Lib.WordCmp

@[expose] public section

set_option synthInstance.maxSize 4096
set_option maxRecDepth 16384

noncomputable section

namespace Cert.Kernel2Ideal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F] [Named F]

local notation "𝕄G" => MT nD τ sig Unit (Elt F) ℕ (UR sig nD τ) ℕ

/-- The memrefs that a tile reads and writes: the key and value blocks, the head's queries, cotangent,
    log sums and row sums, and the three accumulators. -/
structure Args where
  k : Memref sig .tc .vmem S512x256 .bf16
  v : Memref sig .tc .vmem S512x128 .bf16
  q : Memref sig .tc .vmem S16896x256 .bf16
  o : Memref sig .tc .vmem S16896x128 .bf16
  lse : Memref sig .tc .vmem S1x1x16896 .f32
  dl : Memref sig .tc .vmem S1x1x16896 .f32
  dq : Memref sig .tc .vmem S16896x256 .f32
  dk : Memref sig .tc .vmem S512x256 .f32
  dv : Memref sig .tc .vmem S512x128 .f32

/-- The weights of a tile, keys by queries, where every key row is before the query rows. -/
def ptu (k : Vec F S512x256 .bf16) (q : Vec F S512x256 .bf16) (l : Vec F S1x1x512 .f32) : FVec F S512x512 .f32 :=
  exp2 (subf (matmul dot_S512x256_S512x256_S512x512_1_1_0_0_n_n none (shapeCast S512x256 k shapeCasts_S512x256_S512x256) (shapeCast S512x256 q shapeCasts_S512x256_S512x256) (constant S512x512 .f32 0x00000000#32))
    (broadcastTo S512x512 (shapeCast S1x512 l shapeCasts_S1x1x512_S1x512) broadcasts_S1x512_S512x512))

/-- The derivative by the scores, where every key row is before the query rows. -/
def dsu (k : Vec F S512x256 .bf16) (v : Vec F S512x128 .bf16) (q : Vec F S512x256 .bf16) (o : Vec F S512x128 .bf16)
    (l d : Vec F S1x1x512 .f32) : FVec F S512x512 .bf16 :=
  truncf .bf16 (mulf (ptu k q l) (subf (matmul dot_S512x128_S512x128_S512x512_1_1_0_0_n_n none (shapeCast S512x128 v shapeCasts_S512x128_S512x128)
    (shapeCast S512x128 o shapeCasts_S512x128_S512x128) (constant S512x512 .f32 0x00000000#32))
    (broadcastTo S512x512 (shapeCast S1x512 d shapeCasts_S1x1x512_S1x512) broadcasts_S1x512_S512x512))) bitsLt_bf16_f32

/-- What a tile stores into the value gradient. -/
def dvu (k : Vec F S512x256 .bf16) (q : Vec F S512x256 .bf16) (o : Vec F S512x128 .bf16) (l : Vec F S1x1x512 .f32)
    (a : Vec F S512x128 .f32) : FVec F S512x128 .f32 :=
  shapeCast S512x128 (addf a (matmul dot_S512x512_S512x128_S512x128_1_0_0_1_n_n none (truncf .bf16 (ptu k q l) bitsLt_bf16_f32)
    (shapeCast S512x128 o shapeCasts_S512x128_S512x128) (constant S512x128 .f32 0x00000000#32))) shapeCasts_S512x128_S512x128

/-- What a tile stores into the key gradient. -/
def dku (k : Vec F S512x256 .bf16) (v : Vec F S512x128 .bf16) (q : Vec F S512x256 .bf16) (o : Vec F S512x128 .bf16)
    (l d : Vec F S1x1x512 .f32) (a : Vec F S512x256 .f32) : FVec F S512x256 .f32 :=
  shapeCast S512x256 (addf a (matmul dot_S512x512_S512x256_S512x256_1_0_0_1_n_n none (dsu k v q o l d)
    (shapeCast S512x256 q shapeCasts_S512x256_S512x256) (constant S512x256 .f32 0x00000000#32))) shapeCasts_S512x256_S512x256

/-- What a tile stores into the query gradient. -/
def dqu (k : Vec F S512x256 .bf16) (v : Vec F S512x128 .bf16) (q : Vec F S512x256 .bf16) (o : Vec F S512x128 .bf16)
    (l d : Vec F S1x1x512 .f32) (a : Vec F S512x256 .f32) : FVec F S512x256 .f32 :=
  shapeCast S512x256 (addf a (matmul dot_S512x512_S512x256_S512x256_0_0_1_1_n_n none (dsu k v q o l d)
    (shapeCast S512x256 k shapeCasts_S512x256_S512x256) (constant S512x256 .f32 0x00000000#32))) shapeCasts_S512x256_S512x256

/-- One tile, where every key row is before the query rows. -/
def tileu (A : Args) (oq oo : Fin 2 → Nat) (ol : Fin 3 → Nat)
    (hq : ∀ a, oq a + S512x256.size a ≤ S16896x256.size a) (ho : ∀ a, oo a + S512x128.size a ≤ S16896x128.size a)
    (hl : ∀ a, ol a + S1x1x512.size a ≤ S1x1x16896.size a) : Prog (TpuEff nD τ sig (Elt F) Λ₀ .tc) Unit := do
  let k : Vec F S512x256 .bf16 ← Prog.lift (.load A.k (Rect.unit (s := S512x256) ![0, 0] S512x256.size inb_S512x256_S512x256_0_0).toLoadRect (View.loadsAt_vmem h_S512x256))
  let v : Vec F S512x128 .bf16 ← Prog.lift (.load A.v (Rect.unit (s := S512x128) ![0, 0] S512x128.size inb_S512x128_S512x128_0_0).toLoadRect (View.loadsAt_vmem h_S512x128))
  let q : Vec F S512x256 .bf16 ← Prog.lift (.load A.q (Rect.unit (s := S16896x256) oq S512x256.size hq).toLoadRect (View.loadsAt_vmem h_S512x256))
  let o : Vec F S512x128 .bf16 ← Prog.lift (.load A.o (Rect.unit (s := S16896x128) oo S512x128.size ho).toLoadRect (View.loadsAt_vmem h_S512x128))
  let l : Vec F S1x1x512 .f32 ← Prog.lift (.load A.lse (Rect.unit (s := S1x1x16896) ol S1x1x512.size hl).toLoadRect (View.loadsAt_vmem h_S1x1x512))
  let d : Vec F S1x1x512 .f32 ← Prog.lift (.load A.dl (Rect.unit (s := S1x1x16896) ol S1x1x512.size hl).toLoadRect (View.loadsAt_vmem h_S1x1x512))
  let a : Vec F S512x128 .f32 ← Prog.lift (.load A.dv (Rect.unit (s := S512x128) ![0, 0] S512x128.size inb_S512x128_S512x128_0_0).toLoadRect (View.loadsAt_vmem h_S512x128))
  let _ : Vec F S512x128 .f32 ← Prog.lift (.load A.dv (Rect.unit (s := S512x128) ![0, 0] S512x128.size inb_S512x128_S512x128_0_0).toLoadRect (View.loadsAt_vmem h_S512x128))
  Prog.lift (.store A.dv (Rect.unit (s := S512x128) ![0, 0] S512x128.size inb_S512x128_S512x128_0_0) (dvu k q o l a) Finset.univ (View.stores_vmem_bits_univ h_S512x128 rfl) (.inl rfl))
  let b : Vec F S512x256 .f32 ← Prog.lift (.load A.dk (Rect.unit (s := S512x256) ![0, 0] S512x256.size inb_S512x256_S512x256_0_0).toLoadRect (View.loadsAt_vmem h_S512x256))
  let _ : Vec F S512x256 .f32 ← Prog.lift (.load A.dk (Rect.unit (s := S512x256) ![0, 0] S512x256.size inb_S512x256_S512x256_0_0).toLoadRect (View.loadsAt_vmem h_S512x256))
  Prog.lift (.store A.dk (Rect.unit (s := S512x256) ![0, 0] S512x256.size inb_S512x256_S512x256_0_0) (dku k v q o l d b) Finset.univ (View.stores_vmem_bits_univ h_S512x256 rfl) (.inl rfl))
  let e : Vec F S512x256 .f32 ← Prog.lift (.load A.dq (Rect.unit (s := S16896x256) oq S512x256.size hq).toLoadRect (View.loadsAt_vmem h_S512x256))
  let _ : Vec F S512x256 .f32 ← Prog.lift (.load A.dq (Rect.unit (s := S16896x256) oq S512x256.size hq).toLoadRect (View.loadsAt_vmem h_S512x256))
  Prog.lift (.store A.dq (Rect.unit (s := S16896x256) oq S512x256.size hq) (dqu k v q o l d e) Finset.univ (View.stores_vmem_bits_univ h_S512x256 rfl) (.inl rfl))

/-- Which pairs of a key row and a query row attend, on the diagonal. -/
def okf (arg1 iv : BitVec 32) : IVec S512x512 1 :=
  let krow : IVec S512x512 32 := addi (broadcast S512x512 (Scalar.addi (Scalar.muli arg1 512#32) 0#32)) (iota .tc S512x512 32 [0] iota_S512x512_d0_w32)
  let qrow : IVec S512x512 32 := addi (broadcast S512x512 (Scalar.muli iv 512#32)) (iota .tc S512x512 32 [1] iota_S512x512_d1_w32)
  andi (cmpi .sle krow qrow) (ori (cmpi .sge krow (broadcast S512x512 496#32)) (cmpi .slt qrow (broadcast S512x512 496#32)))

/-- The weights of a tile, keys by queries, on the diagonal. -/
def ptf (arg1 iv : BitVec 32) (k : Vec F S512x256 .bf16) (q : Vec F S512x256 .bf16) (l : Vec F S1x1x512 .f32) : FVec F S512x512 .f32 :=
  exp2 (subf (select (okf arg1 iv) (matmul dot_S512x256_S512x256_S512x512_1_1_0_0_n_n none (shapeCast S512x256 k shapeCasts_S512x256_S512x256) (shapeCast S512x256 q shapeCasts_S512x256_S512x256) (constant S512x512 .f32 0x00000000#32)) (broadcast S512x512 (Named.named κ "mask" 0xF149F2CA#32 : F .f32)))
    (broadcastTo S512x512 (shapeCast S1x512 l shapeCasts_S1x1x512_S1x512) broadcasts_S1x512_S512x512))

/-- The derivative by the scores, on the diagonal. -/
def dsf (arg1 iv : BitVec 32) (k : Vec F S512x256 .bf16) (v : Vec F S512x128 .bf16) (q : Vec F S512x256 .bf16) (o : Vec F S512x128 .bf16)
    (l d : Vec F S1x1x512 .f32) : FVec F S512x512 .bf16 :=
  truncf .bf16 (mulf (ptf arg1 iv k q l) (subf (matmul dot_S512x128_S512x128_S512x512_1_1_0_0_n_n none (shapeCast S512x128 v shapeCasts_S512x128_S512x128)
    (shapeCast S512x128 o shapeCasts_S512x128_S512x128) (constant S512x512 .f32 0x00000000#32))
    (broadcastTo S512x512 (shapeCast S1x512 d shapeCasts_S1x1x512_S1x512) broadcasts_S1x512_S512x512))) bitsLt_bf16_f32

/-- What a tile stores into the value gradient. -/
def dvf (arg1 iv : BitVec 32) (k : Vec F S512x256 .bf16) (q : Vec F S512x256 .bf16) (o : Vec F S512x128 .bf16) (l : Vec F S1x1x512 .f32)
    (a : Vec F S512x128 .f32) : FVec F S512x128 .f32 :=
  shapeCast S512x128 (addf a (matmul dot_S512x512_S512x128_S512x128_1_0_0_1_n_n none (truncf .bf16 (ptf arg1 iv k q l) bitsLt_bf16_f32)
    (shapeCast S512x128 o shapeCasts_S512x128_S512x128) (constant S512x128 .f32 0x00000000#32))) shapeCasts_S512x128_S512x128

/-- What a tile stores into the key gradient. -/
def dkf (arg1 iv : BitVec 32) (k : Vec F S512x256 .bf16) (v : Vec F S512x128 .bf16) (q : Vec F S512x256 .bf16) (o : Vec F S512x128 .bf16)
    (l d : Vec F S1x1x512 .f32) (a : Vec F S512x256 .f32) : FVec F S512x256 .f32 :=
  shapeCast S512x256 (addf a (matmul dot_S512x512_S512x256_S512x256_1_0_0_1_n_n none (dsf arg1 iv k v q o l d)
    (shapeCast S512x256 q shapeCasts_S512x256_S512x256) (constant S512x256 .f32 0x00000000#32))) shapeCasts_S512x256_S512x256

/-- What a tile stores into the query gradient. -/
def dqf (arg1 iv : BitVec 32) (k : Vec F S512x256 .bf16) (v : Vec F S512x128 .bf16) (q : Vec F S512x256 .bf16) (o : Vec F S512x128 .bf16)
    (l d : Vec F S1x1x512 .f32) (a : Vec F S512x256 .f32) : FVec F S512x256 .f32 :=
  shapeCast S512x256 (addf a (matmul dot_S512x512_S512x256_S512x256_0_0_1_1_n_n none (dsf arg1 iv k v q o l d)
    (shapeCast S512x256 k shapeCasts_S512x256_S512x256) (constant S512x256 .f32 0x00000000#32))) shapeCasts_S512x256_S512x256

/-- One tile, on the diagonal. -/
def tilef (A : Args) (arg1 iv : BitVec 32) (oq oo : Fin 2 → Nat) (ol : Fin 3 → Nat)
    (hq : ∀ a, oq a + S512x256.size a ≤ S16896x256.size a) (ho : ∀ a, oo a + S512x128.size a ≤ S16896x128.size a)
    (hl : ∀ a, ol a + S1x1x512.size a ≤ S1x1x16896.size a) : Prog (TpuEff nD τ sig (Elt F) Λ₀ .tc) Unit := do
  let k : Vec F S512x256 .bf16 ← Prog.lift (.load A.k (Rect.unit (s := S512x256) ![0, 0] S512x256.size inb_S512x256_S512x256_0_0).toLoadRect (View.loadsAt_vmem h_S512x256))
  let v : Vec F S512x128 .bf16 ← Prog.lift (.load A.v (Rect.unit (s := S512x128) ![0, 0] S512x128.size inb_S512x128_S512x128_0_0).toLoadRect (View.loadsAt_vmem h_S512x128))
  let q : Vec F S512x256 .bf16 ← Prog.lift (.load A.q (Rect.unit (s := S16896x256) oq S512x256.size hq).toLoadRect (View.loadsAt_vmem h_S512x256))
  let o : Vec F S512x128 .bf16 ← Prog.lift (.load A.o (Rect.unit (s := S16896x128) oo S512x128.size ho).toLoadRect (View.loadsAt_vmem h_S512x128))
  let l : Vec F S1x1x512 .f32 ← Prog.lift (.load A.lse (Rect.unit (s := S1x1x16896) ol S1x1x512.size hl).toLoadRect (View.loadsAt_vmem h_S1x1x512))
  let d : Vec F S1x1x512 .f32 ← Prog.lift (.load A.dl (Rect.unit (s := S1x1x16896) ol S1x1x512.size hl).toLoadRect (View.loadsAt_vmem h_S1x1x512))
  let a : Vec F S512x128 .f32 ← Prog.lift (.load A.dv (Rect.unit (s := S512x128) ![0, 0] S512x128.size inb_S512x128_S512x128_0_0).toLoadRect (View.loadsAt_vmem h_S512x128))
  let _ : Vec F S512x128 .f32 ← Prog.lift (.load A.dv (Rect.unit (s := S512x128) ![0, 0] S512x128.size inb_S512x128_S512x128_0_0).toLoadRect (View.loadsAt_vmem h_S512x128))
  Prog.lift (.store A.dv (Rect.unit (s := S512x128) ![0, 0] S512x128.size inb_S512x128_S512x128_0_0) (dvf arg1 iv k q o l a) Finset.univ (View.stores_vmem_bits_univ h_S512x128 rfl) (.inl rfl))
  let b : Vec F S512x256 .f32 ← Prog.lift (.load A.dk (Rect.unit (s := S512x256) ![0, 0] S512x256.size inb_S512x256_S512x256_0_0).toLoadRect (View.loadsAt_vmem h_S512x256))
  let _ : Vec F S512x256 .f32 ← Prog.lift (.load A.dk (Rect.unit (s := S512x256) ![0, 0] S512x256.size inb_S512x256_S512x256_0_0).toLoadRect (View.loadsAt_vmem h_S512x256))
  Prog.lift (.store A.dk (Rect.unit (s := S512x256) ![0, 0] S512x256.size inb_S512x256_S512x256_0_0) (dkf arg1 iv k v q o l d b) Finset.univ (View.stores_vmem_bits_univ h_S512x256 rfl) (.inl rfl))
  let e : Vec F S512x256 .f32 ← Prog.lift (.load A.dq (Rect.unit (s := S16896x256) oq S512x256.size hq).toLoadRect (View.loadsAt_vmem h_S512x256))
  let _ : Vec F S512x256 .f32 ← Prog.lift (.load A.dq (Rect.unit (s := S16896x256) oq S512x256.size hq).toLoadRect (View.loadsAt_vmem h_S512x256))
  Prog.lift (.store A.dq (Rect.unit (s := S16896x256) oq S512x256.size hq) (dqf arg1 iv k v q o l d e) Finset.univ (View.stores_vmem_bits_univ h_S512x256 rfl) (.inl rfl))

/-- Which pairs of a key row and a query row attend, at the leading keys. -/
def okm (arg1 iv : BitVec 32) : IVec S128x512 1 :=
  let krow : IVec S128x512 32 := addi (broadcast S128x512 (Scalar.addi (Scalar.muli arg1 512#32) 384#32)) (iota .tc S128x512 32 [0] iota_S128x512_d0_w32)
  let qrow : IVec S128x512 32 := addi (broadcast S128x512 (Scalar.muli iv 512#32)) (iota .tc S128x512 32 [1] iota_S128x512_d1_w32)
  andi (cmpi .sle krow qrow) (ori (cmpi .sge krow (broadcast S128x512 496#32)) (cmpi .slt qrow (broadcast S128x512 496#32)))

/-- The weights of a tile, keys by queries, at the leading keys. -/
def ptm (arg1 iv : BitVec 32) (k : Vec F S128x256 .bf16) (q : Vec F S512x256 .bf16) (l : Vec F S1x1x512 .f32) : FVec F S128x512 .f32 :=
  exp2 (subf (select (okm arg1 iv) (matmul dot_S128x256_S512x256_S128x512_1_1_0_0_n_n none (shapeCast S128x256 k shapeCasts_S128x256_S128x256) (shapeCast S512x256 q shapeCasts_S512x256_S512x256) (constant S128x512 .f32 0x00000000#32)) (broadcast S128x512 (Named.named κ "mask" 0xF149F2CA#32 : F .f32)))
    (broadcastTo S128x512 (shapeCast S1x512 l shapeCasts_S1x1x512_S1x512) broadcasts_S1x512_S128x512))

/-- The derivative by the scores, at the leading keys. -/
def dsm (arg1 iv : BitVec 32) (k : Vec F S128x256 .bf16) (v : Vec F S128x128 .bf16) (q : Vec F S512x256 .bf16) (o : Vec F S512x128 .bf16)
    (l d : Vec F S1x1x512 .f32) : FVec F S128x512 .bf16 :=
  truncf .bf16 (mulf (ptm arg1 iv k q l) (subf (matmul dot_S128x128_S512x128_S128x512_1_1_0_0_n_n none (shapeCast S128x128 v shapeCasts_S128x128_S128x128)
    (shapeCast S512x128 o shapeCasts_S512x128_S512x128) (constant S128x512 .f32 0x00000000#32))
    (broadcastTo S128x512 (shapeCast S1x512 d shapeCasts_S1x1x512_S1x512) broadcasts_S1x512_S128x512))) bitsLt_bf16_f32

/-- What a tile stores into the value gradient. -/
def dvm (arg1 iv : BitVec 32) (k : Vec F S128x256 .bf16) (q : Vec F S512x256 .bf16) (o : Vec F S512x128 .bf16) (l : Vec F S1x1x512 .f32)
    (a : Vec F S128x128 .f32) : FVec F S128x128 .f32 :=
  shapeCast S128x128 (addf a (matmul dot_S128x512_S512x128_S128x128_1_0_0_1_n_n none (truncf .bf16 (ptm arg1 iv k q l) bitsLt_bf16_f32)
    (shapeCast S512x128 o shapeCasts_S512x128_S512x128) (constant S128x128 .f32 0x00000000#32))) shapeCasts_S128x128_S128x128

/-- What a tile stores into the key gradient. -/
def dkm (arg1 iv : BitVec 32) (k : Vec F S128x256 .bf16) (v : Vec F S128x128 .bf16) (q : Vec F S512x256 .bf16) (o : Vec F S512x128 .bf16)
    (l d : Vec F S1x1x512 .f32) (a : Vec F S128x256 .f32) : FVec F S128x256 .f32 :=
  shapeCast S128x256 (addf a (matmul dot_S128x512_S512x256_S128x256_1_0_0_1_n_n none (dsm arg1 iv k v q o l d)
    (shapeCast S512x256 q shapeCasts_S512x256_S512x256) (constant S128x256 .f32 0x00000000#32))) shapeCasts_S128x256_S128x256

/-- What a tile stores into the query gradient. -/
def dqm (arg1 iv : BitVec 32) (k : Vec F S128x256 .bf16) (v : Vec F S128x128 .bf16) (q : Vec F S512x256 .bf16) (o : Vec F S512x128 .bf16)
    (l d : Vec F S1x1x512 .f32) (a : Vec F S512x256 .f32) : FVec F S512x256 .f32 :=
  shapeCast S512x256 (addf a (matmul dot_S128x512_S128x256_S512x256_0_0_1_1_n_n none (dsm arg1 iv k v q o l d)
    (shapeCast S128x256 k shapeCasts_S128x256_S128x256) (constant S512x256 .f32 0x00000000#32))) shapeCasts_S512x256_S512x256

/-- One tile, at the leading keys. -/
def tilem (A : Args) (arg1 iv : BitVec 32) (oq oo : Fin 2 → Nat) (ol : Fin 3 → Nat)
    (hq : ∀ a, oq a + S512x256.size a ≤ S16896x256.size a) (ho : ∀ a, oo a + S512x128.size a ≤ S16896x128.size a)
    (hl : ∀ a, ol a + S1x1x512.size a ≤ S1x1x16896.size a) : Prog (TpuEff nD τ sig (Elt F) Λ₀ .tc) Unit := do
  let k : Vec F S128x256 .bf16 ← Prog.lift (.load A.k (Rect.unit (s := S512x256) ![384, 0] S128x256.size inb_S512x256_S128x256_384_0).toLoadRect (View.loadsAt_vmem h_S128x256))
  let v : Vec F S128x128 .bf16 ← Prog.lift (.load A.v (Rect.unit (s := S512x128) ![384, 0] S128x128.size inb_S512x128_S128x128_384_0).toLoadRect (View.loadsAt_vmem h_S128x128))
  let q : Vec F S512x256 .bf16 ← Prog.lift (.load A.q (Rect.unit (s := S16896x256) oq S512x256.size hq).toLoadRect (View.loadsAt_vmem h_S512x256))
  let o : Vec F S512x128 .bf16 ← Prog.lift (.load A.o (Rect.unit (s := S16896x128) oo S512x128.size ho).toLoadRect (View.loadsAt_vmem h_S512x128))
  let l : Vec F S1x1x512 .f32 ← Prog.lift (.load A.lse (Rect.unit (s := S1x1x16896) ol S1x1x512.size hl).toLoadRect (View.loadsAt_vmem h_S1x1x512))
  let d : Vec F S1x1x512 .f32 ← Prog.lift (.load A.dl (Rect.unit (s := S1x1x16896) ol S1x1x512.size hl).toLoadRect (View.loadsAt_vmem h_S1x1x512))
  let a : Vec F S128x128 .f32 ← Prog.lift (.load A.dv (Rect.unit (s := S512x128) ![384, 0] S128x128.size inb_S512x128_S128x128_384_0).toLoadRect (View.loadsAt_vmem h_S128x128))
  let _ : Vec F S128x128 .f32 ← Prog.lift (.load A.dv (Rect.unit (s := S512x128) ![384, 0] S128x128.size inb_S512x128_S128x128_384_0).toLoadRect (View.loadsAt_vmem h_S128x128))
  Prog.lift (.store A.dv (Rect.unit (s := S512x128) ![384, 0] S128x128.size inb_S512x128_S128x128_384_0) (dvm arg1 iv k q o l a) Finset.univ (View.stores_vmem_bits_univ h_S128x128 rfl) (.inl rfl))
  let b : Vec F S128x256 .f32 ← Prog.lift (.load A.dk (Rect.unit (s := S512x256) ![384, 0] S128x256.size inb_S512x256_S128x256_384_0).toLoadRect (View.loadsAt_vmem h_S128x256))
  let _ : Vec F S128x256 .f32 ← Prog.lift (.load A.dk (Rect.unit (s := S512x256) ![384, 0] S128x256.size inb_S512x256_S128x256_384_0).toLoadRect (View.loadsAt_vmem h_S128x256))
  Prog.lift (.store A.dk (Rect.unit (s := S512x256) ![384, 0] S128x256.size inb_S512x256_S128x256_384_0) (dkm arg1 iv k v q o l d b) Finset.univ (View.stores_vmem_bits_univ h_S128x256 rfl) (.inl rfl))
  let e : Vec F S512x256 .f32 ← Prog.lift (.load A.dq (Rect.unit (s := S16896x256) oq S512x256.size hq).toLoadRect (View.loadsAt_vmem h_S512x256))
  let _ : Vec F S512x256 .f32 ← Prog.lift (.load A.dq (Rect.unit (s := S16896x256) oq S512x256.size hq).toLoadRect (View.loadsAt_vmem h_S512x256))
  Prog.lift (.store A.dq (Rect.unit (s := S16896x256) oq S512x256.size hq) (dqm arg1 iv k v q o l d e) Finset.univ (View.stores_vmem_bits_univ h_S512x256 rfl) (.inl rfl))

end Cert.Kernel2Ideal.Tile
-- ==== Proof.TileRun.lean ====
module

public import proofs.«01_k».proof.Proof.Tile

@[expose] public section

set_option synthInstance.maxSize 4096
set_option maxRecDepth 16384

noncomputable section

namespace Cert.Kernel2Ideal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F] [Named F]

local notation "𝕄G" => MT nD τ sig Unit (Elt F) ℕ (UR sig nD τ) ℕ

/-- What the memrefs of a tile hold. -/
structure Held (A : Args) where
  k : BufTy.Contents (Elt F) A.k.view.ty
  v : BufTy.Contents (Elt F) A.v.view.ty
  q : BufTy.Contents (Elt F) A.q.view.ty
  o : BufTy.Contents (Elt F) A.o.view.ty
  lse : BufTy.Contents (Elt F) A.lse.view.ty
  dl : BufTy.Contents (Elt F) A.dl.view.ty

/-- What the accumulators hold. -/
structure Acc (A : Args) where
  dq : BufTy.Contents (Elt F) A.dq.view.ty
  dk : BufTy.Contents (Elt F) A.dk.view.ty
  dv : BufTy.Contents (Elt F) A.dv.view.ty

/-- The memrefs of a tile at their contents. -/
abbrev Res (A : Args) (c : Dev nD) (X : Held (F := F) A) (s : Acc (F := F) A) : sProp 𝕄G :=
  iprop((A.k.view.loc (c : Thread nD τ) ↦[A.k.view.set]{fullShare} X.k) ∗ (A.v.view.loc (c : Thread nD τ) ↦[A.v.view.set]{fullShare} X.v)
    ∗ (A.q.view.loc (c : Thread nD τ) ↦[A.q.view.set]{fullShare} X.q) ∗ (A.o.view.loc (c : Thread nD τ) ↦[A.o.view.set]{fullShare} X.o)
    ∗ (A.lse.view.loc (c : Thread nD τ) ↦[A.lse.view.set]{fullShare} X.lse) ∗ (A.dl.view.loc (c : Thread nD τ) ↦[A.dl.view.set]{fullShare} X.dl)
    ∗ (A.dq.view.loc (c : Thread nD τ) ↦[A.dq.view.set]{fullShare} s.dq) ∗ (A.dk.view.loc (c : Thread nD τ) ↦[A.dk.view.set]{fullShare} s.dk)
    ∗ (A.dv.view.loc (c : Thread nD τ) ↦[A.dv.view.set]{fullShare} s.dv))

/-- Where a tile reads and adds: its query block, and that block's offsets. -/
structure Pos where
  iv : BitVec 32
  oq : Fin 2 → Nat
  oo : Fin 2 → Nat
  ol : Fin 3 → Nat
  hq : ∀ a, oq a + S512x256.size a ≤ S16896x256.size a
  ho : ∀ a, oo a + S512x128.size a ≤ S16896x128.size a
  hl : ∀ a, ol a + S1x1x512.size a ≤ S1x1x16896.size a

/-- What the accumulators hold after a tile before the query rows. -/
def stepu (A : Args) (X : Held (F := F) A) (p : Pos) (s : Acc (F := F) A) : Acc (F := F) A :=
  ⟨A.dq.view.writes (Elt F) s.dq [⟨Rect.unit (s := S16896x256) p.oq S512x256.size p.hq,
      dqu (View.readAt (Elt F) A.k.view (Rect.unit (s := S512x256) ![0, 0] S512x256.size inb_S512x256_S512x256_0_0).toLoadRect X.k) (View.readAt (Elt F) A.v.view (Rect.unit (s := S512x128) ![0, 0] S512x128.size inb_S512x128_S512x128_0_0).toLoadRect X.v)
        (View.readAt (Elt F) A.q.view (Rect.unit (s := S16896x256) p.oq S512x256.size p.hq).toLoadRect X.q) (View.readAt (Elt F) A.o.view (Rect.unit (s := S16896x128) p.oo S512x128.size p.ho).toLoadRect X.o)
        (View.readAt (Elt F) A.lse.view (Rect.unit (s := S1x1x16896) p.ol S1x1x512.size p.hl).toLoadRect X.lse) (View.readAt (Elt F) A.dl.view (Rect.unit (s := S1x1x16896) p.ol S1x1x512.size p.hl).toLoadRect X.dl)
        (View.readAt (Elt F) A.dq.view (Rect.unit (s := S16896x256) p.oq S512x256.size p.hq).toLoadRect s.dq)⟩],
    A.dk.view.writes (Elt F) s.dk [⟨Rect.unit (s := S512x256) ![0, 0] S512x256.size inb_S512x256_S512x256_0_0,
      dku (View.readAt (Elt F) A.k.view (Rect.unit (s := S512x256) ![0, 0] S512x256.size inb_S512x256_S512x256_0_0).toLoadRect X.k) (View.readAt (Elt F) A.v.view (Rect.unit (s := S512x128) ![0, 0] S512x128.size inb_S512x128_S512x128_0_0).toLoadRect X.v)
        (View.readAt (Elt F) A.q.view (Rect.unit (s := S16896x256) p.oq S512x256.size p.hq).toLoadRect X.q) (View.readAt (Elt F) A.o.view (Rect.unit (s := S16896x128) p.oo S512x128.size p.ho).toLoadRect X.o)
        (View.readAt (Elt F) A.lse.view (Rect.unit (s := S1x1x16896) p.ol S1x1x512.size p.hl).toLoadRect X.lse) (View.readAt (Elt F) A.dl.view (Rect.unit (s := S1x1x16896) p.ol S1x1x512.size p.hl).toLoadRect X.dl)
        (View.readAt (Elt F) A.dk.view (Rect.unit (s := S512x256) ![0, 0] S512x256.size inb_S512x256_S512x256_0_0).toLoadRect s.dk)⟩],
    A.dv.view.writes (Elt F) s.dv [⟨Rect.unit (s := S512x128) ![0, 0] S512x128.size inb_S512x128_S512x128_0_0,
      dvu (View.readAt (Elt F) A.k.view (Rect.unit (s := S512x256) ![0, 0] S512x256.size inb_S512x256_S512x256_0_0).toLoadRect X.k)
        (View.readAt (Elt F) A.q.view (Rect.unit (s := S16896x256) p.oq S512x256.size p.hq).toLoadRect X.q) (View.readAt (Elt F) A.o.view (Rect.unit (s := S16896x128) p.oo S512x128.size p.ho).toLoadRect X.o)
        (View.readAt (Elt F) A.lse.view (Rect.unit (s := S1x1x16896) p.ol S1x1x512.size p.hl).toLoadRect X.lse)
        (View.readAt (Elt F) A.dv.view (Rect.unit (s := S512x128) ![0, 0] S512x128.size inb_S512x128_S512x128_0_0).toLoadRect s.dv)⟩]⟩

theorem tileu_run (𝒱 : Variants) (c : Dev nD) (bd : Option 𝒱.V) (A : Args) (X : Held (F := F) A) (p : Pos) (E : Set ℕ) (s : Acc (F := F) A) :
    Res A c X s ⊢ wp frame (wpE (defs₀ (F := F)) 𝒱 (c : Thread nD τ) bd) E (tileu A p.oq p.oo p.ol p.hq p.ho p.hl)
      (fun _ => Res A c X (stepu A X p s)) := by
  unfold tileu stepu
  iintro ⟨HK, HV, HQ, HO, HL, HD, H14, H15, H16⟩
  sl_exec
  sl_step
  sl_close

/-- What the accumulators hold after a tile on the diagonal. -/
def stepf (A : Args) (arg1 : BitVec 32) (X : Held (F := F) A) (p : Pos) (s : Acc (F := F) A) : Acc (F := F) A :=
  ⟨A.dq.view.writes (Elt F) s.dq [⟨Rect.unit (s := S16896x256) p.oq S512x256.size p.hq,
      dqf arg1 p.iv (View.readAt (Elt F) A.k.view (Rect.unit (s := S512x256) ![0, 0] S512x256.size inb_S512x256_S512x256_0_0).toLoadRect X.k) (View.readAt (Elt F) A.v.view (Rect.unit (s := S512x128) ![0, 0] S512x128.size inb_S512x128_S512x128_0_0).toLoadRect X.v)
        (View.readAt (Elt F) A.q.view (Rect.unit (s := S16896x256) p.oq S512x256.size p.hq).toLoadRect X.q) (View.readAt (Elt F) A.o.view (Rect.unit (s := S16896x128) p.oo S512x128.size p.ho).toLoadRect X.o)
        (View.readAt (Elt F) A.lse.view (Rect.unit (s := S1x1x16896) p.ol S1x1x512.size p.hl).toLoadRect X.lse) (View.readAt (Elt F) A.dl.view (Rect.unit (s := S1x1x16896) p.ol S1x1x512.size p.hl).toLoadRect X.dl)
        (View.readAt (Elt F) A.dq.view (Rect.unit (s := S16896x256) p.oq S512x256.size p.hq).toLoadRect s.dq)⟩],
    A.dk.view.writes (Elt F) s.dk [⟨Rect.unit (s := S512x256) ![0, 0] S512x256.size inb_S512x256_S512x256_0_0,
      dkf arg1 p.iv (View.readAt (Elt F) A.k.view (Rect.unit (s := S512x256) ![0, 0] S512x256.size inb_S512x256_S512x256_0_0).toLoadRect X.k) (View.readAt (Elt F) A.v.view (Rect.unit (s := S512x128) ![0, 0] S512x128.size inb_S512x128_S512x128_0_0).toLoadRect X.v)
        (View.readAt (Elt F) A.q.view (Rect.unit (s := S16896x256) p.oq S512x256.size p.hq).toLoadRect X.q) (View.readAt (Elt F) A.o.view (Rect.unit (s := S16896x128) p.oo S512x128.size p.ho).toLoadRect X.o)
        (View.readAt (Elt F) A.lse.view (Rect.unit (s := S1x1x16896) p.ol S1x1x512.size p.hl).toLoadRect X.lse) (View.readAt (Elt F) A.dl.view (Rect.unit (s := S1x1x16896) p.ol S1x1x512.size p.hl).toLoadRect X.dl)
        (View.readAt (Elt F) A.dk.view (Rect.unit (s := S512x256) ![0, 0] S512x256.size inb_S512x256_S512x256_0_0).toLoadRect s.dk)⟩],
    A.dv.view.writes (Elt F) s.dv [⟨Rect.unit (s := S512x128) ![0, 0] S512x128.size inb_S512x128_S512x128_0_0,
      dvf arg1 p.iv (View.readAt (Elt F) A.k.view (Rect.unit (s := S512x256) ![0, 0] S512x256.size inb_S512x256_S512x256_0_0).toLoadRect X.k)
        (View.readAt (Elt F) A.q.view (Rect.unit (s := S16896x256) p.oq S512x256.size p.hq).toLoadRect X.q) (View.readAt (Elt F) A.o.view (Rect.unit (s := S16896x128) p.oo S512x128.size p.ho).toLoadRect X.o)
        (View.readAt (Elt F) A.lse.view (Rect.unit (s := S1x1x16896) p.ol S1x1x512.size p.hl).toLoadRect X.lse)
        (View.readAt (Elt F) A.dv.view (Rect.unit (s := S512x128) ![0, 0] S512x128.size inb_S512x128_S512x128_0_0).toLoadRect s.dv)⟩]⟩

theorem tilef_run (𝒱 : Variants) (c : Dev nD) (bd : Option 𝒱.V) (A : Args) (arg1 : BitVec 32) (X : Held (F := F) A) (p : Pos) (E : Set ℕ) (s : Acc (F := F) A) :
    Res A c X s ⊢ wp frame (wpE (defs₀ (F := F)) 𝒱 (c : Thread nD τ) bd) E (tilef A arg1 p.iv p.oq p.oo p.ol p.hq p.ho p.hl)
      (fun _ => Res A c X (stepf A arg1 X p s)) := by
  unfold tilef stepf
  iintro ⟨HK, HV, HQ, HO, HL, HD, H14, H15, H16⟩
  sl_exec
  sl_step
  sl_close

/-- What the accumulators hold after a tile at the leading keys. -/
def stepm (A : Args) (arg1 : BitVec 32) (X : Held (F := F) A) (p : Pos) (s : Acc (F := F) A) : Acc (F := F) A :=
  ⟨A.dq.view.writes (Elt F) s.dq [⟨Rect.unit (s := S16896x256) p.oq S512x256.size p.hq,
      dqm arg1 p.iv (View.readAt (Elt F) A.k.view (Rect.unit (s := S512x256) ![384, 0] S128x256.size inb_S512x256_S128x256_384_0).toLoadRect X.k) (View.readAt (Elt F) A.v.view (Rect.unit (s := S512x128) ![384, 0] S128x128.size inb_S512x128_S128x128_384_0).toLoadRect X.v)
        (View.readAt (Elt F) A.q.view (Rect.unit (s := S16896x256) p.oq S512x256.size p.hq).toLoadRect X.q) (View.readAt (Elt F) A.o.view (Rect.unit (s := S16896x128) p.oo S512x128.size p.ho).toLoadRect X.o)
        (View.readAt (Elt F) A.lse.view (Rect.unit (s := S1x1x16896) p.ol S1x1x512.size p.hl).toLoadRect X.lse) (View.readAt (Elt F) A.dl.view (Rect.unit (s := S1x1x16896) p.ol S1x1x512.size p.hl).toLoadRect X.dl)
        (View.readAt (Elt F) A.dq.view (Rect.unit (s := S16896x256) p.oq S512x256.size p.hq).toLoadRect s.dq)⟩],
    A.dk.view.writes (Elt F) s.dk [⟨Rect.unit (s := S512x256) ![384, 0] S128x256.size inb_S512x256_S128x256_384_0,
      dkm arg1 p.iv (View.readAt (Elt F) A.k.view (Rect.unit (s := S512x256) ![384, 0] S128x256.size inb_S512x256_S128x256_384_0).toLoadRect X.k) (View.readAt (Elt F) A.v.view (Rect.unit (s := S512x128) ![384, 0] S128x128.size inb_S512x128_S128x128_384_0).toLoadRect X.v)
        (View.readAt (Elt F) A.q.view (Rect.unit (s := S16896x256) p.oq S512x256.size p.hq).toLoadRect X.q) (View.readAt (Elt F) A.o.view (Rect.unit (s := S16896x128) p.oo S512x128.size p.ho).toLoadRect X.o)
        (View.readAt (Elt F) A.lse.view (Rect.unit (s := S1x1x16896) p.ol S1x1x512.size p.hl).toLoadRect X.lse) (View.readAt (Elt F) A.dl.view (Rect.unit (s := S1x1x16896) p.ol S1x1x512.size p.hl).toLoadRect X.dl)
        (View.readAt (Elt F) A.dk.view (Rect.unit (s := S512x256) ![384, 0] S128x256.size inb_S512x256_S128x256_384_0).toLoadRect s.dk)⟩],
    A.dv.view.writes (Elt F) s.dv [⟨Rect.unit (s := S512x128) ![384, 0] S128x128.size inb_S512x128_S128x128_384_0,
      dvm arg1 p.iv (View.readAt (Elt F) A.k.view (Rect.unit (s := S512x256) ![384, 0] S128x256.size inb_S512x256_S128x256_384_0).toLoadRect X.k)
        (View.readAt (Elt F) A.q.view (Rect.unit (s := S16896x256) p.oq S512x256.size p.hq).toLoadRect X.q) (View.readAt (Elt F) A.o.view (Rect.unit (s := S16896x128) p.oo S512x128.size p.ho).toLoadRect X.o)
        (View.readAt (Elt F) A.lse.view (Rect.unit (s := S1x1x16896) p.ol S1x1x512.size p.hl).toLoadRect X.lse)
        (View.readAt (Elt F) A.dv.view (Rect.unit (s := S512x128) ![384, 0] S128x128.size inb_S512x128_S128x128_384_0).toLoadRect s.dv)⟩]⟩

theorem tilem_run (𝒱 : Variants) (c : Dev nD) (bd : Option 𝒱.V) (A : Args) (arg1 : BitVec 32) (X : Held (F := F) A) (p : Pos) (E : Set ℕ) (s : Acc (F := F) A) :
    Res A c X s ⊢ wp frame (wpE (defs₀ (F := F)) 𝒱 (c : Thread nD τ) bd) E (tilem A arg1 p.iv p.oq p.oo p.ol p.hq p.ho p.hl)
      (fun _ => Res A c X (stepm A arg1 X p s)) := by
  unfold tilem stepm
  iintro ⟨HK, HV, HQ, HO, HL, HD, H14, H15, H16⟩
  sl_exec
  sl_step
  sl_close

end Cert.Kernel2Ideal.Tile
-- ==== Proof.KernEq.lean ====
module

public import proofs.«01_k».proof.Proof.TileRun

@[expose] public section

set_option synthInstance.maxSize 4096
set_option maxRecDepth 16384

noncomputable section

namespace Cert.Kernel2Ideal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F] [Named F]

local notation "𝕄G" => MT nD τ sig Unit (Elt F) ℕ (UR sig nD τ) ℕ

/-- Tiles one after another, every key row before the query rows. -/
def tilesu (A : Args) : List Pos → Prog (TpuEff nD τ sig (Elt F) Λ₀ .tc) Unit
  | [] => pure ⟨⟩
  | p :: ps => do
    tileu A p.oq p.oo p.ol p.hq p.ho p.hl
    tilesu A ps

/-- Tiles one after another, at the leading keys. -/
def tilesm (A : Args) (arg1 : BitVec 32) : List Pos → Prog (TpuEff nD τ sig (Elt F) Λ₀ .tc) Unit
  | [] => pure ⟨⟩
  | p :: ps => do
    tilem A arg1 p.iv p.oq p.oo p.ol p.hq p.ho p.hl
    tilesm A arg1 ps

/-- A tile on the diagonal, then tiles below it. -/
def tilesf (A : Args) (arg1 : BitVec 32) (p : Pos) (ps : List Pos) : Prog (TpuEff nD τ sig (Elt F) Λ₀ .tc) Unit := do
  tilef A arg1 p.iv p.oq p.oo p.ol p.hq p.ho p.hl
  tilesu A ps

/-- A tile's place. -/
def pos1 (i : grid0.Coords) (h : k0_cond2 i = 1#1) (t : Fin k0_t1_loop.trips) (r : Fin 16) : Pos :=
  ⟨Scalar.addi (Scalar.addi 0#32 (Scalar.muli 16#32 (Scf.iv 0#32 1#32 t))) (BitVec.ofNat 32 r.val), k0_off1 t (BitVec.ofNat 32 r.val), k0_off2 t (BitVec.ofNat 32 r.val), k0_off3 t (BitVec.ofNat 32 r.val),
    k0_off1_inb i t h r, k0_off2_inb i t h r, k0_off3_inb i t h r⟩

/-- A tile's place. -/
def pos9 (i : grid0.Coords) (h : k0_cond2 i = 1#1) (lo : BitVec 32) (t : Fin k0_t9_loop.trips) : Pos :=
  ⟨Scalar.addi (Scalar.addi lo (Scalar.muli 1#32 (Scf.iv 0#32 1#32 t))) 0#32, k0_off25 t, k0_off26 t, k0_off27 t,
    k0_off25_inb i t h, k0_off26_inb i t h, k0_off27_inb i t h⟩

/-- A tile's place. -/
def pos11 (i : grid0.Coords) (h : k0_cond7 i = 1#1) (t : Fin (k0_t11_loop i).trips) (r : Fin 16) : Pos :=
  ⟨0#32, k0_off52 i t (BitVec.ofNat 32 r.val), k0_off53 i t (BitVec.ofNat 32 r.val), k0_off54 i t (BitVec.ofNat 32 r.val),
    k0_off52_inb i t h r, k0_off53_inb i t h r, k0_off54_inb i t h r⟩

/-- A tile's place. -/
def pos13 (i : grid0.Coords) (h : k0_cond7 i = 1#1) (t : Fin (k0_t13_loop i).trips) (r : Fin 8) : Pos :=
  ⟨0#32, k0_off58 i t (BitVec.ofNat 32 r.val), k0_off59 i t (BitVec.ofNat 32 r.val), k0_off60 i t (BitVec.ofNat 32 r.val),
    k0_off58_inb i t h r, k0_off59_inb i t h r, k0_off60_inb i t h r⟩

/-- A tile's place. -/
def pos15 (i : grid0.Coords) (h : k0_cond7 i = 1#1) (t : Fin (k0_t15_loop i).trips) (r : Fin 4) : Pos :=
  ⟨0#32, k0_off64 i t (BitVec.ofNat 32 r.val), k0_off65 i t (BitVec.ofNat 32 r.val), k0_off66 i t (BitVec.ofNat 32 r.val),
    k0_off64_inb i t h r, k0_off65_inb i t h r, k0_off66_inb i t h r⟩

set_option maxHeartbeats 4000000 in
theorem t9_eq (i : grid0.Coords) (arg2 : Memref sig .tc .vmem S512x256 .bf16) (harg2 : arg2.IsWhole) (arg3 : Memref sig .tc .vmem S512x128 .bf16) (harg3 : arg3.IsWhole) (arg4 : Memref sig .tc .vmem S16896x256 .bf16) (harg4 : arg4.IsWhole) (arg5 : Memref sig .tc .vmem S16896x128 .bf16) (harg5 : arg5.IsWhole) (arg6 : Memref sig .tc .vmem S1x1x16896 .f32) (harg6 : arg6.IsWhole) (arg7 : Memref sig .tc .vmem S1x1x16896 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x128 .bf16) (harg13 : arg13.IsWhole) (arg14 : Memref sig .tc .vmem S16896x256 .f32) (harg14 : arg14.IsWhole) (arg15 : Memref sig .tc .vmem S512x256 .f32) (harg15 : arg15.IsWhole) (arg16 : Memref sig .tc .vmem S512x128 .f32) (harg16 : arg16.IsWhole) (arg1 : BitVec 32) (h : k0_cond2 i = 1#1) (lo : BitVec 32) t u :
    k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h lo t u = tilesm (⟨arg2, arg3, arg4, arg5, arg6, arg7, arg14, arg15, arg16⟩ : Args) arg1 [pos9 i h lo t] := rfl

set_option maxHeartbeats 4000000 in
theorem t15_eq (i : grid0.Coords) (arg2 : Memref sig .tc .vmem S512x256 .bf16) (harg2 : arg2.IsWhole) (arg3 : Memref sig .tc .vmem S512x128 .bf16) (harg3 : arg3.IsWhole) (arg4 : Memref sig .tc .vmem S16896x256 .bf16) (harg4 : arg4.IsWhole) (arg5 : Memref sig .tc .vmem S16896x128 .bf16) (harg5 : arg5.IsWhole) (arg6 : Memref sig .tc .vmem S1x1x16896 .f32) (harg6 : arg6.IsWhole) (arg7 : Memref sig .tc .vmem S1x1x16896 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x128 .bf16) (harg13 : arg13.IsWhole) (arg14 : Memref sig .tc .vmem S16896x256 .f32) (harg14 : arg14.IsWhole) (arg15 : Memref sig .tc .vmem S512x256 .f32) (harg15 : arg15.IsWhole) (arg16 : Memref sig .tc .vmem S512x128 .f32) (harg16 : arg16.IsWhole) (arg1 v15 : BitVec 32) (h : k0_cond7 i = 1#1) (v w : BitVec 32) t u :
    k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15 h v w t u = tilesu (⟨arg2, arg3, arg4, arg5, arg6, arg7, arg14, arg15, arg16⟩ : Args) ([0, 1, 2, 3].map (pos15 i h t)) := rfl

set_option maxHeartbeats 4000000 in
theorem t13_eq (i : grid0.Coords) (arg2 : Memref sig .tc .vmem S512x256 .bf16) (harg2 : arg2.IsWhole) (arg3 : Memref sig .tc .vmem S512x128 .bf16) (harg3 : arg3.IsWhole) (arg4 : Memref sig .tc .vmem S16896x256 .bf16) (harg4 : arg4.IsWhole) (arg5 : Memref sig .tc .vmem S16896x128 .bf16) (harg5 : arg5.IsWhole) (arg6 : Memref sig .tc .vmem S1x1x16896 .f32) (harg6 : arg6.IsWhole) (arg7 : Memref sig .tc .vmem S1x1x16896 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x128 .bf16) (harg13 : arg13.IsWhole) (arg14 : Memref sig .tc .vmem S16896x256 .f32) (harg14 : arg14.IsWhole) (arg15 : Memref sig .tc .vmem S512x256 .f32) (harg15 : arg15.IsWhole) (arg16 : Memref sig .tc .vmem S512x128 .f32) (harg16 : arg16.IsWhole) (h : k0_cond7 i = 1#1) (v1 v2 v3 v4 v5 v6 : BitVec 32) t u :
    k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 h v1 v2 v3 v4 v5 v6 t u = tilesu (⟨arg2, arg3, arg4, arg5, arg6, arg7, arg14, arg15, arg16⟩ : Args) ([0, 1, 2, 3, 4, 5, 6, 7].map (pos13 i h t)) := rfl

set_option maxHeartbeats 4000000 in
theorem t11_eq (i : grid0.Coords) (arg2 : Memref sig .tc .vmem S512x256 .bf16) (harg2 : arg2.IsWhole) (arg3 : Memref sig .tc .vmem S512x128 .bf16) (harg3 : arg3.IsWhole) (arg4 : Memref sig .tc .vmem S16896x256 .bf16) (harg4 : arg4.IsWhole) (arg5 : Memref sig .tc .vmem S16896x128 .bf16) (harg5 : arg5.IsWhole) (arg6 : Memref sig .tc .vmem S1x1x16896 .f32) (harg6 : arg6.IsWhole) (arg7 : Memref sig .tc .vmem S1x1x16896 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x128 .bf16) (harg13 : arg13.IsWhole) (arg14 : Memref sig .tc .vmem S16896x256 .f32) (harg14 : arg14.IsWhole) (arg15 : Memref sig .tc .vmem S512x256 .f32) (harg15 : arg15.IsWhole) (arg16 : Memref sig .tc .vmem S512x128 .f32) (harg16 : arg16.IsWhole) (arg1 v15 : BitVec 32) (h : k0_cond7 i = 1#1) (v : BitVec 32) t u :
    k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15 h v t u = tilesu (⟨arg2, arg3, arg4, arg5, arg6, arg7, arg14, arg15, arg16⟩ : Args) ([0, 1, 2, 3, 4, 5, 6, 7, 8, 9, 10, 11, 12, 13, 14, 15].map (pos11 i h t)) := rfl

set_option maxHeartbeats 4000000 in
theorem t1_eq (i : grid0.Coords) (arg2 : Memref sig .tc .vmem S512x256 .bf16) (harg2 : arg2.IsWhole) (arg3 : Memref sig .tc .vmem S512x128 .bf16) (harg3 : arg3.IsWhole) (arg4 : Memref sig .tc .vmem S16896x256 .bf16) (harg4 : arg4.IsWhole) (arg5 : Memref sig .tc .vmem S16896x128 .bf16) (harg5 : arg5.IsWhole) (arg6 : Memref sig .tc .vmem S1x1x16896 .f32) (harg6 : arg6.IsWhole) (arg7 : Memref sig .tc .vmem S1x1x16896 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x128 .bf16) (harg13 : arg13.IsWhole) (arg14 : Memref sig .tc .vmem S16896x256 .f32) (harg14 : arg14.IsWhole) (arg15 : Memref sig .tc .vmem S512x256 .f32) (harg15 : arg15.IsWhole) (arg16 : Memref sig .tc .vmem S512x128 .f32) (harg16 : arg16.IsWhole) (arg1 : BitVec 32) (h : k0_cond2 i = 1#1) t u :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h t u = tilesm (⟨arg2, arg3, arg4, arg5, arg6, arg7, arg14, arg15, arg16⟩ : Args) arg1 ([0, 1, 2, 3, 4, 5, 6, 7, 8, 9, 10, 11, 12, 13, 14, 15].map (pos1 i h t)) := rfl

end Cert.Kernel2Ideal.Tile
-- ==== Proof.Kern.lean ====
module

public import proofs.«01_k».proof.Proof.KernEq

@[expose] public section

set_option synthInstance.maxSize 4096
set_option maxRecDepth 16384

noncomputable section

namespace Cert.Kernel2Ideal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F] [Named F]

local notation "𝕄G" => MT nD τ sig Unit (Elt F) ℕ (UR sig nD τ) ℕ

variable (i : grid0.Coords) (arg2 : Memref sig .tc .vmem S512x256 .bf16) (harg2 : arg2.IsWhole) (arg3 : Memref sig .tc .vmem S512x128 .bf16) (harg3 : arg3.IsWhole) (arg4 : Memref sig .tc .vmem S16896x256 .bf16) (harg4 : arg4.IsWhole) (arg5 : Memref sig .tc .vmem S16896x128 .bf16) (harg5 : arg5.IsWhole) (arg6 : Memref sig .tc .vmem S1x1x16896 .f32) (harg6 : arg6.IsWhole) (arg7 : Memref sig .tc .vmem S1x1x16896 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x128 .bf16) (harg13 : arg13.IsWhole) (arg14 : Memref sig .tc .vmem S16896x256 .f32) (harg14 : arg14.IsWhole) (arg15 : Memref sig .tc .vmem S512x256 .f32) (harg15 : arg15.IsWhole) (arg16 : Memref sig .tc .vmem S512x128 .f32) (harg16 : arg16.IsWhole)

/-- The query gradient's accumulator is cleared at a head's first key block, then the rest. -/
def zeroQ {β : Type} (rest : Prog (TpuEff nD τ sig (Elt F) Λ₀ .tc) β) : Prog (TpuEff nD τ sig (Elt F) Λ₀ .tc) β := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v73 : Vec F S16896x256 .f32 ← Prog.lift (.load arg14 (Rect.unit (s := S16896x256) ![0, 0] S16896x256.size inb_S16896x256_S16896x256_0_0).toLoadRect (View.loadsAt_vmem h_S16896x256))
    Prog.lift (.store arg14 (Rect.unit (s := S16896x256) ![0, 0] S16896x256.size inb_S16896x256_S16896x256_0_0) (k0_pay1385 (F := F)) Finset.univ (View.stores_vmem_bits_univ h_S16896x256 rfl) (.inl rfl))
    rest
  else do
    rest

/-- The key and value gradients' accumulators are cleared. -/
def zeroKV : Prog (TpuEff nD τ sig (Elt F) Λ₀ .tc) Unit := do
  let v4 : Vec F S512x256 .f32 ← Prog.lift (.load arg15 (Rect.unit (s := S512x256) ![0, 0] S512x256.size inb_S512x256_S512x256_0_0).toLoadRect (View.loadsAt_vmem h_S512x256))
  Prog.lift (.store arg15 (Rect.unit (s := S512x256) ![0, 0] S512x256.size inb_S512x256_S512x256_0_0) (k0_pay1386 (F := F)) Finset.univ (View.stores_vmem_bits_univ h_S512x256 rfl) (.inl rfl))
  let v8 : Vec F S512x128 .f32 ← Prog.lift (.load arg16 (Rect.unit (s := S512x128) ![0, 0] S512x128.size inb_S512x128_S512x128_0_0).toLoadRect (View.loadsAt_vmem h_S512x128))
  Prog.lift (.store arg16 (Rect.unit (s := S512x128) ![0, 0] S512x128.size inb_S512x128_S512x128_0_0) (k0_pay1387 (F := F)) Finset.univ (View.stores_vmem_bits_univ h_S512x128 rfl) (.inl rfl))

/-- The leading key block's tiles, then the rest. -/
def lead {β : Type} (arg1 : BitVec 32) (k0_h2 : k0_cond2 i = 1#1) (rest : Prog (TpuEff nD τ sig (Elt F) Λ₀ .tc) β) : Prog (TpuEff nD τ sig (Elt F) Λ₀ .tc) β := do
  let ⟨v96, v98, c8_i32, v99, v104, v106, c0_i32_59⟩ : Σ' (v96 : BitVec 32) (v98 : BitVec 32) (c8_i32 : BitVec 32) (v99 : BitVec 32) (v104 : BitVec 32) (v106 : BitVec 32), BitVec 32 ← k0_part109 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_h2
  let ⟨v122, v141, c0_i32_77, c1_i32_78, v144⟩ : Σ' (v122 : BitVec 32) (v141 : BitVec 32) (c0_i32_77 : BitVec 32) (c1_i32_78 : BitVec 32), BitVec 32 ← k0_part110 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_h2 v96 v98 c8_i32 v99 v104 v106 c0_i32_59
  let ⟨v174, v176, c1_i32_99, v177, v178⟩ : Σ' (v174 : BitVec 32) (v176 : BitVec 32) (c1_i32_99 : BitVec 32) (v177 : BitVec 32), BitVec 1 ← k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_h2 v122 v141 c0_i32_77 c1_i32_78 v144
  let v179 : BitVec 32 := Scalar.extui v178
  let v180 : BitVec 1 := Scalar.cmpi .slt v176 0#32
  let v181 : BitVec 32 := Scalar.extui v180
  let v182 : BitVec 32 := Scalar.subi v179 v181
  let v183 : BitVec 1 := Scalar.cmpi .sgt c1_i32_99 0#32
  let v184 : BitVec 32 := Scalar.extui v183
  let v185 : BitVec 1 := Scalar.cmpi .slt c1_i32_99 0#32
  let v186 : BitVec 32 := Scalar.extui v185
  let v187 : BitVec 32 := Scalar.subi v184 v186
  let v188 : BitVec 1 := Scalar.cmpi .ne v182 v187
  let v189 : BitVec 32 := Scalar.remsi v176 c1_i32_99
  let v190 : BitVec 1 := Scalar.cmpi .ne v189 0#32
  let v191 : BitVec 1 := Scalar.andi v188 v190
  let v192 : BitVec 32 := Scalar.subi v177 1#32
  let v193 : BitVec 32 := Scalar.select v191 v192 v177
  let v194 : BitVec 32 := Scalar.subi v193 0#32
  let v196 : BitVec 32 := Scalar.divsi v194 1#32
  let v197 : BitVec 32 := Scalar.muli v196 1#32
  let v198 : BitVec 32 := Scalar.addi 0#32 v197
  Scf.Loop.for k0_t9_loop (k0_t9_ok i k0_h2) ⟨⟩ (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_h2 v174)
  Scf.Loop.for k0_t10_loop (k0_t10_ok i k0_h2) ⟨⟩ (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_h2 v174 v198)
  rest

/-- The tiles below the diagonal by loops, then the rest. -/
def below {β : Type} (arg1 v15 : BitVec 32) (k0_h7 : k0_cond7 i = 1#1) (rest : Prog (TpuEff nD τ sig (Elt F) Λ₀ .tc) β) : Prog (TpuEff nD τ sig (Elt F) Λ₀ .tc) β := do
  let ⟨v99, v101, c8_i32, v102, v107, c0_i32_58⟩ : Σ' (v99 : BitVec 32) (v101 : BitVec 32) (c8_i32 : BitVec 32) (v102 : BitVec 32) (v107 : BitVec 32), BitVec 32 ← k0_part203 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15 k0_h7
  let ⟨v125, v144, c0_i32_77, v145⟩ : Σ' (v125 : BitVec 32) (v144 : BitVec 32) (c0_i32_77 : BitVec 32), BitVec 32 ← k0_part204 i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h7 v99 v101 c8_i32 v102 v107 c0_i32_58
  let v147 : BitVec 32 := Scalar.divsi v145 1#32
  let v148 : BitVec 32 := Scalar.muli v147 1#32
  let v149 : BitVec 32 := Scalar.addi c0_i32_77 v148
  Scf.Loop.for (k0_t15_loop i) (k0_t15_ok i k0_h7) ⟨⟩ (k0_t15_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15 k0_h7 v125 c0_i32_77)
  Scf.Loop.for (k0_t16_loop i) (k0_t16_ok i k0_h7) ⟨⟩ (k0_t16_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15 k0_h7 v125 v149)
  let v150 : BitVec 32 := Scalar.muli v144 4#32
  let v151 : BitVec 32 := Scalar.addi v125 v150
  let v152 : BitVec 32 := Scalar.subi 33#32 v151
  let v153 : BitVec 32 := Scalar.maxsi v152 0#32
  let v154 : BitVec 32 := Scalar.divsi v153 1#32
  let v155 : BitVec 1 := Scalar.cmpi .sgt v153 0#32
  let v156 : BitVec 32 := Scalar.extui v155
  let v157 : BitVec 1 := Scalar.cmpi .slt v153 0#32
  let v158 : BitVec 32 := Scalar.extui v157
  let v159 : BitVec 32 := Scalar.subi v156 v158
  let v160 : BitVec 1 := Scalar.cmpi .sgt 1#32 0#32
  let v161 : BitVec 32 := Scalar.extui v160
  let v162 : BitVec 1 := Scalar.cmpi .slt 1#32 0#32
  let v163 : BitVec 32 := Scalar.extui v162
  let v164 : BitVec 32 := Scalar.subi v161 v163
  let v165 : BitVec 1 := Scalar.cmpi .ne v159 v164
  let v166 : BitVec 32 := Scalar.remsi v153 1#32
  let v167 : BitVec 1 := Scalar.cmpi .ne v166 0#32
  let v168 : BitVec 1 := Scalar.andi v165 v167
  let v169 : BitVec 32 := Scalar.subi v154 1#32
  let v170 : BitVec 32 := Scalar.select v168 v169 v154
  let v171 : BitVec 32 := Scalar.subi v170 0#32
  let v173 : BitVec 32 := Scalar.divsi v171 1#32
  let v174 : BitVec 32 := Scalar.muli v173 1#32
  let v175 : BitVec 32 := Scalar.addi 0#32 v174
  Scf.Loop.for (k0_t17_loop i) (k0_t17_ok i k0_h7) ⟨⟩ (k0_t17_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15 k0_h7 v151)
  Scf.Loop.for (k0_t18_loop i) (k0_t18_ok i k0_h7) ⟨⟩ (k0_t18_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15 k0_h7 v151 v175)
  rest

/-- Where the diagonal tile and the 0 after it are. -/
def diag3 (arg1 : BitVec 32) (h : k0_cond3 i = 1#1) : Pos × List Pos :=
  (⟨arg1, k0_off31 i, k0_off32 i, k0_off33 i, k0_off31_inb i h, k0_off32_inb i h, k0_off33_inb i h⟩,
    [])

/-- Where the diagonal tile and the 1 after it are. -/
def diag4 (arg1 : BitVec 32) (h : k0_cond4 i = 1#1) : Pos × List Pos :=
  (⟨arg1, k0_off34 i, k0_off35 i, k0_off36 i, k0_off34_inb i h, k0_off35_inb i h, k0_off36_inb i h⟩,
    [⟨arg1, k0_off37 i, k0_off38 i, k0_off39 i, k0_off37_inb i h, k0_off38_inb i h, k0_off39_inb i h⟩])

/-- Where the diagonal tile and the 2 after it are. -/
def diag5 (arg1 : BitVec 32) (h : k0_cond5 i = 1#1) : Pos × List Pos :=
  (⟨arg1, k0_off40 i, k0_off41 i, k0_off42 i, k0_off40_inb i h, k0_off41_inb i h, k0_off42_inb i h⟩,
    [⟨arg1, k0_off43 i 0#32, k0_off44 i 0#32, k0_off45 i 0#32, k0_off43_inb i h 0, k0_off44_inb i h 0, k0_off45_inb i h 0⟩, ⟨arg1, k0_off43 i 1#32, k0_off44 i 1#32, k0_off45 i 1#32, k0_off43_inb i h 1, k0_off44_inb i h 1, k0_off45_inb i h 1⟩])

/-- Where the diagonal tile and the 3 after it are. -/
def diag6 (arg1 : BitVec 32) (h : k0_cond6 i = 1#1) : Pos × List Pos :=
  (⟨arg1, k0_off46 i, k0_off47 i, k0_off48 i, k0_off46_inb i h, k0_off47_inb i h, k0_off48_inb i h⟩,
    [⟨arg1, k0_off49 i 0#32, k0_off50 i 0#32, k0_off51 i 0#32, k0_off49_inb i h 0, k0_off50_inb i h 0, k0_off51_inb i h 0⟩, ⟨arg1, k0_off49 i 1#32, k0_off50 i 1#32, k0_off51 i 1#32, k0_off49_inb i h 1, k0_off50_inb i h 1, k0_off51_inb i h 1⟩, ⟨arg1, k0_off49 i 2#32, k0_off50 i 2#32, k0_off51 i 2#32, k0_off49_inb i h 2, k0_off50_inb i h 2, k0_off51_inb i h 2⟩])

/-- The branch of a diagonal tile and 0 after it, then the rest. -/
def branch3 {β : Type} (arg1 : BitVec 32) (rest : Prog (TpuEff nD τ sig (Elt F) Λ₀ .tc) β) : Prog (TpuEff nD τ sig (Elt F) Λ₀ .tc) β :=
  if k0_h3 : k0_cond3 i = 1#1 then do
    tilesf (⟨arg2, arg3, arg4, arg5, arg6, arg7, arg14, arg15, arg16⟩ : Args) arg1 (diag3 i arg1 k0_h3).1 (diag3 i arg1 k0_h3).2
    rest
  else
    rest

/-- The branch of a diagonal tile and 1 after it, then the rest. -/
def branch4 {β : Type} (arg1 : BitVec 32) (rest : Prog (TpuEff nD τ sig (Elt F) Λ₀ .tc) β) : Prog (TpuEff nD τ sig (Elt F) Λ₀ .tc) β :=
  if k0_h4 : k0_cond4 i = 1#1 then do
    tilesf (⟨arg2, arg3, arg4, arg5, arg6, arg7, arg14, arg15, arg16⟩ : Args) arg1 (diag4 i arg1 k0_h4).1 (diag4 i arg1 k0_h4).2
    rest
  else
    rest

/-- The branch of a diagonal tile and 2 after it, then the rest. -/
def branch5 {β : Type} (arg1 : BitVec 32) (rest : Prog (TpuEff nD τ sig (Elt F) Λ₀ .tc) β) : Prog (TpuEff nD τ sig (Elt F) Λ₀ .tc) β :=
  if k0_h5 : k0_cond5 i = 1#1 then do
    tilesf (⟨arg2, arg3, arg4, arg5, arg6, arg7, arg14, arg15, arg16⟩ : Args) arg1 (diag5 i arg1 k0_h5).1 (diag5 i arg1 k0_h5).2
    rest
  else
    rest

/-- The branch of a diagonal tile and 3 after it, then the rest. -/
def branch6 {β : Type} (arg1 : BitVec 32) (rest : Prog (TpuEff nD τ sig (Elt F) Λ₀ .tc) β) : Prog (TpuEff nD τ sig (Elt F) Λ₀ .tc) β :=
  if k0_h6 : k0_cond6 i = 1#1 then do
    tilesf (⟨arg2, arg3, arg4, arg5, arg6, arg7, arg14, arg15, arg16⟩ : Args) arg1 (diag6 i arg1 k0_h6).1 (diag6 i arg1 k0_h6).2
    rest
  else
    rest

/-- The first half of the kernel. -/
def half1 : Prog (TpuEff nD τ sig (Elt F) Λ₀ .tc) (Σ' (arg1 : BitVec 32), BitVec 32) := do
  zeroQ i arg14 (do
    zeroKV arg15 arg16
    if k0_h2 : k0_cond2 i = 1#1 then
      lead i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_h2 (branch3 i arg2 arg3 arg4 arg5 arg6 arg7 arg14 arg15 arg16 (BitVec.ofNat 32 (i 1).val) (branch4 i arg2 arg3 arg4 arg5 arg6 arg7 arg14 arg15 arg16 (BitVec.ofNat 32 (i 1).val) (pure ⟨BitVec.ofNat 32 (i 1).val, Scalar.andi (Scalar.subi 32#32 (BitVec.ofNat 32 (i 1).val)) 3#32⟩)))
    else
      branch3 i arg2 arg3 arg4 arg5 arg6 arg7 arg14 arg15 arg16 (BitVec.ofNat 32 (i 1).val) (branch4 i arg2 arg3 arg4 arg5 arg6 arg7 arg14 arg15 arg16 (BitVec.ofNat 32 (i 1).val) (pure ⟨BitVec.ofNat 32 (i 1).val, Scalar.andi (Scalar.subi 32#32 (BitVec.ofNat 32 (i 1).val)) 3#32⟩)))

/-- The outputs, as far as the rotation. -/
def fin1 : Prog (TpuEff nD τ sig (Elt F) Λ₀ .tc) (Σ' (v56 : FVec F S512x128 .f32) (v58 : FVec F S512x128 .f32), FVec F S512x128 .f32) := do
  let v39 : Vec F S512x256 .f32 ← Prog.lift (.load arg15 (Rect.unit (s := S512x256) ![0, 0] S512x256.size inb_S512x256_S512x256_0_0).toLoadRect (View.loadsAt_vmem h_S512x256))
  let v43 : Vec F S512x256 .bf16 ← Prog.lift (.load arg12 (Rect.unit (s := S512x256) ![0, 0] S512x256.size inb_S512x256_S512x256_0_0).toLoadRect (View.loadsAt_vmem h_S512x256))
  Prog.lift (.store arg12 (Rect.unit (s := S512x256) ![0, 0] S512x256.size inb_S512x256_S512x256_0_0) (k0_pay1420 v39) Finset.univ (View.stores_vmem h_S512x256 (harg12.storeExact_slice rfl _ packedbf16_S512x256_S512x256_0_0) (fun _ => rfl)) (.inl rfl))
  let v44 : Vec F S512x128 .f32 ← Prog.lift (.load arg16 (Rect.unit (s := S512x128) ![0, 0] S512x128.size inb_S512x128_S512x128_0_0).toLoadRect (View.loadsAt_vmem h_S512x128))
  let v46 : Vec F S512x128 .bf16 ← Prog.lift (.load arg13 (Rect.unit (s := S512x128) ![0, 0] S512x128.size inb_S512x128_S512x128_0_0).toLoadRect (View.loadsAt_vmem h_S512x128))
  Prog.lift (.store arg13 (Rect.unit (s := S512x128) ![0, 0] S512x128.size inb_S512x128_S512x128_0_0) (k0_pay1421 v44) Finset.univ (View.stores_vmem h_S512x128 (harg13.storeExact_slice rfl _ packedbf16_S512x128_S512x128_0_0) (fun _ => rfl)) (.inl rfl))
  let v50 : Vec F S512x256 .f32 ← Prog.lift (.load arg14 (Rect.unit (s := S16896x256) (k0_off76 i) S512x256.size (k0_off76_inb i)).toLoadRect (View.loadsAt_vmem h_S512x256))
  let v55 : Vec F S512x128 .bf16 ← Prog.lift (.load arg11 (Rect.unit (s := S512x256) ![0, 0] S512x128.size inb_S512x256_S512x128_0_0).toLoadRect (View.loadsAt_vmem h_S512x128))
  Prog.lift (.store arg11 (Rect.unit (s := S512x256) ![0, 0] S512x128.size inb_S512x256_S512x128_0_0) (k0_pay1423 v50) Finset.univ (View.stores_vmem h_S512x128 (harg11.storeExact_slice rfl _ packedbf16_S512x256_S512x128_0_0) (fun _ => rfl)) (.inl rfl))
  let v57 : Vec F S512x128 .f32 ← Prog.lift (.load arg8 (Rect.unit (s := S512x128) ![0, 0] S512x128.size inb_S512x128_S512x128_0_0).toLoadRect (View.loadsAt_vmem h_S512x128))
  let v59 : Vec F S512x128 .f32 ← Prog.lift (.load arg9 (Rect.unit (s := S512x128) ![0, 0] S512x128.size inb_S512x128_S512x128_0_0).toLoadRect (View.loadsAt_vmem h_S512x128))
  pure ⟨k0_pay1424 v50, k0_pay1425 v57, k0_pay1426 v59⟩

/-- The tiles below the diagonal, then the outputs as far as the rotation. -/
def half2b (arg1 v15 : BitVec 32) : Prog (TpuEff nD τ sig (Elt F) Λ₀ .tc) (Σ' (v56 : FVec F S512x128 .f32) (v58 : FVec F S512x128 .f32), FVec F S512x128 .f32) :=
  if k0_h7 : k0_cond7 i = 1#1 then
    below i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15 k0_h7 (fin1 i arg8 arg9 arg11 harg11 arg12 harg12 arg13 harg13 arg14 arg15 arg16)
  else
    fin1 i arg8 arg9 arg11 harg11 arg12 harg12 arg13 harg13 arg14 arg15 arg16

/-- The second half of the kernel. -/
def half2 (arg1 v15 : BitVec 32) : Prog (TpuEff nD τ sig (Elt F) Λ₀ .tc) (Σ' (v56 : FVec F S512x128 .f32) (v58 : FVec F S512x128 .f32), FVec F S512x128 .f32) :=
  branch5 i arg2 arg3 arg4 arg5 arg6 arg7 arg14 arg15 arg16 arg1 (branch6 i arg2 arg3 arg4 arg5 arg6 arg7 arg14 arg15 arg16 arg1 (half2b i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15))

set_option maxRecDepth 1000000 in
theorem half1_eq : k0_part205 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = half1 i arg2 harg2 arg3 harg3 arg4 harg4 arg5 harg5 arg6 harg6 arg7 harg7 arg8 harg8 arg9 harg9 arg10 harg10 arg11 harg11 arg12 harg12 arg13 harg13 arg14 harg14 arg15 harg15 arg16 harg16 := by
  sl_kernel_rfl

set_option maxRecDepth 1000000 in
theorem half2_eq (arg1 v15 : BitVec 32) : k0_part206 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15 = half2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15 := by
  sl_kernel_rfl

end Cert.Kernel2Ideal.Tile
-- ==== Proof.KernRun.lean ====
module

public import proofs.«01_k».proof.Proof.Kern

@[expose] public section

set_option synthInstance.maxSize 4096
set_option maxRecDepth 16384

noncomputable section

namespace Cert.Kernel2Ideal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F] [Named F]

local notation "𝕄G" => MT nD τ sig Unit (Elt F) ℕ (UR sig nD τ) ℕ

variable {𝒱 : Variants} {c : Dev nD} {bd : Option 𝒱.V} {E : Set ℕ} {R : sProp (MT nD τ sig Unit (Elt F) ℕ (UR sig nD τ) ℕ)} {β : Type}

/-- A program with a given run, within more resources. -/
theorem cont {α : Type} {P P' : sProp 𝕄G} {p : Prog (TpuEff nD τ sig (Elt F) Λ₀ .tc) α} {Q : α → sProp 𝕄G}
    (hp : P ⊢ wp frame (wpE (defs₀ (F := F)) 𝒱 (c : Thread nD τ) bd) E p (fun _ => P')) (h : ∀ u, iprop(P' ∗ R) ⊢ Q u) : iprop(P ∗ R) ⊢ wp frame (wpE (defs₀ (F := F)) 𝒱 (c : Thread nD τ) bd) E p Q :=
  (sep_mono_left hp).trans ((wp_frame_r _ _ _).trans (wp_mono _ _ _ h))

/-- A program followed by another. -/
theorem bindr {α : Type} {P : sProp 𝕄G} {p : Prog (TpuEff nD τ sig (Elt F) Λ₀ .tc) α} {k : α → Prog (TpuEff nD τ sig (Elt F) Λ₀ .tc) β} {Q : β → sProp 𝕄G}
    (h : P ⊢ wp frame (wpE (defs₀ (F := F)) 𝒱 (c : Thread nD τ) bd) E p (fun a => wp frame (wpE (defs₀ (F := F)) 𝒱 (c : Thread nD τ) bd) E (k a) Q)) : P ⊢ wp frame (wpE (defs₀ (F := F)) 𝒱 (c : Thread nD τ) bd) E (p >>= k) Q := by
  rw [wp_bind]; exact h

/-- A program that only returns. -/
theorem retr {α : Type} {P : sProp 𝕄G} {a : α} {Q : α → sProp 𝕄G} (h : P ⊢ Q a) : P ⊢ wp frame (wpE (defs₀ (F := F)) 𝒱 (c : Thread nD τ) bd) E (.ret a : Prog (TpuEff nD τ sig (Elt F) Λ₀ .tc) α) Q :=
  h.trans (le_wp_ret frame _ E a Q)

/-- What the accumulators hold after the first trips of a loop. -/
def upto {A : Args} {n : Nat} (step : Fin n → Acc (F := F) A → Acc (F := F) A) (s : Acc (F := F) A) (k : Nat) : Acc (F := F) A :=
  ((List.finRange n).take k).foldl (fun a t => step t a) s

theorem upto_all {A : Args} {n : Nat} (step : Fin n → Acc (F := F) A → Acc (F := F) A) (s : Acc (F := F) A) :
    upto step s n = (List.finRange n).foldl (fun a t => step t a) s := by
  unfold upto; rw [List.take_of_length_le (by simp)]

theorem upto_succ {A : Args} {n : Nat} (step : Fin n → Acc (F := F) A → Acc (F := F) A) (s : Acc (F := F) A) (k : Fin n) :
    upto step s (k.val + 1) = step k (upto step s k.val) := by
  unfold upto
  rw [List.take_add_one, List.foldl_append]
  simp

/-- A loop whose trips step the accumulators. -/
theorem loop_run {A : Args} {X : Held (F := F) A} (lb ub st : BitVec 32) (hok : Scf.OK lb ub st)
    (body : Fin (Scf.trips lb ub st) → Unit → Prog (TpuEff nD τ sig (Elt F) Λ₀ .tc) Unit)
    (step : Fin (Scf.trips lb ub st) → Acc (F := F) A → Acc (F := F) A)
    (hb : ∀ t s, Res A c X s ⊢ wp frame (wpE (defs₀ (F := F)) 𝒱 (c : Thread nD τ) bd) E (body t ⟨⟩) (fun _ => Res A c X (step t s))) (s : Acc (F := F) A)
    {Q : Unit → sProp 𝕄G} (h : ∀ u, iprop(Res A c X ((List.finRange _).foldl (fun a t => step t a) s) ∗ R) ⊢ Q u) :
    iprop(Res A c X s ∗ R) ⊢ wp frame (wpE (defs₀ (F := F)) 𝒱 (c : Thread nD τ) bd) E (Scf.for lb ub st hok ⟨⟩ body) Q := by
  refine cont (P' := Res A c X ((List.finRange _).foldl (fun a t => step t a) s)) ?_ h
  have hb' : ∀ (t : Fin (Scf.trips lb ub st)) (u : Unit), (fun k (_ : Unit) => Res A c X (upto step s k)) t.val u
      ⊢ wp frame (wpE (defs₀ (F := F)) 𝒱 (c : Thread nD τ) bd) E (body t u) ((fun k (_ : Unit) => Res A c X (upto step s k)) (t.val + 1)) := by
    intro t u
    show Res A c X (upto step s t.val) ⊢ wp frame (wpE (defs₀ (F := F)) 𝒱 (c : Thread nD τ) bd) E (body t ⟨⟩) (fun _ => Res A c X (upto step s (t.val + 1)))
    rw [upto_succ]
    exact hb t _
  iintro HP
  iapply (Scf.wp_for frame (wpE (defs₀ (F := F)) 𝒱 (c : Thread nD τ) bd) E lb ub st hok (⟨⟩ : Unit) body (fun k _ => Res A c X (upto step s k)) hb')
  isplitl [HP]
  · iexact HP
  · iintro %acc HP
    rw [upto_all]
    iexact HP

/-- A loop without a trip. -/
theorem loop_none {P : sProp 𝕄G} (lb ub st : BitVec 32) (hok : Scf.OK lb ub st)
    (body : Fin (Scf.trips lb ub st) → Unit → Prog (TpuEff nD τ sig (Elt F) Λ₀ .tc) Unit) (h0 : Scf.trips lb ub st = 0)
    {Q : Unit → sProp 𝕄G} (h : P ⊢ Q ⟨⟩) : P ⊢ wp frame (wpE (defs₀ (F := F)) 𝒱 (c : Thread nD τ) bd) E (Scf.for lb ub st hok ⟨⟩ body) Q :=
  Scf.wp_for0' frame (wpE (defs₀ (F := F)) 𝒱 (c : Thread nD τ) bd) E lb ub st hok ⟨⟩ body h0 Q P h

theorem tilesu_run (A : Args) (X : Held (F := F) A) (l : List Pos) (s : Acc (F := F) A) :
    Res A c X s ⊢ wp frame (wpE (defs₀ (F := F)) 𝒱 (c : Thread nD τ) bd) E (tilesu A l) (fun _ => Res A c X (l.foldl (fun a p => stepu A X p a) s)) := by
  induction l generalizing s with
  | nil => exact retr (a := ()) .rfl
  | cons p l ih =>
    refine bindr ((tileu_run 𝒱 c bd A X p E s).trans (wp_mono _ _ _ fun _ => ?_))
    exact ih _

theorem tilesm_run (A : Args) (arg1 : BitVec 32) (X : Held (F := F) A) (l : List Pos) (s : Acc (F := F) A) :
    Res A c X s ⊢ wp frame (wpE (defs₀ (F := F)) 𝒱 (c : Thread nD τ) bd) E (tilesm A arg1 l) (fun _ => Res A c X (l.foldl (fun a p => stepm A arg1 X p a) s)) := by
  induction l generalizing s with
  | nil => exact retr (a := ()) .rfl
  | cons p l ih =>
    refine bindr ((tilem_run 𝒱 c bd A arg1 X p E s).trans (wp_mono _ _ _ fun _ => ?_))
    exact ih _

theorem tilesf_run (A : Args) (arg1 : BitVec 32) (X : Held (F := F) A) (p : Pos) (l : List Pos) (s : Acc (F := F) A) :
    Res A c X s ⊢ wp frame (wpE (defs₀ (F := F)) 𝒱 (c : Thread nD τ) bd) E (tilesf A arg1 p l) (fun _ => Res A c X (l.foldl (fun a p => stepu A X p a) (stepf A arg1 X p s))) :=
  bindr ((tilef_run 𝒱 c bd A arg1 X p E s).trans (wp_mono _ _ _ fun _ => tilesu_run A X l _))

variable (i : grid0.Coords) (arg2 : Memref sig .tc .vmem S512x256 .bf16) (harg2 : arg2.IsWhole) (arg3 : Memref sig .tc .vmem S512x128 .bf16) (harg3 : arg3.IsWhole) (arg4 : Memref sig .tc .vmem S16896x256 .bf16) (harg4 : arg4.IsWhole) (arg5 : Memref sig .tc .vmem S16896x128 .bf16) (harg5 : arg5.IsWhole) (arg6 : Memref sig .tc .vmem S1x1x16896 .f32) (harg6 : arg6.IsWhole) (arg7 : Memref sig .tc .vmem S1x1x16896 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x128 .bf16) (harg13 : arg13.IsWhole) (arg14 : Memref sig .tc .vmem S16896x256 .f32) (harg14 : arg14.IsWhole) (arg15 : Memref sig .tc .vmem S512x256 .f32) (harg15 : arg15.IsWhole) (arg16 : Memref sig .tc .vmem S512x128 .f32) (harg16 : arg16.IsWhole)

/-- What the accumulators hold after the branch. -/
def bstep3 (A : Args) (arg1 : BitVec 32) (X : Held (F := F) A) (s : Acc (F := F) A) : Acc (F := F) A :=
  if h : k0_cond3 i = 1#1 then (diag3 i arg1 h).2.foldl (fun a p => stepu A X p a) (stepf A arg1 X (diag3 i arg1 h).1 s) else s

theorem branch3_run (arg1 : BitVec 32) (X : Held (F := F) (⟨arg2, arg3, arg4, arg5, arg6, arg7, arg14, arg15, arg16⟩ : Args)) (s : Acc (F := F) (⟨arg2, arg3, arg4, arg5, arg6, arg7, arg14, arg15, arg16⟩ : Args)) (rest : Prog (TpuEff nD τ sig (Elt F) Λ₀ .tc) β) {Q : β → sProp 𝕄G}
    (h : iprop(Res (⟨arg2, arg3, arg4, arg5, arg6, arg7, arg14, arg15, arg16⟩ : Args) c X (bstep3 i (⟨arg2, arg3, arg4, arg5, arg6, arg7, arg14, arg15, arg16⟩ : Args) arg1 X s) ∗ R) ⊢ wp frame (wpE (defs₀ (F := F)) 𝒱 (c : Thread nD τ) bd) E rest Q) :
    iprop(Res (⟨arg2, arg3, arg4, arg5, arg6, arg7, arg14, arg15, arg16⟩ : Args) c X s ∗ R) ⊢ wp frame (wpE (defs₀ (F := F)) 𝒱 (c : Thread nD τ) bd) E (branch3 i arg2 arg3 arg4 arg5 arg6 arg7 arg14 arg15 arg16 arg1 rest) Q := by
  unfold branch3
  unfold bstep3 at h
  by_cases hc : k0_cond3 i = 1#1
  · rw [dif_pos hc] at h ⊢
    exact bindr (cont (tilesf_run (⟨arg2, arg3, arg4, arg5, arg6, arg7, arg14, arg15, arg16⟩ : Args) arg1 X _ _ s) fun _ => h)
  · rw [dif_neg hc] at h ⊢
    exact h

/-- What the accumulators hold after the branch. -/
def bstep4 (A : Args) (arg1 : BitVec 32) (X : Held (F := F) A) (s : Acc (F := F) A) : Acc (F := F) A :=
  if h : k0_cond4 i = 1#1 then (diag4 i arg1 h).2.foldl (fun a p => stepu A X p a) (stepf A arg1 X (diag4 i arg1 h).1 s) else s

theorem branch4_run (arg1 : BitVec 32) (X : Held (F := F) (⟨arg2, arg3, arg4, arg5, arg6, arg7, arg14, arg15, arg16⟩ : Args)) (s : Acc (F := F) (⟨arg2, arg3, arg4, arg5, arg6, arg7, arg14, arg15, arg16⟩ : Args)) (rest : Prog (TpuEff nD τ sig (Elt F) Λ₀ .tc) β) {Q : β → sProp 𝕄G}
    (h : iprop(Res (⟨arg2, arg3, arg4, arg5, arg6, arg7, arg14, arg15, arg16⟩ : Args) c X (bstep4 i (⟨arg2, arg3, arg4, arg5, arg6, arg7, arg14, arg15, arg16⟩ : Args) arg1 X s) ∗ R) ⊢ wp frame (wpE (defs₀ (F := F)) 𝒱 (c : Thread nD τ) bd) E rest Q) :
    iprop(Res (⟨arg2, arg3, arg4, arg5, arg6, arg7, arg14, arg15, arg16⟩ : Args) c X s ∗ R) ⊢ wp frame (wpE (defs₀ (F := F)) 𝒱 (c : Thread nD τ) bd) E (branch4 i arg2 arg3 arg4 arg5 arg6 arg7 arg14 arg15 arg16 arg1 rest) Q := by
  unfold branch4
  unfold bstep4 at h
  by_cases hc : k0_cond4 i = 1#1
  · rw [dif_pos hc] at h ⊢
    exact bindr (cont (tilesf_run (⟨arg2, arg3, arg4, arg5, arg6, arg7, arg14, arg15, arg16⟩ : Args) arg1 X _ _ s) fun _ => h)
  · rw [dif_neg hc] at h ⊢
    exact h

/-- What the accumulators hold after the branch. -/
def bstep5 (A : Args) (arg1 : BitVec 32) (X : Held (F := F) A) (s : Acc (F := F) A) : Acc (F := F) A :=
  if h : k0_cond5 i = 1#1 then (diag5 i arg1 h).2.foldl (fun a p => stepu A X p a) (stepf A arg1 X (diag5 i arg1 h).1 s) else s

theorem branch5_run (arg1 : BitVec 32) (X : Held (F := F) (⟨arg2, arg3, arg4, arg5, arg6, arg7, arg14, arg15, arg16⟩ : Args)) (s : Acc (F := F) (⟨arg2, arg3, arg4, arg5, arg6, arg7, arg14, arg15, arg16⟩ : Args)) (rest : Prog (TpuEff nD τ sig (Elt F) Λ₀ .tc) β) {Q : β → sProp 𝕄G}
    (h : iprop(Res (⟨arg2, arg3, arg4, arg5, arg6, arg7, arg14, arg15, arg16⟩ : Args) c X (bstep5 i (⟨arg2, arg3, arg4, arg5, arg6, arg7, arg14, arg15, arg16⟩ : Args) arg1 X s) ∗ R) ⊢ wp frame (wpE (defs₀ (F := F)) 𝒱 (c : Thread nD τ) bd) E rest Q) :
    iprop(Res (⟨arg2, arg3, arg4, arg5, arg6, arg7, arg14, arg15, arg16⟩ : Args) c X s ∗ R) ⊢ wp frame (wpE (defs₀ (F := F)) 𝒱 (c : Thread nD τ) bd) E (branch5 i arg2 arg3 arg4 arg5 arg6 arg7 arg14 arg15 arg16 arg1 rest) Q := by
  unfold branch5
  unfold bstep5 at h
  by_cases hc : k0_cond5 i = 1#1
  · rw [dif_pos hc] at h ⊢
    exact bindr (cont (tilesf_run (⟨arg2, arg3, arg4, arg5, arg6, arg7, arg14, arg15, arg16⟩ : Args) arg1 X _ _ s) fun _ => h)
  · rw [dif_neg hc] at h ⊢
    exact h

/-- What the accumulators hold after the branch. -/
def bstep6 (A : Args) (arg1 : BitVec 32) (X : Held (F := F) A) (s : Acc (F := F) A) : Acc (F := F) A :=
  if h : k0_cond6 i = 1#1 then (diag6 i arg1 h).2.foldl (fun a p => stepu A X p a) (stepf A arg1 X (diag6 i arg1 h).1 s) else s

theorem branch6_run (arg1 : BitVec 32) (X : Held (F := F) (⟨arg2, arg3, arg4, arg5, arg6, arg7, arg14, arg15, arg16⟩ : Args)) (s : Acc (F := F) (⟨arg2, arg3, arg4, arg5, arg6, arg7, arg14, arg15, arg16⟩ : Args)) (rest : Prog (TpuEff nD τ sig (Elt F) Λ₀ .tc) β) {Q : β → sProp 𝕄G}
    (h : iprop(Res (⟨arg2, arg3, arg4, arg5, arg6, arg7, arg14, arg15, arg16⟩ : Args) c X (bstep6 i (⟨arg2, arg3, arg4, arg5, arg6, arg7, arg14, arg15, arg16⟩ : Args) arg1 X s) ∗ R) ⊢ wp frame (wpE (defs₀ (F := F)) 𝒱 (c : Thread nD τ) bd) E rest Q) :
    iprop(Res (⟨arg2, arg3, arg4, arg5, arg6, arg7, arg14, arg15, arg16⟩ : Args) c X s ∗ R) ⊢ wp frame (wpE (defs₀ (F := F)) 𝒱 (c : Thread nD τ) bd) E (branch6 i arg2 arg3 arg4 arg5 arg6 arg7 arg14 arg15 arg16 arg1 rest) Q := by
  unfold branch6
  unfold bstep6 at h
  by_cases hc : k0_cond6 i = 1#1
  · rw [dif_pos hc] at h ⊢
    exact bindr (cont (tilesf_run (⟨arg2, arg3, arg4, arg5, arg6, arg7, arg14, arg15, arg16⟩ : Args) arg1 X _ _ s) fun _ => h)
  · rw [dif_neg hc] at h ⊢
    exact h

/-- What the accumulators hold after the leading block's tiles. -/
def leadstep (A : Args) (arg1 : BitVec 32) (h : k0_cond2 i = 1#1) (X : Held (F := F) A) (s : Acc (F := F) A) : Acc (F := F) A :=
  (List.finRange _).foldl (fun a t => [pos9 i h 32#32 t].foldl (fun a p => stepm A arg1 X p a) a)
    ((List.finRange _).foldl (fun a t => ([0, 1, 2, 3, 4, 5, 6, 7, 8, 9, 10, 11, 12, 13, 14, 15].map (pos1 i h t)).foldl (fun a p => stepm A arg1 X p a) a) s)

theorem part109_run (arg1 : BitVec 32) (h : k0_cond2 i = 1#1) (X : Held (F := F) (⟨arg2, arg3, arg4, arg5, arg6, arg7, arg14, arg15, arg16⟩ : Args)) (s : Acc (F := F) (⟨arg2, arg3, arg4, arg5, arg6, arg7, arg14, arg15, arg16⟩ : Args))
    {Q : (Σ' (v96 : BitVec 32) (v98 : BitVec 32) (c8_i32 : BitVec 32) (v99 : BitVec 32) (v104 : BitVec 32) (v106 : BitVec 32), BitVec 32) → sProp 𝕄G}
    (hQ : iprop(Res (⟨arg2, arg3, arg4, arg5, arg6, arg7, arg14, arg15, arg16⟩ : Args) c X ((List.finRange _).foldl (fun a t => ([0, 1, 2, 3, 4, 5, 6, 7, 8, 9, 10, 11, 12, 13, 14, 15].map (pos1 i h t)).foldl (fun a p => stepm (⟨arg2, arg3, arg4, arg5, arg6, arg7, arg14, arg15, arg16⟩ : Args) arg1 X p a) a) s) ∗ R)
      ⊢ Q ⟨32#32, 1#32, 8#32, 0#32, 1#32, 1#32, 0#32⟩) :
    iprop(Res (⟨arg2, arg3, arg4, arg5, arg6, arg7, arg14, arg15, arg16⟩ : Args) c X s ∗ R) ⊢ wp frame (wpE (defs₀ (F := F)) 𝒱 (c : Thread nD τ) bd) E (k0_part109 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h) Q := by
  rw [k0_part109_eq_skeleton]
  unfold k0_part109_skel
  refine bindr (loop_run _ _ _ _ _ _ (fun t s => by rw [t1_eq]; exact tilesm_run (⟨arg2, arg3, arg4, arg5, arg6, arg7, arg14, arg15, arg16⟩ : Args) arg1 X _ s) s fun _ => ?_)
  refine bindr (loop_none _ _ _ _ _ (by decide +kernel) ?_)
  exact hQ.trans (le_wp_ret frame _ E _ Q)

theorem part110_run (arg1 : BitVec 32) (h : k0_cond2 i = 1#1) {P : sProp 𝕄G}
    {Q : (Σ' (v122 : BitVec 32) (v141 : BitVec 32) (c0_i32_77 : BitVec 32) (c1_i32_78 : BitVec 32), BitVec 32) → sProp 𝕄G}
    (hQ : P ⊢ Q ⟨32#32, 0#32, 0#32, 1#32, 0#32⟩) :
    P ⊢ wp frame (wpE (defs₀ (F := F)) 𝒱 (c : Thread nD τ) bd) E (k0_part110 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h 32#32 1#32 8#32 0#32 1#32 1#32 0#32) Q := by
  rw [k0_part110_eq_skeleton]
  unfold k0_part110_skel
  refine bindr (loop_none _ _ _ _ _ (by decide +kernel) ?_)
  refine bindr (loop_none _ _ _ _ _ (by decide +kernel) ?_)
  exact hQ.trans (le_wp_ret frame _ E _ Q)

theorem part111_run (arg1 : BitVec 32) (h : k0_cond2 i = 1#1) {P : sProp 𝕄G}
    {Q : (Σ' (v174 : BitVec 32) (v176 : BitVec 32) (c1_i32_99 : BitVec 32) (v177 : BitVec 32), BitVec 1) → sProp 𝕄G}
    (hQ : P ⊢ Q ⟨32#32, 1#32, 1#32, 1#32, 1#1⟩) :
    P ⊢ wp frame (wpE (defs₀ (F := F)) 𝒱 (c : Thread nD τ) bd) E (k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h 32#32 0#32 0#32 1#32 0#32) Q := by
  rw [k0_part111_eq_skeleton]
  unfold k0_part111_skel
  refine bindr (loop_none _ _ _ _ _ (by decide +kernel) ?_)
  refine bindr (loop_none _ _ _ _ _ (by decide +kernel) ?_)
  refine bindr (loop_none _ _ _ _ _ (by decide +kernel) ?_)
  refine bindr (loop_none _ _ _ _ _ (by decide +kernel) ?_)
  exact hQ.trans (le_wp_ret frame _ E _ Q)

theorem lead_run (arg1 : BitVec 32) (h : k0_cond2 i = 1#1) (X : Held (F := F) (⟨arg2, arg3, arg4, arg5, arg6, arg7, arg14, arg15, arg16⟩ : Args)) (s : Acc (F := F) (⟨arg2, arg3, arg4, arg5, arg6, arg7, arg14, arg15, arg16⟩ : Args)) (rest : Prog (TpuEff nD τ sig (Elt F) Λ₀ .tc) β) {Q : β → sProp 𝕄G}
    (hr : iprop(Res (⟨arg2, arg3, arg4, arg5, arg6, arg7, arg14, arg15, arg16⟩ : Args) c X (leadstep i (⟨arg2, arg3, arg4, arg5, arg6, arg7, arg14, arg15, arg16⟩ : Args) arg1 h X s) ∗ R) ⊢ wp frame (wpE (defs₀ (F := F)) 𝒱 (c : Thread nD τ) bd) E rest Q) :
    iprop(Res (⟨arg2, arg3, arg4, arg5, arg6, arg7, arg14, arg15, arg16⟩ : Args) c X s ∗ R) ⊢ wp frame (wpE (defs₀ (F := F)) 𝒱 (c : Thread nD τ) bd) E (lead i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h rest) Q := by
  unfold lead
  refine bindr (part109_run i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h X s ?_)
  refine bindr (part110_run i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h ?_)
  refine bindr (part111_run i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 h ?_)
  refine bindr (loop_run _ _ _ _ _ _ (fun t s => by rw [t9_eq]; exact tilesm_run (⟨arg2, arg3, arg4, arg5, arg6, arg7, arg14, arg15, arg16⟩ : Args) arg1 X _ s) _ fun _ => ?_)
  refine bindr (loop_none _ _ _ _ _ (by decide +kernel) ?_)
  exact hr

/-- What the accumulators hold after the tiles below the diagonal. -/
def belowstep (A : Args) (h : k0_cond7 i = 1#1) (X : Held (F := F) A) (s : Acc (F := F) A) : Acc (F := F) A :=
  (List.finRange _).foldl (fun a t => ([0, 1, 2, 3].map (pos15 i h t)).foldl (fun a p => stepu A X p a) a)
    ((List.finRange _).foldl (fun a t => ([0, 1, 2, 3, 4, 5, 6, 7].map (pos13 i h t)).foldl (fun a p => stepu A X p a) a)
      ((List.finRange _).foldl (fun a t => ([0, 1, 2, 3, 4, 5, 6, 7, 8, 9, 10, 11, 12, 13, 14, 15].map (pos11 i h t)).foldl (fun a p => stepu A X p a) a) s))

theorem trips12 : ∀ i : grid0.Coords, (k0_t12_loop i).trips = 0 := by decide +kernel
theorem trips14 : ∀ i : grid0.Coords, (k0_t14_loop i).trips = 0 := by decide +kernel
theorem trips16 : ∀ i : grid0.Coords, (k0_t16_loop i).trips = 0 := by decide +kernel
theorem trips17 : ∀ i : grid0.Coords, k0_cond7 i = 1#1 → (k0_t17_loop i).trips = 0 := by decide +kernel
theorem trips18 : ∀ i : grid0.Coords, k0_cond7 i = 1#1 → (k0_t18_loop i).trips = 0 := by decide +kernel

theorem below_run (arg1 v15 : BitVec 32) (h : k0_cond7 i = 1#1) (X : Held (F := F) (⟨arg2, arg3, arg4, arg5, arg6, arg7, arg14, arg15, arg16⟩ : Args)) (s : Acc (F := F) (⟨arg2, arg3, arg4, arg5, arg6, arg7, arg14, arg15, arg16⟩ : Args)) (rest : Prog (TpuEff nD τ sig (Elt F) Λ₀ .tc) β) {Q : β → sProp 𝕄G}
    (hr : iprop(Res (⟨arg2, arg3, arg4, arg5, arg6, arg7, arg14, arg15, arg16⟩ : Args) c X (belowstep i (⟨arg2, arg3, arg4, arg5, arg6, arg7, arg14, arg15, arg16⟩ : Args) h X s) ∗ R) ⊢ wp frame (wpE (defs₀ (F := F)) 𝒱 (c : Thread nD τ) bd) E rest Q) :
    iprop(Res (⟨arg2, arg3, arg4, arg5, arg6, arg7, arg14, arg15, arg16⟩ : Args) c X s ∗ R) ⊢ wp frame (wpE (defs₀ (F := F)) 𝒱 (c : Thread nD τ) bd) E (below i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15 h rest) Q := by
  unfold below
  rw [k0_part203_eq_skeleton, k0_part204_eq_skeleton]
  refine bindr ?_
  unfold k0_part203_skel
  refine bindr (loop_run _ _ _ _ _ _ (fun t s => by rw [t11_eq]; exact tilesu_run (⟨arg2, arg3, arg4, arg5, arg6, arg7, arg14, arg15, arg16⟩ : Args) X _ s) s fun _ => ?_)
  refine bindr (loop_none _ _ _ _ _ (trips12 i) (.trans ?_ (le_wp_ret frame _ E _ _)))
  refine bindr ?_
  unfold k0_part204_skel
  refine bindr (loop_run _ _ _ _ _ _ (fun t s => by rw [t13_eq]; exact tilesu_run (⟨arg2, arg3, arg4, arg5, arg6, arg7, arg14, arg15, arg16⟩ : Args) X _ s) _ fun _ => ?_)
  refine bindr (loop_none _ _ _ _ _ (trips14 i) (.trans ?_ (le_wp_ret frame _ E _ _)))
  refine bindr (loop_run _ _ _ _ _ _ (fun t s => by rw [t15_eq]; exact tilesu_run (⟨arg2, arg3, arg4, arg5, arg6, arg7, arg14, arg15, arg16⟩ : Args) X _ s) _ fun _ => ?_)
  refine bindr (loop_none _ _ _ _ _ (trips16 i) ?_)
  refine bindr (loop_none _ _ _ _ _ (trips17 i h) ?_)
  refine bindr (loop_none _ _ _ _ _ (trips18 i h) ?_)
  exact hr

end Cert.Kernel2Ideal.Tile
-- ==== Proof.KernAll.lean ====
module

public import proofs.«01_k».proof.Proof.KernRun

@[expose] public section

set_option synthInstance.maxSize 4096
set_option maxRecDepth 16384

noncomputable section

namespace Cert.Kernel2Ideal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F] [Named F]

local notation "𝕄G" => MT nD τ sig Unit (Elt F) ℕ (UR sig nD τ) ℕ

variable (i : grid0.Coords) (arg2 : Memref sig .tc .vmem S512x256 .bf16) (harg2 : arg2.IsWhole) (arg3 : Memref sig .tc .vmem S512x128 .bf16) (harg3 : arg3.IsWhole) (arg4 : Memref sig .tc .vmem S16896x256 .bf16) (harg4 : arg4.IsWhole) (arg5 : Memref sig .tc .vmem S16896x128 .bf16) (harg5 : arg5.IsWhole) (arg6 : Memref sig .tc .vmem S1x1x16896 .f32) (harg6 : arg6.IsWhole) (arg7 : Memref sig .tc .vmem S1x1x16896 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x128 .bf16) (harg13 : arg13.IsWhole) (arg14 : Memref sig .tc .vmem S16896x256 .f32) (harg14 : arg14.IsWhole) (arg15 : Memref sig .tc .vmem S512x256 .f32) (harg15 : arg15.IsWhole) (arg16 : Memref sig .tc .vmem S512x128 .f32) (harg16 : arg16.IsWhole)
/-- What the accumulators hold once the query gradient is cleared, at a head's first key block. -/
def zq (A : Args) (s : Acc (F := F) A) : Acc (F := F) A :=
  if Scalar.cmpi .ne (Scalar.extui (Scalar.cmpi .eq (BitVec.ofNat 32 (i 1).val) 0#32) : BitVec 32) 0#32 = 1#1 then ⟨A.dq.view.writes (Elt F) s.dq [⟨(Rect.unit (s := S16896x256) ![0, 0] S16896x256.size inb_S16896x256_S16896x256_0_0), k0_pay1385⟩], s.dk, s.dv⟩ else s

/-- What the accumulators hold once the key and value gradients are cleared. -/
def zkv (A : Args) (s : Acc (F := F) A) : Acc (F := F) A :=
  ⟨s.dq, A.dk.view.writes (Elt F) s.dk [⟨(Rect.unit (s := S512x256) ![0, 0] S512x256.size inb_S512x256_S512x256_0_0), k0_pay1386⟩], A.dv.view.writes (Elt F) s.dv [⟨(Rect.unit (s := S512x128) ![0, 0] S512x128.size inb_S512x128_S512x128_0_0), k0_pay1387⟩]⟩

/-- What the accumulators hold after the leading key block's tiles, if this is it. -/
def leadif (A : Args) (arg1 : BitVec 32) (X : Held (F := F) A) (s : Acc (F := F) A) : Acc (F := F) A :=
  if h : k0_cond2 i = 1#1 then leadstep i A arg1 h X s else s

/-- What the accumulators hold after the tiles below the diagonal. -/
def belowif (A : Args) (X : Held (F := F) A) (s : Acc (F := F) A) : Acc (F := F) A :=
  if h : k0_cond7 i = 1#1 then belowstep i A h X s else s

/-- What the accumulators hold at the end of a grid point. -/
def allstep (A : Args) (X : Held (F := F) A) (s : Acc (F := F) A) : Acc (F := F) A :=
  belowif i A X (bstep6 i A (BitVec.ofNat 32 (i 1).val) X (bstep5 i A (BitVec.ofNat 32 (i 1).val) X
    (bstep4 i A (BitVec.ofNat 32 (i 1).val) X (bstep3 i A (BitVec.ofNat 32 (i 1).val) X
      (leadif i A (BitVec.ofNat 32 (i 1).val) X (zkv A (zq i A s)))))))

variable {𝒱 : Variants} {c : Dev nD} {bd : Option 𝒱.V} {E : Set ℕ} {R : sProp (MT nD τ sig Unit (Elt F) ℕ (UR sig nD τ) ℕ)} {β : Type}

/-- The query gradient's accumulator is cleared. -/
def zeroP (arg14 : Memref sig .tc .vmem S16896x256 .f32) : Prog (TpuEff nD τ sig (Elt F) Λ₀ .tc) Unit := do
  let v73 : Vec F S16896x256 .f32 ← Prog.lift (.load arg14 (Rect.unit (s := S16896x256) ![0, 0] S16896x256.size inb_S16896x256_S16896x256_0_0).toLoadRect (View.loadsAt_vmem h_S16896x256))
  Prog.lift (.store arg14 (Rect.unit (s := S16896x256) ![0, 0] S16896x256.size inb_S16896x256_S16896x256_0_0) (k0_pay1385 (F := F)) Finset.univ (View.stores_vmem_bits_univ h_S16896x256 rfl) (.inl rfl))

theorem zeroP_run (X : Held (F := F) (⟨arg2, arg3, arg4, arg5, arg6, arg7, arg14, arg15, arg16⟩ : Args)) (s : Acc (F := F) (⟨arg2, arg3, arg4, arg5, arg6, arg7, arg14, arg15, arg16⟩ : Args)) :
    Res (⟨arg2, arg3, arg4, arg5, arg6, arg7, arg14, arg15, arg16⟩ : Args) c X s ⊢ wp frame (wpE (defs₀ (F := F)) 𝒱 (c : Thread nD τ) bd) E (zeroP arg14) (fun _ => Res (⟨arg2, arg3, arg4, arg5, arg6, arg7, arg14, arg15, arg16⟩ : Args) c X ⟨arg14.view.writes (Elt F) s.dq [⟨(Rect.unit (s := S16896x256) ![0, 0] S16896x256.size inb_S16896x256_S16896x256_0_0), k0_pay1385⟩], s.dk, s.dv⟩) := by
  unfold zeroP
  iintro ⟨HK, HV, HQ, HO, HL, HD, H14, H15, H16⟩
  sl_exec
  sl_step
  sl_close

theorem zeroKV_run (X : Held (F := F) (⟨arg2, arg3, arg4, arg5, arg6, arg7, arg14, arg15, arg16⟩ : Args)) (s : Acc (F := F) (⟨arg2, arg3, arg4, arg5, arg6, arg7, arg14, arg15, arg16⟩ : Args)) :
    Res (⟨arg2, arg3, arg4, arg5, arg6, arg7, arg14, arg15, arg16⟩ : Args) c X s ⊢ wp frame (wpE (defs₀ (F := F)) 𝒱 (c : Thread nD τ) bd) E (zeroKV arg15 arg16) (fun _ => Res (⟨arg2, arg3, arg4, arg5, arg6, arg7, arg14, arg15, arg16⟩ : Args) c X (zkv (⟨arg2, arg3, arg4, arg5, arg6, arg7, arg14, arg15, arg16⟩ : Args) s)) := by
  unfold zeroKV zkv
  iintro ⟨HK, HV, HQ, HO, HL, HD, H14, H15, H16⟩
  sl_exec
  sl_step
  sl_close

theorem zeroQ_run (X : Held (F := F) (⟨arg2, arg3, arg4, arg5, arg6, arg7, arg14, arg15, arg16⟩ : Args)) (s : Acc (F := F) (⟨arg2, arg3, arg4, arg5, arg6, arg7, arg14, arg15, arg16⟩ : Args)) (rest : Prog (TpuEff nD τ sig (Elt F) Λ₀ .tc) β) {Q : β → sProp 𝕄G}
    (h : iprop(Res (⟨arg2, arg3, arg4, arg5, arg6, arg7, arg14, arg15, arg16⟩ : Args) c X (zq i (⟨arg2, arg3, arg4, arg5, arg6, arg7, arg14, arg15, arg16⟩ : Args) s) ∗ R) ⊢ wp frame (wpE (defs₀ (F := F)) 𝒱 (c : Thread nD τ) bd) E rest Q) :
    iprop(Res (⟨arg2, arg3, arg4, arg5, arg6, arg7, arg14, arg15, arg16⟩ : Args) c X s ∗ R) ⊢ wp frame (wpE (defs₀ (F := F)) 𝒱 (c : Thread nD τ) bd) E (zeroQ i arg14 rest) Q := by
  unfold zeroQ
  unfold zq at h
  by_cases hc : Scalar.cmpi .ne (Scalar.extui (Scalar.cmpi .eq (BitVec.ofNat 32 (i 1).val) 0#32) : BitVec 32) 0#32 = 1#1
  · rw [if_pos hc] at h
    rw [dif_pos hc]
    exact bindr (p := zeroP arg14) (k := fun _ => rest) (cont (zeroP_run arg2 arg3 arg4 arg5 arg6 arg7 arg14 arg15 arg16 X s) fun _ => h)
  · rw [if_neg hc] at h
    rw [dif_neg hc]
    exact h

/-- The first half's run. -/
theorem half1_run (X : Held (F := F) (⟨arg2, arg3, arg4, arg5, arg6, arg7, arg14, arg15, arg16⟩ : Args)) (s : Acc (F := F) (⟨arg2, arg3, arg4, arg5, arg6, arg7, arg14, arg15, arg16⟩ : Args)) {Q : (Σ' (arg1 : BitVec 32), BitVec 32) → sProp 𝕄G}
    (h : iprop(Res (⟨arg2, arg3, arg4, arg5, arg6, arg7, arg14, arg15, arg16⟩ : Args) c X (bstep4 i (⟨arg2, arg3, arg4, arg5, arg6, arg7, arg14, arg15, arg16⟩ : Args) (BitVec.ofNat 32 (i 1).val) X (bstep3 i (⟨arg2, arg3, arg4, arg5, arg6, arg7, arg14, arg15, arg16⟩ : Args) (BitVec.ofNat 32 (i 1).val) X
      (leadif i (⟨arg2, arg3, arg4, arg5, arg6, arg7, arg14, arg15, arg16⟩ : Args) (BitVec.ofNat 32 (i 1).val) X (zkv (⟨arg2, arg3, arg4, arg5, arg6, arg7, arg14, arg15, arg16⟩ : Args) (zq i (⟨arg2, arg3, arg4, arg5, arg6, arg7, arg14, arg15, arg16⟩ : Args) s))))) ∗ R) ⊢
      Q ⟨BitVec.ofNat 32 (i 1).val, Scalar.andi (Scalar.subi 32#32 (BitVec.ofNat 32 (i 1).val)) 3#32⟩) :
    iprop(Res (⟨arg2, arg3, arg4, arg5, arg6, arg7, arg14, arg15, arg16⟩ : Args) c X s ∗ R) ⊢ wp frame (wpE (defs₀ (F := F)) 𝒱 (c : Thread nD τ) bd) E (half1 i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  unfold half1
  refine zeroQ_run i arg2 arg3 arg4 arg5 arg6 arg7 arg14 arg15 arg16 X s _ ?_
  refine bindr (cont (zeroKV_run arg2 arg3 arg4 arg5 arg6 arg7 arg14 arg15 arg16 X _) fun _ => ?_)
  unfold leadif at h
  by_cases hc : k0_cond2 i = 1#1
  · rw [dif_pos hc] at h ⊢
    exact lead_run i arg2 harg2 arg3 harg3 arg4 harg4 arg5 harg5 arg6 harg6 arg7 harg7 arg8 harg8 arg9 harg9 arg10 harg10 arg11 harg11 arg12 harg12 arg13 harg13 arg14 harg14 arg15 harg15 arg16 harg16 _ hc X _ _ (branch3_run i arg2 arg3 arg4 arg5 arg6 arg7 arg14 arg15 arg16 _ X _ _ (branch4_run i arg2 arg3 arg4 arg5 arg6 arg7 arg14 arg15 arg16 _ X _ _ (retr h)))
  · rw [dif_neg hc] at h ⊢
    exact branch3_run i arg2 arg3 arg4 arg5 arg6 arg7 arg14 arg15 arg16 _ X _ _ (branch4_run i arg2 arg3 arg4 arg5 arg6 arg7 arg14 arg15 arg16 _ X _ _ (retr h))

/-- The second half's run. -/
theorem half2_run (arg1 v15 : BitVec 32) (X : Held (F := F) (⟨arg2, arg3, arg4, arg5, arg6, arg7, arg14, arg15, arg16⟩ : Args)) (s : Acc (F := F) (⟨arg2, arg3, arg4, arg5, arg6, arg7, arg14, arg15, arg16⟩ : Args)) {Q : (Σ' (v56 : FVec F S512x128 .f32) (v58 : FVec F S512x128 .f32), FVec F S512x128 .f32) → sProp 𝕄G}
    (h : iprop(Res (⟨arg2, arg3, arg4, arg5, arg6, arg7, arg14, arg15, arg16⟩ : Args) c X (belowif i (⟨arg2, arg3, arg4, arg5, arg6, arg7, arg14, arg15, arg16⟩ : Args) X (bstep6 i (⟨arg2, arg3, arg4, arg5, arg6, arg7, arg14, arg15, arg16⟩ : Args) arg1 X (bstep5 i (⟨arg2, arg3, arg4, arg5, arg6, arg7, arg14, arg15, arg16⟩ : Args) arg1 X s))) ∗ R) ⊢
      wp frame (wpE (defs₀ (F := F)) 𝒱 (c : Thread nD τ) bd) E (fin1 i arg8 arg9 arg11 harg11 arg12 harg12 arg13 harg13 arg14 arg15 arg16) Q) :
    iprop(Res (⟨arg2, arg3, arg4, arg5, arg6, arg7, arg14, arg15, arg16⟩ : Args) c X s ∗ R) ⊢ wp frame (wpE (defs₀ (F := F)) 𝒱 (c : Thread nD τ) bd) E (half2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15) Q := by
  unfold half2
  refine branch5_run i arg2 arg3 arg4 arg5 arg6 arg7 arg14 arg15 arg16 _ X _ _ (branch6_run i arg2 arg3 arg4 arg5 arg6 arg7 arg14 arg15 arg16 _ X _ _ ?_)
  unfold half2b
  unfold belowif at h
  by_cases hc : k0_cond7 i = 1#1
  · rw [dif_pos hc] at h ⊢
    exact below_run i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v15 hc X _ _ h
  · rw [dif_neg hc] at h ⊢
    exact h

/-- The rotated half of the query gradient's block. -/
def fin2 (r : Σ' (v56 : FVec F S512x128 .f32) (v58 : FVec F S512x128 .f32), FVec F S512x128 .f32) : Prog (TpuEff nD τ sig (Elt F) Λ₀ .tc) PUnit := do
  let v61 : Vec F S512x128 .f32 ← Prog.lift (.load arg10 (Rect.unit (s := S512x128) ![0, 0] S512x128.size inb_S512x128_S512x128_0_0).toLoadRect (View.loadsAt_vmem h_S512x128))
  let v71 : Vec F S512x128 .bf16 ← Prog.lift (.load arg11 (Rect.unit (s := S512x256) ![0, 128] S512x128.size inb_S512x256_S512x128_0_128).toLoadRect (View.loadsAt_vmem h_S512x128))
  Prog.lift (.store arg11 (Rect.unit (s := S512x256) ![0, 128] S512x128.size inb_S512x256_S512x128_0_128) (k0_pay1 r.1 r.2.1 r.2.2 v61) Finset.univ (View.stores_vmem h_S512x128 (harg11.storeExact_slice rfl _ packedbf16_S512x256_S512x128_0_128) (fun _ => rfl)) (.inl rfl))
  pure ⟨⟩

/-- What the query gradient's block holds after its two halves. -/
def end11 (s : Acc (F := F) (⟨arg2, arg3, arg4, arg5, arg6, arg7, arg14, arg15, arg16⟩ : Args)) (x8 : BufTy.Contents (Elt F) arg8.view.ty) (x9 : BufTy.Contents (Elt F) arg9.view.ty) (x10 : BufTy.Contents (Elt F) arg10.view.ty) (w11 : BufTy.Contents (Elt F) arg11.view.ty) : BufTy.Contents (Elt F) arg11.view.ty :=
  arg11.view.writes (Elt F) w11 [⟨(Rect.unit (s := S512x256) ![0, 128] S512x128.size inb_S512x256_S512x128_0_128), k0_pay1 (k0_pay1424 (View.readAt (Elt F) arg14.view (Rect.unit (s := S16896x256) (k0_off76 i) S512x256.size (k0_off76_inb i)).toLoadRect s.dq)) (k0_pay1425 (View.readAt (Elt F) arg8.view (Rect.unit (s := S512x128) ![0, 0] S512x128.size inb_S512x128_S512x128_0_0).toLoadRect x8)) (k0_pay1426 (View.readAt (Elt F) arg9.view (Rect.unit (s := S512x128) ![0, 0] S512x128.size inb_S512x128_S512x128_0_0).toLoadRect x9)) (View.readAt (Elt F) arg10.view (Rect.unit (s := S512x128) ![0, 0] S512x128.size inb_S512x128_S512x128_0_0).toLoadRect x10)⟩, ⟨(Rect.unit (s := S512x256) ![0, 0] S512x128.size inb_S512x256_S512x128_0_0), k0_pay1423 (View.readAt (Elt F) arg14.view (Rect.unit (s := S16896x256) (k0_off76 i) S512x256.size (k0_off76_inb i)).toLoadRect s.dq)⟩]

/-- What the key gradient's block holds. -/
def end12 (s : Acc (F := F) (⟨arg2, arg3, arg4, arg5, arg6, arg7, arg14, arg15, arg16⟩ : Args)) (w12 : BufTy.Contents (Elt F) arg12.view.ty) : BufTy.Contents (Elt F) arg12.view.ty :=
  arg12.view.writes (Elt F) w12 [⟨(Rect.unit (s := S512x256) ![0, 0] S512x256.size inb_S512x256_S512x256_0_0), k0_pay1420 (View.readAt (Elt F) arg15.view (Rect.unit (s := S512x256) ![0, 0] S512x256.size inb_S512x256_S512x256_0_0).toLoadRect s.dk)⟩]

/-- What the value gradient's block holds. -/
def end13 (s : Acc (F := F) (⟨arg2, arg3, arg4, arg5, arg6, arg7, arg14, arg15, arg16⟩ : Args)) (w13 : BufTy.Contents (Elt F) arg13.view.ty) : BufTy.Contents (Elt F) arg13.view.ty :=
  arg13.view.writes (Elt F) w13 [⟨(Rect.unit (s := S512x128) ![0, 0] S512x128.size inb_S512x128_S512x128_0_0), k0_pay1421 (View.readAt (Elt F) arg16.view (Rect.unit (s := S512x128) ![0, 0] S512x128.size inb_S512x128_S512x128_0_0).toLoadRect s.dv)⟩]

set_option maxHeartbeats 2000000 in
theorem fin_run (X : Held (F := F) (⟨arg2, arg3, arg4, arg5, arg6, arg7, arg14, arg15, arg16⟩ : Args)) (s : Acc (F := F) (⟨arg2, arg3, arg4, arg5, arg6, arg7, arg14, arg15, arg16⟩ : Args)) (x8 : BufTy.Contents (Elt F) arg8.view.ty) (x9 : BufTy.Contents (Elt F) arg9.view.ty) (x10 : BufTy.Contents (Elt F) arg10.view.ty) (w11 : BufTy.Contents (Elt F) arg11.view.ty) (w12 : BufTy.Contents (Elt F) arg12.view.ty) (w13 : BufTy.Contents (Elt F) arg13.view.ty) :
    iprop(Res (⟨arg2, arg3, arg4, arg5, arg6, arg7, arg14, arg15, arg16⟩ : Args) c X s ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} w11) ∗ (arg12.view.loc (c : Thread nD τ) ↦[arg12.view.set]{fullShare} w12) ∗ (arg13.view.loc (c : Thread nD τ) ↦[arg13.view.set]{fullShare} w13)) ⊢
      wp frame (wpE (defs₀ (F := F)) 𝒱 (c : Thread nD τ) bd) E (fin1 i arg8 arg9 arg11 harg11 arg12 harg12 arg13 harg13 arg14 arg15 arg16 >>= fin2 arg10 arg11 harg11) (fun _ => iprop(Res (⟨arg2, arg3, arg4, arg5, arg6, arg7, arg14, arg15, arg16⟩ : Args) c X s ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} end11 i arg2 arg3 arg4 arg5 arg6 arg7 arg8 arg9 arg10 arg11 arg14 arg15 arg16 s x8 x9 x10 w11) ∗ (arg12.view.loc (c : Thread nD τ) ↦[arg12.view.set]{fullShare} end12 arg2 arg3 arg4 arg5 arg6 arg7 arg12 arg14 arg15 arg16 s w12) ∗ (arg13.view.loc (c : Thread nD τ) ↦[arg13.view.set]{fullShare} end13 arg2 arg3 arg4 arg5 arg6 arg7 arg13 arg14 arg15 arg16 s w13))) := by
  unfold fin1 fin2 end11 end12 end13
  iintro ⟨⟨HK, HV, HQ, HO, HL, HD, H14, H15, H16⟩, H8, H9, H10, H11, H12, H13⟩
  sl_exec
  sl_step
  sl_close

/-- The kernel's run at a grid point. -/
theorem kernel_run (X : Held (F := F) (⟨arg2, arg3, arg4, arg5, arg6, arg7, arg14, arg15, arg16⟩ : Args)) (s : Acc (F := F) (⟨arg2, arg3, arg4, arg5, arg6, arg7, arg14, arg15, arg16⟩ : Args)) (x8 : BufTy.Contents (Elt F) arg8.view.ty) (x9 : BufTy.Contents (Elt F) arg9.view.ty) (x10 : BufTy.Contents (Elt F) arg10.view.ty) (w11 : BufTy.Contents (Elt F) arg11.view.ty) (w12 : BufTy.Contents (Elt F) arg12.view.ty) (w13 : BufTy.Contents (Elt F) arg13.view.ty) :
    iprop(Res (⟨arg2, arg3, arg4, arg5, arg6, arg7, arg14, arg15, arg16⟩ : Args) c X s ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} w11) ∗ (arg12.view.loc (c : Thread nD τ) ↦[arg12.view.set]{fullShare} w12) ∗ (arg13.view.loc (c : Thread nD τ) ↦[arg13.view.set]{fullShare} w13)) ⊢
      wp frame (wpE (defs₀ (F := F)) 𝒱 (c : Thread nD τ) bd) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => iprop(Res (⟨arg2, arg3, arg4, arg5, arg6, arg7, arg14, arg15, arg16⟩ : Args) c X (allstep i (⟨arg2, arg3, arg4, arg5, arg6, arg7, arg14, arg15, arg16⟩ : Args) X s) ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10)
        ∗ (arg11.view.loc (c : Thread nD τ) ↦[arg11.view.set]{fullShare} end11 i arg2 arg3 arg4 arg5 arg6 arg7 arg8 arg9 arg10 arg11 arg14 arg15 arg16 (allstep i (⟨arg2, arg3, arg4, arg5, arg6, arg7, arg14, arg15, arg16⟩ : Args) X s) x8 x9 x10 w11) ∗ (arg12.view.loc (c : Thread nD τ) ↦[arg12.view.set]{fullShare} end12 arg2 arg3 arg4 arg5 arg6 arg7 arg12 arg14 arg15 arg16 (allstep i (⟨arg2, arg3, arg4, arg5, arg6, arg7, arg14, arg15, arg16⟩ : Args) X s) w12) ∗ (arg13.view.loc (c : Thread nD τ) ↦[arg13.view.set]{fullShare} end13 arg2 arg3 arg4 arg5 arg6 arg7 arg13 arg14 arg15 arg16 (allstep i (⟨arg2, arg3, arg4, arg5, arg6, arg7, arg14, arg15, arg16⟩ : Args) X s) w13))) := by
  rw [cc0_flash_bwd_eq_skeleton]
  unfold cc0_flash_bwd_skel
  rw [half1_eq]
  refine bindr (half1_run i arg2 harg2 arg3 harg3 arg4 harg4 arg5 harg5 arg6 harg6 arg7 harg7 arg8 harg8 arg9 harg9 arg10 harg10 arg11 harg11 arg12 harg12 arg13 harg13 arg14 harg14 arg15 harg15 arg16 harg16 X s ?_)
  dsimp only
  rw [half2_eq]
  refine bindr (half2_run i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ X _ ?_)
  rw [← wp_bind]
  exact fin_run i arg2 arg3 arg4 arg5 arg6 arg7 arg8 arg9 arg10 arg11 harg11 arg12 harg12 arg13 harg13 arg14 arg15 arg16 X _ x8 x9 x10 w11 w12 w13

end Cert.Kernel2Ideal.Tile
-- ==== Proof.KernVec.lean ====
module

public import proofs.«01_k».proof.Proof.KernAll
public import Idealize.ShloMosaic.Lib.Pipeline.Value

@[expose] public section

set_option synthInstance.maxSize 4096
set_option maxRecDepth 16384

noncomputable section

namespace Cert.Kernel2Ideal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F] [Named F]

local notation "𝕄G" => MT nD τ sig Unit (Elt F) ℕ (UR sig nD τ) ℕ

/-- What the memrefs that a tile reads hold, as arrays. -/
structure VHeld (F : FTy → Type) where
  k : Vec F S512x256 .bf16
  v : Vec F S512x128 .bf16
  q : Vec F S16896x256 .bf16
  o : Vec F S16896x128 .bf16
  lse : Vec F S1x1x16896 .f32
  dl : Vec F S1x1x16896 .f32

/-- What the accumulators hold, as arrays. -/
structure VAcc (F : FTy → Type) where
  dq : Vec F S16896x256 .f32
  dk : Vec F S512x256 .f32
  dv : Vec F S512x128 .f32

/-- The contents, read as arrays. -/
def Held.rd {A : Args} (X : Held (F := F) A) : VHeld F :=
  ⟨A.k.view.read (Elt F) X.k, A.v.view.read (Elt F) X.v, A.q.view.read (Elt F) X.q, A.o.view.read (Elt F) X.o, A.lse.view.read (Elt F) X.lse, A.dl.view.read (Elt F) X.dl⟩

/-- The accumulators, read as arrays. -/
def Acc.rd {A : Args} (s : Acc (F := F) A) : VAcc F :=
  ⟨A.dq.view.read (Elt F) s.dq, A.dk.view.read (Elt F) s.dk, A.dv.view.read (Elt F) s.dv⟩

/-- A view after one write reads as before but for the rectangle. -/
theorem read_write {sp : Space} {S : Shape} {e : EltTy} (mr : Memref sig .tc sp S e) (f : BufTy.Contents (Elt F) mr.view.ty) (r : Rect S) (x : r.shape.Idx → Elt F e) :
    mr.view.read (Elt F) (mr.view.writes (Elt F) f [⟨r, x⟩]) = r.overlay (mr.view.read (Elt F) f) x := by
  funext j
  by_cases h : j ∈ r.set
  · obtain ⟨i, rfl⟩ := r.toLoadRect.exists_idx_of_mem h
    exact (View.read_writes_cons_emb mr.view f r x [] i).trans (Rect.overlay_emb r _ x i).symm
  · rw [Rect.overlay_of_not_mem _ _ _ h]
    exact View.read_writes_apply_of_forall_not_mem mr.view f j _ (by simpa using h)

/-- The same where the rectangle is the whole shape. -/
theorem read_write_all {sp : Space} {S : Shape} {e : EltTy} (mr : Memref sig .tc sp S e) (f : BufTy.Contents (Elt F) mr.view.ty) {off : Fin S.rank → Nat} (h : off = fun _ => 0)
    (inb : ∀ a, off a + S.size a ≤ S.size a) (x : S.Idx → Elt F e) (L : List (View.Piece (Elt F) S e)) :
    mr.view.read (Elt F) (mr.view.writes (Elt F) f (⟨Rect.unit off S.size inb, x⟩ :: L)) = x := by
  subst h
  funext j
  have e : (Rect.unit (s := S) (fun _ => 0) S.size inb).emb j = j := Rect.emb_whole_apply S j
  have := View.read_writes_cons_emb (Val := Elt F) mr.view f (Rect.unit (s := S) (fun _ => 0) S.size inb) x L j
  rwa [e] at this

theorem zero2 : (![0, 0] : Fin 2 → Nat) = fun _ => 0 := by decide

theorem readAt_k {sp : Space} {e : EltTy} (mr : Memref sig .tc sp S512x256 e) (f : BufTy.Contents (Elt F) mr.view.ty) :
    View.readAt (Elt F) mr.view (Rect.unit (s := S512x256) ![0, 0] S512x256.size inb_S512x256_S512x256_0_0).toLoadRect f = mr.view.read (Elt F) f :=
  View.ld_unit_zero zero2 _ _

theorem readAt_v {sp : Space} {e : EltTy} (mr : Memref sig .tc sp S512x128 e) (f : BufTy.Contents (Elt F) mr.view.ty) :
    View.readAt (Elt F) mr.view (Rect.unit (s := S512x128) ![0, 0] S512x128.size inb_S512x128_S512x128_0_0).toLoadRect f = mr.view.read (Elt F) f :=
  View.ld_unit_zero zero2 _ _

/-- What the accumulators hold after a tile before the query rows, as arrays. -/
def vstepu (X : VHeld F) (p : Pos) (s : VAcc F) : VAcc F :=
  ⟨Rect.overlay (Rect.unit (s := S16896x256) p.oq S512x256.size p.hq) s.dq (
      dqu X.k X.v
        (View.ld X.q (Rect.unit (s := S16896x256) p.oq S512x256.size p.hq)) (View.ld X.o (Rect.unit (s := S16896x128) p.oo S512x128.size p.ho))
        (View.ld X.lse (Rect.unit (s := S1x1x16896) p.ol S1x1x512.size p.hl)) (View.ld X.dl (Rect.unit (s := S1x1x16896) p.ol S1x1x512.size p.hl))
        (View.ld s.dq (Rect.unit (s := S16896x256) p.oq S512x256.size p.hq))),
    (
      dku X.k X.v
        (View.ld X.q (Rect.unit (s := S16896x256) p.oq S512x256.size p.hq)) (View.ld X.o (Rect.unit (s := S16896x128) p.oo S512x128.size p.ho))
        (View.ld X.lse (Rect.unit (s := S1x1x16896) p.ol S1x1x512.size p.hl)) (View.ld X.dl (Rect.unit (s := S1x1x16896) p.ol S1x1x512.size p.hl))
        s.dk),
    (
      dvu X.k
        (View.ld X.q (Rect.unit (s := S16896x256) p.oq S512x256.size p.hq)) (View.ld X.o (Rect.unit (s := S16896x128) p.oo S512x128.size p.ho))
        (View.ld X.lse (Rect.unit (s := S1x1x16896) p.ol S1x1x512.size p.hl))
        s.dv)⟩

theorem rd_stepu {A : Args} (X : Held (F := F) A) (p : Pos) (s : Acc (F := F) A) : (stepu A X p s).rd = vstepu X.rd p s.rd := by
  unfold stepu vstepu Acc.rd
  dsimp only
  rw [read_write A.dq, read_write_all A.dk _ zero2, read_write_all A.dv _ zero2]
  rw [readAt_k A.k X.k, readAt_v A.v X.v, readAt_k A.dk s.dk, readAt_v A.dv s.dv]
  rfl

/-- What the accumulators hold after a tile on the diagonal, as arrays. -/
def vstepf (arg1 : BitVec 32) (X : VHeld F) (p : Pos) (s : VAcc F) : VAcc F :=
  ⟨Rect.overlay (Rect.unit (s := S16896x256) p.oq S512x256.size p.hq) s.dq (
      dqf arg1 p.iv X.k X.v
        (View.ld X.q (Rect.unit (s := S16896x256) p.oq S512x256.size p.hq)) (View.ld X.o (Rect.unit (s := S16896x128) p.oo S512x128.size p.ho))
        (View.ld X.lse (Rect.unit (s := S1x1x16896) p.ol S1x1x512.size p.hl)) (View.ld X.dl (Rect.unit (s := S1x1x16896) p.ol S1x1x512.size p.hl))
        (View.ld s.dq (Rect.unit (s := S16896x256) p.oq S512x256.size p.hq))),
    (
      dkf arg1 p.iv X.k X.v
        (View.ld X.q (Rect.unit (s := S16896x256) p.oq S512x256.size p.hq)) (View.ld X.o (Rect.unit (s := S16896x128) p.oo S512x128.size p.ho))
        (View.ld X.lse (Rect.unit (s := S1x1x16896) p.ol S1x1x512.size p.hl)) (View.ld X.dl (Rect.unit (s := S1x1x16896) p.ol S1x1x512.size p.hl))
        s.dk),
    (
      dvf arg1 p.iv X.k
        (View.ld X.q (Rect.unit (s := S16896x256) p.oq S512x256.size p.hq)) (View.ld X.o (Rect.unit (s := S16896x128) p.oo S512x128.size p.ho))
        (View.ld X.lse (Rect.unit (s := S1x1x16896) p.ol S1x1x512.size p.hl))
        s.dv)⟩

theorem rd_stepf {A : Args} (arg1 : BitVec 32) (X : Held (F := F) A) (p : Pos) (s : Acc (F := F) A) : (stepf A arg1 X p s).rd = vstepf arg1 X.rd p s.rd := by
  unfold stepf vstepf Acc.rd
  dsimp only
  rw [read_write A.dq, read_write_all A.dk _ zero2, read_write_all A.dv _ zero2]
  rw [readAt_k A.k X.k, readAt_v A.v X.v, readAt_k A.dk s.dk, readAt_v A.dv s.dv]
  rfl

/-- What the accumulators hold after a tile at the leading keys, as arrays. -/
def vstepm (arg1 : BitVec 32) (X : VHeld F) (p : Pos) (s : VAcc F) : VAcc F :=
  ⟨Rect.overlay (Rect.unit (s := S16896x256) p.oq S512x256.size p.hq) s.dq (
      dqm arg1 p.iv (View.ld X.k (Rect.unit (s := S512x256) ![384, 0] S128x256.size inb_S512x256_S128x256_384_0)) (View.ld X.v (Rect.unit (s := S512x128) ![384, 0] S128x128.size inb_S512x128_S128x128_384_0))
        (View.ld X.q (Rect.unit (s := S16896x256) p.oq S512x256.size p.hq)) (View.ld X.o (Rect.unit (s := S16896x128) p.oo S512x128.size p.ho))
        (View.ld X.lse (Rect.unit (s := S1x1x16896) p.ol S1x1x512.size p.hl)) (View.ld X.dl (Rect.unit (s := S1x1x16896) p.ol S1x1x512.size p.hl))
        (View.ld s.dq (Rect.unit (s := S16896x256) p.oq S512x256.size p.hq))),
    Rect.overlay (Rect.unit (s := S512x256) ![384, 0] S128x256.size inb_S512x256_S128x256_384_0) s.dk (
      dkm arg1 p.iv (View.ld X.k (Rect.unit (s := S512x256) ![384, 0] S128x256.size inb_S512x256_S128x256_384_0)) (View.ld X.v (Rect.unit (s := S512x128) ![384, 0] S128x128.size inb_S512x128_S128x128_384_0))
        (View.ld X.q (Rect.unit (s := S16896x256) p.oq S512x256.size p.hq)) (View.ld X.o (Rect.unit (s := S16896x128) p.oo S512x128.size p.ho))
        (View.ld X.lse (Rect.unit (s := S1x1x16896) p.ol S1x1x512.size p.hl)) (View.ld X.dl (Rect.unit (s := S1x1x16896) p.ol S1x1x512.size p.hl))
        (View.ld s.dk (Rect.unit (s := S512x256) ![384, 0] S128x256.size inb_S512x256_S128x256_384_0))),
    Rect.overlay (Rect.unit (s := S512x128) ![384, 0] S128x128.size inb_S512x128_S128x128_384_0) s.dv (
      dvm arg1 p.iv (View.ld X.k (Rect.unit (s := S512x256) ![384, 0] S128x256.size inb_S512x256_S128x256_384_0))
        (View.ld X.q (Rect.unit (s := S16896x256) p.oq S512x256.size p.hq)) (View.ld X.o (Rect.unit (s := S16896x128) p.oo S512x128.size p.ho))
        (View.ld X.lse (Rect.unit (s := S1x1x16896) p.ol S1x1x512.size p.hl))
        (View.ld s.dv (Rect.unit (s := S512x128) ![384, 0] S128x128.size inb_S512x128_S128x128_384_0)))⟩

theorem rd_stepm {A : Args} (arg1 : BitVec 32) (X : Held (F := F) A) (p : Pos) (s : Acc (F := F) A) : (stepm A arg1 X p s).rd = vstepm arg1 X.rd p s.rd := by
  unfold stepm vstepm Acc.rd
  dsimp only
  rw [read_write A.dq, read_write A.dk, read_write A.dv]
  rfl

end Cert.Kernel2Ideal.Tile
-- ==== Proof.KernTiles.lean ====
module

public import proofs.«01_k».proof.Proof.KernVec

@[expose] public section

set_option synthInstance.maxSize 4096
set_option maxRecDepth 16384

noncomputable section

namespace Cert.Kernel2Ideal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F] [Named F]

local notation "𝕄G" => MT nD τ sig Unit (Elt F) ℕ (UR sig nD τ) ℕ

/-- The three ways a tile is masked. -/
inductive Kind3 | u | f | m
deriving DecidableEq

/-- One tile's step on the accumulators. -/
def vstep (arg1 : BitVec 32) (X : VHeld F) (p : Kind3 × Pos) (s : VAcc F) : VAcc F :=
  match p.1 with
  | .u => vstepu X p.2 s
  | .f => vstepf arg1 X p.2 s
  | .m => vstepm arg1 X p.2 s

theorem rd_foldl {A : Args} {α : Type} (g : α → Acc (F := F) A → Acc (F := F) A) (g' : α → VAcc F → VAcc F)
    (h : ∀ p s, (g p s).rd = g' p s.rd) (l : List α) (s : Acc (F := F) A) :
    (l.foldl (fun a p => g p a) s).rd = l.foldl (fun a p => g' p a) s.rd := by
  induction l generalizing s with
  | nil => rfl
  | cons p l ih => rw [List.foldl_cons, List.foldl_cons, ih, h]

theorem foldl_flat {α γ δ : Type} (f : α → List γ) (g : γ → δ → δ) (l : List α) (s : δ) :
    (l.flatMap f).foldl (fun a p => g p a) s = l.foldl (fun a t => (f t).foldl (fun a p => g p a) a) s := by
  induction l generalizing s with
  | nil => rfl
  | cons p l ih => rw [List.flatMap_cons, List.foldl_append, List.foldl_cons, ih]

variable (i : grid0.Coords)

/-- The leading key block's tiles. -/
def leadL : List (Kind3 × Pos) :=
  if h : k0_cond2 i = 1#1 then
    (List.finRange _).flatMap (fun t => ([0, 1, 2, 3, 4, 5, 6, 7, 8, 9, 10, 11, 12, 13, 14, 15].map (pos1 i h t)).map (Prod.mk .m))
      ++ (List.finRange _).flatMap (fun t => [pos9 i h 32#32 t].map (Prod.mk .m))
  else []

/-- The tiles below the diagonal. -/
def belowL : List (Kind3 × Pos) :=
  if h : k0_cond7 i = 1#1 then
    (List.finRange _).flatMap (fun t => ([0, 1, 2, 3, 4, 5, 6, 7, 8, 9, 10, 11, 12, 13, 14, 15].map (pos11 i h t)).map (Prod.mk .u))
      ++ ((List.finRange _).flatMap (fun t => ([0, 1, 2, 3, 4, 5, 6, 7].map (pos13 i h t)).map (Prod.mk .u))
      ++ (List.finRange _).flatMap (fun t => ([0, 1, 2, 3].map (pos15 i h t)).map (Prod.mk .u)))
  else []

theorem rd_leadif {A : Args} (X : Held (F := F) A) (s : Acc (F := F) A) :
    (leadif i A (BitVec.ofNat 32 (i 1).val) X s).rd = (leadL i).foldl (fun a p => vstep (BitVec.ofNat 32 (i 1).val) X.rd p a) s.rd := by
  unfold leadif leadL
  by_cases h : k0_cond2 i = 1#1
  · rw [dif_pos h, dif_pos h, List.foldl_append, foldl_flat, foldl_flat]
    unfold leadstep
    rw [rd_foldl (fun t a => [pos9 i h 32#32 t].foldl (fun a p => stepm A (BitVec.ofNat 32 (i 1).val) X p a) a) (fun t a => ([pos9 i h 32#32 t].map (Prod.mk .m)).foldl (fun a p => vstep (BitVec.ofNat 32 (i 1).val) X.rd p a) a)
      (fun t s => by rw [rd_foldl _ _ (fun p s => rd_stepm _ X p s), List.foldl_map]; rfl),
      rd_foldl (fun t a => ([0, 1, 2, 3, 4, 5, 6, 7, 8, 9, 10, 11, 12, 13, 14, 15].map (pos1 i h t)).foldl (fun a p => stepm A (BitVec.ofNat 32 (i 1).val) X p a) a) (fun t a => (([0, 1, 2, 3, 4, 5, 6, 7, 8, 9, 10, 11, 12, 13, 14, 15].map (pos1 i h t)).map (Prod.mk .m)).foldl (fun a p => vstep (BitVec.ofNat 32 (i 1).val) X.rd p a) a)
      (fun t s => by rw [rd_foldl _ _ (fun p s => rd_stepm _ X p s), List.foldl_map (f := Prod.mk Kind3.m)]; rfl)]
  · rw [dif_neg h, dif_neg h]
    rfl

theorem rd_belowif {A : Args} (X : Held (F := F) A) (s : Acc (F := F) A) :
    (belowif i A X s).rd = (belowL i).foldl (fun a p => vstep (BitVec.ofNat 32 (i 1).val) X.rd p a) s.rd := by
  unfold belowif belowL
  by_cases h : k0_cond7 i = 1#1
  · rw [dif_pos h, dif_pos h, List.foldl_append, List.foldl_append, foldl_flat, foldl_flat, foldl_flat]
    unfold belowstep
    rw [rd_foldl (fun t a => ([0, 1, 2, 3].map (pos15 i h t)).foldl (fun a p => stepu A X p a) a) (fun t a => (([0, 1, 2, 3].map (pos15 i h t)).map (Prod.mk .u)).foldl (fun a p => vstep (BitVec.ofNat 32 (i 1).val) X.rd p a) a)
      (fun t s => by rw [rd_foldl _ _ (fun p s => rd_stepu X p s), List.foldl_map (f := Prod.mk Kind3.u)]; rfl),
      rd_foldl (fun t a => ([0, 1, 2, 3, 4, 5, 6, 7].map (pos13 i h t)).foldl (fun a p => stepu A X p a) a) (fun t a => (([0, 1, 2, 3, 4, 5, 6, 7].map (pos13 i h t)).map (Prod.mk .u)).foldl (fun a p => vstep (BitVec.ofNat 32 (i 1).val) X.rd p a) a)
      (fun t s => by rw [rd_foldl _ _ (fun p s => rd_stepu X p s), List.foldl_map (f := Prod.mk Kind3.u)]; rfl),
      rd_foldl (fun t a => ([0, 1, 2, 3, 4, 5, 6, 7, 8, 9, 10, 11, 12, 13, 14, 15].map (pos11 i h t)).foldl (fun a p => stepu A X p a) a) (fun t a => (([0, 1, 2, 3, 4, 5, 6, 7, 8, 9, 10, 11, 12, 13, 14, 15].map (pos11 i h t)).map (Prod.mk .u)).foldl (fun a p => vstep (BitVec.ofNat 32 (i 1).val) X.rd p a) a)
      (fun t s => by rw [rd_foldl _ _ (fun p s => rd_stepu X p s), List.foldl_map (f := Prod.mk Kind3.u)]; rfl)]
  · rw [dif_neg h, dif_neg h]
    rfl

/-- The branch's tiles. -/
def brL3 : List (Kind3 × Pos) :=
  if h : k0_cond3 i = 1#1 then (.f, (diag3 i (BitVec.ofNat 32 (i 1).val) h).1) :: (diag3 i (BitVec.ofNat 32 (i 1).val) h).2.map (Prod.mk .u) else []

theorem rd_bstep3 {A : Args} (X : Held (F := F) A) (s : Acc (F := F) A) :
    (bstep3 i A (BitVec.ofNat 32 (i 1).val) X s).rd = (brL3 i).foldl (fun a p => vstep (BitVec.ofNat 32 (i 1).val) X.rd p a) s.rd := by
  unfold bstep3 brL3
  by_cases h : k0_cond3 i = 1#1
  · rw [dif_pos h, dif_pos h, List.foldl_cons, List.foldl_map, rd_foldl _ _ (fun p s => rd_stepu X p s), rd_stepf]
    rfl
  · rw [dif_neg h, dif_neg h]
    rfl

/-- The branch's tiles. -/
def brL4 : List (Kind3 × Pos) :=
  if h : k0_cond4 i = 1#1 then (.f, (diag4 i (BitVec.ofNat 32 (i 1).val) h).1) :: (diag4 i (BitVec.ofNat 32 (i 1).val) h).2.map (Prod.mk .u) else []

theorem rd_bstep4 {A : Args} (X : Held (F := F) A) (s : Acc (F := F) A) :
    (bstep4 i A (BitVec.ofNat 32 (i 1).val) X s).rd = (brL4 i).foldl (fun a p => vstep (BitVec.ofNat 32 (i 1).val) X.rd p a) s.rd := by
  unfold bstep4 brL4
  by_cases h : k0_cond4 i = 1#1
  · rw [dif_pos h, dif_pos h, List.foldl_cons, List.foldl_map, rd_foldl _ _ (fun p s => rd_stepu X p s), rd_stepf]
    rfl
  · rw [dif_neg h, dif_neg h]
    rfl

/-- The branch's tiles. -/
def brL5 : List (Kind3 × Pos) :=
  if h : k0_cond5 i = 1#1 then (.f, (diag5 i (BitVec.ofNat 32 (i 1).val) h).1) :: (diag5 i (BitVec.ofNat 32 (i 1).val) h).2.map (Prod.mk .u) else []

theorem rd_bstep5 {A : Args} (X : Held (F := F) A) (s : Acc (F := F) A) :
    (bstep5 i A (BitVec.ofNat 32 (i 1).val) X s).rd = (brL5 i).foldl (fun a p => vstep (BitVec.ofNat 32 (i 1).val) X.rd p a) s.rd := by
  unfold bstep5 brL5
  by_cases h : k0_cond5 i = 1#1
  · rw [dif_pos h, dif_pos h, List.foldl_cons, List.foldl_map, rd_foldl _ _ (fun p s => rd_stepu X p s), rd_stepf]
    rfl
  · rw [dif_neg h, dif_neg h]
    rfl

/-- The branch's tiles. -/
def brL6 : List (Kind3 × Pos) :=
  if h : k0_cond6 i = 1#1 then (.f, (diag6 i (BitVec.ofNat 32 (i 1).val) h).1) :: (diag6 i (BitVec.ofNat 32 (i 1).val) h).2.map (Prod.mk .u) else []

theorem rd_bstep6 {A : Args} (X : Held (F := F) A) (s : Acc (F := F) A) :
    (bstep6 i A (BitVec.ofNat 32 (i 1).val) X s).rd = (brL6 i).foldl (fun a p => vstep (BitVec.ofNat 32 (i 1).val) X.rd p a) s.rd := by
  unfold bstep6 brL6
  by_cases h : k0_cond6 i = 1#1
  · rw [dif_pos h, dif_pos h, List.foldl_cons, List.foldl_map, rd_foldl _ _ (fun p s => rd_stepu X p s), rd_stepf]
    rfl
  · rw [dif_neg h, dif_neg h]
    rfl

/-- A grid point's tiles, in order. -/
def tiles : List (Kind3 × Pos) := leadL i ++ (brL3 i ++ (brL4 i ++ (brL5 i ++ (brL6 i ++ belowL i))))

/-- The accumulators before a grid point's tiles. -/
def vzero (s : VAcc F) : VAcc F :=
  ⟨if Scalar.cmpi .ne (Scalar.extui (Scalar.cmpi .eq (BitVec.ofNat 32 (i 1).val) 0#32) : BitVec 32) 0#32 = 1#1 then k0_pay1385 else s.dq, k0_pay1386, k0_pay1387⟩

theorem rd_zero {A : Args} (s : Acc (F := F) A) : (zkv A (zq i A s)).rd = vzero i s.rd := by
  unfold zkv zq vzero Acc.rd
  dsimp only
  rw [read_write_all A.dk _ zero2, read_write_all A.dv _ zero2]
  split
  · rw [read_write_all A.dq _ zero2]
  · rfl

/-- The accumulators at the end of a grid point, as arrays. -/
def vall (X : VHeld F) (s : VAcc F) : VAcc F :=
  (tiles i).foldl (fun a p => vstep (BitVec.ofNat 32 (i 1).val) X p a) (vzero i s)

theorem rd_allstep {A : Args} (X : Held (F := F) A) (s : Acc (F := F) A) : (allstep i A X s).rd = vall i X.rd s.rd := by
  unfold allstep vall tiles
  rw [rd_belowif, rd_bstep6, rd_bstep5, rd_bstep4, rd_bstep3, rd_leadif, rd_zero]
  simp only [List.foldl_append]

/-- The place of query block `k`. -/
def posAt (iv : BitVec 32) (k : Fin 33) : Pos :=
  ⟨iv, ![512 * k.val, 0], ![512 * k.val, 0], ![0, 0, 512 * k.val],
    fun a => by have := k.isLt; fin_cases a <;> simp <;> omega,
    fun a => by have := k.isLt; fin_cases a <;> simp <;> omega,
    fun a => by have := k.isLt; fin_cases a <;> simp <;> omega⟩

/-- What tells one place from another. -/
def Pos.data (p : Pos) : BitVec 32 × List Nat := (p.iv, [p.oq 0, p.oq 1, p.oo 0, p.oo 1, p.ol 0, p.ol 1, p.ol 2])

theorem Pos.data_inj {p p' : Pos} (h : p.data = p'.data) : p = p' := by
  obtain ⟨iv, oq, oo, ol, h1, h2, h3⟩ := p
  obtain ⟨iv', oq', oo', ol', h1', h2', h3'⟩ := p'
  simp only [Pos.data, Prod.mk.injEq, List.cons.injEq, and_true] at h
  obtain ⟨rfl, a0, a1, a2, a3, a4, a5, a6⟩ := h
  obtain rfl : oq = oq' := funext fun a => by fin_cases a <;> assumption
  obtain rfl : oo = oo' := funext fun a => by fin_cases a <;> assumption
  obtain rfl : ol = ol' := funext fun a => by fin_cases a <;> assumption
  rfl

/-- The tiles of key block `j`: every query block from `j` on, the leading block masked throughout, another only on the diagonal. -/
def spec (j : Fin 33) : List (Kind3 × Pos) :=
  if j.val = 0 then (List.finRange 33).map (fun k => (.m, posAt (BitVec.ofNat 32 k.val) k))
  else (.f, posAt (BitVec.ofNat 32 j.val) j) :: ((List.finRange 33).filter (fun k => j.val < k.val)).map (fun k => (.u, posAt 0#32 k))

/-- The query block's number is forgotten where nothing is masked. -/
def norm (p : Kind3 × Pos) : Kind3 × Pos := (p.1, { p.2 with iv := if p.1 = .u then 0#32 else p.2.iv })

theorem vstep_norm (arg1 : BitVec 32) (X : VHeld F) (p : Kind3 × Pos) (s : VAcc F) : vstep arg1 X (norm p) s = vstep arg1 X p s := by
  obtain ⟨k, p⟩ := p
  cases k <;> rfl

theorem tiles_data : ∀ i : grid0.Coords, ((tiles i).map norm).map (fun p => (p.1, p.2.data)) = (spec (i 1)).map (fun p => (p.1, p.2.data)) := by
  decide +kernel

theorem tiles_eq : (tiles i).map norm = spec (i 1) :=
  (List.map_injective_iff (f := fun p : Kind3 × Pos => (p.1, p.2.data))).mpr (fun p p' h => Prod.ext (Prod.mk.inj h).1 (Pos.data_inj (Prod.mk.inj h).2)) (tiles_data i)

/-- The accumulators at the end of a grid point: every query block from the key block's own on. -/
theorem vall_eq (X : VHeld F) (s : VAcc F) :
    vall i X s = (spec (i 1)).foldl (fun a p => vstep (BitVec.ofNat 32 (i 1).val) X p a) (vzero i s) := by
  unfold vall
  rw [← tiles_eq, List.foldl_map]
  simp only [vstep_norm]

end Cert.Kernel2Ideal.Tile
-- ==== Proof.VTile.lean ====
module

public import proofs.«01_k».proof.Proof.KernTiles
public import Idealize.ShloMosaic.Lib.Pipeline.ValueKit
public import Idealize.ShloMosaic.Lib.Pointwise
public import Idealize.ShloMosaic.Lib.VecWindow
public import Idealize.ShloMosaic.Lib.Pipeline.ReadBack

/-! One tile's payloads, element by element, over the extended reals. -/

@[expose] public section

set_option maxRecDepth 16384
noncomputable section

namespace Cert.Kernel2Ideal.Tile

open Idealize.ShloMosaic.WordCmp
open Idealize.ShloMosaic Idealize.ShloMosaic.TcCoe Idealize.ShloMosaic.Tactic
open Cert.Kernel2Ideal.Gen

variable (k : Vec Ideal S512x256 .bf16) (v : Vec Ideal S512x128 .bf16) (q : Vec Ideal S512x256 .bf16) (o : Vec Ideal S512x128 .bf16)
  (l d : Vec Ideal S1x1x512 .f32) (k' : Vec Ideal S128x256 .bf16) (v' : Vec Ideal S128x128 .bf16) (arg1 iv : BitVec 32)

theorem ptu_at (y x : Fin 512) : ptu k q l (ix2 y x) = Ideal.exp2 ((∑ c, k (ix2 y c) * q (ix2 x c)) - l (ix3 0 0 x)) := by
  pointwise [ptu]
  rfl
theorem dsu_at (y x : Fin 512) : dsu k v q o l d (ix2 y x) = ptu k q l (ix2 y x) * ((∑ c, v (ix2 y c) * o (ix2 x c)) - d (ix3 0 0 x)) := by
  pointwise [dsu]
theorem dvu_at (a : Vec Ideal S512x128 .f32) (y : Fin 512) (c : Fin 128) :
    dvu k q o l a (ix2 y c) = a (ix2 y c) + ∑ x, ptu k q l (ix2 y x) * o (ix2 x c) := by
  pointwise [dvu]
theorem dku_at (a : Vec Ideal S512x256 .f32) (y : Fin 512) (c : Fin 256) :
    dku k v q o l d a (ix2 y c) = a (ix2 y c) + ∑ x, dsu k v q o l d (ix2 y x) * q (ix2 x c) := by
  pointwise [dku]
theorem dqu_at (a : Vec Ideal S512x256 .f32) (x : Fin 512) (c : Fin 256) :
    dqu k v q o l d a (ix2 x c) = a (ix2 x c) + ∑ y, dsu k v q o l d (ix2 y x) * k (ix2 y c) := by
  pointwise [dqu]

theorem ptf_at (y x : Fin 512) : ptf arg1 iv k q l (ix2 y x) =
    Ideal.exp2 ((if okf arg1 iv (ix2 y x) = 1#1 then ∑ c, k (ix2 y c) * q (ix2 x c) else ⊥) - l (ix3 0 0 x)) := by
  pointwise [ptf]
  rfl
theorem dsf_at (y x : Fin 512) : dsf arg1 iv k v q o l d (ix2 y x) = ptf arg1 iv k q l (ix2 y x) * ((∑ c, v (ix2 y c) * o (ix2 x c)) - d (ix3 0 0 x)) := by
  pointwise [dsf]
theorem dvf_at (a : Vec Ideal S512x128 .f32) (y : Fin 512) (c : Fin 128) :
    dvf arg1 iv k q o l a (ix2 y c) = a (ix2 y c) + ∑ x, ptf arg1 iv k q l (ix2 y x) * o (ix2 x c) := by
  pointwise [dvf]
theorem dkf_at (a : Vec Ideal S512x256 .f32) (y : Fin 512) (c : Fin 256) :
    dkf arg1 iv k v q o l d a (ix2 y c) = a (ix2 y c) + ∑ x, dsf arg1 iv k v q o l d (ix2 y x) * q (ix2 x c) := by
  pointwise [dkf]
theorem dqf_at (a : Vec Ideal S512x256 .f32) (x : Fin 512) (c : Fin 256) :
    dqf arg1 iv k v q o l d a (ix2 x c) = a (ix2 x c) + ∑ y, dsf arg1 iv k v q o l d (ix2 y x) * k (ix2 y c) := by
  pointwise [dqf]

theorem ptm_at (y : Fin 128) (x : Fin 512) : ptm arg1 iv k' q l (ix2 y x) =
    Ideal.exp2 ((if okm arg1 iv (ix2 y x) = 1#1 then ∑ c, k' (ix2 y c) * q (ix2 x c) else ⊥) - l (ix3 0 0 x)) := by
  pointwise [ptm]
  rfl
theorem dsm_at (y : Fin 128) (x : Fin 512) : dsm arg1 iv k' v' q o l d (ix2 y x) = ptm arg1 iv k' q l (ix2 y x) * ((∑ c, v' (ix2 y c) * o (ix2 x c)) - d (ix3 0 0 x)) := by
  pointwise [dsm]
theorem dvm_at (a : Vec Ideal S128x128 .f32) (y : Fin 128) (c : Fin 128) :
    dvm arg1 iv k' q o l a (ix2 y c) = a (ix2 y c) + ∑ x, ptm arg1 iv k' q l (ix2 y x) * o (ix2 x c) := by
  pointwise [dvm]
theorem dkm_at (a : Vec Ideal S128x256 .f32) (y : Fin 128) (c : Fin 256) :
    dkm arg1 iv k' v' q o l d a (ix2 y c) = a (ix2 y c) + ∑ x, dsm arg1 iv k' v' q o l d (ix2 y x) * q (ix2 x c) := by
  pointwise [dkm]
theorem dqm_at (a : Vec Ideal S512x256 .f32) (x : Fin 512) (c : Fin 256) :
    dqm arg1 iv k' v' q o l d a (ix2 x c) = a (ix2 x c) + ∑ y, dsm arg1 iv k' v' q o l d (ix2 y x) * k' (ix2 y c) := by
  pointwise [dqm]

theorem word_row (a o b : Nat) : IntOp.addi (Scalar.addi (Scalar.muli (BitVec.ofNat 32 a) 512#32) (BitVec.ofNat 32 o)) (BitVec.ofNat 32 b) = BitVec.ofNat 32 (512 * a + o + b) := by
  show (BitVec.ofNat 32 a * BitVec.ofNat 32 512 + BitVec.ofNat 32 o) + BitVec.ofNat 32 b = _
  rw [← BitVec.ofNat_mul, ← BitVec.ofNat_add, ← BitVec.ofNat_add, mul_comm]
theorem word_col (a b : Nat) : IntOp.addi (Scalar.muli (BitVec.ofNat 32 a) 512#32) (BitVec.ofNat 32 b) = BitVec.ofNat 32 (512 * a + b) := by
  show BitVec.ofNat 32 a * BitVec.ofNat 32 512 + BitVec.ofNat 32 b = _
  rw [← BitVec.ofNat_mul, ← BitVec.ofNat_add, mul_comm]
theorem word_mask (k q : Nat) (hk : k < 2 ^ 31) (hq : q < 2 ^ 31) :
    (IntOp.andi (IntOp.cmpi .sle (BitVec.ofNat 32 k) (BitVec.ofNat 32 q))
      (IntOp.ori (IntOp.cmpi .sge (BitVec.ofNat 32 k) 496#32) (IntOp.cmpi .slt (BitVec.ofNat 32 q) 496#32)) = 1#1) ↔ (k ≤ q ∧ (496 ≤ k ∨ q < 496)) := by
  rw [cmpi_sle_ofNat hk hq, cmpi_sge_ofNat hk (by norm_num), cmpi_slt_ofNat hq (by norm_num), ori_ofBool, andi_ofBool, ofBool_eq_one_iff]
  simp

/-- The mask's words, as a comparison of numbers. -/
theorem okf_at (j : Fin 33) (i : Fin 33) (y x : Fin 512) :
    (okf (BitVec.ofNat 32 j.val) (BitVec.ofNat 32 i.val) (ix2 y x) = 1#1) ↔ (512 * j.val + y.val ≤ 512 * i.val + x.val ∧ (496 ≤ 512 * j.val + y.val ∨ 512 * i.val + x.val < 496)) := by
  pointwise [okf]
  rw [show (0#32 : BitVec 32) = BitVec.ofNat 32 0 from rfl, word_row, word_col, add_zero]
  exact word_mask _ _ (by omega) (by omega)
theorem okm_at (i : Fin 33) (y : Fin 128) (x : Fin 512) :
    (okm 0#32 (BitVec.ofNat 32 i.val) (ix2 y x) = 1#1) ↔ (384 + y.val ≤ 512 * i.val + x.val ∧ (496 ≤ 384 + y.val ∨ 512 * i.val + x.val < 496)) := by
  pointwise [okm]
  rw [show (0#32 : BitVec 32) = BitVec.ofNat 32 0 from rfl, show (384#32 : BitVec 32) = BitVec.ofNat 32 384 from rfl, word_row, word_col, mul_zero, zero_add]
  exact word_mask _ _ (by omega) (by omega)

end Cert.Kernel2Ideal.Tile

end
-- ==== Proof.VPoint.lean ====
module

public import proofs.«01_k».proof.Proof.VTile
public import proofs.«01_k».proof.Proof.Attn
public import proofs.«01_k».proof.Proof.Rms

/-! What one grid point adds to the accumulators, as sums over the rows of a head. -/

@[expose] public section

set_option maxRecDepth 16384
noncomputable section

namespace Cert.Kernel2Ideal.Tile

open Idealize.ShloMosaic Idealize.ShloMosaic.TcCoe Idealize.ShloMosaic.Tactic
open Cert.Kernel2Ideal.Gen Cert.Proof.Attn
open Cert.Proof.Rms (coe_sum)

/-- Row `y` of block `i`. -/
abbrev kr (i : Fin 33) (y : Fin 512) : Fin 16896 := ⟨512 * i.val + y.val, by omega⟩

/-- A head's padded arrays are what a grid point's windows hold: the key block `j` and every query row. -/
structure Holds (X : VHeld Ideal) (j : Fin 33) (A : Pad) : Prop where
  k : ∀ y c, X.k (ix2 y c) = ((A.k (kr j y) c : ℝ) : EReal)
  v : ∀ y c, X.v (ix2 y c) = ((A.v (kr j y) c : ℝ) : EReal)
  q : ∀ r c, X.q (ix2 r c) = ((A.q r c : ℝ) : EReal)
  o : ∀ r c, X.o (ix2 r c) = ((A.o r c : ℝ) : EReal)
  lse : ∀ r, X.lse (ix3 0 0 r) = ((A.l r : ℝ) : EReal)
  dl : ∀ r, X.dl (ix3 0 0 r) = ((A.d r : ℝ) : EReal)

section Loads
variable (iv : BitVec 32) (i : Fin 33)
theorem ld2 {e : EltTy} (n : Nat) (hn : 0 < n) (Y : (⟨2, ![16896, n]⟩ : Shape).Idx → Elt Ideal e) (off : Fin 2 → Nat) (ho : off = ![512 * i.val, 0])
    (h : ∀ a, off a + (![512, n] : Fin 2 → Nat) a ≤ (⟨2, ![16896, n]⟩ : Shape).size a) (x : Fin 512) (c : Fin n) :
    View.ld Y (Rect.unit (s := ⟨2, ![16896, n]⟩) off ![512, n] h) (ix2 x c) = Y (ix2 (kr i x) c) := by
  subst ho
  refine congrArg Y (funext fun a => Fin.ext ?_)
  fin_cases a
  · show 512 * i.val + 1 * x.val = 512 * i.val + x.val; omega
  · show 0 + 1 * c.val = c.val; omega
theorem ld3 (Y : S1x1x16896.Idx → Elt Ideal .f32) (off : Fin 3 → Nat) (ho : off = ![0, 0, 512 * i.val])
    (h : ∀ a, off a + S1x1x512.size a ≤ S1x1x16896.size a) (x : Fin 512) :
    View.ld Y (Rect.unit (s := S1x1x16896) off S1x1x512.size h) (ix3 0 0 x) = Y (ix3 0 0 (kr i x)) := by
  subst ho
  refine congrArg Y (funext fun a => Fin.ext ?_)
  fin_cases a
  · rfl
  · rfl
  · show 512 * i.val + 1 * x.val = 512 * i.val + x.val; omega
end Loads

variable {X : VHeld Ideal} {j : Fin 33} {A : Pad} (h : Holds X j A) (i : Fin 33) (iv : BitVec 32)

/-- What a tile reads of the query side. -/
abbrev tq (X : VHeld Ideal) (p : Pos) : Vec Ideal S512x256 .bf16 := View.ld X.q (Rect.unit (s := S16896x256) p.oq S512x256.size p.hq)
abbrev tw (X : VHeld Ideal) (p : Pos) : Vec Ideal S512x128 .bf16 := View.ld X.o (Rect.unit (s := S16896x128) p.oo S512x128.size p.ho)
abbrev tl (X : VHeld Ideal) (p : Pos) : Vec Ideal S1x1x512 .f32 := View.ld X.lse (Rect.unit (s := S1x1x16896) p.ol S1x1x512.size p.hl)
abbrev td (X : VHeld Ideal) (p : Pos) : Vec Ideal S1x1x512 .f32 := View.ld X.dl (Rect.unit (s := S1x1x16896) p.ol S1x1x512.size p.hl)

include h
theorem tq_at (x : Fin 512) (c : Fin 256) : tq X (posAt iv i) (ix2 x c) = ((A.q (kr i x) c : ℝ) : EReal) :=
  (ld2 i 256 (by norm_num) X.q _ rfl _ x c).trans (h.q _ _)
theorem tw_at (x : Fin 512) (c : Fin 128) : tw X (posAt iv i) (ix2 x c) = ((A.o (kr i x) c : ℝ) : EReal) :=
  (ld2 i 128 (by norm_num) X.o _ rfl _ x c).trans (h.o _ _)
theorem tl_at (x : Fin 512) : tl X (posAt iv i) (ix3 0 0 x) = ((A.l (kr i x) : ℝ) : EReal) := (ld3 i X.lse _ rfl _ x).trans (h.lse _)
theorem td_at (x : Fin 512) : td X (posAt iv i) (ix3 0 0 x) = ((A.d (kr i x) : ℝ) : EReal) := (ld3 i X.dl _ rfl _ x).trans (h.dl _)

theorem ptu_real (hj : j.val ≠ 0) (hi : j.val < i.val) (y x : Fin 512) :
    ptu X.k (tq X (posAt iv i)) (tl X (posAt iv i)) (ix2 y x) = ((A.p (kr j y) (kr i x) : ℝ) : EReal) := by
  rw [ptu_at]
  simp only [h.k, tq_at h i iv, tl_at h i iv, ← EReal.coe_mul, ← coe_sum, ← EReal.coe_sub, Ideal.exp2_coe]
  unfold Pad.p
  rw [if_pos (by show 512 * j.val + y.val ≤ 512 * i.val + x.val ∧ (496 ≤ 512 * j.val + y.val ∨ _) ∧ 384 ≤ 512 * j.val + y.val; omega)]
theorem dsu_real (hj : j.val ≠ 0) (hi : j.val < i.val) (y x : Fin 512) :
    dsu X.k X.v (tq X (posAt iv i)) (tw X (posAt iv i)) (tl X (posAt iv i)) (td X (posAt iv i)) (ix2 y x) = ((A.ds (kr j y) (kr i x) : ℝ) : EReal) := by
  rw [dsu_at, ptu_real h i iv hj hi]
  simp only [h.v, tw_at h i iv, td_at h i iv, ← EReal.coe_mul, ← coe_sum, ← EReal.coe_sub]
  rfl

theorem ptf_real (hj : j.val ≠ 0) (y x : Fin 512) :
    ptf (BitVec.ofNat 32 j.val) (BitVec.ofNat 32 i.val) X.k (tq X (posAt iv i)) (tl X (posAt iv i)) (ix2 y x) = ((A.p (kr j y) (kr i x) : ℝ) : EReal) := by
  rw [ptf_at]
  unfold Pad.p
  by_cases hm : okf (BitVec.ofNat 32 j.val) (BitVec.ofNat 32 i.val) (ix2 y x) = 1#1
  · have hc := (okf_at j i y x).mp hm
    rw [if_pos hm, if_pos (by show 512 * j.val + y.val ≤ 512 * i.val + x.val ∧ (496 ≤ 512 * j.val + y.val ∨ 512 * i.val + x.val < 496) ∧ 384 ≤ 512 * j.val + y.val; omega)]
    simp only [h.k, tq_at h i iv, tl_at h i iv, ← EReal.coe_mul, ← coe_sum, ← EReal.coe_sub, Ideal.exp2_coe]
  · have hc := fun w => hm ((okf_at j i y x).mpr w)
    rw [if_neg hm, if_neg (fun w => hc ⟨w.1, w.2.1⟩), tl_at h i iv, EReal.bot_sub]
    exact Ideal.exp2_bot
theorem dsf_real (hj : j.val ≠ 0) (y x : Fin 512) :
    dsf (BitVec.ofNat 32 j.val) (BitVec.ofNat 32 i.val) X.k X.v (tq X (posAt iv i)) (tw X (posAt iv i)) (tl X (posAt iv i)) (td X (posAt iv i)) (ix2 y x) = ((A.ds (kr j y) (kr i x) : ℝ) : EReal) := by
  rw [dsf_at, ptf_real h i iv hj]
  simp only [h.v, tw_at h i iv, td_at h i iv, ← EReal.coe_mul, ← coe_sum, ← EReal.coe_sub]
  rfl

/-- The leading block's rows that are keys. -/
abbrev lo (y : Fin 128) : Fin 512 := ⟨384 + y.val, by omega⟩

omit h in
theorem ldk {e : EltTy} (n : Nat) (Y : (⟨2, ![512, n]⟩ : Shape).Idx → Elt Ideal e)
    (h : ∀ a, (![384, 0] : Fin 2 → Nat) a + (![128, n] : Fin 2 → Nat) a ≤ (⟨2, ![512, n]⟩ : Shape).size a) (y : Fin 128) (c : Fin n) :
    View.ld Y (Rect.unit (s := ⟨2, ![512, n]⟩) ![384, 0] ![128, n] h) (ix2 y c) = Y (ix2 (lo y) c) := by
  refine congrArg Y (funext fun a => Fin.ext ?_)
  fin_cases a
  · show 384 + 1 * y.val = 384 + y.val; omega
  · show 0 + 1 * c.val = c.val; omega

abbrev mk (X : VHeld Ideal) : Vec Ideal S128x256 .bf16 := View.ld X.k (Rect.unit (s := S512x256) ![384, 0] S128x256.size inb_S512x256_S128x256_384_0)
abbrev mv (X : VHeld Ideal) : Vec Ideal S128x128 .bf16 := View.ld X.v (Rect.unit (s := S512x128) ![384, 0] S128x128.size inb_S512x128_S128x128_384_0)
theorem mk_at (y : Fin 128) (c : Fin 256) : mk X (ix2 y c) = ((A.k (kr j (lo y)) c : ℝ) : EReal) := (ldk 256 X.k _ y c).trans (h.k _ _)
theorem mv_at (y : Fin 128) (c : Fin 128) : mv X (ix2 y c) = ((A.v (kr j (lo y)) c : ℝ) : EReal) := (ldk 128 X.v _ y c).trans (h.v _ _)

theorem ptm_real (hj : j.val = 0) (y : Fin 128) (x : Fin 512) :
    ptm (BitVec.ofNat 32 j.val) (BitVec.ofNat 32 i.val) (mk X) (tq X (posAt iv i)) (tl X (posAt iv i)) (ix2 y x) = ((A.p (kr j (lo y)) (kr i x) : ℝ) : EReal) := by
  rw [ptm_at, hj]
  unfold Pad.p
  by_cases hm : okm 0#32 (BitVec.ofNat 32 i.val) (ix2 y x) = 1#1
  · have hc := (okm_at i y x).mp hm
    rw [if_pos hm, if_pos (by show 512 * j.val + (384 + y.val) ≤ 512 * i.val + x.val ∧ (496 ≤ 512 * j.val + (384 + y.val) ∨ 512 * i.val + x.val < 496) ∧ 384 ≤ 512 * j.val + (384 + y.val); omega)]
    simp only [mk_at h, tq_at h i iv, tl_at h i iv, ← EReal.coe_mul, ← coe_sum, ← EReal.coe_sub, Ideal.exp2_coe]
  · have hc := fun w => hm ((okm_at i y x).mpr w)
    rw [if_neg hm, if_neg (fun w => hc (by
      have w1 : 512 * j.val + (384 + y.val) ≤ 512 * i.val + x.val := w.1
      have w2 : 496 ≤ 512 * j.val + (384 + y.val) ∨ 512 * i.val + x.val < 496 := w.2.1
      omega)), tl_at h i iv, EReal.bot_sub]
    exact Ideal.exp2_bot
theorem dsm_real (hj : j.val = 0) (y : Fin 128) (x : Fin 512) :
    dsm (BitVec.ofNat 32 j.val) (BitVec.ofNat 32 i.val) (mk X) (mv X) (tq X (posAt iv i)) (tw X (posAt iv i)) (tl X (posAt iv i)) (td X (posAt iv i)) (ix2 y x) = ((A.ds (kr j (lo y)) (kr i x) : ℝ) : EReal) := by
  rw [dsm_at, ptm_real h i iv hj]
  simp only [mv_at h, tw_at h i iv, td_at h i iv, ← EReal.coe_mul, ← coe_sum, ← EReal.coe_sub]
  rfl

end Cert.Kernel2Ideal.Tile

end
-- ==== Proof.VFold.lean ====
module

public import proofs.«01_k».proof.Proof.VPoint

/-! The accumulators after a grid point: what they held, and a sum over the rows of a head. -/

@[expose] public section

set_option maxRecDepth 16384
noncomputable section

namespace Cert.Kernel2Ideal.Tile

open Idealize.ShloMosaic Idealize.ShloMosaic.TcCoe Idealize.ShloMosaic.Tactic
open Cert.Kernel2Ideal.Gen Cert.Proof.Attn
open Cert.Proof.Rms (coe_sum)

section Overlay
variable {e : EltTy} {N n b : Nat}
theorem ov_in (o : Nat) (Y : (⟨2, ![N, n]⟩ : Shape).Idx → Elt Ideal e) (off : Fin 2 → Nat) (ho : off = ![o, 0])
    (h : ∀ a, off a + (![b, n] : Fin 2 → Nat) a ≤ (⟨2, ![N, n]⟩ : Shape).size a) (G : (⟨2, ![b, n]⟩ : Shape).Idx → Elt Ideal e)
    (r : Fin N) (x : Fin b) (hr : r.val = o + x.val) (c : Fin n) :
    Rect.overlay (Rect.unit (s := ⟨2, ![N, n]⟩) off ![b, n] h) Y G (ix2 r c) = G (ix2 x c) := by
  subst ho
  have he : (ix2 r c : (⟨2, ![N, n]⟩ : Shape).Idx) = (Rect.unit (s := ⟨2, ![N, n]⟩) ![o, 0] ![b, n] h).emb (ix2 x c) := by
    refine funext fun a => Fin.ext ?_
    fin_cases a
    · show r.val = o + 1 * x.val; omega
    · show c.val = 0 + 1 * c.val; omega
  rw [he]
  exact Rect.overlay_emb _ _ _ _
theorem ov_out (o : Nat) (Y : (⟨2, ![N, n]⟩ : Shape).Idx → Elt Ideal e) (off : Fin 2 → Nat) (ho : off = ![o, 0])
    (h : ∀ a, off a + (![b, n] : Fin 2 → Nat) a ≤ (⟨2, ![N, n]⟩ : Shape).size a) (G : (⟨2, ![b, n]⟩ : Shape).Idx → Elt Ideal e)
    (r : Fin N) (hr : r.val < o ∨ o + b ≤ r.val) (c : Fin n) :
    Rect.overlay (Rect.unit (s := ⟨2, ![N, n]⟩) off ![b, n] h) Y G (ix2 r c) = Y (ix2 r c) := by
  subst ho
  refine Rect.overlay_of_not_mem _ _ _ fun hm => ?_
  obtain ⟨x, hx⟩ := (Rect.unit (s := ⟨2, ![N, n]⟩) ![o, 0] ![b, n] h).toLoadRect.exists_idx_of_mem hm
  have h0 := congrArg Fin.val (congrFun hx 0)
  have h1 : o + 1 * (x 0).val = r.val := h0
  have h2 : (x 0).val < b := (x 0).isLt
  omega
theorem ov_pos_in (iv : BitVec 32) (i : Fin 33) (Y : S16896x256.Idx → Elt Ideal .f32) (G : S512x256.Idx → Elt Ideal .f32) (x : Fin 512) (c : Fin 256) :
    Rect.overlay (Rect.unit (s := S16896x256) (posAt iv i).oq S512x256.size (posAt iv i).hq) Y G (ix2 (kr i x) c) = G (ix2 x c) :=
  ov_in (N := 16896) (n := 256) (b := 512) (512 * i.val) Y (posAt iv i).oq rfl (posAt iv i).hq G (kr i x) x rfl c
theorem ov_pos_out (iv : BitVec 32) (i : Fin 33) (Y : S16896x256.Idx → Elt Ideal .f32) (G : S512x256.Idx → Elt Ideal .f32) (r : Fin 16896)
    (hr : r.val < 512 * i.val ∨ 512 * i.val + 512 ≤ r.val) (c : Fin 256) :
    Rect.overlay (Rect.unit (s := S16896x256) (posAt iv i).oq S512x256.size (posAt iv i).hq) Y G (ix2 r c) = Y (ix2 r c) :=
  ov_out (N := 16896) (n := 256) (b := 512) (512 * i.val) Y (posAt iv i).oq rfl (posAt iv i).hq G r hr c
theorem ld_pos (iv : BitVec 32) (i : Fin 33) (Y : S16896x256.Idx → Elt Ideal .f32) (x : Fin 512) (c : Fin 256) :
    View.ld Y (Rect.unit (s := S16896x256) (posAt iv i).oq S512x256.size (posAt iv i).hq) (ix2 x c) = Y (ix2 (kr i x) c) :=
  ld2 i 256 (by norm_num) Y (posAt iv i).oq rfl (posAt iv i).hq x c
end Overlay

variable {X : VHeld Ideal} {j : Fin 33} {A : Pad} (h : Holds X j A)

/-- The kind of query block `i`'s tile at key block `j`. -/
def kind (j i : Fin 33) : Kind3 := if j.val = 0 then .m else if i.val = j.val then .f else .u
def word (j i : Fin 33) : BitVec 32 := if j.val = 0 ∨ i.val = j.val then BitVec.ofNat 32 i.val else 0#32
def tl1 (j i : Fin 33) : Kind3 × Pos := (kind j i, posAt (word j i) i)

/-- The rows a query block adds to a row of the value gradient and of the key gradient, and a key block to a row of the
    query gradient. -/
def addV (A : Pad) (j i : Fin 33) (y : Fin 512) (c : Fin 128) : ℝ := ∑ x : Fin 512, A.p (kr j y) (kr i x) * A.o (kr i x) c
def addK (A : Pad) (j i : Fin 33) (y : Fin 512) (c : Fin 256) : ℝ := ∑ x : Fin 512, A.ds (kr j y) (kr i x) * A.q (kr i x) c
def addQ (A : Pad) (j : Fin 33) (r : Fin 16896) (c : Fin 256) : ℝ := ∑ y : Fin 512, A.ds (kr j y) r * A.k (kr j y) c

theorem p_top (A : Pad) (j : Fin 33) (hj : j.val = 0) (y : Fin 512) (hy : y.val < 384) (r : Fin 16896) : A.p (kr j y) r = 0 := by
  unfold Pad.p
  rw [if_neg]
  show ¬ (512 * j.val + y.val ≤ _ ∧ _ ∧ 384 ≤ 512 * j.val + y.val)
  omega
theorem ds_top (A : Pad) (j : Fin 33) (hj : j.val = 0) (y : Fin 512) (hy : y.val < 384) (r : Fin 16896) : A.ds (kr j y) r = 0 := by
  unfold Pad.ds; rw [p_top A j hj y hy, zero_mul]

theorem sum_lo (f : Fin 512 → ℝ) (hf : ∀ y : Fin 512, y.val < 384 → f y = 0) : ∑ y, f y = ∑ y : Fin 128, f (lo y) := by
  have e : ∑ y : Fin (384 + 128), f y = _ := Fin.sum_univ_add (a := 384) (b := 128) f
  refine e.trans ?_
  rw [Finset.sum_eq_zero (fun i _ => hf _ i.isLt), zero_add]
  rfl

include h
variable (i : Fin 33) (hi : j.val ≤ i.val) (s : VAcc Ideal)
include hi

theorem step_dv (y : Fin 512) (c : Fin 128) :
    (vstep (BitVec.ofNat 32 j.val) X (tl1 j i) s).dv (ix2 y c) = s.dv (ix2 y c) + ((addV A j i y c : ℝ) : EReal) := by
  unfold tl1 kind word addV
  by_cases h0 : j.val = 0
  · rw [if_pos h0, if_pos (Or.inl h0)]
    show (vstepm _ X _ s).dv _ = _
    unfold vstepm
    by_cases hy : y.val < 384
    · refine (ov_out 384 s.dv _ rfl _ _ y (Or.inl hy) c).trans ?_
      rw [Finset.sum_eq_zero (fun x _ => by rw [p_top A j h0 y hy, zero_mul])]
      exact (add_zero _).symm
    · obtain ⟨z, rfl⟩ : ∃ z, y = lo z := ⟨⟨y.val - 384, by omega⟩, Fin.ext (by show y.val = 384 + (y.val - 384); omega)⟩
      refine (ov_in 384 s.dv _ rfl _ _ (lo z) z rfl c).trans ?_
      refine (dvm_at (tq X (posAt (BitVec.ofNat 32 i.val) i)) (tw X (posAt (BitVec.ofNat 32 i.val) i)) (tl X (posAt (BitVec.ofNat 32 i.val) i)) (mk X) _ _ _ _ c).trans ?_
      refine congrArg₂ (· + ·) ((ldk 128 s.dv _ _ c)) ?_
      rw [coe_sum]
      refine Finset.sum_congr rfl fun x _ => ?_
      rw [EReal.coe_mul]
      exact congrArg₂ (· * ·) (ptm_real h i _ h0 _ x) (tw_at h i _ x c)
  · rw [if_neg h0]
    by_cases hij : i.val = j.val
    · rw [if_pos hij, if_pos (Or.inr hij)]
      refine (dvf_at X.k (tq X (posAt (BitVec.ofNat 32 i.val) i)) (tw X (posAt (BitVec.ofNat 32 i.val) i)) (tl X (posAt (BitVec.ofNat 32 i.val) i)) _ _ _ y c).trans ?_
      refine congrArg (_ + ·) ?_
      rw [coe_sum]
      refine Finset.sum_congr rfl fun x _ => ?_
      rw [EReal.coe_mul]
      exact congrArg₂ (· * ·) (ptf_real h i _ h0 y x) (tw_at h i _ x c)
    · rw [if_neg hij, if_neg (by omega)]
      refine (dvu_at X.k (tq X (posAt 0#32 i)) (tw X (posAt 0#32 i)) (tl X (posAt 0#32 i)) _ y c).trans ?_
      refine congrArg (_ + ·) ?_
      rw [coe_sum]
      refine Finset.sum_congr rfl fun x _ => ?_
      rw [EReal.coe_mul]
      exact congrArg₂ (· * ·) (ptu_real h i _ h0 (by omega) y x) (tw_at h i _ x c)

theorem step_dk (y : Fin 512) (c : Fin 256) :
    (vstep (BitVec.ofNat 32 j.val) X (tl1 j i) s).dk (ix2 y c) = s.dk (ix2 y c) + ((addK A j i y c : ℝ) : EReal) := by
  unfold tl1 kind word addK
  by_cases h0 : j.val = 0
  · rw [if_pos h0, if_pos (Or.inl h0)]
    show (vstepm _ X _ s).dk _ = _
    unfold vstepm
    by_cases hy : y.val < 384
    · refine (ov_out 384 s.dk _ rfl _ _ y (Or.inl hy) c).trans ?_
      rw [Finset.sum_eq_zero (fun x _ => by rw [ds_top A j h0 y hy, zero_mul])]
      exact (add_zero _).symm
    · obtain ⟨z, rfl⟩ : ∃ z, y = lo z := ⟨⟨y.val - 384, by omega⟩, Fin.ext (by show y.val = 384 + (y.val - 384); omega)⟩
      refine (ov_in 384 s.dk _ rfl _ _ (lo z) z rfl c).trans ?_
      refine (dkm_at (tq X (posAt (BitVec.ofNat 32 i.val) i)) (tw X (posAt (BitVec.ofNat 32 i.val) i)) (tl X (posAt (BitVec.ofNat 32 i.val) i)) (td X (posAt (BitVec.ofNat 32 i.val) i)) (mk X) (mv X) _ _ _ _ c).trans ?_
      refine congrArg₂ (· + ·) ((ldk 256 s.dk _ _ c)) ?_
      rw [coe_sum]
      refine Finset.sum_congr rfl fun x _ => ?_
      rw [EReal.coe_mul]
      exact congrArg₂ (· * ·) (dsm_real h i _ h0 _ x) (tq_at h i _ x c)
  · rw [if_neg h0]
    by_cases hij : i.val = j.val
    · rw [if_pos hij, if_pos (Or.inr hij)]
      refine (dkf_at X.k X.v (tq X (posAt (BitVec.ofNat 32 i.val) i)) (tw X (posAt (BitVec.ofNat 32 i.val) i)) (tl X (posAt (BitVec.ofNat 32 i.val) i)) (td X (posAt (BitVec.ofNat 32 i.val) i)) _ _ _ y c).trans ?_
      refine congrArg (_ + ·) ?_
      rw [coe_sum]
      refine Finset.sum_congr rfl fun x _ => ?_
      rw [EReal.coe_mul]
      exact congrArg₂ (· * ·) (dsf_real h i _ h0 y x) (tq_at h i _ x c)
    · rw [if_neg hij, if_neg (by omega)]
      refine (dku_at X.k X.v (tq X (posAt 0#32 i)) (tw X (posAt 0#32 i)) (tl X (posAt 0#32 i)) (td X (posAt 0#32 i)) _ y c).trans ?_
      refine congrArg (_ + ·) ?_
      rw [coe_sum]
      refine Finset.sum_congr rfl fun x _ => ?_
      rw [EReal.coe_mul]
      exact congrArg₂ (· * ·) (dsu_real h i _ h0 (by omega) y x) (tq_at h i _ x c)

theorem step_dq_in (x : Fin 512) (c : Fin 256) :
    (vstep (BitVec.ofNat 32 j.val) X (tl1 j i) s).dq (ix2 (kr i x) c) = s.dq (ix2 (kr i x) c) + ((addQ A j (kr i x) c : ℝ) : EReal) := by
  unfold tl1 kind word addQ
  by_cases h0 : j.val = 0
  · rw [if_pos h0, if_pos (Or.inl h0)]
    show (vstepm (BitVec.ofNat 32 j.val) X (posAt (BitVec.ofNat 32 i.val) i) s).dq _ = _
    unfold vstepm
    refine (ov_pos_in _ i s.dq _ x c).trans ?_
    refine (dqm_at (tq X (posAt (BitVec.ofNat 32 i.val) i)) (tw X (posAt (BitVec.ofNat 32 i.val) i)) (tl X (posAt (BitVec.ofNat 32 i.val) i)) (td X (posAt (BitVec.ofNat 32 i.val) i)) (mk X) (mv X) _ _ _ x c).trans ?_
    refine congrArg₂ (· + ·) (ld_pos _ i s.dq x c) ?_
    rw [sum_lo _ fun y hy => by rw [ds_top A j h0 y hy, zero_mul], coe_sum]
    refine Finset.sum_congr rfl fun y _ => ?_
    rw [EReal.coe_mul]
    exact congrArg₂ (· * ·) (dsm_real h i _ h0 y x) (mk_at h y c)
  · rw [if_neg h0]
    by_cases hij : i.val = j.val
    · rw [if_pos hij, if_pos (Or.inr hij)]
      show (vstepf (BitVec.ofNat 32 j.val) X (posAt (BitVec.ofNat 32 i.val) i) s).dq _ = _
      unfold vstepf
      refine (ov_pos_in _ i s.dq _ x c).trans ?_
      refine (dqf_at X.k X.v (tq X (posAt (BitVec.ofNat 32 i.val) i)) (tw X (posAt (BitVec.ofNat 32 i.val) i)) (tl X (posAt (BitVec.ofNat 32 i.val) i)) (td X (posAt (BitVec.ofNat 32 i.val) i)) _ _ _ x c).trans ?_
      refine congrArg₂ (· + ·) (ld_pos _ i s.dq x c) ?_
      rw [coe_sum]
      refine Finset.sum_congr rfl fun y _ => ?_
      rw [EReal.coe_mul]
      exact congrArg₂ (· * ·) (dsf_real h i _ h0 y x) (h.k y c)
    · rw [if_neg hij, if_neg (by omega)]
      show (vstepu X (posAt 0#32 i) s).dq _ = _
      unfold vstepu
      refine (ov_pos_in _ i s.dq _ x c).trans ?_
      refine (dqu_at X.k X.v (tq X (posAt 0#32 i)) (tw X (posAt 0#32 i)) (tl X (posAt 0#32 i)) (td X (posAt 0#32 i)) _ x c).trans ?_
      refine congrArg₂ (· + ·) (ld_pos _ i s.dq x c) ?_
      rw [coe_sum]
      refine Finset.sum_congr rfl fun y _ => ?_
      rw [EReal.coe_mul]
      exact congrArg₂ (· * ·) (dsu_real h i _ h0 (by omega) y x) (h.k y c)

omit h hi in
theorem step_dq_out (r : Fin 16896) (hr : r.val < 512 * i.val ∨ 512 * i.val + 512 ≤ r.val) (c : Fin 256) :
    (vstep (BitVec.ofNat 32 j.val) X (tl1 j i) s).dq (ix2 r c) = s.dq (ix2 r c) := by
  unfold tl1 kind word
  by_cases h0 : j.val = 0
  · rw [if_pos h0, if_pos (Or.inl h0)]
    show (vstepm (BitVec.ofNat 32 j.val) X (posAt (BitVec.ofNat 32 i.val) i) s).dq _ = _
    unfold vstepm
    exact ov_pos_out _ i s.dq _ r hr c
  · rw [if_neg h0]
    by_cases hij : i.val = j.val
    · rw [if_pos hij, if_pos (Or.inr hij)]
      show (vstepf (BitVec.ofNat 32 j.val) X (posAt (BitVec.ofNat 32 i.val) i) s).dq _ = _
      unfold vstepf
      exact ov_pos_out _ i s.dq _ r hr c
    · rw [if_neg hij, if_neg (by omega)]
      show (vstepu X (posAt 0#32 i) s).dq _ = _
      unfold vstepu
      exact ov_pos_out _ i s.dq _ r hr c

theorem step_dq (r : Fin 16896) (c : Fin 256) :
    (vstep (BitVec.ofNat 32 j.val) X (tl1 j i) s).dq (ix2 r c) = s.dq (ix2 r c) + (((if r.val / 512 = i.val then addQ A j r c else 0 : ℝ)) : EReal) := by
  by_cases hr : r.val / 512 = i.val
  · have e : r = kr i ⟨r.val % 512, Nat.mod_lt _ (by norm_num)⟩ := Fin.ext (by show r.val = 512 * i.val + r.val % 512; omega)
    rw [if_pos hr, e]
    exact step_dq_in h i hi s _ c
  · rw [if_neg hr, step_dq_out i s r (by omega) c]
    exact (add_zero _).symm

end Cert.Kernel2Ideal.Tile

end
-- ==== Proof.KernOwn.lean ====
module

public import proofs.«01_k».proof.Proof.KernTiles

@[expose] public section

set_option synthInstance.maxSize 4096
set_option maxRecDepth 16384

noncomputable section

namespace Cert.Kernel2Ideal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F] [Named F]

local notation "𝕄G" => MT nD τ sig Unit (Elt F) ℕ (UR sig nD τ) ℕ

variable (i : grid0.Coords) (arg2 : Memref sig .tc .vmem S512x256 .bf16) (harg2 : arg2.IsWhole) (arg3 : Memref sig .tc .vmem S512x128 .bf16) (harg3 : arg3.IsWhole) (arg4 : Memref sig .tc .vmem S16896x256 .bf16) (harg4 : arg4.IsWhole) (arg5 : Memref sig .tc .vmem S16896x128 .bf16) (harg5 : arg5.IsWhole) (arg6 : Memref sig .tc .vmem S1x1x16896 .f32) (harg6 : arg6.IsWhole) (arg7 : Memref sig .tc .vmem S1x1x16896 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x128 .bf16) (harg13 : arg13.IsWhole) (arg14 : Memref sig .tc .vmem S16896x256 .f32) (harg14 : arg14.IsWhole) (arg15 : Memref sig .tc .vmem S512x256 .f32) (harg15 : arg15.IsWhole) (arg16 : Memref sig .tc .vmem S512x128 .f32) (harg16 : arg16.IsWhole)
variable {𝒱 : Variants} {c : Dev nD} {bd : Option 𝒱.V} {E : Set ℕ}

/-- The accumulators at the end of a grid point, from the query gradient before it. -/
def vpoint (X : VHeld F) (D : Vec F S16896x256 .f32) : VAcc F := vall i X ⟨D, k0_pay1386, k0_pay1387⟩

/-- A block in two halves is the same over anything. -/
theorem halves_cover {e : EltTy} (W W' : S512x256.Idx → Elt F e) (a b : S512x128.Idx → Elt F e) :
    (Rect.unit (s := S512x256) ![0, 128] S512x128.size inb_S512x256_S512x128_0_128).overlay ((Rect.unit (s := S512x256) ![0, 0] S512x128.size inb_S512x256_S512x128_0_0).overlay W a) b = (Rect.unit (s := S512x256) ![0, 128] S512x128.size inb_S512x256_S512x128_0_128).overlay ((Rect.unit (s := S512x256) ![0, 0] S512x128.size inb_S512x256_S512x128_0_0).overlay W' a) b := by
  funext j
  by_cases h1 : j ∈ (Rect.unit (s := S512x256) ![0, 128] S512x128.size inb_S512x256_S512x128_0_128).set
  · obtain ⟨x, rfl⟩ := (Rect.unit (s := S512x256) ![0, 128] S512x128.size inb_S512x256_S512x128_0_128).toLoadRect.exists_idx_of_mem h1
    exact (Rect.overlay_emb _ _ b x).trans (Rect.overlay_emb _ _ b x).symm
  · rw [Rect.overlay_of_not_mem _ _ _ h1, Rect.overlay_of_not_mem _ _ _ h1]
    by_cases h0 : j ∈ (Rect.unit (s := S512x256) ![0, 0] S512x128.size inb_S512x256_S512x128_0_0).set
    · obtain ⟨x, rfl⟩ := (Rect.unit (s := S512x256) ![0, 0] S512x128.size inb_S512x256_S512x128_0_0).toLoadRect.exists_idx_of_mem h0
      exact (Rect.overlay_emb _ _ a x).trans (Rect.overlay_emb _ _ a x).symm
    · exfalso
      have hj : (j 1).val < 256 := (j 1).isLt
      have hj0 : (j 0).val < 512 := (j 0).isLt
      by_cases hc : (j 1).val < 128
      · refine h0 ((Rect.unit (s := S512x256) ![0, 0] S512x128.size inb_S512x256_S512x128_0_0).toLoadRect.mem_set.mpr fun ax => ?_)
        fin_cases ax
        · exact ⟨(j 0).val, hj0, by simp⟩
        · exact ⟨(j 1).val, hc, by simp⟩
      · refine h1 ((Rect.unit (s := S512x256) ![0, 128] S512x128.size inb_S512x256_S512x128_0_128).toLoadRect.mem_set.mpr fun ax => ?_)
        fin_cases ax
        · exact ⟨(j 0).val, hj0, by simp⟩
        · exact ⟨(j 1).val - 128, by show (j 1).val - 128 < 128; omega, by show (j 1).val = 128 + 1 * ((j 1).val - 128); omega⟩

/-- The query gradient's block: its unrotated half and its rotated one. -/
def out11 (s : VAcc F) (x8 x9 x10 : Vec F S512x128 .f32) : Vec F S512x256 .bf16 :=
  (Rect.unit (s := S512x256) ![0, 128] S512x128.size inb_S512x256_S512x128_0_128).overlay ((Rect.unit (s := S512x256) ![0, 0] S512x128.size inb_S512x256_S512x128_0_0).overlay (constant S512x256 .bf16 0x0000#16) (k0_pay1423 (View.ld s.dq (Rect.unit (s := S16896x256) (k0_off76 i) S512x256.size (k0_off76_inb i)))))
    (k0_pay1 (k0_pay1424 (View.ld s.dq (Rect.unit (s := S16896x256) (k0_off76 i) S512x256.size (k0_off76_inb i)))) (k0_pay1425 x8) (k0_pay1426 x9) x10)

theorem read_write2 {sp : Space} {S : Shape} {e : EltTy} (mr : Memref sig .tc sp S e) (f : BufTy.Contents (Elt F) mr.view.ty) (r r' : Rect S) (x : r.shape.Idx → Elt F e) (x' : r'.shape.Idx → Elt F e) :
    mr.view.read (Elt F) (mr.view.writes (Elt F) f [⟨r, x⟩, ⟨r', x'⟩]) = r.overlay (r'.overlay (mr.view.read (Elt F) f) x') x := by
  rw [← read_write mr f r' x']
  funext j
  by_cases h : j ∈ r.set
  · obtain ⟨i, rfl⟩ := r.toLoadRect.exists_idx_of_mem h
    exact (View.read_writes_cons_emb mr.view f r x _ i).trans (Rect.overlay_emb r _ x i).symm
  · rw [Rect.overlay_of_not_mem _ _ _ h]
    rw [View.writes_cons]
    exact View.read_slice_write_of_not_mem r _ _ _ (by rw [Rect.map_emb_univ]; exact h)

theorem rd_end11 (s : Acc (F := F) (⟨arg2, arg3, arg4, arg5, arg6, arg7, arg14, arg15, arg16⟩ : Args)) (x8 : BufTy.Contents (Elt F) arg8.view.ty) (x9 : BufTy.Contents (Elt F) arg9.view.ty) (x10 : BufTy.Contents (Elt F) arg10.view.ty) (w11 : BufTy.Contents (Elt F) arg11.view.ty) :
    arg11.view.read (Elt F) (end11 i arg2 arg3 arg4 arg5 arg6 arg7 arg8 arg9 arg10 arg11 arg14 arg15 arg16 s x8 x9 x10 w11)
      = out11 i s.rd (arg8.view.read (Elt F) x8) (arg9.view.read (Elt F) x9) (arg10.view.read (Elt F) x10) := by
  unfold end11 out11
  rw [read_write2, halves_cover _ (constant S512x256 .bf16 0x0000#16), readAt_v arg8 x8, readAt_v arg9 x9, readAt_v arg10 x10]
  rfl

theorem rd_end12 (s : Acc (F := F) (⟨arg2, arg3, arg4, arg5, arg6, arg7, arg14, arg15, arg16⟩ : Args)) (w12 : BufTy.Contents (Elt F) arg12.view.ty) :
    arg12.view.read (Elt F) (end12 arg2 arg3 arg4 arg5 arg6 arg7 arg12 arg14 arg15 arg16 s w12) = k0_pay1420 s.rd.dk := by
  unfold end12
  rw [read_write_all arg12 _ zero2, readAt_k arg15 s.dk]
  rfl

theorem rd_end13 (s : Acc (F := F) (⟨arg2, arg3, arg4, arg5, arg6, arg7, arg14, arg15, arg16⟩ : Args)) (w13 : BufTy.Contents (Elt F) arg13.view.ty) :
    arg13.view.read (Elt F) (end13 arg2 arg3 arg4 arg5 arg6 arg7 arg13 arg14 arg15 arg16 s w13) = k0_pay1421 s.rd.dv := by
  unfold end13
  rw [read_write_all arg13 _ zero2, readAt_v arg16 s.dv]
  rfl

theorem use_wand (P Q : sProp 𝕄G) : iprop(P ∗ (P -∗ Q)) ⊢ Q := by iintro ⟨H, HW⟩; iapply HW; try iexact H

/-- A program's run, for whatever follows from what it leaves. -/
theorem run_wand {α : Type} {P P' Q : sProp 𝕄G} {p : Prog (TpuEff nD τ sig (Elt F) Λ₀ .tc) α}
    (hp : P ⊢ wp frame (wpE (defs₀ (F := F)) 𝒱 (c : Thread nD τ) bd) E p (fun _ => P')) : iprop(P ∗ (P' -∗ Q)) ⊢ wp frame (wpE (defs₀ (F := F)) 𝒱 (c : Thread nD τ) bd) E p (fun _ => Q) :=
  cont hp (fun _ => by iintro ⟨H, HW⟩; iapply HW; try iexact H)

/-- The memrefs at their contents, owned at the arrays the contents read as. -/
theorem give_back (X : Held (F := F) (⟨arg2, arg3, arg4, arg5, arg6, arg7, arg14, arg15, arg16⟩ : Args)) (s : Acc (F := F) (⟨arg2, arg3, arg4, arg5, arg6, arg7, arg14, arg15, arg16⟩ : Args)) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (o11 : Vec F S512x256 .bf16) (o12 : Vec F S512x256 .bf16) (o13 : Vec F S512x128 .bf16) (o14 : Vec F S16896x256 .f32)
    (h11 : arg11.view.read (Elt F) f11 = o11) (h12 : arg12.view.read (Elt F) f12 = o12) (h13 : arg13.view.read (Elt F) f13 = o13) (h14 : arg14.view.read (Elt F) s.dq = o14) :
    iprop(Res (⟨arg2, arg3, arg4, arg5, arg6, arg7, arg14, arg15, arg16⟩ : Args) c X s ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) ⊢
      iprop(owns (c : Thread nD τ) arg2 fullShare X.rd.k ∗ owns (c : Thread nD τ) arg3 fullShare X.rd.v ∗ owns (c : Thread nD τ) arg4 fullShare X.rd.q ∗ owns (c : Thread nD τ) arg5 fullShare X.rd.o ∗ owns (c : Thread nD τ) arg6 fullShare X.rd.lse ∗ owns (c : Thread nD τ) arg7 fullShare X.rd.dl ∗ owns (c : Thread nD τ) arg8 fullShare (arg8.view.read (Elt F) f8) ∗ owns (c : Thread nD τ) arg9 fullShare (arg9.view.read (Elt F) f9) ∗ owns (c : Thread nD τ) arg10 fullShare (arg10.view.read (Elt F) f10) ∗ owns (c : Thread nD τ) arg11 fullShare o11 ∗ owns (c : Thread nD τ) arg12 fullShare o12 ∗ owns (c : Thread nD τ) arg13 fullShare o13 ∗ owns (c : Thread nD τ) arg14 fullShare o14 ∗ (∃ d, owns (c : Thread nD τ) arg15 fullShare d) ∗ (∃ d, owns (c : Thread nD τ) arg16 fullShare d)) := by
  subst h11 h12 h13 h14
  unfold owns
  iintro ⟨⟨H2, H3, H4, H5, H6, H7, H14, H15, H16⟩, H8, H9, H10, H11, H12, H13⟩
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; rfl
  isplitl [H14]
  · iexists _; isplitr
    swap; · iexact H14
    ipureintro; rfl
  isplitl [H15]
  · iexists _; iexists _; isplitr
    swap; · iexact H15
    ipureintro; rfl
  iexists _; iexists _; isplitr
  swap; · iexact H16
  ipureintro; rfl

/-- The kernel's run at a grid point, on memrefs at contents. -/
theorem kernel_step (X : Held (F := F) (⟨arg2, arg3, arg4, arg5, arg6, arg7, arg14, arg15, arg16⟩ : Args)) (s : Acc (F := F) (⟨arg2, arg3, arg4, arg5, arg6, arg7, arg14, arg15, arg16⟩ : Args)) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) {Q : sProp 𝕄G} :
    iprop((Res (⟨arg2, arg3, arg4, arg5, arg6, arg7, arg14, arg15, arg16⟩ : Args) c X s ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) ∗ ((owns (c : Thread nD τ) arg2 fullShare X.rd.k ∗ owns (c : Thread nD τ) arg3 fullShare X.rd.v ∗ owns (c : Thread nD τ) arg4 fullShare X.rd.q ∗ owns (c : Thread nD τ) arg5 fullShare X.rd.o ∗ owns (c : Thread nD τ) arg6 fullShare X.rd.lse ∗ owns (c : Thread nD τ) arg7 fullShare X.rd.dl ∗ owns (c : Thread nD τ) arg8 fullShare (arg8.view.read (Elt F) f8) ∗ owns (c : Thread nD τ) arg9 fullShare (arg9.view.read (Elt F) f9) ∗ owns (c : Thread nD τ) arg10 fullShare (arg10.view.read (Elt F) f10) ∗ owns (c : Thread nD τ) arg11 fullShare (out11 i (vpoint i X.rd s.rd.dq) (arg8.view.read (Elt F) f8) (arg9.view.read (Elt F) f9) (arg10.view.read (Elt F) f10)) ∗ owns (c : Thread nD τ) arg12 fullShare (k0_pay1420 (vpoint i X.rd s.rd.dq).dk) ∗ owns (c : Thread nD τ) arg13 fullShare (k0_pay1421 (vpoint i X.rd s.rd.dq).dv) ∗ owns (c : Thread nD τ) arg14 fullShare (vpoint i X.rd s.rd.dq).dq ∗ (∃ d, owns (c : Thread nD τ) arg15 fullShare d) ∗ (∃ d, owns (c : Thread nD τ) arg16 fullShare d)) -∗ Q)) ⊢ wp frame (wpE (defs₀ (F := F)) 𝒱 (c : Thread nD τ) bd) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => Q) := by
  have e : (allstep i (⟨arg2, arg3, arg4, arg5, arg6, arg7, arg14, arg15, arg16⟩ : Args) X s).rd = vpoint i X.rd s.rd.dq := rd_allstep i X s
  exact cont (kernel_run i arg2 harg2 arg3 harg3 arg4 harg4 arg5 harg5 arg6 harg6 arg7 harg7 arg8 harg8 arg9 harg9 arg10 harg10 arg11 harg11 arg12 harg12 arg13 harg13 arg14 harg14 arg15 harg15 arg16 harg16 X s f8 f9 f10 f11 f12 f13) (fun _ => (sep_mono_left (give_back arg2 arg3 arg4 arg5 arg6 arg7 arg8 arg9 arg10 arg11 arg12 arg13 arg14 arg15 arg16 X _ _ _ _ _ _ _ _ _ _ _
    ((rd_end11 ..).trans (by rw [e])) ((rd_end12 ..).trans (by rw [e])) ((rd_end13 ..).trans (by rw [e])) (congrArg VAcc.dq e))).trans
    (use_wand _ _))

/-- The kernel's run at a grid point, on memrefs owned at arrays. -/
theorem kernel_owns' (x2 : Vec F S512x256 .bf16) (x3 : Vec F S512x128 .bf16) (x4 : Vec F S16896x256 .bf16) (x5 : Vec F S16896x128 .bf16) (x6 : Vec F S1x1x16896 .f32) (x7 : Vec F S1x1x16896 .f32) (x8 : Vec F S512x128 .f32) (x9 : Vec F S512x128 .f32) (x10 : Vec F S512x128 .f32) (D : Vec F S16896x256 .f32) {Q WQ : sProp 𝕄G} (hW : WQ ⊢ iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out11 i (vpoint i (⟨x2, x3, x4, x5, x6, x7⟩ : VHeld F) D) x8 x9 x10) ∗ owns (c : Thread nD τ) arg12 fullShare (k0_pay1420 (vpoint i (⟨x2, x3, x4, x5, x6, x7⟩ : VHeld F) D).dk) ∗ owns (c : Thread nD τ) arg13 fullShare (k0_pay1421 (vpoint i (⟨x2, x3, x4, x5, x6, x7⟩ : VHeld F) D).dv) ∗ owns (c : Thread nD τ) arg14 fullShare (vpoint i (⟨x2, x3, x4, x5, x6, x7⟩ : VHeld F) D).dq ∗ (∃ d, owns (c : Thread nD τ) arg15 fullShare d) ∗ (∃ d, owns (c : Thread nD τ) arg16 fullShare d)) -∗ Q)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare D ∗ (∃ d, owns (c : Thread nD τ) arg15 fullShare d) ∗ (∃ d, owns (c : Thread nD τ) arg16 fullShare d) ∗ WQ) ⊢ wp frame (wpE (defs₀ (F := F)) 𝒱 (c : Thread nD τ) bd) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => Q) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, ⟨%f11, -, H11⟩⟩, ⟨%d12, ⟨%f12, -, H12⟩⟩, ⟨%d13, ⟨%f13, -, H13⟩⟩, ⟨%f14, %h14, H14⟩, ⟨%d15, ⟨%f15, -, H15⟩⟩, ⟨%d16, ⟨%f16, -, H16⟩⟩, HW⟩
  subst h2
  subst h3
  subst h4
  subst h5
  subst h6
  subst h7
  subst h8
  subst h9
  subst h10
  subst h14
  iapply (kernel_step i arg2 harg2 arg3 harg3 arg4 harg4 arg5 harg5 arg6 harg6 arg7 harg7 arg8 harg8 arg9 harg9 arg10 harg10 arg11 harg11 arg12 harg12 arg13 harg13 arg14 harg14 arg15 harg15 arg16 harg16 (⟨f2, f3, f4, f5, f6, f7⟩ : Held (F := F) (⟨arg2, arg3, arg4, arg5, arg6, arg7, arg14, arg15, arg16⟩ : Args)) (⟨f14, f15, f16⟩ : Acc (F := F) (⟨arg2, arg3, arg4, arg5, arg6, arg7, arg14, arg15, arg16⟩ : Args)) f8 f9 f10 f11 f12 f13)
  isplitr [HW]
  · isplitl [H2 H3 H4 H5 H6 H7 H14 H15 H16]
    · isplitl [H2]; · iexact H2
      isplitl [H3]; · iexact H3
      isplitl [H4]; · iexact H4
      isplitl [H5]; · iexact H5
      isplitl [H6]; · iexact H6
      isplitl [H7]; · iexact H7
      isplitl [H14]; · iexact H14
      isplitl [H15]; · iexact H15
      iexact H16
    · isplitl [H8]; · iexact H8
      isplitl [H9]; · iexact H9
      isplitl [H10]; · iexact H10
      isplitl [H11]; · iexact H11
      isplitl [H12]; · iexact H12
      iexact H13
  iapply hW
  iexact HW

/-- The kernel's run at a grid point, on memrefs owned at arrays. -/
theorem kernel_owns (x2 : Vec F S512x256 .bf16) (x3 : Vec F S512x128 .bf16) (x4 : Vec F S16896x256 .bf16) (x5 : Vec F S16896x128 .bf16) (x6 : Vec F S1x1x16896 .f32) (x7 : Vec F S1x1x16896 .f32) (x8 : Vec F S512x128 .f32) (x9 : Vec F S512x128 .f32) (x10 : Vec F S512x128 .f32) (D : Vec F S16896x256 .f32) {Q : sProp 𝕄G} :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare D ∗ (∃ d, owns (c : Thread nD τ) arg15 fullShare d) ∗ (∃ d, owns (c : Thread nD τ) arg16 fullShare d) ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out11 i (vpoint i (⟨x2, x3, x4, x5, x6, x7⟩ : VHeld F) D) x8 x9 x10) ∗ owns (c : Thread nD τ) arg12 fullShare (k0_pay1420 (vpoint i (⟨x2, x3, x4, x5, x6, x7⟩ : VHeld F) D).dk) ∗ owns (c : Thread nD τ) arg13 fullShare (k0_pay1421 (vpoint i (⟨x2, x3, x4, x5, x6, x7⟩ : VHeld F) D).dv) ∗ owns (c : Thread nD τ) arg14 fullShare (vpoint i (⟨x2, x3, x4, x5, x6, x7⟩ : VHeld F) D).dq ∗ (∃ d, owns (c : Thread nD τ) arg15 fullShare d) ∗ (∃ d, owns (c : Thread nD τ) arg16 fullShare d)) -∗ Q)) ⊢ wp frame (wpE (defs₀ (F := F)) 𝒱 (c : Thread nD τ) bd) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => Q) :=
  kernel_owns' i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 x10 D .rfl

end Cert.Kernel2Ideal.Tile
-- ==== Proof.FrameK.lean ====
module

public import proofs.«01_k».proof.Proof.KernOwn
public import proofs.«01_k».proof.Proof.Gen.Kernel2Ideal.Frame
public import Idealize.ShloMosaic.Lib.Claim

@[expose] public section

set_option maxRecDepth 16384

noncomputable section

namespace Cert.Kernel2Ideal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The current staging memrefs at a point. -/

abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16896x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16896x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x16896 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x16896 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x128 .bf16 := win0_11.stage (cfg0.slots t 11)
abbrev hs0_11 (t : Fin cfg0.N) : (ms0_11 t).IsWhole := hstage0_11 ((cfg0.slots t 11).cast nbuf0_11)
abbrev scM0_0 : Memref sig .tc .vmem S16896x256 .f32 := Memref.whole cc0_scratch0
abbrev scM0_1 : Memref sig .tc .vmem S512x256 .f32 := Memref.whole cc0_scratch1
abbrev scM0_2 : Memref sig .tc .vmem S512x128 .f32 := Memref.whole cc0_scratch2

/-- What a tile reads at a point: the windows' blocks. -/
def blks (c : Dev nD) (t : Fin cfg0.N) : VHeld F :=
  ⟨iblk m c 0 t, iblk m c 1 t, iblk m c 2 t, iblk m c 3 t, iblk m c 4 t, iblk m c 5 t⟩

/-- The accumulators after each point: the query gradient is carried from the point before. -/
def accAt (c : Dev nD) : (n : ℕ) → n < cfg0.N → VAcc F
  | 0, hn => vpoint (grid0.coords ⟨0, hn⟩) (blks m c ⟨0, hn⟩) k0_pay1385
  | n + 1, hn => vpoint (grid0.coords ⟨n + 1, hn⟩) (blks m c ⟨n + 1, hn⟩) (accAt c n (Nat.lt_of_succ_lt hn)).dq

/-- The query gradient's block of a point. -/
def blk9 (c : Dev nD) (t : Fin cfg0.N) : Vec F S512x256 .bf16 :=
  out11 (grid0.coords t) (accAt m c t.val t.isLt) (iblk m c 6 t) (iblk m c 7 t) (iblk m c 8 t)

/-- The key gradient's block of a point. -/
def blk10 (c : Dev nD) (t : Fin cfg0.N) : Vec F S512x256 .bf16 := k0_pay1420 (accAt m c t.val t.isLt).dk

/-- The value gradient's block of a point. -/
def blk11 (c : Dev nD) (t : Fin cfg0.N) : Vec F S512x128 .bf16 := k0_pay1421 (accAt m c t.val t.isLt).dv

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The region's invariant: the query gradient's accumulator at what the point before left. -/
def PhiS (c : Dev nD) : (n : ℕ) → n ≤ cfg0.N → sProp 𝕄
  | 0, _ => Pipeline.ΦA spec0 c
  | n + 1, hn => iprop(iprop(owns (c : Thread nD τ) scM0_0 fullShare (accAt m c n hn).dq ∗ (∃ d, owns (c : Thread nD τ) scM0_1 fullShare d) ∗ (∃ d, owns (c : Thread nD τ) scM0_2 fullShare d)) ∗ (∃ r, prngReg c r))

theorem PhiS_succ (c : Dev nD) (n : ℕ) (hn : n < cfg0.N) :
    PhiS m c (n + 1) hn = iprop(iprop(owns (c : Thread nD τ) scM0_0 fullShare (accAt m c n hn).dq ∗ (∃ d, owns (c : Thread nD τ) scM0_1 fullShare d) ∗ (∃ d, owns (c : Thread nD τ) scM0_2 fullShare d)) ∗ (∃ r, prngReg c r)) := rfl

theorem PhiS_forget (c : Dev nD) (n : ℕ) (h : n ≤ cfg0.N) : PhiS m c n h ⊢ Pipeline.ΦA spec0 c := by
  cases n with
  | zero => exact .rfl
  | succ n =>
    rw [PhiS_succ, PhiA0_eq]
    iintro ⟨⟨H0, H1, H2⟩, Hg⟩
    isplitl [H0 H1 H2]
    · isplitl [H0]
      · iexists _; iexact H0
      isplitl [H1]; · iexact H1
      iexact H2
    iexact Hg

/-- At a head's first point what the query gradient held does not matter. -/
theorem vpoint_first (i : grid0.Coords) (h : (i 1).val = 0) (X : VHeld F) (D D' : Vec F S16896x256 .f32) : vpoint i X D = vpoint i X D' := by
  unfold vpoint vall vzero
  rw [if_pos (by rw [h]; decide), if_pos (by rw [h]; decide)]

/-- The invariant before a point, opened: what the accumulator holds makes the point's own accumulators. -/
theorem PhiS_open (c : Dev nD) (t : Fin cfg0.N) : PhiS m c t.val (Nat.le_of_lt t.isLt) ⊢
    iprop(∃ D, ⌜vpoint (grid0.coords t) (blks m c t) D = accAt m c t.val t.isLt⌝ ∗ owns (c : Thread nD τ) scM0_0 fullShare D ∗ (∃ d, owns (c : Thread nD τ) scM0_1 fullShare d) ∗ (∃ d, owns (c : Thread nD τ) scM0_2 fullShare d) ∗ (∃ r, prngReg c r)) := by
  obtain ⟨n, hn⟩ := t
  cases n with
  | zero =>
    rw [show PhiS m c (⟨0, hn⟩ : Fin cfg0.N).val (Nat.le_of_lt hn) = Pipeline.ΦA spec0 c from rfl, PhiA0_eq]
    iintro ⟨⟨⟨%D, H0⟩, H1, H2⟩, Hg⟩
    iexists D
    isplitr
    · ipureintro; exact vpoint_first _ (by decide +revert) _ _ _
    isplitl [H0]; · iexact H0
    isplitl [H1]; · iexact H1
    isplitl [H2]; · iexact H2
    iexact Hg
  | succ n =>
    rw [PhiS_succ]
    iintro ⟨⟨H0, H1, H2⟩, Hg⟩
    iexists _
    isplitr
    swap
    · isplitl [H0]; · iexact H0
      isplitl [H1]; · iexact H1
      isplitl [H2]; · iexact H2
      iexact Hg
    ipureintro; rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => blk9 m c t
    | ⟨10, _⟩ => blk10 m c t
    | ⟨11, _⟩ => blk11 m c t
    | ⟨_ + 12, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = blk9 m c t := by dsimp only [dats]
theorem after0_10 (c : Dev nD) (t : Fin cfg0.N) : (dats m 0 c).after 10 t = blk10 m c t := by dsimp only [dats]
theorem after0_11 (c : Dev nD) (t : Fin cfg0.N) : (dats m 0 c).after 11 t = blk11 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ, PhiS_castSucc m c t]
  refine (sep_mono_left (PhiS_open m c t)).trans ?_
  iintro ⟨⟨%D, %hD, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (kernel_owns (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (bd := none)
    (iblk m c 0 t) (iblk m c 1 t) (iblk m c 2 t) (iblk m c 3 t) (iblk m c 4 t) (iblk m c 5 t) (iblk m c 6 t) (iblk m c 7 t) (iblk m c 8 t) D)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, H5, H6, H7, H8, H9, H10, H11, HS0, HS1, HS2⟩
  have e : vpoint (grid0.coords t) (⟨iblk m c 0 t, iblk m c 1 t, iblk m c 2 t, iblk m c 3 t, iblk m c 4 t, iblk m c 5 t⟩ : VHeld F) D = accAt m c t.val t.isLt := hD
  rw [e]
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact .rfl

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_forget m c _ _

set_option backward.isDefEq.respectTransparency.types false in
/-- The run, with every counter back at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel2Ideal.Tile

end
-- ==== Proof.VSum.lean ====
module

public import proofs.«01_k».proof.Proof.VFold
public import proofs.«01_k».proof.Proof.FrameK

/-! The accumulators after every grid point, as sums over the rows of a head. -/

@[expose] public section

set_option maxRecDepth 16384
noncomputable section

namespace Cert.Kernel2Ideal.Tile

open Idealize.ShloMosaic Idealize.ShloMosaic.TcCoe Idealize.ShloMosaic.Tactic
open Cert.Kernel2Ideal.Gen Cert.Proof.Attn

theorem filter_ge (j : Fin 33) : (List.finRange 33).filter (fun i => decide (j.val ≤ i.val)) = j :: (List.finRange 33).filter (fun i => decide (j.val < i.val)) := by
  decide +revert

theorem spec_eq (j : Fin 33) : spec j = ((List.finRange 33).filter (fun i => decide (j.val ≤ i.val))).map (tl1 j) := by
  unfold spec
  by_cases h0 : j.val = 0
  · rw [if_pos h0, List.filter_eq_self.mpr (fun a _ => by simp [h0])]
    refine List.map_congr_left fun i _ => ?_
    unfold tl1 kind word
    rw [if_pos h0, if_pos (Or.inl h0)]
  · rw [if_neg h0, filter_ge, List.map_cons]
    refine congrArg₂ List.cons ?_ (List.map_congr_left fun i hi => ?_)
    · unfold tl1 kind word
      rw [if_neg h0, if_pos rfl, if_pos (Or.inr rfl)]
    · have hlt : j.val < i.val := by simpa using (List.mem_filter.mp hi).2
      unfold tl1 kind word
      rw [if_neg h0, if_neg (by omega), if_neg (by omega)]

/-- A quantity every step adds to, over a list of steps. -/
theorem fold_add {α β : Type} (st : α → β → β) (g : β → EReal) (f : α → ℝ) (l : List α)
    (h : ∀ a ∈ l, ∀ s, g (st a s) = g s + ((f a : ℝ) : EReal)) (s : β) :
    g (l.foldl (fun b a => st a b) s) = g s + (((l.map f).sum : ℝ) : EReal) := by
  induction l generalizing s with
  | nil => simp
  | cons a l ih =>
    rw [List.foldl_cons, ih (fun b hb => h b (List.mem_cons_of_mem _ hb)), h a List.mem_cons_self, List.map_cons, List.sum_cons, EReal.coe_add, add_assoc]

theorem filter_sum {α : Type} (p : α → Bool) (f : α → ℝ) (hf : ∀ a, p a = false → f a = 0) (l : List α) : ((l.filter p).map f).sum = (l.map f).sum := by
  induction l with
  | nil => rfl
  | cons a l ih =>
    rw [List.filter_cons]
    cases hp : p a with
    | true => simp [ih]
    | false => simp [ih, hf a hp]

theorem point_add (X : VHeld Ideal) (j : Fin 33) (g : VAcc Ideal → EReal) (f : Fin 33 → ℝ)
    (h : ∀ i : Fin 33, j.val ≤ i.val → ∀ s, g (vstep (BitVec.ofNat 32 j.val) X (tl1 j i) s) = g s + ((f i : ℝ) : EReal))
    (hf : ∀ i : Fin 33, i.val < j.val → f i = 0) (s : VAcc Ideal) :
    g ((spec j).foldl (fun a p => vstep (BitVec.ofNat 32 j.val) X p a) s) = g s + ((∑ i, f i : ℝ) : EReal) := by
  rw [spec_eq, List.foldl_map, fold_add (fun i s => vstep (BitVec.ofNat 32 j.val) X (tl1 j i) s) g f _ (fun a ha s => h a (by simpa using (List.mem_filter.mp ha).2) s) s,
    filter_sum _ f (fun a ha => hf a (by simpa using ha)), Fin.sum_univ_def]

theorem sum_blocks (f : Fin 16896 → ℝ) : ∑ i : Fin 33, ∑ x : Fin 512, f (kr i x) = ∑ r, f r := by
  rw [← Fintype.sum_prod_type']
  refine Fintype.sum_equiv (finProdFinEquiv (m := 33) (n := 512)) _ _ fun p => congrArg f (Fin.ext ?_)
  show 512 * p.1.val + p.2.val = p.2.val + 512 * p.1.val
  omega

theorem p_late (A : Pad) (j i : Fin 33) (h : i.val < j.val) (y x : Fin 512) : A.p (kr j y) (kr i x) = 0 :=
  A.p_zero _ _ (by show 512 * i.val + x.val < 512 * j.val + y.val; omega)
theorem ds_late (A : Pad) (j i : Fin 33) (h : i.val < j.val) (y x : Fin 512) : A.ds (kr j y) (kr i x) = 0 := by
  unfold Pad.ds; rw [p_late A j i h, zero_mul]

theorem zero_v (x : S512x128.Idx) : k0_pay1387 (F := Ideal) x = 0 := by
  show Ideal.ofBits .f32 0#32 = 0
  simp [Ideal.ofBits, Ideal.ieee]
theorem zero_k (x : S512x256.Idx) : k0_pay1386 (F := Ideal) x = 0 := by
  show Ideal.ofBits .f32 0#32 = 0
  simp [Ideal.ofBits, Ideal.ieee]
theorem zero_q (x : S16896x256.Idx) : k0_pay1385 (F := Ideal) x = 0 := by
  show Ideal.ofBits .f32 0#32 = 0
  simp [Ideal.ofBits, Ideal.ieee]

variable (i : grid0.Coords) {X : VHeld Ideal} {A : Pad} (h : Holds X (i 1) A) (D : Vec Ideal S16896x256 .f32)
include h

theorem vall_dv (y : Fin 512) (c : Fin 128) : (vpoint i X D).dv (ix2 y c) = ((∑ r, A.p (kr (i 1) y) r * A.o r c : ℝ) : EReal) := by
  unfold vpoint
  rw [vall_eq, point_add X (i 1) (fun s => s.dv (ix2 y c)) (fun k => addV A (i 1) k y c) (fun k hk s => step_dv h k hk s y c)
    (fun k hk => Finset.sum_eq_zero fun x _ => by rw [p_late A (i 1) k hk, zero_mul])]
  unfold addV
  rw [sum_blocks (fun r => A.p (kr (i 1) y) r * A.o r c)]
  have hz : (vzero i ⟨D, k0_pay1386 (F := Ideal), k0_pay1387 (F := Ideal)⟩).dv (ix2 y c) = 0 := zero_v (ix2 y c)
  rw [hz, zero_add]
theorem vall_dk (y : Fin 512) (c : Fin 256) : (vpoint i X D).dk (ix2 y c) = ((∑ r, A.ds (kr (i 1) y) r * A.q r c : ℝ) : EReal) := by
  unfold vpoint
  rw [vall_eq, point_add X (i 1) (fun s => s.dk (ix2 y c)) (fun k => addK A (i 1) k y c) (fun k hk s => step_dk h k hk s y c)
    (fun k hk => Finset.sum_eq_zero fun x _ => by rw [ds_late A (i 1) k hk, zero_mul])]
  unfold addK
  rw [sum_blocks (fun r => A.ds (kr (i 1) y) r * A.q r c)]
  have hz : (vzero i ⟨D, k0_pay1386 (F := Ideal), k0_pay1387 (F := Ideal)⟩).dk (ix2 y c) = 0 := zero_k (ix2 y c)
  rw [hz, zero_add]
theorem vall_dq (r : Fin 16896) (c : Fin 256) : (vpoint i X D).dq (ix2 r c) = (if (i 1).val = 0 then 0 else D (ix2 r c)) + ((addQ A (i 1) r c : ℝ) : EReal) := by
  unfold vpoint
  rw [vall_eq, point_add X (i 1) (fun s => s.dq (ix2 r c)) (fun k => if r.val / 512 = k.val then addQ A (i 1) r c else 0) (fun k hk s => step_dq h k hk s r c)
    (fun k hk => by
      split
      · refine Finset.sum_eq_zero fun y _ => ?_
        have e : r = kr k ⟨r.val % 512, Nat.mod_lt _ (by norm_num)⟩ := Fin.ext (by show r.val = 512 * k.val + r.val % 512; omega)
        rw [e, ds_late A (i 1) k hk, zero_mul]
      · rfl)]
  have hs : (∑ k : Fin 33, if r.val / 512 = k.val then addQ A (i 1) r c else 0) = addQ A (i 1) r c := by
    rw [Finset.sum_eq_single (⟨r.val / 512, by omega⟩ : Fin 33) (fun b _ hb => if_neg fun w => hb (Fin.ext w.symm)) (fun w => absurd (Finset.mem_univ _) w)]
    exact if_pos rfl
  rw [hs]
  refine congrArg (· + _) ?_
  show (vzero i _).dq (ix2 r c) = _
  unfold vzero
  have hw : (Scalar.cmpi .ne (Scalar.extui (Scalar.cmpi .eq (BitVec.ofNat 32 (i 1).val) 0#32) : BitVec 32) 0#32 = 1#1) ↔ (i 1).val = 0 := by
    generalize i 1 = j
    revert j
    decide
  by_cases h0 : (i 1).val = 0
  · rw [if_pos h0]
    show (if _ then (k0_pay1385 (F := Ideal)) else D) (ix2 r c) = _
    rw [if_pos (hw.mpr h0)]
    exact zero_q _
  · rw [if_neg h0]
    show (if _ then (k0_pay1385 (F := Ideal)) else D) (ix2 r c) = _
    rw [if_neg (fun w => h0 (hw.mp w))]

end Cert.Kernel2Ideal.Tile

end
-- ==== Proof.VBlk.lean ====
module

public import proofs.«01_k».proof.Proof.VSum

/-! The three arrays the call leaves, element by element, from a head's padded arrays. -/

@[expose] public section

set_option maxRecDepth 16384
noncomputable section

namespace Cert.Kernel2Ideal.Tile

open Idealize.ShloMosaic Idealize.ShloMosaic.TcCoe Idealize.ShloMosaic.Tactic Idealize.SL.Sem
open Idealize.ShloMosaic.Pipeline (Dat)
open Cert.Kernel2Ideal Cert.Kernel2Ideal.Gen Cert.Proof.Attn
open Cert.Proof.Rms (coe_sum)

variable (m : (ℓ : Loc nD τ sig) → Buf (Elt Ideal) ℓ) (c : Dev nD)

theorem idx : ∀ t : Fin cfg0.N, win0_0.index t = ![t.val % 33, t.val / 33] ∧ win0_1.index t = ![t.val % 33, 2 * (t.val / 33)] ∧
    win0_2.index t = ![0, t.val / 33] ∧ win0_3.index t = ![0, t.val / 33] ∧ win0_4.index t = ![t.val / 33, 0, 0] ∧
    win0_5.index t = ![t.val / 33, 0, 0] ∧ win0_6.index t = ![t.val % 33, 0] ∧ win0_7.index t = ![t.val % 33, 0] ∧
    win0_8.index t = ![t.val % 33, 0] ∧ win0_9.index t = ![t.val % 33, t.val / 33] ∧ win0_10.index t = ![t.val % 33, t.val / 33] ∧
    win0_11.index t = ![t.val % 33, t.val / 33] :=
  (by decide +kernel : ∀ t : Fin grid0.N, _)
theorem coord : ∀ t : Fin cfg0.N, ((grid0.coords t) 0).val = t.val / 33 ∧ ((grid0.coords t) 1).val = t.val % 33 :=
  (by decide +kernel : ∀ t : Fin grid0.N, _)

/-- The call's operands. -/
def eK : FVec Ideal S16896x2048 .bf16 := V m c main_v92
def eV : FVec Ideal S16896x2048 .bf16 := V m c main_v97
def eQ : FVec Ideal S16896x2048 .bf16 := V m c main_v88
def eO : FVec Ideal S16896x1024 .bf16 := V m c main_v100
def eL : FVec Ideal S8x1x16896 .f32 := V m c main_v102
def eD : FVec Ideal S8x1x16896 .f32 := V m c main_v104
def eC : FVec Ideal S16896x128 .f32 := V m c main_v26
def eA : FVec Ideal S16896x128 .f32 := V m c main_v28
def eB : FVec Ideal S16896x128 .f32 := V m c main_v29

/-- Column `x` of head `h`, of 256 and of 128 lanes. -/
abbrev cw (h : Fin 8) (x : Fin 256) : Fin 2048 := ⟨h.val * 256 + x.val, by omega⟩
abbrev cn (h : Fin 8) (x : Fin 128) : Fin 1024 := ⟨h.val * 128 + x.val, by omega⟩
abbrev cv (h : Fin 8) (x : Fin 128) : Fin 2048 := ⟨h.val * 256 + x.val, by omega⟩

/-- A family of heads the operands hold. -/
structure Ops (A : Fin 8 → Pad) : Prop where
  k : ∀ r h x, eK m c (ix2 r (cw h x)) = (((A h).k r x : ℝ) : EReal)
  v : ∀ r h x, eV m c (ix2 r (cv h x)) = (((A h).v r x : ℝ) : EReal)
  q : ∀ r h x, eQ m c (ix2 r (cw h x)) = (((A h).q r x : ℝ) : EReal)
  o : ∀ r h x, eO m c (ix2 r (cn h x)) = (((A h).o r x : ℝ) : EReal)
  l : ∀ r h, eL m c (ix3 h 0 r) = (((A h).l r : ℝ) : EReal)
  d : ∀ r h, eD m c (ix3 h 0 r) = (((A h).d r : ℝ) : EReal)

abbrev th (t : Fin cfg0.N) : Fin 8 := ⟨t.val / 33, by have : t.val < 264 := t.isLt; omega⟩
abbrev tj (t : Fin cfg0.N) : Fin 33 := ⟨t.val % 33, Nat.mod_lt _ (by norm_num)⟩

theorem b0 (t : Fin cfg0.N) (y : Fin 512) (x : Fin 256) : (iblk m c 0 t : FVec Ideal S512x256 .bf16) (ix2 y x) = eK m c (ix2 (kr (tj t) y) (cw (th t) x)) := by
  blk_point [iblk, eK, idx t]
theorem b1 (t : Fin cfg0.N) (y : Fin 512) (x : Fin 128) : (iblk m c 1 t : FVec Ideal S512x128 .bf16) (ix2 y x) = eV m c (ix2 (kr (tj t) y) (cv (th t) x)) := by
  blk_point [iblk, eV, idx t]
theorem b2 (t : Fin cfg0.N) (r : Fin 16896) (x : Fin 256) : (iblk m c 2 t : FVec Ideal S16896x256 .bf16) (ix2 r x) = eQ m c (ix2 r (cw (th t) x)) := by
  blk_point [iblk, eQ, idx t]
theorem b3 (t : Fin cfg0.N) (r : Fin 16896) (x : Fin 128) : (iblk m c 3 t : FVec Ideal S16896x128 .bf16) (ix2 r x) = eO m c (ix2 r (cn (th t) x)) := by
  blk_point [iblk, eO, idx t]
theorem b4 (t : Fin cfg0.N) (r : Fin 16896) : (iblk m c 4 t : FVec Ideal S1x1x16896 .f32) (ix3 0 0 r) = eL m c (ix3 (th t) 0 r) := by
  blk_point [iblk, eL, idx t]
theorem b5 (t : Fin cfg0.N) (r : Fin 16896) : (iblk m c 5 t : FVec Ideal S1x1x16896 .f32) (ix3 0 0 r) = eD m c (ix3 (th t) 0 r) := by
  blk_point [iblk, eD, idx t]
theorem b6 (t : Fin cfg0.N) (y : Fin 512) (x : Fin 128) : (iblk m c 6 t : FVec Ideal S512x128 .f32) (ix2 y x) = eC m c (ix2 (kr (tj t) y) x) := by
  blk_point [iblk, eC, idx t]
theorem b7 (t : Fin cfg0.N) (y : Fin 512) (x : Fin 128) : (iblk m c 7 t : FVec Ideal S512x128 .f32) (ix2 y x) = eA m c (ix2 (kr (tj t) y) x) := by
  blk_point [iblk, eA, idx t]
theorem b8 (t : Fin cfg0.N) (y : Fin 512) (x : Fin 128) : (iblk m c 8 t : FVec Ideal S512x128 .f32) (ix2 y x) = eB m c (ix2 (kr (tj t) y) x) := by
  blk_point [iblk, eB, idx t]

end Cert.Kernel2Ideal.Tile

end
-- ==== Proof.VArr.lean ====
module

public import proofs.«01_k».proof.Proof.VBlk

/-! The three arrays the call leaves, element by element, from a head's padded arrays. -/

@[expose] public section

set_option maxRecDepth 16384
noncomputable section

namespace Cert.Kernel2Ideal.Tile

open Idealize.ShloMosaic Idealize.ShloMosaic.TcCoe Idealize.ShloMosaic.Tactic Idealize.SL.Sem
open Idealize.ShloMosaic.Pipeline (Dat)
open Cert.Kernel2Ideal Cert.Kernel2Ideal.Gen Cert.Proof.Attn
open Cert.Proof.Rms (coe_sum)

variable {m c} {A : Fin 8 → Pad} (hA : Ops m c A)
include hA

theorem hk (t : Fin cfg0.N) (y : Fin 512) (x : Fin 256) : (blks m c t).k (ix2 y x) = (((A (th t)).k (kr (tj t) y) x : ℝ) : EReal) := by
  rw [show (blks m c t).k = (iblk m c 0 t : FVec Ideal S512x256 .bf16) from rfl, b0]
  exact hA.k _ _ _
theorem hv (t : Fin cfg0.N) (y : Fin 512) (x : Fin 128) : (blks m c t).v (ix2 y x) = (((A (th t)).v (kr (tj t) y) x : ℝ) : EReal) := by
  rw [show (blks m c t).v = (iblk m c 1 t : FVec Ideal S512x128 .bf16) from rfl, b1]
  exact hA.v _ _ _
theorem hq (t : Fin cfg0.N) (r : Fin 16896) (x : Fin 256) : (blks m c t).q (ix2 r x) = (((A (th t)).q r x : ℝ) : EReal) := by
  rw [show (blks m c t).q = (iblk m c 2 t : FVec Ideal S16896x256 .bf16) from rfl, b2]
  exact hA.q _ _ _
theorem ho (t : Fin cfg0.N) (r : Fin 16896) (x : Fin 128) : (blks m c t).o (ix2 r x) = (((A (th t)).o r x : ℝ) : EReal) := by
  rw [show (blks m c t).o = (iblk m c 3 t : FVec Ideal S16896x128 .bf16) from rfl, b3]
  exact hA.o _ _ _
theorem hl (t : Fin cfg0.N) (r : Fin 16896) : (blks m c t).lse (ix3 0 0 r) = (((A (th t)).l r : ℝ) : EReal) := by
  rw [show (blks m c t).lse = (iblk m c 4 t : FVec Ideal S1x1x16896 .f32) from rfl, b4]
  exact hA.l _ _
theorem hd (t : Fin cfg0.N) (r : Fin 16896) : (blks m c t).dl (ix3 0 0 r) = (((A (th t)).d r : ℝ) : EReal) := by
  rw [show (blks m c t).dl = (iblk m c 5 t : FVec Ideal S1x1x16896 .f32) from rfl, b5]
  exact hA.d _ _
theorem holds_at (t : Fin cfg0.N) : Holds (blks m c t) (tj t) (A (th t)) := ⟨hk hA t, hv hA t, hq hA t, ho hA t, hl hA t, hd hA t⟩
theorem holds (t : Fin cfg0.N) : Holds (blks m c t) ((grid0.coords t) 1) (A (th t)) := by
  rw [show (grid0.coords t) 1 = tj t from Fin.ext (coord t).2]
  exact holds_at hA t

theorem acc_dv (t : Fin cfg0.N) (y : Fin 512) (x : Fin 128) :
    (accAt m c t.val t.isLt).dv (ix2 y x) = ((∑ r, (A (th t)).p (kr (tj t) y) r * (A (th t)).o r x : ℝ) : EReal) := by
  obtain ⟨n, hn⟩ := t
  have e : (grid0.coords ⟨n, hn⟩) 1 = tj ⟨n, hn⟩ := Fin.ext (coord ⟨n, hn⟩).2
  cases n with
  | zero => exact (vall_dv (grid0.coords ⟨0, hn⟩) (holds hA ⟨0, hn⟩) _ y x).trans (by rw [e])
  | succ n => exact (vall_dv (grid0.coords ⟨n + 1, hn⟩) (holds hA ⟨n + 1, hn⟩) _ y x).trans (by rw [e])
theorem acc_dk (t : Fin cfg0.N) (y : Fin 512) (x : Fin 256) :
    (accAt m c t.val t.isLt).dk (ix2 y x) = ((∑ r, (A (th t)).ds (kr (tj t) y) r * (A (th t)).q r x : ℝ) : EReal) := by
  obtain ⟨n, hn⟩ := t
  have e : (grid0.coords ⟨n, hn⟩) 1 = tj ⟨n, hn⟩ := Fin.ext (coord ⟨n, hn⟩).2
  cases n with
  | zero => exact (vall_dk (grid0.coords ⟨0, hn⟩) (holds hA ⟨0, hn⟩) _ y x).trans (by rw [e])
  | succ n => exact (vall_dk (grid0.coords ⟨n + 1, hn⟩) (holds hA ⟨n + 1, hn⟩) _ y x).trans (by rw [e])

/-- The key blocks up to block `n` of a head. -/
def upTo (P : Pad) (n : ℕ) (r : Fin 16896) (x : Fin 256) : ℝ := ∑ k ∈ Finset.range n, addQ P ⟨k % 33, Nat.mod_lt _ (by norm_num)⟩ r x

theorem acc_dq : ∀ (n : ℕ) (hn : n < cfg0.N) (r : Fin 16896) (x : Fin 256),
    (accAt m c n hn).dq (ix2 r x) = ((upTo (A (th ⟨n, hn⟩)) (n % 33 + 1) r x : ℝ) : EReal) := by
  intro n
  induction n with
  | zero =>
    intro hn r x
    refine (vall_dq (grid0.coords ⟨0, hn⟩) (holds hA ⟨0, hn⟩) _ r x).trans ?_
    rw [if_pos (show ((grid0.coords ⟨0, hn⟩) 1).val = 0 from (coord ⟨0, hn⟩).2), zero_add, show (grid0.coords ⟨0, hn⟩) 1 = tj ⟨0, hn⟩ from Fin.ext (coord ⟨0, hn⟩).2]
    unfold upTo
    rw [Finset.sum_range_succ, Finset.sum_range_zero, zero_add]
  | succ n ih =>
    intro hn r x
    refine (vall_dq (grid0.coords ⟨n + 1, hn⟩) (holds hA ⟨n + 1, hn⟩) _ r x).trans ?_
    rw [(coord ⟨n + 1, hn⟩).2, show (grid0.coords ⟨n + 1, hn⟩) 1 = tj ⟨n + 1, hn⟩ from Fin.ext (coord ⟨n + 1, hn⟩).2]
    have hlast : upTo (A (th ⟨n + 1, hn⟩)) ((n + 1) % 33 + 1) r x = upTo (A (th ⟨n + 1, hn⟩)) ((n + 1) % 33) r x + addQ (A (th ⟨n + 1, hn⟩)) (tj ⟨n + 1, hn⟩) r x := by
      unfold upTo
      rw [Finset.sum_range_succ]
      exact congrArg (fun k => _ + addQ (A (th ⟨n + 1, hn⟩)) k r x) (Fin.ext (Nat.mod_mod _ _))
    rw [hlast]
    by_cases h0 : (n + 1) % 33 = 0
    · rw [if_pos h0, h0]
      unfold upTo
      rw [Finset.sum_range_zero, zero_add, zero_add]
    · rw [if_neg h0, ih (Nat.lt_of_succ_lt hn) r x]
      have e1 : th ⟨n, Nat.lt_of_succ_lt hn⟩ = th ⟨n + 1, hn⟩ := Fin.ext (by show n / 33 = (n + 1) / 33; omega)
      have e2 : n % 33 + 1 = (n + 1) % 33 := by omega
      rw [e1, e2, EReal.coe_add]

omit hA in
/-- A query row of block `j` has met every key it sees once the blocks up to `j` are in. -/
theorem upTo_all (P : Pad) (j : Fin 33) (y : Fin 512) (x : Fin 256) : upTo P (j.val + 1) (kr j y) x = ∑ R, P.ds R (kr j y) * P.k R x := by
  rw [← sum_blocks]
  unfold upTo
  rw [Finset.sum_subset (Finset.range_mono (show j.val + 1 ≤ 33 by omega)) (fun k hk hn => ?_), Finset.sum_range]
  · refine Finset.sum_congr rfl fun k _ => ?_
    rw [show (⟨k.val % 33, Nat.mod_lt _ (by norm_num)⟩ : Fin 33) = k from Fin.ext (Nat.mod_eq_of_lt k.isLt)]
    rfl
  · have h1 : k < 33 := Finset.mem_range.mp hk
    have h2 : ¬ k < j.val + 1 := fun w => hn (Finset.mem_range.mpr w)
    refine Finset.sum_eq_zero fun y' _ => ?_
    rw [ds_late P _ j (by show j.val < k % 33; rw [Nat.mod_eq_of_lt h1]; omega), zero_mul]

/-- The query gradient's row, before the turn. -/
def gq (P : Pad) (r : Fin 16896) (x : Fin 256) : ℝ := ∑ R, P.ds R r * P.k R x

theorem acc_dq_block (t : Fin cfg0.N) (y : Fin 512) (x : Fin 256) :
    (accAt m c t.val t.isLt).dq (ix2 (kr (tj t) y) x) = ((gq (A (th t)) (kr (tj t) y) x : ℝ) : EReal) :=
  (acc_dq hA t.val t.isLt _ x).trans (congrArg _ (upTo_all _ (tj t) y x))

omit hA

/-- The literal scale. -/
abbrev sc : EReal := Ideal.ofBits FTy.f32 0x3D93CD3A#32

theorem pay1422_at (v : Vec Ideal S512x256 .f32) (y : Fin 512) (x : Fin 256) : k0_pay1422 (F := Ideal) v (ix2 y x) = v (ix2 y x) * sc := by
  pointwise [k0_pay1422]
theorem pay1423_at (v : Vec Ideal S512x256 .f32) (y : Fin 512) (x : Fin 128) : k0_pay1423 (F := Ideal) v (ix2 y x) = v (ix2 y ⟨x.val, by omega⟩) * sc := by
  pointwise [k0_pay1423, k0_pay1422]
theorem pay1424_at (v : Vec Ideal S512x256 .f32) (y : Fin 512) (x : Fin 128) : k0_pay1424 (F := Ideal) v (ix2 y x) = v (ix2 y ⟨128 + x.val, by omega⟩) * sc := by
  pointwise [k0_pay1424, k0_pay1422]
theorem pay1_at (a b d e : Vec Ideal S512x128 .f32) (y : Fin 512) (x : Fin 128) :
    k0_pay1 (F := Ideal) a (k0_pay1425 b) (k0_pay1426 d) e (ix2 y x) = a (ix2 y x) * b (ix2 y x)
      + a (ix2 y ⟨(x.val + 128 - 32) % 128, Nat.mod_lt _ (by norm_num)⟩) * d (ix2 y ⟨(x.val + 128 - 32) % 128, Nat.mod_lt _ (by norm_num)⟩)
      + a (ix2 y ⟨(x.val + 128 - 96) % 128, Nat.mod_lt _ (by norm_num)⟩) * e (ix2 y ⟨(x.val + 128 - 96) % 128, Nat.mod_lt _ (by norm_num)⟩) := by
  pointwise [k0_pay1, k0_pay1425, k0_pay1426]
theorem pay1420_at (v : Vec Ideal S512x256 .f32) (y : Fin 512) (x : Fin 256) : k0_pay1420 (F := Ideal) v (ix2 y x) = v (ix2 y x) * ((Real.log 2 : ℝ) : EReal) := by
  pointwise [k0_pay1420]
  rfl
theorem pay1421_at (v : Vec Ideal S512x128 .f32) (y : Fin 512) (x : Fin 128) : k0_pay1421 (F := Ideal) v (ix2 y x) = v (ix2 y x) := by
  pointwise [k0_pay1421]

end Cert.Kernel2Ideal.Tile

end
-- ==== Proof.VOut.lean ====
module

public import proofs.«01_k».proof.Proof.VArr

/-! The call's three result arrays. -/

@[expose] public section

set_option maxRecDepth 16384
noncomputable section

namespace Cert.Kernel2Ideal.Tile

open Idealize.ShloMosaic Idealize.ShloMosaic.TcCoe Idealize.ShloMosaic.Tactic Idealize.SL.Sem
open Idealize.ShloMosaic.Pipeline (Dat)
open Cert.Kernel2Ideal Cert.Kernel2Ideal.Gen Cert.Proof.Attn

variable {m : (ℓ : Loc nD τ sig) → Buf (Elt Ideal) ℓ} {c : Dev nD} {A : Fin 8 → Pad}

/-! A block's two halves of lanes, each stored over what was there. -/
theorem half_lo (Y : S512x256.Idx → Elt Ideal .bf16) (G : S512x128.Idx → Elt Ideal .bf16) (h : ∀ a, (![0, 0] : Fin 2 → Nat) a + S512x128.size a ≤ S512x256.size a)
    (y : Fin 512) (x : Fin 128) : Rect.overlay (Rect.unit (s := S512x256) ![0, 0] S512x128.size h) Y G (ix2 y ⟨x.val, by omega⟩) = G (ix2 y x) := by
  have he : (ix2 y (⟨x.val, by omega⟩ : Fin 256) : S512x256.Idx) = (Rect.unit (s := S512x256) ![0, 0] S512x128.size h).emb (ix2 y x) := by
    refine funext fun a => Fin.ext ?_
    fin_cases a
    · show y.val = 0 + 1 * y.val; omega
    · show x.val = 0 + 1 * x.val; omega
  rw [he]
  exact Rect.overlay_emb _ _ _ _
theorem half_hi (Y : S512x256.Idx → Elt Ideal .bf16) (G : S512x128.Idx → Elt Ideal .bf16) (h : ∀ a, (![0, 128] : Fin 2 → Nat) a + S512x128.size a ≤ S512x256.size a)
    (y : Fin 512) (x : Fin 128) : Rect.overlay (Rect.unit (s := S512x256) ![0, 128] S512x128.size h) Y G (ix2 y ⟨128 + x.val, by omega⟩) = G (ix2 y x) := by
  have he : (ix2 y (⟨128 + x.val, by omega⟩ : Fin 256) : S512x256.Idx) = (Rect.unit (s := S512x256) ![0, 128] S512x128.size h).emb (ix2 y x) := by
    refine funext fun a => Fin.ext ?_
    fin_cases a
    · show y.val = 0 + 1 * y.val; omega
    · show 128 + x.val = 128 + 1 * x.val; omega
  rw [he]
  exact Rect.overlay_emb _ _ _ _
theorem half_off (Y : S512x256.Idx → Elt Ideal .bf16) (G : S512x128.Idx → Elt Ideal .bf16) (h : ∀ a, (![0, 128] : Fin 2 → Nat) a + S512x128.size a ≤ S512x256.size a)
    (y : Fin 512) (x : Fin 128) : Rect.overlay (Rect.unit (s := S512x256) ![0, 128] S512x128.size h) Y G (ix2 y ⟨x.val, by omega⟩) = Y (ix2 y ⟨x.val, by omega⟩) := by
  refine Rect.overlay_of_not_mem _ _ _ fun hm => ?_
  obtain ⟨z, hz⟩ := (Rect.unit (s := S512x256) ![0, 128] S512x128.size h).toLoadRect.exists_idx_of_mem hm
  have h1 : 128 + 1 * (z 1).val = x.val := congrArg Fin.val (congrFun hz 1)
  omega

theorem off76 (i : grid0.Coords) : k0_off76 i = ![512 * (i 1).val, 0] := by
  have h : ∀ j : Fin 33, (Scalar.indexCast (Scalar.muli (BitVec.ofNat 32 j.val) 512#32) : Index).toNat = 512 * j.val := by decide
  exact congrArg (fun n => ![n, 0]) (h (i 1))

section
variable (hA : Ops m c A)
include hA

theorem ld76 (t : Fin cfg0.N) (y : Fin 512) (x : Fin 256) :
    View.ld (accAt m c t.val t.isLt).dq (Rect.unit (s := S16896x256) (k0_off76 (grid0.coords t)) S512x256.size (k0_off76_inb (grid0.coords t))) (ix2 y x)
      = ((gq (A (th t)) (kr (tj t) y) x : ℝ) : EReal) := by
  refine (ld2 (tj t) 256 (by norm_num) (accAt m c t.val t.isLt).dq _ ?_ _ y x).trans (acc_dq_block hA t y x)
  rw [off76, (coord t).2]

/-- A lane of the turned half: its own lane and the two a half turn away. -/
def turned (P : Pad) (R : Fin 16896) (C a b : FVec Ideal S16896x128 .f32) (x : Fin 128) : EReal :=
  ((gq P R ⟨128 + x.val, by omega⟩ : ℝ) : EReal) * sc * C (ix2 R x)
    + ((gq P R ⟨128 + (x.val + 128 - 32) % 128, by omega⟩ : ℝ) : EReal) * sc * a (ix2 R ⟨(x.val + 128 - 32) % 128, Nat.mod_lt _ (by norm_num)⟩)
    + ((gq P R ⟨128 + (x.val + 128 - 96) % 128, by omega⟩ : ℝ) : EReal) * sc * b (ix2 R ⟨(x.val + 128 - 96) % 128, Nat.mod_lt _ (by norm_num)⟩)

theorem blk9_lo (t : Fin cfg0.N) (y : Fin 512) (x : Fin 128) :
    blk9 m c t (ix2 y ⟨x.val, by omega⟩) = ((gq (A (th t)) (kr (tj t) y) ⟨x.val, by omega⟩ : ℝ) : EReal) * sc := by
  unfold blk9 out11
  refine (half_off _ _ _ y x).trans ((half_lo _ _ _ y x).trans ?_)
  rw [pay1423_at, ld76 hA]
theorem blk9_hi (t : Fin cfg0.N) (y : Fin 512) (x : Fin 128) :
    blk9 m c t (ix2 y ⟨128 + x.val, by omega⟩) = turned (A (th t)) (kr (tj t) y) (eC m c) (eA m c) (eB m c) x := by
  unfold blk9 out11
  refine (half_hi _ _ _ y x).trans ?_
  rw [pay1_at, pay1424_at, pay1424_at, pay1424_at, ld76 hA, ld76 hA, ld76 hA, b6, b7, b8]
  rfl
theorem blk10_at (t : Fin cfg0.N) (y : Fin 512) (x : Fin 256) :
    blk10 m c t (ix2 y x) = ((∑ r, (A (th t)).ds (kr (tj t) y) r * (A (th t)).q r x : ℝ) : EReal) * ((Real.log 2 : ℝ) : EReal) := by
  unfold blk10
  rw [pay1420_at, acc_dk hA]
theorem blk11_at (t : Fin cfg0.N) (y : Fin 512) (x : Fin 128) :
    blk11 m c t (ix2 y x) = ((∑ r, (A (th t)).p (kr (tj t) y) r * (A (th t)).o r x : ℝ) : EReal) := by
  unfold blk11
  rw [pay1421_at, acc_dv hA]
end

/-- Heads side by side, 256 lanes each and 128 lanes each. -/
def side256 (f : Fin 8 → Fin 16896 → Fin 256 → EReal) : FVec Ideal S16896x2048 .bf16 := fun i =>
  f ⟨(i 1).val / 256, by have : (i 1).val < 2048 := (i 1).isLt; omega⟩ (i 0) ⟨(i 1).val % 256, Nat.mod_lt _ (by norm_num)⟩
def side128 (f : Fin 8 → Fin 16896 → Fin 128 → EReal) : FVec Ideal S16896x1024 .bf16 := fun i =>
  f ⟨(i 1).val / 128, by have : (i 1).val < 1024 := (i 1).isLt; omega⟩ (i 0) ⟨(i 1).val % 128, Nat.mod_lt _ (by norm_num)⟩
theorem side256_at (f : Fin 8 → Fin 16896 → Fin 256 → EReal) (R : Fin 16896) (h : Fin 8) (x : Fin 256) : side256 f (ix2 R (cw h x)) = f h R x := by
  have e1 : (⟨(cw h x).val / 256, by have := (cw h x).isLt; omega⟩ : Fin 8) = h := Fin.ext (by show (h.val * 256 + x.val) / 256 = h.val; omega)
  have e2 : (⟨(cw h x).val % 256, Nat.mod_lt _ (by norm_num)⟩ : Fin 256) = x := Fin.ext (by show (h.val * 256 + x.val) % 256 = x.val; omega)
  show f ⟨(cw h x).val / 256, _⟩ R ⟨(cw h x).val % 256, _⟩ = _
  rw [e1, e2]
theorem side128_at (f : Fin 8 → Fin 16896 → Fin 128 → EReal) (R : Fin 16896) (h : Fin 8) (x : Fin 128) : side128 f (ix2 R (cn h x)) = f h R x := by
  have e1 : (⟨(cn h x).val / 128, by have := (cn h x).isLt; omega⟩ : Fin 8) = h := Fin.ext (by show (h.val * 128 + x.val) / 128 = h.val; omega)
  have e2 : (⟨(cn h x).val % 128, Nat.mod_lt _ (by norm_num)⟩ : Fin 128) = x := Fin.ext (by show (h.val * 128 + x.val) % 128 = x.val; omega)
  show f ⟨(cn h x).val / 128, _⟩ R ⟨(cn h x).val % 128, _⟩ = _
  rw [e1, e2]

/-- The three arrays. -/
def lanes (A : Fin 8 → Pad) (C a b : FVec Ideal S16896x128 .f32) (h : Fin 8) (R : Fin 16896) (x : Fin 256) : EReal :=
  if hx : x.val < 128 then ((gq (A h) R x : ℝ) : EReal) * sc else turned (A h) R C a b ⟨x.val - 128, by omega⟩
def outQ (A : Fin 8 → Pad) (C a b : FVec Ideal S16896x128 .f32) : FVec Ideal S16896x2048 .bf16 := side256 (lanes A C a b)
def lanesK (A : Fin 8 → Pad) (h : Fin 8) (R : Fin 16896) (x : Fin 256) : EReal := ((∑ r, (A h).ds R r * (A h).q r x : ℝ) : EReal) * ((Real.log 2 : ℝ) : EReal)
def lanesV (A : Fin 8 → Pad) (h : Fin 8) (R : Fin 16896) (x : Fin 128) : EReal := ((∑ r, (A h).p R r * (A h).o r x : ℝ) : EReal)
def outK (A : Fin 8 → Pad) : FVec Ideal S16896x2048 .bf16 := side256 (lanesK A)
def outV (A : Fin 8 → Pad) : FVec Ideal S16896x1024 .bf16 := side128 (lanesV A)

theorem at9 (F : FVec Ideal S16896x2048 .bf16) (t : Fin cfg0.N) (y : Fin 512) (x : Fin 256) :
    F (((View.whole main_v105_0).slice (win0_9.rect t)).emb (ix2 y x)) = F (ix2 (kr (tj t) y) (cw (th t) x)) := by blk_point [idx t]
theorem at10 (F : FVec Ideal S16896x2048 .bf16) (t : Fin cfg0.N) (y : Fin 512) (x : Fin 256) :
    F (((View.whole main_v105_1).slice (win0_10.rect t)).emb (ix2 y x)) = F (ix2 (kr (tj t) y) (cw (th t) x)) := by blk_point [idx t]
theorem at11 (F : FVec Ideal S16896x1024 .bf16) (t : Fin cfg0.N) (y : Fin 512) (x : Fin 128) :
    F (((View.whole main_v105_2).slice (win0_11.rect t)).emb (ix2 y x)) = F (ix2 (kr (tj t) y) (cn (th t) x)) := by blk_point [idx t]

variable (hA : Ops m c A)
include hA

theorem blk9_at (t : Fin cfg0.N) (y : Fin 512) (x : Fin 256) : blk9 m c t (ix2 y x) = lanes A (eC m c) (eA m c) (eB m c) (th t) (kr (tj t) y) x := by
  unfold lanes
  by_cases hx : x.val < 128
  · rw [dif_pos hx]; exact blk9_lo hA t y ⟨x.val, hx⟩
  · rw [dif_neg hx]
    have e : x = ⟨128 + (x.val - 128), by omega⟩ := Fin.ext (by show x.val = 128 + (x.val - 128); omega)
    exact (congrArg (fun z => blk9 m c t (ix2 y z)) e).trans (blk9_hi hA t y ⟨x.val - 128, by omega⟩)

theorem arr9 : (dats m 0 c).arrAt 9 (cfgs 0).N = outQ A (eC m c) (eA m c) (eB m c) := by
  refine (dats m 0 c).arrAt_eq_of_covers 9 _ (by decide +kernel) fun t _ y => ?_
  blk_simp
  rw [after0_9]
  idx_vars y
  exact (blk9_at hA t y0 y1).trans ((side256_at (lanes A (eC m c) (eA m c) (eB m c)) (kr (tj t) y0) (th t) y1).symm.trans (at9 (outQ A (eC m c) (eA m c) (eB m c)) t y0 y1).symm)
theorem arr10 : (dats m 0 c).arrAt 10 (cfgs 0).N = outK A := by
  refine (dats m 0 c).arrAt_eq_of_covers 10 _ (by decide +kernel) fun t _ y => ?_
  blk_simp
  rw [after0_10]
  idx_vars y
  exact (show blk10 m c t (ix2 y0 y1) = lanesK A (th t) (kr (tj t) y0) y1 from blk10_at hA t y0 y1).trans ((side256_at (lanesK A) (kr (tj t) y0) (th t) y1).symm.trans (at10 (outK A) t y0 y1).symm)
theorem arr11 : (dats m 0 c).arrAt 11 (cfgs 0).N = outV A := by
  refine (dats m 0 c).arrAt_eq_of_covers 11 _ (by decide +kernel) fun t _ y => ?_
  blk_simp
  rw [after0_11]
  idx_vars y
  exact (show blk11 m c t (ix2 y0 y1) = lanesV A (th t) (kr (tj t) y0) y1 from blk11_at hA t y0 y1).trans ((side128_at (lanesV A) (kr (tj t) y0) (th t) y1).symm.trans (at11 (outV A) t y0 y1).symm)

end Cert.Kernel2Ideal.Tile

end
-- ==== Proof.VEnt.lean ====
module

public import proofs.«01_k».proof.Proof.VHost
public import proofs.«01_k».proof.Proof.VOut
public import Idealize.ShloMosaic.Lib.Claim
public import Idealize.ShloMosaic.Lib.StableHlo.RunRead

/-! What the call's operands are when it is entered. -/

@[expose] public section
set_option maxRecDepth 16384
noncomputable section
open Idealize.ShloMosaic Idealize.ShloMosaic.TcCoe Idealize.SL.Sem
namespace Cert.Kernel2Ideal.Tile
open Cert.Kernel2Ideal Cert.Kernel2Ideal.Gen
variable (m : (ℓ : Loc nD τ sig) → Buf (Elt Ideal) ℓ) (c : Dev nD)

/-- The program's arguments. -/
def a0 : FVec Ideal S16400x8x128 .f32 := m (c, Proc.tc.devRef main_arg0)
def a1 : FVec Ideal S16400x8x64 .f32 := m (c, Proc.tc.devRef main_arg1)
def a2 : FVec Ideal S16400x8x128 .f32 := m (c, Proc.tc.devRef main_arg2)
def a3 : FVec Ideal S16400x64 .f32 := m (c, Proc.tc.devRef main_arg3)
def a4 : FVec Ideal S16400x8x128 .f32 := m (c, Proc.tc.devRef main_arg4)
def a5 : FVec Ideal S16400x8x128 .f32 := m (c, Proc.tc.devRef main_arg5)
/-- A line that joins two arrays reads each at its own reference. -/
theorem nary2_read {x a y : Ref sig .tc}
    (f : ((k : Fin 2) → ((![x, a] : Fin 2 → Ref sig .tc) k).ty.Contents (Elt Ideal)) → y.ty.Contents (Elt Ideal)) (hxs hy)
    (W : Valuation τ sig (Elt Ideal)) :
    (StableHlo.nary (τ := τ) ![x, a] y f hxs hy).result W (no_index (Proc.devRef .tc y))
      = f (Fin.cons (W (Proc.devRef .tc x)) (Fin.cons (W (Proc.devRef .tc a)) (fun i => i.elim0))) := by
  rw [StableHlo.nary_result]; congr 1; funext k; fin_cases k <;> sl_kernel_rfl
/-- A line that joins three arrays reads each at its own reference. -/
theorem nary3_read {x a b y : Ref sig .tc}
    (f : ((k : Fin 3) → ((![x, a, b] : Fin 3 → Ref sig .tc) k).ty.Contents (Elt Ideal)) → y.ty.Contents (Elt Ideal)) (hxs hy)
    (W : Valuation τ sig (Elt Ideal)) :
    (StableHlo.nary (τ := τ) ![x, a, b] y f hxs hy).result W (no_index (Proc.devRef .tc y))
      = f (Fin.cons (W (Proc.devRef .tc x)) (Fin.cons (W (Proc.devRef .tc a)) (Fin.cons (W (Proc.devRef .tc b)) (fun i => i.elim0)))) := by
  rw [StableHlo.nary_result]; congr 1; funext k; fin_cases k <;> sl_kernel_rfl
/-- The call's operands, by the host lines from the arguments. -/
theorem entry : eC m c = h_v26
    ∧ eA m c = h_v28
    ∧ eB m c = h_v29
    ∧ eQ m c = h_v88 (a0 m c) (a1 m c)
    ∧ eK m c = h_v92 (a2 m c) (a3 m c)
    ∧ eV m c = h_v97 (a4 m c)
    ∧ eO m c = h_v100 (a5 m c)
    ∧ eL m c = h_v102 (a0 m c) (a1 m c) (a2 m c) (a3 m c)
    ∧ eD m c = h_v104 (a0 m c) (a1 m c) (a2 m c) (a3 m c) (a4 m c) (a5 m c) := by
  unfold eC eA eB eQ eK eV eO eL eD V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.unary, StableHlo.TRef.binary, StableHlo.TRef.ternary, StableHlo.TRef.toBuf, StableHlo.TRef.ofBuf, cast_eq]
  after_reads_simp [nary2_read, nary3_read]
  refine ⟨?_, ?_, ?_, ?_, ?_, ?_, ?_, ?_, ?_⟩ <;> sl_kernel_rfl
end Cert.Kernel2Ideal.Tile
end
-- ==== Proof.VRowB.lean ====
module

public import proofs.«01_k».proof.Proof.VRowA
public import proofs.«01_k».proof.Proof.VEnt

/-! The call's operands, element by element, as a family of heads under 496 rows of zeros. -/

@[expose] public section

set_option maxRecDepth 16384
noncomputable section

namespace Cert.Kernel2Ideal.Tile

open Idealize.ShloMosaic Idealize.ShloMosaic.TcCoe Idealize.SL.Sem
open Cert.Kernel2Ideal Cert.Kernel2Ideal.Gen Cert.Proof.Attn Cert.Proof.Attn.Seq
open Cert.Proof.Rms (coe_sum)

/-- Rows under 496 rows of zeros. -/
def rows {α : Type} (f : Fin 16400 → α → ℝ) (r : Fin 16896) (x : α) : ℝ := if h : 496 ≤ r.val then f ⟨r.val - 496, by omega⟩ x else 0
theorem rows_up {α : Type} (f : Fin 16400 → α → ℝ) (q : Fin 16400) (x : α) : rows f (up q) x = f q x := by
  unfold rows
  rw [dif_pos (show 496 ≤ 496 + q.val by omega)]
  exact congrFun (congrArg f (Fin.ext (by show 496 + q.val - 496 = q.val; omega))) x
theorem rows_low {α : Type} (f : Fin 16400 → α → ℝ) (r : Fin 16896) (h : r.val < 496) (x : α) : rows f r x = 0 := by
  unfold rows; exact dif_neg (by omega)
theorem row_cases (r : Fin 16896) : (∃ q : Fin 16400, r = up q) ∨ r.val < 496 := by
  by_cases h : r.val < 496
  · exact Or.inr h
  · exact Or.inl ⟨⟨r.val - 496, by omega⟩, Fin.ext (by show r.val = 496 + (r.val - 496); omega)⟩

/-- The padded arrays of a sequence's heads. -/
def padOf (S : Seq) (h : Fin 8) : Pad where
  q := rows fun r c => (S.head h).q r c * (S.head h).s / Real.log 2
  k := rows (S.head h).k
  v := rows (S.head h).v
  o := rows (S.head h).o
  l r := rows (fun r (_ : Unit) => ((S.head h).m r + Real.log ((S.head h).l r)) / Real.log 2) r ()
  d r := rows (fun r (_ : Unit) => (S.head h).d r) r ()

theorem padOf_of (S : Seq) (h : Fin 8) : Pad.Of (S.head h) (padOf S h) := by
  unfold padOf
  constructor <;> intro r
  · exact fun c => rows_up (fun r c => (S.head h).q r c * (S.head h).s / Real.log 2) r c
  · exact fun c => rows_up (S.head h).k r c
  · exact fun c => rows_up (S.head h).v r c
  · exact fun c => rows_up (S.head h).o r c
  · exact rows_up (fun r (_ : Unit) => ((S.head h).m r + Real.log ((S.head h).l r)) / Real.log 2) r ()
  · exact rows_up (fun r (_ : Unit) => (S.head h).d r) r ()
  · exact fun hr c => rows_low (S.head h).o r hr c
  · exact fun hr => rows_low (fun r (_ : Unit) => (S.head h).d r) r hr ()

theorem flat256 (f : FVec Ideal S16896x8x256 .bf16) (r : Fin 16896) (h : Fin 8) (x : Fin 256) :
    shapeCast S16896x2048 f shapeCasts_S16896x8x256_S16896x2048 (ix2 r (cw h x)) = f (ix3 r h x) := by
  have e1 : (⟨(cw h x).val / 256, by have := (cw h x).isLt; omega⟩ : Fin 8) = h := Fin.ext (by show (h.val * 256 + x.val) / 256 = h.val; omega)
  have e2 : (⟨(cw h x).val % 256, Nat.mod_lt _ (by norm_num)⟩ : Fin 256) = x := Fin.ext (by show (h.val * 256 + x.val) % 256 = x.val; omega)
  pointwise
  exact congrArg₂ (fun a b => f (ix3 r a b)) e1 e2
theorem flat128 (f : FVec Ideal S16896x8x128 .bf16) (r : Fin 16896) (h : Fin 8) (x : Fin 128) :
    shapeCast S16896x1024 f shapeCasts_S16896x8x128_S16896x1024 (ix2 r (cn h x)) = f (ix3 r h x) := by
  pointwise
  have e1 : (⟨(cn h x).val / 128, by have := (cn h x).isLt; omega⟩ : Fin 8) = h := Fin.ext (by show (h.val * 128 + x.val) / 128 = h.val; omega)
  have e2 : (⟨(cn h x).val % 128, Nat.mod_lt _ (by norm_num)⟩ : Fin 128) = x := Fin.ext (by show (h.val * 128 + x.val) % 128 = x.val; omega)
  exact congrArg₂ (fun a b => f (ix3 r a b)) e1 e2

theorem zero_word : FloatOps.sitofp (F := Ideal) FTy.f32 0#32 = 0 := by
  show (((0#32).toInt : ℝ) : EReal) = 0
  simp

variable {S : Seq} {x0 : FVec Ideal S16400x8x128 .f32} {x1 : FVec Ideal S16400x8x64 .f32} {x2 : FVec Ideal S16400x8x128 .f32}
  {x3 : FVec Ideal S16400x64 .f32} {x4 x5 : FVec Ideal S16400x8x128 .f32} (hS : Is S x0 x1 x2 x3 x4 x5)
include hS

theorem wq_at (q : Fin 16400) (h : Fin 8) (x : Fin 256) : h_v81 x0 x1 (ix3 q h x) = ((wide (S.qn q h) (S.rot q h) x : ℝ) : EReal) := by
  unfold wide
  pointwise [h_v81, h_v80, h_cst_13]
  by_cases h1 : x.val < 128
  · rw [dif_pos h1, dif_pos h1, hS.qn]
  · rw [dif_neg h1, dif_neg h1]
    by_cases h2 : x.val < 192
    · rw [dif_pos (by omega), dif_pos h2, hrot_at hS]
    · rw [dif_neg (by omega), dif_neg h2, EReal.coe_zero]
theorem wk_at (q : Fin 16400) (h : Fin 8) (x : Fin 256) : h_v89 x2 x3 (ix3 q h x) = ((wide (S.kn q h) (S.kr q) x : ℝ) : EReal) := by
  unfold wide
  pointwise [h_v89, h_v48, h_v47, h_v80, h_cst_13]
  by_cases h1 : x.val < 128
  · rw [dif_pos h1, dif_pos h1, hS.kn]
  · rw [dif_neg h1, dif_neg h1]
    by_cases h2 : x.val < 192
    · rw [dif_pos (by omega), dif_pos h2, hS.kr]
    · rw [dif_neg (by omega), dif_neg h2, EReal.coe_zero]
theorem wv_at (q : Fin 16400) (h : Fin 8) (x : Fin 128) : h_v94 x4 (ix3 q h ⟨x.val, by omega⟩) = ((S.v q h x : ℝ) : EReal) := by
  pointwise [h_v94]
  exact hS.v q h x

theorem q_at (r : Fin 16896) (h : Fin 8) (x : Fin 256) : h_v88 x0 x1 (ix2 r (cw h x)) = (((padOf S h).q r x : ℝ) : EReal) := by
  unfold h_v88
  rw [flat256]
  unfold padOf
  rcases row_cases r with ⟨q, rfl⟩ | hr
  · simp only [rows_up]
    pointwise [h_v87, h_v86, h_v85, h_v84, h_v83, h_v82, h_v72, h_cst_14, h_cst_11]
    rw [wq_at hS, scale_eq, lit2, log_pos_coe 2 (by norm_num), Ideal.div_coe (Real.log_pos (by norm_num)).ne', ← EReal.coe_mul, ← EReal.coe_mul, mul_one_div]
    simp only [head]
  · simp only [rows_low _ _ hr]
    pointwise [h_v87, h_v86, h_call1_v0, h_c_15]
    rw [dif_neg (by omega), zero_word]
    rfl
theorem k_at (r : Fin 16896) (h : Fin 8) (x : Fin 256) : h_v92 x2 x3 (ix2 r (cw h x)) = (((padOf S h).k r x : ℝ) : EReal) := by
  unfold h_v92
  rw [flat256]
  unfold padOf
  rcases row_cases r with ⟨q, rfl⟩ | hr
  · simp only [rows_up]
    pointwise [h_v91, h_v90]
    rw [wk_at hS]
    simp only [head]
  · simp only [rows_low _ _ hr]
    pointwise [h_v91, h_v90, h_call2_v0, h_c_16]
    rw [dif_neg (by omega), zero_word]
    rfl
theorem v_at (r : Fin 16896) (h : Fin 8) (x : Fin 128) : h_v97 x4 (ix2 r (cv h x)) = (((padOf S h).v r x : ℝ) : EReal) := by
  unfold h_v97
  refine (flat256 (h_v96 x4) r h ⟨x.val, by omega⟩).trans ?_
  unfold padOf
  rcases row_cases r with ⟨q, rfl⟩ | hr
  · simp only [rows_up]
    pointwise [h_v96, h_v95]
    rw [dif_pos (by omega), wv_at hS]
    simp only [head]
  · simp only [rows_low _ _ hr]
    pointwise [h_v96, h_v95, h_call3_v0, h_c_18]
    rw [dif_neg (by omega), zero_word]
    rfl
theorem o_at (r : Fin 16896) (h : Fin 8) (x : Fin 128) : h_v100 x5 (ix2 r (cn h x)) = (((padOf S h).o r x : ℝ) : EReal) := by
  unfold h_v100
  rw [flat128]
  unfold padOf
  rcases row_cases r with ⟨q, rfl⟩ | hr
  · simp only [rows_up]
    pointwise [h_v99, h_v98]
    rw [hS.o]
    simp only [head]
  · simp only [rows_low _ _ hr]
    pointwise [h_v99, h_v98, h_call4_v0, h_c_19]
    rw [dif_neg (by omega), zero_word]
    rfl
theorem l_at (r : Fin 16896) (h : Fin 8) : h_v102 x0 x1 x2 x3 (ix3 h 0 r) = (((padOf S h).l r : ℝ) : EReal) := by
  unfold padOf
  rcases row_cases r with ⟨q, rfl⟩ | hr
  · simp only [rows_up]
    unfold h_v102 h_v101
    rw [← hlse_at hS]
    generalize h_v76 x0 x1 x2 x3 = L
    pointwise []
  · simp only [rows_low _ _ hr]
    unfold h_v102 h_v101
    generalize h_v76 x0 x1 x2 x3 = L
    pointwise [h_call5_v0, h_c_20]
    rw [dif_neg (by omega), zero_word]
    rfl
theorem d_at (r : Fin 16896) (h : Fin 8) : h_v104 x0 x1 x2 x3 x4 x5 (ix3 h 0 r) = (((padOf S h).d r : ℝ) : EReal) := by
  unfold padOf
  rcases row_cases r with ⟨q, rfl⟩ | hr
  · simp only [rows_up]
    unfold h_v104 h_v103
    rw [← hd_at hS]
    generalize h_v79 x0 x1 x2 x3 x4 x5 = L
    pointwise []
  · simp only [rows_low _ _ hr]
    unfold h_v104 h_v103
    generalize h_v79 x0 x1 x2 x3 x4 x5 = L
    pointwise [h_call6_v0, h_c_21]
    rw [dif_neg (by omega), zero_word]
    rfl
omit hS in
theorem ops (m : (ℓ : Loc nD τ sig) → Buf (Elt Ideal) ℓ) (c : Dev nD)
    (h : Is S (a0 m c) (a1 m c) (a2 m c) (a3 m c) (a4 m c) (a5 m c)) : Ops m c (padOf S) := by
  obtain ⟨-, -, -, eq, ek, ev, eo, el, ed⟩ := entry m c
  constructor
  · intro r g x; rw [ek]; exact k_at h r g x
  · intro r g x; rw [ev]; exact v_at h r g x
  · intro r g x; rw [eq]; exact q_at h r g x
  · intro r g x; rw [eo]; exact o_at h r g x
  · intro r g; rw [el]; exact l_at h r g
  · intro r g; rw [ed]; exact d_at h r g

end Cert.Kernel2Ideal.Tile

end
-- ==== Proof.VTail.lean ====
module

public import proofs.«01_k».proof.Proof.VRowB

/-! What the program's five results hold: the lines after the call cut off the rows in front and part the lanes. -/

@[expose] public section

set_option maxRecDepth 16384
noncomputable section

namespace Cert.Kernel2Ideal.Tile

open Idealize.ShloMosaic Idealize.ShloMosaic.TcCoe Idealize.SL.Sem
open Cert.Kernel2Ideal Cert.Kernel2Ideal.Gen Cert.Proof.Attn Cert.Proof.Attn.Seq

section Lanes
variable (S : Seq) (h : Fin 8) (q : Fin 16400)

theorem gq_sc (x : Fin 256) : ((gq (padOf S h) (up q) x : ℝ) : EReal) * sc = (((S.head h).dq q x : ℝ) : EReal) := by
  rw [show sc = ((scale : ℝ) : EReal) from scale_eq, ← EReal.coe_mul, ← (padOf_of S h).dq q x]
  unfold gq
  simp only [head]

theorem turned_at (P : Pad) (R : Fin 16896) (C a b : FVec Ideal S16896x128 .f32) (x i j : Fin 128)
    (hi : i.val = (x.val + 128 - 32) % 128) (hj : j.val = (x.val + 128 - 96) % 128) :
    turned P R C a b x = ((gq P R ⟨128 + x.val, by omega⟩ : ℝ) : EReal) * sc * C (ix2 R x)
      + ((gq P R ⟨128 + i.val, by omega⟩ : ℝ) : EReal) * sc * a (ix2 R i) + ((gq P R ⟨128 + j.val, by omega⟩ : ℝ) : EReal) * sc * b (ix2 R j) := by
  obtain rfl : i = ⟨(x.val + 128 - 32) % 128, Nat.mod_lt _ (by norm_num)⟩ := Fin.ext hi
  obtain rfl : j = ⟨(x.val + 128 - 96) % 128, Nat.mod_lt _ (by norm_num)⟩ := Fin.ext hj
  rfl

theorem turned_back (x : Fin 64) : turned (padOf S h) (up q) h_v26 h_v28 h_v29 ⟨x.val, by omega⟩ = ((S.back h q x : ℝ) : EReal) := by
  rcases half_cases x with ⟨y, rfl⟩ | ⟨y, rfl⟩
  · rw [back_fst, turned_at _ _ _ _ _ ⟨y.val, by omega⟩ ⟨32 + (64 + y.val), by omega⟩ ⟨32 + y.val, by omega⟩
      (by show 32 + (64 + y.val) = (y.val + 128 - 32) % 128; omega) (by show 32 + y.val = (y.val + 128 - 96) % 128; omega),
      gq_sc, gq_sc, gq_sc, (tab_cos q y).1, tab_low0 q ⟨64 + y.val, by omega⟩, tab_high, mul_zero, add_zero, add_comm]
    norm_cast
  · rw [back_snd, turned_at _ _ _ _ _ ⟨32 + y.val, by omega⟩ ⟨y.val, by omega⟩ ⟨64 + y.val, by omega⟩
      (by show y.val = (32 + y.val + 128 - 32) % 128; omega) (by show 64 + y.val = (32 + y.val + 128 - 96) % 128; omega),
      gq_sc, gq_sc, gq_sc, (tab_cos q y).2, tab_low, tab_high0 q ⟨64 + y.val, by omega⟩ (Or.inr (by show 64 ≤ 64 + y.val; omega)), mul_zero, add_zero,
      neg_mul, ← mul_neg, ← EReal.coe_mul, ← EReal.coe_mul, ← EReal.coe_add]

theorem lanes_n (x : Fin 128) : lanes (padOf S) h_v26 h_v28 h_v29 h (up q) (wn x) = (((S.head h).dq q (wn x) : ℝ) : EReal) := by
  unfold lanes
  rw [dif_pos x.isLt, gq_sc]
theorem lanes_r (x : Fin 64) : lanes (padOf S) h_v26 h_v28 h_v29 h (up q) (wr x) = ((S.back h q x : ℝ) : EReal) := by
  unfold lanes
  rw [dif_neg (by show ¬ 128 + x.val < 128; omega), ← turned_back]
  exact congrArg (turned (padOf S h) (up q) h_v26 h_v28 h_v29) (Fin.ext (by show 128 + x.val - 128 = x.val; omega))
theorem lanesK_at (x : Fin 256) : lanesK (padOf S) h (up q) x = (((S.head h).dk q x : ℝ) : EReal) := by
  unfold lanesK
  rw [← EReal.coe_mul, (padOf_of S h).dk q x]
theorem lanesV_at (x : Fin 128) : lanesV (padOf S) h (up q) x = (((S.head h).dv q x : ℝ) : EReal) := by
  unfold lanesV
  rw [(padOf_of S h).dv q x]
end Lanes

/-- The lines after the call: the rows of the sequence, and of each head the lanes without and with rotation. -/
def cut256 (f : FVec Ideal S16896x2048 .bf16) : FVec Ideal S16400x8x256 .bf16 :=
  extractStridedSlice S16400x8x256 ![496, 0, 0] (shapeCast S16896x8x256 f shapeCasts_S16896x2048_S16896x8x256) slices_S16896x8x256_S16400x8x256_496_0_0
def cutN (f : FVec Ideal S16896x2048 .bf16) : FVec Ideal S16400x8x128 .bf16 :=
  extractStridedSlice S16400x8x128 ![0, 0, 0] (cut256 f) slices_S16400x8x256_S16400x8x128_0_0_0
def cutR (f : FVec Ideal S16896x2048 .bf16) : FVec Ideal S16400x8x64 .bf16 :=
  extractStridedSlice S16400x8x64 ![0, 0, 128] (cut256 f) slices_S16400x8x256_S16400x8x64_0_0_128
def cutV (f : FVec Ideal S16896x1024 .bf16) : FVec Ideal S16400x8x128 .bf16 :=
  extractStridedSlice S16400x8x128 ![496, 0, 0] (shapeCast S16896x8x128 f shapeCasts_S16896x1024_S16896x8x128) slices_S16896x8x128_S16400x8x128_496_0_0

theorem cutN_at (f : FVec Ideal S16896x2048 .bf16) (q : Fin 16400) (h : Fin 8) (x : Fin 128) : cutN f (ix3 q h x) = f (ix2 (up q) (cw h (wn x))) := by
  pointwise [cutN, cut256]
theorem cutR_at (f : FVec Ideal S16896x2048 .bf16) (q : Fin 16400) (h : Fin 8) (x : Fin 64) : cutR f (ix3 q h x) = f (ix2 (up q) (cw h (wr x))) := by
  pointwise [cutR, cut256]
theorem cutV_at (f : FVec Ideal S16896x1024 .bf16) (q : Fin 16400) (h : Fin 8) (x : Fin 128) : cutV f (ix3 q h x) = f (ix2 (up q) (cn h x)) := by
  pointwise [cutV]

variable (m : (ℓ : Loc nD τ sig) → Buf (Elt Ideal) ℓ) (c : Dev nD)

def t110 : FVec Ideal S16400x8x128 .bf16 := Pipeline.afterTail₀ cfgs (dats m) 0 (V0 m) [hostOps1] c main_v110
def t111 : FVec Ideal S16400x8x64 .bf16 := Pipeline.afterTail₀ cfgs (dats m) 0 (V0 m) [hostOps1] c main_v111
def t112 : FVec Ideal S16400x8x128 .bf16 := Pipeline.afterTail₀ cfgs (dats m) 0 (V0 m) [hostOps1] c main_v112
def t113 : FVec Ideal S16400x8x64 .bf16 := Pipeline.afterTail₀ cfgs (dats m) 0 (V0 m) [hostOps1] c main_v113
def t115 : FVec Ideal S16400x8x128 .bf16 := Pipeline.afterTail₀ cfgs (dats m) 0 (V0 m) [hostOps1] c main_v115

/-- The call's arrays after it. -/
def wQ : FVec Ideal S16896x2048 .bf16 := Pipeline.withArrays (cfgs 0).spec c (V0 m c) (fun w => (dats m 0 c).arrAt w (cfgs 0).N) (Proc.tc.devRef main_v105_0)
def wK : FVec Ideal S16896x2048 .bf16 := Pipeline.withArrays (cfgs 0).spec c (V0 m c) (fun w => (dats m 0 c).arrAt w (cfgs 0).N) (Proc.tc.devRef main_v105_1)
def wV : FVec Ideal S16896x1024 .bf16 := Pipeline.withArrays (cfgs 0).spec c (V0 m c) (fun w => (dats m 0 c).arrAt w (cfgs 0).N) (Proc.tc.devRef main_v105_2)

theorem tails : t110 m c = cutN (wQ m c) ∧ t111 m c = cutR (wQ m c) ∧ t112 m c = cutN (wK m c) ∧ t113 m c = cutR (wK m c) ∧ t115 m c = cutV (wV m c) := by
  unfold t110 t111 t112 t113 t115 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  exact ⟨rfl, rfl, rfl, rfl, rfl⟩

variable {S : Seq} (hS : Is S (a0 m c) (a1 m c) (a2 m c) (a3 m c) (a4 m c) (a5 m c))
include hS

theorem wQ_eq : wQ m c = outQ (padOf S) h_v26 h_v28 h_v29 := by
  obtain ⟨e1, e2, e3, -⟩ := entry m c
  refine (Pipeline.withArrays_arr (cfgs 0).spec (by decide) c _ _ 9).trans ((arr9 (ops m c hS)).trans ?_)
  rw [e1, e2, e3]
theorem wK_eq : wK m c = outK (padOf S) := (Pipeline.withArrays_arr (cfgs 0).spec (by decide) c _ _ 10).trans (arr10 (ops m c hS))
theorem wV_eq : wV m c = outV (padOf S) := (Pipeline.withArrays_arr (cfgs 0).spec (by decide) c _ _ 11).trans (arr11 (ops m c hS))

theorem t110_at (q : Fin 16400) (h : Fin 8) (x : Fin 128) : t110 m c (ix3 q h x) = (((S.head h).dq q (wn x) : ℝ) : EReal) := by
  rw [(tails m c).1, cutN_at, wQ_eq m c hS]
  exact (side256_at (lanes (padOf S) h_v26 h_v28 h_v29) (up q) h (wn x)).trans (lanes_n S h q x)
theorem t111_at (q : Fin 16400) (h : Fin 8) (x : Fin 64) : t111 m c (ix3 q h x) = ((S.back h q x : ℝ) : EReal) := by
  rw [(tails m c).2.1, cutR_at, wQ_eq m c hS]
  exact (side256_at (lanes (padOf S) h_v26 h_v28 h_v29) (up q) h (wr x)).trans (lanes_r S h q x)
theorem t112_at (q : Fin 16400) (h : Fin 8) (x : Fin 128) : t112 m c (ix3 q h x) = (((S.head h).dk q (wn x) : ℝ) : EReal) := by
  rw [(tails m c).2.2.1, cutN_at, wK_eq m c hS]
  exact (side256_at (lanesK (padOf S)) (up q) h (wn x)).trans (lanesK_at S h q (wn x))
theorem t113_at (q : Fin 16400) (h : Fin 8) (x : Fin 64) : t113 m c (ix3 q h x) = (((S.head h).dk q (wr x) : ℝ) : EReal) := by
  rw [(tails m c).2.2.2.1, cutR_at, wK_eq m c hS]
  exact (side256_at (lanesK (padOf S)) (up q) h (wr x)).trans (lanesK_at S h q (wr x))
theorem t115_at (q : Fin 16400) (h : Fin 8) (x : Fin 128) : t115 m c (ix3 q h x) = (((S.head h).dv q x : ℝ) : EReal) := by
  rw [(tails m c).2.2.2.2, cutV_at, wV_eq m c hS]
  exact (side128_at (lanesV (padOf S)) (up q) h x).trans (lanesV_at S h q x)

end Cert.Kernel2Ideal.Tile

end
-- ==== Proof.RefA.lean ====
module

public import proofs.«01_k».proof.Proof.Gen.Reference2Ideal.Read
public import proofs.«01_k».proof.Proof.Steps

/-! The reference's values, element by element, as quantities of the heads. -/

@[expose] public section

set_option maxRecDepth 16384
noncomputable section

open Idealize.ShloMosaic Idealize.ShloMosaic.TcCoe Idealize.SL.Sem

namespace Cert.Reference2Ideal.Stages
open Cert.Reference2Ideal Cert.Reference2Ideal.Read Cert.Proof.Attn Cert.Proof.Attn.Seq
open Cert.Proof.Rms (coe_sum)

/-- The arrays hold the reals of a sequence. -/
structure Is (S : Seq) (x0 : FVec Ideal S16400x8x128 .f32) (x1 : FVec Ideal S16400x8x64 .f32) (x2 : FVec Ideal S16400x8x128 .f32)
    (x3 : FVec Ideal S16400x64 .f32) (x4 x5 : FVec Ideal S16400x8x128 .f32) : Prop where
  qn : ∀ q h d, x0 (ix3 q h d) = ((S.qn q h d : ℝ) : EReal)
  qr : ∀ q h d, x1 (ix3 q h d) = ((S.qr q h d : ℝ) : EReal)
  kn : ∀ q h d, x2 (ix3 q h d) = ((S.kn q h d : ℝ) : EReal)
  kr : ∀ q d, x3 (ix2 q d) = ((S.kr q d : ℝ) : EReal)
  v : ∀ q h d, x4 (ix3 q h d) = ((S.v q h d : ℝ) : EReal)
  o : ∀ q h d, x5 (ix3 q h d) = ((S.o q h d : ℝ) : EReal)

theorem ang_at (q : Fin 16400) (x : Fin 32) : val_main_v16 (F := Ideal) (ix2 q x) = (((q.val : ℝ) * freq x : ℝ) : EReal) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rw [freq_pow, word_nat _ (by omega), EReal.coe_mul]

theorem cos_at (q : Fin 16400) (x : Fin 32) : val_main_v17 (F := Ideal) (ix2 q x) = ((cs q x : ℝ) : EReal) := by
  pointwise [val_main_v17]
  rw [ang_at]
  rfl
theorem sin_at (q : Fin 16400) (x : Fin 32) : val_main_v18 (F := Ideal) (ix2 q x) = ((sn q x : ℝ) : EReal) := by
  pointwise [val_main_v18]
  rw [ang_at]
  rfl

variable {S : Seq} {x0 : FVec Ideal S16400x8x128 .f32} {x1 : FVec Ideal S16400x8x64 .f32} {x2 : FVec Ideal S16400x8x128 .f32}
  {x3 : FVec Ideal S16400x64 .f32} {x4 x5 : FVec Ideal S16400x8x128 .f32} (hS : Is S x0 x1 x2 x3 x4 x5)
include hS

theorem rot_at (q : Fin 16400) (h : Fin 8) (x : Fin 64) : val_main_v36 (F := Ideal) x1 (ix3 q h x) = ((S.rot q h x : ℝ) : EReal) := by
  rcases half_cases x with ⟨y, rfl⟩ | ⟨y, rfl⟩
  · rw [rot_fst]
    pointwise [val_main_v36, val_main_v35, val_main_v34, val_main_v33, val_main_v32, val_main_v31, val_main_v30, val_main_v29, val_main_v28, val_main_v27, val_main_v26, val_main_v25, val_main_v24, val_main_v23, val_main_v22]
    rw [cos_at, sin_at, hS.qr, hS.qr]
    norm_cast
  · rw [rot_snd]
    pointwise [val_main_v36, val_main_v35, val_main_v34, val_main_v33, val_main_v32, val_main_v31, val_main_v30, val_main_v29, val_main_v28, val_main_v27, val_main_v26, val_main_v25, val_main_v24, val_main_v23, val_main_v22]
    rw [cos_at, sin_at, hS.qr, hS.qr]
    norm_cast

theorem score_at (h : Fin 8) (q k : Fin 16400) : val_main_v41 (F := Ideal) x0 x1 x2 x3 (ix3 h q k) = ((S.score q h k : ℝ) : EReal) := by
  pointwise [val_main_v41, val_main_v40, val_main_v39, val_main_v38, val_main_v37, val_main_v21, val_main_v20, val_main_cst_3]
  rw [scale_eq, ← S.score_coe]
  refine congrArg (· * ((scale : ℝ) : EReal)) (congrArg₂ (· + ·) (Finset.sum_congr rfl fun d _ => ?_) (Finset.sum_congr rfl fun d _ => ?_))
  · rw [hS.qn, hS.kn]
  · rw [rot_at hS, hS.kr]

end Cert.Reference2Ideal.Stages

end
-- ==== Proof.RefB.lean ====
module

public import proofs.«01_k».proof.Proof.RefA

/-! The reference's values, element by element, as quantities of the heads. -/

@[expose] public section

set_option maxRecDepth 16384
noncomputable section

open Idealize.ShloMosaic Idealize.ShloMosaic.TcCoe Idealize.SL.Sem

namespace Cert.Reference2Ideal.Stages
open Cert.Reference2Ideal Cert.Reference2Ideal.Read Cert.Proof.Attn Cert.Proof.Attn.Seq
open Cert.Proof.Rms (coe_sum)

variable {S : Seq} {x0 : FVec Ideal S16400x8x128 .f32} {x1 : FVec Ideal S16400x8x64 .f32} {x2 : FVec Ideal S16400x8x128 .f32}
  {x3 : FVec Ideal S16400x64 .f32} {x4 x5 : FVec Ideal S16400x8x128 .f32} (hS : Is S x0 x1 x2 x3 x4 x5)
include hS

theorem seen_at (h : Fin 8) (q k : Fin 16400) : val_main_v47_0 (F := Ideal) x0 x1 x2 x3 (ix3 h q k) = S.seen q h k := by
  pointwise [val_main_v47_0, val_main_v47_1, val_main_call0_v2, val_main_v46, val_main_v45, val_main_v44, val_main_v43, val_main_v42, val_main_v19, val_main_call0_v0, val_main_cst_4]
  rw [score_at hS]
  show Scalar.select _ _ (Ideal.ofBits FTy.f32 4286578688#32) = _
  rw [litb]
  exact S.seen_sel q h k

theorem top_at (h : Fin 8) (q : Fin 16400) : val_main_v48 (F := Ideal) x0 x1 x2 x3 (ix2 h q) = ((S.top q h : ℝ) : EReal) := by
  pointwise [val_main_v48, val_main_cst_5]
  rw [litb, ← S.top_fold q h]
  exact congrArg (fun f : Fin 16400 → EReal => Finset.fold max ⊥ f Finset.univ) (funext fun k => seen_at hS h q k)

theorem top2_at (h : Fin 8) (q : Fin 16400) : val_main_v55 (F := Ideal) x0 x1 x2 x3 (ix2 h q) = ((S.top q h : ℝ) : EReal) := by
  have e : val_main_v54 (F := Ideal) (ix2 h q) = ⊥ := by
    pointwise [val_main_v54, val_main_cst_7]
    exact litb
  rw [val_main_v55_apply, e, top_at hS]
  exact max_eq_right bot_le

theorem e_at (h : Fin 8) (q k : Fin 16400) : val_main_v68 (F := Ideal) x0 x1 x2 x3 (ix3 h q k) = (((S.head h).e q k : ℝ) : EReal) := by
  pointwise [val_main_v68, val_main_v67, val_main_v66, val_main_v65]
  rw [seen_at hS, top2_at hS]
  exact S.exp_seen q h k

theorem l_at (h : Fin 8) (q : Fin 16400) : val_main_v70 (F := Ideal) x0 x1 x2 x3 (ix3 h q 0) = (((S.head h).l q : ℝ) : EReal) := by
  pointwise [val_main_v70, val_main_v69, val_main_cst_13]
  unfold Head.l
  rw [coe_sum]
  exact Finset.sum_congr rfl fun k _ => e_at hS h q k

theorem p_at (h : Fin 8) (q k : Fin 16400) : val_main_v72 (F := Ideal) x0 x1 x2 x3 (ix3 h q k) = (((S.head h).p q k : ℝ) : EReal) := by
  pointwise [val_main_v72, val_main_v71]
  rw [e_at hS, l_at hS]
  exact S.p_div q h k

theorem dp_at (h : Fin 8) (q k : Fin 16400) : val_main_v79 (F := Ideal) x4 x5 (ix3 h q k) = (((S.head h).dp q k : ℝ) : EReal) := by
  pointwise [val_main_v79, val_main_v78]
  unfold Head.dp
  rw [coe_sum]
  exact Finset.sum_congr rfl fun d _ => by rw [hS.o, hS.v, EReal.coe_mul]; rfl

theorem d_at (h : Fin 8) (q : Fin 16400) : val_main_v87 (F := Ideal) x0 x1 x2 x3 x4 x5 (ix3 h q 0) = ((-((S.head h).d q / (S.head h).l q) : ℝ) : EReal) := by
  have hl := ((S.head h).l_pos q).ne'
  pointwise [val_main_v87, val_main_v86, val_main_v85, val_main_v84, val_main_v83, val_main_v82, val_main_v75, val_main_v74, val_main_v73, val_main_cst_14, val_main_cst_15]
  rw [l_at hS, ← EReal.coe_mul, Ideal.div_coe (mul_ne_zero hl hl), one_mul, EReal.coe_neg]
  refine congrArg (- ·) ?_
  unfold Head.d
  rw [Finset.sum_div, coe_sum]
  refine Finset.sum_congr rfl fun k _ => ?_
  rw [dp_at hS, e_at hS, ← EReal.coe_mul, ← EReal.coe_mul]
  refine congrArg _ ?_
  unfold Head.p
  field_simp

theorem ds_at (h : Fin 8) (q k : Fin 16400) : val_main_v96 (F := Ideal) x0 x1 x2 x3 x4 x5 (ix3 h q k) = (((S.head h).ds q k * scale : ℝ) : EReal) := by
  pointwise [val_main_v96, val_main_v95, val_main_v94, val_main_v93, val_main_v92, val_main_v91, val_main_v90, val_main_v89, val_main_v88, val_main_v47_1, val_main_v46, val_main_v45, val_main_v44, val_main_v43, val_main_v42, val_main_v19, val_main_call1_v0, val_main_call1_cst, val_main_cst_16, val_main_cst_17]
  simp only [Finset.univ_unique, Finset.sum_const, Finset.card_singleton, one_smul]
  rw [scale_eq, dp_at hS, e_at hS, l_at hS, Fin.default_eq_zero, Finset.sum_singleton, d_at hS]
  exact S.ds_sel q h k

end Cert.Reference2Ideal.Stages

end
-- ==== Proof.RefC.lean ====
module

public import proofs.«01_k».proof.Proof.RefB

/-! The reference's values, element by element, as quantities of the heads. -/

@[expose] public section

set_option maxRecDepth 16384
noncomputable section

open Idealize.ShloMosaic Idealize.ShloMosaic.TcCoe Idealize.SL.Sem

namespace Cert.Reference2Ideal.Stages
open Cert.Reference2Ideal Cert.Reference2Ideal.Read Cert.Proof.Attn Cert.Proof.Attn.Seq
open Cert.Proof.Rms (coe_sum)

variable {S : Seq} {x0 : FVec Ideal S16400x8x128 .f32} {x1 : FVec Ideal S16400x8x64 .f32} {x2 : FVec Ideal S16400x8x128 .f32}
  {x3 : FVec Ideal S16400x64 .f32} {x4 x5 : FVec Ideal S16400x8x128 .f32} (hS : Is S x0 x1 x2 x3 x4 x5)
include hS

theorem dv_at (q : Fin 16400) (h : Fin 8) (x : Fin 128) : val_main_v123 (F := Ideal) x0 x1 x2 x3 x5 (ix3 q h x) = (((S.head h).dv q x : ℝ) : EReal) := by
  pointwise [val_main_v123, val_main_v81, val_main_v80, val_main_v78]
  unfold Head.dv
  rw [coe_sum]
  refine Finset.sum_congr rfl fun y _ => ?_
  rw [p_at hS, hS.o, ← EReal.coe_mul, mul_comm]
  rfl

theorem dkr_at (q : Fin 16400) (h : Fin 8) (x : Fin 64) : val_main_v122 (F := Ideal) x0 x1 x2 x3 x4 x5 (ix3 q h x) = (((S.head h).dk q (wr x) : ℝ) : EReal) := by
  pointwise [val_main_v122, val_main_v98, val_main_v97]
  unfold Head.dk
  rw [coe_sum]
  refine Finset.sum_congr rfl fun y _ => ?_
  rw [ds_at hS, rot_at hS, ← EReal.coe_mul, ← wide_r (S.qn y h) (S.rot y h) x]
  simp only [head]

theorem dkn_at (q : Fin 16400) (h : Fin 8) (x : Fin 128) : val_main_v121 (F := Ideal) x0 x1 x2 x3 x4 x5 (ix3 q h x) = (((S.head h).dk q (wn x) : ℝ) : EReal) := by
  pointwise [val_main_v121, val_main_v102, val_main_v101]
  unfold Head.dk
  rw [coe_sum]
  refine Finset.sum_congr rfl fun y _ => ?_
  rw [ds_at hS, hS.qn, ← EReal.coe_mul, ← wide_n (S.qn y h) (S.rot y h) x]
  simp only [head]

theorem dqr_at (q : Fin 16400) (h : Fin 8) (x : Fin 64) : val_main_v100 (F := Ideal) x0 x1 x2 x3 x4 x5 (ix3 q h x) = (((S.head h).dq q (wr x) : ℝ) : EReal) := by
  pointwise [val_main_v100, val_main_v99, val_main_v21, val_main_v20]
  unfold Head.dq
  rw [coe_sum]
  refine Finset.sum_congr rfl fun y _ => ?_
  rw [ds_at hS, hS.kr, ← EReal.coe_mul, ← wide_r (S.kn y h) (S.kr y) x]
  simp only [head]

theorem dqn_at (q : Fin 16400) (h : Fin 8) (x : Fin 128) : val_main_v119 (F := Ideal) x0 x1 x2 x3 x4 x5 (ix3 q h x) = (((S.head h).dq q (wn x) : ℝ) : EReal) := by
  pointwise [val_main_v119, val_main_v104, val_main_v103]
  unfold Head.dq
  rw [coe_sum]
  refine Finset.sum_congr rfl fun y _ => ?_
  rw [ds_at hS, hS.kn, ← EReal.coe_mul, ← wide_n (S.kn y h) (S.kr y) x]
  simp only [head]

theorem back_at (q : Fin 16400) (h : Fin 8) (x : Fin 64) : val_main_v120 (F := Ideal) x0 x1 x2 x3 x4 x5 (ix3 q h x) = ((S.back h q x : ℝ) : EReal) := by
  rcases half_cases x with ⟨y, rfl⟩ | ⟨y, rfl⟩
  · rw [back_fst]
    pointwise [val_main_v120, val_main_v118, val_main_v117, val_main_v116, val_main_v115, val_main_v114, val_main_v113, val_main_v112, val_main_v111, val_main_v110, val_main_v109, val_main_v108, val_main_v107, val_main_v106, val_main_v105, val_main_v22, val_main_v23]
    rw [cos_at, sin_at, dqr_at hS, dqr_at hS]
    norm_cast
  · rw [back_snd]
    pointwise [val_main_v120, val_main_v118, val_main_v117, val_main_v116, val_main_v115, val_main_v114, val_main_v113, val_main_v112, val_main_v111, val_main_v110, val_main_v109, val_main_v108, val_main_v107, val_main_v106, val_main_v105, val_main_v22, val_main_v23]
    rw [cos_at, sin_at, dqr_at hS, dqr_at hS]
    norm_cast

end Cert.Reference2Ideal.Stages

end
-- ==== Proof.Same.lean ====
module

public import proofs.«01_k».proof.Proof.Gen.Kernel2
public import proofs.«01_k».proof.Proof.Gen.Kernel2Ideal
public import proofs.«01_k».proof.Defs
public import Idealize.ShloMosaic.Lib.Tactic

/-! The kernel as it is run on words, and the kernel with its named constants read as those words: one program. -/

@[expose] public section

set_option maxRecDepth 16384
noncomputable section

namespace Cert.Proof
open Idealize.ShloMosaic Idealize.SL.Sem Idealize.ShloMosaic.TcCoe

/-- On words, a named constant is its own word. -/
@[instance_reducible] def wordNamed : Named Bits := ⟨fun _ _ _ b => FloatOps.ofBits _ b⟩

def WordRuns : Prop :=
  ∀ (m : (ℓ : Loc Cert.Kernel2.nD Cert.Kernel2.τ Cert.Kernel2.sig) → Buf (Elt Bits) ℓ) (g : Dev Cert.Kernel2.nD → PrngReg),
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0) ∧
      r.2.mem ((c.tc : Thread Cert.Kernel2.nD Cert.Kernel2.τ).loc Cert.Kernel2.main_arg1) = m ((c.tc : Thread Cert.Kernel2.nD Cert.Kernel2.τ).loc Cert.Kernel2.main_arg1) ∧
      r.2.mem ((c.tc : Thread Cert.Kernel2.nD Cert.Kernel2.τ).loc Cert.Kernel2.main_arg2) = m ((c.tc : Thread Cert.Kernel2.nD Cert.Kernel2.τ).loc Cert.Kernel2.main_arg2) ∧
      r.2.mem ((c.tc : Thread Cert.Kernel2.nD Cert.Kernel2.τ).loc Cert.Kernel2.main_arg3) = m ((c.tc : Thread Cert.Kernel2.nD Cert.Kernel2.τ).loc Cert.Kernel2.main_arg3) ∧
      r.2.mem ((c.tc : Thread Cert.Kernel2.nD Cert.Kernel2.τ).loc Cert.Kernel2.main_arg4) = m ((c.tc : Thread Cert.Kernel2.nD Cert.Kernel2.τ).loc Cert.Kernel2.main_arg4) ∧
      r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

attribute [local instance] wordNamed in
def NamedRuns : Prop :=
  ∀ (m : (ℓ : Loc Cert.Kernel2Ideal.nD Cert.Kernel2Ideal.τ Cert.Kernel2Ideal.sig) → Buf (Elt Bits) ℓ) (g : Dev Cert.Kernel2Ideal.nD → PrngReg),
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0) ∧
      r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1) ∧
      r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2) ∧
      r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3) ∧
      r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4) ∧
      r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

theorem runs_eq : NamedRuns = WordRuns := by sl_kernel_rfl

end Cert.Proof

end
-- ==== Proof.Flash.lean ====
module

public import proofs.«01_k».proof.Defs
public import proofs.«01_k».proof.Proof.VTail
public import proofs.«01_k».proof.Proof.RefC
public import proofs.«01_k».proof.Proof.RealOf
public import proofs.«01_k».proof.Proof.Same
public import proofs.«01_k».proof.Proof.Gen.Reference2Ideal.Run
public import Idealize.ShloMosaic.Adequacy
public import Idealize.ShloMosaic.Init
public import Idealize.ShloMosaic.Lib.Claim

/-! The attention's gradient: both frames, and the two programs' results as the same quantities of the heads. -/

@[expose] public section

set_option maxRecDepth 16384
noncomputable section

namespace Cert.Proof.Flash

open Idealize.ShloMosaic Idealize.SL.Sem Idealize.ShloMosaic.TcCoe
open Cert.Kernel2Ideal.Tile Cert.Proof.Attn Cert.Proof.Rms

theorem preFacts : Cert.Pre_finite2.Facts := by
  constructor <;> decide

theorem kernel_frame : Cert.quiescent_Kernel2 := fun m g _ => by
  have h : NamedRuns := fun m g => @Cert.Kernel2Ideal.Tile.frame Bits _ wordNamed m g
  rw [runs_eq] at h
  exact h m g
theorem ideal_frame : Cert.quiescent_Kernel2Ideal := fun m g _ => Cert.Kernel2Ideal.Tile.frame (F := Ideal) m g
theorem reference_frame : Cert.quiescent_Reference2Ideal := fun m g _ => (θ_run _ _ _).mono
  (fun r h => And.intro (fun c => (h c).2.2.2.2.2) (sem_eq_zero_of_no_sems (by decide) r.2)) (Cert.Reference2Ideal.Value.run m g)
theorem names : Cert.preserves_Kernel2_Kernel2Ideal := ⟨IdealRules.named_const.statement _ _ _ _ _ rfl, IdealRules.named_const.statement _ _ _ _ _ rfl⟩

open Cert.Kernel2Ideal in
/-- The kernel program's run: each result as the lines after the call leave it, the arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v110) = t110 m c ∧ r.2.mem ((c.tc : Thread nD τ).loc main_v111) = t111 m c
      ∧ r.2.mem ((c.tc : Thread nD τ).loc main_v112) = t112 m c ∧ r.2.mem ((c.tc : Thread nD τ).loc main_v113) = t113 m c
      ∧ r.2.mem ((c.tc : Thread nD τ).loc main_v115) = t115 m c
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)) := by
  exact (θ_run defs _ _).mono (fun _ h c => ⟨(h c).2 main_v110 (Pipeline.mem_restRefs_of main_v110 (by decide) (by decide)),
    (h c).2 main_v111 (Pipeline.mem_restRefs_of main_v111 (by decide) (by decide)),
    (h c).2 main_v112 (Pipeline.mem_restRefs_of main_v112 (by decide) (by decide)),
    (h c).2 main_v113 (Pipeline.mem_restRefs_of main_v113 (by decide) (by decide)),
    (h c).2 main_v115 (Pipeline.mem_restRefs_of main_v115 (by decide) (by decide)),
    ((h c).2 main_arg0 (Pipeline.mem_restRefs_of main_arg0 (by decide) (by decide))).trans (Cert.Kernel2Ideal.Gen.W_main_arg0 m (dats m) c),
    ((h c).2 main_arg1 (Pipeline.mem_restRefs_of main_arg1 (by decide) (by decide))).trans (Cert.Kernel2Ideal.Gen.W_main_arg1 m (dats m) c),
    ((h c).2 main_arg2 (Pipeline.mem_restRefs_of main_arg2 (by decide) (by decide))).trans (Cert.Kernel2Ideal.Gen.W_main_arg2 m (dats m) c),
    ((h c).2 main_arg3 (Pipeline.mem_restRefs_of main_arg3 (by decide) (by decide))).trans (Cert.Kernel2Ideal.Gen.W_main_arg3 m (dats m) c),
    ((h c).2 main_arg4 (Pipeline.mem_restRefs_of main_arg4 (by decide) (by decide))).trans (Cert.Kernel2Ideal.Gen.W_main_arg4 m (dats m) c),
    ((h c).2 main_arg5 (Pipeline.mem_restRefs_of main_arg5 (by decide) (by decide))).trans (Cert.Kernel2Ideal.Gen.W_main_arg5 m (dats m) c)⟩) (run_main m g)

section Values
variable [hf : Cert.Pre_finite2.Facts]
variable (m : (ℓ : Loc Cert.Kernel2Ideal.nD Cert.Kernel2Ideal.τ Cert.Kernel2Ideal.sig) → Buf (Elt Ideal) ℓ) (c : Dev Cert.Kernel2Ideal.nD)

/-- The reals the arguments hold. -/
def seq : Seq where
  qn q h d := (a0 m c (ix3 q h d)).toReal
  qr q h d := (a1 m c (ix3 q h d)).toReal
  kn q h d := (a2 m c (ix3 q h d)).toReal
  kr q d := (a3 m c (ix2 q d)).toReal
  v q h d := (a4 m c (ix3 q h d)).toReal
  o q h d := (a5 m c (ix3 q h d)).toReal

theorem coe_of {x : EReal} (h : IsReal x) : x = ((x.toReal : ℝ) : EReal) := by
  obtain ⟨r, rfl⟩ := h
  rfl

variable (hp : Cert.Pre_Kernel2Ideal_finite2 m)
include hp

theorem is : Cert.Kernel2Ideal.Tile.Is (seq m c) (a0 m c) (a1 m c) (a2 m c) (a3 m c) (a4 m c) (a5 m c) where
  qn q h d := coe_of (Pre.real_of _ _ (hp c).1 (ix3 q h d))
  qr q h d := coe_of (Pre.real_of _ _ (hp c).2.1 (ix3 q h d))
  kn q h d := coe_of (Pre.real_of _ _ (hp c).2.2.1 (ix3 q h d))
  kr q d := coe_of (Pre.real_of _ _ (hp c).2.2.2.1 (ix2 q d))
  v q h d := coe_of (Pre.real_of _ _ (hp c).2.2.2.2.1 (ix3 q h d))
  o q h d := coe_of (Pre.real_of _ _ (hp c).2.2.2.2.2 (ix3 q h d))
theorem is' : Cert.Reference2Ideal.Stages.Is (seq m c) (a0 m c) (a1 m c) (a2 m c) (a3 m c) (a4 m c) (a5 m c) where
  qn := (is m c hp).qn
  qr := (is m c hp).qr
  kn := (is m c hp).kn
  kr := (is m c hp).kr
  v := (is m c hp).v
  o := (is m c hp).o

open Cert.Reference2Ideal.Read Cert.Reference2Ideal.Stages
theorem dqn_final : val_main_v119 (F := Ideal) (a0 m c) (a1 m c) (a2 m c) (a3 m c) (a4 m c) (a5 m c) = t110 m c := by
  funext y
  idx_vars y
  exact (dqn_at (is' m c hp) y0 y1 y2).trans (t110_at m c (is m c hp) y0 y1 y2).symm
theorem dqr_final : val_main_v120 (F := Ideal) (a0 m c) (a1 m c) (a2 m c) (a3 m c) (a4 m c) (a5 m c) = t111 m c := by
  funext y
  idx_vars y
  exact (back_at (is' m c hp) y0 y1 y2).trans (t111_at m c (is m c hp) y0 y1 y2).symm
theorem dkn_final : val_main_v121 (F := Ideal) (a0 m c) (a1 m c) (a2 m c) (a3 m c) (a4 m c) (a5 m c) = t112 m c := by
  funext y
  idx_vars y
  exact (dkn_at (is' m c hp) y0 y1 y2).trans (t112_at m c (is m c hp) y0 y1 y2).symm
theorem dkr_final : val_main_v122 (F := Ideal) (a0 m c) (a1 m c) (a2 m c) (a3 m c) (a4 m c) (a5 m c) = t113 m c := by
  funext y
  idx_vars y
  exact (dkr_at (is' m c hp) y0 y1 y2).trans (t113_at m c (is m c hp) y0 y1 y2).symm
theorem dv_final : val_main_v123 (F := Ideal) (a0 m c) (a1 m c) (a2 m c) (a3 m c) (a5 m c) = t115 m c := by
  funext y
  idx_vars y
  exact (dv_at (is' m c hp) y0 y1 y2).trans (t115_at m c (is m c hp) y0 y1 y2).symm
end Values

instance facts : Cert.Pre_finite2.Facts := preFacts

theorem algebraic : Cert.algebraic_Kernel2Ideal_Reference2Ideal_pre_finite2 := by
  pair_intro
  · run_from kernel_run m g
  · refine (θ_run _ _ _).mono (fun r h c => ?_) (Cert.Reference2Ideal.Value.run m' g')
    obtain ⟨h0, h1, h2, h3, h4, ht⟩ := h c
    obtain ⟨e0, e1, e2, e3, e4, e5⟩ := hagree c
    replace e0 : StableHlo.launchContents m' c (Proc.tc.devRef Cert.Reference2Ideal.main_arg0) = a0 m c := e0
    replace e1 : StableHlo.launchContents m' c (Proc.tc.devRef Cert.Reference2Ideal.main_arg1) = a1 m c := e1
    replace e2 : StableHlo.launchContents m' c (Proc.tc.devRef Cert.Reference2Ideal.main_arg2) = a2 m c := e2
    replace e3 : StableHlo.launchContents m' c (Proc.tc.devRef Cert.Reference2Ideal.main_arg3) = a3 m c := e3
    replace e4 : StableHlo.launchContents m' c (Proc.tc.devRef Cert.Reference2Ideal.main_arg4) = a4 m c := e4
    replace e5 : StableHlo.launchContents m' c (Proc.tc.devRef Cert.Reference2Ideal.main_arg5) = a5 m c := e5
    refine ⟨h0.trans ?_, h1.trans ?_, h2.trans ?_, h3.trans ?_, h4.trans ?_, ht⟩
    · rw [Cert.Reference2Ideal.Read.val_main_v119_eq, e0, e1, e2, e3, e4, e5]; exact dqn_final m c hpre
    · rw [Cert.Reference2Ideal.Read.val_main_v120_eq, e0, e1, e2, e3, e4, e5]; exact dqr_final m c hpre
    · rw [Cert.Reference2Ideal.Read.val_main_v121_eq, e0, e1, e2, e3, e4, e5]; exact dkn_final m c hpre
    · rw [Cert.Reference2Ideal.Read.val_main_v122_eq, e0, e1, e2, e3, e4, e5]; exact dkr_final m c hpre
    · rw [Cert.Reference2Ideal.Read.val_main_v123_eq, e0, e1, e2, e3, e5]; exact dv_final m c hpre

end Cert.Proof.Flash

end
-- ==== Proof.QHost.lean ====
/- The host lines that lay out the latent projections' gradient call, as functions of the program's arguments, and what
   each laid-out array holds. -/
module

public import proofs.«01_k».proof.Proof.Gen.Kernel3Ideal.Launch
public import proofs.«01_k».proof.Proof.Gen.Reference3Ideal.Read
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
namespace Cert.Kernel3Ideal.Layout
open Cert.Kernel3Ideal Cert.Kernel3Ideal.Gen

/-- The row of the padded arrays that a row of the sequence takes. -/
abbrev up (q : Fin 16400) : Fin 16896 := ⟨496 + q.val, by omega⟩
/-- The column a head's lane takes: heads of 256, of 128, and of 192 lanes. -/
abbrev cw (h : Fin 8) (l : Fin 256) : Fin 2048 := ⟨h.val * 256 + l.val, by omega⟩
abbrev cn (h : Fin 8) (l : Fin 128) : Fin 1024 := ⟨h.val * 128 + l.val, by omega⟩
abbrev cq (h : Fin 8) (l : Fin 192) : Fin 1536 := ⟨h.val * 192 + l.val, by omega⟩

def z32 : FVec Ideal S_ .f32 := sitofp FTy.f32 (constantI S_ 32 0#32)
def wide (x : FVec Ideal S16400x8x192 .f32) : FVec Ideal S16896x8x256 .bf16 :=
  truncf FTy.bf16 (pad S16896x8x256 ![496, 0, 0] ![0, 0, 64] ![0, 0, 0] x z32 pads_S16400x8x192_S16896x8x256_49600_000_0640 h_S_) bitsLt_bf16_f32
def hDq (x : FVec Ideal S16400x8x192 .f32) : FVec Ideal S16896x2048 .bf16 := shapeCast _ (wide x) shapeCasts_S16896x8x256_S16896x2048
def joined (a : FVec Ideal S16400x8x128 .f32) (b : FVec Ideal S16400x8x64 .f32) : FVec Ideal S16400x8x192 .f32 :=
  concatenate S16400x8x192 2 [⟨S16400x8x128, a⟩, ⟨S16400x8x64, b⟩] concatenates_S16400x8x128_S16400x8x64_S16400x8x192_d2
def rows1024 (x : FVec Ideal S16400x1024 .f32) : FVec Ideal S16896x1024 .bf16 :=
  truncf FTy.bf16 (pad S16896x1024 ![496, 0] ![0, 0] ![0, 0] x z32 pads_S16400x1024_S16896x1024_49600_000 h_S_) bitsLt_bf16_f32
def hDv (x : FVec Ideal S16400x8x128 .f32) : FVec Ideal S16896x1024 .bf16 := rows1024 (shapeCast _ x shapeCasts_S16400x8x128_S16400x1024)
def rows384 (x : FVec Ideal S16400x384 .f32) : FVec Ideal S16896x384 .f32 :=
  pad S16896x384 ![496, 0] ![0, 0] ![0, 0] x z32 pads_S16400x384_S16896x384_49600_000 h_S_
def rows256 (x : FVec Ideal S16400x256 .f32) : FVec Ideal S16896x256 .f32 :=
  pad S16896x256 ![496, 0] ![0, 0] ![0, 0] x z32 pads_S16400x256_S16896x256_49600_000 h_S_
def rows1536 (x : FVec Ideal S16400x1536 .f32) : FVec Ideal S16896x1536 .bf16 :=
  truncf FTy.bf16 (pad S16896x1536 ![496, 0] ![0, 0] ![0, 0] x z32 pads_S16400x1536_S16896x1536_49600_000 h_S_) bitsLt_bf16_f32
def rows16 (x : FVec Ideal S16400x16 .f32) : FVec Ideal S16896x128 .f32 :=
  pad S16896x128 ![0, 0] ![0, 112] ![0, 0] (pad S16896x16 ![496, 0] ![0, 0] ![0, 0] x z32 pads_S16400x16_S16896x16_49600_000 h_S_) z32
    pads_S16896x16_S16896x128_000_01120 h_S_

def wideQ (x : FVec Ideal S384x1536 .f32) : FVec Ideal S384x8x256 .f32 :=
  pad S384x8x256 ![0, 0, 0] ![0, 0, 64] ![0, 0, 0] (fun i => shapeCast S384x8x192 x shapeCasts_S384x1536_S384x8x192 i) z32
    pads_S384x8x192_S384x8x256_000_000_0640 h_S_
def hWq (x : FVec Ideal S384x1536 .f32) : FVec Ideal S384x2048 .bf16 :=
  truncf FTy.bf16 (fun i => shapeCast S384x2048 (wideQ x) shapeCasts_S384x8x256_S384x2048 i) bitsLt_bf16_f32
def hWkv (x : FVec Ideal S256x2048 .f32) : FVec Ideal S256x8x256 .f32 := shapeCast _ x shapeCasts_S256x2048_S256x8x256
def wideK (x : FVec Ideal S256x2048 .f32) : FVec Ideal S256x8x256 .f32 :=
  pad S256x8x256 ![0, 0, 0] ![0, 0, 128] ![0, 0, 0] (extractStridedSlice S256x8x128 ![0, 0, 0] (hWkv x) slices_S256x8x256_S256x8x128_0_0_0) z32
    pads_S256x8x128_S256x8x256_000_000_01280 h_S_
def hWk (x : FVec Ideal S256x2048 .f32) : FVec Ideal S256x2048 .bf16 :=
  truncf FTy.bf16 (fun i => shapeCast S256x2048 (wideK x) shapeCasts_S256x8x256_S256x2048 i) bitsLt_bf16_f32
def cutV (x : FVec Ideal S256x2048 .f32) : FVec Ideal S256x8x128 .f32 :=
  extractStridedSlice S256x8x128 ![0, 0, 128] (hWkv x) slices_S256x8x256_S256x8x128_0_0_128
def hWv (x : FVec Ideal S256x2048 .f32) : FVec Ideal S256x1024 .bf16 :=
  truncf FTy.bf16 (fun i => shapeCast S256x1024 (cutV x) shapeCasts_S256x8x128_S256x1024 i) bitsLt_bf16_f32

/-- The rotary tables of the padded rows. -/
def position : FVec Ideal S16896 .f32 :=
  sitofp FTy.f32 (maxsi (subi (iotaInDim S16896 32 0) (broadcastInDim S16896 ![] bcast_S_S16896 (constantI S_ 32 496#32)))
    (broadcastInDim S16896 ![] bcast_S_S16896 (constantI S_ 32 0#32)))
def frequency : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
        (mulf (broadcastInDim S32 ![] bcast_S_S32 (constant S_ .f32 0x40000000#32)) (sitofp FTy.f32 (iotaInDim S32 32 0)))))
      (broadcastInDim S32 ![] bcast_S_S32 (constant S_ .f32 0x42800000#32)))
def hAngle : FVec Ideal S16896x32 .f32 :=
  mulf (broadcastInDim S16896x32 ![0, 1] bcast_S16896x1_S16896x32_0_1 (broadcastInDim S16896x1 ![0] bcast_S16896_S16896x1_0 position))
    (broadcastInDim S16896x32 ![0, 1] bcast_S1x32_S16896x32_0_1 (broadcastInDim S1x32 ![1] bcast_S32_S1x32_1 frequency))
def zeros32 : FVec Ideal S16896x32 .f32 := broadcastInDim S16896x32 ![] bcast_S_S16896x32 (constant S_ .f32 0x00000000#32)
def zeros64 : FVec Ideal S16896x64 .f32 := broadcastInDim S16896x64 ![] bcast_S_S16896x64 (constant S_ .f32 0x00000000#32)
def ones64 : FVec Ideal S16896x64 .f32 := broadcastInDim S16896x64 ![] bcast_S_S16896x64 (constant S_ .f32 0x3F800000#32)
def join3 (a b : FVec Ideal S16896x32 .f32) (d : FVec Ideal S16896x64 .f32) : FVec Ideal S16896x128 .f32 :=
  concatenate S16896x128 1 [⟨S16896x32, a⟩, ⟨S16896x32, b⟩, ⟨S16896x64, d⟩] concatenates_S16896x32_S16896x32_S16896x64_S16896x128_d1
def hCos : FVec Ideal S16896x128 .f32 := join3 (Host.cos hAngle) (Host.cos hAngle) ones64
def hLow : FVec Ideal S16896x128 .f32 := join3 (Host.negf (Host.sin hAngle)) zeros32 zeros64
def hHigh : FVec Ideal S16896x128 .f32 := join3 zeros32 (Host.sin hAngle) zeros64

theorem zero_word : FloatOps.sitofp (F := Ideal) FTy.f32 0#32 = 0 := by
  show (((0#32).toInt : ℝ) : EReal) = 0
  simp
theorem flat256 (f : FVec Ideal S16896x8x256 .bf16) (r : Fin 16896) (h : Fin 8) (x : Fin 256) :
    shapeCast S16896x2048 f shapeCasts_S16896x8x256_S16896x2048 (ix2 r (cw h x)) = f (ix3 r h x) := by
  have e1 : (⟨(cw h x).val / 256, by have := (cw h x).isLt; omega⟩ : Fin 8) = h := Fin.ext (by show (h.val * 256 + x.val) / 256 = h.val; omega)
  have e2 : (⟨(cw h x).val % 256, Nat.mod_lt _ (by norm_num)⟩ : Fin 256) = x := Fin.ext (by show (h.val * 256 + x.val) % 256 = x.val; omega)
  pointwise
  exact congrArg₂ (fun a b => f (ix3 r a b)) e1 e2
theorem flatQ (f : FVec Ideal S384x8x256 .f32) (r : Fin 384) (h : Fin 8) (x : Fin 256) :
    shapeCast S384x2048 f shapeCasts_S384x8x256_S384x2048 (ix2 r (cw h x)) = f (ix3 r h x) := by
  have e1 : (⟨(cw h x).val / 256, by have := (cw h x).isLt; omega⟩ : Fin 8) = h := Fin.ext (by show (h.val * 256 + x.val) / 256 = h.val; omega)
  have e2 : (⟨(cw h x).val % 256, Nat.mod_lt _ (by norm_num)⟩ : Fin 256) = x := Fin.ext (by show (h.val * 256 + x.val) % 256 = x.val; omega)
  pointwise
  exact congrArg₂ (fun a b => f (ix3 r a b)) e1 e2
theorem flatK (f : FVec Ideal S256x8x256 .f32) (r : Fin 256) (h : Fin 8) (x : Fin 256) :
    shapeCast S256x2048 f shapeCasts_S256x8x256_S256x2048 (ix2 r (cw h x)) = f (ix3 r h x) := by
  have e1 : (⟨(cw h x).val / 256, by have := (cw h x).isLt; omega⟩ : Fin 8) = h := Fin.ext (by show (h.val * 256 + x.val) / 256 = h.val; omega)
  have e2 : (⟨(cw h x).val % 256, Nat.mod_lt _ (by norm_num)⟩ : Fin 256) = x := Fin.ext (by show (h.val * 256 + x.val) % 256 = x.val; omega)
  pointwise
  exact congrArg₂ (fun a b => f (ix3 r a b)) e1 e2
theorem flatV (f : FVec Ideal S256x8x128 .f32) (r : Fin 256) (h : Fin 8) (x : Fin 128) :
    shapeCast S256x1024 f shapeCasts_S256x8x128_S256x1024 (ix2 r (cn h x)) = f (ix3 r h x) := by
  have e1 : (⟨(cn h x).val / 128, by have := (cn h x).isLt; omega⟩ : Fin 8) = h := Fin.ext (by show (h.val * 128 + x.val) / 128 = h.val; omega)
  have e2 : (⟨(cn h x).val % 128, Nat.mod_lt _ (by norm_num)⟩ : Fin 128) = x := Fin.ext (by show (h.val * 128 + x.val) % 128 = x.val; omega)
  pointwise
  exact congrArg₂ (fun a b => f (ix3 r a b)) e1 e2
theorem flatD (f : FVec Ideal S16400x8x128 .f32) (r : Fin 16400) (h : Fin 8) (x : Fin 128) :
    shapeCast S16400x1024 f shapeCasts_S16400x8x128_S16400x1024 (ix2 r (cn h x)) = f (ix3 r h x) := by
  have e1 : (⟨(cn h x).val / 128, by have := (cn h x).isLt; omega⟩ : Fin 8) = h := Fin.ext (by show (h.val * 128 + x.val) / 128 = h.val; omega)
  have e2 : (⟨(cn h x).val % 128, Nat.mod_lt _ (by norm_num)⟩ : Fin 128) = x := Fin.ext (by show (h.val * 128 + x.val) % 128 = x.val; omega)
  pointwise
  exact congrArg₂ (fun a b => f (ix3 r a b)) e1 e2

theorem hDq_in (x : FVec Ideal S16400x8x192 .f32) (q : Fin 16400) (h : Fin 8) (l : Fin 192) :
    hDq x (ix2 (up q) (cw h ⟨l.val, by omega⟩)) = x (ix3 q h l) := by
  refine (flat256 (wide x) _ _ _).trans ?_
  pointwise [wide]
theorem hDq_out (x : FVec Ideal S16400x8x192 .f32) (p : Fin 16896) (h : Fin 8) (l : Fin 64) :
    hDq x (ix2 p (cw h ⟨192 + l.val, by omega⟩)) = 0 := by
  refine (flat256 (wide x) _ _ _).trans ?_
  pointwise [wide, z32]
  rw [dif_neg fun e => e.2]
  exact zero_word
theorem hDq_low (x : FVec Ideal S16400x8x192 .f32) (p : Fin 16896) (hp : p.val < 496) (h : Fin 8) (l : Fin 256) :
    hDq x (ix2 p (cw h l)) = 0 := by
  refine (flat256 (wide x) _ _ _).trans ?_
  pointwise [wide, z32]
  rw [dif_neg (by omega)]
  exact zero_word
theorem joined_fst (a : FVec Ideal S16400x8x128 .f32) (b : FVec Ideal S16400x8x64 .f32) (q : Fin 16400) (h : Fin 8) (l : Fin 128) :
    joined a b (ix3 q h ⟨l.val, by omega⟩) = a (ix3 q h l) := by
  pointwise [joined]
theorem joined_snd (a : FVec Ideal S16400x8x128 .f32) (b : FVec Ideal S16400x8x64 .f32) (q : Fin 16400) (h : Fin 8) (l : Fin 64) :
    joined a b (ix3 q h ⟨128 + l.val, by omega⟩) = b (ix3 q h l) := by
  pointwise [joined]
theorem rows1024_in (x : FVec Ideal S16400x1024 .f32) (q : Fin 16400) (j : Fin 1024) : rows1024 x (ix2 (up q) j) = x (ix2 q j) := by
  pointwise [rows1024]
theorem hDv_in (x : FVec Ideal S16400x8x128 .f32) (q : Fin 16400) (h : Fin 8) (l : Fin 128) :
    hDv x (ix2 (up q) (cn h l)) = x (ix3 q h l) := (rows1024_in _ q _).trans (flatD x q h l)
theorem hDv_low (x : FVec Ideal S16400x8x128 .f32) (p : Fin 16896) (hp : p.val < 496) (j : Fin 1024) : hDv x (ix2 p j) = 0 := by
  unfold hDv
  generalize shapeCast S16400x1024 x _ = y
  pointwise [rows1024, z32]
  rw [dif_neg (by omega)]
  exact zero_word
theorem rows384_in (x : FVec Ideal S16400x384 .f32) (q : Fin 16400) (j : Fin 384) : rows384 x (ix2 (up q) j) = x (ix2 q j) := by
  pointwise [rows384]
theorem rows256_in (x : FVec Ideal S16400x256 .f32) (q : Fin 16400) (j : Fin 256) : rows256 x (ix2 (up q) j) = x (ix2 q j) := by
  pointwise [rows256]
theorem rows1536_in (x : FVec Ideal S16400x1536 .f32) (q : Fin 16400) (j : Fin 1536) : rows1536 x (ix2 (up q) j) = x (ix2 q j) := by
  pointwise [rows1536]
theorem rows16_in (x : FVec Ideal S16400x16 .f32) (q : Fin 16400) (j : Fin 16) : rows16 x (ix2 (up q) ⟨j.val, by omega⟩) = x (ix2 q j) := by
  pointwise [rows16]
  rw [dif_pos (by omega)]

theorem hWq_in (x : FVec Ideal S384x1536 .f32) (k : Fin 384) (h : Fin 8) (l : Fin 192) :
    hWq x (ix2 k (cw h ⟨l.val, by omega⟩)) = x (ix2 k (cq h l)) := by
  refine (flatQ (wideQ x) _ _ _).trans ?_
  pointwise [wideQ]
theorem hWk_in (x : FVec Ideal S256x2048 .f32) (k : Fin 256) (h : Fin 8) (l : Fin 128) :
    hWk x (ix2 k (cw h ⟨l.val, by omega⟩)) = x (ix2 k (cw h ⟨l.val, by omega⟩)) := by
  refine (flatK (wideK x) _ _ _).trans ?_
  pointwise [wideK, hWkv]
theorem hWk_out (x : FVec Ideal S256x2048 .f32) (k : Fin 256) (h : Fin 8) (l : Fin 128) :
    hWk x (ix2 k (cw h ⟨128 + l.val, by omega⟩)) = 0 := by
  refine (flatK (wideK x) _ _ _).trans ?_
  pointwise [wideK, z32]
  exact zero_word
theorem hWv_in (x : FVec Ideal S256x2048 .f32) (k : Fin 256) (h : Fin 8) (l : Fin 128) :
    hWv x (ix2 k (cn h l)) = x (ix2 k (cw h ⟨128 + l.val, by omega⟩)) := by
  refine (flatV (cutV x) _ _ _).trans ?_
  pointwise [cutV, hWkv]

theorem row_word (q : Fin 16400) : IntOp.maxsi (IntOp.subi (BitVec.ofNat 32 (496 + q.val)) 496#32) 0#32 = BitVec.ofNat 32 q.val := by
  have e : IntOp.subi (BitVec.ofNat 32 (496 + q.val)) 496#32 = BitVec.ofNat 32 q.val := by
    apply BitVec.eq_of_toNat_eq
    show (BitVec.ofNat 32 (496 + q.val) - 496#32).toNat = _
    simp only [BitVec.toNat_sub, BitVec.toNat_ofNat]
    omega
  rw [e]
  have hq : (BitVec.ofNat 32 q.val).toInt = (q.val : Int) := by
    rw [BitVec.toInt_eq_toNat_of_lt (by rw [BitVec.toNat_ofNat]; omega), BitVec.toNat_ofNat, Nat.mod_eq_of_lt (by omega)]
  unfold IntOp.maxsi
  simp [BitVec.sle, BitVec.slt, hq]
  rintro rfl
  rfl

open Cert.Reference3Ideal.Read in
theorem hAngle_at (q : Fin 16400) (x : Fin 32) : hAngle (ix2 (up q) x) = val_main_v16 (F := Ideal) (ix2 q x) := by
  pointwise [hAngle, position, frequency, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rw [row_word]

/-- The cosine and the sine of a row's angle, as the reference's tables have them. -/
abbrev cs (q : Fin 16400) (x : Fin 32) : EReal := Reference3Ideal.Read.val_main_v17 (F := Ideal) (ix2 q x)
abbrev sn (q : Fin 16400) (x : Fin 32) : EReal := Reference3Ideal.Read.val_main_v18 (F := Ideal) (ix2 q x)
theorem cos_at (q : Fin 16400) (x : Fin 32) : (Host.cos hAngle : FVec Ideal S16896x32 .f32) (ix2 (up q) x) = cs q x :=
  congrArg Ideal.cos (hAngle_at q x)
theorem sin_at (q : Fin 16400) (x : Fin 32) : (Host.sin hAngle : FVec Ideal S16896x32 .f32) (ix2 (up q) x) = sn q x :=
  congrArg Ideal.sin (hAngle_at q x)

theorem join_fst (a b : FVec Ideal S16896x32 .f32) (d : FVec Ideal S16896x64 .f32) (p : Fin 16896) (x : Fin 32) :
    join3 a b d (ix2 p ⟨x.val, by omega⟩) = a (ix2 p x) := by pointwise [join3]
theorem join_snd (a b : FVec Ideal S16896x32 .f32) (d : FVec Ideal S16896x64 .f32) (p : Fin 16896) (x : Fin 32) :
    join3 a b d (ix2 p ⟨32 + x.val, by omega⟩) = b (ix2 p x) := by pointwise [join3]
theorem join_trd (a b : FVec Ideal S16896x32 .f32) (d : FVec Ideal S16896x64 .f32) (p : Fin 16896) (x : Fin 64) :
    join3 a b d (ix2 p ⟨64 + x.val, by omega⟩) = d (ix2 p x) := by
  pointwise [join3]
  rw [dif_neg (by omega), dif_neg (by omega)]
  exact congrArg (fun y => d (ix2 p y)) (Fin.ext (by show 64 + x.val - 32 - 32 = x.val; omega))
theorem zeros32_at (i : S16896x32.Idx) : zeros32 i = 0 := by pointwise [zeros32]
theorem zeros64_at (i : S16896x64.Idx) : zeros64 i = 0 := by pointwise [zeros64]
end Cert.Kernel3Ideal.Layout
end
-- ==== Proof.QRunA.lean ====
/- The whole body of the latent projections' gradient, run at the first block of rows. -/
module

public import proofs.«01_k».proof.Proof.Gen.Kernel3Ideal.Frame.Runs

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE A (`scf.if` 0 taken, `scf.if` 1 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x1024 .bf16) (harg3 : arg3.IsWhole) (arg4 : Memref sig .tc .vmem S512x384 .f32) (harg4 : arg4.IsWhole) (arg5 : Memref sig .tc .vmem S512x256 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x2048 .bf16) (harg11 : arg11.IsWhole) (arg12 : Memref sig .tc .vmem S256x2048 .bf16) (harg12 : arg12.IsWhole) (arg13 : Memref sig .tc .vmem S256x1024 .bf16) (harg13 : arg13.IsWhole) (arg14 : Memref sig .tc .vmem S512x1024 .bf16) (harg14 : arg14.IsWhole) (arg15 : Memref sig .tc .vmem S512x1536 .bf16) (harg15 : arg15.IsWhole) (arg16 : Memref sig .tc .vmem S512x128 .f32) (harg16 : arg16.IsWhole) (arg17 : Memref sig .tc .vmem S512x3584 .bf16) (harg17 : arg17.IsWhole) (arg18 : Memref sig .tc .vmem S8x384 .f32) (harg18 : arg18.IsWhole) (arg19 : Memref sig .tc .vmem S8x256 .f32) (harg19 : arg19.IsWhole) (hc0 : cond0_0 i) (hc1 : cond0_1 i)
    (x0 : Vec F S512x2048 .bf16) (x1 : Vec F S512x2048 .bf16) (x2 : Vec F S512x1024 .bf16) (x3 : Vec F S512x384 .f32) (x4 : Vec F S512x256 .f32) (x5 : Vec F S512x128 .f32) (x6 : Vec F S512x128 .f32) (x7 : Vec F S512x128 .f32) (x8 : Vec F S1x384 .f32) (x9 : Vec F S1x256 .f32) (x10 : Vec F S384x2048 .bf16) (x11 : Vec F S256x2048 .bf16) (x12 : Vec F S256x1024 .bf16) (x13 : Vec F S512x1024 .bf16) (x14 : Vec F S512x1536 .bf16) (x15 : Vec F S512x128 .f32) :
    Σ' (L16 : List (View.Piece (Elt F) S512x3584 .bf16)), Σ' (L17 : List (View.Piece (Elt F) S8x384 .f32)), { L18 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc0_qkv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0_qkv_bwd_eq_skeleton]; unfold cc0_qkv_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    iexists _; iexact H18

end Cert.Kernel3Ideal.Gen

end
-- ==== Proof.QFrame.lean ====
/- The frame of the latent projections' gradient: what each output holds after each block of rows, and the run of the program. -/
module

public import proofs.«01_k».proof.Proof.QRunB
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body's run at the first block of rows, and at a later one over what the block before left of the two gains' sums. -/
abbrev runA (c : Dev nD) (t : Fin cfg0.N) (h : t.val % 33 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
    ((hcond0_0 t).mpr h) ((hcond0_1 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
abbrev runB (c : Dev nD) (t : Fin cfg0.N) (h : ¬t.val % 33 = 0) (s17 : Vec F S8x384 .f32) (s18 : Vec F S8x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
    (fun q => h ((hcond0_0 t).mp q)) (fun q => h ((hcond0_1 t).mp q)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) s17 s18
/-- Each output's pieces cover its block. -/
theorem coverA_16 (c : Dev nD) (t : Fin cfg0.N) (h : t.val % 33 = 0) (y : S512x3584.Idx) : ∃ pc ∈ (runA m c t h).1, y ∈ pc.1.set :=
  View.cover_of_tiledBy _ ![512, 128] (by sl_kernel_rfl) y
theorem coverA_17 (c : Dev nD) (t : Fin cfg0.N) (h : t.val % 33 = 0) (y : S8x384.Idx) : ∃ pc ∈ (runA m c t h).2.1, y ∈ pc.1.set :=
  View.cover_of_tiledL _ S8x384.size (by sl_kernel_rfl) y
theorem coverA_18 (c : Dev nD) (t : Fin cfg0.N) (h : t.val % 33 = 0) (y : S8x256.Idx) : ∃ pc ∈ (runA m c t h).2.2.1, y ∈ pc.1.set :=
  View.cover_of_tiledL _ S8x256.size (by sl_kernel_rfl) y
theorem coverB_16 (c : Dev nD) (t : Fin cfg0.N) (h : ¬t.val % 33 = 0) (s17 s18) (y : S512x3584.Idx) : ∃ pc ∈ (runB m c t h s17 s18).1, y ∈ pc.1.set :=
  View.cover_of_tiledBy _ ![512, 128] (by sl_kernel_rfl) y
theorem coverB_17 (c : Dev nD) (t : Fin cfg0.N) (h : ¬t.val % 33 = 0) (s17 s18) (y : S8x384.Idx) : ∃ pc ∈ (runB m c t h s17 s18).2.1, y ∈ pc.1.set :=
  View.cover_of_tiledL _ S8x384.size (by sl_kernel_rfl) y
theorem coverB_18 (c : Dev nD) (t : Fin cfg0.N) (h : ¬t.val % 33 = 0) (s17 s18) (y : S8x256.Idx) : ∃ pc ∈ (runB m c t h s17 s18).2.2.1, y ∈ pc.1.set :=
  View.cover_of_tiledL _ S8x256.size (by sl_kernel_rfl) y

/-- What the outputs' buffers hold once these pieces are written. -/
abbrev left (p16 : List (View.Piece (Elt F) S512x3584 .bf16)) (p17 : List (View.Piece (Elt F) S8x384 .f32)) (p18 : List (View.Piece (Elt F) S8x256 .f32)) :
    Vec F S512x3584 .bf16 × Vec F S8x384 .f32 × Vec F S8x256 .f32 :=
  (VO0_16.read (Elt F) (VO0_16.writes (Elt F) VO0_16.junk p16), VO0_17.read (Elt F) (VO0_17.writes (Elt F) VO0_17.junk p17),
    VO0_18.read (Elt F) (VO0_18.writes (Elt F) VO0_18.junk p18))
/-- What the outputs' buffers hold after each block of rows. -/
def outsAt0 (c : Dev nD) : (n : ℕ) → n < cfg0.N → Vec F S512x3584 .bf16 × Vec F S8x384 .f32 × Vec F S8x256 .f32
  | 0, hn => left (runA m c ⟨0, hn⟩ rfl).1 (runA m c ⟨0, hn⟩ rfl).2.1 (runA m c ⟨0, hn⟩ rfl).2.2.1
  | n + 1, hn =>
    if h : (n + 1) % 33 = 0 then left (runA m c ⟨n + 1, hn⟩ h).1 (runA m c ⟨n + 1, hn⟩ h).2.1 (runA m c ⟨n + 1, hn⟩ h).2.2.1
    else
      left (runB m c ⟨n + 1, hn⟩ h (outsAt0 c n (Nat.lt_of_succ_lt hn)).2.1 (outsAt0 c n (Nat.lt_of_succ_lt hn)).2.2).1
        (runB m c ⟨n + 1, hn⟩ h (outsAt0 c n (Nat.lt_of_succ_lt hn)).2.1 (outsAt0 c n (Nat.lt_of_succ_lt hn)).2.2).2.1
        (runB m c ⟨n + 1, hn⟩ h (outsAt0 c n (Nat.lt_of_succ_lt hn)).2.1 (outsAt0 c n (Nat.lt_of_succ_lt hn)).2.2).2.2.1
/-- The sums that the block before leaves. -/
abbrev prior (c : Dev nD) (t : Fin cfg0.N) := outsAt0 m c (t.val - 1) (Nat.lt_of_le_of_lt (Nat.sub_le _ _) t.isLt)
theorem outsAt0_A (c : Dev nD) (t : Fin cfg0.N) (h : t.val % 33 = 0) :
    outsAt0 m c t.val t.isLt = left (runA m c t h).1 (runA m c t h).2.1 (runA m c t h).2.2.1 := by
  obtain ⟨n, hn⟩ := t
  cases n with
  | zero => exact rfl
  | succ n => exact dif_pos h
theorem outsAt0_B (c : Dev nD) (t : Fin cfg0.N) (h : ¬t.val % 33 = 0) :
    outsAt0 m c t.val t.isLt = left (runB m c t h (prior m c t).2.1 (prior m c t).2.2).1 (runB m c t h (prior m c t).2.1 (prior m c t).2.2).2.1
      (runB m c t h (prior m c t).2.1 (prior m c t).2.2).2.2.1 := by
  obtain ⟨n, hn⟩ := t
  cases n with
  | zero => exact absurd (Nat.zero_mod _) h
  | succ n => exact dif_neg h

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2
    | ⟨_ + 19, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 33 = 0) (d) :
    (dats m 0 c).before 17 t d = (outsAt0 m c (t.val - 1) (Nat.lt_of_le_of_lt (Nat.sub_le _ _) t.isLt)).2.1 := by
  have hN : t.val < 33 := lt_of_lt_of_eq t.isLt (show cfg0.N = 33 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 33 = 0) (d) :
    (dats m 0 c).before 18 t d = (outsAt0 m c (t.val - 1) (Nat.lt_of_le_of_lt (Nat.sub_le _ _) t.isLt)).2.2 := by
  have hN : t.val < 33 := lt_of_lt_of_eq t.isLt (show cfg0.N = 33 from N_0)
  rw [Dat.before_out_kept _ 18 rfl t (by omega) (Bool.eq_false_iff.mpr fun h => by have := (flush0_18 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 3200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  have hN : t.val < 33 := lt_of_lt_of_eq t.isLt (show cfg0.N = 33 from N_0)
  by_cases h0 : t.val % 33 = 0
  · · rw [outsAt0_A m c t h0]
      dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      iintro ⟨H0, H1, H2, H3, H4, H5, H6, H7, H8, H9, H10, H11, H12, H13, H14, H15, ⟨%e16, H16⟩, ⟨%e17, H17⟩, ⟨%e18, H18⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (coverA_16 m c t h0)
      isplitl [H17]
      · unfold owns; iexists _; isplitr
        swap; · iexact H17
        ipureintro; exact View.read_writes_of_cover _ _ _ _ _ (coverA_17 m c t h0)
      unfold owns; iexists _; isplitr
      swap; · iexact H18
      ipureintro; exact View.read_writes_of_cover _ _ _ _ _ (coverA_18 m c t h0)
  · · rw [outsAt0_B m c t h0]
      simp only [before0_17_B m c t h0, before0_18_B m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runB m c t h0 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexact H17
      isplitl [H18]; · iexact H18
      iintro ⟨H0, H1, H2, H3, H4, H5, H6, H7, H8, H9, H10, H11, H12, H13, H14, H15, ⟨%e16, H16⟩, ⟨%e17, H17⟩, ⟨%e18, H18⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (coverB_16 m c t h0 _ _)
      isplitl [H17]
      · unfold owns; iexists _; isplitr
        swap; · iexact H17
        ipureintro; exact View.read_writes_of_cover _ _ _ _ _ (coverB_17 m c t h0 _ _)
      unfold owns; iexists _; isplitr
      swap; · iexact H18
      ipureintro; exact View.read_writes_of_cover _ _ _ _ _ (coverB_18 m c t h0 _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.Kernel3Ideal.Gen

end
-- ==== Proof.QEntry.lean ====
module

public import proofs.«01_k».proof.Proof.QHost
public import proofs.«01_k».proof.Proof.QFrame
public import Idealize.ShloMosaic.Lib.Claim
public import Idealize.ShloMosaic.Lib.StableHlo.RunRead

/-! What the call's operands are when it is entered. -/

@[expose] public section
set_option maxRecDepth 16384
noncomputable section
open Idealize.ShloMosaic Idealize.ShloMosaic.TcCoe Idealize.SL.Sem
namespace Cert.Kernel3Ideal.Layout
open Cert.Kernel3Ideal Cert.Kernel3Ideal.Gen
variable (m : (ℓ : Loc nD τ sig) → Buf (Elt Ideal) ℓ) (c : Dev nD)

/-- The program's arguments. -/
def a0 : FVec Ideal S16400x384 .f32 := m (c, Proc.tc.devRef main_arg0)
def a1 : FVec Ideal S16400x256 .f32 := m (c, Proc.tc.devRef main_arg1)
def a2 : FVec Ideal S384 .f32 := m (c, Proc.tc.devRef main_arg2)
def a3 : FVec Ideal S256 .f32 := m (c, Proc.tc.devRef main_arg3)
def a4 : FVec Ideal S384x1536 .f32 := m (c, Proc.tc.devRef main_arg4)
def a5 : FVec Ideal S256x2048 .f32 := m (c, Proc.tc.devRef main_arg5)
def a6 : FVec Ideal S16400x8x192 .f32 := m (c, Proc.tc.devRef main_arg6)
def a7 : FVec Ideal S16400x8x128 .f32 := m (c, Proc.tc.devRef main_arg7)
def a8 : FVec Ideal S16400x8x64 .f32 := m (c, Proc.tc.devRef main_arg8)
def a9 : FVec Ideal S16400x8x128 .f32 := m (c, Proc.tc.devRef main_arg9)
def a10 : FVec Ideal S16400x1024 .f32 := m (c, Proc.tc.devRef main_arg10)
def a11 : FVec Ideal S16400x1536 .f32 := m (c, Proc.tc.devRef main_arg11)
def a12 : FVec Ideal S16400x16 .f32 := m (c, Proc.tc.devRef main_arg12)
/-- The arrays that the call's windows read. -/
def eDq : FVec Ideal S16896x2048 .bf16 := V m c main_v8
def eDk : FVec Ideal S16896x2048 .bf16 := V m c main_v12
def eDv : FVec Ideal S16896x1024 .bf16 := V m c main_v15
def eCq : FVec Ideal S16896x384 .f32 := V m c main_v16
def eCkv : FVec Ideal S16896x256 .f32 := V m c main_v17
def eCos : FVec Ideal S16896x128 .f32 := V m c main_v44
def eLow : FVec Ideal S16896x128 .f32 := V m c main_v46
def eHigh : FVec Ideal S16896x128 .f32 := V m c main_v47
def eGq : FVec Ideal S1x384 .f32 := V m c main_v48
def eGkv : FVec Ideal S1x256 .f32 := V m c main_v49
def eWq : FVec Ideal S384x2048 .bf16 := V m c main_v51
def eWk : FVec Ideal S256x2048 .bf16 := V m c main_v53
def eWv : FVec Ideal S256x1024 .bf16 := V m c main_v55
def eDz : FVec Ideal S16896x1024 .bf16 := V m c main_v57
def eDx : FVec Ideal S16896x1536 .bf16 := V m c main_v59
def eDt : FVec Ideal S16896x128 .f32 := V m c main_v61
/-- A line that joins three tables reads each at its own reference. -/
theorem nary3_read {x a b y : Ref sig .tc}
    (f : ((k : Fin 3) → ((![x, a, b] : Fin 3 → Ref sig .tc) k).ty.Contents (Elt Ideal)) → y.ty.Contents (Elt Ideal)) (hxs hy)
    (W : Valuation τ sig (Elt Ideal)) :
    (StableHlo.nary (τ := τ) ![x, a, b] y f hxs hy).result W (no_index (Proc.devRef .tc y))
      = f (Fin.cons (W (Proc.devRef .tc x)) (Fin.cons (W (Proc.devRef .tc a)) (Fin.cons (W (Proc.devRef .tc b)) (fun i => i.elim0)))) := by
  rw [StableHlo.nary_result]; congr 1; funext k; fin_cases k <;> sl_kernel_rfl
/-- The call's operands, by the host lines from the arguments. -/
theorem entry : eDq m c = hDq (a6 m c)
    ∧ eDk m c = hDq (joined (a7 m c) (a8 m c))
    ∧ eDv m c = hDv (a9 m c)
    ∧ eCq m c = rows384 (a0 m c)
    ∧ eCkv m c = rows256 (a1 m c)
    ∧ eCos m c = hCos
    ∧ eLow m c = hLow
    ∧ eHigh m c = hHigh
    ∧ eGq m c = shapeCast S1x384 (a2 m c) shapeCasts_S384_S1x384
    ∧ eGkv m c = shapeCast S1x256 (a3 m c) shapeCasts_S256_S1x256
    ∧ eWq m c = hWq (a4 m c)
    ∧ eWk m c = hWk (a5 m c)
    ∧ eWv m c = hWv (a5 m c)
    ∧ eDz m c = rows1024 (a10 m c)
    ∧ eDx m c = rows1536 (a11 m c)
    ∧ eDt m c = rows16 (a12 m c) := by
  unfold eDq eDk eDv eCq eCkv eCos eLow eHigh eGq eGkv eWq eWk eWv eDz eDx eDt V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, StableHlo.TRef.unary, StableHlo.TRef.binary, StableHlo.TRef.ternary, StableHlo.TRef.toBuf, StableHlo.TRef.ofBuf, cast_eq]
  after_reads_simp [nary3_read]
  refine ⟨?_, ?_, ?_, ?_, ?_, ?_, ?_, ?_, ?_, ?_, ?_, ?_, ?_, ?_, ?_, ?_⟩ <;> sl_kernel_rfl
end Cert.Kernel3Ideal.Layout
end
-- ==== Proof.QBlocks.lean ====
module

public import proofs.«01_k».proof.Proof.QEntry
public import Idealize.ShloMosaic.Lib.Pipeline.ValueKit
public import Idealize.ShloMosaic.Lib.Pointwise
public import Idealize.ShloMosaic.Lib.VecWindow
public import Idealize.ShloMosaic.Lib.Pipeline.ReadBack

/-! What the call leaves of one block of rows. -/

@[expose] public section
set_option maxRecDepth 16384
noncomputable section
open Idealize.ShloMosaic Idealize.ShloMosaic.TcCoe Idealize.SL.Sem
open Idealize.ShloMosaic.Pipeline (Dat)
namespace Cert.Kernel3Ideal.Layout
open Cert.Kernel3Ideal Cert.Kernel3Ideal.Gen
variable (m : (ℓ : Loc nD τ sig) → Buf (Elt Ideal) ℓ) (c : Dev nD)

theorem out17_A (t : Fin cfg0.N) (h : t.val % 33 = 0) : (outsAt0 m c t.val t.isLt).2.1 =
    k0_pay4 (k0_pay11 (iblk m c 3 t) (iblk m c 0 t) (iblk m c 10 t)) (k0_pay3 (F := Ideal)) := by
  rw [outsAt0_A m c t h]
  dsimp only [runA]
  frame_out
theorem out17_B (t : Fin cfg0.N) (h : ¬t.val % 33 = 0) : (outsAt0 m c t.val t.isLt).2.1 =
    k0_pay4 (k0_pay11 (iblk m c 3 t) (iblk m c 0 t) (iblk m c 10 t)) (outsAt0 m c (t.val - 1) (Nat.lt_of_le_of_lt (Nat.sub_le _ _) t.isLt)).2.1 := by
  rw [outsAt0_B m c t h]
  dsimp only [runB, prior]
  frame_out
theorem out18_A (t : Fin cfg0.N) (h : t.val % 33 = 0) : (outsAt0 m c t.val t.isLt).2.2 =
    k0_pay6 (k0_pay23 (k0_pay18 (k0_pay13 (iblk m c 1 t)) (iblk m c 11 t)) (iblk m c 2 t) (iblk m c 12 t) (iblk m c 4 t)) (k0_pay5 (F := Ideal)) := by
  rw [outsAt0_A m c t h]
  dsimp only [runA]
  frame_out
theorem out18_B (t : Fin cfg0.N) (h : ¬t.val % 33 = 0) : (outsAt0 m c t.val t.isLt).2.2 =
    k0_pay6 (k0_pay23 (k0_pay18 (k0_pay13 (iblk m c 1 t)) (iblk m c 11 t)) (iblk m c 2 t) (iblk m c 12 t) (iblk m c 4 t))
      (outsAt0 m c (t.val - 1) (Nat.lt_of_le_of_lt (Nat.sub_le _ _) t.isLt)).2.2 := by
  rw [outsAt0_B m c t h]
  dsimp only [runB, prior]
  frame_out
/-- The pieces of a block of the packed gradient: its columns by what they are the gradient of. -/
abbrev pieces (t : Fin cfg0.N) : List (View.Piece (Elt Ideal) S512x3584 .bf16) :=
  [⟨Rect.unit ![0, 3456] ![512, 128] inb_S512x3584_S512x128_0_3456, k0_pay2 (iblk m c 15 t)⟩,
    ⟨Rect.unit ![0, 1920] ![512, 1536] inb_S512x3584_S512x1536_0_1920, k0_pay1 (iblk m c 14 t)⟩,
    ⟨Rect.unit ![0, 896] ![512, 1024] inb_S512x3584_S512x1024_0_896, k0_pay25 (iblk m c 13 t)⟩,
    ⟨Rect.unit ![0, 384] ![512, 256] inb_S512x3584_S512x256_0_384,
      k0_pay24 (k0_pay18 (k0_pay13 (iblk m c 1 t)) (iblk m c 11 t)) (iblk m c 2 t) (iblk m c 12 t) (iblk m c 4 t) (iblk m c 9 t)⟩,
    ⟨Rect.unit ![0, 768] ![512, 128] inb_S512x3584_S512x128_0_768,
      k0_pay17 (k0_pay13 (iblk m c 1 t)) (k0_pay14 (iblk m c 1 t)) k0_pay15 (iblk m c 5 t) (iblk m c 6 t) (iblk m c 7 t)⟩,
    ⟨Rect.unit ![0, 640] ![512, 128] inb_S512x3584_S512x128_0_640, k0_pay16 (F := Ideal)⟩,
    ⟨Rect.unit ![0, 0] ![512, 384] inb_S512x3584_S512x384_0_0,
      k0_pay12 (iblk m c 3 t) (iblk m c 8 t) (iblk m c 0 t) (iblk m c 10 t)⟩]
theorem out16 (t : Fin cfg0.N) : (outsAt0 m c t.val t.isLt).1 = View.canon (pieces m c t) := by
  by_cases h : t.val % 33 = 0
  · rw [outsAt0_A m c t h]
    dsimp only [runA]
    frame_out
  · rw [outsAt0_B m c t h]
    dsimp only [runB, prior]
    frame_out
end Cert.Kernel3Ideal.Layout
end
-- ==== Proof.QPay.lean ====
module

public import proofs.«01_k».proof.Proof.QHost
public import proofs.«01_k».proof.Proof.Gen.Kernel3Ideal.Skeleton
public import proofs.«01_k».proof.Proof.Rms

/-! What one block of rows makes, entry by entry. -/

@[expose] public section
set_option maxRecDepth 16384
noncomputable section
open Idealize.ShloMosaic Idealize.ShloMosaic.TcCoe Idealize.SL.Sem
namespace Cert.Kernel3Ideal.Layout
open Cert.Kernel3Ideal Cert.Kernel3Ideal.Gen Cert.Proof.Rms

/-- The two norms' widths, as the programs store them. -/
abbrev w384 : EReal := Ideal.ofBits FTy.f32 1136656384#32
abbrev w256 : EReal := Ideal.ofBits FTy.f32 1132462080#32

/-- What reaches the queries' latent row: the queries' cotangent through the up projection. -/
def tq (dq : Fin 8 → Fin 192 → EReal) (w : Fin 384 → Fin 1536 → EReal) (k : Fin 384) : EReal := ∑ h, ∑ l, dq h l * w k (cq h l)
/-- What reaches the keys' and values' latent row. -/
def tkv (dk dv : Fin 8 → Fin 128 → EReal) (w : Fin 256 → Fin 2048 → EReal) (k : Fin 256) : EReal :=
  (∑ h, ∑ l : Fin 128, dk h l * w k (cw h ⟨l.val, by omega⟩)) + ∑ h, ∑ l : Fin 128, dv h l * w k (cw h ⟨128 + l.val, by omega⟩)

theorem pay12_at (v0 : FVec Ideal S512x384 .f32) (v2 : FVec Ideal S1x384 .f32) (v4 : FVec Ideal S512x2048 .bf16) (v6 : FVec Ideal S384x2048 .bf16)
    (r : Fin 512) (j : Fin 384) : k0_pay12 (F := Ideal) v0 v2 v4 v6 (ix2 r j) =
      kdx w384 (fun k => v0 (ix2 r k)) (fun k => v2 (ix2 0 k)) (fun k => ∑ x, v4 (ix2 r x) * v6 (ix2 k x)) j := by
  pointwise [k0_pay12, k0_pay10, k0_pay9, k0_pay8, k0_pay7]
  rfl
theorem pay11_at (v0 : FVec Ideal S512x384 .f32) (v4 : FVec Ideal S512x2048 .bf16) (v6 : FVec Ideal S384x2048 .bf16)
    (r : Fin 512) (j : Fin 384) : k0_pay11 (F := Ideal) v0 v4 v6 (ix2 r j) =
      (∑ x, v4 (ix2 r x) * v6 (ix2 j x)) * (v0 (ix2 r j) * rinv w384 (fun k => v0 (ix2 r k))) := by
  pointwise [k0_pay11, k0_pay10, k0_pay9, k0_pay8, k0_pay7]
  rfl
theorem pay19_at (v34 : FVec Ideal S512x2048 .bf16) (v78 : FVec Ideal S256x2048 .bf16) (v81 : FVec Ideal S512x1024 .bf16) (v83 : FVec Ideal S256x1024 .bf16)
    (r : Fin 512) (k : Fin 256) : k0_pay19 (F := Ideal) (k0_pay18 (k0_pay13 v34) v78) v81 v83 (ix2 r k) =
      (∑ x, v34 (ix2 r x) * v78 (ix2 k x)) + ∑ x, v81 (ix2 r x) * v83 (ix2 k x) := by
  pointwise [k0_pay19, k0_pay18, k0_pay13]
theorem pay24_at (v80 : FVec Ideal S512x256 .f32) (v81 : FVec Ideal S512x1024 .bf16) (v83 : FVec Ideal S256x1024 .bf16) (v87 : FVec Ideal S512x256 .f32)
    (v89 : FVec Ideal S1x256 .f32) (r : Fin 512) (j : Fin 256) : k0_pay24 (F := Ideal) v80 v81 v83 v87 v89 (ix2 r j) =
      kdx w256 (fun k => v87 (ix2 r k)) (fun k => v89 (ix2 0 k)) (fun k => k0_pay19 (F := Ideal) v80 v81 v83 (ix2 r k)) j := by
  pointwise [k0_pay24, k0_pay22, k0_pay21, k0_pay20]
  rfl
theorem pay23_at (v80 : FVec Ideal S512x256 .f32) (v81 : FVec Ideal S512x1024 .bf16) (v83 : FVec Ideal S256x1024 .bf16) (v87 : FVec Ideal S512x256 .f32)
    (r : Fin 512) (j : Fin 256) : k0_pay23 (F := Ideal) v80 v81 v83 v87 (ix2 r j) =
      k0_pay19 (F := Ideal) v80 v81 v83 (ix2 r j) * (v87 (ix2 r j) * rinv w256 (fun k => v87 (ix2 r k))) := by
  pointwise [k0_pay23, k0_pay22, k0_pay21, k0_pay20]
  rfl
theorem pay4_at (v31 : FVec Ideal S512x384 .f32) (v : FVec Ideal S8x384 .f32) (r : Fin 8) (j : Fin 384) :
    k0_pay4 (F := Ideal) v31 v (ix2 r j) = v (ix2 r j) + ∑ x : Fin 64, v31 (ix2 ⟨x.val * 8 + r.val, by omega⟩ j) := by
  pointwise [k0_pay4]
theorem pay6_at (v113 : FVec Ideal S512x256 .f32) (v : FVec Ideal S8x256 .f32) (r : Fin 8) (j : Fin 256) :
    k0_pay6 (F := Ideal) v113 v (ix2 r j) = v (ix2 r j) + ∑ x : Fin 64, v113 (ix2 ⟨x.val * 8 + r.val, by omega⟩ j) := by
  pointwise [k0_pay6]
theorem pay3_at (i : S8x384.Idx) : k0_pay3 (F := Ideal) i = 0 := by pointwise [k0_pay3]
theorem pay5_at (i : S8x256.Idx) : k0_pay5 (F := Ideal) i = 0 := by pointwise [k0_pay5]
theorem pay16_at (i : S512x128.Idx) : k0_pay16 (F := Ideal) i = 0 := by pointwise [k0_pay16]
theorem pay1_at (v : FVec Ideal S512x1536 .bf16) (r : Fin 512) (j : Fin 1536) : k0_pay1 (F := Ideal) v (ix2 r j) = v (ix2 r j) := by pointwise [k0_pay1]
theorem pay2_at (v : FVec Ideal S512x128 .f32) (r : Fin 512) (j : Fin 128) : k0_pay2 (F := Ideal) v (ix2 r j) = v (ix2 r j) := by pointwise [k0_pay2]
theorem pay25_at (v : FVec Ideal S512x1024 .bf16) (r : Fin 512) (j : Fin 1024) : k0_pay25 (F := Ideal) v (ix2 r j) = v (ix2 r j) := by pointwise [k0_pay25]

/-- The upper half of the lanes of a row's eight heads, added up. -/
def heads (v : FVec Ideal S512x2048 .bf16) (r : Fin 512) (l : Fin 128) : EReal :=
  v (ix2 r ⟨128 + l.val, by omega⟩) + v (ix2 r ⟨384 + l.val, by omega⟩) + v (ix2 r ⟨640 + l.val, by omega⟩) + v (ix2 r ⟨896 + l.val, by omega⟩) + v (ix2 r ⟨1152 + l.val, by omega⟩) + v (ix2 r ⟨1408 + l.val, by omega⟩) + v (ix2 r ⟨1664 + l.val, by omega⟩) + v (ix2 r ⟨1920 + l.val, by omega⟩)
theorem heads_eq (v : FVec Ideal S512x2048 .bf16) (r : Fin 512) (l : Fin 128) :
    heads v r l = ∑ h : Fin 8, v (ix2 r (cw h ⟨128 + l.val, by omega⟩)) := by
  have e : ∀ (h : Fin 8) (n : ℕ) (hn : n + l.val < 2048), n = h.val * 256 + 128 → v (ix2 r ⟨n + l.val, hn⟩) = v (ix2 r (cw h ⟨128 + l.val, by omega⟩)) :=
    fun h n hn e => congrArg (fun k => v (ix2 r k)) (Fin.ext (by show n + l.val = h.val * 256 + (128 + l.val); omega))
  rw [Fin.sum_univ_eight]
  unfold heads
  rw [e 0 128 _ rfl, e 1 384 _ rfl, e 2 640 _ rfl, e 3 896 _ rfl, e 4 1152 _ rfl, e 5 1408 _ rfl, e 6 1664 _ rfl, e 7 1920 _ rfl]
theorem pay17_at (v34 : FVec Ideal S512x2048 .bf16) (v63 v65 v67 : FVec Ideal S512x128 .f32) (r : Fin 512) (l : Fin 128) :
    k0_pay17 (F := Ideal) (k0_pay13 v34) (k0_pay14 v34) k0_pay15 v63 v65 v67 (ix2 r l) =
      heads v34 r l * v63 (ix2 r l)
        + heads v34 r ⟨(l.val + 128 - 32) % 128, by omega⟩ * v65 (ix2 r ⟨(l.val + 128 - 32) % 128, by omega⟩)
        + heads v34 r ⟨(l.val + 128 - 96) % 128, by omega⟩ * v67 (ix2 r ⟨(l.val + 128 - 96) % 128, by omega⟩) := by
  pointwise [k0_pay17, k0_pay15, k0_pay14, k0_pay13]
  rfl
end Cert.Kernel3Ideal.Layout
end
-- ==== Proof.QArr.lean ====
/- What the call leaves in the arrays it writes: block by block, each row's gradients from that row alone, and the two
   gains' gradients added up over the rows. -/
module

public import proofs.«01_k».proof.Proof.QBlocks
public import proofs.«01_k».proof.Proof.QPay

@[expose] public section
set_option maxRecDepth 16384
noncomputable section
open Idealize.ShloMosaic Idealize.ShloMosaic.TcCoe Idealize.SL.Sem
open Idealize.ShloMosaic.Pipeline (Dat)
namespace Cert.Kernel3Ideal.Layout
open Cert.Kernel3Ideal Cert.Kernel3Ideal.Gen Cert.Proof.Rms
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![0, 0] ∧ win0_9.index t = ![0, 0] ∧ win0_10.index t = ![0, 0] ∧ win0_11.index t = ![0, 0] ∧ win0_12.index t = ![0, 0] ∧ win0_13.index t = ![t.val, 0] ∧ win0_14.index t = ![t.val, 0] ∧ win0_15.index t = ![t.val, 0] ∧ win0_16.index t = ![t.val, 0] ∧ win0_17.index t = ![0, 0] ∧ win0_18.index t = ![0, 0] :=
  (by decide +kernel : ∀ t : Fin grid0.N, _)
/-- The padded array's row a block's row is. -/
abbrev prow (t : Fin cfg0.N) (r : Fin 512) : Fin 16896 := ⟨t.val * 512 + r.val, by have : t.val < 33 := t.isLt; omega⟩
theorem blk0 (t : Fin cfg0.N) (r : Fin 512) (j : Fin 2048) : (iblk m c 0 t : FVec Ideal S512x2048 .bf16) (ix2 r j) = eDq m c (ix2 (prow t r) j) := by
  blk_point [iblk, eDq, idx t]
theorem blk1 (t : Fin cfg0.N) (r : Fin 512) (j : Fin 2048) : (iblk m c 1 t : FVec Ideal S512x2048 .bf16) (ix2 r j) = eDk m c (ix2 (prow t r) j) := by
  blk_point [iblk, eDk, idx t]
theorem blk2 (t : Fin cfg0.N) (r : Fin 512) (j : Fin 1024) : (iblk m c 2 t : FVec Ideal S512x1024 .bf16) (ix2 r j) = eDv m c (ix2 (prow t r) j) := by
  blk_point [iblk, eDv, idx t]
theorem blk3 (t : Fin cfg0.N) (r : Fin 512) (j : Fin 384) : (iblk m c 3 t : FVec Ideal S512x384 .f32) (ix2 r j) = eCq m c (ix2 (prow t r) j) := by
  blk_point [iblk, eCq, idx t]
theorem blk4 (t : Fin cfg0.N) (r : Fin 512) (j : Fin 256) : (iblk m c 4 t : FVec Ideal S512x256 .f32) (ix2 r j) = eCkv m c (ix2 (prow t r) j) := by
  blk_point [iblk, eCkv, idx t]
theorem blk5 (t : Fin cfg0.N) (r : Fin 512) (j : Fin 128) : (iblk m c 5 t : FVec Ideal S512x128 .f32) (ix2 r j) = eCos m c (ix2 (prow t r) j) := by
  blk_point [iblk, eCos, idx t]
theorem blk6 (t : Fin cfg0.N) (r : Fin 512) (j : Fin 128) : (iblk m c 6 t : FVec Ideal S512x128 .f32) (ix2 r j) = eLow m c (ix2 (prow t r) j) := by
  blk_point [iblk, eLow, idx t]
theorem blk7 (t : Fin cfg0.N) (r : Fin 512) (j : Fin 128) : (iblk m c 7 t : FVec Ideal S512x128 .f32) (ix2 r j) = eHigh m c (ix2 (prow t r) j) := by
  blk_point [iblk, eHigh, idx t]
theorem blk8 (t : Fin cfg0.N) (j : Fin 384) : (iblk m c 8 t : FVec Ideal S1x384 .f32) (ix2 0 j) = eGq m c (ix2 0 j) := by
  blk_point [iblk, eGq, idx t]
theorem blk9 (t : Fin cfg0.N) (j : Fin 256) : (iblk m c 9 t : FVec Ideal S1x256 .f32) (ix2 0 j) = eGkv m c (ix2 0 j) := by
  blk_point [iblk, eGkv, idx t]
theorem blk10 (t : Fin cfg0.N) (r : Fin 384) (j : Fin 2048) : (iblk m c 10 t : FVec Ideal S384x2048 .bf16) (ix2 r j) = eWq m c (ix2 r j) := by
  blk_point [iblk, eWq, idx t]
theorem blk11 (t : Fin cfg0.N) (r : Fin 256) (j : Fin 2048) : (iblk m c 11 t : FVec Ideal S256x2048 .bf16) (ix2 r j) = eWk m c (ix2 r j) := by
  blk_point [iblk, eWk, idx t]
theorem blk12 (t : Fin cfg0.N) (r : Fin 256) (j : Fin 1024) : (iblk m c 12 t : FVec Ideal S256x1024 .bf16) (ix2 r j) = eWv m c (ix2 r j) := by
  blk_point [iblk, eWv, idx t]
theorem blk13 (t : Fin cfg0.N) (r : Fin 512) (j : Fin 1024) : (iblk m c 13 t : FVec Ideal S512x1024 .bf16) (ix2 r j) = eDz m c (ix2 (prow t r) j) := by
  blk_point [iblk, eDz, idx t]
theorem blk14 (t : Fin cfg0.N) (r : Fin 512) (j : Fin 1536) : (iblk m c 14 t : FVec Ideal S512x1536 .bf16) (ix2 r j) = eDx m c (ix2 (prow t r) j) := by
  blk_point [iblk, eDx, idx t]
theorem blk15 (t : Fin cfg0.N) (r : Fin 512) (j : Fin 128) : (iblk m c 15 t : FVec Ideal S512x128 .f32) (ix2 r j) = eDt m c (ix2 (prow t r) j) := by
  blk_point [iblk, eDt, idx t]

/-- A padded row's two latent cotangents, and what the row gives each result. -/
def TQ (p : Fin 16896) (k : Fin 384) : EReal := ∑ x, eDq m c (ix2 p x) * eWq m c (ix2 k x)
def TKV (p : Fin 16896) (k : Fin 256) : EReal :=
  (∑ x, eDk m c (ix2 p x) * eWk m c (ix2 k x)) + ∑ x, eDv m c (ix2 p x) * eWv m c (ix2 k x)
def DCQ (p : Fin 16896) (j : Fin 384) : EReal := kdx w384 (fun k => eCq m c (ix2 p k)) (fun k => eGq m c (ix2 0 k)) (TQ m c p) j
def DCKV (p : Fin 16896) (j : Fin 256) : EReal := kdx w256 (fun k => eCkv m c (ix2 p k)) (fun k => eGkv m c (ix2 0 k)) (TKV m c p) j
def GQ (p : Fin 16896) (j : Fin 384) : EReal := TQ m c p j * (eCq m c (ix2 p j) * rinv w384 (fun k => eCq m c (ix2 p k)))
def GKV (p : Fin 16896) (j : Fin 256) : EReal := TKV m c p j * (eCkv m c (ix2 p j) * rinv w256 (fun k => eCkv m c (ix2 p k)))
def HD (p : Fin 16896) (l : Fin 128) : EReal := ∑ h : Fin 8, eDk m c (ix2 p (cw h ⟨128 + l.val, by omega⟩))
def DKR (p : Fin 16896) (l : Fin 128) : EReal :=
  HD m c p l * eCos m c (ix2 p l)
    + HD m c p ⟨(l.val + 128 - 32) % 128, by omega⟩ * eLow m c (ix2 p ⟨(l.val + 128 - 32) % 128, by omega⟩)
    + HD m c p ⟨(l.val + 128 - 96) % 128, by omega⟩ * eHigh m c (ix2 p ⟨(l.val + 128 - 96) % 128, by omega⟩)

theorem tq_of (t : Fin cfg0.N) (v4 : FVec Ideal S512x2048 .bf16) (v6 : FVec Ideal S384x2048 .bf16)
    (h4 : ∀ r j, v4 (ix2 r j) = eDq m c (ix2 (prow t r) j)) (h6 : ∀ k j, v6 (ix2 k j) = eWq m c (ix2 k j)) (r : Fin 512) (k : Fin 384) :
    (∑ x, v4 (ix2 r x) * v6 (ix2 k x)) = TQ m c (prow t r) k :=
  Finset.sum_congr rfl fun x _ => congrArg₂ (· * ·) (h4 r x) (h6 k x)
theorem dcq_of (t : Fin cfg0.N) (v0 : FVec Ideal S512x384 .f32) (v2 : FVec Ideal S1x384 .f32) (v4 : FVec Ideal S512x2048 .bf16) (v6 : FVec Ideal S384x2048 .bf16)
    (h0 : ∀ r j, v0 (ix2 r j) = eCq m c (ix2 (prow t r) j)) (h2 : ∀ j, v2 (ix2 0 j) = eGq m c (ix2 0 j))
    (h4 : ∀ r j, v4 (ix2 r j) = eDq m c (ix2 (prow t r) j)) (h6 : ∀ k j, v6 (ix2 k j) = eWq m c (ix2 k j)) (r : Fin 512) (j : Fin 384) :
    k0_pay12 (F := Ideal) v0 v2 v4 v6 (ix2 r j) = DCQ m c (prow t r) j := by
  refine (pay12_at _ _ _ _ r j).trans ?_
  unfold DCQ
  rw [funext fun k => h0 r k, funext h2, funext fun k => tq_of m c t v4 v6 h4 h6 r k]
theorem gq_of (t : Fin cfg0.N) (v0 : FVec Ideal S512x384 .f32) (v4 : FVec Ideal S512x2048 .bf16) (v6 : FVec Ideal S384x2048 .bf16)
    (h0 : ∀ r j, v0 (ix2 r j) = eCq m c (ix2 (prow t r) j))
    (h4 : ∀ r j, v4 (ix2 r j) = eDq m c (ix2 (prow t r) j)) (h6 : ∀ k j, v6 (ix2 k j) = eWq m c (ix2 k j)) (r : Fin 512) (j : Fin 384) :
    k0_pay11 (F := Ideal) v0 v4 v6 (ix2 r j) = GQ m c (prow t r) j := by
  refine (pay11_at _ _ _ r j).trans ?_
  unfold GQ
  rw [funext fun k => h0 r k, tq_of m c t v4 v6 h4 h6 r j, h0]
theorem bDCQ (t : Fin cfg0.N) (r : Fin 512) (j : Fin 384) :
    k0_pay12 (F := Ideal) (iblk m c 3 t) (iblk m c 8 t) (iblk m c 0 t) (iblk m c 10 t) (ix2 r j) = DCQ m c (prow t r) j :=
  dcq_of m c t _ _ _ _ (blk3 m c t) (blk8 m c t) (blk0 m c t) (blk10 m c t) r j
theorem bGQ (t : Fin cfg0.N) (r : Fin 512) (j : Fin 384) :
    k0_pay11 (F := Ideal) (iblk m c 3 t) (iblk m c 0 t) (iblk m c 10 t) (ix2 r j) = GQ m c (prow t r) j :=
  gq_of m c t _ _ _ (blk3 m c t) (blk0 m c t) (blk10 m c t) r j
/-- The block's cotangent of the keys' and values' latent rows. -/
abbrev bK (t : Fin cfg0.N) : FVec Ideal S512x256 .f32 := k0_pay18 (k0_pay13 (iblk m c 1 t)) (iblk m c 11 t)
theorem bTKV (t : Fin cfg0.N) (r : Fin 512) (k : Fin 256) :
    k0_pay19 (F := Ideal) (bK m c t) (iblk m c 2 t) (iblk m c 12 t) (ix2 r k) = TKV m c (prow t r) k :=
  (pay19_at _ _ _ _ r k).trans (congrArg₂ (· + ·)
    (Finset.sum_congr rfl fun x _ => congrArg₂ (· * ·) (blk1 m c t r x) (blk11 m c t k x))
    (Finset.sum_congr rfl fun x _ => congrArg₂ (· * ·) (blk2 m c t r x) (blk12 m c t k x)))
theorem bDCKV (t : Fin cfg0.N) (r : Fin 512) (j : Fin 256) :
    k0_pay24 (F := Ideal) (bK m c t) (iblk m c 2 t) (iblk m c 12 t) (iblk m c 4 t) (iblk m c 9 t) (ix2 r j) = DCKV m c (prow t r) j := by
  refine (pay24_at _ _ _ _ _ r j).trans ?_
  unfold DCKV
  rw [show (fun k => (iblk m c 4 t : FVec Ideal S512x256 .f32) (ix2 r k)) = _ from funext fun k => blk4 m c t r k,
    show (fun k => (iblk m c 9 t : FVec Ideal S1x256 .f32) (ix2 0 k)) = _ from funext fun k => blk9 m c t k]
  exact congrArg (fun f => kdx w256 _ _ f j) (funext fun k => bTKV m c t r k)
/-- The block's rows of the second gain's gradient. -/
abbrev bR (t : Fin cfg0.N) : FVec Ideal S512x256 .f32 := k0_pay23 (bK m c t) (iblk m c 2 t) (iblk m c 12 t) (iblk m c 4 t)
theorem bGKV (t : Fin cfg0.N) (r : Fin 512) (j : Fin 256) : bR m c t (ix2 r j) = GKV m c (prow t r) j := by
  refine (pay23_at _ _ _ _ r j).trans ?_
  unfold GKV
  rw [show (fun k => (iblk m c 4 t : FVec Ideal S512x256 .f32) (ix2 r k)) = _ from funext fun k => blk4 m c t r k]
  exact congrArg₂ (· * ·) (bTKV m c t r j) (congrArg (· * _) (blk4 m c t r j))
theorem bHD (t : Fin cfg0.N) (r : Fin 512) (l : Fin 128) : heads (iblk m c 1 t) r l = HD m c (prow t r) l :=
  (heads_eq _ r l).trans (Finset.sum_congr rfl fun h _ => blk1 m c t r _)
theorem bDKR (t : Fin cfg0.N) (r : Fin 512) (l : Fin 128) :
    k0_pay17 (F := Ideal) (k0_pay13 (iblk m c 1 t)) (k0_pay14 (iblk m c 1 t)) k0_pay15 (iblk m c 5 t) (iblk m c 6 t) (iblk m c 7 t) (ix2 r l)
      = DKR m c (prow t r) l :=
  (pay17_at _ _ _ _ r l).trans (congrArg₂ (· + ·) (congrArg₂ (· + ·)
    (congrArg₂ (· * ·) (bHD m c t r _) (blk5 m c t r _)) (congrArg₂ (· * ·) (bHD m c t r _) (blk6 m c t r _)))
    (congrArg₂ (· * ·) (bHD m c t r _) (blk7 m c t r _)))

/-- The packed gradient: its columns by what they are the gradient of. -/
def cell (p : Fin 16896) (v : Fin 3584) : EReal :=
  if h : v.val < 384 then DCQ m c p ⟨v.val, h⟩
  else if h : v.val < 640 then DCKV m c p ⟨v.val - 384, by omega⟩
  else if h : v.val < 768 then 0
  else if h : v.val < 896 then DKR m c p ⟨v.val - 768, by omega⟩
  else if h : v.val < 1920 then eDz m c (ix2 p ⟨v.val - 896, by omega⟩)
  else if h : v.val < 3456 then eDx m c (ix2 p ⟨v.val - 1920, by omega⟩)
  else eDt m c (ix2 p ⟨v.val - 3456, by omega⟩)
def OUT : FVec Ideal S16896x3584 .bf16 := fun i => cell m c (i 0) (i 1)
theorem OUT0 (p : Fin 16896) (j : Fin 384) : OUT m c (ix2 p ⟨0 + j.val, by omega⟩) = DCQ m c p j := by
  show cell m c p ⟨0 + j.val, _⟩ = _
  unfold cell
  rw [dif_pos (show 0 + j.val < 384 by omega)]
  exact congrArg (fun k => DCQ m c p k) (Fin.ext (by show 0 + j.val = j.val; omega))
theorem OUT1 (p : Fin 16896) (j : Fin 256) : OUT m c (ix2 p ⟨384 + j.val, by omega⟩) = DCKV m c p j := by
  show cell m c p ⟨384 + j.val, _⟩ = _
  unfold cell
  rw [dif_neg (show ¬ (384 + j.val < 384) by omega), dif_pos (show 384 + j.val < 640 by omega)]
  exact congrArg (fun k => DCKV m c p k) (Fin.ext (by show 384 + j.val - 384 = j.val; omega))
theorem OUT2 (p : Fin 16896) (j : Fin 128) : OUT m c (ix2 p ⟨640 + j.val, by omega⟩) = 0 := by
  show cell m c p ⟨640 + j.val, _⟩ = _
  unfold cell
  rw [dif_neg (show ¬ (640 + j.val < 384) by omega), dif_neg (show ¬ (640 + j.val < 640) by omega), dif_pos (show 640 + j.val < 768 by omega)]
theorem OUT3 (p : Fin 16896) (j : Fin 128) : OUT m c (ix2 p ⟨768 + j.val, by omega⟩) = DKR m c p j := by
  show cell m c p ⟨768 + j.val, _⟩ = _
  unfold cell
  rw [dif_neg (show ¬ (768 + j.val < 384) by omega), dif_neg (show ¬ (768 + j.val < 640) by omega), dif_neg (show ¬ (768 + j.val < 768) by omega), dif_pos (show 768 + j.val < 896 by omega)]
  exact congrArg (fun k => DKR m c p k) (Fin.ext (by show 768 + j.val - 768 = j.val; omega))
theorem OUT4 (p : Fin 16896) (j : Fin 1024) : OUT m c (ix2 p ⟨896 + j.val, by omega⟩) = eDz m c (ix2 p j) := by
  show cell m c p ⟨896 + j.val, _⟩ = _
  unfold cell
  rw [dif_neg (show ¬ (896 + j.val < 384) by omega), dif_neg (show ¬ (896 + j.val < 640) by omega), dif_neg (show ¬ (896 + j.val < 768) by omega), dif_neg (show ¬ (896 + j.val < 896) by omega), dif_pos (show 896 + j.val < 1920 by omega)]
  exact congrArg (fun k => eDz m c (ix2 p k)) (Fin.ext (by show 896 + j.val - 896 = j.val; omega))
theorem OUT5 (p : Fin 16896) (j : Fin 1536) : OUT m c (ix2 p ⟨1920 + j.val, by omega⟩) = eDx m c (ix2 p j) := by
  show cell m c p ⟨1920 + j.val, _⟩ = _
  unfold cell
  rw [dif_neg (show ¬ (1920 + j.val < 384) by omega), dif_neg (show ¬ (1920 + j.val < 640) by omega), dif_neg (show ¬ (1920 + j.val < 768) by omega), dif_neg (show ¬ (1920 + j.val < 896) by omega), dif_neg (show ¬ (1920 + j.val < 1920) by omega), dif_pos (show 1920 + j.val < 3456 by omega)]
  exact congrArg (fun k => eDx m c (ix2 p k)) (Fin.ext (by show 1920 + j.val - 1920 = j.val; omega))
theorem OUT6 (p : Fin 16896) (j : Fin 128) : OUT m c (ix2 p ⟨3456 + j.val, by omega⟩) = eDt m c (ix2 p j) := by
  show cell m c p ⟨3456 + j.val, _⟩ = _
  unfold cell
  rw [dif_neg (show ¬ (3456 + j.val < 384) by omega), dif_neg (show ¬ (3456 + j.val < 640) by omega), dif_neg (show ¬ (3456 + j.val < 768) by omega), dif_neg (show ¬ (3456 + j.val < 896) by omega), dif_neg (show ¬ (3456 + j.val < 1920) by omega), dif_neg (show ¬ (3456 + j.val < 3456) by omega)]
  exact congrArg (fun k => eDt m c (ix2 p k)) (Fin.ext (by show 3456 + j.val - 3456 = j.val; omega))

/-- The packed gradient as one block of rows sees it. -/
def G (t : Fin cfg0.N) : FVec Ideal S512x3584 .bf16 := fun y => OUT m c (ix2 (prow t (y 0)) (y 1))
theorem G_emb (t : Fin cfg0.N) (o n : ℕ) (inb) (x : (⟨2, ![512, n]⟩ : Shape).Idx) (h : o + (x 1).val < 3584) :
    G m c t ((Rect.unit (s := S512x3584) ![0, o] ![512, n] inb).emb x) = OUT m c (ix2 (prow t (x 0)) ⟨o + (x 1).val, h⟩) := by
  have e0 : (Rect.unit (s := S512x3584) ![0, o] ![512, n] inb).emb x 0 = x 0 := Fin.ext (by show 0 + 1 * (x 0).val = (x 0).val; omega)
  have e1 : (Rect.unit (s := S512x3584) ![0, o] ![512, n] inb).emb x 1 = ⟨o + (x 1).val, h⟩ := Fin.ext (by show o + 1 * (x 1).val = o + (x 1).val; omega)
  exact congrArg₂ (fun a b => OUT m c (ix2 (prow t a) b)) e0 e1
theorem ix_eta {a b : ℕ} (x : (⟨2, ![a, b]⟩ : Shape).Idx) : x = ix2 (x 0) (x 1) := by
  funext k
  match k with
  | ⟨0, _⟩ => rfl
  | ⟨1, _⟩ => rfl
theorem piece (t : Fin cfg0.N) (o n : ℕ) (inb) (f : FVec Ideal ⟨2, ![512, n]⟩ .bf16) (hn : o + n ≤ 3584)
    (hf : ∀ (r : Fin 512) (j : Fin n), f (ix2 r j) = OUT m c (ix2 (prow t r) ⟨o + j.val, by omega⟩)) (x : (⟨2, ![512, n]⟩ : Shape).Idx) :
    f x = G m c t ((Rect.unit (s := S512x3584) ![0, o] ![512, n] inb).emb x) := by
  have hx : (x 1).val < n := (x 1).isLt
  rw [G_emb m c t o n inb x (by omega)]
  exact (congrArg f (ix_eta x)).trans (hf (x 0) (x 1))
theorem piece3456 (t : Fin cfg0.N) (x : (⟨2, ![512, 128]⟩ : Shape).Idx) :
    (k0_pay2 (F := Ideal) (iblk m c 15 t)) x = G m c t ((Rect.unit (s := S512x3584) ![0, 3456] ![512, 128] inb_S512x3584_S512x128_0_3456).emb x) :=
  piece m c t 3456 128 _ _ (by norm_num) (fun r j => (pay2_at (iblk m c 15 t) r j).trans ((blk15 m c t r j).trans (OUT6 m c _ j).symm)) x
theorem piece1920 (t : Fin cfg0.N) (x : (⟨2, ![512, 1536]⟩ : Shape).Idx) :
    (k0_pay1 (F := Ideal) (iblk m c 14 t)) x = G m c t ((Rect.unit (s := S512x3584) ![0, 1920] ![512, 1536] inb_S512x3584_S512x1536_0_1920).emb x) :=
  piece m c t 1920 1536 _ _ (by norm_num) (fun r j => (pay1_at (iblk m c 14 t) r j).trans ((blk14 m c t r j).trans (OUT5 m c _ j).symm)) x
theorem piece896 (t : Fin cfg0.N) (x : (⟨2, ![512, 1024]⟩ : Shape).Idx) :
    (k0_pay25 (F := Ideal) (iblk m c 13 t)) x = G m c t ((Rect.unit (s := S512x3584) ![0, 896] ![512, 1024] inb_S512x3584_S512x1024_0_896).emb x) :=
  piece m c t 896 1024 _ _ (by norm_num) (fun r j => (pay25_at (iblk m c 13 t) r j).trans ((blk13 m c t r j).trans (OUT4 m c _ j).symm)) x
theorem piece384 (t : Fin cfg0.N) (x : (⟨2, ![512, 256]⟩ : Shape).Idx) :
    (k0_pay24 (F := Ideal) (bK m c t) (iblk m c 2 t) (iblk m c 12 t) (iblk m c 4 t) (iblk m c 9 t)) x = G m c t ((Rect.unit (s := S512x3584) ![0, 384] ![512, 256] inb_S512x3584_S512x256_0_384).emb x) :=
  piece m c t 384 256 _ _ (by norm_num) (fun r j => (bDCKV m c t r j).trans (OUT1 m c _ j).symm) x
theorem piece768 (t : Fin cfg0.N) (x : (⟨2, ![512, 128]⟩ : Shape).Idx) :
    (k0_pay17 (F := Ideal) (k0_pay13 (iblk m c 1 t)) (k0_pay14 (iblk m c 1 t)) k0_pay15 (iblk m c 5 t) (iblk m c 6 t) (iblk m c 7 t)) x = G m c t ((Rect.unit (s := S512x3584) ![0, 768] ![512, 128] inb_S512x3584_S512x128_0_768).emb x) :=
  piece m c t 768 128 _ _ (by norm_num) (fun r j => (bDKR m c t r j).trans (OUT3 m c _ j).symm) x
theorem piece640 (t : Fin cfg0.N) (x : (⟨2, ![512, 128]⟩ : Shape).Idx) :
    (k0_pay16 (F := Ideal)) x = G m c t ((Rect.unit (s := S512x3584) ![0, 640] ![512, 128] inb_S512x3584_S512x128_0_640).emb x) :=
  piece m c t 640 128 _ _ (by norm_num) (fun r j => (pay16_at _).trans (OUT2 m c _ j).symm) x
theorem piece0 (t : Fin cfg0.N) (x : (⟨2, ![512, 384]⟩ : Shape).Idx) :
    (k0_pay12 (F := Ideal) (iblk m c 3 t) (iblk m c 8 t) (iblk m c 0 t) (iblk m c 10 t)) x = G m c t ((Rect.unit (s := S512x3584) ![0, 0] ![512, 384] inb_S512x3584_S512x384_0_0).emb x) :=
  piece m c t 0 384 _ _ (by norm_num) (fun r j => (bDCQ m c t r j).trans (OUT0 m c _ j).symm) x
theorem pieces_at (t : Fin cfg0.N) : ∀ p ∈ pieces m c t, ∀ x : p.1.shape.Idx, p.2 x = G m c t (p.1.emb x) := by
  simp only [pieces, List.forall_mem_cons]
  exact ⟨piece3456 m c t, piece1920 m c t, piece896 m c t, piece384 m c t, piece768 m c t, piece640 m c t, piece0 m c t, fun p hp => absurd hp List.not_mem_nil⟩
theorem out16_at (t : Fin cfg0.N) : (outsAt0 m c t.val t.isLt).1 = G m c t := by
  rw [out16]
  funext y
  exact View.canon_apply_of_pieces (G m c t) (pieces m c t) (pieces_at m c t) y
    (View.cover_of_tiledBy (pieces m c t) ![512, 128] (by sl_kernel_rfl) y)

/-- The eight partial sums of a gain's gradient: row `r` of the block holds the rows congruent to `r`. -/
def part {n : ℕ} (g : Fin 16896 → Fin n → EReal) : FVec Ideal ⟨2, ![8, n]⟩ .f32 := fun i =>
  ∑ t : Fin 33, ∑ x : Fin 64, g ⟨t.val * 512 + (x.val * 8 + (i 0).val), by have : (i 0).val < 8 := (i 0).isLt; omega⟩ (i 1)
theorem at16 (F : FVec Ideal S16896x3584 .bf16) (t : Fin cfg0.N) (y0 : Fin 512) (y1 : Fin 3584) :
    F (((View.whole main_v62_0).slice (win0_16.rect t)).emb (ix2 y0 y1)) = F (ix2 (prow t y0) y1) := by blk_point [idx t]
theorem at17 (F : FVec Ideal S8x384 .f32) (t : Fin cfg0.N) (y0 : Fin 8) (y1 : Fin 384) :
    F (((View.whole main_v62_1).slice (win0_17.rect t)).emb (ix2 y0 y1)) = F (ix2 y0 y1) := by blk_point [idx t]
theorem at18 (F : FVec Ideal S8x256 .f32) (t : Fin cfg0.N) (y0 : Fin 8) (y1 : Fin 256) :
    F (((View.whole main_v62_2).slice (win0_18.rect t)).emb (ix2 y0 y1)) = F (ix2 y0 y1) := by blk_point [idx t]

theorem arr16 : (dats m 0 c).arrAt 16 (cfgs 0).N = OUT m c := by
  refine (dats m 0 c).arrAt_eq_of_covers 16 _ (by decide +kernel) fun t _ y => ?_
  blk_simp
  rw [after0_16, out16_at]
  idx_vars y
  exact (at16 (OUT m c) t y0 y1).symm
theorem acc17 (t : Fin cfg0.N) (hf : t.val % 33 = 32) (r : Fin 8) (j : Fin 384) :
    (outsAt0 m c t.val t.isLt).2.1 (ix2 r j) = part (GQ m c) (ix2 r j) := by
  rw [Pipeline.eq_sum_fin_of_reset_step_apply_of_flush (fun n h => (outsAt0 m c n h).2.1) 33 (fun _ => 0)
    (fun t y => ∑ x : Fin 64, (k0_pay11 (F := Ideal) (iblk m c 3 t) (iblk m c 0 t) (iblk m c 10 t) : FVec Ideal S512x384 .f32) (ix2 ⟨x.val * 8 + (y 0).val, by have : (y 0).val < 8 := (y 0).isLt; omega⟩ (y 1)))
    (fun t h y => ?_) (fun t h y => ?_) t hf (ix2 r j), zero_add]
  · have e : t.val / 33 = 0 := by have : t.val < 33 := t.isLt; omega
    refine Finset.sum_congr rfl fun s _ => Finset.sum_congr rfl fun x _ => (bGQ m c _ _ _).trans ?_
    refine congrFun (congrArg (GQ m c) (Fin.ext ?_)) j
    show (33 * (t.val / 33) + s.val) * 512 + _ = s.val * 512 + _
    rw [e]; simp
  · idx_vars y
    rw [out17_A m c t h]
    exact (pay4_at _ _ y0 y1).trans (by rw [pay3_at])
  · idx_vars y
    rw [out17_B m c t h]
    exact pay4_at _ _ y0 y1
theorem arr17 : (dats m 0 c).arrAt 17 (cfgs 0).N = part (GQ m c) := by
  refine (dats m 0 c).arrAt_eq_of_covers 17 _ (by decide +kernel) fun t hf y => ?_
  blk_simp
  rw [after0_17]
  idx_vars y
  exact (acc17 m c t ((flush0_17 t).mp hf) y0 y1).trans (at17 (part (GQ m c)) t y0 y1).symm
theorem acc18 (t : Fin cfg0.N) (hf : t.val % 33 = 32) (r : Fin 8) (j : Fin 256) :
    (outsAt0 m c t.val t.isLt).2.2 (ix2 r j) = part (GKV m c) (ix2 r j) := by
  rw [Pipeline.eq_sum_fin_of_reset_step_apply_of_flush (fun n h => (outsAt0 m c n h).2.2) 33 (fun _ => 0)
    (fun t y => ∑ x : Fin 64, bR m c t (ix2 ⟨x.val * 8 + (y 0).val, by have : (y 0).val < 8 := (y 0).isLt; omega⟩ (y 1)))
    (fun t h y => ?_) (fun t h y => ?_) t hf (ix2 r j), zero_add]
  · have e : t.val / 33 = 0 := by have : t.val < 33 := t.isLt; omega
    refine Finset.sum_congr rfl fun s _ => Finset.sum_congr rfl fun x _ => (bGKV m c _ _ _).trans ?_
    refine congrFun (congrArg (GKV m c) (Fin.ext ?_)) j
    show (33 * (t.val / 33) + s.val) * 512 + _ = s.val * 512 + _
    rw [e]; simp
  · idx_vars y
    rw [out18_A m c t h]
    exact (pay6_at _ _ y0 y1).trans (by rw [pay5_at])
  · idx_vars y
    rw [out18_B m c t h]
    exact pay6_at _ _ y0 y1
theorem arr18 : (dats m 0 c).arrAt 18 (cfgs 0).N = part (GKV m c) := by
  refine (dats m 0 c).arrAt_eq_of_covers 18 _ (by decide +kernel) fun t hf y => ?_
  blk_simp
  rw [after0_18]
  idx_vars y
  exact (acc18 m c t ((flush0_18 t).mp hf) y0 y1).trans (at18 (part (GKV m c)) t y0 y1).symm

/-- The eight partial sums together are the sum over all rows. -/
theorem part_sum {n : ℕ} (g : Fin 16896 → Fin n → EReal) (j : Fin n) : ∑ r : Fin 8, part g (ix2 r j) = ∑ p, g p j := by
  show ∑ r : Fin 8, ∑ t : Fin 33, ∑ x : Fin 64, g ⟨t.val * 512 + (x.val * 8 + r.val), _⟩ j = _
  rw [Finset.sum_comm]
  refine (Finset.sum_congr rfl fun t _ => (Finset.sum_comm.trans ?_)).trans (Fin.sum_mul_add_fin 33 512 fun p => g p j)
  exact Fin.sum_mul_add_fin 64 8 fun q : Fin 512 => g ⟨t.val * 512 + q.val, by omega⟩ j
/-- Rows of padding that contribute nothing leave the sum over the rows themselves. -/
theorem sum_padded (g : Fin 16896 → EReal) (h0 : ∀ p, p.val < 496 → g p = 0) : ∑ p, g p = ∑ i : Fin 16400, g (up i) := by
  rw [Fin.sum_univ_add (a := 496) (b := 16400) g, Finset.sum_eq_zero fun i _ => h0 (Fin.castAdd 16400 i) i.isLt, zero_add]
  rfl
end Cert.Kernel3Ideal.Layout
end
-- ==== Proof.QTail.lean ====
/- What the program's results hold: the lines after the call cut the padding off, take the packed gradient apart, and add
   the partial sums. -/
module

public import proofs.«01_k».proof.Proof.QArr
public import Idealize.ShloMosaic.Lib.Claim

@[expose] public section
set_option maxRecDepth 16384
noncomputable section
namespace Cert.Kernel3Ideal.Layout
open Idealize.ShloMosaic Idealize.ShloMosaic.TcCoe Idealize.SL.Sem
open Cert.Kernel3Ideal Cert.Kernel3Ideal.Gen Cert.Proof.Rms

variable (m : (ℓ : Loc nD τ sig) → Buf (Elt Ideal) ℓ) (c : Dev nD)

def t64 : FVec Ideal S16400x384 .bf16 := Pipeline.afterTail₀ cfgs (dats m) 0 (V0 m) [hostOps1] c main_v64
def t65 : FVec Ideal S16400x256 .bf16 := Pipeline.afterTail₀ cfgs (dats m) 0 (V0 m) [hostOps1] c main_v65
def t66 : FVec Ideal S16400x64 .bf16 := Pipeline.afterTail₀ cfgs (dats m) 0 (V0 m) [hostOps1] c main_v66
def t67 : FVec Ideal S16400x1024 .bf16 := Pipeline.afterTail₀ cfgs (dats m) 0 (V0 m) [hostOps1] c main_v67
def t68 : FVec Ideal S16400x1536 .bf16 := Pipeline.afterTail₀ cfgs (dats m) 0 (V0 m) [hostOps1] c main_v68
def t69 : FVec Ideal S16400x16 .bf16 := Pipeline.afterTail₀ cfgs (dats m) 0 (V0 m) [hostOps1] c main_v69
def t70 : FVec Ideal S384 .f32 := Pipeline.afterTail₀ cfgs (dats m) 0 (V0 m) [hostOps1] c main_v70
def t71 : FVec Ideal S256 .f32 := Pipeline.afterTail₀ cfgs (dats m) 0 (V0 m) [hostOps1] c main_v71
theorem w16 : Pipeline.withArrays (cfgs 0).spec c (V0 m c) (fun w => (dats m 0 c).arrAt w (cfgs 0).N) (Proc.tc.devRef main_v62_0) = OUT m c :=
  (Pipeline.withArrays_arr (cfgs 0).spec (by decide) c _ _ 16).trans (arr16 m c)
theorem w17 : Pipeline.withArrays (cfgs 0).spec c (V0 m c) (fun w => (dats m 0 c).arrAt w (cfgs 0).N) (Proc.tc.devRef main_v62_1) = part (GQ m c) :=
  (Pipeline.withArrays_arr (cfgs 0).spec (by decide) c _ _ 17).trans (arr17 m c)
theorem w18 : Pipeline.withArrays (cfgs 0).spec c (V0 m c) (fun w => (dats m 0 c).arrAt w (cfgs 0).N) (Proc.tc.devRef main_v62_2) = part (GKV m c) :=
  (Pipeline.withArrays_arr (cfgs 0).spec (by decide) c _ _ 18).trans (arr18 m c)
theorem t64_at (i : Fin 16400) (j : Fin 384) : t64 m c (ix2 i j) = DCQ m c (up i) j := by
  refine Eq.trans ?_ (OUT0 m c (up i) j)
  unfold t64 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w16]
  generalize OUT m c = f
  pointwise
theorem t65_at (i : Fin 16400) (j : Fin 256) : t65 m c (ix2 i j) = DCKV m c (up i) j := by
  refine Eq.trans ?_ (OUT1 m c (up i) j)
  unfold t65 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w16]
  generalize OUT m c = f
  pointwise
theorem t66_at (i : Fin 16400) (j : Fin 64) : t66 m c (ix2 i j) = DKR m c (up i) ⟨j.val, by omega⟩ := by
  refine Eq.trans ?_ (OUT3 m c (up i) ⟨j.val, by omega⟩)
  unfold t66 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w16]
  generalize OUT m c = f
  pointwise
theorem t67_at (i : Fin 16400) (j : Fin 1024) : t67 m c (ix2 i j) = eDz m c (ix2 (up i) j) := by
  refine Eq.trans ?_ (OUT4 m c (up i) j)
  unfold t67 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w16]
  generalize OUT m c = f
  pointwise
theorem t68_at (i : Fin 16400) (j : Fin 1536) : t68 m c (ix2 i j) = eDx m c (ix2 (up i) j) := by
  refine Eq.trans ?_ (OUT5 m c (up i) j)
  unfold t68 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w16]
  generalize OUT m c = f
  pointwise
theorem t69_at (i : Fin 16400) (j : Fin 16) : t69 m c (ix2 i j) = eDt m c (ix2 (up i) ⟨j.val, by omega⟩) := by
  refine Eq.trans ?_ (OUT6 m c (up i) ⟨j.val, by omega⟩)
  unfold t69 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w16]
  generalize OUT m c = f
  pointwise
theorem t70_at (j : Fin 384) : t70 m c (ix1 j) = ∑ p, GQ m c p j := by
  rw [← part_sum]
  unfold t70 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w17]
  pointwise
theorem t71_at (j : Fin 256) : t71 m c (ix1 j) = ∑ p, GKV m c p j := by
  rw [← part_sum]
  unfold t71 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w18]
  pointwise
end Cert.Kernel3Ideal.Layout
end
-- ==== Proof.QVal.lean ====
/- A padded row's gradients, of the arguments: at a row of the sequence they are the row's own, at a row of padding the
   gains' gradients get nothing. -/
module

public import proofs.«01_k».proof.Proof.QArr

@[expose] public section
set_option maxRecDepth 16384
noncomputable section
namespace Cert.Kernel3Ideal.Layout
open Idealize.ShloMosaic Idealize.ShloMosaic.TcCoe Idealize.SL.Sem
open Cert.Kernel3Ideal Cert.Kernel3Ideal.Gen Cert.Proof.Rms

variable (m : (ℓ : Loc nD τ sig) → Buf (Elt Ideal) ℓ) (c : Dev nD)

theorem TQ_high (i : Fin 16400) (k : Fin 384) :
    TQ m c (up i) k = tq (fun h l => a6 m c (ix3 i h l)) (fun a b => a4 m c (ix2 a b)) k := by
  obtain ⟨h0, _, _, _, _, _, _, _, _, _, h10, _⟩ := entry m c
  unfold TQ
  rw [h0, h10]
  refine (Fin.sum_mul_add_fin 8 256 fun x => hDq (a6 m c) (ix2 (up i) x) * hWq (a4 m c) (ix2 k x)).symm.trans ?_
  refine Finset.sum_congr rfl fun h _ => ?_
  refine (Fin.sum_univ_add (a := 192) (b := 64) fun l : Fin 256 => hDq (a6 m c) (ix2 (up i) (cw h l)) * hWq (a4 m c) (ix2 k (cw h l))).trans ?_
  rw [Finset.sum_eq_zero (s := (Finset.univ : Finset (Fin 64))), add_zero]
  · exact Finset.sum_congr rfl fun l _ => congrArg₂ (· * ·) (hDq_in (a6 m c) i h l) (hWq_in (a4 m c) k h l)
  · intro l _
    refine (congrArg (· * _) (hDq_out (a6 m c) (up i) h l)).trans ?_
    exact zero_mul _
theorem TKV_high (i : Fin 16400) (k : Fin 256) :
    TKV m c (up i) k = tkv (fun h l => a7 m c (ix3 i h l)) (fun h l => a9 m c (ix3 i h l)) (fun a b => a5 m c (ix2 a b)) k := by
  obtain ⟨_, h1, h2, _, _, _, _, _, _, _, _, h11, h12, _⟩ := entry m c
  unfold TKV tkv
  rw [h1, h2, h11, h12]
  refine congrArg₂ (· + ·) ?_ ?_
  · refine (Fin.sum_mul_add_fin 8 256 fun x => hDq (joined (a7 m c) (a8 m c)) (ix2 (up i) x) * hWk (a5 m c) (ix2 k x)).symm.trans ?_
    refine Finset.sum_congr rfl fun h _ => ?_
    refine (Fin.sum_univ_add (a := 128) (b := 128) fun l : Fin 256 =>
      hDq (joined (a7 m c) (a8 m c)) (ix2 (up i) (cw h l)) * hWk (a5 m c) (ix2 k (cw h l))).trans ?_
    rw [Finset.sum_eq_zero (s := (Finset.univ : Finset (Fin 128))) (f := fun l : Fin 128 => hDq (joined (a7 m c) (a8 m c)) (ix2 (up i) (cw h (Fin.natAdd 128 l))) * hWk (a5 m c) (ix2 k (cw h (Fin.natAdd 128 l)))), add_zero]
    · exact Finset.sum_congr rfl fun l _ => congrArg₂ (· * ·)
        ((hDq_in (joined (a7 m c) (a8 m c)) i h ⟨l.val, by omega⟩).trans (joined_fst (a7 m c) (a8 m c) i h l)) (hWk_in (a5 m c) k h l)
    · intro l _
      refine (congrArg (_ * ·) (hWk_out (a5 m c) k h l)).trans ?_
      exact mul_zero _
  · refine (Fin.sum_mul_add_fin 8 128 fun x => hDv (a9 m c) (ix2 (up i) x) * hWv (a5 m c) (ix2 k x)).symm.trans ?_
    exact Finset.sum_congr rfl fun h _ => Finset.sum_congr rfl fun l _ => congrArg₂ (· * ·) (hDv_in (a9 m c) i h l) (hWv_in (a5 m c) k h l)
theorem hDq_zero (x : FVec Ideal S16400x8x192 .f32) (p : Fin 16896) (hp : p.val < 496) (y : Fin 2048) : hDq x (ix2 p y) = 0 := by
  have e : cw ⟨y.val / 256, by omega⟩ ⟨y.val % 256, by omega⟩ = y := Fin.ext (by show y.val / 256 * 256 + y.val % 256 = y.val; omega)
  exact (congrArg (fun k => hDq x (ix2 p k)) e).symm.trans (hDq_low x p hp _ _)
theorem TQ_low (p : Fin 16896) (hp : p.val < 496) (k : Fin 384) : TQ m c p k = 0 := by
  obtain ⟨h0, _⟩ := entry m c
  unfold TQ
  rw [h0]
  exact Finset.sum_eq_zero fun x _ => (congrArg (· * _) (hDq_zero (a6 m c) p hp x)).trans (zero_mul _)
theorem TKV_low (p : Fin 16896) (hp : p.val < 496) (k : Fin 256) : TKV m c p k = 0 := by
  obtain ⟨_, h1, h2, _⟩ := entry m c
  unfold TKV
  rw [h1, h2, Finset.sum_eq_zero fun x _ => (congrArg (· * _) (hDq_zero (joined (a7 m c) (a8 m c)) p hp x)).trans (zero_mul _),
    Finset.sum_eq_zero fun x _ => (congrArg (· * _) (hDv_low (a9 m c) p hp x)).trans (zero_mul _), add_zero]
theorem GQ_low (p : Fin 16896) (hp : p.val < 496) (k : Fin 384) : GQ m c p k = 0 :=
  (congrArg (· * _) (TQ_low m c p hp k)).trans (zero_mul _)
theorem GKV_low (p : Fin 16896) (hp : p.val < 496) (k : Fin 256) : GKV m c p k = 0 :=
  (congrArg (· * _) (TKV_low m c p hp k)).trans (zero_mul _)

theorem cq_high (i : Fin 16400) (k : Fin 384) : eCq m c (ix2 (up i) k) = a0 m c (ix2 i k) := by
  obtain ⟨_, _, _, h3, _⟩ := entry m c
  rw [h3]
  exact rows384_in (a0 m c) i k
theorem ckv_high (i : Fin 16400) (k : Fin 256) : eCkv m c (ix2 (up i) k) = a1 m c (ix2 i k) := by
  obtain ⟨_, _, _, _, h4, _⟩ := entry m c
  rw [h4]
  exact rows256_in (a1 m c) i k
theorem gq_at (k : Fin 384) : eGq m c (ix2 0 k) = a2 m c (ix1 k) := by
  obtain ⟨_, _, _, _, _, _, _, _, h8, _⟩ := entry m c
  rw [h8]
  generalize a2 m c = f
  pointwise
theorem gkv_at (k : Fin 256) : eGkv m c (ix2 0 k) = a3 m c (ix1 k) := by
  obtain ⟨_, _, _, _, _, _, _, _, _, h9, _⟩ := entry m c
  rw [h9]
  generalize a3 m c = f
  pointwise
theorem dz_high (i : Fin 16400) (j : Fin 1024) : eDz m c (ix2 (up i) j) = a10 m c (ix2 i j) := by
  obtain ⟨_, _, _, _, _, _, _, _, _, _, _, _, _, h13, _⟩ := entry m c
  rw [h13]
  exact rows1024_in (a10 m c) i j
theorem dx_high (i : Fin 16400) (j : Fin 1536) : eDx m c (ix2 (up i) j) = a11 m c (ix2 i j) := by
  obtain ⟨_, _, _, _, _, _, _, _, _, _, _, _, _, _, h14, _⟩ := entry m c
  rw [h14]
  exact rows1536_in (a11 m c) i j
theorem dt_high (i : Fin 16400) (j : Fin 16) : eDt m c (ix2 (up i) ⟨j.val, by omega⟩) = a12 m c (ix2 i j) := by
  obtain ⟨_, _, _, _, _, _, _, _, _, _, _, _, _, _, _, h15⟩ := entry m c
  rw [h15]
  exact rows16_in (a12 m c) i j
theorem DCQ_high (i : Fin 16400) (j : Fin 384) : DCQ m c (up i) j =
    kdx w384 (fun k => a0 m c (ix2 i k)) (fun k => a2 m c (ix1 k)) (tq (fun h l => a6 m c (ix3 i h l)) fun a b => a4 m c (ix2 a b)) j := by
  unfold DCQ
  rw [funext fun k => cq_high m c i k, funext fun k => gq_at m c k, funext fun k => TQ_high m c i k]
theorem DCKV_high (i : Fin 16400) (j : Fin 256) : DCKV m c (up i) j =
    kdx w256 (fun k => a1 m c (ix2 i k)) (fun k => a3 m c (ix1 k))
      (tkv (fun h l => a7 m c (ix3 i h l)) (fun h l => a9 m c (ix3 i h l)) fun a b => a5 m c (ix2 a b)) j := by
  unfold DCKV
  rw [funext fun k => ckv_high m c i k, funext fun k => gkv_at m c k, funext fun k => TKV_high m c i k]
theorem GQ_high (i : Fin 16400) (j : Fin 384) : GQ m c (up i) j =
    a0 m c (ix2 i j) * rinv w384 (fun k => a0 m c (ix2 i k)) * tq (fun h l => a6 m c (ix3 i h l)) (fun a b => a4 m c (ix2 a b)) j := by
  unfold GQ
  rw [funext fun k => cq_high m c i k, cq_high, TQ_high, mul_comm]
theorem GKV_high (i : Fin 16400) (j : Fin 256) : GKV m c (up i) j =
    a1 m c (ix2 i j) * rinv w256 (fun k => a1 m c (ix2 i k)) *
      tkv (fun h l => a7 m c (ix3 i h l)) (fun h l => a9 m c (ix3 i h l)) (fun a b => a5 m c (ix2 a b)) j := by
  unfold GKV
  rw [funext fun k => ckv_high m c i k, ckv_high, TKV_high, mul_comm]

/-- A row's heads of the rotated key's cotangent, added up: 64 lanes, and zeros past them. -/
theorem HD_in (i : Fin 16400) (l : Fin 64) : HD m c (up i) ⟨l.val, by omega⟩ = ∑ h : Fin 8, a8 m c (ix3 i h l) := by
  obtain ⟨_, h1, _⟩ := entry m c
  unfold HD
  rw [h1]
  exact Finset.sum_congr rfl fun h _ => (hDq_in (joined (a7 m c) (a8 m c)) i h ⟨128 + l.val, by omega⟩).trans (joined_snd (a7 m c) (a8 m c) i h l)
theorem HD_out (p : Fin 16896) (l : Fin 64) : HD m c p ⟨64 + l.val, by omega⟩ = 0 := by
  obtain ⟨_, h1, _⟩ := entry m c
  unfold HD
  rw [h1]
  refine Finset.sum_eq_zero fun h _ => Eq.trans ?_ (hDq_out (joined (a7 m c) (a8 m c)) p h l)
  exact congrArg (fun k => hDq (joined (a7 m c) (a8 m c)) (ix2 p (cw h k))) (Fin.ext (by show 128 + (64 + l.val) = 192 + l.val; omega))
theorem DKR_lo (i : Fin 16400) (l : Fin 32) : DKR m c (up i) ⟨l.val, by omega⟩ =
    (∑ h : Fin 8, a8 m c (ix3 i h ⟨32 + l.val, by omega⟩)) * sn i l + (∑ h : Fin 8, a8 m c (ix3 i h ⟨l.val, by omega⟩)) * cs i l := by
  obtain ⟨_, _, _, _, _, h5, h6, h7, _⟩ := entry m c
  have e1 : (⟨(l.val + 128 - 32) % 128, by omega⟩ : Fin 128) = ⟨64 + (⟨32 + l.val, by omega⟩ : Fin 64).val, by simp only; omega⟩ := Fin.ext (by simp only; omega)
  have e2 : (⟨(l.val + 128 - 96) % 128, by omega⟩ : Fin 128) = ⟨32 + l.val, by omega⟩ := Fin.ext (by simp only; omega)
  unfold DKR
  simp only
  rw [e1, e2, HD_out, zero_mul, add_zero, h5, h7, add_comm]
  refine congrArg₂ (· + ·) (congrArg₂ (· * ·) (HD_in m c i ⟨32 + l.val, by omega⟩) ?_) (congrArg₂ (· * ·) (HD_in m c i ⟨l.val, by omega⟩) ?_)
  · exact (join_snd _ _ _ (up i) l).trans (sin_at i l)
  · exact (join_fst _ _ _ (up i) l).trans (cos_at i l)
theorem DKR_hi (i : Fin 16400) (l : Fin 32) : DKR m c (up i) ⟨32 + l.val, by omega⟩ =
    (∑ h : Fin 8, a8 m c (ix3 i h ⟨32 + l.val, by omega⟩)) * cs i l + -(∑ h : Fin 8, a8 m c (ix3 i h ⟨l.val, by omega⟩)) * sn i l := by
  obtain ⟨_, _, _, _, _, h5, h6, h7, _⟩ := entry m c
  have e1 : (⟨(32 + l.val + 128 - 32) % 128, by omega⟩ : Fin 128) = ⟨l.val, by omega⟩ := Fin.ext (by simp only; omega)
  have e2 : (⟨(32 + l.val + 128 - 96) % 128, by omega⟩ : Fin 128) = ⟨64 + (⟨l.val, by omega⟩ : Fin 64).val, by simp only; omega⟩ := Fin.ext (by simp only; omega)
  unfold DKR
  simp only
  rw [e1, e2, HD_out, zero_mul, add_zero, h5, h6]
  refine congrArg₂ (· + ·) (congrArg₂ (· * ·) (HD_in m c i ⟨32 + l.val, by omega⟩) ?_) ?_
  · exact (join_snd _ _ _ (up i) l).trans (cos_at i l)
  · refine (congrArg₂ (· * ·) (HD_in m c i ⟨l.val, by omega⟩) ((join_fst _ _ _ (up i) l).trans (congrArg Neg.neg (sin_at i l)))).trans ?_
    rw [neg_mul]
    exact mul_neg _ _
end Cert.Kernel3Ideal.Layout
end
-- ==== Proof.QRef.lean ====
module

public import proofs.«01_k».proof.Proof.QPay

/-! What the reference's lines hold, entry by entry. -/

@[expose] public section
set_option maxRecDepth 16384
noncomputable section
open Idealize.ShloMosaic Idealize.ShloMosaic.TcCoe Idealize.SL.Sem
namespace Cert.Reference3Ideal.Stages
open Cert.Reference3Ideal Cert.Reference3Ideal.Read Cert.Proof.Rms
open Cert.Kernel3Ideal.Layout (tq tkv cw cn cq w384 w256)

variable (x0 : FVec Ideal S16400x384 .f32) (x1 : FVec Ideal S16400x256 .f32) (x2 : FVec Ideal S384 .f32) (x3 : FVec Ideal S256 .f32)
  (x4 : FVec Ideal S384x1536 .f32) (x5 : FVec Ideal S256x2048 .f32) (x6 : FVec Ideal S16400x8x192 .f32)
  (x7 : FVec Ideal S16400x8x128 .f32) (x8 : FVec Ideal S16400x8x64 .f32) (x9 : FVec Ideal S16400x8x128 .f32)

theorem flatQ (i : Fin 16400) (h : Fin 8) (l : Fin 192) : val_main_v39 (F := Ideal) x6 (ix2 i (cq h l)) = x6 (ix3 i h l) := by
  have e1 : (⟨(cq h l).val / 192, by have := (cq h l).isLt; omega⟩ : Fin 8) = h := Fin.ext (by show (h.val * 192 + l.val) / 192 = h.val; omega)
  have e2 : (⟨(cq h l).val % 192, Nat.mod_lt _ (by norm_num)⟩ : Fin 192) = l := Fin.ext (by show (h.val * 192 + l.val) % 192 = l.val; omega)
  pointwise [val_main_v39]
  rw [e1, e2]
theorem tq_at (i : Fin 16400) (k : Fin 384) :
    val_main_v40 (F := Ideal) x4 x6 (ix2 i k) = tq (fun h l => x6 (ix3 i h l)) (fun a b => x4 (ix2 a b)) k := by
  have e : val_main_v40 (F := Ideal) x4 x6 (ix2 i k) = ∑ x : Fin 1536, val_main_v39 (F := Ideal) x6 (ix2 i x) * x4 (ix2 k x) := by
    pointwise [val_main_v40]
  rw [e]
  refine (Fin.sum_mul_add_fin 8 192 fun x => val_main_v39 (F := Ideal) x6 (ix2 i x) * x4 (ix2 k x)).symm.trans ?_
  exact Finset.sum_congr rfl fun h _ => Finset.sum_congr rfl fun l _ => congrArg (· * _) (flatQ x6 i h l)

theorem flatKV (i : Fin 16400) (h : Fin 8) (l : Fin 256) : val_main_v84 (F := Ideal) x7 x9 (ix2 i (cw h l)) = val_main_v83 (F := Ideal) x7 x9 (ix3 i h l) := by
  have e1 : (⟨(cw h l).val / 256, by have := (cw h l).isLt; omega⟩ : Fin 8) = h := Fin.ext (by show (h.val * 256 + l.val) / 256 = h.val; omega)
  have e2 : (⟨(cw h l).val % 256, Nat.mod_lt _ (by norm_num)⟩ : Fin 256) = l := Fin.ext (by show (h.val * 256 + l.val) % 256 = l.val; omega)
  pointwise [val_main_v84]
  rw [e1, e2]
theorem v83_lo (i : Fin 16400) (h : Fin 8) (l : Fin 128) : val_main_v83 (F := Ideal) x7 x9 (ix3 i h ⟨l.val, by omega⟩) = x7 (ix3 i h l) := by
  pointwise [val_main_v83, val_main_v82, val_main_v81, val_main_cst_18, val_main_cst_19]
  rw [dif_neg fun e => e.1, zero_add]
theorem v83_hi (i : Fin 16400) (h : Fin 8) (l : Fin 128) : val_main_v83 (F := Ideal) x7 x9 (ix3 i h ⟨128 + l.val, by omega⟩) = x9 (ix3 i h l) := by
  pointwise [val_main_v83, val_main_v82, val_main_v81, val_main_cst_18, val_main_cst_19]
theorem tkv_at (i : Fin 16400) (k : Fin 256) : val_main_v85 (F := Ideal) x5 x7 x9 (ix2 i k) =
    tkv (fun h l => x7 (ix3 i h l)) (fun h l => x9 (ix3 i h l)) (fun a b => x5 (ix2 a b)) k := by
  have e : val_main_v85 (F := Ideal) x5 x7 x9 (ix2 i k) = ∑ x : Fin 2048, val_main_v84 (F := Ideal) x7 x9 (ix2 i x) * x5 (ix2 k x) := by
    pointwise [val_main_v85]
  rw [e]
  refine (Fin.sum_mul_add_fin 8 256 fun x => val_main_v84 (F := Ideal) x7 x9 (ix2 i x) * x5 (ix2 k x)).symm.trans ?_
  unfold tkv
  rw [← Finset.sum_add_distrib]
  refine Finset.sum_congr rfl fun h _ => ?_
  refine (Fin.sum_univ_add (a := 128) (b := 128) _).trans (congrArg₂ (· + ·) ?_ ?_)
  · exact Finset.sum_congr rfl fun l _ => congrArg (· * _) ((flatKV x7 x9 i h ⟨l.val, by omega⟩).trans (v83_lo x7 x9 i h l))
  · exact Finset.sum_congr rfl fun l _ => congrArg (· * _) ((flatKV x7 x9 i h ⟨128 + l.val, by omega⟩).trans (v83_hi x7 x9 i h l))

theorem dcq_at (i : Fin 16400) (j : Fin 384) : val_main_v129 (F := Ideal) x0 x2 x4 x6 (ix2 i j) =
    vdx w384 (fun k => x0 (ix2 i k)) (fun k => x2 (ix1 k)) (tq (fun h l => x6 (ix3 i h l)) fun a b => x4 (ix2 a b)) j := by
  pointwise [val_main_v129, val_main_v58, val_main_v57, val_main_v56, val_main_v55, val_main_v54, val_main_v53, val_main_v52, val_main_v51, val_main_v50, val_main_v49, val_main_v48, val_main_v47, val_main_v45, val_main_v44, val_main_v34, val_main_v31, val_main_v30, val_main_v29, val_main_v28, val_main_v27, val_main_v26, val_main_v25, val_main_v24, val_main_v23, val_main_v22, val_main_v21, val_main_v20, val_main_v19, val_main_cst_3, val_main_cst_4, val_main_cst_5, val_main_cst_6, val_main_cst_7, val_main_cst_10, val_main_cst_11, val_main_cst_12]
  simp only [tq_at, Finset.univ_unique, Finset.sum_const, Finset.card_singleton, one_smul]
  rfl
theorem dgq_at (j : Fin 384) : val_main_v46 (F := Ideal) x0 x4 x6 (ix1 j) =
    ∑ i, x0 (ix2 i j) * rinv w384 (fun k => x0 (ix2 i k)) * tq (fun h l => x6 (ix3 i h l)) (fun a b => x4 (ix2 a b)) j := by
  pointwise [val_main_v46, val_main_v43, val_main_v42, val_main_v41, val_main_v33, val_main_v32, val_main_v28, val_main_v27, val_main_v26, val_main_v25, val_main_v24, val_main_v23, val_main_v22, val_main_v19, val_main_cst_4, val_main_cst_5, val_main_cst_6, val_main_cst_8, val_main_cst_9]
  simp only [tq_at, Finset.univ_unique, Finset.sum_const, Finset.card_singleton, one_smul]
  rfl
theorem dckv_at (i : Fin 16400) (j : Fin 256) : val_main_v130 (F := Ideal) x1 x3 x5 x7 x9 (ix2 i j) =
    vdx w256 (fun k => x1 (ix2 i k)) (fun k => x3 (ix1 k)) (tkv (fun h l => x7 (ix3 i h l)) (fun h l => x9 (ix3 i h l)) fun a b => x5 (ix2 a b)) j := by
  pointwise [val_main_v130, val_main_v103, val_main_v102, val_main_v101, val_main_v100, val_main_v99, val_main_v98, val_main_v97, val_main_v96, val_main_v95, val_main_v94, val_main_v93, val_main_v92, val_main_v90, val_main_v89, val_main_v74, val_main_v71, val_main_v70, val_main_v69, val_main_v68, val_main_v67, val_main_v66, val_main_v65, val_main_v64, val_main_v63, val_main_v62, val_main_v61, val_main_v60, val_main_v59, val_main_cst_13, val_main_cst_14, val_main_cst_15, val_main_cst_16, val_main_cst_17, val_main_cst_22, val_main_cst_23, val_main_cst_24]
  simp only [tkv_at, Finset.univ_unique, Finset.sum_const, Finset.card_singleton, one_smul]
  rfl
theorem dgkv_at (j : Fin 256) : val_main_v91 (F := Ideal) x1 x5 x7 x9 (ix1 j) =
    ∑ i, x1 (ix2 i j) * rinv w256 (fun k => x1 (ix2 i k)) * tkv (fun h l => x7 (ix3 i h l)) (fun h l => x9 (ix3 i h l)) (fun a b => x5 (ix2 a b)) j := by
  pointwise [val_main_v91, val_main_v88, val_main_v87, val_main_v86, val_main_v73, val_main_v72, val_main_v68, val_main_v67, val_main_v66, val_main_v65, val_main_v64, val_main_v63, val_main_v62, val_main_v59, val_main_cst_14, val_main_cst_15, val_main_cst_16, val_main_cst_20, val_main_cst_21]
  simp only [tkv_at, Finset.univ_unique, Finset.sum_const, Finset.card_singleton, one_smul]
  rfl

/-- The shared key's cotangent before the rotation is undone: the heads' cotangents added up. -/
theorem v118_at (i : Fin 16400) (l : Fin 64) : val_main_v118 (F := Ideal) x8 (ix2 i l) = ∑ h : Fin 8, x8 (ix3 i h l) := by
  pointwise [val_main_v118, val_main_v117, val_main_v116, val_main_cst_26, val_main_cst_27]
  simp only [Finset.univ_unique, Finset.sum_const, Finset.card_singleton, one_smul]
theorem dkr_lo (i : Fin 16400) (l : Fin 32) : val_main_v131 (F := Ideal) x8 (ix2 i ⟨l.val, by omega⟩) =
    (∑ h : Fin 8, x8 (ix3 i h ⟨32 + l.val, by omega⟩)) * val_main_v18 (F := Ideal) (ix2 i l)
      + (∑ h : Fin 8, x8 (ix3 i h ⟨l.val, by omega⟩)) * val_main_v17 (F := Ideal) (ix2 i l) := by
  pointwise [val_main_v131, val_main_v128, val_main_v127, val_main_v126, val_main_v121, val_main_v120, val_main_v119]
  simp only [v118_at]
theorem dkr_hi (i : Fin 16400) (l : Fin 32) : val_main_v131 (F := Ideal) x8 (ix2 i ⟨32 + l.val, by omega⟩) =
    (∑ h : Fin 8, x8 (ix3 i h ⟨32 + l.val, by omega⟩)) * val_main_v17 (F := Ideal) (ix2 i l)
      + -(∑ h : Fin 8, x8 (ix3 i h ⟨l.val, by omega⟩)) * val_main_v18 (F := Ideal) (ix2 i l) := by
  pointwise [val_main_v131, val_main_v128, val_main_v125, val_main_v124, val_main_v123, val_main_v122, val_main_v120, val_main_v119]
  simp only [v118_at]
end Cert.Reference3Ideal.Stages
end
-- ==== Proof.QSame.lean ====
module

public import proofs.«01_k».proof.Proof.Gen.Kernel3
public import proofs.«01_k».proof.Proof.Gen.Kernel3Ideal
public import proofs.«01_k».proof.Defs
public import Idealize.ShloMosaic.Lib.Tactic

/-! The latent projections' gradient, printed twice: its two programs run alike on words. -/

@[expose] public section

set_option maxRecDepth 16384
noncomputable section

namespace Cert.Proof.Qkv
open Idealize.ShloMosaic Idealize.SL.Sem Idealize.ShloMosaic.TcCoe

def WordRuns : Prop :=
  ∀ (m : (ℓ : Loc Cert.Kernel3.nD Cert.Kernel3.τ Cert.Kernel3.sig) → Buf (Elt Bits) ℓ) (g : Dev Cert.Kernel3.nD → PrngReg),
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0) ∧
      r.2.mem ((c.tc : Thread Cert.Kernel3.nD Cert.Kernel3.τ).loc Cert.Kernel3.main_arg1) = m ((c.tc : Thread Cert.Kernel3.nD Cert.Kernel3.τ).loc Cert.Kernel3.main_arg1) ∧
      r.2.mem ((c.tc : Thread Cert.Kernel3.nD Cert.Kernel3.τ).loc Cert.Kernel3.main_arg2) = m ((c.tc : Thread Cert.Kernel3.nD Cert.Kernel3.τ).loc Cert.Kernel3.main_arg2) ∧
      r.2.mem ((c.tc : Thread Cert.Kernel3.nD Cert.Kernel3.τ).loc Cert.Kernel3.main_arg3) = m ((c.tc : Thread Cert.Kernel3.nD Cert.Kernel3.τ).loc Cert.Kernel3.main_arg3) ∧
      r.2.mem ((c.tc : Thread Cert.Kernel3.nD Cert.Kernel3.τ).loc Cert.Kernel3.main_arg4) = m ((c.tc : Thread Cert.Kernel3.nD Cert.Kernel3.τ).loc Cert.Kernel3.main_arg4) ∧
      r.2.mem ((c.tc : Thread Cert.Kernel3.nD Cert.Kernel3.τ).loc Cert.Kernel3.main_arg5) = m ((c.tc : Thread Cert.Kernel3.nD Cert.Kernel3.τ).loc Cert.Kernel3.main_arg5) ∧
      r.2.mem ((c.tc : Thread Cert.Kernel3.nD Cert.Kernel3.τ).loc Cert.Kernel3.main_arg6) = m ((c.tc : Thread Cert.Kernel3.nD Cert.Kernel3.τ).loc Cert.Kernel3.main_arg6) ∧
      r.2.mem ((c.tc : Thread Cert.Kernel3.nD Cert.Kernel3.τ).loc Cert.Kernel3.main_arg7) = m ((c.tc : Thread Cert.Kernel3.nD Cert.Kernel3.τ).loc Cert.Kernel3.main_arg7) ∧
      r.2.mem ((c.tc : Thread Cert.Kernel3.nD Cert.Kernel3.τ).loc Cert.Kernel3.main_arg8) = m ((c.tc : Thread Cert.Kernel3.nD Cert.Kernel3.τ).loc Cert.Kernel3.main_arg8) ∧
      r.2.mem ((c.tc : Thread Cert.Kernel3.nD Cert.Kernel3.τ).loc Cert.Kernel3.main_arg9) = m ((c.tc : Thread Cert.Kernel3.nD Cert.Kernel3.τ).loc Cert.Kernel3.main_arg9) ∧
      r.2.mem ((c.tc : Thread Cert.Kernel3.nD Cert.Kernel3.τ).loc Cert.Kernel3.main_arg10) = m ((c.tc : Thread Cert.Kernel3.nD Cert.Kernel3.τ).loc Cert.Kernel3.main_arg10) ∧
      r.2.mem ((c.tc : Thread Cert.Kernel3.nD Cert.Kernel3.τ).loc Cert.Kernel3.main_arg11) = m ((c.tc : Thread Cert.Kernel3.nD Cert.Kernel3.τ).loc Cert.Kernel3.main_arg11) ∧
      r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def IdealRuns : Prop :=
  ∀ (m : (ℓ : Loc Cert.Kernel3Ideal.nD Cert.Kernel3Ideal.τ Cert.Kernel3Ideal.sig) → Buf (Elt Bits) ℓ) (g : Dev Cert.Kernel3Ideal.nD → PrngReg),
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0) ∧
      r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1) ∧
      r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2) ∧
      r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3) ∧
      r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4) ∧
      r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5) ∧
      r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6) ∧
      r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7) ∧
      r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8) ∧
      r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9) ∧
      r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10) ∧
      r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11) ∧
      r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

theorem runs_eq : IdealRuns = WordRuns := by sl_kernel_rfl

end Cert.Proof.Qkv

end
-- ==== Proof.Qkv.lean ====
module

public import proofs.«01_k».proof.Defs
public import proofs.«01_k».proof.Proof.QTail
public import proofs.«01_k».proof.Proof.QVal
public import proofs.«01_k».proof.Proof.QRef
public import proofs.«01_k».proof.Proof.RealOf
public import proofs.«01_k».proof.Proof.QSame
public import proofs.«01_k».proof.Proof.Gen.Reference3Ideal.Run
public import Idealize.ShloMosaic.Adequacy
public import Idealize.ShloMosaic.Init
public import Idealize.ShloMosaic.Lib.Claim

/-! The latent projections' gradient: both frames, and the two programs' results as the same quantities of the rows. -/

@[expose] public section

set_option maxRecDepth 16384
noncomputable section

namespace Cert.Proof.Qkv

open Idealize.ShloMosaic Idealize.SL.Sem Idealize.ShloMosaic.TcCoe
open Cert.Kernel3Ideal.Layout Cert.Proof.Rms

theorem preFacts : Cert.Pre_finite3.Facts := by
  constructor <;> decide

theorem kernel_frame : Cert.quiescent_Kernel3 := fun m g _ => by
  have h : IdealRuns := fun m g => Cert.Kernel3Ideal.Gen.frame (F := Bits) m g
  rw [runs_eq] at h
  exact h m g
theorem ideal_frame : Cert.quiescent_Kernel3Ideal := fun m g _ => Cert.Kernel3Ideal.Gen.frame (F := Ideal) m g
theorem reference_frame : Cert.quiescent_Reference3Ideal := fun m g _ => (θ_run _ _ _).mono
  (fun r h => And.intro (fun c => (h c).2.2.2.2.2.2.2.2) (sem_eq_zero_of_no_sems (by decide) r.2)) (Cert.Reference3Ideal.Value.run m g)

open Cert.Kernel3Ideal Cert.Kernel3Ideal.Gen in
/-- The kernel program's run: each result as the lines after the call leave it, the arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v64) = t64 m c
      ∧ r.2.mem ((c.tc : Thread nD τ).loc main_v65) = t65 m c
      ∧ r.2.mem ((c.tc : Thread nD τ).loc main_v66) = t66 m c
      ∧ r.2.mem ((c.tc : Thread nD τ).loc main_v67) = t67 m c
      ∧ r.2.mem ((c.tc : Thread nD τ).loc main_v68) = t68 m c
      ∧ r.2.mem ((c.tc : Thread nD τ).loc main_v69) = t69 m c
      ∧ r.2.mem ((c.tc : Thread nD τ).loc main_v70) = t70 m c
      ∧ r.2.mem ((c.tc : Thread nD τ).loc main_v71) = t71 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  exact (θ_run defs _ _).mono (fun _ h c => ⟨(h c).2 main_v64 (Pipeline.mem_restRefs_of main_v64 (by decide) (by decide)),
    (h c).2 main_v65 (Pipeline.mem_restRefs_of main_v65 (by decide) (by decide)),
    (h c).2 main_v66 (Pipeline.mem_restRefs_of main_v66 (by decide) (by decide)),
    (h c).2 main_v67 (Pipeline.mem_restRefs_of main_v67 (by decide) (by decide)),
    (h c).2 main_v68 (Pipeline.mem_restRefs_of main_v68 (by decide) (by decide)),
    (h c).2 main_v69 (Pipeline.mem_restRefs_of main_v69 (by decide) (by decide)),
    (h c).2 main_v70 (Pipeline.mem_restRefs_of main_v70 (by decide) (by decide)),
    (h c).2 main_v71 (Pipeline.mem_restRefs_of main_v71 (by decide) (by decide)),
    ((h c).2 main_arg0 (Pipeline.mem_restRefs_of main_arg0 (by decide) (by decide))).trans (Cert.Kernel3Ideal.Gen.W_main_arg0 m (dats m) c),
    ((h c).2 main_arg1 (Pipeline.mem_restRefs_of main_arg1 (by decide) (by decide))).trans (Cert.Kernel3Ideal.Gen.W_main_arg1 m (dats m) c),
    ((h c).2 main_arg2 (Pipeline.mem_restRefs_of main_arg2 (by decide) (by decide))).trans (Cert.Kernel3Ideal.Gen.W_main_arg2 m (dats m) c),
    ((h c).2 main_arg3 (Pipeline.mem_restRefs_of main_arg3 (by decide) (by decide))).trans (Cert.Kernel3Ideal.Gen.W_main_arg3 m (dats m) c),
    ((h c).2 main_arg4 (Pipeline.mem_restRefs_of main_arg4 (by decide) (by decide))).trans (Cert.Kernel3Ideal.Gen.W_main_arg4 m (dats m) c),
    ((h c).2 main_arg5 (Pipeline.mem_restRefs_of main_arg5 (by decide) (by decide))).trans (Cert.Kernel3Ideal.Gen.W_main_arg5 m (dats m) c),
    ((h c).2 main_arg6 (Pipeline.mem_restRefs_of main_arg6 (by decide) (by decide))).trans (Cert.Kernel3Ideal.Gen.W_main_arg6 m (dats m) c),
    ((h c).2 main_arg7 (Pipeline.mem_restRefs_of main_arg7 (by decide) (by decide))).trans (Cert.Kernel3Ideal.Gen.W_main_arg7 m (dats m) c),
    ((h c).2 main_arg8 (Pipeline.mem_restRefs_of main_arg8 (by decide) (by decide))).trans (Cert.Kernel3Ideal.Gen.W_main_arg8 m (dats m) c),
    ((h c).2 main_arg9 (Pipeline.mem_restRefs_of main_arg9 (by decide) (by decide))).trans (Cert.Kernel3Ideal.Gen.W_main_arg9 m (dats m) c),
    ((h c).2 main_arg10 (Pipeline.mem_restRefs_of main_arg10 (by decide) (by decide))).trans (Cert.Kernel3Ideal.Gen.W_main_arg10 m (dats m) c),
    ((h c).2 main_arg11 (Pipeline.mem_restRefs_of main_arg11 (by decide) (by decide))).trans (Cert.Kernel3Ideal.Gen.W_main_arg11 m (dats m) c),
    ((h c).2 main_arg12 (Pipeline.mem_restRefs_of main_arg12 (by decide) (by decide))).trans (Cert.Kernel3Ideal.Gen.W_main_arg12 m (dats m) c)⟩) (run_main m g)

/-- The norms' widths are the reals they name. -/
theorem bits_384 : w384 = ((384 : ℝ) : EReal) := by
  simp [w384, Ideal.ofBits, Ideal.ieee, -EReal.coe_mul]; norm_num
theorem bits_256 : w256 = ((256 : ℝ) : EReal) := by
  simp [w256, Ideal.ofBits, Ideal.ieee, -EReal.coe_mul]; norm_num

section Values
variable [hf : Cert.Pre_finite3.Facts]
variable (m : (ℓ : Loc Cert.Kernel3Ideal.nD Cert.Kernel3Ideal.τ Cert.Kernel3Ideal.sig) → Buf (Elt Ideal) ℓ) (c : Dev Cert.Kernel3Ideal.nD)

open Cert.Reference3Ideal.Read Cert.Reference3Ideal.Stages
section Real
variable (hp : Cert.Pre_Kernel3Ideal_finite3 m)
include hp
theorem r0 (i) : IsReal (a0 m c i) := Pre.real_of _ _ (hp c).1 i
theorem r1 (i) : IsReal (a1 m c i) := Pre.real_of _ _ (hp c).2.1 i
theorem r2 (i) : IsReal (a2 m c i) := Pre.real_of _ _ (hp c).2.2.1 i
theorem r3 (i) : IsReal (a3 m c i) := Pre.real_of _ _ (hp c).2.2.2.1 i
theorem r4 (i) : IsReal (a4 m c i) := Pre.real_of _ _ (hp c).2.2.2.2.1 i
theorem r5 (i) : IsReal (a5 m c i) := Pre.real_of _ _ (hp c).2.2.2.2.2.1 i
theorem r6 (i) : IsReal (a6 m c i) := Pre.real_of _ _ (hp c).2.2.2.2.2.2.1 i
theorem r7 (i) : IsReal (a7 m c i) := Pre.real_of _ _ (hp c).2.2.2.2.2.2.2.1 i
theorem r9 (i) : IsReal (a9 m c i) := Pre.real_of _ _ (hp c).2.2.2.2.2.2.2.2 i
theorem dcq_final : val_main_v129 (F := Ideal) (a0 m c) (a2 m c) (a4 m c) (a6 m c) = t64 m c := by
  funext y
  idx_vars y
  refine ((t64_at m c y0 y1).trans ((DCQ_high m c y0 y1).trans ?_)).symm
  refine Eq.trans ?_ (dcq_at (a0 m c) (a2 m c) (a4 m c) (a6 m c) y0 y1).symm
  rw [bits_384]
  exact kdx_eq_vdx (by norm_num) (fun _ => r0 m c hp _) (fun _ => r2 m c hp _)
    (fun _ => IsReal.sum fun _ => IsReal.sum fun _ => (r6 m c hp _).mul (r4 m c hp _)) y1
theorem dckv_final : val_main_v130 (F := Ideal) (a1 m c) (a3 m c) (a5 m c) (a7 m c) (a9 m c) = t65 m c := by
  funext y
  idx_vars y
  refine ((t65_at m c y0 y1).trans ((DCKV_high m c y0 y1).trans ?_)).symm
  refine Eq.trans ?_ (dckv_at (a1 m c) (a3 m c) (a5 m c) (a7 m c) (a9 m c) y0 y1).symm
  rw [bits_256]
  exact kdx_eq_vdx (by norm_num) (fun _ => r1 m c hp _) (fun _ => r3 m c hp _)
    (fun _ => (IsReal.sum fun _ => IsReal.sum fun _ => (r7 m c hp _).mul (r5 m c hp _)).add
      (IsReal.sum fun _ => IsReal.sum fun _ => (r9 m c hp _).mul (r5 m c hp _))) y1
end Real
theorem dkr_final : val_main_v131 (F := Ideal) (a8 m c) = t66 m c := by
  funext y
  idx_vars y
  refine Eq.trans ?_ (t66_at m c y0 y1).symm
  obtain ⟨v, hv⟩ := y1
  by_cases h : v < 32
  · exact (dkr_lo (a8 m c) y0 ⟨v, h⟩).trans (DKR_lo m c y0 ⟨v, h⟩).symm
  · obtain ⟨u, rfl⟩ : ∃ u, v = 32 + u := ⟨v - 32, by omega⟩
    exact (dkr_hi (a8 m c) y0 ⟨u, by omega⟩).trans (DKR_hi m c y0 ⟨u, by omega⟩).symm
theorem dz_final : val_main_v132 (F := Ideal) (a10 m c) = t67 m c := by
  funext y
  idx_vars y
  exact ((t67_at m c y0 y1).trans (dz_high m c y0 y1)).symm
theorem dx_final : val_main_v133 (F := Ideal) (a11 m c) = t68 m c := by
  funext y
  idx_vars y
  exact ((t68_at m c y0 y1).trans (dx_high m c y0 y1)).symm
theorem dt_final : val_main_v134 (F := Ideal) (a12 m c) = t69 m c := by
  funext y
  idx_vars y
  exact ((t69_at m c y0 y1).trans (dt_high m c y0 y1)).symm
theorem dgq_final : val_main_v46 (F := Ideal) (a0 m c) (a4 m c) (a6 m c) = t70 m c := by
  funext y
  idx_vars y
  rw [dgq_at, t70_at, sum_padded (fun p => GQ m c p y0) fun p h => GQ_low m c p h y0]
  exact Finset.sum_congr rfl fun i _ => (GQ_high m c i y0).symm
theorem dgkv_final : val_main_v91 (F := Ideal) (a1 m c) (a5 m c) (a7 m c) (a9 m c) = t71 m c := by
  funext y
  idx_vars y
  rw [dgkv_at, t71_at, sum_padded (fun p => GKV m c p y0) fun p h => GKV_low m c p h y0]
  exact Finset.sum_congr rfl fun i _ => (GKV_high m c i y0).symm
end Values

instance facts : Cert.Pre_finite3.Facts := preFacts

theorem algebraic : Cert.algebraic_Kernel3Ideal_Reference3Ideal_pre_finite3 := by
  pair_intro
  · run_from kernel_run m g
  · refine (θ_run _ _ _).mono (fun r h c => ?_) (Cert.Reference3Ideal.Value.run m' g')
    obtain ⟨h0, h1, h2, h3, h4, h5, h6, h7, ht⟩ := h c
    obtain ⟨e0, e1, e2, e3, e4, e5, e6, e7, e8, e9, e10, e11, e12⟩ := hagree c
    refine ⟨h0.trans ?_, h1.trans ?_, h2.trans ?_, h3.trans ?_, h4.trans ?_, h5.trans ?_, h6.trans ?_, h7.trans ?_, ht⟩
    · rw [Cert.Reference3Ideal.Read.val_main_v129_eq, e0, e2, e4, e6]; exact dcq_final m c hpre
    · rw [Cert.Reference3Ideal.Read.val_main_v130_eq, e1, e3, e5, e7, e9]; exact dckv_final m c hpre
    · rw [Cert.Reference3Ideal.Read.val_main_v131_eq, e8]; exact dkr_final m c
    · rw [Cert.Reference3Ideal.Read.val_main_v132_eq, e10]; exact dz_final m c
    · rw [Cert.Reference3Ideal.Read.val_main_v133_eq, e11]; exact dx_final m c
    · rw [Cert.Reference3Ideal.Read.val_main_v134_eq, e12]; exact dt_final m c
    · rw [Cert.Reference3Ideal.Read.val_main_v46_eq, e0, e4, e6]; exact dgq_final m c
    · rw [Cert.Reference3Ideal.Read.val_main_v91_eq, e1, e5, e7, e9]; exact dgkv_final m c

end Cert.Proof.Qkv

end
-- ==== Proof.OPay.lean ====
module

public import proofs.«01_k».proof.Proof.Gen.Kernel4Ideal.Skeleton
public import proofs.«01_k».proof.Proof.Rms

/-! What one block of rows makes behind the output projection, entry by entry. -/

@[expose] public section
set_option maxRecDepth 16384
noncomputable section
open Idealize.ShloMosaic Idealize.ShloMosaic.TcCoe Idealize.SL.Sem
namespace Cert.Kernel4Ideal.Out
open Cert.Kernel4Ideal Cert.Kernel4Ideal.Gen Cert.Proof.Rms

/-- The two norms' widths, one half and one, as the programs store them. -/
abbrev w1024 : EReal := Ideal.ofBits FTy.f32 1149239296#32
abbrev w512 : EReal := Ideal.ofBits FTy.f32 1140850688#32
abbrev wHalf : EReal := Ideal.ofBits FTy.f32 1056964608#32
abbrev wOne : EReal := Ideal.ofBits FTy.f32 1065353216#32

/-- The columns of a column's group, and its place in the group. -/
abbrev ga (j : Fin 1024) (k : Fin 512) : Fin 1024 := ⟨j.val / 512 * 512 + k.val, by omega⟩
abbrev la (j : Fin 1024) : Fin 512 := ⟨j.val % 512, by omega⟩
/-- A head's columns. -/
abbrev cn (h : Fin 8) (l : Fin 128) : Fin 1024 := ⟨h.val * 128 + l.val, by omega⟩
/-- The logistic function as the kernel writes it. -/
def ksg (z : EReal) : EReal := wHalf * Ideal.tanh (wHalf * z) + wHalf

theorem pay10_at (v0 : FVec Ideal S512x1024 .f32) (v2 : FVec Ideal S1x1024 .f32) (v4 : FVec Ideal S512x1024 .f32) (r : Fin 512) (j : Fin 1024) :
    k0_pay10 (F := Ideal) v0 v2 v4 (ix2 r j) = kdx w1024 (fun k => v0 (ix2 r k)) (fun k => v2 (ix2 0 k)) (fun k => v4 (ix2 r k)) j := by
  pointwise [k0_pay10, k0_pay9, k0_pay8, k0_pay7, k0_pay6]
  rfl
theorem pay11_at (v0 : FVec Ideal S512x1024 .f32) (v2 : FVec Ideal S1x1024 .f32) (v4 : FVec Ideal S512x1024 .f32) (v31 : FVec Ideal S1024x1024 .bf16)
    (r : Fin 512) (j : Fin 1024) :
    k0_pay11 (F := Ideal) v0 v2 v4 v31 (ix2 r j) = ∑ x, k0_pay10 (F := Ideal) v0 v2 v4 (ix2 r x) * v31 (ix2 j x) := by
  unfold k0_pay11
  generalize k0_pay10 (F := Ideal) v0 v2 v4 = f
  pointwise
theorem pay14_at (v0 v4 : FVec Ideal S512x1024 .f32) (v : FVec Ideal S8x1024 .f32) (r : Fin 8) (j : Fin 1024) :
    k0_pay14 (F := Ideal) (k0_pay12 v0 v4) v (ix2 r j) = v (ix2 r j) + ∑ x : Fin 64, v4 (ix2 ⟨x.val * 8 + r.val, by omega⟩ j) *
      (v0 (ix2 ⟨x.val * 8 + r.val, by omega⟩ j) * rinv w1024 (fun k => v0 (ix2 ⟨x.val * 8 + r.val, by omega⟩ k))) := by
  pointwise [k0_pay14, k0_pay12, k0_pay9, k0_pay8, k0_pay7, k0_pay6]
  rfl
theorem pay26_at (v29 : FVec Ideal S512x1024 .bf16) (v130 : FVec Ideal S1024x1024 .bf16) (r : Fin 512) (j : Fin 1024) :
    k0_pay26 (F := Ideal) v29 v130 (ix2 r j) = ∑ x, v29 (ix2 r x) * v130 (ix2 j x) := by
  pointwise [k0_pay26]
theorem pay29_at (v : FVec Ideal S512x1024 .f32) (r : Fin 512) (j : Fin 1024) : k0_pay29 (F := Ideal) v (ix2 r j) = ksg (v (ix2 r j)) := by
  pointwise [k0_pay29, k0_pay27]
  rfl
theorem pay30_at (v : FVec Ideal S512x1024 .f32) (r : Fin 512) (j : Fin 1024) :
    k0_pay30 (F := Ideal) v (ix2 r j) = v (ix2 r j) * ksg (v (ix2 r j)) := by
  pointwise [k0_pay30, k0_pay29, k0_pay27]
  rfl
theorem pay31_at (v135 v145 : FVec Ideal S512x1024 .f32) (v147 : FVec Ideal S1x1024 .f32) (r : Fin 512) (j : Fin 1024) :
    k0_pay31 (F := Ideal) v135 v145 v147 (ix2 r j) = v145 (ix2 r j) + v147 (ix2 0 j) * v135 (ix2 r j) := by
  pointwise [k0_pay31, k0_pay28]
theorem pay34_lo (v : FVec Ideal S512x1024 .f32) (r : Fin 512) (l : Fin 512) :
    k0_pay34 (F := Ideal) (mulf v v) (ix2 r ⟨l.val, by omega⟩) = rinv w512 (fun k : Fin 512 => v (ix2 r ⟨k.val, by omega⟩)) := by
  pointwise [k0_pay34]
  rfl
theorem pay34_hi (v : FVec Ideal S512x1024 .f32) (r : Fin 512) (l : Fin 512) :
    k0_pay34 (F := Ideal) (mulf v v) (ix2 r ⟨512 + l.val, by omega⟩) = rinv w512 (fun k : Fin 512 => v (ix2 r ⟨512 + k.val, by omega⟩)) := by
  pointwise [k0_pay34]
  rfl
theorem pay36_lo (v132 v : FVec Ideal S512x1024 .f32) (v173 : FVec Ideal S1x1024 .f32) (r : Fin 512) (l : Fin 512) :
    k0_pay36 (F := Ideal) v132 v (mulf v v) v173 (ix2 r ⟨l.val, by omega⟩) = kdx w512 (fun k : Fin 512 => v (ix2 r ⟨k.val, by omega⟩))
      (fun k => v173 (ix2 0 ⟨k.val, by omega⟩)) (fun k => v132 (ix2 r ⟨k.val, by omega⟩)) l := by
  pointwise [k0_pay36, k0_pay35]
  simp only [pay34_lo]
  rfl
theorem pay36_hi (v132 v : FVec Ideal S512x1024 .f32) (v173 : FVec Ideal S1x1024 .f32) (r : Fin 512) (l : Fin 512) :
    k0_pay36 (F := Ideal) v132 v (mulf v v) v173 (ix2 r ⟨512 + l.val, by omega⟩) = kdx w512 (fun k : Fin 512 => v (ix2 r ⟨512 + k.val, by omega⟩))
      (fun k => v173 (ix2 0 ⟨512 + k.val, by omega⟩)) (fun k => v132 (ix2 r ⟨512 + k.val, by omega⟩)) l := by
  pointwise [k0_pay36, k0_pay35]
  simp only [pay34_hi]
  rfl
theorem ga_lo (l k : Fin 512) (h) : ga ⟨l.val, h⟩ k = ⟨k.val, by omega⟩ := Fin.ext (by show l.val / 512 * 512 + k.val = k.val; omega)
theorem ga_hi (l k : Fin 512) (h) : ga ⟨512 + l.val, h⟩ k = ⟨512 + k.val, by omega⟩ :=
  Fin.ext (by show (512 + l.val) / 512 * 512 + k.val = 512 + k.val; omega)
theorem la_lo (l : Fin 512) (h) : la ⟨l.val, h⟩ = l := Fin.ext (by show l.val % 512 = l.val; omega)
theorem la_hi (l : Fin 512) (h) : la ⟨512 + l.val, h⟩ = l := Fin.ext (by show (512 + l.val) % 512 = l.val; omega)
/-- A column is in the first group or in the second. -/
theorem halves {P : Fin 1024 → Prop} (lo : ∀ l : Fin 512, P ⟨l.val, by omega⟩) (hi : ∀ l : Fin 512, P ⟨512 + l.val, by omega⟩) (j : Fin 1024) : P j := by
  obtain ⟨v, hv⟩ := j
  by_cases h : v < 512
  · exact lo ⟨v, h⟩
  · obtain ⟨u, rfl⟩ : ∃ u, v = 512 + u := ⟨v - 512, by omega⟩
    exact hi ⟨u, by omega⟩
theorem pay34_at (v : FVec Ideal S512x1024 .f32) (r : Fin 512) (j : Fin 1024) :
    k0_pay34 (F := Ideal) (mulf v v) (ix2 r j) = rinv w512 (fun k => v (ix2 r (ga j k))) := by
  revert j
  refine halves (fun l => ?_) (fun l => ?_)
  · simp only [ga_lo]; exact pay34_lo v r l
  · simp only [ga_hi]; exact pay34_hi v r l
theorem pay36_at (v132 v : FVec Ideal S512x1024 .f32) (v173 : FVec Ideal S1x1024 .f32) (r : Fin 512) (j : Fin 1024) :
    k0_pay36 (F := Ideal) v132 v (mulf v v) v173 (ix2 r j) = kdx w512 (fun k => v (ix2 r (ga j k)))
      (fun k => v173 (ix2 0 (ga j k))) (fun k => v132 (ix2 r (ga j k))) (la j) := by
  revert j
  refine halves (fun l => ?_) (fun l => ?_)
  · simp only [ga_lo, la_lo]; exact pay36_lo v132 v v173 r l
  · simp only [ga_hi, la_hi]; exact pay36_hi v132 v v173 r l
theorem pay1_at (v134 v143 v198 : FVec Ideal S512x1024 .f32) (r : Fin 512) (j : Fin 1024) :
    k0_pay1 (F := Ideal) v134 v143 v198 (Scalar.ofBits .f32 0x3F800000#32) (ix2 r j) =
      v198 (ix2 r j) * (v143 (ix2 r j) * (wOne + v134 (ix2 r j) * (wOne - v143 (ix2 r j)))) := by
  pointwise [k0_pay1]
theorem pay3_at (v132 v172 : FVec Ideal S512x1024 .f32) (v : FVec Ideal S8x1024 .f32) (r : Fin 8) (j : Fin 1024) :
    k0_pay3 (F := Ideal) v132 v172 v (ix2 r j) = v (ix2 r j) + ∑ x : Fin 64, v132 (ix2 ⟨x.val * 8 + r.val, by omega⟩ j) * v172 (ix2 ⟨x.val * 8 + r.val, by omega⟩ j) := by
  pointwise [k0_pay3]
theorem pay5_at (v136 v196 : FVec Ideal S512x1024 .f32) (v : FVec Ideal S8x1024 .f32) (r : Fin 8) (j : Fin 1024) :
    k0_pay5 (F := Ideal) v136 v196 v (ix2 r j) = v (ix2 r j) + ∑ x : Fin 64, v196 (ix2 ⟨x.val * 8 + r.val, by omega⟩ j) * v136 (ix2 ⟨x.val * 8 + r.val, by omega⟩ j) := by
  pointwise [k0_pay5]
theorem pay13_at (i : S8x1024.Idx) : k0_pay13 (F := Ideal) i = 0 := by pointwise [k0_pay13]
theorem pay2_at (i : S8x1024.Idx) : k0_pay2 (F := Ideal) i = 0 := by pointwise [k0_pay2]
theorem pay4_at (i : S8x1024.Idx) : k0_pay4 (F := Ideal) i = 0 := by pointwise [k0_pay4]

/-- A head's sum over a row of products. -/
def hs (v : FVec Ideal S512x1024 .f32) (h : Fin 8) (q : Fin 512) : EReal := ∑ k : Fin 128, v (ix2 q (cn h k))
theorem hs_of (f : FVec Ideal S512x1024 .f32) (q : Fin 512) (h : Fin 8) (g : Fin 128 → Fin 1024) (e : ∀ x, (g x).val = h.val * 128 + x.val) :
    ∑ x, f (ix2 q (g x)) = hs f h q := Finset.sum_congr rfl fun x _ => congrArg (fun k => f (ix2 q k)) (Fin.ext (e x))
theorem pay15_at (v34 v46 : FVec Ideal S512x1024 .bf16) (r : Fin 512) (j : Fin 1024) :
    k0_pay15 (F := Ideal) v34 v46 (ix2 r j) = v34 (ix2 r j) * v46 (ix2 r j) := by
  pointwise [k0_pay15]
theorem pay16_at (v34 v46 : FVec Ideal S512x1024 .bf16) (q : Fin 512) : k0_pay16 (F := Ideal) v34 v46 (ix3 0 0 q) = hs (k0_pay15 v34 v46) 0 q := by
  unfold k0_pay16
  generalize k0_pay15 (F := Ideal) v34 v46 = f
  pointwise
  exact hs_of f q 0 _ fun x => (by show x.val = 0 * 128 + x.val; omega)
theorem pay17_at (v34 v46 : FVec Ideal S512x1024 .bf16) (q : Fin 512) : k0_pay17 (F := Ideal) v34 v46 (ix3 0 0 q) = hs (k0_pay15 v34 v46) 1 q := by
  unfold k0_pay17
  generalize k0_pay15 (F := Ideal) v34 v46 = f
  pointwise
  exact hs_of f q 1 _ fun x => rfl
theorem pay19_at (v34 v46 : FVec Ideal S512x1024 .bf16) (q : Fin 512) : k0_pay19 (F := Ideal) (k0_pay18 v34 v46) (ix3 0 0 q) = hs (k0_pay15 v34 v46) 2 q := by
  unfold k0_pay19 k0_pay18
  generalize k0_pay15 (F := Ideal) v34 v46 = f
  pointwise
  exact hs_of f q 2 _ fun x => rfl
theorem pay20_at (f : FVec Ideal S512x1024 .f32) (q : Fin 512) : k0_pay20 (F := Ideal) f (ix3 0 0 q) = hs f 3 q := by
  pointwise [k0_pay20]
  exact hs_of f q 3 _ fun x => rfl
theorem pay21_at (f : FVec Ideal S512x1024 .f32) (q : Fin 512) : k0_pay21 (F := Ideal) f (ix3 0 0 q) = hs f 4 q := by
  pointwise [k0_pay21]
  exact hs_of f q 4 _ fun x => rfl
theorem pay22_at (f : FVec Ideal S512x1024 .f32) (q : Fin 512) : k0_pay22 (F := Ideal) f (ix3 0 0 q) = hs f 5 q := by
  pointwise [k0_pay22]
  exact hs_of f q 5 _ fun x => rfl
theorem pay24_at (f : FVec Ideal S512x1024 .f32) (q : Fin 512) : k0_pay24 (F := Ideal) (k0_pay23 f) (ix3 0 0 q) = hs f 6 q := by
  pointwise [k0_pay24, k0_pay23]
  exact hs_of f q 6 _ fun x => rfl
theorem pay25_at (f : FVec Ideal S512x1024 .f32) (q : Fin 512) : k0_pay25 (F := Ideal) f (ix3 0 0 q) = hs f 7 q := by
  pointwise [k0_pay25]
  exact hs_of f q 7 _ fun x => rfl
end Cert.Kernel4Ideal.Out
end
-- ==== Proof.OEntry.lean ====
/- The host lines that lay out the output projection's gradient call, as functions of the program's arguments, and what
   the call's operands are when it is entered. -/
module

public import proofs.«01_k».proof.Proof.OPay
public import proofs.«01_k».proof.Proof.Gen.Kernel4Ideal.Frame
public import proofs.«01_k».proof.Proof.Gen.Reference4Ideal.Read
public import Idealize.ShloMosaic.Lib.Claim
public import Idealize.ShloMosaic.Lib.StableHlo.RunRead

@[expose] public section
set_option maxRecDepth 65536
noncomputable section
open Idealize.ShloMosaic Idealize.ShloMosaic.TcCoe Idealize.SL.Sem
namespace Cert.Kernel4Ideal.Out
open Cert.Kernel4Ideal Cert.Kernel4Ideal.Gen
open Cert.Reference4Ideal.Read (val_main_v30)

/-- The row of the padded arrays that a row of the sequence takes. -/
abbrev up (q : Fin 16400) : Fin 16896 := ⟨496 + q.val, by omega⟩
def z32 : FVec Ideal S_ .f32 := sitofp FTy.f32 (constantI S_ 32 0#32)
def padF (x : FVec Ideal S16400x1024 .f32) : FVec Ideal S16896x1024 .f32 :=
  pad S16896x1024 ![496, 0] ![0, 0] ![0, 0] x z32 pads_S16400x1024_S16896x1024_49600_000 h_S_
def padW (x : FVec Ideal S16400x1536 .f32) : FVec Ideal S16896x1536 .f32 :=
  pad S16896x1536 ![496, 0] ![0, 0] ![0, 0] x z32 pads_S16400x1536_S16896x1536_49600_000 h_S_
def spread (x : FVec Ideal S16 .f32) : FVec Ideal S1x1024 .f32 :=
  shapeCast S1x1024 (shapeCast S1024 (broadcastInDim S16x64 ![0] bcast_S16_S16x64_0 x) shapeCasts_S16x64_S1024) shapeCasts_S1024_S1x1024
theorem zero_word : FloatOps.sitofp (F := Ideal) FTy.f32 0#32 = 0 := by
  show (((0#32).toInt : ℝ) : EReal) = 0
  simp
theorem padF_in (x : FVec Ideal S16400x1024 .f32) (q : Fin 16400) (j : Fin 1024) : padF x (ix2 (up q) j) = x (ix2 q j) := by
  pointwise [padF]
theorem padF_low (x : FVec Ideal S16400x1024 .f32) (p : Fin 16896) (hp : p.val < 496) (j : Fin 1024) : padF x (ix2 p j) = 0 := by
  pointwise [padF, z32]
  rw [dif_neg (by omega)]
  exact zero_word
theorem padW_in (x : FVec Ideal S16400x1536 .f32) (q : Fin 16400) (j : Fin 1536) : padW x (ix2 (up q) j) = x (ix2 q j) := by
  pointwise [padW]
theorem padW_low (x : FVec Ideal S16400x1536 .f32) (p : Fin 16896) (hp : p.val < 496) (j : Fin 1536) : padW x (ix2 p j) = 0 := by
  pointwise [padW, z32]
  rw [dif_neg (by omega)]
  exact zero_word
theorem spread_at (x : FVec Ideal S16 .f32) (j : Fin 1024) : spread x (ix2 0 j) = x (ix1 ⟨j.val / 64, by omega⟩) := by
  pointwise [spread]
theorem row_at (x : FVec Ideal S1024 .f32) (j : Fin 1024) : shapeCast S1x1024 x shapeCasts_S1024_S1x1024 (ix2 0 j) = x (ix1 j) := by
  pointwise

variable (m : (ℓ : Loc nD τ sig) → Buf (Elt Ideal) ℓ) (c : Dev nD)

/-- The program's arguments. -/
def a0 : FVec Ideal S16400x1024 .f32 := m (c, Proc.tc.devRef main_arg0)
def a1 : FVec Ideal S16400x1024 .f32 := m (c, Proc.tc.devRef main_arg1)
def a2 : FVec Ideal S16400x1536 .f32 := m (c, Proc.tc.devRef main_arg2)
def a3 : FVec Ideal S16400x1024 .f32 := m (c, Proc.tc.devRef main_arg3)
def a4 : FVec Ideal S16 .f32 := m (c, Proc.tc.devRef main_arg4)
def a5 : FVec Ideal S1024 .f32 := m (c, Proc.tc.devRef main_arg5)
def a6 : FVec Ideal S2048x1024 .f32 := m (c, Proc.tc.devRef main_arg6)
def a7 : FVec Ideal S1024 .f32 := m (c, Proc.tc.devRef main_arg7)
def a8 : FVec Ideal S16400x1024 .f32 := m (c, Proc.tc.devRef main_arg8)
/-- The mixer's output, as the host lines make it again. -/
def mix : FVec Ideal S16400x1024 .f32 := val_main_v30 (F := Ideal) (a0 m c) (a1 m c) (a2 m c) (a3 m c) (a4 m c) (a5 m c) (a6 m c)
/-- The arrays that the call's windows read. -/
def eDh : FVec Ideal S16896x1024 .f32 := V m c main_v29
def eMix : FVec Ideal S16896x1024 .f32 := V m c main_v30
def eAtt : FVec Ideal S16896x1024 .bf16 := V m c main_v32
def eY : FVec Ideal S16896x1024 .f32 := V m c main_v33
def eX : FVec Ideal S16896x1536 .f32 := V m c main_v34
def eZ : FVec Ideal S16896x1024 .f32 := V m c main_v35
def eD : FVec Ideal S1x1024 .f32 := V m c main_v28
def eG : FVec Ideal S1x1024 .f32 := V m c main_v36
def eW : FVec Ideal S2048x1024 .bf16 := V m c main_v37
def eP : FVec Ideal S1x1024 .f32 := V m c main_v38
/-- The call's operands, by the host lines from the arguments. -/
theorem entry : eDh m c = padF (a8 m c)
    ∧ eMix m c = padF (mix m c)
    ∧ eAtt m c = truncf FTy.bf16 (padF (a0 m c)) bitsLt_bf16_f32
    ∧ eY m c = padF (a1 m c)
    ∧ eX m c = padW (a2 m c)
    ∧ eZ m c = padF (a3 m c)
    ∧ eD m c = spread (a4 m c)
    ∧ eG m c = shapeCast S1x1024 (a5 m c) shapeCasts_S1024_S1x1024
    ∧ eW m c = truncf FTy.bf16 (a6 m c) bitsLt_bf16_f32
    ∧ eP m c = shapeCast S1x1024 (a7 m c) shapeCasts_S1024_S1x1024 := by
  unfold eDh eMix eAtt eY eX eZ eD eG eW eP V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.nullary, StableHlo.TRef.unary, StableHlo.TRef.binary, StableHlo.TRef.toBuf, StableHlo.TRef.ofBuf, cast_eq]
  after_reads_simp
  refine ⟨?_, ?_, ?_, ?_, ?_, ?_, ?_, ?_, ?_, ?_⟩ <;> sl_kernel_rfl
end Cert.Kernel4Ideal.Out
end
-- ==== Proof.OBlocks.lean ====
module

public import proofs.«01_k».proof.Proof.OEntry
public import Idealize.ShloMosaic.Lib.Pipeline.ValueKit
public import Idealize.ShloMosaic.Lib.Pointwise
public import Idealize.ShloMosaic.Lib.VecWindow
public import Idealize.ShloMosaic.Lib.Pipeline.ReadBack

/-! What the call leaves of one block of rows. -/

@[expose] public section
set_option maxRecDepth 16384
noncomputable section
open Idealize.ShloMosaic Idealize.ShloMosaic.TcCoe Idealize.SL.Sem
open Idealize.ShloMosaic.Pipeline (Dat)
namespace Cert.Kernel4Ideal.Out
open Cert.Kernel4Ideal Cert.Kernel4Ideal.Gen
variable (m : (ℓ : Loc nD τ sig) → Buf (Elt Ideal) ℓ) (c : Dev nD)

/-- The block's rows on the way: the mixer's cotangent, the two halves of the projection, the scan's output with its skip, and gated. -/
abbrev bM (t : Fin cfg0.N) : FVec Ideal S512x1024 .bf16 := k0_pay10 (F := Ideal) (iblk m c 1 t) (iblk m c 9 t) (iblk m c 0 t)
abbrev wL (t : Fin cfg0.N) : FVec Ideal S1024x1024 .bf16 := View.ld (iblk m c 8 t) (Rect.unit ![0, 0] ![1024, 1024] inb_S2048x1024_S1024x1024_0_0)
abbrev wH (t : Fin cfg0.N) : FVec Ideal S1024x1024 .bf16 := View.ld (iblk m c 8 t) (Rect.unit ![1024, 0] ![1024, 1024] inb_S2048x1024_S1024x1024_1024_0)
abbrev bA (t : Fin cfg0.N) : FVec Ideal S512x1024 .bf16 := k0_pay11 (F := Ideal) (iblk m c 1 t) (iblk m c 9 t) (iblk m c 0 t) (wL m c t)
abbrev bO (t : Fin cfg0.N) : FVec Ideal S512x1024 .f32 := k0_pay26 (F := Ideal) (bM m c t) (wH m c t)
abbrev bY (t : Fin cfg0.N) : FVec Ideal S512x1024 .f32 := k0_pay31 (F := Ideal) (X0_4 m c t) (iblk m c 3 t) (iblk m c 6 t)
abbrev bT (t : Fin cfg0.N) : FVec Ideal S512x1024 .f32 := k0_pay32 (F := Ideal) (iblk m c 5 t) (X0_4 m c t) (iblk m c 3 t) (iblk m c 6 t)
abbrev bS (t : Fin cfg0.N) : FVec Ideal S512x1024 .f32 := k0_pay33 (F := Ideal) (iblk m c 5 t) (X0_4 m c t) (iblk m c 3 t) (iblk m c 6 t)
abbrev bD (t : Fin cfg0.N) : FVec Ideal S512x1024 .f32 := k0_pay37 (F := Ideal) (bO m c t) (k0_pay30 (iblk m c 5 t)) (bT m c t) (bS m c t) (iblk m c 7 t)
abbrev bZ (t : Fin cfg0.N) : FVec Ideal S512x1024 .bf16 := k0_pay1 (F := Ideal) (k0_pay27 (iblk m c 5 t)) (k0_pay29 (iblk m c 5 t))
  (k0_pay38 (bO m c t) (bY m c t) (bT m c t) (bS m c t) (iblk m c 7 t)) (Scalar.ofBits .f32 0x3F800000#32)
abbrev bP (t : Fin cfg0.N) : FVec Ideal S512x1024 .f32 := k0_pay15 (F := Ideal) (bA m c t) (iblk m c 2 t)
/-- The eight heads' sums, as the block's eight rows of one lane each. -/
abbrev pieces (t : Fin cfg0.N) : List (View.Piece (Elt Ideal) S8x1x512 .f32) :=
  [⟨Rect.unit ![7, 0, 0] ![1, 1, 512] inb_S8x1x512_S1x1x512_7_0_0, k0_pay25 (bP m c t)⟩,
    ⟨Rect.unit ![6, 0, 0] ![1, 1, 512] inb_S8x1x512_S1x1x512_6_0_0, k0_pay24 (k0_pay23 (bP m c t))⟩,
    ⟨Rect.unit ![5, 0, 0] ![1, 1, 512] inb_S8x1x512_S1x1x512_5_0_0, k0_pay22 (bP m c t)⟩,
    ⟨Rect.unit ![4, 0, 0] ![1, 1, 512] inb_S8x1x512_S1x1x512_4_0_0, k0_pay21 (bP m c t)⟩,
    ⟨Rect.unit ![3, 0, 0] ![1, 1, 512] inb_S8x1x512_S1x1x512_3_0_0, k0_pay20 (bP m c t)⟩,
    ⟨Rect.unit ![2, 0, 0] ![1, 1, 512] inb_S8x1x512_S1x1x512_2_0_0, k0_pay19 (k0_pay18 (bA m c t) (iblk m c 2 t))⟩,
    ⟨Rect.unit ![1, 0, 0] ![1, 1, 512] inb_S8x1x512_S1x1x512_1_0_0, k0_pay17 (bA m c t) (iblk m c 2 t)⟩,
    ⟨Rect.unit ![0, 0, 0] ![1, 1, 512] inb_S8x1x512_S1x1x512_0_0_0, k0_pay16 (bA m c t) (iblk m c 2 t)⟩]
theorem out10 (t : Fin cfg0.N) : (outsAt0 m c t.val t.isLt).1 = bM m c t := by
  by_cases h : t.val % 33 = 0
  · rw [outsAt0_A m c t h h h]
    dsimp only
    frame_out
    all_goals rfl
  · rw [outsAt0_B m c t h h h]
    dsimp only
    frame_out
    all_goals rfl
theorem out11 (t : Fin cfg0.N) : (outsAt0 m c t.val t.isLt).2.1 = bA m c t := by
  by_cases h : t.val % 33 = 0
  · rw [outsAt0_A m c t h h h]
    dsimp only
    frame_out
    all_goals rfl
  · rw [outsAt0_B m c t h h h]
    dsimp only
    frame_out
    all_goals rfl
theorem out12 (t : Fin cfg0.N) : (outsAt0 m c t.val t.isLt).2.2.1 = bD m c t := by
  by_cases h : t.val % 33 = 0
  · rw [outsAt0_A m c t h h h]
    dsimp only
    frame_out
    all_goals rfl
  · rw [outsAt0_B m c t h h h]
    dsimp only
    frame_out
    all_goals rfl
theorem out13 (t : Fin cfg0.N) : (outsAt0 m c t.val t.isLt).2.2.2.1 = bZ m c t := by
  by_cases h : t.val % 33 = 0
  · rw [outsAt0_A m c t h h h]
    dsimp only
    frame_out
    all_goals rfl
  · rw [outsAt0_B m c t h h h]
    dsimp only
    frame_out
    all_goals rfl
theorem out15 (t : Fin cfg0.N) : (outsAt0 m c t.val t.isLt).2.2.2.2.2.1 = View.canon (pieces m c t) := by
  by_cases h : t.val % 33 = 0
  · rw [outsAt0_A m c t h h h]
    dsimp only
    frame_out
    all_goals rfl
  · rw [outsAt0_B m c t h h h]
    dsimp only
    frame_out
    all_goals rfl
theorem out14_A (t : Fin cfg0.N) (h : t.val % 33 = 0) : (outsAt0 m c t.val t.isLt).2.2.2.2.1 =
    k0_pay14 (k0_pay12 (iblk m c 1 t) (iblk m c 0 t)) (k0_pay13 (F := Ideal)) := by
  rw [outsAt0_A m c t h h h]
  dsimp only
  frame_out
  all_goals rfl
theorem out14_B (t : Fin cfg0.N) (h : ¬t.val % 33 = 0) : (outsAt0 m c t.val t.isLt).2.2.2.2.1 =
    k0_pay14 (k0_pay12 (iblk m c 1 t) (iblk m c 0 t))
      (outsAt0 m c (t.val - 1) (Nat.lt_of_le_of_lt (Nat.sub_le _ _) t.isLt)).2.2.2.2.1 := by
  rw [outsAt0_B m c t h h h]
  dsimp only
  frame_out
  all_goals rfl
theorem out16_A (t : Fin cfg0.N) (h : t.val % 33 = 0) : (outsAt0 m c t.val t.isLt).2.2.2.2.2.2.1 =
    k0_pay3 (bO m c t) (k0_pay35 (bT m c t) (bS m c t)) (k0_pay2 (F := Ideal)) := by
  rw [outsAt0_A m c t h h h]
  dsimp only
  frame_out
  all_goals rfl
theorem out16_B (t : Fin cfg0.N) (h : ¬t.val % 33 = 0) : (outsAt0 m c t.val t.isLt).2.2.2.2.2.2.1 =
    k0_pay3 (bO m c t) (k0_pay35 (bT m c t) (bS m c t))
      (outsAt0 m c (t.val - 1) (Nat.lt_of_le_of_lt (Nat.sub_le _ _) t.isLt)).2.2.2.2.2.2.1 := by
  rw [outsAt0_B m c t h h h]
  dsimp only
  frame_out
  all_goals rfl
theorem out17_A (t : Fin cfg0.N) (h : t.val % 33 = 0) : (outsAt0 m c t.val t.isLt).2.2.2.2.2.2.2 =
    k0_pay5 (k0_pay28 (X0_4 m c t)) (bD m c t) (k0_pay4 (F := Ideal)) := by
  rw [outsAt0_A m c t h h h]
  dsimp only
  frame_out
  all_goals rfl
theorem out17_B (t : Fin cfg0.N) (h : ¬t.val % 33 = 0) : (outsAt0 m c t.val t.isLt).2.2.2.2.2.2.2 =
    k0_pay5 (k0_pay28 (X0_4 m c t)) (bD m c t)
      (outsAt0 m c (t.val - 1) (Nat.lt_of_le_of_lt (Nat.sub_le _ _) t.isLt)).2.2.2.2.2.2.2 := by
  rw [outsAt0_B m c t h h h]
  dsimp only
  frame_out
  all_goals rfl
end Cert.Kernel4Ideal.Out
end
-- ==== Proof.OArr.lean ====
/- What the call leaves in the arrays it writes: block by block, each row's gradients from that row alone, and the gradients
   of the two gains and of the skip added up over the rows. -/
module

public import proofs.«01_k».proof.Proof.OBlocks

@[expose] public section
set_option maxRecDepth 16384
noncomputable section
open Idealize.ShloMosaic Idealize.ShloMosaic.TcCoe Idealize.SL.Sem
open Idealize.ShloMosaic.Pipeline (Dat)
namespace Cert.Kernel4Ideal.Out
open Cert.Kernel4Ideal Cert.Kernel4Ideal.Gen Cert.Proof.Rms
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![0, 0] ∧ win0_15.index t = ![0, 0, t.val] ∧ win0_16.index t = ![0, 0] ∧ win0_17.index t = ![0, 0] :=
  (by decide +kernel : ∀ t : Fin grid0.N, _)
/-- The padded array's row a block's row is. -/
abbrev prow (t : Fin cfg0.N) (r : Fin 512) : Fin 16896 := ⟨t.val * 512 + r.val, by have : t.val < 33 := t.isLt; omega⟩
theorem blk0 (t : Fin cfg0.N) (r : Fin 512) (j : Fin 1024) : (iblk m c 0 t : FVec Ideal S512x1024 .f32) (ix2 r j) = eDh m c (ix2 (prow t r) j) := by
  blk_point [iblk, eDh, idx t]
theorem blk1 (t : Fin cfg0.N) (r : Fin 512) (j : Fin 1024) : (iblk m c 1 t : FVec Ideal S512x1024 .f32) (ix2 r j) = eMix m c (ix2 (prow t r) j) := by
  blk_point [iblk, eMix, idx t]
theorem blk2 (t : Fin cfg0.N) (r : Fin 512) (j : Fin 1024) : (iblk m c 2 t : FVec Ideal S512x1024 .bf16) (ix2 r j) = eAtt m c (ix2 (prow t r) j) := by
  blk_point [iblk, eAtt, idx t]
theorem blk3 (t : Fin cfg0.N) (r : Fin 512) (j : Fin 1024) : (iblk m c 3 t : FVec Ideal S512x1024 .f32) (ix2 r j) = eY m c (ix2 (prow t r) j) := by
  blk_point [iblk, eY, idx t]
theorem blk4 (t : Fin cfg0.N) (r : Fin 512) (j : Fin 1024) : (X0_4 m c t : FVec Ideal S512x1024 .f32) (ix2 r j) = eX m c (ix2 (prow t r) ⟨j.val, by omega⟩) := by
  unfold X0_4 Pipeline.Window.fill
  rw [dif_pos (moved0_4 t _)]
  blk_point [iblk, eX, idx t]
theorem blk5 (t : Fin cfg0.N) (r : Fin 512) (j : Fin 1024) : (iblk m c 5 t : FVec Ideal S512x1024 .f32) (ix2 r j) = eZ m c (ix2 (prow t r) j) := by
  blk_point [iblk, eZ, idx t]
theorem blk6 (t : Fin cfg0.N) (j : Fin 1024) : (iblk m c 6 t : FVec Ideal S1x1024 .f32) (ix2 0 j) = eD m c (ix2 0 j) := by
  blk_point [iblk, eD, idx t]
theorem blk7 (t : Fin cfg0.N) (j : Fin 1024) : (iblk m c 7 t : FVec Ideal S1x1024 .f32) (ix2 0 j) = eG m c (ix2 0 j) := by
  blk_point [iblk, eG, idx t]
theorem blk8 (t : Fin cfg0.N) (r : Fin 2048) (j : Fin 1024) : (iblk m c 8 t : FVec Ideal S2048x1024 .bf16) (ix2 r j) = eW m c (ix2 r j) := by
  blk_point [iblk, eW, idx t]
theorem blk9 (t : Fin cfg0.N) (j : Fin 1024) : (iblk m c 9 t : FVec Ideal S1x1024 .f32) (ix2 0 j) = eP m c (ix2 0 j) := by
  blk_point [iblk, eP, idx t]
theorem wL_at (t : Fin cfg0.N) (r : Fin 1024) (j : Fin 1024) : wL m c t (ix2 r j) = eW m c (ix2 ⟨r.val, by omega⟩ j) := by
  refine Eq.trans ?_ (blk8 m c t ⟨r.val, by omega⟩ j)
  refine congrArg (iblk m c 8 t : FVec Ideal S2048x1024 .bf16) (funext fun k => ?_)
  match k with
  | ⟨0, _⟩ => exact Fin.ext (by show 0 + 1 * r.val = r.val; omega)
  | ⟨1, _⟩ => exact Fin.ext (by show 0 + 1 * j.val = j.val; omega)
theorem wH_at (t : Fin cfg0.N) (r : Fin 1024) (j : Fin 1024) : wH m c t (ix2 r j) = eW m c (ix2 ⟨1024 + r.val, by omega⟩ j) := by
  refine Eq.trans ?_ (blk8 m c t ⟨1024 + r.val, by omega⟩ j)
  refine congrArg (iblk m c 8 t : FVec Ideal S2048x1024 .bf16) (funext fun k => ?_)
  match k with
  | ⟨0, _⟩ => exact Fin.ext (by show 1024 + 1 * r.val = 1024 + r.val; omega)
  | ⟨1, _⟩ => exact Fin.ext (by show 0 + 1 * j.val = j.val; omega)

/-- A padded row's numbers on the way, and what the row gives each result. -/
def DM (p : Fin 16896) (j : Fin 1024) : EReal :=
  kdx w1024 (fun k => eMix m c (ix2 p k)) (fun k => eP m c (ix2 0 k)) (fun k => eDh m c (ix2 p k)) j
def DA (p : Fin 16896) (j : Fin 1024) : EReal := ∑ x, DM m c p x * eW m c (ix2 ⟨j.val, by omega⟩ x)
def DO (p : Fin 16896) (j : Fin 1024) : EReal := ∑ x, DM m c p x * eW m c (ix2 ⟨1024 + j.val, by omega⟩ x)
def YS (p : Fin 16896) (j : Fin 1024) : EReal := eY m c (ix2 p j) + eD m c (ix2 0 j) * eX m c (ix2 p ⟨j.val, by omega⟩)
def ZS (p : Fin 16896) (j : Fin 1024) : EReal := eZ m c (ix2 p j) * ksg (eZ m c (ix2 p j))
def TS (p : Fin 16896) (j : Fin 1024) : EReal := YS m c p j * ZS m c p j
def DT (p : Fin 16896) (j : Fin 1024) : EReal :=
  kdx w512 (fun k => TS m c p (ga j k)) (fun k => eG m c (ix2 0 (ga j k))) (fun k => DO m c p (ga j k)) (la j)
def DY (p : Fin 16896) (j : Fin 1024) : EReal := DT m c p j * ZS m c p j
def DZ (p : Fin 16896) (j : Fin 1024) : EReal := DT m c p j * YS m c p j *
  (ksg (eZ m c (ix2 p j)) * (wOne + eZ m c (ix2 p j) * (wOne - ksg (eZ m c (ix2 p j)))))
def HS (p : Fin 16896) (h : Fin 8) : EReal := ∑ l : Fin 128, DA m c p (cn h l) * eAtt m c (ix2 p (cn h l))
def GP (p : Fin 16896) (j : Fin 1024) : EReal := eDh m c (ix2 p j) * (eMix m c (ix2 p j) * rinv w1024 (fun k => eMix m c (ix2 p k)))
def GN (p : Fin 16896) (j : Fin 1024) : EReal := DO m c p j * (TS m c p j * rinv w512 (fun k => TS m c p (ga j k)))
def GD (p : Fin 16896) (j : Fin 1024) : EReal := DY m c p j * eX m c (ix2 p ⟨j.val, by omega⟩)

theorem bM_at (t : Fin cfg0.N) (r : Fin 512) (j : Fin 1024) : bM m c t (ix2 r j) = DM m c (prow t r) j := by
  refine (pay10_at _ _ _ r j).trans ?_
  unfold DM
  rw [show (fun k => (iblk m c 1 t : FVec Ideal S512x1024 .f32) (ix2 r k)) = _ from funext fun k => blk1 m c t r k,
    show (fun k => (iblk m c 9 t : FVec Ideal S1x1024 .f32) (ix2 0 k)) = _ from funext fun k => blk9 m c t k,
    show (fun k => (iblk m c 0 t : FVec Ideal S512x1024 .f32) (ix2 r k)) = _ from funext fun k => blk0 m c t r k]
theorem bA_at (t : Fin cfg0.N) (r : Fin 512) (j : Fin 1024) : bA m c t (ix2 r j) = DA m c (prow t r) j :=
  (pay11_at _ _ _ _ r j).trans (Finset.sum_congr rfl fun x _ => congrArg₂ (· * ·) (bM_at m c t r x) (wL_at m c t j x))
theorem bO_at (t : Fin cfg0.N) (r : Fin 512) (j : Fin 1024) : bO m c t (ix2 r j) = DO m c (prow t r) j :=
  (pay26_at _ _ r j).trans (Finset.sum_congr rfl fun x _ => congrArg₂ (· * ·) (bM_at m c t r x) (wH_at m c t j x))
theorem bY_at (t : Fin cfg0.N) (r : Fin 512) (j : Fin 1024) : bY m c t (ix2 r j) = YS m c (prow t r) j :=
  (pay31_at _ _ _ r j).trans (congrArg₂ (· + ·) (blk3 m c t r j) (congrArg₂ (· * ·) (blk6 m c t j) (blk4 m c t r j)))
theorem zs_at (t : Fin cfg0.N) (r : Fin 512) (j : Fin 1024) : k0_pay30 (F := Ideal) (iblk m c 5 t) (ix2 r j) = ZS m c (prow t r) j :=
  (pay30_at _ r j).trans (congrArg (fun z => z * ksg z) (blk5 m c t r j))
theorem bT_at (t : Fin cfg0.N) (r : Fin 512) (j : Fin 1024) : bT m c t (ix2 r j) = TS m c (prow t r) j :=
  congrArg₂ (· * ·) (bY_at m c t r j) (zs_at m c t r j)
theorem dt_at (t : Fin cfg0.N) (r : Fin 512) (j : Fin 1024) :
    k0_pay36 (F := Ideal) (bO m c t) (bT m c t) (bS m c t) (iblk m c 7 t) (ix2 r j) = DT m c (prow t r) j := by
  refine (pay36_at (bO m c t) (bT m c t) (iblk m c 7 t) r j).trans ?_
  unfold DT
  rw [show (fun k => bT m c t (ix2 r (ga j k))) = _ from funext fun k => bT_at m c t r (ga j k),
    show (fun k => (iblk m c 7 t : FVec Ideal S1x1024 .f32) (ix2 0 (ga j k))) = _ from funext fun k => blk7 m c t (ga j k),
    show (fun k => bO m c t (ix2 r (ga j k))) = _ from funext fun k => bO_at m c t r (ga j k)]
theorem bD_at (t : Fin cfg0.N) (r : Fin 512) (j : Fin 1024) : bD m c t (ix2 r j) = DY m c (prow t r) j :=
  congrArg₂ (· * ·) (dt_at m c t r j) (zs_at m c t r j)
theorem p27_at (v : FVec Ideal S512x1024 .f32) (r : Fin 512) (j : Fin 1024) : k0_pay27 (F := Ideal) v (ix2 r j) = v (ix2 r j) := by
  pointwise [k0_pay27]
theorem p28_at (v : FVec Ideal S512x1024 .f32) (r : Fin 512) (j : Fin 1024) : k0_pay28 (F := Ideal) v (ix2 r j) = v (ix2 r j) := by
  pointwise [k0_pay28]
theorem bZ_at (t : Fin cfg0.N) (r : Fin 512) (j : Fin 1024) : bZ m c t (ix2 r j) = DZ m c (prow t r) j := by
  refine (pay1_at _ _ _ r j).trans ?_
  unfold DZ
  rw [p27_at, pay29_at, blk5]
  exact congrArg (· * _) (congrArg₂ (· * ·) (dt_at m c t r j) (bY_at m c t r j))
theorem hs_at (t : Fin cfg0.N) (h : Fin 8) (r : Fin 512) : hs (bP m c t) h r = HS m c (prow t r) h :=
  Finset.sum_congr rfl fun l _ => (pay15_at _ _ r (cn h l)).trans (congrArg₂ (· * ·) (bA_at m c t r (cn h l)) (blk2 m c t r (cn h l)))

/-- A result of one number a row and column, as an array. -/
def arr (g : Fin 16896 → Fin 1024 → EReal) {φ : FTy} : FVec Ideal S16896x1024 φ := fun i => g (i 0) (i 1)
/-- The heads' sums, a row of lanes for each head. -/
def HA : FVec Ideal S8x1x16896 .f32 := fun i => HS m c (i 2) (i 0)
def G (t : Fin cfg0.N) : FVec Ideal S8x1x512 .f32 := fun y => HS m c (prow t (y 2)) (y 0)
theorem ix_eta (x : (⟨3, ![1, 1, 512]⟩ : Shape).Idx) : x = ix3 0 0 (x 2) := by
  funext k
  match k with
  | ⟨0, _⟩ => exact Subsingleton.elim (α := Fin 1) _ _
  | ⟨1, _⟩ => exact Subsingleton.elim (α := Fin 1) _ _
  | ⟨2, _⟩ => rfl
theorem piece (t : Fin cfg0.N) (h : Fin 8) (inb) (f : FVec Ideal ⟨3, ![1, 1, 512]⟩ .f32) (hf : ∀ q : Fin 512, f (ix3 0 0 q) = hs (bP m c t) h q)
    (x : (⟨3, ![1, 1, 512]⟩ : Shape).Idx) : f x = G m c t ((Rect.unit (s := S8x1x512) ![h.val, 0, 0] ![1, 1, 512] inb).emb x) := by
  have e0 : (Rect.unit (s := S8x1x512) ![h.val, 0, 0] ![1, 1, 512] inb).emb x 0 = h :=
    Fin.ext (by have : (x 0).val < 1 := (x 0).isLt; show h.val + 1 * (x 0).val = h.val; omega)
  have e2 : (Rect.unit (s := S8x1x512) ![h.val, 0, 0] ![1, 1, 512] inb).emb x 2 = x 2 := Fin.ext (by show 0 + 1 * (x 2).val = (x 2).val; omega)
  refine (congrArg f (ix_eta x)).trans ((hf (x 2)).trans ((hs_at m c t h (x 2)).trans ?_))
  exact congrArg₂ (fun a b => HS m c (prow t a) b) e2.symm e0.symm
theorem pieces_at (t : Fin cfg0.N) : ∀ p ∈ pieces m c t, ∀ x : p.1.shape.Idx, p.2 x = G m c t (p.1.emb x) := by
  simp only [pieces, List.forall_mem_cons]
  exact ⟨piece m c t 7 _ _ (pay25_at _), piece m c t 6 _ _ (pay24_at _), piece m c t 5 _ _ (pay22_at _), piece m c t 4 _ _ (pay21_at _),
    piece m c t 3 _ _ (pay20_at _), piece m c t 2 _ _ (pay19_at _ _), piece m c t 1 _ _ (pay17_at _ _), piece m c t 0 _ _ (pay16_at _ _), fun p hp => absurd hp List.not_mem_nil⟩
theorem out15_at (t : Fin cfg0.N) : (outsAt0 m c t.val t.isLt).2.2.2.2.2.1 = G m c t := by
  rw [out15]
  funext y
  exact View.canon_apply_of_pieces (G m c t) (pieces m c t) (pieces_at m c t) y
    (View.cover_of_tiledBy (pieces m c t) ![1, 1, 512] (by sl_kernel_rfl) y)

/-- The eight partial sums of a gradient over the rows: row `r` of the block holds the rows congruent to `r`. -/
def part (g : Fin 16896 → Fin 1024 → EReal) : FVec Ideal S8x1024 .f32 := fun i =>
  ∑ t : Fin 33, ∑ x : Fin 64, g ⟨t.val * 512 + (x.val * 8 + (i 0).val), by have : (i 0).val < 8 := (i 0).isLt; omega⟩ (i 1)
theorem at10 (F : FVec Ideal S16896x1024 .bf16) (t : Fin cfg0.N) (y0 : Fin 512) (y1 : Fin 1024) :
    F (((View.whole main_v39_0).slice (win0_10.rect t)).emb (ix2 y0 y1)) = F (ix2 (prow t y0) y1) := by blk_point [idx t]
theorem at11 (F : FVec Ideal S16896x1024 .bf16) (t : Fin cfg0.N) (y0 : Fin 512) (y1 : Fin 1024) :
    F (((View.whole main_v39_1).slice (win0_11.rect t)).emb (ix2 y0 y1)) = F (ix2 (prow t y0) y1) := by blk_point [idx t]
theorem at12 (F : FVec Ideal S16896x1024 .f32) (t : Fin cfg0.N) (y0 : Fin 512) (y1 : Fin 1024) :
    F (((View.whole main_v39_2).slice (win0_12.rect t)).emb (ix2 y0 y1)) = F (ix2 (prow t y0) y1) := by blk_point [idx t]
theorem at13 (F : FVec Ideal S16896x1024 .bf16) (t : Fin cfg0.N) (y0 : Fin 512) (y1 : Fin 1024) :
    F (((View.whole main_v39_3).slice (win0_13.rect t)).emb (ix2 y0 y1)) = F (ix2 (prow t y0) y1) := by blk_point [idx t]
theorem at15 (F : FVec Ideal S8x1x16896 .f32) (t : Fin cfg0.N) (y0 : Fin 8) (y1 : Fin 1) (y2 : Fin 512) :
    F (((View.whole main_v39_5).slice (win0_15.rect t)).emb (ix3 y0 y1 y2)) = F (ix3 y0 y1 (prow t y2)) := by blk_point [idx t]
theorem at14 (F : FVec Ideal S8x1024 .f32) (t : Fin cfg0.N) (y0 : Fin 8) (y1 : Fin 1024) :
    F (((View.whole main_v39_4).slice (win0_14.rect t)).emb (ix2 y0 y1)) = F (ix2 y0 y1) := by blk_point [idx t]
theorem at16 (F : FVec Ideal S8x1024 .f32) (t : Fin cfg0.N) (y0 : Fin 8) (y1 : Fin 1024) :
    F (((View.whole main_v39_6).slice (win0_16.rect t)).emb (ix2 y0 y1)) = F (ix2 y0 y1) := by blk_point [idx t]
theorem at17 (F : FVec Ideal S8x1024 .f32) (t : Fin cfg0.N) (y0 : Fin 8) (y1 : Fin 1024) :
    F (((View.whole main_v39_7).slice (win0_17.rect t)).emb (ix2 y0 y1)) = F (ix2 y0 y1) := by blk_point [idx t]
theorem arr10 : (dats m 0 c).arrAt 10 (cfgs 0).N = arr (φ := .bf16) (DM m c) := by
  refine (dats m 0 c).arrAt_eq_of_covers 10 _ (by decide +kernel) fun t _ y => ?_
  blk_simp
  rw [after0_10, out10]
  idx_vars y
  exact (bM_at m c t y0 y1).trans (at10 (arr (φ := .bf16) (DM m c)) t y0 y1).symm
theorem arr11 : (dats m 0 c).arrAt 11 (cfgs 0).N = arr (φ := .bf16) (DA m c) := by
  refine (dats m 0 c).arrAt_eq_of_covers 11 _ (by decide +kernel) fun t _ y => ?_
  blk_simp
  rw [after0_11, out11]
  idx_vars y
  exact (bA_at m c t y0 y1).trans (at11 (arr (φ := .bf16) (DA m c)) t y0 y1).symm
theorem arr12 : (dats m 0 c).arrAt 12 (cfgs 0).N = arr (φ := .f32) (DY m c) := by
  refine (dats m 0 c).arrAt_eq_of_covers 12 _ (by decide +kernel) fun t _ y => ?_
  blk_simp
  rw [after0_12, out12]
  idx_vars y
  exact (bD_at m c t y0 y1).trans (at12 (arr (φ := .f32) (DY m c)) t y0 y1).symm
theorem arr13 : (dats m 0 c).arrAt 13 (cfgs 0).N = arr (φ := .bf16) (DZ m c) := by
  refine (dats m 0 c).arrAt_eq_of_covers 13 _ (by decide +kernel) fun t _ y => ?_
  blk_simp
  rw [after0_13, out13]
  idx_vars y
  exact (bZ_at m c t y0 y1).trans (at13 (arr (φ := .bf16) (DZ m c)) t y0 y1).symm
theorem arr15 : (dats m 0 c).arrAt 15 (cfgs 0).N = HA m c := by
  refine (dats m 0 c).arrAt_eq_of_covers 15 _ (by decide +kernel) fun t _ y => ?_
  blk_simp
  rw [after0_15, out15_at]
  idx_vars y
  exact (at15 (HA m c) t y0 y1 y2).symm
theorem gp_of (t : Fin cfg0.N) (v0 v4 : FVec Ideal S512x1024 .f32) (h0 : ∀ r j, v0 (ix2 r j) = eMix m c (ix2 (prow t r) j))
    (h4 : ∀ r j, v4 (ix2 r j) = eDh m c (ix2 (prow t r) j)) (r : Fin 512) (j : Fin 1024) :
    v4 (ix2 r j) * (v0 (ix2 r j) * rinv w1024 (fun k => v0 (ix2 r k))) = GP m c (prow t r) j := by
  unfold GP
  rw [funext fun k => h0 r k, h4, h0]
theorem acc14 (t : Fin cfg0.N) (hf : t.val % 33 = 32) (r : Fin 8) (j : Fin 1024) :
    (outsAt0 m c t.val t.isLt).2.2.2.2.1 (ix2 r j) = part (GP m c) (ix2 r j) := by
  rw [Pipeline.eq_sum_fin_of_reset_step_apply_of_flush (fun n h => (outsAt0 m c n h).2.2.2.2.1) 33 (fun _ => 0)
    (fun t y => ∑ x : Fin 64, GP m c (prow t ⟨x.val * 8 + (y 0).val, by have : (y 0).val < 8 := (y 0).isLt; omega⟩) (y 1))
    (fun t h y => ?_) (fun t h y => ?_) t hf (ix2 r j), zero_add]
  · have e : t.val / 33 = 0 := by have : t.val < 33 := t.isLt; omega
    refine Finset.sum_congr rfl fun s _ => Finset.sum_congr rfl fun x _ => ?_
    refine congrFun (congrArg (GP m c) (Fin.ext ?_)) j
    show (33 * (t.val / 33) + s.val) * 512 + _ = s.val * 512 + _
    rw [e]; simp
  · idx_vars y
    rw [out14_A m c t h]
    exact (pay14_at (iblk m c 1 t) (iblk m c 0 t) _ y0 y1).trans (congrArg₂ (· + ·) (pay13_at _) (Finset.sum_congr rfl fun x _ => gp_of m c t _ _ (blk1 m c t) (blk0 m c t) ⟨x.val * 8 + y0.val, by omega⟩ y1))
  · idx_vars y
    rw [out14_B m c t h]
    exact (pay14_at (iblk m c 1 t) (iblk m c 0 t) _ y0 y1).trans (congrArg (_ + ·) (Finset.sum_congr rfl fun x _ => gp_of m c t _ _ (blk1 m c t) (blk0 m c t) ⟨x.val * 8 + y0.val, by omega⟩ y1))
theorem arr14 : (dats m 0 c).arrAt 14 (cfgs 0).N = part (GP m c) := by
  refine (dats m 0 c).arrAt_eq_of_covers 14 _ (by decide +kernel) fun t hf y => ?_
  blk_simp
  rw [after0_14]
  idx_vars y
  exact (acc14 m c t ((flush0_14 t).mp hf) y0 y1).trans (at14 (part (GP m c)) t y0 y1).symm
theorem gn_at (t : Fin cfg0.N) (r : Fin 512) (j : Fin 1024) :
    bO m c t (ix2 r j) * k0_pay35 (F := Ideal) (bT m c t) (bS m c t) (ix2 r j) = GN m c (prow t r) j := congrArg₂ (· * ·) (bO_at m c t r j) (congrArg₂ (· * ·) (bT_at m c t r j)
    ((pay34_at (bT m c t) r j).trans (congrArg (rinv w512) (funext fun k => bT_at m c t r (ga j k)))))
theorem acc16 (t : Fin cfg0.N) (hf : t.val % 33 = 32) (r : Fin 8) (j : Fin 1024) :
    (outsAt0 m c t.val t.isLt).2.2.2.2.2.2.1 (ix2 r j) = part (GN m c) (ix2 r j) := by
  rw [Pipeline.eq_sum_fin_of_reset_step_apply_of_flush (fun n h => (outsAt0 m c n h).2.2.2.2.2.2.1) 33 (fun _ => 0)
    (fun t y => ∑ x : Fin 64, GN m c (prow t ⟨x.val * 8 + (y 0).val, by have : (y 0).val < 8 := (y 0).isLt; omega⟩) (y 1))
    (fun t h y => ?_) (fun t h y => ?_) t hf (ix2 r j), zero_add]
  · have e : t.val / 33 = 0 := by have : t.val < 33 := t.isLt; omega
    refine Finset.sum_congr rfl fun s _ => Finset.sum_congr rfl fun x _ => ?_
    refine congrFun (congrArg (GN m c) (Fin.ext ?_)) j
    show (33 * (t.val / 33) + s.val) * 512 + _ = s.val * 512 + _
    rw [e]; simp
  · idx_vars y
    rw [out16_A m c t h]
    exact (pay3_at _ _ _ y0 y1).trans (congrArg₂ (· + ·) (pay2_at _) (Finset.sum_congr rfl fun x _ => gn_at m c t ⟨x.val * 8 + y0.val, by omega⟩ y1))
  · idx_vars y
    rw [out16_B m c t h]
    exact (pay3_at _ _ _ y0 y1).trans (congrArg (_ + ·) (Finset.sum_congr rfl fun x _ => gn_at m c t ⟨x.val * 8 + y0.val, by omega⟩ y1))
theorem arr16 : (dats m 0 c).arrAt 16 (cfgs 0).N = part (GN m c) := by
  refine (dats m 0 c).arrAt_eq_of_covers 16 _ (by decide +kernel) fun t hf y => ?_
  blk_simp
  rw [after0_16]
  idx_vars y
  exact (acc16 m c t ((flush0_16 t).mp hf) y0 y1).trans (at16 (part (GN m c)) t y0 y1).symm
theorem gd_at (t : Fin cfg0.N) (r : Fin 512) (j : Fin 1024) :
    bD m c t (ix2 r j) * k0_pay28 (F := Ideal) (X0_4 m c t) (ix2 r j) = GD m c (prow t r) j := congrArg₂ (· * ·) (bD_at m c t r j) ((p28_at _ r j).trans (blk4 m c t r j))
theorem acc17 (t : Fin cfg0.N) (hf : t.val % 33 = 32) (r : Fin 8) (j : Fin 1024) :
    (outsAt0 m c t.val t.isLt).2.2.2.2.2.2.2 (ix2 r j) = part (GD m c) (ix2 r j) := by
  rw [Pipeline.eq_sum_fin_of_reset_step_apply_of_flush (fun n h => (outsAt0 m c n h).2.2.2.2.2.2.2) 33 (fun _ => 0)
    (fun t y => ∑ x : Fin 64, GD m c (prow t ⟨x.val * 8 + (y 0).val, by have : (y 0).val < 8 := (y 0).isLt; omega⟩) (y 1))
    (fun t h y => ?_) (fun t h y => ?_) t hf (ix2 r j), zero_add]
  · have e : t.val / 33 = 0 := by have : t.val < 33 := t.isLt; omega
    refine Finset.sum_congr rfl fun s _ => Finset.sum_congr rfl fun x _ => ?_
    refine congrFun (congrArg (GD m c) (Fin.ext ?_)) j
    show (33 * (t.val / 33) + s.val) * 512 + _ = s.val * 512 + _
    rw [e]; simp
  · idx_vars y
    rw [out17_A m c t h]
    exact (pay5_at _ _ _ y0 y1).trans (congrArg₂ (· + ·) (pay4_at _) (Finset.sum_congr rfl fun x _ => gd_at m c t ⟨x.val * 8 + y0.val, by omega⟩ y1))
  · idx_vars y
    rw [out17_B m c t h]
    exact (pay5_at _ _ _ y0 y1).trans (congrArg (_ + ·) (Finset.sum_congr rfl fun x _ => gd_at m c t ⟨x.val * 8 + y0.val, by omega⟩ y1))
theorem arr17 : (dats m 0 c).arrAt 17 (cfgs 0).N = part (GD m c) := by
  refine (dats m 0 c).arrAt_eq_of_covers 17 _ (by decide +kernel) fun t hf y => ?_
  blk_simp
  rw [after0_17]
  idx_vars y
  exact (acc17 m c t ((flush0_17 t).mp hf) y0 y1).trans (at17 (part (GD m c)) t y0 y1).symm
/-- The eight partial sums together are the sum over all rows. -/
theorem part_sum (g : Fin 16896 → Fin 1024 → EReal) (j : Fin 1024) : ∑ r : Fin 8, part g (ix2 r j) = ∑ p, g p j := by
  show ∑ r : Fin 8, ∑ t : Fin 33, ∑ x : Fin 64, g ⟨t.val * 512 + (x.val * 8 + r.val), _⟩ j = _
  rw [Finset.sum_comm]
  refine (Finset.sum_congr rfl fun t _ => (Finset.sum_comm.trans ?_)).trans (Fin.sum_mul_add_fin 33 512 fun p => g p j)
  exact Fin.sum_mul_add_fin 64 8 fun q : Fin 512 => g ⟨t.val * 512 + q.val, by omega⟩ j
/-- Rows of padding that contribute nothing leave the sum over the rows themselves. -/
theorem sum_padded (g : Fin 16896 → EReal) (h0 : ∀ p, p.val < 496 → g p = 0) : ∑ p, g p = ∑ i : Fin 16400, g (up i) := by
  rw [Fin.sum_univ_add (a := 496) (b := 16400) g, Finset.sum_eq_zero fun i _ => h0 (Fin.castAdd 16400 i) i.isLt, zero_add]
  rfl
end Cert.Kernel4Ideal.Out
end
-- ==== Proof.OTail.lean ====
/- What the program's results hold: the lines after the call cut the padding off and add the partial sums; and what a padded
   row gives, of the arguments: at a row of the sequence the row's own, at a row of padding nothing to the sums. -/
module

public import proofs.«01_k».proof.Proof.OArr

@[expose] public section
set_option maxRecDepth 16384
noncomputable section
namespace Cert.Kernel4Ideal.Out
open Idealize.ShloMosaic Idealize.ShloMosaic.TcCoe Idealize.SL.Sem
open Cert.Kernel4Ideal Cert.Kernel4Ideal.Gen Cert.Proof.Rms

variable (m : (ℓ : Loc nD τ sig) → Buf (Elt Ideal) ℓ) (c : Dev nD)

def t40 : FVec Ideal S16400x1024 .bf16 := Pipeline.afterTail₀ cfgs (dats m) 0 (V0 m) [hostOps1] c main_v40
def t41 : FVec Ideal S16400x1024 .bf16 := Pipeline.afterTail₀ cfgs (dats m) 0 (V0 m) [hostOps1] c main_v41
def t42 : FVec Ideal S16400x1024 .f32 := Pipeline.afterTail₀ cfgs (dats m) 0 (V0 m) [hostOps1] c main_v42
def t43 : FVec Ideal S16400x1024 .bf16 := Pipeline.afterTail₀ cfgs (dats m) 0 (V0 m) [hostOps1] c main_v43
def t45 : FVec Ideal S8x16400 .f32 := Pipeline.afterTail₀ cfgs (dats m) 0 (V0 m) [hostOps1] c main_v45
def t46 : FVec Ideal S1024 .f32 := Pipeline.afterTail₀ cfgs (dats m) 0 (V0 m) [hostOps1] c main_v46
def t47 : FVec Ideal S1024 .f32 := Pipeline.afterTail₀ cfgs (dats m) 0 (V0 m) [hostOps1] c main_v47
def t50 : FVec Ideal S16 .f32 := Pipeline.afterTail₀ cfgs (dats m) 0 (V0 m) [hostOps1] c main_v50
theorem w10 : Pipeline.withArrays (cfgs 0).spec c (V0 m c) (fun w => (dats m 0 c).arrAt w (cfgs 0).N) (Proc.tc.devRef main_v39_0) = arr (φ := .bf16) (DM m c) :=
  (Pipeline.withArrays_arr (cfgs 0).spec (by decide) c _ _ 10).trans (arr10 m c)
theorem w11 : Pipeline.withArrays (cfgs 0).spec c (V0 m c) (fun w => (dats m 0 c).arrAt w (cfgs 0).N) (Proc.tc.devRef main_v39_1) = arr (φ := .bf16) (DA m c) :=
  (Pipeline.withArrays_arr (cfgs 0).spec (by decide) c _ _ 11).trans (arr11 m c)
theorem w12 : Pipeline.withArrays (cfgs 0).spec c (V0 m c) (fun w => (dats m 0 c).arrAt w (cfgs 0).N) (Proc.tc.devRef main_v39_2) = arr (φ := .f32) (DY m c) :=
  (Pipeline.withArrays_arr (cfgs 0).spec (by decide) c _ _ 12).trans (arr12 m c)
theorem w13 : Pipeline.withArrays (cfgs 0).spec c (V0 m c) (fun w => (dats m 0 c).arrAt w (cfgs 0).N) (Proc.tc.devRef main_v39_3) = arr (φ := .bf16) (DZ m c) :=
  (Pipeline.withArrays_arr (cfgs 0).spec (by decide) c _ _ 13).trans (arr13 m c)
theorem w14 : Pipeline.withArrays (cfgs 0).spec c (V0 m c) (fun w => (dats m 0 c).arrAt w (cfgs 0).N) (Proc.tc.devRef main_v39_4) = part (GP m c) :=
  (Pipeline.withArrays_arr (cfgs 0).spec (by decide) c _ _ 14).trans (arr14 m c)
theorem w15 : Pipeline.withArrays (cfgs 0).spec c (V0 m c) (fun w => (dats m 0 c).arrAt w (cfgs 0).N) (Proc.tc.devRef main_v39_5) = HA m c :=
  (Pipeline.withArrays_arr (cfgs 0).spec (by decide) c _ _ 15).trans (arr15 m c)
theorem w16 : Pipeline.withArrays (cfgs 0).spec c (V0 m c) (fun w => (dats m 0 c).arrAt w (cfgs 0).N) (Proc.tc.devRef main_v39_6) = part (GN m c) :=
  (Pipeline.withArrays_arr (cfgs 0).spec (by decide) c _ _ 16).trans (arr16 m c)
theorem w17 : Pipeline.withArrays (cfgs 0).spec c (V0 m c) (fun w => (dats m 0 c).arrAt w (cfgs 0).N) (Proc.tc.devRef main_v39_7) = part (GD m c) :=
  (Pipeline.withArrays_arr (cfgs 0).spec (by decide) c _ _ 17).trans (arr17 m c)
theorem t40_at (i : Fin 16400) (j : Fin 1024) : t40 m c (ix2 i j) = DM m c (up i) j := by
  unfold t40 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w10]
  pointwise [arr]
theorem t41_at (i : Fin 16400) (j : Fin 1024) : t41 m c (ix2 i j) = DA m c (up i) j := by
  unfold t41 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w11]
  pointwise [arr]
theorem t42_at (i : Fin 16400) (j : Fin 1024) : t42 m c (ix2 i j) = DY m c (up i) j := by
  unfold t42 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w12]
  pointwise [arr]
theorem t43_at (i : Fin 16400) (j : Fin 1024) : t43 m c (ix2 i j) = DZ m c (up i) j := by
  unfold t43 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w13]
  pointwise [arr]
theorem t45_at (h : Fin 8) (i : Fin 16400) : t45 m c (ix2 h i) = HS m c (up i) h := by
  unfold t45 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w15]
  pointwise [HA]
theorem t46_at (j : Fin 1024) : t46 m c (ix1 j) = ∑ p, GP m c p j := by
  rw [← part_sum]
  unfold t46 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w14]
  pointwise
theorem t47_at (j : Fin 1024) : t47 m c (ix1 j) = ∑ p, GN m c p j := by
  rw [← part_sum]
  unfold t47 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w16]
  pointwise
theorem t50_at (h : Fin 16) : t50 m c (ix1 h) = ∑ d : Fin 64, ∑ p, GD m c p ⟨h.val * 64 + d.val, by omega⟩ := by
  refine Eq.trans ?_ (Finset.sum_congr rfl fun d _ => part_sum (GD m c) ⟨h.val * 64 + d.val, by omega⟩)
  unfold t50 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w17]
  pointwise

theorem dh_low (p : Fin 16896) (hp : p.val < 496) (j : Fin 1024) : eDh m c (ix2 p j) = 0 := by
  rw [(entry m c).1]
  exact padF_low _ p hp j
theorem x_low (p : Fin 16896) (hp : p.val < 496) (j : Fin 1536) : eX m c (ix2 p j) = 0 := by
  rw [(entry m c).2.2.2.2.1]
  exact padW_low _ p hp j
theorem GP_low (p : Fin 16896) (hp : p.val < 496) (j : Fin 1024) : GP m c p j = 0 :=
  (congrArg (· * _) (dh_low m c p hp j)).trans (zero_mul _)
theorem GD_low (p : Fin 16896) (hp : p.val < 496) (j : Fin 1024) : GD m c p j = 0 :=
  (congrArg (_ * ·) (x_low m c p hp ⟨j.val, by omega⟩)).trans (mul_zero _)
/-- A row of no cotangent gives none. -/
theorem kdx_zero {D : ℕ} (w : EReal) {d : ℝ} (hD : d ≠ 0) (hw : w = (d : EReal)) (x g dy : Fin D → EReal) (h : ∀ k, dy k = 0) (j : Fin D) : kdx w x g dy j = 0 := by
  rw [funext h]
  unfold kdx
  rw [show w = _ from hw, Ideal.div_coe hD]
  simp
theorem DO_low (p : Fin 16896) (hp : p.val < 496) (j : Fin 1024) : DO m c p j = 0 :=
  Finset.sum_eq_zero fun x _ => (congrArg (· * _) (kdx_zero _ (by norm_num) bits_1024 _ _ _ (dh_low m c p hp) x)).trans (zero_mul _)
theorem GN_low (p : Fin 16896) (hp : p.val < 496) (j : Fin 1024) : GN m c p j = 0 :=
  (congrArg (· * _) (DO_low m c p hp j)).trans (zero_mul _)
end Cert.Kernel4Ideal.Out
end
-- ==== Proof.ORef.lean ====
module

public import proofs.«01_k».proof.Proof.OPay
public import proofs.«01_k».proof.Proof.Gen.Reference4Ideal.Read

/-! What the reference's lines behind the output projection hold, entry by entry. -/

@[expose] public section
set_option maxRecDepth 65536
noncomputable section
open Idealize.ShloMosaic Idealize.ShloMosaic.TcCoe Idealize.SL.Sem
namespace Cert.Reference4Ideal.Stages
open Cert.Reference4Ideal Cert.Reference4Ideal.Read Cert.Proof.Rms
open Cert.Kernel4Ideal.Out (ga la cn w512 w1024 wOne)

variable (x0 : FVec Ideal S16400x1024 .f32) (x1 : FVec Ideal S16400x1024 .f32) (x2 : FVec Ideal S16400x1536 .f32) (x3 : FVec Ideal S16400x1024 .f32)
  (x4 : FVec Ideal S16 .f32) (x5 : FVec Ideal S1024 .f32) (x6 : FVec Ideal S2048x1024 .f32) (x7 : FVec Ideal S1024 .f32) (x8 : FVec Ideal S16400x1024 .f32)

/-- The logistic function as the reference writes it. -/
def rsg (z : EReal) : EReal := Ideal.div 1 (1 + Ideal.exp (-z))
/-- The scan's output with the skip added, and gated. -/
def Y2 (i : Fin 16400) (j : Fin 1024) : EReal := x1 (ix2 i j) + x4 (ix1 ⟨j.val / 64, by omega⟩) * x2 (ix2 i ⟨j.val, by omega⟩)
def SZ (i : Fin 16400) (j : Fin 1024) : EReal := x3 (ix2 i j) * rsg (x3 (ix2 i j))
def GT (i : Fin 16400) (j : Fin 1024) : EReal := Y2 x1 x2 x4 i j * SZ x3 i j

theorem v6_at (i : Fin 16400) (j : Fin 1024) : val_main_v6 (F := Ideal) x1 x2 x4 (ix2 i j) = Y2 x1 x2 x4 i j := by
  pointwise [val_main_v6, val_main_v5, val_main_v4, val_main_v3, val_main_v2, val_main_v1, val_main_v0]
  rfl
theorem v72_at (i : Fin 16400) (j : Fin 1024) : val_main_v7_2 (F := Ideal) x3 (ix2 i j) = rsg (x3 (ix2 i j)) := by
  pointwise [val_main_v7_2, val_main_call0_v4, val_main_call0_v3, val_main_call0_v2, val_main_call0_v1, val_main_call0_v0, val_main_call0_cst, val_main_call0_cst_0]
  rfl
theorem v70_at (i : Fin 16400) (j : Fin 1024) : val_main_v7_0 (F := Ideal) x3 (ix2 i j) = SZ x3 i j :=
  congrArg (x3 (ix2 i j) * ·) (v72_at x3 i j)
theorem v8_at (i : Fin 16400) (j : Fin 1024) : val_main_v8 (F := Ideal) x1 x2 x3 x4 (ix2 i j) = GT x1 x2 x3 x4 i j :=
  congrArg₂ (· * ·) (v6_at x1 x2 x4 i j) (v70_at x3 i j)
theorem v9_at (i : Fin 16400) (j : Fin 1024) (k : Fin 512) :
    val_main_v9 (F := Ideal) x1 x2 x3 x4 (ix3 i ⟨j.val / 512, by omega⟩ k) = GT x1 x2 x3 x4 i (ga j k) := by
  rw [← v8_at]
  unfold val_main_v9
  generalize val_main_v8 (F := Ideal) x1 x2 x3 x4 = f
  pointwise
theorem v25_at (i : Fin 16400) (j : Fin 1024) : val_main_v25 (F := Ideal) x1 x2 x3 x4 (ix2 i j) =
    GT x1 x2 x3 x4 i (ga j (la j)) * rinv w512 (fun k => GT x1 x2 x3 x4 i (ga j k)) := by
  pointwise [val_main_v25, val_main_v24, val_main_v23, val_main_v19, val_main_v18, val_main_v17, val_main_v16, val_main_v15, val_main_v14, val_main_v13, val_main_v10, val_main_cst_0, val_main_cst_1, val_main_cst_2]
  simp only [v9_at]
  rfl
theorem v66_at (i : Fin 16400) (j : Fin 1024) : val_main_v66 (F := Ideal) x0 x1 x2 x3 x4 x5 x6 x7 x8 (ix2 i j) =
    vdx w1024 (fun k => val_main_v30 (F := Ideal) x0 x1 x2 x3 x4 x5 x6 (ix2 i k)) (fun k => x7 (ix1 k)) (fun k => x8 (ix2 i k)) j := by
  pointwise [val_main_v66, val_main_v65, val_main_v64, val_main_v63, val_main_v62, val_main_v61, val_main_v60, val_main_v59, val_main_v58, val_main_v57, val_main_v56, val_main_v55, val_main_v53, val_main_v52, val_main_v46, val_main_v43, val_main_v42, val_main_v41, val_main_v40, val_main_v39, val_main_v38, val_main_v37, val_main_v36, val_main_v35, val_main_v34, val_main_v33, val_main_v32, val_main_v31, val_main_cst_4, val_main_cst_5, val_main_cst_6, val_main_cst_7, val_main_cst_8, val_main_cst_11, val_main_cst_12, val_main_cst_13]
  simp only [Finset.univ_unique, Finset.sum_const, Finset.card_singleton, one_smul]
  rfl
theorem v68_at (i : Fin 16400) (j : Fin 1024) : val_main_v68 (F := Ideal) x0 x1 x2 x3 x4 x5 x6 x7 x8 (ix2 i j) =
    ∑ k, val_main_v66 (F := Ideal) x0 x1 x2 x3 x4 x5 x6 x7 x8 (ix2 i k) * x6 (ix2 ⟨j.val, by omega⟩ k) := by
  unfold val_main_v68 val_main_v67
  generalize val_main_v66 (F := Ideal) x0 x1 x2 x3 x4 x5 x6 x7 x8 = f
  pointwise
theorem v69_at (i : Fin 16400) (j : Fin 1024) : val_main_v69 (F := Ideal) x0 x1 x2 x3 x4 x5 x6 x7 x8 (ix2 i j) =
    ∑ k, val_main_v66 (F := Ideal) x0 x1 x2 x3 x4 x5 x6 x7 x8 (ix2 i k) * x6 (ix2 ⟨1024 + j.val, by omega⟩ k) := by
  unfold val_main_v69 val_main_v67
  generalize val_main_v66 (F := Ideal) x0 x1 x2 x3 x4 x5 x6 x7 x8 = f
  pointwise
theorem v76_at (i : Fin 16400) (j : Fin 1024) (k : Fin 512) : val_main_v76 (F := Ideal) x0 x1 x2 x3 x4 x5 x6 x7 x8 (ix3 i ⟨j.val / 512, by omega⟩ k) =
    val_main_v69 (F := Ideal) x0 x1 x2 x3 x4 x5 x6 x7 x8 (ix2 i (ga j k)) * x5 (ix1 (ga j k)) := by
  unfold val_main_v76 val_main_v74 val_main_v73 val_main_v26
  generalize val_main_v69 (F := Ideal) x0 x1 x2 x3 x4 x5 x6 x7 x8 = f
  pointwise
theorem v89_at (i : Fin 16400) (j : Fin 1024) : val_main_v89 (F := Ideal) x0 x1 x2 x3 x4 x5 x6 x7 x8 (ix2 i j) =
    vdx w512 (fun k => GT x1 x2 x3 x4 i (ga j k)) (fun k => x5 (ix1 (ga j k)))
      (fun k => val_main_v69 (F := Ideal) x0 x1 x2 x3 x4 x5 x6 x7 x8 (ix2 i (ga j k))) (la j) := by
  pointwise [val_main_v89, val_main_v88, val_main_v87, val_main_v86, val_main_v85, val_main_v84, val_main_v83, val_main_v82, val_main_v81, val_main_v80, val_main_v79, val_main_v78, val_main_v77, val_main_v22, val_main_v21, val_main_v20, val_main_v19, val_main_v18, val_main_v17, val_main_v16, val_main_v15, val_main_v14, val_main_v13, val_main_v12, val_main_v11, val_main_v10, val_main_cst, val_main_cst_0, val_main_cst_1, val_main_cst_2, val_main_cst_3, val_main_cst_16, val_main_cst_17, val_main_cst_18]
  simp only [v9_at, v76_at, Finset.univ_unique, Finset.sum_const, Finset.card_singleton, one_smul]
  rfl
theorem v91_at (i : Fin 16400) (j : Fin 1024) : val_main_v91 (F := Ideal) x0 x1 x2 x3 x4 x5 x6 x7 x8 (ix2 i j) =
    val_main_v89 (F := Ideal) x0 x1 x2 x3 x4 x5 x6 x7 x8 (ix2 i j) * SZ x3 i j := congrArg (_ * ·) (v70_at x3 i j)
theorem v92_at (i : Fin 16400) (j : Fin 1024) (d : EReal) (hd : val_main_v89 (F := Ideal) x0 x1 x2 x3 x4 x5 x6 x7 x8 (ix2 i j) = d) :
    val_main_v105 (F := Ideal) x0 x1 x2 x3 x4 x5 x6 x7 x8 (ix2 i j) =
    Y2 x1 x2 x4 i j * d * rsg (x3 (ix2 i j)) + x3 (ix2 i j) * (Y2 x1 x2 x4 i j * d) * (rsg (x3 (ix2 i j)) * (wOne - rsg (x3 (ix2 i j)))) := by
  subst hd
  rw [← v6_at, ← v72_at]
  rfl
theorem v102_at (h : Fin 8) (i : Fin 16400) : val_main_v102 (F := Ideal) x0 x1 x2 x3 x4 x5 x6 x7 x8 (ix2 h i) =
    ∑ l : Fin 128, val_main_v68 (F := Ideal) x0 x1 x2 x3 x4 x5 x6 x7 x8 (ix2 i (cn h l)) * x0 (ix2 i (cn h l)) := by
  unfold val_main_v102 val_main_v101 val_main_v100 val_main_v99
  generalize val_main_v68 (F := Ideal) x0 x1 x2 x3 x4 x5 x6 x7 x8 = f
  pointwise [val_main_cst_22]
theorem v54_at (j : Fin 1024) : val_main_v54 (F := Ideal) x0 x1 x2 x3 x4 x5 x6 x8 (ix1 j) =
    ∑ i, val_main_v30 (F := Ideal) x0 x1 x2 x3 x4 x5 x6 (ix2 i j) * rinv w1024 (fun k => val_main_v30 (F := Ideal) x0 x1 x2 x3 x4 x5 x6 (ix2 i k)) * x8 (ix2 i j) := by
  pointwise [val_main_v54, val_main_v51, val_main_v50, val_main_v49, val_main_v45, val_main_v44, val_main_v40, val_main_v39, val_main_v38, val_main_v37, val_main_v36, val_main_v35, val_main_v34, val_main_v31, val_main_cst_5, val_main_cst_6, val_main_cst_7, val_main_cst_9, val_main_cst_10]
  simp only [Finset.univ_unique, Finset.sum_const, Finset.card_singleton, one_smul]
  rfl
theorem v75_at (j : Fin 1024) : val_main_v75 (F := Ideal) x0 x1 x2 x3 x4 x5 x6 x7 x8 (ix1 j) =
    ∑ i, val_main_v25 (F := Ideal) x1 x2 x3 x4 (ix2 i j) * val_main_v69 (F := Ideal) x0 x1 x2 x3 x4 x5 x6 x7 x8 (ix2 i j) := by
  unfold val_main_v75 val_main_v72 val_main_v71 val_main_v70
  generalize val_main_v69 (F := Ideal) x0 x1 x2 x3 x4 x5 x6 x7 x8 = f
  generalize val_main_v25 (F := Ideal) x1 x2 x3 x4 = g
  pointwise [val_main_cst_14, val_main_cst_15]
  simp only [Finset.univ_unique, Finset.sum_const, Finset.card_singleton, one_smul]
theorem v98_at (h : Fin 16) : val_main_v98 (F := Ideal) x0 x1 x2 x3 x4 x5 x6 x7 x8 (ix1 h) =
    ∑ d : Fin 64, ∑ i, val_main_v91 (F := Ideal) x0 x1 x2 x3 x4 x5 x6 x7 x8 (ix2 i ⟨h.val * 64 + d.val, by omega⟩) * x2 (ix2 i ⟨h.val * 64 + d.val, by omega⟩) := by
  unfold val_main_v98 val_main_v97 val_main_v96 val_main_v95 val_main_v94 val_main_v93
  generalize val_main_v91 (F := Ideal) x0 x1 x2 x3 x4 x5 x6 x7 x8 = f
  pointwise [val_main_v3, val_main_cst_19, val_main_cst_20, val_main_cst_21]
  simp only [Finset.univ_unique, Finset.sum_const, Finset.card_singleton, one_smul]
theorem v28_at (i : Fin 16400) (j : Fin 1024) : val_main_v28 (F := Ideal) x1 x2 x3 x4 x5 (ix2 i j) =
    val_main_v25 (F := Ideal) x1 x2 x3 x4 (ix2 i j) * x5 (ix1 j) := by
  unfold val_main_v28 val_main_v27 val_main_v26
  generalize val_main_v25 (F := Ideal) x1 x2 x3 x4 = f
  pointwise
theorem v29_lo (i : Fin 16400) (j : Fin 1024) : val_main_v29 (F := Ideal) x0 x1 x2 x3 x4 x5 (ix2 i ⟨j.val, by omega⟩) = x0 (ix2 i j) := by
  unfold val_main_v29
  generalize val_main_v28 (F := Ideal) x1 x2 x3 x4 x5 = f
  pointwise
theorem v29_hi (i : Fin 16400) (j : Fin 1024) : val_main_v29 (F := Ideal) x0 x1 x2 x3 x4 x5 (ix2 i ⟨1024 + j.val, by omega⟩) =
    val_main_v28 (F := Ideal) x1 x2 x3 x4 x5 (ix2 i j) := by
  unfold val_main_v29
  generalize val_main_v28 (F := Ideal) x1 x2 x3 x4 x5 = f
  pointwise
theorem v30_at (i : Fin 16400) (j : Fin 1024) : val_main_v30 (F := Ideal) x0 x1 x2 x3 x4 x5 x6 (ix2 i j) =
    ∑ k, val_main_v29 (F := Ideal) x0 x1 x2 x3 x4 x5 (ix2 i k) * x6 (ix2 k j) := by
  unfold val_main_v30
  generalize val_main_v29 (F := Ideal) x0 x1 x2 x3 x4 x5 = f
  pointwise
end Cert.Reference4Ideal.Stages
end
-- ==== Proof.OVal.lean ====
/- Over finite arguments the call's rows are the reference's: each is real, and the two ways of writing it agree. -/
module

public import proofs.«01_k».proof.Defs
public import proofs.«01_k».proof.Proof.OTail
public import proofs.«01_k».proof.Proof.ORef
public import proofs.«01_k».proof.Proof.RealOf

@[expose] public section
set_option maxRecDepth 16384
noncomputable section
open Idealize.ShloMosaic Idealize.ShloMosaic.TcCoe Idealize.SL.Sem
namespace Cert.Kernel4Ideal.Out
open Cert.Kernel4Ideal Cert.Kernel4Ideal.Gen Cert.Proof Cert.Proof.Rms
open Cert.Reference4Ideal.Read Cert.Reference4Ideal.Stages

theorem bits_512 : w512 = ((512 : ℝ) : EReal) := by
  simp [w512, Ideal.ofBits, Ideal.ieee, -EReal.coe_mul]; norm_num
theorem bits_half : wHalf = ((1 / 2 : ℝ) : EReal) := by
  simp [wHalf, Ideal.ofBits, Ideal.ieee, -EReal.coe_mul]; norm_num
theorem bits_one : wOne = ((1 : ℝ) : EReal) := by
  simp [wOne, Ideal.ofBits, Ideal.ieee, -EReal.coe_mul]; norm_num

/-- Half of one plus the hyperbolic tangent of a half is the logistic function. -/
theorem half_tanh (z : ℝ) : 1 / 2 * Real.tanh (1 / 2 * z) + 1 / 2 = 1 * (1 / (1 + Real.exp (-z))) := by
  have h : Real.exp (-z) = Real.exp (-(1 / 2 * z)) * Real.exp (-(1 / 2 * z)) := by rw [← Real.exp_add]; congr 1; ring
  have h1 : Real.exp (1 / 2 * z) * Real.exp (-(1 / 2 * z)) = 1 := by rw [← Real.exp_add]; simp
  rw [Real.tanh_eq_sinh_div_cosh, Real.sinh_eq, Real.cosh_eq, h]
  have p := Real.exp_pos (1 / 2 * z)
  have q := Real.exp_pos (-(1 / 2 * z))
  generalize Real.exp (1 / 2 * z) = a at *
  generalize Real.exp (-(1 / 2 * z)) = b at *
  have s : 0 < a + b := by linarith
  field_simp
  nlinarith [h1]
theorem rsg_coe (z : ℝ) : rsg (z : EReal) = ((1 * (1 / (1 + Real.exp (-z))) : ℝ) : EReal) := by
  have hp : (1 + Real.exp (-z)) ≠ 0 := by positivity
  have e : (1 : EReal) + Ideal.exp (-(z : EReal)) = ((1 + Real.exp (-z) : ℝ) : EReal) := by
    rw [← EReal.coe_neg, Ideal.exp_coe, EReal.coe_add, EReal.coe_one]
  rw [rsg, e, Ideal.div_coe hp, EReal.coe_mul, EReal.coe_one]
theorem ksg_coe (z : ℝ) : ksg (z : EReal) = ((1 / 2 * Real.tanh (1 / 2 * z) + 1 / 2 : ℝ) : EReal) := by
  rw [ksg, bits_half, ← EReal.coe_mul, Ideal.tanh_coe, ← EReal.coe_mul, ← EReal.coe_add]
theorem ksg_eq {z : EReal} (h : IsReal z) : ksg z = rsg z := by
  obtain ⟨z, rfl⟩ := h
  rw [ksg_coe, rsg_coe, half_tanh]
theorem rsg_real {z : EReal} (h : IsReal z) : IsReal (rsg z) := by
  obtain ⟨z, rfl⟩ := h
  exact ⟨_, rsg_coe z⟩
/-- The gate's derivative, as the call groups it and as reverse differentiation does. -/
theorem gate_eq {d y z s : EReal} (hd : IsReal d) (hy : IsReal y) (hz : IsReal z) (hs : IsReal s) :
    d * y * (s * (wOne + z * (wOne - s))) = y * d * s + z * (y * d) * (s * (wOne - s)) := by
  obtain ⟨d, rfl⟩ := hd
  obtain ⟨y, rfl⟩ := hy
  obtain ⟨z, rfl⟩ := hz
  obtain ⟨s, rfl⟩ := hs
  rw [bits_one]
  simp only [← EReal.coe_mul, ← EReal.coe_add, ← EReal.coe_sub]
  congr 1
  ring
theorem ga_la (j : Fin 1024) : ga j (la j) = j := Fin.ext (by show j.val / 512 * 512 + j.val % 512 = j.val; omega)

section High
variable (m : (ℓ : Loc nD τ sig) → Buf (Elt Ideal) ℓ) (c : Dev nD) (i : Fin 16400)

/-- The operands' rows behind the padding. -/
theorem dh_up (j : Fin 1024) : eDh m c (ix2 (up i) j) = a8 m c (ix2 i j) := by rw [(entry m c).1]; exact padF_in _ i j
theorem mix_up (j : Fin 1024) : eMix m c (ix2 (up i) j) = mix m c (ix2 i j) := by rw [(entry m c).2.1]; exact padF_in _ i j
theorem att_up (j : Fin 1024) : eAtt m c (ix2 (up i) j) = a0 m c (ix2 i j) := by rw [(entry m c).2.2.1]; exact padF_in _ i j
theorem y_up (j : Fin 1024) : eY m c (ix2 (up i) j) = a1 m c (ix2 i j) := by rw [(entry m c).2.2.2.1]; exact padF_in _ i j
theorem x_up (j : Fin 1536) : eX m c (ix2 (up i) j) = a2 m c (ix2 i j) := by rw [(entry m c).2.2.2.2.1]; exact padW_in _ i j
theorem z_up (j : Fin 1024) : eZ m c (ix2 (up i) j) = a3 m c (ix2 i j) := by rw [(entry m c).2.2.2.2.2.1]; exact padF_in _ i j
theorem d_at (j : Fin 1024) : eD m c (ix2 0 j) = a4 m c (ix1 ⟨j.val / 64, by omega⟩) := by rw [(entry m c).2.2.2.2.2.2.1]; exact spread_at _ j
theorem g_at (j : Fin 1024) : eG m c (ix2 0 j) = a5 m c (ix1 j) := by rw [(entry m c).2.2.2.2.2.2.2.1]; exact row_at _ j
theorem w_at (k : Fin 2048) (j : Fin 1024) : eW m c (ix2 k j) = a6 m c (ix2 k j) := by rw [(entry m c).2.2.2.2.2.2.2.2.1]; rfl
theorem p_at (j : Fin 1024) : eP m c (ix2 0 j) = a7 m c (ix1 j) := by rw [(entry m c).2.2.2.2.2.2.2.2.2]; exact row_at _ j
theorem YS_up (j : Fin 1024) : YS m c (up i) j = Y2 (a1 m c) (a2 m c) (a4 m c) i j := by rw [YS, y_up, d_at, x_up]; rfl
end High

section Values
variable [hf : Cert.Pre_finite4.Facts]
variable (m : (ℓ : Loc nD τ sig) → Buf (Elt Ideal) ℓ) (c : Dev nD) (hp : Cert.Pre_Kernel4Ideal_finite4 m)
include hp
theorem r0 (i) : IsReal (a0 m c i) := Pre.real_of _ _ (hp c).1 i
theorem r1 (i) : IsReal (a1 m c i) := Pre.real_of _ _ (hp c).2.1 i
theorem r2 (i) : IsReal (a2 m c i) := Pre.real_of _ _ (hp c).2.2.1 i
theorem r3 (i) : IsReal (a3 m c i) := Pre.real_of _ _ (hp c).2.2.2.1 i
theorem r4 (i) : IsReal (a4 m c i) := Pre.real_of _ _ (hp c).2.2.2.2.1 i
theorem r5 (i) : IsReal (a5 m c i) := Pre.real_of _ _ (hp c).2.2.2.2.2.1 i
theorem r6 (i) : IsReal (a6 m c i) := Pre.real_of _ _ (hp c).2.2.2.2.2.2.1 i
theorem r7 (i) : IsReal (a7 m c i) := Pre.real_of _ _ (hp c).2.2.2.2.2.2.2.1 i
theorem r8 (i) : IsReal (a8 m c i) := Pre.real_of _ _ (hp c).2.2.2.2.2.2.2.2 i

theorem rY (i : Fin 16400) (j : Fin 1024) : IsReal (Y2 (a1 m c) (a2 m c) (a4 m c) i j) := (r1 m c hp _).add ((r4 m c hp _).mul (r2 m c hp _))
theorem rS (i : Fin 16400) (j : Fin 1024) : IsReal (SZ (a3 m c) i j) := (r3 m c hp _).mul (rsg_real (r3 m c hp _))
theorem rG (i : Fin 16400) (j : Fin 1024) : IsReal (GT (a1 m c) (a2 m c) (a3 m c) (a4 m c) i j) := (rY m c hp i j).mul (rS m c hp i j)
theorem rV (i : Fin 16400) (j : Fin 1024) : IsReal (val_main_v28 (F := Ideal) (a1 m c) (a2 m c) (a3 m c) (a4 m c) (a5 m c) (ix2 i j)) := by
  rw [v28_at, v25_at, bits_512]
  exact ((rG m c hp i _).mul (rinv_real (by norm_num) fun _ => rG m c hp i _)).mul (r5 m c hp _)
theorem rC (i : Fin 16400) (k : Fin 2048) : IsReal (val_main_v29 (F := Ideal) (a0 m c) (a1 m c) (a2 m c) (a3 m c) (a4 m c) (a5 m c) (ix2 i k)) := by
  obtain ⟨v, hv⟩ := k
  by_cases h : v < 1024
  · exact (v29_lo (a0 m c) (a1 m c) (a2 m c) (a3 m c) (a4 m c) (a5 m c) i ⟨v, h⟩) ▸ r0 m c hp _
  · obtain ⟨u, rfl⟩ : ∃ u, v = 1024 + u := ⟨v - 1024, by omega⟩
    exact (v29_hi (a0 m c) (a1 m c) (a2 m c) (a3 m c) (a4 m c) (a5 m c) i ⟨u, by omega⟩) ▸ rV m c hp i _
theorem rM (i : Fin 16400) (j : Fin 1024) : IsReal (mix m c (ix2 i j)) := by
  rw [mix, v30_at]
  exact IsReal.sum fun k => (rC m c hp i k).mul (r6 m c hp _)

/-- The gradient of the mixer's output, of its two halves, of the gated rows. -/
theorem DM_real (i : Fin 16400) (j : Fin 1024) : IsReal (DM m c (up i) j) := by
  rw [DM, show w1024 = _ from bits_1024]
  exact kdx_real (by norm_num) (fun k => mix_up m c i k ▸ rM m c hp i k) (fun k => p_at m c k ▸ r7 m c hp _) (fun k => dh_up m c i k ▸ r8 m c hp _) j
theorem DM_up (i : Fin 16400) (j : Fin 1024) : DM m c (up i) j =
    val_main_v66 (F := Ideal) (a0 m c) (a1 m c) (a2 m c) (a3 m c) (a4 m c) (a5 m c) (a6 m c) (a7 m c) (a8 m c) (ix2 i j) := by
  rw [v66_at, DM, show w1024 = _ from bits_1024]
  simp only [mix_up, p_at, dh_up]
  exact kdx_eq_vdx (by norm_num) (fun k => rM m c hp i k) (fun k => r7 m c hp _) (fun k => r8 m c hp _) j
theorem DA_up (i : Fin 16400) (j : Fin 1024) : DA m c (up i) j =
    val_main_v68 (F := Ideal) (a0 m c) (a1 m c) (a2 m c) (a3 m c) (a4 m c) (a5 m c) (a6 m c) (a7 m c) (a8 m c) (ix2 i j) := by
  rw [v68_at, DA]
  exact Finset.sum_congr rfl fun k _ => by rw [DM_up m c hp, w_at]
theorem DO_up (i : Fin 16400) (j : Fin 1024) : DO m c (up i) j =
    val_main_v69 (F := Ideal) (a0 m c) (a1 m c) (a2 m c) (a3 m c) (a4 m c) (a5 m c) (a6 m c) (a7 m c) (a8 m c) (ix2 i j) := by
  rw [v69_at, DO]
  exact Finset.sum_congr rfl fun k _ => by rw [DM_up m c hp, w_at]
theorem DO_real (i : Fin 16400) (j : Fin 1024) : IsReal (DO m c (up i) j) :=
  IsReal.sum fun k => (DM_real m c hp i k).mul (w_at m c _ k ▸ r6 m c hp _)
theorem ZS_up (i : Fin 16400) (j : Fin 1024) : ZS m c (up i) j = SZ (a3 m c) i j := by
  rw [ZS, z_up, ksg_eq (r3 m c hp _)]; rfl
theorem TS_up (i : Fin 16400) (j : Fin 1024) : TS m c (up i) j = GT (a1 m c) (a2 m c) (a3 m c) (a4 m c) i j := by
  rw [TS, YS_up, ZS_up m c hp]; rfl
theorem DT_real (i : Fin 16400) (j : Fin 1024) : IsReal (DT m c (up i) j) := by
  rw [DT, bits_512]
  exact kdx_real (by norm_num) (fun k => TS_up m c hp i _ ▸ rG m c hp i _) (fun k => g_at m c _ ▸ r5 m c hp _) (fun k => DO_real m c hp i _) _
theorem DT_up (i : Fin 16400) (j : Fin 1024) : DT m c (up i) j =
    val_main_v89 (F := Ideal) (a0 m c) (a1 m c) (a2 m c) (a3 m c) (a4 m c) (a5 m c) (a6 m c) (a7 m c) (a8 m c) (ix2 i j) := by
  rw [v89_at, DT, bits_512]
  simp only [TS_up m c hp, g_at, ← DO_up m c hp]
  exact kdx_eq_vdx (by norm_num) (fun k => rG m c hp i _) (fun k => r5 m c hp _) (fun k => DO_real m c hp i _) _
theorem DY_up (i : Fin 16400) (j : Fin 1024) : DY m c (up i) j =
    val_main_v91 (F := Ideal) (a0 m c) (a1 m c) (a2 m c) (a3 m c) (a4 m c) (a5 m c) (a6 m c) (a7 m c) (a8 m c) (ix2 i j) := by
  rw [v91_at, DY, DT_up m c hp, ZS_up m c hp]
theorem DZ_up (i : Fin 16400) (j : Fin 1024) : DZ m c (up i) j =
    val_main_v105 (F := Ideal) (a0 m c) (a1 m c) (a2 m c) (a3 m c) (a4 m c) (a5 m c) (a6 m c) (a7 m c) (a8 m c) (ix2 i j) := by
  refine Eq.trans ?_ (v92_at (a0 m c) (a1 m c) (a2 m c) (a3 m c) (a4 m c) (a5 m c) (a6 m c) (a7 m c) (a8 m c) i j _ (DT_up m c hp i j).symm).symm
  rw [DZ, YS_up, z_up, ksg_eq (r3 m c hp _)]
  exact gate_eq (DT_real m c hp i j) (rY m c hp i j) (r3 m c hp _) (rsg_real (r3 m c hp _))
theorem HS_up (i : Fin 16400) (h : Fin 8) : HS m c (up i) h =
    val_main_v102 (F := Ideal) (a0 m c) (a1 m c) (a2 m c) (a3 m c) (a4 m c) (a5 m c) (a6 m c) (a7 m c) (a8 m c) (ix2 h i) := by
  rw [v102_at, HS]
  exact Finset.sum_congr rfl fun l _ => by rw [DA_up m c hp, att_up]

/-- The results, entry by entry. -/
theorem dm_final : val_main_v103 (F := Ideal) (a0 m c) (a1 m c) (a2 m c) (a3 m c) (a4 m c) (a5 m c) (a6 m c) (a7 m c) (a8 m c) = t40 m c := by
  funext y
  idx_vars y
  exact ((t40_at m c y0 y1).trans (DM_up m c hp y0 y1)).symm
theorem da_final : val_main_v104 (F := Ideal) (a0 m c) (a1 m c) (a2 m c) (a3 m c) (a4 m c) (a5 m c) (a6 m c) (a7 m c) (a8 m c) = t41 m c := by
  funext y
  idx_vars y
  exact ((t41_at m c y0 y1).trans (DA_up m c hp y0 y1)).symm
theorem dy_final : val_main_v91 (F := Ideal) (a0 m c) (a1 m c) (a2 m c) (a3 m c) (a4 m c) (a5 m c) (a6 m c) (a7 m c) (a8 m c) = t42 m c := by
  funext y
  idx_vars y
  exact ((t42_at m c y0 y1).trans (DY_up m c hp y0 y1)).symm
theorem dz_final : val_main_v105 (F := Ideal) (a0 m c) (a1 m c) (a2 m c) (a3 m c) (a4 m c) (a5 m c) (a6 m c) (a7 m c) (a8 m c) = t43 m c := by
  funext y
  idx_vars y
  exact ((t43_at m c y0 y1).trans (DZ_up m c hp y0 y1)).symm
theorem hs_final : val_main_v102 (F := Ideal) (a0 m c) (a1 m c) (a2 m c) (a3 m c) (a4 m c) (a5 m c) (a6 m c) (a7 m c) (a8 m c) = t45 m c := by
  funext y
  idx_vars y
  exact ((t45_at m c y0 y1).trans (HS_up m c hp y1 y0)).symm
omit hp hf in
theorem gp_final : val_main_v54 (F := Ideal) (a0 m c) (a1 m c) (a2 m c) (a3 m c) (a4 m c) (a5 m c) (a6 m c) (a8 m c) = t46 m c := by
  funext y
  idx_vars y
  rw [v54_at, t46_at, sum_padded (fun p => GP m c p y0) fun p h => GP_low m c p h y0]
  refine Finset.sum_congr rfl fun i _ => ?_
  simp only [GP, mix_up, dh_up]
  exact mul_comm _ _
theorem gn_final : val_main_v75 (F := Ideal) (a0 m c) (a1 m c) (a2 m c) (a3 m c) (a4 m c) (a5 m c) (a6 m c) (a7 m c) (a8 m c) = t47 m c := by
  funext y
  idx_vars y
  rw [v75_at, t47_at, sum_padded (fun p => GN m c p y0) fun p h => GN_low m c p h y0]
  refine Finset.sum_congr rfl fun i _ => ?_
  simp only [GN, TS_up m c hp, DO_up m c hp]
  rw [v25_at, ga_la]
  exact mul_comm _ _
theorem gd_final : val_main_v98 (F := Ideal) (a0 m c) (a1 m c) (a2 m c) (a3 m c) (a4 m c) (a5 m c) (a6 m c) (a7 m c) (a8 m c) = t50 m c := by
  funext y
  idx_vars y
  rw [v98_at, t50_at]
  refine Finset.sum_congr rfl fun d _ => ?_
  rw [sum_padded (fun p => GD m c p ⟨y0.val * 64 + d.val, by omega⟩) fun p h => GD_low m c p h _]
  refine Finset.sum_congr rfl fun i _ => ?_
  simp only [GD, DY_up m c hp, x_up]
end Values
end Cert.Kernel4Ideal.Out
end
-- ==== Proof.Out.lean ====
module

public import proofs.«01_k».proof.Proof.OVal
public import proofs.«01_k».proof.Proof.Gen.Kernel4.Frame
public import proofs.«01_k».proof.Proof.Gen.Reference4Ideal.Run
public import Idealize.ShloMosaic.Adequacy
public import Idealize.ShloMosaic.Init

/-! The output projection's gradient: the frames, and the two programs' results as the same quantities of the rows. -/

@[expose] public section

set_option maxRecDepth 16384
noncomputable section

namespace Cert.Proof.Out

open Idealize.ShloMosaic Idealize.SL.Sem Idealize.ShloMosaic.TcCoe
open Cert.Kernel4Ideal.Out Cert.Proof.Rms

theorem preFacts : Cert.Pre_finite4.Facts := by
  constructor <;> decide

theorem kernel_frame : Cert.quiescent_Kernel4 := fun m g _ => Cert.Kernel4.Gen.frame m g
theorem ideal_frame : Cert.quiescent_Kernel4Ideal := fun m g _ => Cert.Kernel4Ideal.Gen.frame m g
theorem reference_frame : Cert.quiescent_Reference4Ideal := fun m g _ => (θ_run _ _ _).mono
  (fun r h => And.intro (fun c => (h c).2.2.2.2.2.2.2.2) (sem_eq_zero_of_no_sems (by decide) r.2)) (Cert.Reference4Ideal.Value.run m g)

open Cert.Kernel4Ideal Cert.Kernel4Ideal.Gen in
/-- The kernel program's run: each result as the lines after the call leave it, the arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v40) = t40 m c
      ∧ r.2.mem ((c.tc : Thread nD τ).loc main_v41) = t41 m c
      ∧ r.2.mem ((c.tc : Thread nD τ).loc main_v42) = t42 m c
      ∧ r.2.mem ((c.tc : Thread nD τ).loc main_v43) = t43 m c
      ∧ r.2.mem ((c.tc : Thread nD τ).loc main_v45) = t45 m c
      ∧ r.2.mem ((c.tc : Thread nD τ).loc main_v46) = t46 m c
      ∧ r.2.mem ((c.tc : Thread nD τ).loc main_v47) = t47 m c
      ∧ r.2.mem ((c.tc : Thread nD τ).loc main_v50) = t50 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  run_from Cert.Kernel4Ideal.Gen.run_main m g & Cert.Kernel4Ideal.Gen.unchanged m g
  all_goals rfl

instance facts : Cert.Pre_finite4.Facts := preFacts

theorem algebraic : Cert.algebraic_Kernel4Ideal_Reference4Ideal_pre_finite4 := by
  pair_intro
  · run_from kernel_run m g
  · refine (θ_run _ _ _).mono (fun r h c => ?_) (Cert.Reference4Ideal.Value.run m' g')
    obtain ⟨h0, h1, h2, h3, h4, h5, h6, h7, ht⟩ := h c
    obtain ⟨e0, e1, e2, e3, e4, e5, e6, e7, e8⟩ := hagree c
    replace e0 : StableHlo.launchContents m' c (Proc.tc.devRef Cert.Reference4Ideal.main_arg0) = a0 m c := e0
    replace e1 : StableHlo.launchContents m' c (Proc.tc.devRef Cert.Reference4Ideal.main_arg1) = a1 m c := e1
    replace e2 : StableHlo.launchContents m' c (Proc.tc.devRef Cert.Reference4Ideal.main_arg2) = a2 m c := e2
    replace e3 : StableHlo.launchContents m' c (Proc.tc.devRef Cert.Reference4Ideal.main_arg3) = a3 m c := e3
    replace e4 : StableHlo.launchContents m' c (Proc.tc.devRef Cert.Reference4Ideal.main_arg4) = a4 m c := e4
    replace e5 : StableHlo.launchContents m' c (Proc.tc.devRef Cert.Reference4Ideal.main_arg5) = a5 m c := e5
    replace e6 : StableHlo.launchContents m' c (Proc.tc.devRef Cert.Reference4Ideal.main_arg6) = a6 m c := e6
    replace e7 : StableHlo.launchContents m' c (Proc.tc.devRef Cert.Reference4Ideal.main_arg7) = a7 m c := e7
    replace e8 : StableHlo.launchContents m' c (Proc.tc.devRef Cert.Reference4Ideal.main_arg8) = a8 m c := e8
    refine ⟨h0.trans ?_, h1.trans ?_, h2.trans ?_, h3.trans ?_, h4.trans ?_, h5.trans ?_, h6.trans ?_, h7.trans ?_, ht⟩
    · rw [Cert.Reference4Ideal.Read.val_main_v103_eq, e0, e1, e2, e3, e4, e5, e6, e7, e8]; exact dm_final m c hpre
    · rw [Cert.Reference4Ideal.Read.val_main_v104_eq, e0, e1, e2, e3, e4, e5, e6, e7, e8]; exact da_final m c hpre
    · rw [Cert.Reference4Ideal.Read.val_main_v91_eq, e0, e1, e2, e3, e4, e5, e6, e7, e8]; exact dy_final m c hpre
    · rw [Cert.Reference4Ideal.Read.val_main_v105_eq, e0, e1, e2, e3, e4, e5, e6, e7, e8]; exact dz_final m c hpre
    · rw [Cert.Reference4Ideal.Read.val_main_v102_eq, e0, e1, e2, e3, e4, e5, e6, e7, e8]; exact hs_final m c hpre
    · rw [Cert.Reference4Ideal.Read.val_main_v54_eq, e0, e1, e2, e3, e4, e5, e6, e8]; exact gp_final m c
    · rw [Cert.Reference4Ideal.Read.val_main_v75_eq, e0, e1, e2, e3, e4, e5, e6, e7, e8]; exact gn_final m c hpre
    · rw [Cert.Reference4Ideal.Read.val_main_v98_eq, e0, e1, e2, e3, e4, e5, e6, e7, e8]; exact gd_final m c hpre

end Cert.Proof.Out

end
-- ==== Proof.IPay.lean ====
module

public import proofs.«01_k».proof.Proof.Gen.Kernel5Ideal.Skeleton
public import proofs.«01_k».proof.Proof.Rms

/-! What one block of rows makes in front of the input projection, entry by entry. -/

@[expose] public section
set_option maxRecDepth 65536
noncomputable section
open Idealize.ShloMosaic Idealize.ShloMosaic.TcCoe Idealize.SL.Sem
namespace Cert.Kernel5Ideal.Inp
open Cert.Kernel5Ideal Cert.Kernel5Ideal.Gen Cert.Proof.Rms

/-- The norm's width, as the programs store it. -/
abbrev w1024 : EReal := Ideal.ofBits FTy.f32 1149239296#32
theorem pay1_at (i : S8x1024.Idx) : k0_pay1 (F := Ideal) i = 0 := by
  pointwise [k0_pay1]
theorem pay2_at (v34 : FVec Ideal S512x1024 .f32) (v49 : FVec Ideal S8x1024 .f32) (r : Fin 8) (j : Fin 1024) :
    k0_pay2 (F := Ideal) v34 v49 (ix2 r j) = v49 (ix2 r j) + ∑ x : Fin 64, v34 (ix2 ⟨x.val * 8 + r.val, by omega⟩ j) := by
  pointwise [k0_pay2]
theorem pay4_at (v7 : FVec Ideal S512x3584 .bf16) (v9 : FVec Ideal S1024x3584 .bf16) (r : Fin 512) (j : Fin 1024) :
    k0_pay4 (F := Ideal) v7 v9 (ix2 r j) = ∑ x, v7 (ix2 r x) * v9 (ix2 j x) := by
  pointwise [k0_pay4]
theorem sel_at : ∀ t : Fin cfg0.N, Scalar.cmpi .eq (BitVec.ofNat 32 (grid0.coords t 0).val) 0#32 = if t.val = 0 then 1#1 else 0#1 :=
  (by decide +kernel : ∀ t : Fin grid0.N, _)
theorem pay3_at (t : Fin cfg0.N) (v1 v3 : FVec Ideal S512x1024 .f32) (r : Fin 512) (j : Fin 1024) :
    k0_pay3 (F := Ideal) (grid0.coords t) v1 v3 (ix2 r j) = if t.val = 0 then v1 (ix2 r j) else v3 (ix2 r j) := by
  unfold k0_pay3
  dsimp only
  rw [sel_at t]
  by_cases h : t.val = 0
  · rw [if_pos h, if_pos h]
    show shapeCast S512x1024 v1 shapeCasts_S512x1024_S512x1024 (ix2 r j) = _
    pointwise
  · rw [if_neg h, if_neg h]
    rfl
theorem pay7_at (i : grid0.Coords) (v1 v3 : FVec Ideal S512x1024 .f32) (v7 : FVec Ideal S512x3584 .bf16) (v9 : FVec Ideal S1024x3584 .bf16) (r : Fin 512) (j : Fin 1024) :
    k0_pay7 (F := Ideal) i v1 v3 v7 v9 (ix2 r j) = k0_pay4 (F := Ideal) v7 v9 (ix2 r j) *
      (k0_pay3 (F := Ideal) i v1 v3 (ix2 r j) * rinv w1024 (fun k => k0_pay3 (F := Ideal) i v1 v3 (ix2 r k))) := by
  unfold k0_pay7 k0_pay6 k0_pay5
  generalize k0_pay3 (F := Ideal) i v1 v3 = h
  generalize k0_pay4 (F := Ideal) v7 v9 = d
  pointwise
  rfl
theorem pay8_at (i : grid0.Coords) (v1 v3 : FVec Ideal S512x1024 .f32) (v5 : FVec Ideal S1x1024 .f32) (v7 : FVec Ideal S512x3584 .bf16) (v9 : FVec Ideal S1024x3584 .bf16)
    (v35 : FVec Ideal S512x1024 .f32) (r : Fin 512) (j : Fin 1024) :
    k0_pay8 (F := Ideal) i v1 v3 v5 v7 v9 v35 (ix2 r j) = v35 (ix2 r j) + kdx w1024 (fun k => k0_pay3 (F := Ideal) i v1 v3 (ix2 r k)) (fun k => v5 (ix2 0 k))
      (fun k => k0_pay4 (F := Ideal) v7 v9 (ix2 r k)) j := by
  unfold k0_pay8 k0_pay6 k0_pay5
  generalize k0_pay3 (F := Ideal) i v1 v3 = h
  generalize k0_pay4 (F := Ideal) v7 v9 = d
  pointwise
  rfl
end Cert.Kernel5Ideal.Inp
end
-- ==== Proof.IEntry.lean ====
module

public import proofs.«01_k».proof.Proof.IPay
public import proofs.«01_k».proof.Proof.Gen.Kernel5Ideal.Frame
public import Idealize.ShloMosaic.Lib.Claim
public import Idealize.ShloMosaic.Lib.StableHlo.RunRead

/-! The host lines in front of the input projection's backward call: how they lay the projection's columns out, and the call's operands. -/

@[expose] public section
set_option maxRecDepth 65536
noncomputable section
open Idealize.ShloMosaic Idealize.ShloMosaic.TcCoe Idealize.SL.Sem
namespace Cert.Kernel5Ideal.Inp
open Cert.Kernel5Ideal Cert.Kernel5Ideal.Gen

/-- The row of the padded arrays that a row of the sequence takes. -/
abbrev up (q : Fin 16400) : Fin 16896 := ⟨496 + q.val, by omega⟩
/-- The laid-out column that a column of the projection takes. -/
def col (k : Fin 3280) : Fin 3584 := ⟨if k.val < 640 then k.val else if k.val < 704 then k.val + 128 else k.val + 192, by split_ifs <;> omega⟩
def z32 : FVec Ideal S_ .f32 := sitofp FTy.f32 (constantI S_ 32 0#32)
def z16 : FVec Ideal S_ .bf16 := sitofp FTy.bf16 (constantI S_ 32 0#32)
def layP (x : FVec Ideal S16400x3280 .f32) : FVec Ideal S16400x3584 .f32 :=
  concatenate S16400x3584 1 [⟨S16400x640, extractStridedSlice S16400x640 ![0, 0] x slices_S16400x3280_S16400x640_0_0⟩,
    ⟨S16400x256, pad S16400x256 ![0, 128] ![0, 64] ![0, 0] (extractStridedSlice S16400x64 ![0, 640] x slices_S16400x3280_S16400x64_0_640) z32 pads_S16400x64_S16400x256_000_128640 h_S_⟩,
    ⟨S16400x2560, extractStridedSlice S16400x2560 ![0, 704] x slices_S16400x3280_S16400x2560_0_704⟩,
    ⟨S16400x128, pad S16400x128 ![0, 0] ![0, 112] ![0, 0] (extractStridedSlice S16400x16 ![0, 3264] x slices_S16400x3280_S16400x16_0_3264) z32 pads_S16400x16_S16400x128_000_01120 h_S_⟩]
    concatenates_S16400x640_S16400x256_S16400x2560_S16400x128_S16400x3584_d1
def layW (x : FVec Ideal S1024x3280 .bf16) : FVec Ideal S1024x3584 .bf16 :=
  concatenate S1024x3584 1 [⟨S1024x640, extractStridedSlice S1024x640 ![0, 0] x slices_S1024x3280_S1024x640_0_0⟩,
    ⟨S1024x256, pad S1024x256 ![0, 128] ![0, 64] ![0, 0] (extractStridedSlice S1024x64 ![0, 640] x slices_S1024x3280_S1024x64_0_640) z16 pads_S1024x64_S1024x256_000_128640 h_S_⟩,
    ⟨S1024x2560, extractStridedSlice S1024x2560 ![0, 704] x slices_S1024x3280_S1024x2560_0_704⟩,
    ⟨S1024x128, pad S1024x128 ![0, 0] ![0, 112] ![0, 0] (extractStridedSlice S1024x16 ![0, 3264] x slices_S1024x3280_S1024x16_0_3264) z16 pads_S1024x16_S1024x128_000_01120 h_S_⟩]
    concatenates_S1024x640_S1024x256_S1024x2560_S1024x128_S1024x3584_d1
def padF (x : FVec Ideal S16400x1024 .f32) : FVec Ideal S16896x1024 .f32 :=
  pad S16896x1024 ![496, 0] ![0, 0] ![0, 0] x z32 pads_S16400x1024_S16896x1024_49600_000 h_S_
def padP (x : FVec Ideal S16400x3584 .f32) : FVec Ideal S16896x3584 .f32 :=
  pad S16896x3584 ![496, 0] ![0, 0] ![0, 0] x z32 pads_S16400x3584_S16896x3584_49600_000 h_S_
def headOf (x : FVec Ideal S16x1024 .f32) : FVec Ideal S512x1024 .f32 :=
  pad S512x1024 ![496, 0] ![0, 0] ![0, 0] x z32 pads_S16x1024_S512x1024_49600_000 h_S_
theorem zero_word : FloatOps.sitofp (F := Ideal) FTy.f32 0#32 = 0 := by
  show (((0#32).toInt : ℝ) : EReal) = 0
  simp
theorem padF_in (x : FVec Ideal S16400x1024 .f32) (q : Fin 16400) (j : Fin 1024) : padF x (ix2 (up q) j) = x (ix2 q j) := by
  pointwise [padF]
theorem padP_in (x : FVec Ideal S16400x3584 .f32) (q : Fin 16400) (j : Fin 3584) : padP x (ix2 (up q) j) = x (ix2 q j) := by
  pointwise [padP]
theorem padP_low (x : FVec Ideal S16400x3584 .f32) (p : Fin 16896) (hp : p.val < 496) (j : Fin 3584) : padP x (ix2 p j) = 0 := by
  pointwise [padP, z32]
  rw [dif_neg (by omega)]
  exact zero_word
theorem head_in (x : FVec Ideal S16x1024 .f32) (q : Fin 16) (j : Fin 1024) : headOf x (ix2 ⟨496 + q.val, by omega⟩ j) = x (ix2 q j) := by
  pointwise [headOf]
theorem row_at (x : FVec Ideal S1024 .f32) (j : Fin 1024) : shapeCast S1x1024 x shapeCasts_S1024_S1x1024 (ix2 0 j) = x (ix1 j) := by
  pointwise
theorem layP_a (x : FVec Ideal S16400x3280 .f32) (i : Fin 16400) (k : Fin 640) : layP x (ix2 i ⟨0 + k.val, by omega⟩) = x (ix2 i ⟨0 + k.val, by omega⟩) := by
  pointwise [layP]
theorem layP_b (x : FVec Ideal S16400x3280 .f32) (i : Fin 16400) (k : Fin 64) : layP x (ix2 i ⟨768 + k.val, by omega⟩) = x (ix2 i ⟨640 + k.val, by omega⟩) := by
  pointwise [layP]
  rw [dif_neg (by omega), dif_pos (by omega), dif_pos (by omega)]
  exact congrArg (fun q => x (ix2 i q)) (Fin.ext (by show 640 + (768 + k.val - 640 - 128) = 640 + k.val; omega))
theorem layP_c (x : FVec Ideal S16400x3280 .f32) (i : Fin 16400) (k : Fin 2560) : layP x (ix2 i ⟨896 + k.val, by omega⟩) = x (ix2 i ⟨704 + k.val, by omega⟩) := by
  pointwise [layP]
  rw [dif_neg (by omega), dif_neg (by omega), dif_pos (by omega)]
  exact congrArg (fun q => x (ix2 i q)) (Fin.ext (by show 704 + (896 + k.val - 640 - 256) = 704 + k.val; omega))
theorem layP_d (x : FVec Ideal S16400x3280 .f32) (i : Fin 16400) (k : Fin 16) : layP x (ix2 i ⟨3456 + k.val, by omega⟩) = x (ix2 i ⟨3264 + k.val, by omega⟩) := by
  pointwise [layP]
  rw [dif_neg (by omega), dif_neg (by omega), dif_neg (by omega), dif_pos (by omega)]
  exact congrArg (fun q => x (ix2 i q)) (Fin.ext (by show 3264 + (3456 + k.val - 640 - 256 - 2560) = 3264 + k.val; omega))
theorem layP_e (x : FVec Ideal S16400x3280 .f32) (i : Fin 16400) (k : Fin 128) : layP x (ix2 i ⟨640 + k.val, by omega⟩) = 0 := by
  pointwise [layP, z32]
  rw [dif_pos (by omega), dif_neg (fun h => h.1.elim)]
  exact zero_word
theorem layP_f (x : FVec Ideal S16400x3280 .f32) (i : Fin 16400) (k : Fin 64) : layP x (ix2 i ⟨832 + k.val, by omega⟩) = 0 := by
  pointwise [layP, z32]
  rw [dif_neg (by omega), dif_pos (by omega), dif_neg (by omega)]
  exact zero_word
theorem layP_g (x : FVec Ideal S16400x3280 .f32) (i : Fin 16400) (k : Fin 112) : layP x (ix2 i ⟨3472 + k.val, by omega⟩) = 0 := by
  pointwise [layP, z32]
  rw [dif_neg (by omega), dif_neg (by omega), dif_neg (by omega), dif_neg (by omega)]
  exact zero_word
theorem layW_a (x : FVec Ideal S1024x3280 .bf16) (i : Fin 1024) (k : Fin 640) : layW x (ix2 i ⟨0 + k.val, by omega⟩) = x (ix2 i ⟨0 + k.val, by omega⟩) := by
  pointwise [layW]
theorem layW_b (x : FVec Ideal S1024x3280 .bf16) (i : Fin 1024) (k : Fin 64) : layW x (ix2 i ⟨768 + k.val, by omega⟩) = x (ix2 i ⟨640 + k.val, by omega⟩) := by
  pointwise [layW]
  rw [dif_neg (by omega), dif_pos (by omega), dif_pos (by omega)]
  exact congrArg (fun q => x (ix2 i q)) (Fin.ext (by show 640 + (768 + k.val - 640 - 128) = 640 + k.val; omega))
theorem layW_c (x : FVec Ideal S1024x3280 .bf16) (i : Fin 1024) (k : Fin 2560) : layW x (ix2 i ⟨896 + k.val, by omega⟩) = x (ix2 i ⟨704 + k.val, by omega⟩) := by
  pointwise [layW]
  rw [dif_neg (by omega), dif_neg (by omega), dif_pos (by omega)]
  exact congrArg (fun q => x (ix2 i q)) (Fin.ext (by show 704 + (896 + k.val - 640 - 256) = 704 + k.val; omega))
theorem layW_d (x : FVec Ideal S1024x3280 .bf16) (i : Fin 1024) (k : Fin 16) : layW x (ix2 i ⟨3456 + k.val, by omega⟩) = x (ix2 i ⟨3264 + k.val, by omega⟩) := by
  pointwise [layW]
  rw [dif_neg (by omega), dif_neg (by omega), dif_neg (by omega), dif_pos (by omega)]
  exact congrArg (fun q => x (ix2 i q)) (Fin.ext (by show 3264 + (3456 + k.val - 640 - 256 - 2560) = 3264 + k.val; omega))
theorem layP_col (x : FVec Ideal S16400x3280 .f32) (i : Fin 16400) (k : Fin 3280) : layP x (ix2 i (col k)) = x (ix2 i k) := by
  obtain ⟨v, hv⟩ := k
  by_cases h0 : v < 640
  · exact (congrArg (fun q => layP x (ix2 i q)) (Fin.ext (by simp only [col]; split_ifs <;> omega))).trans ((layP_a x i ⟨v, h0⟩).trans (congrArg (fun q => x (ix2 i q)) (Fin.ext (by show 0 + v = v; omega))))
  by_cases h1 : v < 704
  · exact (congrArg (fun q => layP x (ix2 i q)) (Fin.ext (by simp only [col]; split_ifs <;> omega))).trans ((layP_b x i ⟨v - 640, by omega⟩).trans (congrArg (fun q => x (ix2 i q)) (Fin.ext (by show 640 + (v - 640) = v; omega))))
  by_cases h2 : v < 3264
  · exact (congrArg (fun q => layP x (ix2 i q)) (Fin.ext (by simp only [col]; split_ifs <;> omega))).trans ((layP_c x i ⟨v - 704, by omega⟩).trans (congrArg (fun q => x (ix2 i q)) (Fin.ext (by show 704 + (v - 704) = v; omega))))
  · exact (congrArg (fun q => layP x (ix2 i q)) (Fin.ext (by simp only [col]; split_ifs <;> omega))).trans ((layP_d x i ⟨v - 3264, by omega⟩).trans (congrArg (fun q => x (ix2 i q)) (Fin.ext (by show 3264 + (v - 3264) = v; omega))))
theorem layW_col (x : FVec Ideal S1024x3280 .bf16) (i : Fin 1024) (k : Fin 3280) : layW x (ix2 i (col k)) = x (ix2 i k) := by
  obtain ⟨v, hv⟩ := k
  by_cases h0 : v < 640
  · exact (congrArg (fun q => layW x (ix2 i q)) (Fin.ext (by simp only [col]; split_ifs <;> omega))).trans ((layW_a x i ⟨v, h0⟩).trans (congrArg (fun q => x (ix2 i q)) (Fin.ext (by show 0 + v = v; omega))))
  by_cases h1 : v < 704
  · exact (congrArg (fun q => layW x (ix2 i q)) (Fin.ext (by simp only [col]; split_ifs <;> omega))).trans ((layW_b x i ⟨v - 640, by omega⟩).trans (congrArg (fun q => x (ix2 i q)) (Fin.ext (by show 640 + (v - 640) = v; omega))))
  by_cases h2 : v < 3264
  · exact (congrArg (fun q => layW x (ix2 i q)) (Fin.ext (by simp only [col]; split_ifs <;> omega))).trans ((layW_c x i ⟨v - 704, by omega⟩).trans (congrArg (fun q => x (ix2 i q)) (Fin.ext (by show 704 + (v - 704) = v; omega))))
  · exact (congrArg (fun q => layW x (ix2 i q)) (Fin.ext (by simp only [col]; split_ifs <;> omega))).trans ((layW_d x i ⟨v - 3264, by omega⟩).trans (congrArg (fun q => x (ix2 i q)) (Fin.ext (by show 3264 + (v - 3264) = v; omega))))
theorem col_inj : Function.Injective col := fun a b h => by
  have h := congrArg Fin.val h
  simp only [col] at h
  refine Fin.ext ?_
  split_ifs at h <;> omega
/-- A laid-out column that no column takes holds zeros. -/
theorem layP_off (x : FVec Ideal S16400x3280 .f32) (i : Fin 16400) (k : Fin 3584) (h : k ∉ Set.range col) : layP x (ix2 i k) = 0 := by
  have no : ∀ q : Fin 3280, (col q).val ≠ k.val := fun q e => h ⟨q, Fin.ext e⟩
  obtain ⟨v, hv⟩ := k
  by_cases h0 : v < 640
  · exact absurd (by simp only [col]; split_ifs <;> omega) (no ⟨v, by omega⟩)
  by_cases h1 : v < 768
  · exact (congrArg (fun q => layP x (ix2 i q)) (Fin.ext (by show v = 640 + (v - 640); omega))).trans (layP_e x i ⟨v - 640, by omega⟩)
  by_cases h2 : v < 832
  · exact absurd (by simp only [col]; split_ifs <;> omega) (no ⟨v - 128, by omega⟩)
  by_cases h3 : v < 896
  · exact (congrArg (fun q => layP x (ix2 i q)) (Fin.ext (by show v = 832 + (v - 832); omega))).trans (layP_f x i ⟨v - 832, by omega⟩)
  by_cases h4 : v < 3472
  · exact absurd (by simp only [col]; split_ifs <;> omega) (no ⟨v - 192, by omega⟩)
  · exact (congrArg (fun q => layP x (ix2 i q)) (Fin.ext (by show v = 3472 + (v - 3472); omega))).trans (layP_g x i ⟨v - 3472, by omega⟩)

variable (m : (ℓ : Loc nD τ sig) → Buf (Elt Ideal) ℓ) (c : Dev nD)

/-- The program's arguments. -/
def a0 : FVec Ideal S16384x1024 .f32 := m (c, Proc.tc.devRef main_arg0)
def a1 : FVec Ideal S16x1024 .f32 := m (c, Proc.tc.devRef main_arg1)
def a2 : FVec Ideal S1024 .f32 := m (c, Proc.tc.devRef main_arg2)
def a3 : FVec Ideal S1024x3280 .f32 := m (c, Proc.tc.devRef main_arg3)
def a4 : FVec Ideal S16400x3280 .f32 := m (c, Proc.tc.devRef main_arg4)
def a5 : FVec Ideal S16400x1024 .f32 := m (c, Proc.tc.devRef main_arg5)
/-- The arrays that the call's windows read. -/
def eP : FVec Ideal S16896x3584 .bf16 := V m c main_v9
def eH : FVec Ideal S512x1024 .f32 := V m c main_v0
def eX : FVec Ideal S16384x1024 .f32 := V m c main_arg0
def eDh : FVec Ideal S16896x1024 .f32 := V m c main_v10
def eG : FVec Ideal S1x1024 .f32 := V m c main_v11
def eW : FVec Ideal S1024x3584 .bf16 := V m c main_v19
/-- The call's operands, by the host lines from the arguments. -/
theorem entry : eP m c = truncf FTy.bf16 (padP (layP (a4 m c))) bitsLt_bf16_f32
    ∧ eH m c = headOf (a1 m c)
    ∧ eX m c = a0 m c
    ∧ eDh m c = padF (a5 m c)
    ∧ eG m c = shapeCast S1x1024 (a2 m c) shapeCasts_S1024_S1x1024
    ∧ eW m c = layW (truncf FTy.bf16 (a3 m c) bitsLt_bf16_f32) := by
  unfold eP eH eX eDh eG eW V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil,
    List.cons_append, List.nil_append, StableHlo.TRef.unary, StableHlo.TRef.binary, StableHlo.TRef.toBuf, StableHlo.TRef.ofBuf, cast_eq]
  after_reads_simp
  refine ⟨?_, ?_, ?_, ?_, ?_, ?_⟩ <;> sl_kernel_rfl
end Cert.Kernel5Ideal.Inp
end
-- ==== Proof.IRun.lean ====
/- The body of the input projection's backward call, run at the first block of rows and at a later one. -/
module

public import proofs.«01_k».proof.Proof.Gen.Kernel5Ideal.Frame
public import proofs.«01_k».proof.Proof.Gen.Kernel5Ideal.Skeleton
public import Idealize.ShloMosaic.Lib.Pipeline.ValueKit
public import Idealize.ShloMosaic.Lib.VecWindow

@[expose] public section

set_option maxRecDepth 16384

noncomputable section

namespace Cert.Kernel5Ideal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

set_option maxHeartbeats 1000000 in
/-- At the first block of rows: the head's rows and the gain's sums are written; the rows' own block is untouched. -/
theorem run_first (c : Dev nD) (i : grid0.Coords) (a0 : Memref sig .tc .vmem S512x3584 .bf16) (h0 : a0.IsWhole) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S1024x3584 .bf16) (h5 : a5.IsWhole) (a6 : Memref sig .tc .vmem S512x1024 .f32) (h6 : a6.IsWhole) (a7 : Memref sig .tc .vmem S512x1024 .f32) (h7 : a7.IsWhole) (a8 : Memref sig .tc .vmem S8x1024 .f32) (h8 : a8.IsWhole)
    (c1 : k0_cond1 i = 1#1) (c2 : ¬k0_cond2 i = 1#1) (x0 : Vec F S512x3584 .bf16) (x1 : Vec F S512x1024 .f32) (x2 : Vec F S512x1024 .f32) (x3 : Vec F S512x1024 .f32) (x4 : Vec F S1x1024 .f32) (x5 : Vec F S1024x3584 .bf16) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a7 fullShare d) ∗ (∃ d, owns (c : Thread nD τ) a8 fullShare d) ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a7 fullShare (k0_pay8 i x1 x2 x4 x0 x5 x3) ∗ owns (c : Thread nD τ) a8 fullShare (k0_pay2 (k0_pay7 i x1 x2 x0 x5) k0_pay1)) -∗ K ⟨⟩))
      ⊢ wp frame (wpE (defs₀ (F := F)) Variants.none c none) Set.univ (cc0_in_bwd i a0 h0 a1 h1 a2 h2 a3 h3 a4 h4 a5 h5 a6 h6 a7 h7 a8 h8) K := by
  have c3 : (Scalar.cmpi .ne (Scalar.extui (Scalar.cmpi .eq (BitVec.ofNat 32 (i 0).val) 0#32)) 0#32) = 1#1 := c1
  simp only [cc0_in_bwd_eq_skeleton]; unfold cc0_in_bwd_skel
  simp only [k0_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d7, %f7, -, H7⟩, ⟨%d8, %f8, -, H8⟩, Hk⟩
  obtain rfl := h0.eq_unread e0; obtain rfl := h1.eq_unread e1; obtain rfl := h2.eq_unread e2; obtain rfl := h3.eq_unread e3; obtain rfl := h4.eq_unread e4; obtain rfl := h5.eq_unread e5
  sl_exec (disch := first | sl_exact c1 | sl_exact c2 | sl_exact c3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H7]
  · iexists _; isplitr
    swap; · iexact H7
    ipureintro
    frame_out
    exact View.read_writes_full _ _ _ _ _
  iexists _; isplitr
  swap; · iexact H8
  ipureintro
  frame_out
  exact View.read_writes_full _ _ _ _ _

set_option maxHeartbeats 1000000 in
/-- At a later block: the rows' block is written and the gain's sums grow; the head's rows are untouched. -/
theorem run_later (c : Dev nD) (i : grid0.Coords) (a0 : Memref sig .tc .vmem S512x3584 .bf16) (h0 : a0.IsWhole) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S1024x3584 .bf16) (h5 : a5.IsWhole) (a6 : Memref sig .tc .vmem S512x1024 .f32) (h6 : a6.IsWhole) (a7 : Memref sig .tc .vmem S512x1024 .f32) (h7 : a7.IsWhole) (a8 : Memref sig .tc .vmem S8x1024 .f32) (h8 : a8.IsWhole)
    (c1 : ¬k0_cond1 i = 1#1) (c2 : k0_cond2 i = 1#1) (x0 : Vec F S512x3584 .bf16) (x1 : Vec F S512x1024 .f32) (x2 : Vec F S512x1024 .f32) (x3 : Vec F S512x1024 .f32) (x4 : Vec F S1x1024 .f32) (x5 : Vec F S1024x3584 .bf16) (s : Vec F S8x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ owns (c : Thread nD τ) a8 fullShare s ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (k0_pay8 i x1 x2 x4 x0 x5 x3) ∗ owns (c : Thread nD τ) a8 fullShare (k0_pay2 (k0_pay7 i x1 x2 x0 x5) s)) -∗ K ⟨⟩))
      ⊢ wp frame (wpE (defs₀ (F := F)) Variants.none c none) Set.univ (cc0_in_bwd i a0 h0 a1 h1 a2 h2 a3 h3 a4 h4 a5 h5 a6 h6 a7 h7 a8 h8) K := by
  have c3 : ¬(Scalar.cmpi .ne (Scalar.extui (Scalar.cmpi .eq (BitVec.ofNat 32 (i 0).val) 0#32)) 0#32) = 1#1 := c1
  simp only [cc0_in_bwd_eq_skeleton]; unfold cc0_in_bwd_skel
  simp only [k0_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%f8, %e8, H8⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h8.eq_unread e8
  sl_exec (disch := first | sl_exact c1 | sl_exact c2 | sl_exact c3)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    frame_out
    exact View.read_writes_full _ _ _ _ _
  iexists _; isplitr
  swap; · iexact H8
  ipureintro
  frame_out
  exact View.read_writes_full _ _ _ _ _

end Cert.Kernel5Ideal.Rows
end
-- ==== Proof.IFrame.lean ====
/- The frame of the input projection's backward call: the head's rows are written at the first block only, the rows' own block at every later one. -/
module

public import proofs.«01_k».proof.Proof.IRun
public import proofs.«01_k».proof.Proof.Gen.Kernel5Ideal.Skeleton
public import Idealize.ShloMosaic.Lib.Pipeline.ValueKit
public import Idealize.ShloMosaic.Lib.VecWindow

@[expose] public section

set_option maxRecDepth 16384

noncomputable section

namespace Cert.Kernel5Ideal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S512x3584 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x3584 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8x1024 .f32 := win0_8.stage (cfg0.slots t 8)
abbrev hs8 (t : Fin cfg0.N) : (ms8 t).IsWhole := hstage0_8 ((cfg0.slots t 8).cast nbuf0_8)

/-- What the first branch of the body asks of the point, and what the second. -/
theorem cond1_iff : ∀ t : Fin cfg0.N, k0_cond1 (grid0.coords t) = 1#1 ↔ t.val = 0 :=
  (fun t => by
    have ht : t.val < 33 := Nat.lt_of_lt_of_eq t.isLt N_0
    have e0 : (grid0.coords t 0).val = t.val / 1 % 33 := Pipeline.Grid.coords_val t 0 (by decide) rfl
    simp only [k0_cond1, e0]
    word_cmp
   : ∀ t : Fin grid0.N, k0_cond1 (grid0.coords t) = 1#1 ↔ t.val = 0)
theorem cond2_iff : ∀ t : Fin cfg0.N, k0_cond2 (grid0.coords t) = 1#1 ↔ t.val ≠ 0 := by
  decide +kernel

/-- A block's rows, and its rows of the gain's gradient. -/
abbrev rows (c : Dev nD) (t : Fin cfg0.N) : Vec F S512x1024 .f32 :=
  k0_pay8 (grid0.coords t) (iblk m c 1 t) (iblk m c 2 t) (iblk m c 4 t) (iblk m c 0 t) (iblk m c 5 t) (iblk m c 3 t)
abbrev gain (c : Dev nD) (t : Fin cfg0.N) : FVec F S512x1024 .f32 :=
  k0_pay7 (grid0.coords t) (iblk m c 1 t) (iblk m c 2 t) (iblk m c 0 t) (iblk m c 5 t)
/-- The gain's sums after each block. -/
def sums (c : Dev nD) : (n : ℕ) → n < cfg0.N → Vec F S8x1024 .f32
  | 0, hn => k0_pay2 (gain m c ⟨0, hn⟩) k0_pay1
  | n + 1, hn => k0_pay2 (gain m c ⟨n + 1, hn⟩) (sums c n (Nat.lt_of_succ_lt hn))
/-- The first block. -/
abbrev t0 : Fin cfg0.N := ⟨0, by rw [show cfg0.N = 33 from N_0]; decide⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rows m c t
    | ⟨7, _⟩ => rows m c t0
    | ⟨8, _⟩ => sums m c t.val t.isLt
    | ⟨_ + 9, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = rows m c t := by dsimp only [dats]
theorem after7 (c : Dev nD) (t : Fin cfg0.N) : (dats m 0 c).after 7 t = rows m c t0 := by dsimp only [dats]
theorem after8 (c : Dev nD) (t : Fin cfg0.N) : (dats m 0 c).after 8 t = sums m c t.val t.isLt := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem idle6 (t : Fin cfg0.N) : cfg0.idle 6 (cfg0.grid.coords t) = true ↔ t.val = 0 := by
  show (!(k0_cond2 (grid0.coords t) == 1#1)) = true ↔ _
  rw [Bool.not_eq_true', beq_eq_false_iff_ne, ne_eq, cond2_iff, not_not]
theorem idle7 (t : Fin cfg0.N) : cfg0.idle 7 (cfg0.grid.coords t) = true ↔ t.val ≠ 0 := by
  show (!(k0_cond1 (grid0.coords t) == 1#1)) = true ↔ _
  rw [Bool.not_eq_true', beq_eq_false_iff_ne, ne_eq, cond1_iff]
theorem flush6 (t : Fin cfg0.N) : t.val = 0 → (cfg0.win 6).flush t = false := by
  revert t; decide +kernel

/-- The head's rows stay what the first block wrote. -/
theorem before7 (c : Dev nD) (t : Fin cfg0.N) (h : t.val ≠ 0) (d) : (dats m 0 c).before 7 t d = rows m c t0 := by
  have hN : t.val < 33 := lt_of_lt_of_eq t.isLt (show cfg0.N = 33 from N_0)
  obtain ⟨n, hn⟩ := t
  induction n with
  | zero => exact absurd rfl h
  | succ n ih =>
    have hf : (cfg0.win 7).flush ⟨n, Nat.lt_of_succ_lt hn⟩ = false :=
      Bool.eq_false_iff.mpr fun e => by have := (flush0_7 _).mp e; dsimp only at this hN; omega
    rw [Dat.before_of_pos _ 7 _ h ((cfg0.win 7).fetch_out rfl _)]
    show (if (cfg0.win 7).flush ⟨n, Nat.lt_of_succ_lt hn⟩ = true then d else (dats m 0 c).left 7 ⟨n, Nat.lt_of_succ_lt hn⟩ d) = _
    rw [hf, if_neg Bool.false_ne_true]
    unfold Dat.left
    by_cases hz : n = 0
    · have hi : cfg0.idle 7 (cfg0.grid.coords ⟨n, Nat.lt_of_succ_lt hn⟩) = false :=
        Bool.eq_false_iff.mpr fun e => (idle7 _).mp e hz
      rw [hi]
      show (dats m 0 c).kept 7 ⟨n, Nat.lt_of_succ_lt hn⟩ d = _
      unfold Dat.kept
      rw [Pipeline.fill_of_clip_none 7 _ (fun _ => rfl) d ((dats m 0 c).after 7 _), Window.fill_cut, after7]
    · rw [(idle7 ⟨n, Nat.lt_of_succ_lt hn⟩).mpr hz]
      exact ih (Nat.lt_of_succ_lt hn) hz (by dsimp only at hN ⊢; omega)

/-- The gain's sums are carried from block to block. -/
theorem before8 (c : Dev nD) (t : Fin cfg0.N) (h : t.val ≠ 0) (d) :
    (dats m 0 c).before 8 t d = sums m c (t.val - 1) (Nat.lt_of_le_of_lt (Nat.sub_le _ _) t.isLt) := by
  have hN : t.val < 33 := lt_of_lt_of_eq t.isLt (show cfg0.N = 33 from N_0)
  rw [Dat.before_out_kept _ 8 rfl t h (Bool.eq_false_iff.mpr fun e => by have := (flush0_8 _).mp e; dsimp only at this; omega)
    (fun _ => rfl) (fun _ _ => rfl), after8]

theorem sums_first (c : Dev nD) (t : Fin cfg0.N) (h : t.val = 0) : sums m c t.val t.isLt = k0_pay2 (gain m c t) k0_pay1 := by
  obtain ⟨n, hn⟩ := t
  cases n with
  | zero => rfl
  | succ n => exact absurd h (Nat.succ_ne_zero _)
theorem sums_later (c : Dev nD) (t : Fin cfg0.N) (h : t.val ≠ 0) :
    sums m c t.val t.isLt = k0_pay2 (gain m c t) (sums m c (t.val - 1) (Nat.lt_of_le_of_lt (Nat.sub_le _ _) t.isLt)) := by
  obtain ⟨n, hn⟩ := t
  cases n with
  | zero => exact absurd rfl h
  | succ n => rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t
    ∗ (dats m 0 c).leavesExact 7 t
    ∗ owns (c : Thread nD τ) (ms8 t) fullShare ((dats m 0 c).after 8 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after8]
  by_cases h : t.val = 0
  · have i6 : cfg0.idle 6 (cfg0.grid.coords t) = true := (idle6 t).mpr h
    have i7 : cfg0.idle 7 (cfg0.grid.coords t) = false := Bool.eq_false_iff.mpr fun e => (idle7 t).mp e h
    rw [Dat.leavesExact_idle _ 6 t i6 (flush6 t h)]
    have l7 : (dats m 0 c).leavesExact 7 t = owns (c : Thread nD τ) (ms7 t) fullShare ((dats m 0 c).after 7 t) := by
      unfold Dat.leavesExact; rw [i7]
    rw [l7, after7, sums_first m c t h]
    have et : t = t0 := Fin.ext h
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((cond1_iff t).mpr h) (fun e => (cond2_iff t).mp e h) (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H7]; · iexists _; iexact H7
    isplitl [H8]; · iexists _; iexact H8
    iintro ⟨H0, H1, H2, H3, H4, H5, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]
    · subst et; iexact H7
    iexact H8
  · have i6 : cfg0.idle 6 (cfg0.grid.coords t) = false := Bool.eq_false_iff.mpr fun e => h ((idle6 t).mp e)
    have l6 : (dats m 0 c).leavesExact 6 t = owns (c : Thread nD τ) (ms6 t) fullShare ((dats m 0 c).after 6 t) := by
      unfold Dat.leavesExact; rw [i6]
    rw [l6, after6, sums_later m c t h]
    simp only [before7 m c t h, before8 m c t h]
    have i7 : cfg0.idle 7 (cfg0.grid.coords t) = true := (idle7 t).mpr h
    have l7 : owns (c : Thread nD τ) (ms7 t) fullShare (rows m c t0) ⊢ (dats m 0 c).leavesExact 7 t := by
      unfold Dat.leavesExact; rw [i7]
      cases hf : (cfg0.win 7).flush t
      · iintro H; iexists rows m c t0; rw [before7 m c t h]; iexact H
      · rw [after7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun e => h ((cond1_iff t).mp e)) ((cond2_iff t).mpr h) (iblk m c 0 t) (iblk m c 1 t) (iblk m c 2 t) (iblk m c 3 t) (iblk m c 4 t) (iblk m c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H8]; · iexact H8
    iintro ⟨H0, H1, H2, H3, H4, H5, H6, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply l7; iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged and every counter is back at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel5Ideal.Rows
end
-- ==== Proof.IArr.lean ====
module

public import proofs.«01_k».proof.Proof.IEntry
public import proofs.«01_k».proof.Proof.IFrame

/-! A block's rows in front of the input projection as rows of the padded arrays, and the arrays that the call leaves. -/

@[expose] public section
set_option maxRecDepth 16384
noncomputable section
open Idealize.ShloMosaic Idealize.ShloMosaic.TcCoe Idealize.SL.Sem
open Idealize.ShloMosaic.Pipeline (Dat)
namespace Cert.Kernel5Ideal.Inp
open Cert.Kernel5Ideal Cert.Kernel5Ideal.Gen Cert.Kernel5Ideal.Rows Cert.Proof.Rms
variable (m : (ℓ : Loc nD τ sig) → Buf (Elt Ideal) ℓ) (c : Dev nD)

theorem idx : ∀ t : Fin cfg0.N, win0_0.index t = ![t.val, 0] ∧ win0_1.index t = ![0, 0] ∧ win0_2.index t = ![t.val - 1, 0] ∧ win0_3.index t = ![t.val, 0] ∧ win0_4.index t = ![0, 0] ∧ win0_5.index t = ![0, 0] ∧ win0_6.index t = ![t.val - 1, 0] ∧ win0_7.index t = ![0, 0] ∧ win0_8.index t = ![0, 0] :=
  (by decide +kernel : ∀ t : Fin grid0.N, _)
/-- The padded array's row that a block's row is, and the sequence's row behind the head. -/
abbrev prow (t : Fin cfg0.N) (r : Fin 512) : Fin 16896 := ⟨t.val * 512 + r.val, by have : t.val < 33 := t.isLt; omega⟩
abbrev xrow (t : Fin cfg0.N) (r : Fin 512) : Fin 16384 := ⟨(t.val - 1) * 512 + r.val, by have : t.val < 33 := t.isLt; omega⟩
theorem blk0 (t : Fin cfg0.N) (r : Fin 512) (j : Fin 3584) : (iblk m c 0 t : FVec Ideal S512x3584 .bf16) (ix2 r j) = eP m c (ix2 (prow t r) j) := by
  blk_point [iblk, eP, idx t]
theorem blk1 (t : Fin cfg0.N) (r : Fin 512) (j : Fin 1024) : (iblk m c 1 t : FVec Ideal S512x1024 .f32) (ix2 r j) = eH m c (ix2 r j) := by
  blk_point [iblk, eH, idx t]
theorem blk2 (t : Fin cfg0.N) (r : Fin 512) (j : Fin 1024) : (iblk m c 2 t : FVec Ideal S512x1024 .f32) (ix2 r j) = eX m c (ix2 (xrow t r) j) := by
  blk_point [iblk, eX, idx t]
theorem blk3 (t : Fin cfg0.N) (r : Fin 512) (j : Fin 1024) : (iblk m c 3 t : FVec Ideal S512x1024 .f32) (ix2 r j) = eDh m c (ix2 (prow t r) j) := by
  blk_point [iblk, eDh, idx t]
theorem blk4 (t : Fin cfg0.N) (j : Fin 1024) : (iblk m c 4 t : FVec Ideal S1x1024 .f32) (ix2 0 j) = eG m c (ix2 0 j) := by
  blk_point [iblk, eG, idx t]
theorem blk5 (t : Fin cfg0.N) (r : Fin 1024) (j : Fin 3584) : (iblk m c 5 t : FVec Ideal S1024x3584 .bf16) (ix2 r j) = eW m c (ix2 r j) := by
  blk_point [iblk, eW, idx t]

/-- A padded row's numbers on the way, and what the row gives each result. -/
def HR (p : Fin 16896) (j : Fin 1024) : EReal :=
  if h : p.val < 512 then eH m c (ix2 ⟨p.val, h⟩ j) else eX m c (ix2 ⟨p.val - 512, by omega⟩ j)
def DP (p : Fin 16896) (j : Fin 1024) : EReal := ∑ k, eP m c (ix2 p k) * eW m c (ix2 j k)
def DX (p : Fin 16896) (j : Fin 1024) : EReal := eDh m c (ix2 p j) + kdx w1024 (HR m c p) (fun k => eG m c (ix2 0 k)) (DP m c p) j
def GN (p : Fin 16896) (j : Fin 1024) : EReal := DP m c p j * (HR m c p j * rinv w1024 (HR m c p))

theorem h_at (t : Fin cfg0.N) (r : Fin 512) (j : Fin 1024) :
    k0_pay3 (F := Ideal) (grid0.coords t) (iblk m c 1 t) (iblk m c 2 t) (ix2 r j) = HR m c (prow t r) j := by
  refine (pay3_at t _ _ r j).trans ?_
  unfold HR
  by_cases h : t.val = 0
  · rw [if_pos h, dif_pos (show t.val * 512 + r.val < 512 by rw [h]; omega)]
    exact (blk1 m c t r j).trans (congrArg (fun q => eH m c (ix2 q j)) (Fin.ext (by show r.val = t.val * 512 + r.val; rw [h]; omega)))
  · rw [if_neg h, dif_neg (show ¬t.val * 512 + r.val < 512 by omega)]
    exact (blk2 m c t r j).trans (congrArg (fun q => eX m c (ix2 q j)) (Fin.ext (by show (t.val - 1) * 512 + r.val = t.val * 512 + r.val - 512; omega)))
theorem dp_at (t : Fin cfg0.N) (r : Fin 512) (j : Fin 1024) :
    k0_pay4 (F := Ideal) (iblk m c 0 t) (iblk m c 5 t) (ix2 r j) = DP m c (prow t r) j :=
  (pay4_at _ _ r j).trans (Finset.sum_congr rfl fun k _ => congrArg₂ (· * ·) (blk0 m c t r k) (blk5 m c t j k))
theorem rows_at (t : Fin cfg0.N) (r : Fin 512) (j : Fin 1024) : (rows m c t : FVec Ideal S512x1024 .f32) (ix2 r j) = DX m c (prow t r) j := by
  refine (pay8_at _ _ _ _ _ _ _ r j).trans ?_
  unfold DX
  rw [show (fun k => k0_pay3 (F := Ideal) (grid0.coords t) (iblk m c 1 t) (iblk m c 2 t) (ix2 r k)) = _ from funext fun k => h_at m c t r k,
    show (fun k => k0_pay4 (F := Ideal) (iblk m c 0 t) (iblk m c 5 t) (ix2 r k)) = _ from funext fun k => dp_at m c t r k,
    show (fun k => (iblk m c 4 t : FVec Ideal S1x1024 .f32) (ix2 0 k)) = _ from funext fun k => blk4 m c t k]
  exact congrArg (· + _) (blk3 m c t r j)
theorem gain_at (t : Fin cfg0.N) (r : Fin 512) (j : Fin 1024) : gain m c t (ix2 r j) = GN m c (prow t r) j := by
  refine (pay7_at _ _ _ _ _ r j).trans ?_
  unfold GN
  rw [show (fun k => k0_pay3 (F := Ideal) (grid0.coords t) (iblk m c 1 t) (iblk m c 2 t) (ix2 r k)) = _ from funext fun k => h_at m c t r k]
  exact congrArg₂ (· * ·) (dp_at m c t r j) (congrArg (· * _) (h_at m c t r j))

/-- The three arrays: the rows behind the head, the head's, and the gain's eight partial sums. -/
def xs : FVec Ideal S16384x1024 .f32 := fun i => DX m c ⟨512 + (i 0).val, by have : (i 0).val < 16384 := (i 0).isLt; omega⟩ (i 1)
def hs : FVec Ideal S512x1024 .f32 := fun i => DX m c ⟨(i 0).val, by have : (i 0).val < 512 := (i 0).isLt; omega⟩ (i 1)
def part : FVec Ideal S8x1024 .f32 := fun i =>
  ∑ t : Fin 33, ∑ x : Fin 64, GN m c ⟨t.val * 512 + (x.val * 8 + (i 0).val), by have : (i 0).val < 8 := (i 0).isLt; omega⟩ (i 1)
theorem at6 (F : FVec Ideal S16384x1024 .f32) (t : Fin cfg0.N) (y0 : Fin 512) (y1 : Fin 1024) :
    F (((View.whole main_v20_0).slice (win0_6.rect t)).emb (ix2 y0 y1)) = F (ix2 (xrow t y0) y1) := by blk_point [idx t]
theorem at7 (F : FVec Ideal S512x1024 .f32) (t : Fin cfg0.N) (y0 : Fin 512) (y1 : Fin 1024) :
    F (((View.whole main_v20_1).slice (win0_7.rect t)).emb (ix2 y0 y1)) = F (ix2 y0 y1) := by blk_point [idx t]
theorem at8 (F : FVec Ideal S8x1024 .f32) (t : Fin cfg0.N) (y0 : Fin 8) (y1 : Fin 1024) :
    F (((View.whole main_v20_2).slice (win0_8.rect t)).emb (ix2 y0 y1)) = F (ix2 y0 y1) := by blk_point [idx t]
theorem arr6 : (dats m 0 c).arrAt 6 (cfgs 0).N = xs m c := by
  refine (dats m 0 c).arrAt_eq_of_covers 6 _ (by decide +kernel) fun t hf y => ?_
  have h : t.val ≠ 0 := fun e => absurd hf (by rw [flush6 t e]; decide)
  blk_simp
  rw [after6]
  idx_vars y
  refine (rows_at m c t y0 y1).trans (Eq.trans ?_ (at6 (xs m c) t y0 y1).symm)
  exact congrArg (fun q => DX m c q y1) (Fin.ext (by show t.val * 512 + y0.val = 512 + ((t.val - 1) * 512 + y0.val); omega))
theorem arr7 : (dats m 0 c).arrAt 7 (cfgs 0).N = hs m c := by
  refine (dats m 0 c).arrAt_eq_of_covers 7 _ (by decide +kernel) fun t hf y => ?_
  blk_simp
  rw [after7]
  idx_vars y
  refine (rows_at m c t0 y0 y1).trans (Eq.trans ?_ (at7 (hs m c) t y0 y1).symm)
  exact congrArg (fun q => DX m c q y1) (Fin.ext (by show 0 * 512 + y0.val = y0.val; omega))
theorem acc8 (t : Fin cfg0.N) (hf : t.val % 33 = 32) (r : Fin 8) (j : Fin 1024) :
    (sums m c t.val t.isLt : FVec Ideal S8x1024 .f32) (ix2 r j) = part m c (ix2 r j) := by
  rw [Pipeline.eq_sum_fin_of_reset_step_apply_of_flush (fun n h => (sums m c n h : FVec Ideal S8x1024 .f32)) 33 (fun _ => 0)
    (fun t y => ∑ x : Fin 64, GN m c (prow t ⟨x.val * 8 + (y 0).val, by have : (y 0).val < 8 := (y 0).isLt; omega⟩) (y 1))
    (fun t h y => ?_) (fun t h y => ?_) t hf (ix2 r j), zero_add]
  · have e : t.val / 33 = 0 := by have : t.val < 33 := t.isLt; omega
    refine Finset.sum_congr rfl fun s _ => Finset.sum_congr rfl fun x _ => ?_
    refine congrFun (congrArg (GN m c) (Fin.ext ?_)) j
    show (33 * (t.val / 33) + s.val) * 512 + _ = s.val * 512 + _
    rw [e]; simp
  · idx_vars y
    have h0 : t.val = 0 := by have : t.val < 33 := t.isLt; omega
    rw [sums_first m c t h0]
    exact (pay2_at (gain m c t) _ y0 y1).trans (congrArg₂ (· + ·) (pay1_at _) (Finset.sum_congr rfl fun x _ => gain_at m c t ⟨x.val * 8 + y0.val, by omega⟩ y1))
  · idx_vars y
    have h0 : t.val ≠ 0 := fun e => h (by rw [e])
    rw [sums_later m c t h0]
    exact (pay2_at (gain m c t) _ y0 y1).trans (congrArg (_ + ·) (Finset.sum_congr rfl fun x _ => gain_at m c t ⟨x.val * 8 + y0.val, by omega⟩ y1))
theorem arr8 : (dats m 0 c).arrAt 8 (cfgs 0).N = part m c := by
  refine (dats m 0 c).arrAt_eq_of_covers 8 _ (by decide +kernel) fun t hf y => ?_
  blk_simp
  rw [after8]
  idx_vars y
  exact (acc8 m c t ((flush0_8 t).mp hf) y0 y1).trans (at8 (part m c) t y0 y1).symm
theorem part_sum (j : Fin 1024) : ∑ r : Fin 8, part m c (ix2 r j) = ∑ p, GN m c p j := by
  show ∑ r : Fin 8, ∑ t : Fin 33, ∑ x : Fin 64, GN m c ⟨t.val * 512 + (x.val * 8 + r.val), _⟩ j = _
  rw [Finset.sum_comm]
  refine (Finset.sum_congr rfl fun t _ => (Finset.sum_comm.trans ?_)).trans (Fin.sum_mul_add_fin 33 512 fun p => GN m c p j)
  exact Fin.sum_mul_add_fin 64 8 fun q : Fin 512 => GN m c ⟨t.val * 512 + q.val, by omega⟩ j
/-- Rows of padding that contribute nothing leave the sum over the rows themselves. -/
theorem sum_padded (g : Fin 16896 → EReal) (h0 : ∀ p, p.val < 496 → g p = 0) : ∑ p, g p = ∑ i : Fin 16400, g (up i) := by
  rw [Fin.sum_univ_add (a := 496) (b := 16400) g, Finset.sum_eq_zero fun i _ => h0 (Fin.castAdd 16400 i) i.isLt, zero_add]
  rfl
theorem DP_low (p : Fin 16896) (hp : p.val < 496) (j : Fin 1024) : DP m c p j = 0 :=
  Finset.sum_eq_zero fun k _ => by
    rw [(entry m c).1]
    exact (congrArg (· * _) (padP_low _ p hp k)).trans (zero_mul _)
theorem GN_low (p : Fin 16896) (hp : p.val < 496) (j : Fin 1024) : GN m c p j = 0 :=
  (congrArg (· * _) (DP_low m c p hp j)).trans (zero_mul _)
end Cert.Kernel5Ideal.Inp
end
-- ==== Proof.IRef.lean ====
module

public import proofs.«01_k».proof.Proof.IPay
public import proofs.«01_k».proof.Proof.Gen.Reference5Ideal.Read

/-! What the reference's lines of the input norm's gradient hold, entry by entry. -/

@[expose] public section
set_option maxRecDepth 65536
noncomputable section
open Idealize.ShloMosaic Idealize.ShloMosaic.TcCoe Idealize.SL.Sem
namespace Cert.Reference5Ideal.Stages
open Cert.Reference5Ideal Cert.Reference5Ideal.Read Cert.Proof.Rms
open Cert.Kernel5Ideal.Inp (w1024)

variable (x0 : FVec Ideal S16384x1024 .f32) (x1 : FVec Ideal S16x1024 .f32) (x2 : FVec Ideal S1024 .f32) (x3 : FVec Ideal S1024x3280 .f32)
  (x4 : FVec Ideal S16400x3280 .f32) (x5 : FVec Ideal S16400x1024 .f32)

theorem v0_lo (i : Fin 16) (j : Fin 1024) : val_main_v0 (F := Ideal) x0 x1 (ix2 ⟨i.val, by omega⟩ j) = x1 (ix2 i j) := by
  pointwise [val_main_v0]
theorem v0_hi (i : Fin 16384) (j : Fin 1024) : val_main_v0 (F := Ideal) x0 x1 (ix2 ⟨16 + i.val, by omega⟩ j) = x0 (ix2 i j) := by
  pointwise [val_main_v0]
theorem v20_at (i : Fin 16400) (j : Fin 1024) : val_main_v20 (F := Ideal) x3 x4 (ix2 i j) = ∑ k, x4 (ix2 i k) * x3 (ix2 j k) := by
  pointwise [val_main_v20]
theorem v39_at (i : Fin 16400) (j : Fin 1024) : val_main_v39 (F := Ideal) x0 x1 x2 x3 x4 x5 (ix2 i j) =
    x5 (ix2 i j) + vdx w1024 (fun k => val_main_v0 (F := Ideal) x0 x1 (ix2 i k)) (fun k => x2 (ix1 k)) (fun k => val_main_v20 (F := Ideal) x3 x4 (ix2 i k)) j := by
  unfold vdx
  rw [← add_assoc]
  unfold val_main_v39 val_main_v38 val_main_v37 val_main_v36 val_main_v35 val_main_v34 val_main_v33 val_main_v32 val_main_v31 val_main_v30 val_main_v29 val_main_v28 val_main_v27 val_main_v25 val_main_v24 val_main_v16 val_main_v13 val_main_v12 val_main_v11 val_main_v10 val_main_v9 val_main_v8 val_main_v7 val_main_v6 val_main_v5 val_main_v4 val_main_v3 val_main_v2 val_main_v1
  generalize val_main_v0 (F := Ideal) x0 x1 = h
  generalize val_main_v20 (F := Ideal) x3 x4 = d
  pointwise [val_main_cst, val_main_cst_0, val_main_cst_1, val_main_cst_2, val_main_cst_3, val_main_cst_6, val_main_cst_7, val_main_cst_8]
  simp only [Finset.univ_unique, Finset.sum_const, Finset.card_singleton, one_smul]
  rfl
theorem v40_at (i : Fin 16) (j : Fin 1024) : val_main_v40 (F := Ideal) x0 x1 x2 x3 x4 x5 (ix2 i j) = val_main_v39 (F := Ideal) x0 x1 x2 x3 x4 x5 (ix2 ⟨i.val, by omega⟩ j) := by
  unfold val_main_v40
  generalize val_main_v39 (F := Ideal) x0 x1 x2 x3 x4 x5 = f
  pointwise
theorem v41_at (i : Fin 16384) (j : Fin 1024) : val_main_v41 (F := Ideal) x0 x1 x2 x3 x4 x5 (ix2 i j) = val_main_v39 (F := Ideal) x0 x1 x2 x3 x4 x5 (ix2 ⟨16 + i.val, by omega⟩ j) := by
  unfold val_main_v41
  generalize val_main_v39 (F := Ideal) x0 x1 x2 x3 x4 x5 = f
  pointwise
theorem v26_at (j : Fin 1024) : val_main_v26 (F := Ideal) x0 x1 x3 x4 (ix1 j) = ∑ i, val_main_v0 (F := Ideal) x0 x1 (ix2 i j) *
    rinv w1024 (fun k => val_main_v0 (F := Ideal) x0 x1 (ix2 i k)) * val_main_v20 (F := Ideal) x3 x4 (ix2 i j) := by
  unfold val_main_v26 val_main_v23 val_main_v22 val_main_v21 val_main_v15 val_main_v14 val_main_v10 val_main_v9 val_main_v8 val_main_v7 val_main_v6 val_main_v5 val_main_v4 val_main_v1
  generalize val_main_v0 (F := Ideal) x0 x1 = h
  generalize val_main_v20 (F := Ideal) x3 x4 = d
  pointwise [val_main_cst_0, val_main_cst_1, val_main_cst_2, val_main_cst_4, val_main_cst_5]
  simp only [Finset.univ_unique, Finset.sum_const, Finset.card_singleton, one_smul]
  rfl
end Cert.Reference5Ideal.Stages
end
-- ==== Proof.ISame.lean ====
module

public import proofs.«01_k».proof.Proof.Gen.Kernel5
public import proofs.«01_k».proof.Proof.Gen.Kernel5Ideal
public import proofs.«01_k».proof.Defs
public import Idealize.ShloMosaic.Lib.Tactic

/-! The input projection's backward call, printed twice: its two programs run alike on words. -/

@[expose] public section
set_option maxRecDepth 65536
noncomputable section
open Idealize.ShloMosaic Idealize.ShloMosaic.TcCoe Idealize.SL.Sem
namespace Cert.Proof.Inp

def WordRuns : Prop :=
  ∀ (m : (ℓ : Loc Cert.Kernel5.nD Cert.Kernel5.τ Cert.Kernel5.sig) → Buf (Elt Bits) ℓ) (g : Dev Cert.Kernel5.nD → PrngReg),
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0) ∧
      r.2.mem ((c.tc : Thread Cert.Kernel5.nD Cert.Kernel5.τ).loc Cert.Kernel5.main_arg1) = m ((c.tc : Thread Cert.Kernel5.nD Cert.Kernel5.τ).loc Cert.Kernel5.main_arg1) ∧
      r.2.mem ((c.tc : Thread Cert.Kernel5.nD Cert.Kernel5.τ).loc Cert.Kernel5.main_arg2) = m ((c.tc : Thread Cert.Kernel5.nD Cert.Kernel5.τ).loc Cert.Kernel5.main_arg2) ∧
      r.2.mem ((c.tc : Thread Cert.Kernel5.nD Cert.Kernel5.τ).loc Cert.Kernel5.main_arg3) = m ((c.tc : Thread Cert.Kernel5.nD Cert.Kernel5.τ).loc Cert.Kernel5.main_arg3) ∧
      r.2.mem ((c.tc : Thread Cert.Kernel5.nD Cert.Kernel5.τ).loc Cert.Kernel5.main_arg4) = m ((c.tc : Thread Cert.Kernel5.nD Cert.Kernel5.τ).loc Cert.Kernel5.main_arg4) ∧
      r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def IdealRuns : Prop :=
  ∀ (m : (ℓ : Loc Cert.Kernel5Ideal.nD Cert.Kernel5Ideal.τ Cert.Kernel5Ideal.sig) → Buf (Elt Bits) ℓ) (g : Dev Cert.Kernel5Ideal.nD → PrngReg),
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0) ∧
      r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1) ∧
      r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2) ∧
      r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3) ∧
      r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4) ∧
      r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

theorem runs_eq : IdealRuns = WordRuns := by sl_kernel_rfl
end Cert.Proof.Inp
end
-- ==== Proof.Inp.lean ====
module

public import proofs.«01_k».proof.Proof.IArr
public import proofs.«01_k».proof.Proof.IRef
public import proofs.«01_k».proof.Proof.ISame
public import proofs.«01_k».proof.Proof.RealOf
public import proofs.«01_k».proof.Proof.Gen.Reference5Ideal.Run
public import Idealize.ShloMosaic.Adequacy
public import Idealize.ShloMosaic.Init
public import Idealize.ShloMosaic.Lib.Claim

/-! The gradient of the norm before the mixer, behind the input projection: both frames, and the two programs' results as the same quantities of the rows. -/

@[expose] public section

set_option maxRecDepth 16384
noncomputable section

namespace Cert.Proof.Inp

open Idealize.ShloMosaic Idealize.SL.Sem Idealize.ShloMosaic.TcCoe
open Cert.Kernel5Ideal.Inp Cert.Proof.Rms

theorem preFacts : Cert.Pre_finite5.Facts := by
  constructor <;> decide

theorem kernel_frame : Cert.quiescent_Kernel5 := fun m g _ => by
  have h : IdealRuns := fun m g => Cert.Kernel5Ideal.Rows.frame (F := Bits) m g
  rw [runs_eq] at h
  exact h m g
theorem ideal_frame : Cert.quiescent_Kernel5Ideal := fun m g _ => Cert.Kernel5Ideal.Rows.frame (F := Ideal) m g
theorem reference_frame : Cert.quiescent_Reference5Ideal := fun m g _ => (θ_run _ _ _).mono
  (fun r h => And.intro (fun c => (h c).2.2.2) (sem_eq_zero_of_no_sems (by decide) r.2)) (Cert.Reference5Ideal.Value.run m g)

section Run
open Cert.Kernel5Ideal Cert.Kernel5Ideal.Gen Cert.Kernel5Ideal.Rows
variable (m : (ℓ : Loc nD τ sig) → Buf (Elt Ideal) ℓ) (c : Dev nD)
def t21 : FVec Ideal S16x1024 .f32 := Pipeline.afterTail₀ cfgs (dats m) 0 (V0 m) [hostOps1] c main_v21
def t22 : FVec Ideal S1024 .f32 := Pipeline.afterTail₀ cfgs (dats m) 0 (V0 m) [hostOps1] c main_v22
theorem w7 : Pipeline.withArrays (cfgs 0).spec c (V0 m c) (fun w => (dats m 0 c).arrAt w (cfgs 0).N) (Proc.tc.devRef main_v20_1) = hs m c :=
  (Pipeline.withArrays_arr (cfgs 0).spec (by decide) c _ _ 7).trans (arr7 m c)
theorem w8 : Pipeline.withArrays (cfgs 0).spec c (V0 m c) (fun w => (dats m 0 c).arrAt w (cfgs 0).N) (Proc.tc.devRef main_v20_2) = part m c :=
  (Pipeline.withArrays_arr (cfgs 0).spec (by decide) c _ _ 8).trans (arr8 m c)
theorem t21_at (i : Fin 16) (j : Fin 1024) : t21 m c (ix2 i j) = DX m c (up ⟨i.val, by omega⟩) j := by
  unfold t21 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w7]
  pointwise [hs]
theorem t22_at (j : Fin 1024) : t22 m c (ix1 j) = ∑ p, GN m c p j := by
  rw [← part_sum]
  unfold t22 Pipeline.afterTail₀
  simp only [hostOps1, List.flatten_cons, List.flatten_nil, List.append_nil,
    List.cons_append, List.nil_append, StableHlo.TRef.unary, StableHlo.TRef.binary, StableHlo.TRef.toBuf, StableHlo.TRef.ofBuf, cast_eq]
  after_results_simp
  rw [w8]
  pointwise

/-- The kernel program's run: each result as the call and the lines after it leave it, the arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v20_0) = xs m c
      ∧ r.2.mem ((c.tc : Thread nD τ).loc main_v21) = t21 m c
      ∧ r.2.mem ((c.tc : Thread nD τ).loc main_v22) = t22 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => fun c => ⟨((h.1 c).1 6).trans (arr6 m c),
    (h.1 c).2 main_v21 (Pipeline.mem_restRefs_of main_v21 (by decide) (by decide)),
    (h.1 c).2 main_v22 (Pipeline.mem_restRefs_of main_v22 (by decide) (by decide)), h.2 c⟩)
    (θ_run_and (run_main m g) (frame_of m g (dats m) (A_eq m) (run_main m g)))
end Run

section Values
open Cert.Reference5Ideal.Read Cert.Reference5Ideal.Stages
variable (m : (ℓ : Loc Cert.Kernel5Ideal.nD Cert.Kernel5Ideal.τ Cert.Kernel5Ideal.sig) → Buf (Elt Ideal) ℓ) (c : Dev Cert.Kernel5Ideal.nD)

/-- The operands' rows behind the padding. -/
theorem HR_up (i : Fin 16400) (j : Fin 1024) : HR m c (up i) j = val_main_v0 (F := Ideal) (a0 m c) (a1 m c) (ix2 i j) := by
  unfold HR
  obtain ⟨v, hv⟩ := i
  by_cases h : v < 16
  · rw [dif_pos (show 496 + v < 512 by omega), (entry m c).2.1]
    exact (head_in (a1 m c) ⟨v, h⟩ j).trans (v0_lo (a0 m c) (a1 m c) ⟨v, h⟩ j).symm
  · obtain ⟨u, rfl⟩ : ∃ u, v = 16 + u := ⟨v - 16, by omega⟩
    rw [dif_neg (show ¬496 + (16 + u) < 512 by omega), (entry m c).2.2.1]
    exact (congrArg (fun q => a0 m c (ix2 q j)) (Fin.ext (by show 496 + (16 + u) - 512 = u; omega))).trans (v0_hi (a0 m c) (a1 m c) ⟨u, by omega⟩ j).symm
/-- The laid-out columns' products add up to the columns' own. -/
theorem DP_up (i : Fin 16400) (j : Fin 1024) : DP m c (up i) j = val_main_v20 (F := Ideal) (a3 m c) (a4 m c) (ix2 i j) := by
  rw [v20_at, DP, (entry m c).1, (entry m c).2.2.2.2.2]
  refine (Fintype.sum_of_injective col col_inj _ _ (fun k hk => ?_) (fun k => ?_)).symm
  · exact (congrArg (· * _) ((padP_in _ i k).trans (layP_off _ i k hk))).trans (zero_mul _)
  · exact congrArg₂ (· * ·) ((padP_in _ i (col k)).trans (layP_col _ i k)).symm (layW_col _ j k).symm
theorem g_at (j : Fin 1024) : eG m c (ix2 0 j) = a2 m c (ix1 j) := by rw [(entry m c).2.2.2.2.1]; exact row_at _ j
theorem dh_up (i : Fin 16400) (j : Fin 1024) : eDh m c (ix2 (up i) j) = a5 m c (ix2 i j) := by rw [(entry m c).2.2.2.1]; exact padF_in _ i j

theorem dg_final : val_main_v26 (F := Ideal) (a0 m c) (a1 m c) (a3 m c) (a4 m c) = t22 m c := by
  funext y
  idx_vars y
  rw [v26_at, t22_at, sum_padded (fun p => GN m c p y0) fun p h => GN_low m c p h y0]
  refine Finset.sum_congr rfl fun i _ => ?_
  rw [GN, DP_up, funext fun k => HR_up m c i k]
  exact mul_comm _ _

variable [hf : Cert.Pre_finite5.Facts] (hp : Cert.Pre_Kernel5Ideal_finite5 m)
include hp
theorem r0 (i) : IsReal (a0 m c i) := Pre.real_of _ _ (hp c).1 i
theorem r1 (i) : IsReal (a1 m c i) := Pre.real_of _ _ (hp c).2.1 i
theorem r2 (i) : IsReal (a2 m c i) := Pre.real_of _ _ (hp c).2.2.1 i
theorem r3 (i) : IsReal (a3 m c i) := Pre.real_of _ _ (hp c).2.2.2.1 i
theorem r4 (i) : IsReal (a4 m c i) := Pre.real_of _ _ (hp c).2.2.2.2 i
theorem rH (i : Fin 16400) (j : Fin 1024) : IsReal (val_main_v0 (F := Ideal) (a0 m c) (a1 m c) (ix2 i j)) := by
  obtain ⟨v, hv⟩ := i
  by_cases h : v < 16
  · exact (v0_lo (a0 m c) (a1 m c) ⟨v, h⟩ j) ▸ r1 m c hp _
  · obtain ⟨u, rfl⟩ : ∃ u, v = 16 + u := ⟨v - 16, by omega⟩
    exact (v0_hi (a0 m c) (a1 m c) ⟨u, by omega⟩ j) ▸ r0 m c hp _
theorem DX_up (i : Fin 16400) (j : Fin 1024) : DX m c (up i) j =
    val_main_v39 (F := Ideal) (a0 m c) (a1 m c) (a2 m c) (a3 m c) (a4 m c) (a5 m c) (ix2 i j) := by
  rw [v39_at, DX, dh_up, show w1024 = _ from bits_1024, funext fun k => HR_up m c i k, funext fun k => DP_up m c i k, funext fun k => g_at m c k]
  refine congrArg (_ + ·) (kdx_eq_vdx (by norm_num) (fun k => rH m c hp i k) (fun k => r2 m c hp _) (fun k => ?_) j)
  rw [v20_at]
  exact IsReal.sum fun q => (r4 m c hp _).mul (r3 m c hp _)
theorem dx_final : val_main_v41 (F := Ideal) (a0 m c) (a1 m c) (a2 m c) (a3 m c) (a4 m c) (a5 m c) = xs m c := by
  funext y
  idx_vars y
  refine (v41_at _ _ _ _ _ _ y0 y1).trans ((DX_up m c hp _ y1).symm.trans ?_)
  exact congrArg (fun q => DX m c q y1) (Fin.ext (by show 496 + (16 + y0.val) = 512 + y0.val; omega))
theorem dhead_final : val_main_v40 (F := Ideal) (a0 m c) (a1 m c) (a2 m c) (a3 m c) (a4 m c) (a5 m c) = t21 m c := by
  funext y
  idx_vars y
  exact (v40_at _ _ _ _ _ _ y0 y1).trans ((DX_up m c hp _ y1).symm.trans (t21_at m c y0 y1).symm)
end Values

instance facts : Cert.Pre_finite5.Facts := preFacts

theorem algebraic : Cert.algebraic_Kernel5Ideal_Reference5Ideal_pre_finite5 := by
  pair_intro
  · run_from kernel_run m g
  · refine (θ_run _ _ _).mono (fun r h c => ?_) (Cert.Reference5Ideal.Value.run m' g')
    obtain ⟨h0, h1, h2, ht⟩ := h c
    obtain ⟨e0, e1, e2, e3, e4, e5⟩ := hagree c
    replace e0 : m' ((c.tc : Thread Cert.Reference5Ideal.nD Cert.Reference5Ideal.τ).loc Cert.Reference5Ideal.main_arg0) = a0 m c := e0
    replace e1 : m' ((c.tc : Thread Cert.Reference5Ideal.nD Cert.Reference5Ideal.τ).loc Cert.Reference5Ideal.main_arg1) = a1 m c := e1
    replace e2 : m' ((c.tc : Thread Cert.Reference5Ideal.nD Cert.Reference5Ideal.τ).loc Cert.Reference5Ideal.main_arg2) = a2 m c := e2
    replace e3 : m' ((c.tc : Thread Cert.Reference5Ideal.nD Cert.Reference5Ideal.τ).loc Cert.Reference5Ideal.main_arg3) = a3 m c := e3
    replace e4 : m' ((c.tc : Thread Cert.Reference5Ideal.nD Cert.Reference5Ideal.τ).loc Cert.Reference5Ideal.main_arg4) = a4 m c := e4
    replace e5 : m' ((c.tc : Thread Cert.Reference5Ideal.nD Cert.Reference5Ideal.τ).loc Cert.Reference5Ideal.main_arg5) = a5 m c := e5
    refine ⟨h0.trans ?_, h1.trans ?_, h2.trans ?_, ht⟩
    · rw [Cert.Reference5Ideal.Read.val_main_v41_eq, e0, e1, e2, e3, e4, e5]; exact dx_final m c hpre
    · rw [Cert.Reference5Ideal.Read.val_main_v40_eq, e0, e1, e2, e3, e4, e5]; exact dhead_final m c hpre
    · rw [Cert.Reference5Ideal.Read.val_main_v26_eq, e0, e1, e3, e4]; exact dg_final m c

end Cert.Proof.Inp

end
-- ==== Proof.CRun.lean ====
/- The body of the convolution's backward call, run over one block of rows: it reads its seven inputs and leaves them alone. -/
module

public import proofs.«01_k».proof.Proof.Gen.Kernel6Ideal.Frame
public import proofs.«01_k».proof.Proof.Gen.Kernel6Ideal.Skeleton
public import proofs.«01_k».proof.Proof.Gen.Kernel6Ideal.Loops
public import Idealize.ShloMosaic.Lib.Pipeline.ValueKit
public import Idealize.ShloMosaic.Lib.VecWindow

@[expose] public section

set_option maxRecDepth 16384

noncomputable section

namespace Cert.Kernel6Ideal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

set_option maxHeartbeats 4000000 in
theorem run_first (c : Dev nD) (i : grid0.Coords) (a0 : Memref sig .tc .vmem S512x1536 .f32) (h0 : a0.IsWhole) (a1 : Memref sig .tc .vmem S8x1536 .f32) (h1 : a1.IsWhole) (a2 : Memref sig .tc .vmem S512x1536 .f32) (h2 : a2.IsWhole) (a3 : Memref sig .tc .vmem S8x1536 .f32) (h3 : a3.IsWhole) (a4 : Memref sig .tc .vmem S8x1536 .f32) (h4 : a4.IsWhole) (a5 : Memref sig .tc .vmem S8x1536 .f32) (h5 : a5.IsWhole) (a6 : Memref sig .tc .vmem S1x1536 .f32) (h6 : a6.IsWhole) (a7 : Memref sig .tc .vmem S512x1536 .bf16) (h7 : a7.IsWhole) (a8 : Memref sig .tc .vmem S8x1536 .f32) (h8 : a8.IsWhole) (a9 : Memref sig .tc .vmem S8x1536 .f32) (h9 : a9.IsWhole) (a10 : Memref sig .tc .vmem S520x1536 .f32) (h10 : a10.IsWhole)
    (c1 : (Scalar.cmpi .ne (Scalar.extui (Scalar.cmpi .eq (BitVec.ofNat 32 (i 0).val) 0#32)) 0#32) = 1#1) (x0 : Vec F S512x1536 .f32) (x1 : Vec F S8x1536 .f32) (x2 : Vec F S512x1536 .f32) (x3 : Vec F S8x1536 .f32) (x4 : Vec F S8x1536 .f32) (x5 : Vec F S8x1536 .f32) (x6 : Vec F S1x1536 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) -∗ K ⟨⟩))
      ⊢ wp frame (wpE (defs₀ (F := F)) Variants.none c none) Set.univ (cc0_conv_bwd i a0 h0 a1 h1 a2 h2 a3 h3 a4 h4 a5 h5 a6 h6 a7 h7 a8 h8 a9 h9 a10 h10) K := by
  simp only [cc0_conv_bwd_eq_skeleton]; unfold cc0_conv_bwd_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6
  sl_exec (disch := first | sl_exact c1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

set_option maxHeartbeats 4000000 in
theorem run_later (c : Dev nD) (i : grid0.Coords) (a0 : Memref sig .tc .vmem S512x1536 .f32) (h0 : a0.IsWhole) (a1 : Memref sig .tc .vmem S8x1536 .f32) (h1 : a1.IsWhole) (a2 : Memref sig .tc .vmem S512x1536 .f32) (h2 : a2.IsWhole) (a3 : Memref sig .tc .vmem S8x1536 .f32) (h3 : a3.IsWhole) (a4 : Memref sig .tc .vmem S8x1536 .f32) (h4 : a4.IsWhole) (a5 : Memref sig .tc .vmem S8x1536 .f32) (h5 : a5.IsWhole) (a6 : Memref sig .tc .vmem S1x1536 .f32) (h6 : a6.IsWhole) (a7 : Memref sig .tc .vmem S512x1536 .bf16) (h7 : a7.IsWhole) (a8 : Memref sig .tc .vmem S8x1536 .f32) (h8 : a8.IsWhole) (a9 : Memref sig .tc .vmem S8x1536 .f32) (h9 : a9.IsWhole) (a10 : Memref sig .tc .vmem S520x1536 .f32) (h10 : a10.IsWhole)
    (c1 : ¬(Scalar.cmpi .ne (Scalar.extui (Scalar.cmpi .eq (BitVec.ofNat 32 (i 0).val) 0#32)) 0#32) = 1#1) (x0 : Vec F S512x1536 .f32) (x1 : Vec F S8x1536 .f32) (x2 : Vec F S512x1536 .f32) (x3 : Vec F S8x1536 .f32) (x4 : Vec F S8x1536 .f32) (x5 : Vec F S8x1536 .f32) (x6 : Vec F S1x1536 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) -∗ K ⟨⟩))
      ⊢ wp frame (wpE (defs₀ (F := F)) Variants.none c none) Set.univ (cc0_conv_bwd i a0 h0 a1 h1 a2 h2 a3 h3 a4 h4 a5 h5 a6 h6 a7 h7 a8 h8 a9 h9 a10 h10) K := by
  simp only [cc0_conv_bwd_eq_skeleton]; unfold cc0_conv_bwd_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6
  sl_exec (disch := first | sl_exact c1)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

end Cert.Kernel6Ideal.Conv
end
-- ==== Proof.CFrame.lean ====
/- The body of the convolution's backward call, its frame: nothing is said of what the three outputs hold. -/
module

public import proofs.«01_k».proof.Proof.CRun
public import Idealize.ShloMosaic.Lib.Pipeline.ValueKit
public import Idealize.ShloMosaic.Lib.VecWindow

@[expose] public section

set_option maxRecDepth 16384

noncomputable section

namespace Cert.Kernel6Ideal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S512x1536 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1536 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1536 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1536 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x1536 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x1536 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1536 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1536 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S8x1536 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8x1536 .f32 := win0_9.stage (cfg0.slots t 9)
abbrev hs9 (t : Fin cfg0.N) : (ms9 t).IsWhole := hstage0_9 ((cfg0.slots t 9).cast nbuf0_9)

/-- The windows of the three outputs, of whose contents the frame says nothing. -/
def fgt (w : Fin cfg0.W) : Bool := decide (7 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.choice inferInstance
    | ⟨8, _⟩ => fun _ => Classical.choice inferInstance
    | ⟨9, _⟩ => fun _ => Classical.choice inferInstance
    | ⟨_ + 10, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ X, owns (c : Thread nD τ) (ms7 t) fullShare X)
    ∗ (∃ X, owns (c : Thread nD τ) (ms8 t) fullShare X)
    ∗ (∃ X, owns (c : Thread nD τ) (ms9 t) fullShare X))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ X, owns (c : Thread nD τ) (ms7 t) fullShare X)
    ∗ (∃ X, owns (c : Thread nD τ) (ms8 t) fullShare X)
    ∗ (∃ X, owns (c : Thread nD τ) (ms9 t) fullShare X))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq,
    after0, after1, after2, after3, after4, after5, after6]
  iintro ⟨⟨⟨%d10, H10⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h : (Scalar.cmpi .ne (Scalar.extui (Scalar.cmpi .eq (BitVec.ofNat 32 (grid0.coords t 0).val) 0#32)) 0#32) = 1#1
  · iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (Memref.whole cc0_scratch0) (Memref.isWhole_whole _) h (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, ⟨%y7, H7⟩, ⟨%y8, H8⟩, ⟨%y9, H9⟩, ⟨%y10, H10⟩⟩
    isplitl [H10 Hr]
    · isplitl [H10]
      · iexists _; iexact H10
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9
  · iapply (run_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (Memref.whole cc0_scratch0) (Memref.isWhole_whole _) h (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, ⟨%y7, H7⟩, ⟨%y8, H8⟩, ⟨%y9, H9⟩, ⟨%y10, H10⟩⟩
    isplitl [H10 Hr]
    · isplitl [H10]
      · iexists _; iexact H10
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- The buffers that the host's lines after the call write. -/
def tail : Finset (Ref sig .tc) := {main_v5, main_v6, main_cst, main_v7}

theorem tail_writes : ∀ ops ∈ ([hostOps1] : List (List (HloOp τ sig (Elt F)))), ∀ op ∈ ops,
    ∀ b : Ref sig .tc, Proc.devRef .tc b ∈ op.writes → b ∈ tail := by
  intro ops hops op hop b hb
  simp only [List.mem_cons, List.mem_nil_iff, or_false] at hops
  rcases hops with rfl
  simp only [hostOps1, List.mem_cons, List.mem_nil_iff, or_false] at hop
  rcases hop with rfl | rfl | rfl | rfl
  all_goals
    simp only [StableHlo.nullary_writes, StableHlo.unary_writes, StableHlo.binary_writes, Finset.mem_singleton] at hb
    rw [Proc.devRef_injective _ hb]
    decide

set_option backward.isDefEq.respectTransparency.types false in
set_option maxHeartbeats 800000 in
/-- The frame: the arguments end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_around_T_forget_shared (Q' := _) cfgs (dats m) (0 : Fin 1) launch₀0 defs₀ Variants.none fgt tail m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)
    (hQ' := fun r h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩)

end Cert.Kernel6Ideal.Conv
end
-- ==== Proof.CSame.lean ====
module

public import proofs.«01_k».proof.Proof.Gen.Kernel6
public import proofs.«01_k».proof.Proof.Gen.Kernel6Ideal
public import proofs.«01_k».proof.Defs
public import Idealize.ShloMosaic.Lib.Tactic

/-! The convolution's backward call, printed twice: its two programs run alike on words. -/

@[expose] public section
set_option maxRecDepth 65536
noncomputable section
open Idealize.ShloMosaic Idealize.ShloMosaic.TcCoe Idealize.SL.Sem
namespace Cert.Proof.Conv

def WordRuns : Prop :=
  ∀ (m : (ℓ : Loc Cert.Kernel6.nD Cert.Kernel6.τ Cert.Kernel6.sig) → Buf (Elt Bits) ℓ) (g : Dev Cert.Kernel6.nD → PrngReg),
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0) ∧
      r.2.mem ((c.tc : Thread Cert.Kernel6.nD Cert.Kernel6.τ).loc Cert.Kernel6.main_arg1) = m ((c.tc : Thread Cert.Kernel6.nD Cert.Kernel6.τ).loc Cert.Kernel6.main_arg1) ∧
      r.2.mem ((c.tc : Thread Cert.Kernel6.nD Cert.Kernel6.τ).loc Cert.Kernel6.main_arg2) = m ((c.tc : Thread Cert.Kernel6.nD Cert.Kernel6.τ).loc Cert.Kernel6.main_arg2) ∧
      r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def IdealRuns : Prop :=
  ∀ (m : (ℓ : Loc Cert.Kernel6Ideal.nD Cert.Kernel6Ideal.τ Cert.Kernel6Ideal.sig) → Buf (Elt Bits) ℓ) (g : Dev Cert.Kernel6Ideal.nD → PrngReg),
    θ_run (Cert.Kernel6Ideal.defs (F := Bits)) (onTc (τ := Cert.Kernel6Ideal.τ) (Cert.Kernel6Ideal.main (F := Bits))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0) ∧
      r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1) ∧
      r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2) ∧
      r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

theorem runs_eq : IdealRuns = WordRuns := by sl_kernel_rfl
end Cert.Proof.Conv
end
-- ==== Proof.Conv.lean ====
module

public import proofs.«01_k».proof.Proof.CFrame
public import proofs.«01_k».proof.Proof.CSame
public import proofs.«01_k».proof.Proof.Gen.Reference6Ideal.Run
public import proofs.«01_k».proof.Defs

/-! The convolution's backward call: the frames of its program, of its ideal and of the reference. -/

@[expose] public section

set_option maxRecDepth 16384
noncomputable section

namespace Cert.Proof.Conv

open Idealize.ShloMosaic Idealize.SL.Sem Idealize.ShloMosaic.TcCoe

theorem kernel_frame : Cert.quiescent_Kernel6 := fun m g _ => by
  have h : IdealRuns := fun m g => Cert.Kernel6Ideal.Conv.frame (F := Bits) m g
  rw [runs_eq] at h
  exact h m g
theorem ideal_frame : Cert.quiescent_Kernel6Ideal := fun m g _ => Cert.Kernel6Ideal.Conv.frame (F := Ideal) m g
theorem reference_frame : Cert.quiescent_Reference6Ideal := fun m g _ => (θ_run _ _ _).mono
  (fun r h => And.intro (fun c => (h c).2.2.2) (sem_eq_zero_of_no_sems (by decide) r.2)) (Cert.Reference6Ideal.Value.run m g)

end Cert.Proof.Conv
end
-- ==== Proof.lean ====
/- The certificate: both frames as generated, and the two programs' results as one value, row by row; the attention's part is `Flash`, the latent
   projections' part is `Qkv`, the output projection's is `Out`, the input projection's `Inp`;
   the convolution's frames are `Conv`. -/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Reference2Ideal.Run
public import proofs.«01_k».proof.Proof.Gen.Reference2Ideal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference3Ideal.Run
public import proofs.«01_k».proof.Proof.Gen.Reference3Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference5Ideal.Run
public import proofs.«01_k».proof.Proof.Gen.Reference5Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference6Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.RefRead
public import proofs.«01_k».proof.Proof.KTail
public import proofs.«01_k».proof.Proof.Pre
public import proofs.«01_k».proof.Proof.Flash
public import proofs.«01_k».proof.Proof.Qkv
public import proofs.«01_k».proof.Proof.Out
public import proofs.«01_k».proof.Proof.Inp
public import proofs.«01_k».proof.Proof.Conv
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Idealize.ShloMosaic.TcCoe
open Cert.KernelIdeal.Gen Cert.KernelIdeal.Entry Cert.KernelIdeal.Arrays Cert.KernelIdeal.Tail Cert.ReferenceIdeal.Stages Cert.Proof.Mlp

instance preFacts : Cert.Pre_finite.Facts := Cert.Proof.Pre.facts

open Cert.KernelIdeal in
/-- The kernel program's run: each result as the lines after the call leave it, the arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread Cert.KernelIdeal.nD Cert.KernelIdeal.τ).loc Cert.KernelIdeal.main_v27) = t27 m c
      ∧ r.2.mem ((c.tc : Thread Cert.KernelIdeal.nD Cert.KernelIdeal.τ).loc Cert.KernelIdeal.main_v28) = t28 m c
      ∧ r.2.mem ((c.tc : Thread Cert.KernelIdeal.nD Cert.KernelIdeal.τ).loc Cert.KernelIdeal.main_v29) = t29 m c
      ∧ r.2.mem ((c.tc : Thread Cert.KernelIdeal.nD Cert.KernelIdeal.τ).loc Cert.KernelIdeal.main_v30) = t30 m c
      ∧ r.2.mem ((c.tc : Thread Cert.KernelIdeal.nD Cert.KernelIdeal.τ).loc Cert.KernelIdeal.main_v31) = t31 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) := by
  run_from Cert.KernelIdeal.Gen.run_main m g & Cert.KernelIdeal.Gen.unchanged m g
  all_goals rfl

section Rows
variable (m : (ℓ : Loc Cert.KernelIdeal.nD Cert.KernelIdeal.τ Cert.KernelIdeal.sig) → Buf (Elt Ideal) ℓ) (c : Dev Cert.KernelIdeal.nD)

/-- A row past the padding is the argument's row; a row of padding is zero. -/
theorem rH_high (i : Fin 16400) : rH m c ⟨496 + i.val, by omega⟩ = row (a0 m c) i := funext fun k => by
  show eH m c _ = _
  rw [eH_eq, padded_high]
theorem rDy_high (i : Fin 16400) : rDy m c ⟨496 + i.val, by omega⟩ = row (a5 m c) i := funext fun k => by
  show eDy m c _ = _
  rw [eDy_eq, padded_high]
theorem rowPre_low (p : Fin 16896) (hp : p.val < 496) (j : Fin 1024) : rowPre m c p j = 0 := by
  have e : rH m c p = fun _ => 0 := funext fun k => by
    show eH m c _ = _
    rw [eH_eq, padded_low _ _ hp]
  rw [rowPre, e, kgpre_zero]
theorem rowPost_low (p : Fin 16896) (hp : p.val < 496) (j : Fin 1024) : rowPost m c p j = 0 := by
  have e : rDy m c p = fun _ => 0 := funext fun k => by
    show eDy m c _ = _
    rw [eDy_eq, padded_low _ _ hp]
  rw [rowPost, e, kgpost_zero]

variable (hp : Cert.Pre_KernelIdeal_finite m)
open Cert.Proof.Pre Cert.ReferenceIdeal.Read
include hp

theorem dh_final : val_main_v105 (F := Ideal) (a0 m c) (a1 m c) (a2 m c) (a3 m c) (a4 m c) (a5 m c) = t27 m c := by
  funext y
  idx_vars y
  rw [t27_at, dh_at]
  show _ = kdh (rH m c ⟨496 + y0.val, _⟩) _ _ _ _ (rDy m c ⟨496 + y0.val, _⟩) y1
  rw [rH_high, rDy_high]
  exact congrFun (kdh_eq (fun _ => real0 m hp c _) (fun _ => real1 m hp c _) (fun _ _ => real2 m hp c _) (fun _ _ => real3 m hp c _)
    (fun _ => real4 m hp c _) (fun _ => real5 m hp c _)).symm y1
theorem du_final : val_main_v106 (F := Ideal) (a0 m c) (a1 m c) (a2 m c) (a3 m c) (a4 m c) (a5 m c) = t28 m c := by
  funext y
  idx_vars y
  rw [t28_at]
  refine (show val_main_v106 (F := Ideal) _ _ _ _ _ _ (ix2 y0 y1) = _ from du_at _ _ _ _ _ _ y0 y1).trans ?_
  show _ = kdu (rH m c ⟨496 + y0.val, _⟩) _ _ _ _ (rDy m c ⟨496 + y0.val, _⟩) y1
  rw [rH_high, rDy_high]
  exact congrFun (kdu_eq (fun _ => real0 m hp c _) (fun _ => real1 m hp c _) (fun _ _ => real2 m hp c _) (fun _ _ => real3 m hp c _)
    (fun _ => real4 m hp c _) (fun _ => real5 m hp c _)).symm y1
theorem df_final : val_main_v107 (F := Ideal) (a0 m c) (a1 m c) (a2 m c) (a3 m c) (a4 m c) (a5 m c) = t29 m c := by
  funext y
  idx_vars y
  rw [t29_at]
  refine (show val_main_v107 (F := Ideal) _ _ _ _ _ _ (ix2 y0 y1) = _ from df_at _ _ _ _ _ _ y0 y1).trans ?_
  show _ = kdf (rH m c ⟨496 + y0.val, _⟩) _ _ _ _ (rDy m c ⟨496 + y0.val, _⟩) y1
  rw [rH_high, rDy_high]
  exact congrFun (kdf_eq (fun _ => real0 m hp c _) (fun _ => real1 m hp c _) (fun _ _ => real2 m hp c _) (fun _ _ => real3 m hp c _)
    (fun _ => real4 m hp c _) (fun _ => real5 m hp c _)).symm y1
theorem dgpre_final : val_main_v92 (F := Ideal) (a0 m c) (a1 m c) (a2 m c) (a3 m c) (a4 m c) (a5 m c) = t30 m c := by
  funext y
  idx_vars y
  rw [t30_at, dgpre_at, sum_padded (fun p => rowPre m c p y0) fun p h => rowPre_low m c p h y0]
  refine Finset.sum_congr rfl fun i _ => ?_
  show _ = kgpre (rH m c ⟨496 + i.val, _⟩) _ _ _ _ (rDy m c ⟨496 + i.val, _⟩) y0
  rw [rH_high, rDy_high]
  exact congrFun (kgpre_eq (fun _ => real0 m hp c _) (fun _ => real1 m hp c _) (fun _ _ => real2 m hp c _) (fun _ _ => real3 m hp c _)
    (fun _ => real4 m hp c _) (fun _ => real5 m hp c _)).symm y0
omit hp in
theorem dgpost_final : val_main_v42 (F := Ideal) (a0 m c) (a1 m c) (a2 m c) (a3 m c) (a5 m c) = t31 m c := by
  funext y
  idx_vars y
  rw [t31_at, dgpost_at, sum_padded (fun p => rowPost m c p y0) fun p h => rowPost_low m c p h y0]
  refine Finset.sum_congr rfl fun i _ => ?_
  show _ = kgpost (rH m c ⟨496 + i.val, _⟩) _ _ _ (rDy m c ⟨496 + i.val, _⟩) y0
  rw [rH_high, rDy_high, kgpost_eq]
end Rows

theorem algebraic : Cert.algebraic_KernelIdeal_ReferenceIdeal_pre_finite := by
  pair_intro
  · run_from kernel_run m g
  · refine (θ_run _ _ _).mono (fun r h c => ?_) (Cert.ReferenceIdeal.Value.run m' g')
    obtain ⟨h0, h1, h2, h3, h4, ht⟩ := h c
    obtain ⟨e0, e1, e2, e3, e4, e5⟩ := hagree c
    refine ⟨h0.trans ?_, h1.trans ?_, h2.trans ?_, h3.trans ?_, h4.trans ?_, ht⟩
    · rw [Cert.ReferenceIdeal.Read.val_main_v105_eq, e0, e1, e2, e3, e4, e5]; exact dh_final m c hpre
    · rw [Cert.ReferenceIdeal.Read.val_main_v106_eq, e0, e1, e2, e3, e4, e5]; exact du_final m c hpre
    · rw [Cert.ReferenceIdeal.Read.val_main_v107_eq, e0, e1, e2, e3, e4, e5]; exact df_final m c hpre
    · rw [Cert.ReferenceIdeal.Read.val_main_v92_eq, e0, e1, e2, e3, e4, e5]; exact dgpre_final m c hpre
    · rw [Cert.ReferenceIdeal.Read.val_main_v42_eq, e0, e1, e2, e3, e5]; exact dgpost_final m c

/-- The reference holds no counter, so none is left over. -/
theorem reference_frame : Cert.quiescent_ReferenceIdeal := fun m g _ => (θ_run _ _ _).mono
  (fun r h => And.intro (fun c => (h c).2.2.2.2.2) (sem_eq_zero_of_no_sems (by decide) r.2)) (Cert.ReferenceIdeal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, preFacts, Flash.preFacts, Qkv.preFacts, Out.preFacts, Inp.preFacts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  Flash.kernel_frame, Flash.ideal_frame, fun m ρ _ => Flash.ideal_frame m ρ trivial,
  Flash.reference_frame, fun m ρ _ => Flash.reference_frame m ρ trivial,
  Qkv.kernel_frame, Qkv.ideal_frame, fun m ρ _ => Qkv.ideal_frame m ρ trivial,
  Qkv.reference_frame, fun m ρ _ => Qkv.reference_frame m ρ trivial,
  Out.kernel_frame, Out.ideal_frame, fun m ρ _ => Out.ideal_frame m ρ trivial,
  Out.reference_frame, fun m ρ _ => Out.reference_frame m ρ trivial,
  Inp.kernel_frame, Inp.ideal_frame, fun m ρ _ => Inp.ideal_frame m ρ trivial,
  Inp.reference_frame, fun m ρ _ => Inp.reference_frame m ρ trivial,
  Conv.kernel_frame, Conv.ideal_frame, Conv.reference_frame,
  trivial, algebraic, Flash.names, Flash.algebraic, trivial, Qkv.algebraic, trivial, Out.algebraic, trivial, Inp.algebraic, trivial⟩

end Cert.Proof

end
